-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_order [hPre_in_order : Cert.Pre_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_order [hPre_in_order : Cert.Pre_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_order [hKernelIdeal : Cert.KernelIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_order m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_order [hReferenceIdeal : Cert.ReferenceIdeal.Facts] [hPre_in_order : Cert.Pre_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_order [hKernelIdeal : Cert.KernelIdeal.Facts] [hReferenceIdeal : Cert.ReferenceIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_in_order : Cert.Pre_in_order.Facts),
    quiescent_Kernel (hKernel := hKernel) (hPre_in_range := hPre_in_range)
    ∧ quiescent_KernelIdeal (hKernelIdeal := hKernelIdeal) (hPre_in_range := hPre_in_range)
    ∧ quiescent_KernelIdeal_pre_in_order (hKernelIdeal := hKernelIdeal) (hPre_in_order := hPre_in_order)
    ∧ quiescent_ReferenceIdeal (hReferenceIdeal := hReferenceIdeal)
    ∧ quiescent_ReferenceIdeal_pre_in_order (hReferenceIdeal := hReferenceIdeal) (hPre_in_order := hPre_in_order)
    ∧ preserves_Kernel_KernelIdeal
    ∧ algebraic_KernelIdeal_ReferenceIdeal_pre_in_order (hKernelIdeal := hKernelIdeal) (hReferenceIdeal := hReferenceIdeal) (hPre_in_order := hPre_in_order)
-- ==== Pre_in_order.lean ====
abbrev S16x4096x768 : Shape := ⟨3, ![16, 4096, 768]⟩
abbrev S16x2 : Shape := ⟨2, ![16, 2]⟩
abbrev S16x4096 : Shape := ⟨2, ![16, 4096]⟩
abbrev S16x1 : Shape := ⟨2, ![16, 1]⟩
abbrev S16x4095 : Shape := ⟨2, ![16, 4095]⟩
abbrev S_ : Shape := ⟨0, ![]⟩

class Facts : Prop where
  slices_S16x2_S16x1_0_0 : S16x2.Slices ![0, 0] S16x1
  bcast_S16x1_S16x4096_0_1 : S16x1.BroadcastsInDim S16x4096 (![0, 1] : Fin 2 → Fin S16x4096.rank)
  slices_S16x4096_S16x1_0_0 : S16x4096.Slices ![0, 0] S16x1
  slices_S16x4096_S16x4095_0_0 : S16x4096.Slices ![0, 0] S16x4095
  concatenates_S16x1_S16x4095_S16x4096_d1 : Shape.Concatenates [S16x1, S16x4095] S16x4096 1
  slices_S16x4096_S16x1_0_1 : S16x4096.Slices ![0, 1] S16x1
  slices_S16x2_S16x1_0_1 : S16x2.Slices ![0, 1] S16x1
  bcast_S_S16x4096 : S_.BroadcastsInDim S16x4096 (![] : Fin 0 → Fin S16x4096.rank)

variable [Facts]

def fn_part2 {F : FTy → Type} [FloatOps F] (main_arg2 : IVec S16x4096 32) (main_v1 : IVec S16x4096 32) (main_v4 : IVec S16x4096 32) (main_v8 : IVec S16x4096 1) (main_v27 : IVec S16x4096 1) (main_v33 : IVec S16x4096 1) (main_v40 : IVec S16x4096 1) : IVec S16x4096 1 :=
  let main_v41 : IVec S16x4096 1 := ori main_v33 main_v40
  let main_v42 : IVec S16x4096 1 := andi main_v27 main_v41
  let main_v43 : IVec S16x4096 1 := cmpi .sle main_v4 main_arg2
  let main_v44 : IVec S16x4096 1 := andi main_v42 main_v43
  let main_c_6 : IVec S_ 32 := constantI S_ 32 0#32
  let main_v45 : IVec S16x4096 32 := broadcastInDim S16x4096 ![] bcast_S_S16x4096 main_c_6
  let main_v46 : IVec S16x4096 1 := cmpi .sgt main_v1 main_v45
  let main_v47 : IVec S16x4096 1 := ori main_v46 main_v8
  let main_v48 : IVec S16x4096 1 := andi main_v44 main_v47
  main_v48

def fn_part1 {F : FTy → Type} [FloatOps F] (main_arg2 : IVec S16x4096 32) (main_v1 : IVec S16x4096 32) (main_v4 : IVec S16x4096 32) (main_v8 : IVec S16x4096 1) (main_v9 : IVec S16x4096 32) (main_v11 : IVec S16x4096 32) (main_v13 : IVec S16x4096 32) (main_v16 : IVec S16x4096 32) (main_v21 : IVec S16x4096 1) : IVec S16x4096 1 :=
  let main_c_1 : IVec S_ 32 := constantI S_ 32 0#32
  let main_v22 : IVec S16x4096 32 := broadcastInDim S16x4096 ![] bcast_S_S16x4096 main_c_1
  let main_v23 : IVec S16x4096 1 := cmpi .sge main_v13 main_v22
  let main_v24 : IVec S16x4096 1 := andi main_v21 main_v23
  let main_c_2 : IVec S_ 32 := constantI S_ 32 4096#32
  let main_v25 : IVec S16x4096 32 := broadcastInDim S16x4096 ![] bcast_S_S16x4096 main_c_2
  let main_v26 : IVec S16x4096 1 := cmpi .slt main_v13 main_v25
  let main_v27 : IVec S16x4096 1 := andi main_v24 main_v26
  let main_c_3 : IVec S_ 32 := constantI S_ 32 4080#32
  let main_v28 : IVec S16x4096 32 := broadcastInDim S16x4096 ![] bcast_S_S16x4096 main_c_3
  let main_v29 : IVec S16x4096 1 := cmpi .slt main_v9 main_v28
  let main_v30 : IVec S16x4096 1 := cmpi .slt main_v9 main_v11
  let main_v31 : IVec S16x4096 1 := ori main_v29 main_v30
  let main_v32 : IVec S16x4096 1 := cmpi .sgt main_v9 main_v13
  let main_v33 : IVec S16x4096 1 := ori main_v31 main_v32
  let main_v34 : IVec S16x4096 1 := cmpi .sgt main_v9 main_v11
  let main_c_4 : IVec S_ 32 := constantI S_ 32 2#32
  let main_v35 : IVec S16x4096 32 := broadcastInDim S16x4096 ![] bcast_S_S16x4096 main_c_4
  let main_v36 : IVec S16x4096 32 := Host.shrsi main_arg2 main_v35
  let main_c_5 : IVec S_ 32 := constantI S_ 32 2#32
  let main_v37 : IVec S16x4096 32 := broadcastInDim S16x4096 ![] bcast_S_S16x4096 main_c_5
  let main_v38 : IVec S16x4096 32 := Host.shrsi main_v16 main_v37
  let main_v39 : IVec S16x4096 1 := cmpi .eq main_v36 main_v38
  let main_v40 : IVec S16x4096 1 := andi main_v34 main_v39
  fn_part2 (F := F) main_arg2 main_v1 main_v4 main_v8 main_v27 main_v33 main_v40

def fn {F : FTy → Type} [FloatOps F] (main_arg0 : FVec F S16x4096x768 .f32) (main_arg1 : IVec S16x2 32) (main_arg2 : IVec S16x4096 32) : IVec S16x4096 1 :=
  let main_v0 : IVec S16x1 32 := (extractStridedSlice S16x1 ![0, 0] · slices_S16x2_S16x1_0_0) main_arg1
  let main_v1 : IVec S16x4096 32 := broadcastInDim S16x4096 ![0, 1] bcast_S16x1_S16x4096_0_1 main_v0
  let main_v2 : IVec S16x1 32 := (extractStridedSlice S16x1 ![0, 0] · slices_S16x4096_S16x1_0_0) main_arg2
  let main_v3 : IVec S16x4095 32 := (extractStridedSlice S16x4095 ![0, 0] · slices_S16x4096_S16x4095_0_0) main_arg2
  let main_v4 : IVec S16x4096 32 := (fun a b => concatenate S16x4096 1 [⟨S16x1, a⟩, ⟨S16x4095, b⟩] concatenates_S16x1_S16x4095_S16x4096_d1) main_v2 main_v3
  let main_v5 : IVec S16x1 32 := (extractStridedSlice S16x1 ![0, 0] · slices_S16x4096_S16x1_0_0) main_arg2
  let main_v6 : IVec S16x1 32 := (extractStridedSlice S16x1 ![0, 1] · slices_S16x4096_S16x1_0_1) main_arg2
  let main_v7 : IVec S16x1 1 := cmpi .eq main_v5 main_v6
  let main_v8 : IVec S16x4096 1 := broadcastInDim S16x4096 ![0, 1] bcast_S16x1_S16x4096_0_1 main_v7
  let main_v9 : IVec S16x4096 32 := iotaInDim S16x4096 32 1
  let main_v10 : IVec S16x1 32 := (extractStridedSlice S16x1 ![0, 0] · slices_S16x2_S16x1_0_0) main_arg1
  let main_v11 : IVec S16x4096 32 := broadcastInDim S16x4096 ![0, 1] bcast_S16x1_S16x4096_0_1 main_v10
  let main_v12 : IVec S16x1 32 := (extractStridedSlice S16x1 ![0, 1] · slices_S16x2_S16x1_0_1) main_arg1
  let main_v13 : IVec S16x4096 32 := broadcastInDim S16x4096 ![0, 1] bcast_S16x1_S16x4096_0_1 main_v12
  let main_v14 : IVec S16x1 32 := (extractStridedSlice S16x1 ![0, 0] · slices_S16x4096_S16x1_0_0) main_arg2
  let main_v15 : IVec S16x4095 32 := (extractStridedSlice S16x4095 ![0, 0] · slices_S16x4096_S16x4095_0_0) main_arg2
  let main_v16 : IVec S16x4096 32 := (fun a b => concatenate S16x4096 1 [⟨S16x1, a⟩, ⟨S16x4095, b⟩] concatenates_S16x1_S16x4095_S16x4096_d1) main_v14 main_v15
  let main_c : IVec S_ 32 := constantI S_ 32 0#32
  let main_v17 : IVec S16x4096 32 := broadcastInDim S16x4096 ![] bcast_S_S16x4096 main_c
  let main_v18 : IVec S16x4096 1 := cmpi .sge main_v11 main_v17
  let main_c_0 : IVec S_ 32 := constantI S_ 32 4096#32
  let main_v19 : IVec S16x4096 32 := broadcastInDim S16x4096 ![] bcast_S_S16x4096 main_c_0
  let main_v20 : IVec S16x4096 1 := cmpi .slt main_v11 main_v19
  let main_v21 : IVec S16x4096 1 := andi main_v18 main_v20
  fn_part1 (F := F) main_arg2 main_v1 main_v4 main_v8 main_v9 main_v11 main_v13 main_v16 main_v21
-- ==== Pre_in_range.lean ====
abbrev S16x4096x768 : Shape := ⟨3, ![16, 4096, 768]⟩
abbrev S16x2 : Shape := ⟨2, ![16, 2]⟩
abbrev S16x4096 : Shape := ⟨2, ![16, 4096]⟩
abbrev S16x1 : Shape := ⟨2, ![16, 1]⟩
abbrev S16x4095 : Shape := ⟨2, ![16, 4095]⟩
abbrev S_ : Shape := ⟨0, ![]⟩

class Facts : Prop where
  slices_S16x2_S16x1_0_0 : S16x2.Slices ![0, 0] S16x1
  bcast_S16x1_S16x4096_0_1 : S16x1.BroadcastsInDim S16x4096 (![0, 1] : Fin 2 → Fin S16x4096.rank)
  slices_S16x2_S16x1_0_1 : S16x2.Slices ![0, 1] S16x1
  slices_S16x4096_S16x1_0_0 : S16x4096.Slices ![0, 0] S16x1
  slices_S16x4096_S16x4095_0_0 : S16x4096.Slices ![0, 0] S16x4095
  concatenates_S16x1_S16x4095_S16x4096_d1 : Shape.Concatenates [S16x1, S16x4095] S16x4096 1
  bcast_S_S16x4096 : S_.BroadcastsInDim S16x4096 (![] : Fin 0 → Fin S16x4096.rank)

variable [Facts]

def fn_part1 {F : FTy → Type} [FloatOps F] (main_arg2 : IVec S16x4096 32) (main_v0 : IVec S16x4096 32) (main_v2 : IVec S16x4096 32) (main_v4 : IVec S16x4096 32) (main_v7 : IVec S16x4096 32) (main_v18 : IVec S16x4096 1) (main_c_3 : IVec S_ 32) : IVec S16x4096 1 :=
  let main_v19 : IVec S16x4096 32 := broadcastInDim S16x4096 ![] bcast_S_S16x4096 main_c_3
  let main_v20 : IVec S16x4096 1 := cmpi .slt main_v0 main_v19
  let main_v21 : IVec S16x4096 1 := cmpi .slt main_v0 main_v2
  let main_v22 : IVec S16x4096 1 := ori main_v20 main_v21
  let main_v23 : IVec S16x4096 1 := cmpi .sgt main_v0 main_v4
  let main_v24 : IVec S16x4096 1 := ori main_v22 main_v23
  let main_v25 : IVec S16x4096 1 := cmpi .sgt main_v0 main_v2
  let main_c_4 : IVec S_ 32 := constantI S_ 32 2#32
  let main_v26 : IVec S16x4096 32 := broadcastInDim S16x4096 ![] bcast_S_S16x4096 main_c_4
  let main_v27 : IVec S16x4096 32 := Host.shrsi main_arg2 main_v26
  let main_c_5 : IVec S_ 32 := constantI S_ 32 2#32
  let main_v28 : IVec S16x4096 32 := broadcastInDim S16x4096 ![] bcast_S_S16x4096 main_c_5
  let main_v29 : IVec S16x4096 32 := Host.shrsi main_v7 main_v28
  let main_v30 : IVec S16x4096 1 := cmpi .eq main_v27 main_v29
  let main_v31 : IVec S16x4096 1 := andi main_v25 main_v30
  let main_v32 : IVec S16x4096 1 := ori main_v24 main_v31
  let main_v33 : IVec S16x4096 1 := andi main_v18 main_v32
  main_v33

def fn {F : FTy → Type} [FloatOps F] (main_arg0 : FVec F S16x4096x768 .f32) (main_arg1 : IVec S16x2 32) (main_arg2 : IVec S16x4096 32) : IVec S16x4096 1 :=
  let main_v0 : IVec S16x4096 32 := iotaInDim S16x4096 32 1
  let main_v1 : IVec S16x1 32 := (extractStridedSlice S16x1 ![0, 0] · slices_S16x2_S16x1_0_0) main_arg1
  let main_v2 : IVec S16x4096 32 := broadcastInDim S16x4096 ![0, 1] bcast_S16x1_S16x4096_0_1 main_v1
  let main_v3 : IVec S16x1 32 := (extractStridedSlice S16x1 ![0, 1] · slices_S16x2_S16x1_0_1) main_arg1
  let main_v4 : IVec S16x4096 32 := broadcastInDim S16x4096 ![0, 1] bcast_S16x1_S16x4096_0_1 main_v3
  let main_v5 : IVec S16x1 32 := (extractStridedSlice S16x1 ![0, 0] · slices_S16x4096_S16x1_0_0) main_arg2
  let main_v6 : IVec S16x4095 32 := (extractStridedSlice S16x4095 ![0, 0] · slices_S16x4096_S16x4095_0_0) main_arg2
  let main_v7 : IVec S16x4096 32 := (fun a b => concatenate S16x4096 1 [⟨S16x1, a⟩, ⟨S16x4095, b⟩] concatenates_S16x1_S16x4095_S16x4096_d1) main_v5 main_v6
  let main_c : IVec S_ 32 := constantI S_ 32 0#32
  let main_v8 : IVec S16x4096 32 := broadcastInDim S16x4096 ![] bcast_S_S16x4096 main_c
  let main_v9 : IVec S16x4096 1 := cmpi .sge main_v2 main_v8
  let main_c_0 : IVec S_ 32 := constantI S_ 32 4096#32
  let main_v10 : IVec S16x4096 32 := broadcastInDim S16x4096 ![] bcast_S_S16x4096 main_c_0
  let main_v11 : IVec S16x4096 1 := cmpi .slt main_v2 main_v10
  let main_v12 : IVec S16x4096 1 := andi main_v9 main_v11
  let main_c_1 : IVec S_ 32 := constantI S_ 32 0#32
  let main_v13 : IVec S16x4096 32 := broadcastInDim S16x4096 ![] bcast_S_S16x4096 main_c_1
  let main_v14 : IVec S16x4096 1 := cmpi .sge main_v4 main_v13
  let main_v15 : IVec S16x4096 1 := andi main_v12 main_v14
  let main_c_2 : IVec S_ 32 := constantI S_ 32 4096#32
  let main_v16 : IVec S16x4096 32 := broadcastInDim S16x4096 ![] bcast_S_S16x4096 main_c_2
  let main_v17 : IVec S16x4096 1 := cmpi .slt main_v4 main_v16
  let main_v18 : IVec S16x4096 1 := andi main_v15 main_v17
  let main_c_3 : IVec S_ 32 := constantI S_ 32 4080#32
  fn_part1 (F := F) main_arg2 main_v0 main_v2 main_v4 main_v7 main_v18 main_c_3
-- ==== Kernel.lean ====
abbrev S16x4096x768 : Shape := ⟨3, ![16, 4096, 768]⟩
abbrev S16x2 : Shape := ⟨2, ![16, 2]⟩
abbrev S16x4096 : Shape := ⟨2, ![16, 4096]⟩
abbrev S2x16 : Shape := ⟨2, ![2, 16]⟩
abbrev S32 : Shape := ⟨1, ![32]⟩
abbrev S_ : Shape := ⟨0, ![]⟩
abbrev S16 : Shape := ⟨1, ![16]⟩
abbrev S48 : Shape := ⟨1, ![48]⟩
abbrev S65536 : Shape := ⟨1, ![65536]⟩
abbrev S1572864 : Shape := ⟨1, ![1572864]⟩
abbrev S32x768 : Shape := ⟨2, ![32, 768]⟩
abbrev S3072 : Shape := ⟨1, ![3072]⟩
abbrev S4112 : Shape := ⟨1, ![4112]⟩
abbrev S4096 : Shape := ⟨1, ![4096]⟩
abbrev S1 : Shape := ⟨1, ![1]⟩
abbrev S1x32x768 : Shape := ⟨3, ![1, 32, 768]⟩
abbrev S1x16 : Shape := ⟨2, ![1, 16]⟩
abbrev S16x128x768 : Shape := ⟨3, ![16, 128, 768]⟩

abbrev nBuf : Table → Nat
  | .hbm => 11
  | .local .scVector .vmem => 8
  | _ => 0

abbrev bufTy : (tb : Table) → Fin (nBuf tb) → BufTy
  | .hbm, ⟨0, _⟩ => ⟨S16x4096x768, .f32⟩
  | .hbm, ⟨1, _⟩ => ⟨S16x2, .i32⟩
  | .hbm, ⟨2, _⟩ => ⟨S16x4096, .i32⟩
  | .hbm, ⟨3, _⟩ => ⟨S2x16, .i32⟩
  | .hbm, ⟨4, _⟩ => ⟨S32, .i32⟩
  | .hbm, ⟨5, _⟩ => ⟨S_, .i32⟩
  | .hbm, ⟨6, _⟩ => ⟨S16, .i32⟩
  | .hbm, ⟨7, _⟩ => ⟨S48, .i32⟩
  | .hbm, ⟨8, _⟩ => ⟨S65536, .i32⟩
  | .hbm, ⟨9, _⟩ => ⟨S1572864, .f32⟩
  | .hbm, ⟨10, _⟩ => ⟨S16x128x768, .f32⟩
  | .local .scVector .vmem, ⟨0, _⟩ => ⟨S32x768, .f32⟩
  | .local .scVector .vmem, ⟨1, _⟩ => ⟨S32x768, .f32⟩
  | .local .scVector .vmem, ⟨2, _⟩ => ⟨S3072, .f32⟩
  | .local .scVector .vmem, ⟨3, _⟩ => ⟨S3072, .f32⟩
  | .local .scVector .vmem, ⟨4, _⟩ => ⟨S4112, .i32⟩
  | .local .scVector .vmem, ⟨5, _⟩ => ⟨S4112, .i32⟩
  | .local .scVector .vmem, ⟨6, _⟩ => ⟨S32, .i32⟩
  | .local .scVector .vmem, ⟨7, _⟩ => ⟨S48, .i32⟩
  | _, _ => ⟨S16x4096x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0_scv : Ref sig .scVector := ⟨.hbm, 0, rfl⟩
abbrev main_v3_scv : Ref sig .scVector := ⟨.hbm, 7, rfl⟩
abbrev main_v4_scv : Ref sig .scVector := ⟨.hbm, 8, rfl⟩
abbrev main_v5_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_4 : BitVec 32 := 0#32
  let c8_i32 : BitVec 32 := 8#32
  let v7 : BitVec 32 := Scalar.addi c0_i32_4 c8_i32
  let c1_i32 : BitVec 32 := 1#32
  ⟨c0_i32_4, v7, c1_i32⟩
def k0_off1 (k0_t1 : Fin k0_t1_loop.trips) : Fin 1 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v14 : Index := Scalar.indexCast v13
  ![v14.toNat]
def k0_off2 (k0_t1 : Fin k0_t1_loop.trips) : Fin 1 → Nat :=
  let c16_i32 : BitVec 32 := 16#32
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v19 : BitVec 32 := Scalar.addi c16_i32 v13
  let v20 : Index := Scalar.indexCast v19
  ![v20.toNat]
def k0_cond1 (k0_t1 : Fin k0_t1_loop.trips) : BitVec 1 :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let c1_i32_16 : BitVec 32 := 1#32
  let v29 : BitVec 32 := Scalar.addi v13 c1_i32_16
  let c16_i32_17 : BitVec 32 := 16#32
  let v30 : BitVec 1 := Scalar.cmpi .slt v29 c16_i32_17
  let v31 : BitVec 32 := Scalar.extui v30
  let c0_i32_18 : BitVec 32 := 0#32
  let v32 : BitVec 1 := Scalar.cmpi .ne v31 c0_i32_18
  v32

def k0_mult1 (k0_t1 : Fin k0_t1_loop.trips) : BitVec 32 :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let c1_i32_116 : BitVec 32 := 1#32
  let v186 : BitVec 32 := Scalar.addi v13 c1_i32_116
  let c4096_i32_117 : BitVec 32 := 4096#32
  let v187 : BitVec 32 := Scalar.muli v186 c4096_i32_117
  v187
def k0_off3 (k0_t1 : Fin k0_t1_loop.trips) : Fin 1 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let c1_i32_116 : BitVec 32 := 1#32
  let v186 : BitVec 32 := Scalar.addi v13 c1_i32_116
  let c4096_i32_117 : BitVec 32 := 4096#32
  let v187 : BitVec 32 := Scalar.muli v186 c4096_i32_117
  let v188 : BitVec 32 := v187
  ![v188.toNat]
@[reducible] def k0_t2_loop : Scf.Loop 32 :=
  let c0_i32_28 : BitVec 32 := 0#32
  let c12_i32 : BitVec 32 := 12#32
  let v34 : BitVec 32 := Scalar.addi c0_i32_28 c12_i32
  let c1_i32_29 : BitVec 32 := 1#32
  ⟨c0_i32_28, v34, c1_i32_29⟩
def k0_off4 (arg22 : BitVec 32) (arg27 : BitVec 32) : Fin 1 → Nat :=
  let v186 : BitVec 32 := Scalar.addi arg22 arg27
  let c1_i32_116 : BitVec 32 := 1#32
  let v187 : BitVec 32 := Scalar.shrsi v186 c1_i32_116
  let v188 : Index := Scalar.indexCast v187
  ![v188.toNat]

def k0_chk1 (arg22 : BitVec 32) (arg27 : BitVec 32) : Prop :=
  (∀ a, (k0_off4 arg22 arg27) a + S16.size a ≤ S4112.size a)
theorem k0_off4_inb : ∀ (arg22 : BitVec 32) (arg27 : BitVec 32) (k0_hw1 : k0_chk1 arg22 arg27), ∀ a, (k0_off4 arg22 arg27) a + S16.size a ≤ S4112.size a := fun arg22 arg27 k0_hw1 => k0_hw1

def k0_off5 (arg23 : BitVec 32) (arg28 : BitVec 32) : Fin 1 → Nat :=
  let v198 : BitVec 32 := Scalar.addi arg23 arg28
  let c1_i32_119 : BitVec 32 := 1#32
  let v199 : BitVec 32 := Scalar.shrsi v198 c1_i32_119
  let v200 : Index := Scalar.indexCast v199
  ![v200.toNat]

def k0_chk2 (arg23 : BitVec 32) (arg28 : BitVec 32) : Prop :=
  (∀ a, (k0_off5 arg23 arg28) a + S16.size a ≤ S4112.size a)
theorem k0_off5_inb : ∀ (arg23 : BitVec 32) (arg28 : BitVec 32) (k0_hw2 : k0_chk2 arg23 arg28), ∀ a, (k0_off5 arg23 arg28) a + S16.size a ≤ S4112.size a := fun arg23 arg28 k0_hw2 => k0_hw2

def k0_off6 (arg24 : BitVec 32) (arg29 : BitVec 32) : Fin 1 → Nat :=
  let v210 : BitVec 32 := Scalar.addi arg24 arg29
  let c1_i32_122 : BitVec 32 := 1#32
  let v211 : BitVec 32 := Scalar.shrsi v210 c1_i32_122
  let v212 : Index := Scalar.indexCast v211
  ![v212.toNat]

def k0_chk3 (arg24 : BitVec 32) (arg29 : BitVec 32) : Prop :=
  (∀ a, (k0_off6 arg24 arg29) a + S16.size a ≤ S4112.size a)
theorem k0_off6_inb : ∀ (arg24 : BitVec 32) (arg29 : BitVec 32) (k0_hw3 : k0_chk3 arg24 arg29), ∀ a, (k0_off6 arg24 arg29) a + S16.size a ≤ S4112.size a := fun arg24 arg29 k0_hw3 => k0_hw3

def k0_off7 (arg25 : BitVec 32) (arg30 : BitVec 32) : Fin 1 → Nat :=
  let v222 : BitVec 32 := Scalar.addi arg25 arg30
  let c1_i32_125 : BitVec 32 := 1#32
  let v223 : BitVec 32 := Scalar.shrsi v222 c1_i32_125
  let v224 : Index := Scalar.indexCast v223
  ![v224.toNat]

def k0_chk4 (arg25 : BitVec 32) (arg30 : BitVec 32) : Prop :=
  (∀ a, (k0_off7 arg25 arg30) a + S16.size a ≤ S4112.size a)
theorem k0_off7_inb : ∀ (arg25 : BitVec 32) (arg30 : BitVec 32) (k0_hw4 : k0_chk4 arg25 arg30), ∀ a, (k0_off7 arg25 arg30) a + S16.size a ≤ S4112.size a := fun arg25 arg30 k0_hw4 => k0_hw4

def k0_off8 (arg26 : BitVec 32) (arg31 : BitVec 32) : Fin 1 → Nat :=
  let v234 : BitVec 32 := Scalar.addi arg26 arg31
  let c1_i32_128 : BitVec 32 := 1#32
  let v235 : BitVec 32 := Scalar.shrsi v234 c1_i32_128
  let v236 : Index := Scalar.indexCast v235
  ![v236.toNat]

def k0_chk5 (arg26 : BitVec 32) (arg31 : BitVec 32) : Prop :=
  (∀ a, (k0_off8 arg26 arg31) a + S16.size a ≤ S4112.size a)
theorem k0_off8_inb : ∀ (arg26 : BitVec 32) (arg31 : BitVec 32) (k0_hw5 : k0_chk5 arg26 arg31), ∀ a, (k0_off8 arg26 arg31) a + S16.size a ≤ S4112.size a := fun arg26 arg31 k0_hw5 => k0_hw5

def k0_mult2 (v18 : BitVec 32) (v24 : BitVec 32) (v35_0 : BitVec 32) : BitVec 32 :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  v74
def k0_cond3 (v18 : BitVec 32) (v24 : BitVec 32) (v35_4 : BitVec 32) (v35_0 : BitVec 32) : BitVec 1 :=
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c0_i32_42 : BitVec 32 := 0#32
  let v80 : BitVec 1 := Scalar.cmpi .sgt v79 c0_i32_42
  let v81 : BitVec 32 := Scalar.extui v80
  let c0_i32_43 : BitVec 32 := 0#32
  let v82 : BitVec 1 := Scalar.cmpi .ne v81 c0_i32_43
  v82

def k0_off9 (k0_t1 : Fin k0_t1_loop.trips) (v18 : BitVec 32) (v24 : BitVec 32) (v35_0 : BitVec 32) : Fin 3 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let v186 : BitVec 32 := v74
  let c0_i32_116 : BitVec 32 := 0#32
  ![v13.toNat, v186.toNat, 0]
@[reducible] def k0_t3_loop (v18 : BitVec 32) (v24 : BitVec 32) (v35_4 : BitVec 32) (v35_0 : BitVec 32) : Scf.Loop 32 :=
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_49 : BitVec 32 := 1#32
  ⟨c0_i32_47, v89, c1_i32_49⟩
def k0_mult3 (v18 : BitVec 32) (v24 : BitVec 32) (v35_4 : BitVec 32) (v35_0 : BitVec 32) (k0_t3 : Fin (k0_t3_loop v18 v24 v35_4 v35_0).trips) : BitVec 32 :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let c4064_i32 : BitVec 32 := 4064#32
  let v198 : BitVec 32 := Scalar.minsi v197 c4064_i32
  v198
def k0_cond4 (v18 : BitVec 32) (v24 : BitVec 32) (v35_4 : BitVec 32) (v35_0 : BitVec 32) (k0_t3 : Fin (k0_t3_loop v18 v24 v35_4 v35_0).trips) : BitVec 1 :=
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let v188 : BitVec 1 := Scalar.cmpi .slt v187 v79
  let v189 : BitVec 32 := Scalar.extui v188
  let c0_i32_118 : BitVec 32 := 0#32
  let v190 : BitVec 1 := Scalar.cmpi .ne v189 c0_i32_118
  v190

def k0_off10 (k0_t1 : Fin k0_t1_loop.trips) (v18 : BitVec 32) (v24 : BitVec 32) (v35_4 : BitVec 32) (v35_0 : BitVec 32) (k0_t3 : Fin (k0_t3_loop v18 v24 v35_4 v35_0).trips) : Fin 3 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let c4064_i32 : BitVec 32 := 4064#32
  let v198 : BitVec 32 := Scalar.minsi v197 c4064_i32
  let v199 : BitVec 32 := v198
  let c0_i32_122 : BitVec 32 := 0#32
  ![v13.toNat, v199.toNat, 0]
def k0_mult4 (v18 : BitVec 32) (v24 : BitVec 32) (v35_4 : BitVec 32) (v35_0 : BitVec 32) (k0_t3 : Fin (k0_t3_loop v18 v24 v35_4 v35_0).trips) : BitVec 32 :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c1_i32_132 : BitVec 32 := 1#32
  let v212 : BitVec 32 := Scalar.addi v187 c1_i32_132
  let c32_i32_133 : BitVec 32 := 32#32
  let v213 : BitVec 32 := Scalar.muli v212 c32_i32_133
  let v214 : BitVec 32 := Scalar.addi v74 v213
  let c4064_i32_134 : BitVec 32 := 4064#32
  let v215 : BitVec 32 := Scalar.minsi v214 c4064_i32_134
  v215
def k0_cond5 (v18 : BitVec 32) (v24 : BitVec 32) (v35_4 : BitVec 32) (v35_0 : BitVec 32) (k0_t3 : Fin (k0_t3_loop v18 v24 v35_4 v35_0).trips) : BitVec 1 :=
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c1_i32_124 : BitVec 32 := 1#32
  let v204 : BitVec 32 := Scalar.addi v187 c1_i32_124
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let v205 : BitVec 1 := Scalar.cmpi .slt v204 v79
  let v206 : BitVec 32 := Scalar.extui v205
  let c0_i32_125 : BitVec 32 := 0#32
  let v207 : BitVec 1 := Scalar.cmpi .ne v206 c0_i32_125
  v207

def k0_off11 (k0_t1 : Fin k0_t1_loop.trips) (v18 : BitVec 32) (v24 : BitVec 32) (v35_4 : BitVec 32) (v35_0 : BitVec 32) (k0_t3 : Fin (k0_t3_loop v18 v24 v35_4 v35_0).trips) : Fin 3 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c1_i32_132 : BitVec 32 := 1#32
  let v212 : BitVec 32 := Scalar.addi v187 c1_i32_132
  let c32_i32_133 : BitVec 32 := 32#32
  let v213 : BitVec 32 := Scalar.muli v212 c32_i32_133
  let v214 : BitVec 32 := Scalar.addi v74 v213
  let c4064_i32_134 : BitVec 32 := 4064#32
  let v215 : BitVec 32 := Scalar.minsi v214 c4064_i32_134
  let v216 : BitVec 32 := v215
  let c0_i32_135 : BitVec 32 := 0#32
  ![v13.toNat, v216.toNat, 0]
@[reducible] def k0_t4_loop : Scf.Loop 32 :=
  let c0_i32_128 : BitVec 32 := 0#32
  let c4_i32_129 : BitVec 32 := 4#32
  let v211 : BitVec 32 := Scalar.addi c0_i32_128 c4_i32_129
  let c1_i32_130 : BitVec 32 := 1#32
  ⟨c0_i32_128, v211, c1_i32_130⟩
def k0_off12 (k0_t4 : Fin k0_t4_loop.trips) : Fin 1 → Nat :=
  let c0_i32_128 : BitVec 32 := 0#32
  let c1_i32_130 : BitVec 32 := 1#32
  let arg22 : BitVec 32 := Scf.iv c0_i32_128 c1_i32_130 k0_t4
  let v212 : Index := Scalar.indexCast arg22
  ![v212.toNat]
def k0_off13 (k0_t4 : Fin k0_t4_loop.trips) : Fin 1 → Nat :=
  let c0_i32_128 : BitVec 32 := 0#32
  let c1_i32_130 : BitVec 32 := 1#32
  let arg22 : BitVec 32 := Scf.iv c0_i32_128 c1_i32_130 k0_t4
  let c1_i32_132 : BitVec 32 := 1#32
  let v217 : BitVec 32 := Scalar.addi arg22 c1_i32_132
  let v218 : Index := Scalar.indexCast v217
  ![v218.toNat]
@[reducible] def k0_t5_loop (v18 : BitVec 32) (v24 : BitVec 32) (v35_4 : BitVec 32) (v35_0 : BitVec 32) (k0_t3 : Fin (k0_t3_loop v18 v24 v35_4 v35_0).trips) (v216 : BitVec 32) (v222 : BitVec 32) : Scf.Loop 32 :=
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_184 : BitVec 32 := 1#32
  ⟨c0_i32_182, v283, c1_i32_184⟩
def k0_cond6 (v18 : BitVec 32) (v24 : BitVec 32) (v35_4 : BitVec 32) (v35_0 : BitVec 32) (k0_t3 : Fin (k0_t3_loop v18 v24 v35_4 v35_0).trips) (v216 : BitVec 32) (v222 : BitVec 32) : BitVec 1 :=
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v227 : BitVec 1 := Scalar.cmpi .sgt v226 v224
  let v228 : BitVec 32 := Scalar.extui v227
  let c0_i32_133 : BitVec 32 := 0#32
  let v229 : BitVec 1 := Scalar.cmpi .ne v228 c0_i32_133
  v229

def k0_off14 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v293 : BitVec 32 := Scalar.addi v224 arg23
  let v294 : Index := Scalar.indexCast v293
  let c0_189 : Index := 0#32
  ![v294.toNat, 0]
def k0_off15 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v298 : BitVec 32 := Scalar.addi v224 arg23
  let v299 : Index := Scalar.indexCast v298
  let c16 : Index := 16#32
  ![v299.toNat, 16]
def k0_off16 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v303 : BitVec 32 := Scalar.addi v224 arg23
  let v304 : Index := Scalar.indexCast v303
  let c32 : Index := 32#32
  ![v304.toNat, 32]
def k0_off17 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v308 : BitVec 32 := Scalar.addi v224 arg23
  let v309 : Index := Scalar.indexCast v308
  let c48 : Index := 48#32
  ![v309.toNat, 48]
def k0_off18 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v313 : BitVec 32 := Scalar.addi v224 arg23
  let v314 : Index := Scalar.indexCast v313
  let c64 : Index := 64#32
  ![v314.toNat, 64]
def k0_off19 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v318 : BitVec 32 := Scalar.addi v224 arg23
  let v319 : Index := Scalar.indexCast v318
  let c80 : Index := 80#32
  ![v319.toNat, 80]
def k0_off20 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v323 : BitVec 32 := Scalar.addi v224 arg23
  let v324 : Index := Scalar.indexCast v323
  let c96 : Index := 96#32
  ![v324.toNat, 96]
def k0_off21 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v328 : BitVec 32 := Scalar.addi v224 arg23
  let v329 : Index := Scalar.indexCast v328
  let c112 : Index := 112#32
  ![v329.toNat, 112]
def k0_off22 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v333 : BitVec 32 := Scalar.addi v224 arg23
  let v334 : Index := Scalar.indexCast v333
  let c128 : Index := 128#32
  ![v334.toNat, 128]
def k0_off23 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v338 : BitVec 32 := Scalar.addi v224 arg23
  let v339 : Index := Scalar.indexCast v338
  let c144 : Index := 144#32
  ![v339.toNat, 144]
def k0_off24 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v343 : BitVec 32 := Scalar.addi v224 arg23
  let v344 : Index := Scalar.indexCast v343
  let c160 : Index := 160#32
  ![v344.toNat, 160]
def k0_off25 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v348 : BitVec 32 := Scalar.addi v224 arg23
  let v349 : Index := Scalar.indexCast v348
  let c176 : Index := 176#32
  ![v349.toNat, 176]
def k0_off26 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v353 : BitVec 32 := Scalar.addi v224 arg23
  let v354 : Index := Scalar.indexCast v353
  let c192 : Index := 192#32
  ![v354.toNat, 192]
def k0_off27 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v358 : BitVec 32 := Scalar.addi v224 arg23
  let v359 : Index := Scalar.indexCast v358
  let c208 : Index := 208#32
  ![v359.toNat, 208]
def k0_off28 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v363 : BitVec 32 := Scalar.addi v224 arg23
  let v364 : Index := Scalar.indexCast v363
  let c224 : Index := 224#32
  ![v364.toNat, 224]
def k0_off29 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v368 : BitVec 32 := Scalar.addi v224 arg23
  let v369 : Index := Scalar.indexCast v368
  let c240 : Index := 240#32
  ![v369.toNat, 240]
def k0_off30 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v373 : BitVec 32 := Scalar.addi v224 arg23
  let v374 : Index := Scalar.indexCast v373
  let c256 : Index := 256#32
  ![v374.toNat, 256]
def k0_off31 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v378 : BitVec 32 := Scalar.addi v224 arg23
  let v379 : Index := Scalar.indexCast v378
  let c272 : Index := 272#32
  ![v379.toNat, 272]
def k0_off32 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v383 : BitVec 32 := Scalar.addi v224 arg23
  let v384 : Index := Scalar.indexCast v383
  let c288 : Index := 288#32
  ![v384.toNat, 288]
def k0_off33 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v388 : BitVec 32 := Scalar.addi v224 arg23
  let v389 : Index := Scalar.indexCast v388
  let c304 : Index := 304#32
  ![v389.toNat, 304]
def k0_off34 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v393 : BitVec 32 := Scalar.addi v224 arg23
  let v394 : Index := Scalar.indexCast v393
  let c320 : Index := 320#32
  ![v394.toNat, 320]
def k0_off35 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v398 : BitVec 32 := Scalar.addi v224 arg23
  let v399 : Index := Scalar.indexCast v398
  let c336 : Index := 336#32
  ![v399.toNat, 336]
def k0_off36 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v403 : BitVec 32 := Scalar.addi v224 arg23
  let v404 : Index := Scalar.indexCast v403
  let c352 : Index := 352#32
  ![v404.toNat, 352]
def k0_off37 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v408 : BitVec 32 := Scalar.addi v224 arg23
  let v409 : Index := Scalar.indexCast v408
  let c368 : Index := 368#32
  ![v409.toNat, 368]
def k0_off38 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v413 : BitVec 32 := Scalar.addi v224 arg23
  let v414 : Index := Scalar.indexCast v413
  let c384 : Index := 384#32
  ![v414.toNat, 384]
def k0_off39 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v418 : BitVec 32 := Scalar.addi v224 arg23
  let v419 : Index := Scalar.indexCast v418
  let c400 : Index := 400#32
  ![v419.toNat, 400]
def k0_off40 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v423 : BitVec 32 := Scalar.addi v224 arg23
  let v424 : Index := Scalar.indexCast v423
  let c416 : Index := 416#32
  ![v424.toNat, 416]
def k0_off41 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v428 : BitVec 32 := Scalar.addi v224 arg23
  let v429 : Index := Scalar.indexCast v428
  let c432 : Index := 432#32
  ![v429.toNat, 432]
def k0_off42 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v433 : BitVec 32 := Scalar.addi v224 arg23
  let v434 : Index := Scalar.indexCast v433
  let c448 : Index := 448#32
  ![v434.toNat, 448]
def k0_off43 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v438 : BitVec 32 := Scalar.addi v224 arg23
  let v439 : Index := Scalar.indexCast v438
  let c464 : Index := 464#32
  ![v439.toNat, 464]
def k0_off44 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v443 : BitVec 32 := Scalar.addi v224 arg23
  let v444 : Index := Scalar.indexCast v443
  let c480 : Index := 480#32
  ![v444.toNat, 480]
def k0_off45 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v448 : BitVec 32 := Scalar.addi v224 arg23
  let v449 : Index := Scalar.indexCast v448
  let c496 : Index := 496#32
  ![v449.toNat, 496]
def k0_off46 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v453 : BitVec 32 := Scalar.addi v224 arg23
  let v454 : Index := Scalar.indexCast v453
  let c512 : Index := 512#32
  ![v454.toNat, 512]
def k0_off47 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v458 : BitVec 32 := Scalar.addi v224 arg23
  let v459 : Index := Scalar.indexCast v458
  let c528 : Index := 528#32
  ![v459.toNat, 528]
def k0_off48 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v463 : BitVec 32 := Scalar.addi v224 arg23
  let v464 : Index := Scalar.indexCast v463
  let c544 : Index := 544#32
  ![v464.toNat, 544]
def k0_off49 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v468 : BitVec 32 := Scalar.addi v224 arg23
  let v469 : Index := Scalar.indexCast v468
  let c560 : Index := 560#32
  ![v469.toNat, 560]
def k0_off50 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v473 : BitVec 32 := Scalar.addi v224 arg23
  let v474 : Index := Scalar.indexCast v473
  let c576 : Index := 576#32
  ![v474.toNat, 576]
def k0_off51 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v478 : BitVec 32 := Scalar.addi v224 arg23
  let v479 : Index := Scalar.indexCast v478
  let c592 : Index := 592#32
  ![v479.toNat, 592]
def k0_off52 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v483 : BitVec 32 := Scalar.addi v224 arg23
  let v484 : Index := Scalar.indexCast v483
  let c608 : Index := 608#32
  ![v484.toNat, 608]
def k0_off53 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v488 : BitVec 32 := Scalar.addi v224 arg23
  let v489 : Index := Scalar.indexCast v488
  let c624 : Index := 624#32
  ![v489.toNat, 624]
def k0_off54 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v493 : BitVec 32 := Scalar.addi v224 arg23
  let v494 : Index := Scalar.indexCast v493
  let c640 : Index := 640#32
  ![v494.toNat, 640]
def k0_off55 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v498 : BitVec 32 := Scalar.addi v224 arg23
  let v499 : Index := Scalar.indexCast v498
  let c656 : Index := 656#32
  ![v499.toNat, 656]
def k0_off56 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v503 : BitVec 32 := Scalar.addi v224 arg23
  let v504 : Index := Scalar.indexCast v503
  let c672 : Index := 672#32
  ![v504.toNat, 672]
def k0_off57 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v508 : BitVec 32 := Scalar.addi v224 arg23
  let v509 : Index := Scalar.indexCast v508
  let c688 : Index := 688#32
  ![v509.toNat, 688]
def k0_off58 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v513 : BitVec 32 := Scalar.addi v224 arg23
  let v514 : Index := Scalar.indexCast v513
  let c704 : Index := 704#32
  ![v514.toNat, 704]
def k0_off59 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v518 : BitVec 32 := Scalar.addi v224 arg23
  let v519 : Index := Scalar.indexCast v518
  let c720 : Index := 720#32
  ![v519.toNat, 720]
def k0_off60 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v523 : BitVec 32 := Scalar.addi v224 arg23
  let v524 : Index := Scalar.indexCast v523
  let c736 : Index := 736#32
  ![v524.toNat, 736]
def k0_off61 (v18 : BitVec 32) (v24 : BitVec 32) (v35_4 : BitVec 32) (v35_0 : BitVec 32) (k0_t3 : Fin (k0_t3_loop v18 v24 v35_4 v35_0).trips) (v216 : BitVec 32) (v222 : BitVec 32) (k0_t5 : Fin (k0_t5_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t5
  let v528 : BitVec 32 := Scalar.addi v224 arg23
  let v529 : Index := Scalar.indexCast v528
  let c752 : Index := 752#32
  ![v529.toNat, 752]
@[reducible] def k0_t6_loop (v18 : BitVec 32) (v24 : BitVec 32) (v35_4 : BitVec 32) (v35_0 : BitVec 32) (k0_t3 : Fin (k0_t3_loop v18 v24 v35_4 v35_0).trips) (v216 : BitVec 32) (v222 : BitVec 32) : Scf.Loop 32 :=
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let v280 : BitVec 32 := Scalar.addi c0_i32_182 v279
  let c1_i32_185 : BitVec 32 := 1#32
  ⟨v283, v280, c1_i32_185⟩
def k0_off62 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v293 : BitVec 32 := Scalar.addi v224 arg23
  let v294 : Index := Scalar.indexCast v293
  let c0_189 : Index := 0#32
  ![v294.toNat, 0]
def k0_off63 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v298 : BitVec 32 := Scalar.addi v224 arg23
  let v299 : Index := Scalar.indexCast v298
  let c16 : Index := 16#32
  ![v299.toNat, 16]
def k0_off64 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v303 : BitVec 32 := Scalar.addi v224 arg23
  let v304 : Index := Scalar.indexCast v303
  let c32 : Index := 32#32
  ![v304.toNat, 32]
def k0_off65 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v308 : BitVec 32 := Scalar.addi v224 arg23
  let v309 : Index := Scalar.indexCast v308
  let c48 : Index := 48#32
  ![v309.toNat, 48]
def k0_off66 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v313 : BitVec 32 := Scalar.addi v224 arg23
  let v314 : Index := Scalar.indexCast v313
  let c64 : Index := 64#32
  ![v314.toNat, 64]
def k0_off67 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v318 : BitVec 32 := Scalar.addi v224 arg23
  let v319 : Index := Scalar.indexCast v318
  let c80 : Index := 80#32
  ![v319.toNat, 80]
def k0_off68 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v323 : BitVec 32 := Scalar.addi v224 arg23
  let v324 : Index := Scalar.indexCast v323
  let c96 : Index := 96#32
  ![v324.toNat, 96]
def k0_off69 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v328 : BitVec 32 := Scalar.addi v224 arg23
  let v329 : Index := Scalar.indexCast v328
  let c112 : Index := 112#32
  ![v329.toNat, 112]
def k0_off70 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v333 : BitVec 32 := Scalar.addi v224 arg23
  let v334 : Index := Scalar.indexCast v333
  let c128 : Index := 128#32
  ![v334.toNat, 128]
def k0_off71 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v338 : BitVec 32 := Scalar.addi v224 arg23
  let v339 : Index := Scalar.indexCast v338
  let c144 : Index := 144#32
  ![v339.toNat, 144]
def k0_off72 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v343 : BitVec 32 := Scalar.addi v224 arg23
  let v344 : Index := Scalar.indexCast v343
  let c160 : Index := 160#32
  ![v344.toNat, 160]
def k0_off73 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v348 : BitVec 32 := Scalar.addi v224 arg23
  let v349 : Index := Scalar.indexCast v348
  let c176 : Index := 176#32
  ![v349.toNat, 176]
def k0_off74 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v353 : BitVec 32 := Scalar.addi v224 arg23
  let v354 : Index := Scalar.indexCast v353
  let c192 : Index := 192#32
  ![v354.toNat, 192]
def k0_off75 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v358 : BitVec 32 := Scalar.addi v224 arg23
  let v359 : Index := Scalar.indexCast v358
  let c208 : Index := 208#32
  ![v359.toNat, 208]
def k0_off76 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v363 : BitVec 32 := Scalar.addi v224 arg23
  let v364 : Index := Scalar.indexCast v363
  let c224 : Index := 224#32
  ![v364.toNat, 224]
def k0_off77 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v368 : BitVec 32 := Scalar.addi v224 arg23
  let v369 : Index := Scalar.indexCast v368
  let c240 : Index := 240#32
  ![v369.toNat, 240]
def k0_off78 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v373 : BitVec 32 := Scalar.addi v224 arg23
  let v374 : Index := Scalar.indexCast v373
  let c256 : Index := 256#32
  ![v374.toNat, 256]
def k0_off79 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v378 : BitVec 32 := Scalar.addi v224 arg23
  let v379 : Index := Scalar.indexCast v378
  let c272 : Index := 272#32
  ![v379.toNat, 272]
def k0_off80 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v383 : BitVec 32 := Scalar.addi v224 arg23
  let v384 : Index := Scalar.indexCast v383
  let c288 : Index := 288#32
  ![v384.toNat, 288]
def k0_off81 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v388 : BitVec 32 := Scalar.addi v224 arg23
  let v389 : Index := Scalar.indexCast v388
  let c304 : Index := 304#32
  ![v389.toNat, 304]
def k0_off82 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v393 : BitVec 32 := Scalar.addi v224 arg23
  let v394 : Index := Scalar.indexCast v393
  let c320 : Index := 320#32
  ![v394.toNat, 320]
def k0_off83 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v398 : BitVec 32 := Scalar.addi v224 arg23
  let v399 : Index := Scalar.indexCast v398
  let c336 : Index := 336#32
  ![v399.toNat, 336]
def k0_off84 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v403 : BitVec 32 := Scalar.addi v224 arg23
  let v404 : Index := Scalar.indexCast v403
  let c352 : Index := 352#32
  ![v404.toNat, 352]
def k0_off85 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v408 : BitVec 32 := Scalar.addi v224 arg23
  let v409 : Index := Scalar.indexCast v408
  let c368 : Index := 368#32
  ![v409.toNat, 368]
def k0_off86 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v413 : BitVec 32 := Scalar.addi v224 arg23
  let v414 : Index := Scalar.indexCast v413
  let c384 : Index := 384#32
  ![v414.toNat, 384]
def k0_off87 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v418 : BitVec 32 := Scalar.addi v224 arg23
  let v419 : Index := Scalar.indexCast v418
  let c400 : Index := 400#32
  ![v419.toNat, 400]
def k0_off88 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v423 : BitVec 32 := Scalar.addi v224 arg23
  let v424 : Index := Scalar.indexCast v423
  let c416 : Index := 416#32
  ![v424.toNat, 416]
def k0_off89 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v428 : BitVec 32 := Scalar.addi v224 arg23
  let v429 : Index := Scalar.indexCast v428
  let c432 : Index := 432#32
  ![v429.toNat, 432]
def k0_off90 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v433 : BitVec 32 := Scalar.addi v224 arg23
  let v434 : Index := Scalar.indexCast v433
  let c448 : Index := 448#32
  ![v434.toNat, 448]
def k0_off91 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v438 : BitVec 32 := Scalar.addi v224 arg23
  let v439 : Index := Scalar.indexCast v438
  let c464 : Index := 464#32
  ![v439.toNat, 464]
def k0_off92 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v443 : BitVec 32 := Scalar.addi v224 arg23
  let v444 : Index := Scalar.indexCast v443
  let c480 : Index := 480#32
  ![v444.toNat, 480]
def k0_off93 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v448 : BitVec 32 := Scalar.addi v224 arg23
  let v449 : Index := Scalar.indexCast v448
  let c496 : Index := 496#32
  ![v449.toNat, 496]
def k0_off94 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v453 : BitVec 32 := Scalar.addi v224 arg23
  let v454 : Index := Scalar.indexCast v453
  let c512 : Index := 512#32
  ![v454.toNat, 512]
def k0_off95 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v458 : BitVec 32 := Scalar.addi v224 arg23
  let v459 : Index := Scalar.indexCast v458
  let c528 : Index := 528#32
  ![v459.toNat, 528]
def k0_off96 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v463 : BitVec 32 := Scalar.addi v224 arg23
  let v464 : Index := Scalar.indexCast v463
  let c544 : Index := 544#32
  ![v464.toNat, 544]
def k0_off97 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v468 : BitVec 32 := Scalar.addi v224 arg23
  let v469 : Index := Scalar.indexCast v468
  let c560 : Index := 560#32
  ![v469.toNat, 560]
def k0_off98 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v473 : BitVec 32 := Scalar.addi v224 arg23
  let v474 : Index := Scalar.indexCast v473
  let c576 : Index := 576#32
  ![v474.toNat, 576]
def k0_off99 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v478 : BitVec 32 := Scalar.addi v224 arg23
  let v479 : Index := Scalar.indexCast v478
  let c592 : Index := 592#32
  ![v479.toNat, 592]
def k0_off100 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v483 : BitVec 32 := Scalar.addi v224 arg23
  let v484 : Index := Scalar.indexCast v483
  let c608 : Index := 608#32
  ![v484.toNat, 608]
def k0_off101 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v488 : BitVec 32 := Scalar.addi v224 arg23
  let v489 : Index := Scalar.indexCast v488
  let c624 : Index := 624#32
  ![v489.toNat, 624]
def k0_off102 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v493 : BitVec 32 := Scalar.addi v224 arg23
  let v494 : Index := Scalar.indexCast v493
  let c640 : Index := 640#32
  ![v494.toNat, 640]
def k0_off103 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v498 : BitVec 32 := Scalar.addi v224 arg23
  let v499 : Index := Scalar.indexCast v498
  let c656 : Index := 656#32
  ![v499.toNat, 656]
def k0_off104 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v503 : BitVec 32 := Scalar.addi v224 arg23
  let v504 : Index := Scalar.indexCast v503
  let c672 : Index := 672#32
  ![v504.toNat, 672]
def k0_off105 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v508 : BitVec 32 := Scalar.addi v224 arg23
  let v509 : Index := Scalar.indexCast v508
  let c688 : Index := 688#32
  ![v509.toNat, 688]
def k0_off106 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v513 : BitVec 32 := Scalar.addi v224 arg23
  let v514 : Index := Scalar.indexCast v513
  let c704 : Index := 704#32
  ![v514.toNat, 704]
def k0_off107 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v518 : BitVec 32 := Scalar.addi v224 arg23
  let v519 : Index := Scalar.indexCast v518
  let c720 : Index := 720#32
  ![v519.toNat, 720]
def k0_off108 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v523 : BitVec 32 := Scalar.addi v224 arg23
  let v524 : Index := Scalar.indexCast v523
  let c736 : Index := 736#32
  ![v524.toNat, 736]
def k0_off109 (v18 : BitVec 32) (v24 : BitVec 32) (v35_4 : BitVec 32) (v35_0 : BitVec 32) (k0_t3 : Fin (k0_t3_loop v18 v24 v35_4 v35_0).trips) (v216 : BitVec 32) (v222 : BitVec 32) (k0_t6 : Fin (k0_t6_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t6
  let v528 : BitVec 32 := Scalar.addi v224 arg23
  let v529 : Index := Scalar.indexCast v528
  let c752 : Index := 752#32
  ![v529.toNat, 752]

def k0_chk7_0 (v18 : BitVec 32) (v24 : BitVec 32) (v35_4 : BitVec 32) (v35_0 : BitVec 32) (k0_t3 : Fin (k0_t3_loop v18 v24 v35_4 v35_0).trips) (v216 : BitVec 32) (v222 : BitVec 32) : Prop :=
  (∀ (k0_h4 : k0_cond4 v18 v24 v35_4 v35_0 k0_t3 = 1#1), ∀ (k0_h6 : k0_cond6 v18 v24 v35_4 v35_0 k0_t3 v216 v222 = 1#1), (k0_t5_loop v18 v24 v35_4 v35_0 k0_t3 v216 v222).OK) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off14 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off15 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off16 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off17 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off18 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off19 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off20 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off21 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off22 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off23 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off24 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off25 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off26 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off27 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off28 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off29 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off30 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off31 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off32 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off33 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off34 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off35 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off36 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off37 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off38 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off39 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off40 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off41 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off42 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off43 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off44 v18 v24 v35_4 v35_0 k0_t3 v216 v222 k0_t5) a + S1x16.size a ≤ S32x768.size a)
def k0_chk7_1 (v18 : BitVec 32) (v24 : BitVec 32) (v35_4 : BitVec 32) (v35_0 : BitVec 32) (k0_t3 : Fin (k0_t3_loop v18 v24 v35_4 v35_0).trips) (v216 : BitVec 32) (v222 : BitVec 32) : Prop :=
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off45 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off46 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off47 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off48 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off49 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off50 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off51 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off52 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off53 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off54 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off55 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off56 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off57 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off58 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off59 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off60 v18 v24 v35_4 v35_0 k0_t3 v216 v222 k0_t5) a + S1x16.size a ≤ S32x768.size a) ∧
  (∀ k0_t5 : Fin (k0_t5_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off61 v18 v24 v35_4 v35_0 k0_t3 v216 v222 k0_t5) a + S1x16.size a ≤ S32x768.size a) ∧
  (∀ (k0_h4 : k0_cond4 v18 v24 v35_4 v35_0 k0_t3 = 1#1), ∀ (k0_h6 : k0_cond6 v18 v24 v35_4 v35_0 k0_t3 v216 v222 = 1#1), (k0_t6_loop v18 v24 v35_4 v35_0 k0_t3 v216 v222).OK) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off62 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off63 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off64 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off65 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off66 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off67 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off68 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off69 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off70 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off71 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off72 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off73 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off74 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off75 v18 v24 v35_4 v35_0 k0_t3 v216 v222 k0_t6) a + S1x16.size a ≤ S32x768.size a)
def k0_chk7_2 (v18 : BitVec 32) (v24 : BitVec 32) (v35_4 : BitVec 32) (v35_0 : BitVec 32) (k0_t3 : Fin (k0_t3_loop v18 v24 v35_4 v35_0).trips) (v216 : BitVec 32) (v222 : BitVec 32) : Prop :=
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off76 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off77 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off78 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off79 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off80 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off81 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off82 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off83 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off84 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off85 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off86 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off87 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off88 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off89 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off90 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off91 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off92 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off93 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off94 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off95 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off96 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off97 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off98 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off99 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off100 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off101 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off102 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off103 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off104 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off105 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off106 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off107 v18 v24 v35_4 v35_0 k0_t3 v216 v222 k0_t6) a + S1x16.size a ≤ S32x768.size a)
def k0_chk7_3 (v18 : BitVec 32) (v24 : BitVec 32) (v35_4 : BitVec 32) (v35_0 : BitVec 32) (k0_t3 : Fin (k0_t3_loop v18 v24 v35_4 v35_0).trips) (v216 : BitVec 32) (v222 : BitVec 32) : Prop :=
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off108 v18 v24 v35_4 v35_0 k0_t3 v216 v222 k0_t6) a + S1x16.size a ≤ S32x768.size a) ∧
  (∀ k0_t6 : Fin (k0_t6_loop v18 v24 v35_4 v35_0 k0_t3 v216 v222).trips, ∀ (k0_h4 : k0_cond4 v18 v24 v35_4 v35_0 k0_t3 = 1#1), ∀ (k0_h6 : k0_cond6 v18 v24 v35_4 v35_0 k0_t3 v216 v222 = 1#1), ∀ a, (k0_off109 v18 v24 v35_4 v35_0 k0_t3 v216 v222 k0_t6) a + S1x16.size a ≤ S32x768.size a)
def k0_chk7 (v18 : BitVec 32) (v24 : BitVec 32) (v35_4 : BitVec 32) (v35_0 : BitVec 32) (k0_t3 : Fin (k0_t3_loop v18 v24 v35_4 v35_0).trips) (v216 : BitVec 32) (v222 : BitVec 32) : Prop :=
  k0_chk7_0 v18 v24 v35_4 v35_0 k0_t3 v216 v222 ∧
  k0_chk7_1 v18 v24 v35_4 v35_0 k0_t3 v216 v222 ∧
  k0_chk7_2 v18 v24 v35_4 v35_0 k0_t3 v216 v222 ∧
  k0_chk7_3 v18 v24 v35_4 v35_0 k0_t3 v216 v222
theorem k0_t5_ok : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222), ∀ (k0_h4 : k0_cond4 v18 v24 v35_4 v35_0 k0_t3 = 1#1), ∀ (k0_h6 : k0_cond6 v18 v24 v35_4 v35_0 k0_t3 v216 v222 = 1#1), (k0_t5_loop v18 v24 v35_4 v35_0 k0_t3 v216 v222).OK := fun v18 v24 v35_4 v35_0 k0_t3 v216 v222 k0_hw7 k0_h4 k0_h6 => k0_hw7.1.1 k0_h4 k0_h6
theorem k0_off14_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off14 v18 v24 v35_4 v35_0 k0_t3 v216 v222 k0_t5) a + S1x16.size a ≤ S32x768.size a := fun v18 v24 v35_4 v35_0 k0_t3 v216 v222 k0_hw7 k0_t5 k0_h4 k0_h6 => k0_hw7.1.2.1 k0_t5 k0_h4 k0_h6
theorem k0_off15_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off15 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.1 k0_t5 k0_h4 k0_h6
theorem k0_off16_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off16 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.1 k0_t5 k0_h4 k0_h6
theorem k0_off17_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off17 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.1 k0_t5 k0_h4 k0_h6
theorem k0_off18_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off18 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.1 k0_t5 k0_h4 k0_h6
theorem k0_off19_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off19 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.1 k0_t5 k0_h4 k0_h6
theorem k0_off20_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off20 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.1 k0_t5 k0_h4 k0_h6
theorem k0_off21_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off21 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.1 k0_t5 k0_h4 k0_h6
theorem k0_off22_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off22 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.1 k0_t5 k0_h4 k0_h6
theorem k0_off23_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off23 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.1 k0_t5 k0_h4 k0_h6
theorem k0_off24_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off24 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.1 k0_t5 k0_h4 k0_h6
theorem k0_off25_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off25 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.1 k0_t5 k0_h4 k0_h6
theorem k0_off26_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off26 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.1 k0_t5 k0_h4 k0_h6
theorem k0_off27_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off27 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.1 k0_t5 k0_h4 k0_h6
theorem k0_off28_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off28 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.1 k0_t5 k0_h4 k0_h6
theorem k0_off29_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off29 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.1 k0_t5 k0_h4 k0_h6
theorem k0_off30_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off30 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.1 k0_t5 k0_h4 k0_h6
theorem k0_off31_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off31 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.1 k0_t5 k0_h4 k0_h6
theorem k0_off32_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off32 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.1 k0_t5 k0_h4 k0_h6
theorem k0_off33_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off33 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.1 k0_t5 k0_h4 k0_h6
theorem k0_off34_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off34 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.1 k0_t5 k0_h4 k0_h6
theorem k0_off35_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off35 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.2.1 k0_t5 k0_h4 k0_h6
theorem k0_off36_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off36 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.2.2.1 k0_t5 k0_h4 k0_h6
theorem k0_off37_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off37 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.2.2.2.1 k0_t5 k0_h4 k0_h6
theorem k0_off38_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off38 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.2.2.2.2.1 k0_t5 k0_h4 k0_h6
theorem k0_off39_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off39 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.2.2.2.2.2.1 k0_t5 k0_h4 k0_h6
theorem k0_off40_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off40 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.2.2.2.2.2.2.1 k0_t5 k0_h4 k0_h6
theorem k0_off41_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off41 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.2.2.2.2.2.2.2.1 k0_t5 k0_h4 k0_h6
theorem k0_off42_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off42 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.2.2.2.2.2.2.2.2.1 k0_t5 k0_h4 k0_h6
theorem k0_off43_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off43 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.2.2.2.2.2.2.2.2.2.1 k0_t5 k0_h4 k0_h6
theorem k0_off44_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off44 v18 v24 v35_4 v35_0 k0_t3 v216 v222 k0_t5) a + S1x16.size a ≤ S32x768.size a := fun v18 v24 v35_4 v35_0 k0_t3 v216 v222 k0_hw7 k0_t5 k0_h4 k0_h6 => k0_hw7.1.2.2.2.2.2.2.2.2.2.2.2.2.2.2.2.2.2.2.2.2.2.2.2.2.2.2.2.2.2.2.2 k0_t5 k0_h4 k0_h6
theorem k0_off45_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off45 v18 v24 v35_4 v35_0 k0_t3 v216 v222 k0_t5) a + S1x16.size a ≤ S32x768.size a := fun v18 v24 v35_4 v35_0 k0_t3 v216 v222 k0_hw7 k0_t5 k0_h4 k0_h6 => k0_hw7.2.1.1 k0_t5 k0_h4 k0_h6
theorem k0_off46_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off46 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.1 k0_t5 k0_h4 k0_h6
theorem k0_off47_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off47 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.1 k0_t5 k0_h4 k0_h6
theorem k0_off48_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off48 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.1 k0_t5 k0_h4 k0_h6
theorem k0_off49_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off49 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.1 k0_t5 k0_h4 k0_h6
theorem k0_off50_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off50 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.1 k0_t5 k0_h4 k0_h6
theorem k0_off51_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off51 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.1 k0_t5 k0_h4 k0_h6
theorem k0_off52_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off52 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.2.1 k0_t5 k0_h4 k0_h6
theorem k0_off53_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off53 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.2.2.1 k0_t5 k0_h4 k0_h6
theorem k0_off54_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off54 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.2.2.2.1 k0_t5 k0_h4 k0_h6
theorem k0_off55_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off55 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.2.2.2.2.1 k0_t5 k0_h4 k0_h6
theorem k0_off56_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off56 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.2.2.2.2.2.1 k0_t5 k0_h4 k0_h6
theorem k0_off57_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off57 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.2.2.2.2.2.2.1 k0_t5 k0_h4 k0_h6
theorem k0_off58_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off58 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.2.2.2.2.2.2.2.1 k0_t5 k0_h4 k0_h6
theorem k0_off59_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off59 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.2.2.2.2.2.2.2.2.1 k0_t5 k0_h4 k0_h6
theorem k0_off60_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off60 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.2.2.2.2.2.2.2.2.2.1 k0_t5 k0_h4 k0_h6
theorem k0_off61_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t5 : Fin (k0_t5_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off61 v18 v24 v35_4 v35_0 k0_t3 v216 v222 k0_t5) a + S1x16.size a ≤ S32x768.size a := fun v18 v24 v35_4 v35_0 k0_t3 v216 v222 k0_hw7 k0_t5 k0_h4 k0_h6 => k0_hw7.2.1.2.2.2.2.2.2.2.2.2.2.2.2.2.2.2.2.1 k0_t5 k0_h4 k0_h6
theorem k0_t6_ok : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222), ∀ (k0_h4 : k0_cond4 v18 v24 v35_4 v35_0 k0_t3 = 1#1), ∀ (k0_h6 : k0_cond6 v18 v24 v35_4 v35_0 k0_t3 v216 v222 = 1#1), (k0_t6_loop v18 v24 v35_4 v35_0 k0_t3 v216 v222).OK := fun v18 v24 v35_4 v35_0 k0_t3 v216 v222 k0_hw7 k0_h4 k0_h6 => k0_hw7.2.1.2.2.2.2.2.2.2.2.2.2.2.2.2.2.2.2.2.1 k0_h4 k0_h6
theorem k0_off62_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off62 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.1 k0_t6 k0_h4 k0_h6
theorem k0_off63_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off63 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.1 k0_t6 k0_h4 k0_h6
theorem k0_off64_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off64 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.1 k0_t6 k0_h4 k0_h6
theorem k0_off65_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off65 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.1 k0_t6 k0_h4 k0_h6
theorem k0_off66_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off66 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.2.1 k0_t6 k0_h4 k0_h6
theorem k0_off67_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off67 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.2.2.1 k0_t6 k0_h4 k0_h6
theorem k0_off68_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off68 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.2.2.2.1 k0_t6 k0_h4 k0_h6
theorem k0_off69_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off69 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.2.2.2.2.1 k0_t6 k0_h4 k0_h6
theorem k0_off70_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off70 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.2.2.2.2.2.1 k0_t6 k0_h4 k0_h6
theorem k0_off71_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off71 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.2.2.2.2.2.2.1 k0_t6 k0_h4 k0_h6
theorem k0_off72_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off72 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.2.2.2.2.2.2.2.1 k0_t6 k0_h4 k0_h6
theorem k0_off73_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off73 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.2.2.2.2.2.2.2.2.1 k0_t6 k0_h4 k0_h6
theorem k0_off74_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off74 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.2.2.2.2.2.2.2.2.2.1 k0_t6 k0_h4 k0_h6
theorem k0_off75_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off75 v18 v24 v35_4 v35_0 k0_t3 v216 v222 k0_t6) a + S1x16.size a ≤ S32x768.size a := fun v18 v24 v35_4 v35_0 k0_t3 v216 v222 k0_hw7 k0_t6 k0_h4 k0_h6 => k0_hw7.2.1.2.2.2.2.2.2.2.2.2.2.2.2.2.2.2.2.2.2.2.2.2.2.2.2.2.2.2.2.2.2.2 k0_t6 k0_h4 k0_h6
theorem k0_off76_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off76 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.1 k0_t6 k0_h4 k0_h6
theorem k0_off77_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off77 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.1 k0_t6 k0_h4 k0_h6
theorem k0_off78_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off78 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.1 k0_t6 k0_h4 k0_h6
theorem k0_off79_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off79 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.1 k0_t6 k0_h4 k0_h6
theorem k0_off80_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off80 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.1 k0_t6 k0_h4 k0_h6
theorem k0_off81_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off81 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.1 k0_t6 k0_h4 k0_h6
theorem k0_off82_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off82 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.1 k0_t6 k0_h4 k0_h6
theorem k0_off83_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off83 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.1 k0_t6 k0_h4 k0_h6
theorem k0_off84_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off84 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.1 k0_t6 k0_h4 k0_h6
theorem k0_off85_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off85 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.1 k0_t6 k0_h4 k0_h6
theorem k0_off86_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off86 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.1 k0_t6 k0_h4 k0_h6
theorem k0_off87_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off87 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.1 k0_t6 k0_h4 k0_h6
theorem k0_off88_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off88 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.1 k0_t6 k0_h4 k0_h6
theorem k0_off89_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off89 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.1 k0_t6 k0_h4 k0_h6
theorem k0_off90_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off90 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.1 k0_t6 k0_h4 k0_h6
theorem k0_off91_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off91 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.1 k0_t6 k0_h4 k0_h6
theorem k0_off92_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off92 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.1 k0_t6 k0_h4 k0_h6
theorem k0_off93_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off93 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.1 k0_t6 k0_h4 k0_h6
theorem k0_off94_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off94 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.1 k0_t6 k0_h4 k0_h6
theorem k0_off95_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off95 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.1 k0_t6 k0_h4 k0_h6
theorem k0_off96_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off96 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.1 k0_t6 k0_h4 k0_h6
theorem k0_off97_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off97 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.1 k0_t6 k0_h4 k0_h6
theorem k0_off98_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off98 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.2.1 k0_t6 k0_h4 k0_h6
theorem k0_off99_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off99 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.2.2.1 k0_t6 k0_h4 k0_h6
theorem k0_off100_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off100 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.2.2.2.1 k0_t6 k0_h4 k0_h6
theorem k0_off101_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off101 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.2.2.2.2.1 k0_t6 k0_h4 k0_h6
theorem k0_off102_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off102 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.2.2.2.2.2.1 k0_t6 k0_h4 k0_h6
theorem k0_off103_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off103 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.2.2.2.2.2.2.1 k0_t6 k0_h4 k0_h6
theorem k0_off104_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off104 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.2.2.2.2.2.2.2.1 k0_t6 k0_h4 k0_h6
theorem k0_off105_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off105 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.2.2.2.2.2.2.2.2.1 k0_t6 k0_h4 k0_h6
theorem k0_off106_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off106 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.2.2.2.2.2.2.2.2.2.1 k0_t6 k0_h4 k0_h6
theorem k0_off107_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off107 v18 v24 v35_4 v35_0 k0_t3 v216 v222 k0_t6) a + S1x16.size a ≤ S32x768.size a := fun v18 v24 v35_4 v35_0 k0_t3 v216 v222 k0_hw7 k0_t6 k0_h4 k0_h6 => k0_hw7.2.2.1.2.2.2.2.2.2.2.2.2.2.2.2.2.2.2.2.2.2.2.2.2.2.2.2.2.2.2.2.2.2.2 k0_t6 k0_h4 k0_h6
theorem k0_off108_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off108 v18 v24 v35_4 v35_0 k0_t3 v216 v222 k0_t6) a + S1x16.size a ≤ S32x768.size a := fun v18 v24 v35_4 v35_0 k0_t3 v216 v222 k0_hw7 k0_t6 k0_h4 k0_h6 => k0_hw7.2.2.2.1 k0_t6 k0_h4 k0_h6
theorem k0_off109_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw7 : k0_chk7 v18 v24 v35_4 v35_0 k0_t3 v216 v222) (k0_t6 : Fin (k0_t6_loop v18 v24 v35_4 v35_0 k0_t3 v216 v222).trips), ∀ (k0_h4 : k0_cond4 v18 v24 v35_4 v35_0 k0_t3 = 1#1), ∀ (k0_h6 : k0_cond6 v18 v24 v35_4 v35_0 k0_t3 v216 v222 = 1#1), ∀ a, (k0_off109 v18 v24 v35_4 v35_0 k0_t3 v216 v222 k0_t6) a + S1x16.size a ≤ S32x768.size a := fun v18 v24 v35_4 v35_0 k0_t3 v216 v222 k0_hw7 k0_t6 k0_h4 k0_h6 => k0_hw7.2.2.2.2 k0_t6 k0_h4 k0_h6

def k0_off110 (k0_t4 : Fin k0_t4_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t4
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_off111 (k0_t4 : Fin k0_t4_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t4
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_mult5 (v18 : BitVec 32) (v24 : BitVec 32) (v35_4 : BitVec 32) (v35_0 : BitVec 32) (k0_t3 : Fin (k0_t3_loop v18 v24 v35_4 v35_0).trips) : BitVec 32 :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let c4064_i32 : BitVec 32 := 4064#32
  let v198 : BitVec 32 := Scalar.minsi v197 c4064_i32
  v198
def k0_cond9 (v18 : BitVec 32) (v24 : BitVec 32) (v35_4 : BitVec 32) (v35_0 : BitVec 32) (k0_t3 : Fin (k0_t3_loop v18 v24 v35_4 v35_0).trips) : BitVec 1 :=
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let v193 : BitVec 1 := Scalar.cmpi .slt v192 v79
  let v194 : BitVec 32 := Scalar.extui v193
  let c0_i32_121 : BitVec 32 := 0#32
  let v195 : BitVec 1 := Scalar.cmpi .ne v194 c0_i32_121
  v195

def k0_off112 (k0_t1 : Fin k0_t1_loop.trips) (v18 : BitVec 32) (v24 : BitVec 32) (v35_4 : BitVec 32) (v35_0 : BitVec 32) (k0_t3 : Fin (k0_t3_loop v18 v24 v35_4 v35_0).trips) : Fin 3 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let c4064_i32 : BitVec 32 := 4064#32
  let v198 : BitVec 32 := Scalar.minsi v197 c4064_i32
  let v199 : BitVec 32 := v198
  let c0_i32_122 : BitVec 32 := 0#32
  ![v13.toNat, v199.toNat, 0]
def k0_mult6 (v18 : BitVec 32) (v24 : BitVec 32) (v35_4 : BitVec 32) (v35_0 : BitVec 32) (k0_t3 : Fin (k0_t3_loop v18 v24 v35_4 v35_0).trips) : BitVec 32 :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c1_i32_132 : BitVec 32 := 1#32
  let v212 : BitVec 32 := Scalar.addi v192 c1_i32_132
  let c32_i32_133 : BitVec 32 := 32#32
  let v213 : BitVec 32 := Scalar.muli v212 c32_i32_133
  let v214 : BitVec 32 := Scalar.addi v74 v213
  let c4064_i32_134 : BitVec 32 := 4064#32
  let v215 : BitVec 32 := Scalar.minsi v214 c4064_i32_134
  v215
def k0_cond10 (v18 : BitVec 32) (v24 : BitVec 32) (v35_4 : BitVec 32) (v35_0 : BitVec 32) (k0_t3 : Fin (k0_t3_loop v18 v24 v35_4 v35_0).trips) : BitVec 1 :=
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c1_i32_124 : BitVec 32 := 1#32
  let v204 : BitVec 32 := Scalar.addi v192 c1_i32_124
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let v205 : BitVec 1 := Scalar.cmpi .slt v204 v79
  let v206 : BitVec 32 := Scalar.extui v205
  let c0_i32_125 : BitVec 32 := 0#32
  let v207 : BitVec 1 := Scalar.cmpi .ne v206 c0_i32_125
  v207

def k0_off113 (k0_t1 : Fin k0_t1_loop.trips) (v18 : BitVec 32) (v24 : BitVec 32) (v35_4 : BitVec 32) (v35_0 : BitVec 32) (k0_t3 : Fin (k0_t3_loop v18 v24 v35_4 v35_0).trips) : Fin 3 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c1_i32_132 : BitVec 32 := 1#32
  let v212 : BitVec 32 := Scalar.addi v192 c1_i32_132
  let c32_i32_133 : BitVec 32 := 32#32
  let v213 : BitVec 32 := Scalar.muli v212 c32_i32_133
  let v214 : BitVec 32 := Scalar.addi v74 v213
  let c4064_i32_134 : BitVec 32 := 4064#32
  let v215 : BitVec 32 := Scalar.minsi v214 c4064_i32_134
  let v216 : BitVec 32 := v215
  let c0_i32_135 : BitVec 32 := 0#32
  ![v13.toNat, v216.toNat, 0]
@[reducible] def k0_t7_loop : Scf.Loop 32 :=
  let c0_i32_128 : BitVec 32 := 0#32
  let c4_i32_129 : BitVec 32 := 4#32
  let v211 : BitVec 32 := Scalar.addi c0_i32_128 c4_i32_129
  let c1_i32_130 : BitVec 32 := 1#32
  ⟨c0_i32_128, v211, c1_i32_130⟩
def k0_off114 (k0_t7 : Fin k0_t7_loop.trips) : Fin 1 → Nat :=
  let c0_i32_128 : BitVec 32 := 0#32
  let c1_i32_130 : BitVec 32 := 1#32
  let arg22 : BitVec 32 := Scf.iv c0_i32_128 c1_i32_130 k0_t7
  let v212 : Index := Scalar.indexCast arg22
  ![v212.toNat]
def k0_off115 (k0_t7 : Fin k0_t7_loop.trips) : Fin 1 → Nat :=
  let c0_i32_128 : BitVec 32 := 0#32
  let c1_i32_130 : BitVec 32 := 1#32
  let arg22 : BitVec 32 := Scf.iv c0_i32_128 c1_i32_130 k0_t7
  let c1_i32_132 : BitVec 32 := 1#32
  let v217 : BitVec 32 := Scalar.addi arg22 c1_i32_132
  let v218 : Index := Scalar.indexCast v217
  ![v218.toNat]
@[reducible] def k0_t8_loop (v18 : BitVec 32) (v24 : BitVec 32) (v35_4 : BitVec 32) (v35_0 : BitVec 32) (k0_t3 : Fin (k0_t3_loop v18 v24 v35_4 v35_0).trips) (v216 : BitVec 32) (v222 : BitVec 32) : Scf.Loop 32 :=
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_184 : BitVec 32 := 1#32
  ⟨c0_i32_182, v283, c1_i32_184⟩
def k0_cond11 (v18 : BitVec 32) (v24 : BitVec 32) (v35_4 : BitVec 32) (v35_0 : BitVec 32) (k0_t3 : Fin (k0_t3_loop v18 v24 v35_4 v35_0).trips) (v216 : BitVec 32) (v222 : BitVec 32) : BitVec 1 :=
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v227 : BitVec 1 := Scalar.cmpi .sgt v226 v224
  let v228 : BitVec 32 := Scalar.extui v227
  let c0_i32_133 : BitVec 32 := 0#32
  let v229 : BitVec 1 := Scalar.cmpi .ne v228 c0_i32_133
  v229

def k0_off116 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v293 : BitVec 32 := Scalar.addi v224 arg23
  let v294 : Index := Scalar.indexCast v293
  let c0_189 : Index := 0#32
  ![v294.toNat, 0]
def k0_off117 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v298 : BitVec 32 := Scalar.addi v224 arg23
  let v299 : Index := Scalar.indexCast v298
  let c16 : Index := 16#32
  ![v299.toNat, 16]
def k0_off118 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v303 : BitVec 32 := Scalar.addi v224 arg23
  let v304 : Index := Scalar.indexCast v303
  let c32 : Index := 32#32
  ![v304.toNat, 32]
def k0_off119 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v308 : BitVec 32 := Scalar.addi v224 arg23
  let v309 : Index := Scalar.indexCast v308
  let c48 : Index := 48#32
  ![v309.toNat, 48]
def k0_off120 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v313 : BitVec 32 := Scalar.addi v224 arg23
  let v314 : Index := Scalar.indexCast v313
  let c64 : Index := 64#32
  ![v314.toNat, 64]
def k0_off121 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v318 : BitVec 32 := Scalar.addi v224 arg23
  let v319 : Index := Scalar.indexCast v318
  let c80 : Index := 80#32
  ![v319.toNat, 80]
def k0_off122 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v323 : BitVec 32 := Scalar.addi v224 arg23
  let v324 : Index := Scalar.indexCast v323
  let c96 : Index := 96#32
  ![v324.toNat, 96]
def k0_off123 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v328 : BitVec 32 := Scalar.addi v224 arg23
  let v329 : Index := Scalar.indexCast v328
  let c112 : Index := 112#32
  ![v329.toNat, 112]
def k0_off124 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v333 : BitVec 32 := Scalar.addi v224 arg23
  let v334 : Index := Scalar.indexCast v333
  let c128 : Index := 128#32
  ![v334.toNat, 128]
def k0_off125 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v338 : BitVec 32 := Scalar.addi v224 arg23
  let v339 : Index := Scalar.indexCast v338
  let c144 : Index := 144#32
  ![v339.toNat, 144]
def k0_off126 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v343 : BitVec 32 := Scalar.addi v224 arg23
  let v344 : Index := Scalar.indexCast v343
  let c160 : Index := 160#32
  ![v344.toNat, 160]
def k0_off127 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v348 : BitVec 32 := Scalar.addi v224 arg23
  let v349 : Index := Scalar.indexCast v348
  let c176 : Index := 176#32
  ![v349.toNat, 176]
def k0_off128 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v353 : BitVec 32 := Scalar.addi v224 arg23
  let v354 : Index := Scalar.indexCast v353
  let c192 : Index := 192#32
  ![v354.toNat, 192]
def k0_off129 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v358 : BitVec 32 := Scalar.addi v224 arg23
  let v359 : Index := Scalar.indexCast v358
  let c208 : Index := 208#32
  ![v359.toNat, 208]
def k0_off130 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v363 : BitVec 32 := Scalar.addi v224 arg23
  let v364 : Index := Scalar.indexCast v363
  let c224 : Index := 224#32
  ![v364.toNat, 224]
def k0_off131 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v368 : BitVec 32 := Scalar.addi v224 arg23
  let v369 : Index := Scalar.indexCast v368
  let c240 : Index := 240#32
  ![v369.toNat, 240]
def k0_off132 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v373 : BitVec 32 := Scalar.addi v224 arg23
  let v374 : Index := Scalar.indexCast v373
  let c256 : Index := 256#32
  ![v374.toNat, 256]
def k0_off133 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v378 : BitVec 32 := Scalar.addi v224 arg23
  let v379 : Index := Scalar.indexCast v378
  let c272 : Index := 272#32
  ![v379.toNat, 272]
def k0_off134 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v383 : BitVec 32 := Scalar.addi v224 arg23
  let v384 : Index := Scalar.indexCast v383
  let c288 : Index := 288#32
  ![v384.toNat, 288]
def k0_off135 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v388 : BitVec 32 := Scalar.addi v224 arg23
  let v389 : Index := Scalar.indexCast v388
  let c304 : Index := 304#32
  ![v389.toNat, 304]
def k0_off136 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v393 : BitVec 32 := Scalar.addi v224 arg23
  let v394 : Index := Scalar.indexCast v393
  let c320 : Index := 320#32
  ![v394.toNat, 320]
def k0_off137 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v398 : BitVec 32 := Scalar.addi v224 arg23
  let v399 : Index := Scalar.indexCast v398
  let c336 : Index := 336#32
  ![v399.toNat, 336]
def k0_off138 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v403 : BitVec 32 := Scalar.addi v224 arg23
  let v404 : Index := Scalar.indexCast v403
  let c352 : Index := 352#32
  ![v404.toNat, 352]
def k0_off139 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v408 : BitVec 32 := Scalar.addi v224 arg23
  let v409 : Index := Scalar.indexCast v408
  let c368 : Index := 368#32
  ![v409.toNat, 368]
def k0_off140 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v413 : BitVec 32 := Scalar.addi v224 arg23
  let v414 : Index := Scalar.indexCast v413
  let c384 : Index := 384#32
  ![v414.toNat, 384]
def k0_off141 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v418 : BitVec 32 := Scalar.addi v224 arg23
  let v419 : Index := Scalar.indexCast v418
  let c400 : Index := 400#32
  ![v419.toNat, 400]
def k0_off142 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v423 : BitVec 32 := Scalar.addi v224 arg23
  let v424 : Index := Scalar.indexCast v423
  let c416 : Index := 416#32
  ![v424.toNat, 416]
def k0_off143 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v428 : BitVec 32 := Scalar.addi v224 arg23
  let v429 : Index := Scalar.indexCast v428
  let c432 : Index := 432#32
  ![v429.toNat, 432]
def k0_off144 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v433 : BitVec 32 := Scalar.addi v224 arg23
  let v434 : Index := Scalar.indexCast v433
  let c448 : Index := 448#32
  ![v434.toNat, 448]
def k0_off145 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v438 : BitVec 32 := Scalar.addi v224 arg23
  let v439 : Index := Scalar.indexCast v438
  let c464 : Index := 464#32
  ![v439.toNat, 464]
def k0_off146 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v443 : BitVec 32 := Scalar.addi v224 arg23
  let v444 : Index := Scalar.indexCast v443
  let c480 : Index := 480#32
  ![v444.toNat, 480]
def k0_off147 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v448 : BitVec 32 := Scalar.addi v224 arg23
  let v449 : Index := Scalar.indexCast v448
  let c496 : Index := 496#32
  ![v449.toNat, 496]
def k0_off148 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v453 : BitVec 32 := Scalar.addi v224 arg23
  let v454 : Index := Scalar.indexCast v453
  let c512 : Index := 512#32
  ![v454.toNat, 512]
def k0_off149 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v458 : BitVec 32 := Scalar.addi v224 arg23
  let v459 : Index := Scalar.indexCast v458
  let c528 : Index := 528#32
  ![v459.toNat, 528]
def k0_off150 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v463 : BitVec 32 := Scalar.addi v224 arg23
  let v464 : Index := Scalar.indexCast v463
  let c544 : Index := 544#32
  ![v464.toNat, 544]
def k0_off151 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v468 : BitVec 32 := Scalar.addi v224 arg23
  let v469 : Index := Scalar.indexCast v468
  let c560 : Index := 560#32
  ![v469.toNat, 560]
def k0_off152 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v473 : BitVec 32 := Scalar.addi v224 arg23
  let v474 : Index := Scalar.indexCast v473
  let c576 : Index := 576#32
  ![v474.toNat, 576]
def k0_off153 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v478 : BitVec 32 := Scalar.addi v224 arg23
  let v479 : Index := Scalar.indexCast v478
  let c592 : Index := 592#32
  ![v479.toNat, 592]
def k0_off154 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v483 : BitVec 32 := Scalar.addi v224 arg23
  let v484 : Index := Scalar.indexCast v483
  let c608 : Index := 608#32
  ![v484.toNat, 608]
def k0_off155 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v488 : BitVec 32 := Scalar.addi v224 arg23
  let v489 : Index := Scalar.indexCast v488
  let c624 : Index := 624#32
  ![v489.toNat, 624]
def k0_off156 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v493 : BitVec 32 := Scalar.addi v224 arg23
  let v494 : Index := Scalar.indexCast v493
  let c640 : Index := 640#32
  ![v494.toNat, 640]
def k0_off157 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v498 : BitVec 32 := Scalar.addi v224 arg23
  let v499 : Index := Scalar.indexCast v498
  let c656 : Index := 656#32
  ![v499.toNat, 656]
def k0_off158 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v503 : BitVec 32 := Scalar.addi v224 arg23
  let v504 : Index := Scalar.indexCast v503
  let c672 : Index := 672#32
  ![v504.toNat, 672]
def k0_off159 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v508 : BitVec 32 := Scalar.addi v224 arg23
  let v509 : Index := Scalar.indexCast v508
  let c688 : Index := 688#32
  ![v509.toNat, 688]
def k0_off160 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v513 : BitVec 32 := Scalar.addi v224 arg23
  let v514 : Index := Scalar.indexCast v513
  let c704 : Index := 704#32
  ![v514.toNat, 704]
def k0_off161 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v518 : BitVec 32 := Scalar.addi v224 arg23
  let v519 : Index := Scalar.indexCast v518
  let c720 : Index := 720#32
  ![v519.toNat, 720]
def k0_off162 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v523 : BitVec 32 := Scalar.addi v224 arg23
  let v524 : Index := Scalar.indexCast v523
  let c736 : Index := 736#32
  ![v524.toNat, 736]
def k0_off163 (v18 : BitVec 32) (v24 : BitVec 32) (v35_4 : BitVec 32) (v35_0 : BitVec 32) (k0_t3 : Fin (k0_t3_loop v18 v24 v35_4 v35_0).trips) (v216 : BitVec 32) (v222 : BitVec 32) (k0_t8 : Fin (k0_t8_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t8
  let v528 : BitVec 32 := Scalar.addi v224 arg23
  let v529 : Index := Scalar.indexCast v528
  let c752 : Index := 752#32
  ![v529.toNat, 752]
@[reducible] def k0_t9_loop (v18 : BitVec 32) (v24 : BitVec 32) (v35_4 : BitVec 32) (v35_0 : BitVec 32) (k0_t3 : Fin (k0_t3_loop v18 v24 v35_4 v35_0).trips) (v216 : BitVec 32) (v222 : BitVec 32) : Scf.Loop 32 :=
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let v280 : BitVec 32 := Scalar.addi c0_i32_182 v279
  let c1_i32_185 : BitVec 32 := 1#32
  ⟨v283, v280, c1_i32_185⟩
def k0_off164 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v293 : BitVec 32 := Scalar.addi v224 arg23
  let v294 : Index := Scalar.indexCast v293
  let c0_189 : Index := 0#32
  ![v294.toNat, 0]
def k0_off165 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v298 : BitVec 32 := Scalar.addi v224 arg23
  let v299 : Index := Scalar.indexCast v298
  let c16 : Index := 16#32
  ![v299.toNat, 16]
def k0_off166 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v303 : BitVec 32 := Scalar.addi v224 arg23
  let v304 : Index := Scalar.indexCast v303
  let c32 : Index := 32#32
  ![v304.toNat, 32]
def k0_off167 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v308 : BitVec 32 := Scalar.addi v224 arg23
  let v309 : Index := Scalar.indexCast v308
  let c48 : Index := 48#32
  ![v309.toNat, 48]
def k0_off168 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v313 : BitVec 32 := Scalar.addi v224 arg23
  let v314 : Index := Scalar.indexCast v313
  let c64 : Index := 64#32
  ![v314.toNat, 64]
def k0_off169 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v318 : BitVec 32 := Scalar.addi v224 arg23
  let v319 : Index := Scalar.indexCast v318
  let c80 : Index := 80#32
  ![v319.toNat, 80]
def k0_off170 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v323 : BitVec 32 := Scalar.addi v224 arg23
  let v324 : Index := Scalar.indexCast v323
  let c96 : Index := 96#32
  ![v324.toNat, 96]
def k0_off171 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v328 : BitVec 32 := Scalar.addi v224 arg23
  let v329 : Index := Scalar.indexCast v328
  let c112 : Index := 112#32
  ![v329.toNat, 112]
def k0_off172 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v333 : BitVec 32 := Scalar.addi v224 arg23
  let v334 : Index := Scalar.indexCast v333
  let c128 : Index := 128#32
  ![v334.toNat, 128]
def k0_off173 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v338 : BitVec 32 := Scalar.addi v224 arg23
  let v339 : Index := Scalar.indexCast v338
  let c144 : Index := 144#32
  ![v339.toNat, 144]
def k0_off174 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v343 : BitVec 32 := Scalar.addi v224 arg23
  let v344 : Index := Scalar.indexCast v343
  let c160 : Index := 160#32
  ![v344.toNat, 160]
def k0_off175 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v348 : BitVec 32 := Scalar.addi v224 arg23
  let v349 : Index := Scalar.indexCast v348
  let c176 : Index := 176#32
  ![v349.toNat, 176]
def k0_off176 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v353 : BitVec 32 := Scalar.addi v224 arg23
  let v354 : Index := Scalar.indexCast v353
  let c192 : Index := 192#32
  ![v354.toNat, 192]
def k0_off177 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v358 : BitVec 32 := Scalar.addi v224 arg23
  let v359 : Index := Scalar.indexCast v358
  let c208 : Index := 208#32
  ![v359.toNat, 208]
def k0_off178 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v363 : BitVec 32 := Scalar.addi v224 arg23
  let v364 : Index := Scalar.indexCast v363
  let c224 : Index := 224#32
  ![v364.toNat, 224]
def k0_off179 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v368 : BitVec 32 := Scalar.addi v224 arg23
  let v369 : Index := Scalar.indexCast v368
  let c240 : Index := 240#32
  ![v369.toNat, 240]
def k0_off180 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v373 : BitVec 32 := Scalar.addi v224 arg23
  let v374 : Index := Scalar.indexCast v373
  let c256 : Index := 256#32
  ![v374.toNat, 256]
def k0_off181 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v378 : BitVec 32 := Scalar.addi v224 arg23
  let v379 : Index := Scalar.indexCast v378
  let c272 : Index := 272#32
  ![v379.toNat, 272]
def k0_off182 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v383 : BitVec 32 := Scalar.addi v224 arg23
  let v384 : Index := Scalar.indexCast v383
  let c288 : Index := 288#32
  ![v384.toNat, 288]
def k0_off183 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v388 : BitVec 32 := Scalar.addi v224 arg23
  let v389 : Index := Scalar.indexCast v388
  let c304 : Index := 304#32
  ![v389.toNat, 304]
def k0_off184 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v393 : BitVec 32 := Scalar.addi v224 arg23
  let v394 : Index := Scalar.indexCast v393
  let c320 : Index := 320#32
  ![v394.toNat, 320]
def k0_off185 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v398 : BitVec 32 := Scalar.addi v224 arg23
  let v399 : Index := Scalar.indexCast v398
  let c336 : Index := 336#32
  ![v399.toNat, 336]
def k0_off186 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v403 : BitVec 32 := Scalar.addi v224 arg23
  let v404 : Index := Scalar.indexCast v403
  let c352 : Index := 352#32
  ![v404.toNat, 352]
def k0_off187 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v408 : BitVec 32 := Scalar.addi v224 arg23
  let v409 : Index := Scalar.indexCast v408
  let c368 : Index := 368#32
  ![v409.toNat, 368]
def k0_off188 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v413 : BitVec 32 := Scalar.addi v224 arg23
  let v414 : Index := Scalar.indexCast v413
  let c384 : Index := 384#32
  ![v414.toNat, 384]
def k0_off189 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v418 : BitVec 32 := Scalar.addi v224 arg23
  let v419 : Index := Scalar.indexCast v418
  let c400 : Index := 400#32
  ![v419.toNat, 400]
def k0_off190 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v423 : BitVec 32 := Scalar.addi v224 arg23
  let v424 : Index := Scalar.indexCast v423
  let c416 : Index := 416#32
  ![v424.toNat, 416]
def k0_off191 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v428 : BitVec 32 := Scalar.addi v224 arg23
  let v429 : Index := Scalar.indexCast v428
  let c432 : Index := 432#32
  ![v429.toNat, 432]
def k0_off192 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v433 : BitVec 32 := Scalar.addi v224 arg23
  let v434 : Index := Scalar.indexCast v433
  let c448 : Index := 448#32
  ![v434.toNat, 448]
def k0_off193 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v438 : BitVec 32 := Scalar.addi v224 arg23
  let v439 : Index := Scalar.indexCast v438
  let c464 : Index := 464#32
  ![v439.toNat, 464]
def k0_off194 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v443 : BitVec 32 := Scalar.addi v224 arg23
  let v444 : Index := Scalar.indexCast v443
  let c480 : Index := 480#32
  ![v444.toNat, 480]
def k0_off195 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v448 : BitVec 32 := Scalar.addi v224 arg23
  let v449 : Index := Scalar.indexCast v448
  let c496 : Index := 496#32
  ![v449.toNat, 496]
def k0_off196 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v453 : BitVec 32 := Scalar.addi v224 arg23
  let v454 : Index := Scalar.indexCast v453
  let c512 : Index := 512#32
  ![v454.toNat, 512]
def k0_off197 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v458 : BitVec 32 := Scalar.addi v224 arg23
  let v459 : Index := Scalar.indexCast v458
  let c528 : Index := 528#32
  ![v459.toNat, 528]
def k0_off198 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v463 : BitVec 32 := Scalar.addi v224 arg23
  let v464 : Index := Scalar.indexCast v463
  let c544 : Index := 544#32
  ![v464.toNat, 544]
def k0_off199 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v468 : BitVec 32 := Scalar.addi v224 arg23
  let v469 : Index := Scalar.indexCast v468
  let c560 : Index := 560#32
  ![v469.toNat, 560]
def k0_off200 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v473 : BitVec 32 := Scalar.addi v224 arg23
  let v474 : Index := Scalar.indexCast v473
  let c576 : Index := 576#32
  ![v474.toNat, 576]
def k0_off201 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v478 : BitVec 32 := Scalar.addi v224 arg23
  let v479 : Index := Scalar.indexCast v478
  let c592 : Index := 592#32
  ![v479.toNat, 592]
def k0_off202 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v483 : BitVec 32 := Scalar.addi v224 arg23
  let v484 : Index := Scalar.indexCast v483
  let c608 : Index := 608#32
  ![v484.toNat, 608]
def k0_off203 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v488 : BitVec 32 := Scalar.addi v224 arg23
  let v489 : Index := Scalar.indexCast v488
  let c624 : Index := 624#32
  ![v489.toNat, 624]
def k0_off204 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v493 : BitVec 32 := Scalar.addi v224 arg23
  let v494 : Index := Scalar.indexCast v493
  let c640 : Index := 640#32
  ![v494.toNat, 640]
def k0_off205 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v498 : BitVec 32 := Scalar.addi v224 arg23
  let v499 : Index := Scalar.indexCast v498
  let c656 : Index := 656#32
  ![v499.toNat, 656]
def k0_off206 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v503 : BitVec 32 := Scalar.addi v224 arg23
  let v504 : Index := Scalar.indexCast v503
  let c672 : Index := 672#32
  ![v504.toNat, 672]
def k0_off207 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v508 : BitVec 32 := Scalar.addi v224 arg23
  let v509 : Index := Scalar.indexCast v508
  let c688 : Index := 688#32
  ![v509.toNat, 688]
def k0_off208 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v513 : BitVec 32 := Scalar.addi v224 arg23
  let v514 : Index := Scalar.indexCast v513
  let c704 : Index := 704#32
  ![v514.toNat, 704]
def k0_off209 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v518 : BitVec 32 := Scalar.addi v224 arg23
  let v519 : Index := Scalar.indexCast v518
  let c720 : Index := 720#32
  ![v519.toNat, 720]
def k0_off210 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v523 : BitVec 32 := Scalar.addi v224 arg23
  let v524 : Index := Scalar.indexCast v523
  let c736 : Index := 736#32
  ![v524.toNat, 736]
def k0_off211 (v18 : BitVec 32) (v24 : BitVec 32) (v35_4 : BitVec 32) (v35_0 : BitVec 32) (k0_t3 : Fin (k0_t3_loop v18 v24 v35_4 v35_0).trips) (v216 : BitVec 32) (v222 : BitVec 32) (k0_t9 : Fin (k0_t9_loop v18 v24 v35_4 v35_0 k0_t3 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let c1_i32_49 : BitVec 32 := 1#32
  let arg21 : BitVec 32 := Scf.iv c0_i32_47 c1_i32_49 k0_t3
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t9
  let v528 : BitVec 32 := Scalar.addi v224 arg23
  let v529 : Index := Scalar.indexCast v528
  let c752 : Index := 752#32
  ![v529.toNat, 752]

def k0_chk8_0 (v18 : BitVec 32) (v24 : BitVec 32) (v35_4 : BitVec 32) (v35_0 : BitVec 32) (k0_t3 : Fin (k0_t3_loop v18 v24 v35_4 v35_0).trips) (v216 : BitVec 32) (v222 : BitVec 32) : Prop :=
  (∀ (k0_h9 : k0_cond9 v18 v24 v35_4 v35_0 k0_t3 = 1#1), ∀ (k0_h11 : k0_cond11 v18 v24 v35_4 v35_0 k0_t3 v216 v222 = 1#1), (k0_t8_loop v18 v24 v35_4 v35_0 k0_t3 v216 v222).OK) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off116 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off117 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off118 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off119 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off120 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off121 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off122 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off123 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off124 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off125 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off126 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off127 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off128 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off129 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off130 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off131 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off132 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off133 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off134 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off135 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off136 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off137 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off138 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off139 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off140 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off141 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off142 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off143 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off144 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off145 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off146 v18 v24 v35_4 v35_0 k0_t3 v216 v222 k0_t8) a + S1x16.size a ≤ S32x768.size a)
def k0_chk8_1 (v18 : BitVec 32) (v24 : BitVec 32) (v35_4 : BitVec 32) (v35_0 : BitVec 32) (k0_t3 : Fin (k0_t3_loop v18 v24 v35_4 v35_0).trips) (v216 : BitVec 32) (v222 : BitVec 32) : Prop :=
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off147 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off148 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off149 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off150 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off151 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off152 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off153 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off154 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off155 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off156 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off157 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off158 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off159 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off160 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off161 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off162 v18 v24 v35_4 v35_0 k0_t3 v216 v222 k0_t8) a + S1x16.size a ≤ S32x768.size a) ∧
  (∀ k0_t8 : Fin (k0_t8_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off163 v18 v24 v35_4 v35_0 k0_t3 v216 v222 k0_t8) a + S1x16.size a ≤ S32x768.size a) ∧
  (∀ (k0_h9 : k0_cond9 v18 v24 v35_4 v35_0 k0_t3 = 1#1), ∀ (k0_h11 : k0_cond11 v18 v24 v35_4 v35_0 k0_t3 v216 v222 = 1#1), (k0_t9_loop v18 v24 v35_4 v35_0 k0_t3 v216 v222).OK) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off164 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off165 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off166 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off167 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off168 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off169 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off170 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off171 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off172 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off173 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off174 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off175 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off176 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off177 v18 v24 v35_4 v35_0 k0_t3 v216 v222 k0_t9) a + S1x16.size a ≤ S32x768.size a)
def k0_chk8_2 (v18 : BitVec 32) (v24 : BitVec 32) (v35_4 : BitVec 32) (v35_0 : BitVec 32) (k0_t3 : Fin (k0_t3_loop v18 v24 v35_4 v35_0).trips) (v216 : BitVec 32) (v222 : BitVec 32) : Prop :=
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off178 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off179 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off180 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off181 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off182 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off183 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off184 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off185 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off186 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off187 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off188 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off189 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off190 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off191 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off192 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off193 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off194 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off195 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off196 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off197 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off198 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off199 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off200 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off201 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off202 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off203 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off204 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off205 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off206 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off207 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off208 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off209 v18 v24 v35_4 v35_0 k0_t3 v216 v222 k0_t9) a + S1x16.size a ≤ S32x768.size a)
def k0_chk8_3 (v18 : BitVec 32) (v24 : BitVec 32) (v35_4 : BitVec 32) (v35_0 : BitVec 32) (k0_t3 : Fin (k0_t3_loop v18 v24 v35_4 v35_0).trips) (v216 : BitVec 32) (v222 : BitVec 32) : Prop :=
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off210 v18 v24 v35_4 v35_0 k0_t3 v216 v222 k0_t9) a + S1x16.size a ≤ S32x768.size a) ∧
  (∀ k0_t9 : Fin (k0_t9_loop v18 v24 v35_4 v35_0 k0_t3 v216 v222).trips, ∀ (k0_h9 : k0_cond9 v18 v24 v35_4 v35_0 k0_t3 = 1#1), ∀ (k0_h11 : k0_cond11 v18 v24 v35_4 v35_0 k0_t3 v216 v222 = 1#1), ∀ a, (k0_off211 v18 v24 v35_4 v35_0 k0_t3 v216 v222 k0_t9) a + S1x16.size a ≤ S32x768.size a)
def k0_chk8 (v18 : BitVec 32) (v24 : BitVec 32) (v35_4 : BitVec 32) (v35_0 : BitVec 32) (k0_t3 : Fin (k0_t3_loop v18 v24 v35_4 v35_0).trips) (v216 : BitVec 32) (v222 : BitVec 32) : Prop :=
  k0_chk8_0 v18 v24 v35_4 v35_0 k0_t3 v216 v222 ∧
  k0_chk8_1 v18 v24 v35_4 v35_0 k0_t3 v216 v222 ∧
  k0_chk8_2 v18 v24 v35_4 v35_0 k0_t3 v216 v222 ∧
  k0_chk8_3 v18 v24 v35_4 v35_0 k0_t3 v216 v222
theorem k0_t8_ok : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222), ∀ (k0_h9 : k0_cond9 v18 v24 v35_4 v35_0 k0_t3 = 1#1), ∀ (k0_h11 : k0_cond11 v18 v24 v35_4 v35_0 k0_t3 v216 v222 = 1#1), (k0_t8_loop v18 v24 v35_4 v35_0 k0_t3 v216 v222).OK := fun v18 v24 v35_4 v35_0 k0_t3 v216 v222 k0_hw8 k0_h9 k0_h11 => k0_hw8.1.1 k0_h9 k0_h11
theorem k0_off116_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off116 v18 v24 v35_4 v35_0 k0_t3 v216 v222 k0_t8) a + S1x16.size a ≤ S32x768.size a := fun v18 v24 v35_4 v35_0 k0_t3 v216 v222 k0_hw8 k0_t8 k0_h9 k0_h11 => k0_hw8.1.2.1 k0_t8 k0_h9 k0_h11
theorem k0_off117_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off117 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.1 k0_t8 k0_h9 k0_h11
theorem k0_off118_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off118 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.1 k0_t8 k0_h9 k0_h11
theorem k0_off119_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off119 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.1 k0_t8 k0_h9 k0_h11
theorem k0_off120_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off120 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.1 k0_t8 k0_h9 k0_h11
theorem k0_off121_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off121 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.1 k0_t8 k0_h9 k0_h11
theorem k0_off122_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off122 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.1 k0_t8 k0_h9 k0_h11
theorem k0_off123_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off123 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.1 k0_t8 k0_h9 k0_h11
theorem k0_off124_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off124 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.1 k0_t8 k0_h9 k0_h11
theorem k0_off125_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off125 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.1 k0_t8 k0_h9 k0_h11
theorem k0_off126_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off126 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.1 k0_t8 k0_h9 k0_h11
theorem k0_off127_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off127 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.1 k0_t8 k0_h9 k0_h11
theorem k0_off128_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off128 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.1 k0_t8 k0_h9 k0_h11
theorem k0_off129_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off129 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.1 k0_t8 k0_h9 k0_h11
theorem k0_off130_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off130 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.1 k0_t8 k0_h9 k0_h11
theorem k0_off131_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off131 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.1 k0_t8 k0_h9 k0_h11
theorem k0_off132_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off132 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.1 k0_t8 k0_h9 k0_h11
theorem k0_off133_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off133 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.1 k0_t8 k0_h9 k0_h11
theorem k0_off134_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off134 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.1 k0_t8 k0_h9 k0_h11
theorem k0_off135_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off135 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.1 k0_t8 k0_h9 k0_h11
theorem k0_off136_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off136 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.1 k0_t8 k0_h9 k0_h11
theorem k0_off137_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off137 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.2.1 k0_t8 k0_h9 k0_h11
theorem k0_off138_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off138 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.2.2.1 k0_t8 k0_h9 k0_h11
theorem k0_off139_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off139 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.2.2.2.1 k0_t8 k0_h9 k0_h11
theorem k0_off140_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off140 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.2.2.2.2.1 k0_t8 k0_h9 k0_h11
theorem k0_off141_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off141 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.2.2.2.2.2.1 k0_t8 k0_h9 k0_h11
theorem k0_off142_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off142 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.2.2.2.2.2.2.1 k0_t8 k0_h9 k0_h11
theorem k0_off143_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off143 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.2.2.2.2.2.2.2.1 k0_t8 k0_h9 k0_h11
theorem k0_off144_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off144 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.2.2.2.2.2.2.2.2.1 k0_t8 k0_h9 k0_h11
theorem k0_off145_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off145 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.2.2.2.2.2.2.2.2.2.1 k0_t8 k0_h9 k0_h11
theorem k0_off146_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off146 v18 v24 v35_4 v35_0 k0_t3 v216 v222 k0_t8) a + S1x16.size a ≤ S32x768.size a := fun v18 v24 v35_4 v35_0 k0_t3 v216 v222 k0_hw8 k0_t8 k0_h9 k0_h11 => k0_hw8.1.2.2.2.2.2.2.2.2.2.2.2.2.2.2.2.2.2.2.2.2.2.2.2.2.2.2.2.2.2.2.2 k0_t8 k0_h9 k0_h11
theorem k0_off147_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off147 v18 v24 v35_4 v35_0 k0_t3 v216 v222 k0_t8) a + S1x16.size a ≤ S32x768.size a := fun v18 v24 v35_4 v35_0 k0_t3 v216 v222 k0_hw8 k0_t8 k0_h9 k0_h11 => k0_hw8.2.1.1 k0_t8 k0_h9 k0_h11
theorem k0_off148_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off148 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.1 k0_t8 k0_h9 k0_h11
theorem k0_off149_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off149 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.1 k0_t8 k0_h9 k0_h11
theorem k0_off150_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off150 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.1 k0_t8 k0_h9 k0_h11
theorem k0_off151_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off151 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.1 k0_t8 k0_h9 k0_h11
theorem k0_off152_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off152 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.1 k0_t8 k0_h9 k0_h11
theorem k0_off153_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off153 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.1 k0_t8 k0_h9 k0_h11
theorem k0_off154_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off154 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.2.1 k0_t8 k0_h9 k0_h11
theorem k0_off155_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off155 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.2.2.1 k0_t8 k0_h9 k0_h11
theorem k0_off156_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off156 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.2.2.2.1 k0_t8 k0_h9 k0_h11
theorem k0_off157_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off157 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.2.2.2.2.1 k0_t8 k0_h9 k0_h11
theorem k0_off158_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off158 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.2.2.2.2.2.1 k0_t8 k0_h9 k0_h11
theorem k0_off159_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off159 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.2.2.2.2.2.2.1 k0_t8 k0_h9 k0_h11
theorem k0_off160_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off160 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.2.2.2.2.2.2.2.1 k0_t8 k0_h9 k0_h11
theorem k0_off161_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off161 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.2.2.2.2.2.2.2.2.1 k0_t8 k0_h9 k0_h11
theorem k0_off162_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off162 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.2.2.2.2.2.2.2.2.2.1 k0_t8 k0_h9 k0_h11
theorem k0_off163_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t8 : Fin (k0_t8_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off163 v18 v24 v35_4 v35_0 k0_t3 v216 v222 k0_t8) a + S1x16.size a ≤ S32x768.size a := fun v18 v24 v35_4 v35_0 k0_t3 v216 v222 k0_hw8 k0_t8 k0_h9 k0_h11 => k0_hw8.2.1.2.2.2.2.2.2.2.2.2.2.2.2.2.2.2.2.1 k0_t8 k0_h9 k0_h11
theorem k0_t9_ok : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222), ∀ (k0_h9 : k0_cond9 v18 v24 v35_4 v35_0 k0_t3 = 1#1), ∀ (k0_h11 : k0_cond11 v18 v24 v35_4 v35_0 k0_t3 v216 v222 = 1#1), (k0_t9_loop v18 v24 v35_4 v35_0 k0_t3 v216 v222).OK := fun v18 v24 v35_4 v35_0 k0_t3 v216 v222 k0_hw8 k0_h9 k0_h11 => k0_hw8.2.1.2.2.2.2.2.2.2.2.2.2.2.2.2.2.2.2.2.1 k0_h9 k0_h11
theorem k0_off164_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off164 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.1 k0_t9 k0_h9 k0_h11
theorem k0_off165_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off165 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.1 k0_t9 k0_h9 k0_h11
theorem k0_off166_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off166 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.1 k0_t9 k0_h9 k0_h11
theorem k0_off167_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off167 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.1 k0_t9 k0_h9 k0_h11
theorem k0_off168_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off168 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.2.1 k0_t9 k0_h9 k0_h11
theorem k0_off169_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off169 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.2.2.1 k0_t9 k0_h9 k0_h11
theorem k0_off170_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off170 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.2.2.2.1 k0_t9 k0_h9 k0_h11
theorem k0_off171_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off171 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.2.2.2.2.1 k0_t9 k0_h9 k0_h11
theorem k0_off172_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off172 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.2.2.2.2.2.1 k0_t9 k0_h9 k0_h11
theorem k0_off173_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off173 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.2.2.2.2.2.2.1 k0_t9 k0_h9 k0_h11
theorem k0_off174_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off174 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.2.2.2.2.2.2.2.1 k0_t9 k0_h9 k0_h11
theorem k0_off175_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off175 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.2.2.2.2.2.2.2.2.1 k0_t9 k0_h9 k0_h11
theorem k0_off176_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off176 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.2.2.2.2.2.2.2.2.2.1 k0_t9 k0_h9 k0_h11
theorem k0_off177_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off177 v18 v24 v35_4 v35_0 k0_t3 v216 v222 k0_t9) a + S1x16.size a ≤ S32x768.size a := fun v18 v24 v35_4 v35_0 k0_t3 v216 v222 k0_hw8 k0_t9 k0_h9 k0_h11 => k0_hw8.2.1.2.2.2.2.2.2.2.2.2.2.2.2.2.2.2.2.2.2.2.2.2.2.2.2.2.2.2.2.2.2.2 k0_t9 k0_h9 k0_h11
theorem k0_off178_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off178 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.1 k0_t9 k0_h9 k0_h11
theorem k0_off179_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off179 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.1 k0_t9 k0_h9 k0_h11
theorem k0_off180_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off180 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.1 k0_t9 k0_h9 k0_h11
theorem k0_off181_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off181 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.1 k0_t9 k0_h9 k0_h11
theorem k0_off182_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off182 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.1 k0_t9 k0_h9 k0_h11
theorem k0_off183_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off183 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.1 k0_t9 k0_h9 k0_h11
theorem k0_off184_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off184 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.1 k0_t9 k0_h9 k0_h11
theorem k0_off185_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off185 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.1 k0_t9 k0_h9 k0_h11
theorem k0_off186_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off186 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.1 k0_t9 k0_h9 k0_h11
theorem k0_off187_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off187 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.1 k0_t9 k0_h9 k0_h11
theorem k0_off188_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off188 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.1 k0_t9 k0_h9 k0_h11
theorem k0_off189_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off189 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.1 k0_t9 k0_h9 k0_h11
theorem k0_off190_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off190 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.1 k0_t9 k0_h9 k0_h11
theorem k0_off191_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off191 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.1 k0_t9 k0_h9 k0_h11
theorem k0_off192_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off192 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.1 k0_t9 k0_h9 k0_h11
theorem k0_off193_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off193 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.1 k0_t9 k0_h9 k0_h11
theorem k0_off194_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off194 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.1 k0_t9 k0_h9 k0_h11
theorem k0_off195_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off195 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.1 k0_t9 k0_h9 k0_h11
theorem k0_off196_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off196 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.1 k0_t9 k0_h9 k0_h11
theorem k0_off197_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off197 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.1 k0_t9 k0_h9 k0_h11
theorem k0_off198_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off198 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.1 k0_t9 k0_h9 k0_h11
theorem k0_off199_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off199 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.1 k0_t9 k0_h9 k0_h11
theorem k0_off200_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off200 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.2.1 k0_t9 k0_h9 k0_h11
theorem k0_off201_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off201 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.2.2.1 k0_t9 k0_h9 k0_h11
theorem k0_off202_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off202 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.2.2.2.1 k0_t9 k0_h9 k0_h11
theorem k0_off203_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off203 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.2.2.2.2.1 k0_t9 k0_h9 k0_h11
theorem k0_off204_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off204 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.2.2.2.2.2.1 k0_t9 k0_h9 k0_h11
theorem k0_off205_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off205 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.2.2.2.2.2.2.1 k0_t9 k0_h9 k0_h11
theorem k0_off206_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off206 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.2.2.2.2.2.2.2.1 k0_t9 k0_h9 k0_h11
theorem k0_off207_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off207 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.2.2.2.2.2.2.2.2.1 k0_t9 k0_h9 k0_h11
theorem k0_off208_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off208 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.2.2.2.2.2.2.2.2.2.1 k0_t9 k0_h9 k0_h11
theorem k0_off209_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off209 v18 v24 v35_4 v35_0 k0_t3 v216 v222 k0_t9) a + S1x16.size a ≤ S32x768.size a := fun v18 v24 v35_4 v35_0 k0_t3 v216 v222 k0_hw8 k0_t9 k0_h9 k0_h11 => k0_hw8.2.2.1.2.2.2.2.2.2.2.2.2.2.2.2.2.2.2.2.2.2.2.2.2.2.2.2.2.2.2.2.2.2.2 k0_t9 k0_h9 k0_h11
theorem k0_off210_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off210 v18 v24 v35_4 v35_0 k0_t3 v216 v222 k0_t9) a + S1x16.size a ≤ S32x768.size a := fun v18 v24 v35_4 v35_0 k0_t3 v216 v222 k0_hw8 k0_t9 k0_h9 k0_h11 => k0_hw8.2.2.2.1 k0_t9 k0_h9 k0_h11
theorem k0_off211_inb : ∀ (v18 : BitVec 32) (v24 : BitVec 32) (v35_4 : BitVec 32) (v35_0 : BitVec 32) (k0_t3 : Fin (k0_t3_loop v18 v24 v35_4 v35_0).trips) (v216 : BitVec 32) (v222 : BitVec 32) (k0_hw8 : k0_chk8 v18 v24 v35_4 v35_0 k0_t3 v216 v222) (k0_t9 : Fin (k0_t9_loop v18 v24 v35_4 v35_0 k0_t3 v216 v222).trips), ∀ (k0_h9 : k0_cond9 v18 v24 v35_4 v35_0 k0_t3 = 1#1), ∀ (k0_h11 : k0_cond11 v18 v24 v35_4 v35_0 k0_t3 v216 v222 = 1#1), ∀ a, (k0_off211 v18 v24 v35_4 v35_0 k0_t3 v216 v222 k0_t9) a + S1x16.size a ≤ S32x768.size a := fun v18 v24 v35_4 v35_0 k0_t3 v216 v222 k0_hw8 k0_t9 k0_h9 k0_h11 => k0_hw8.2.2.2.2 k0_t9 k0_h9 k0_h11

def k0_off212 (k0_t7 : Fin k0_t7_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t7
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_off213 (k0_t7 : Fin k0_t7_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t7
  let c768_i32_186 : BitVec 32 := 768#32
  let v286 : BitVec 32 := Scalar.muli arg22 c768_i32_186
  let v293 : BitVec 32 := Scalar.addi v286 c0_i32_189
  let v294 : Index := Scalar.indexCast v293
  ![v294.toNat]
@[reducible] def k0_t10_loop (v18 : BitVec 32) (v24 : BitVec 32) (v35_4 : BitVec 32) (v35_0 : BitVec 32) : Scf.Loop 32 :=
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let v86 : BitVec 32 := Scalar.addi c0_i32_47 v85
  let c1_i32_50 : BitVec 32 := 1#32
  ⟨v89, v86, c1_i32_50⟩
def k0_mult7 (v18 : BitVec 32) (v24 : BitVec 32) (v35_4 : BitVec 32) (v35_0 : BitVec 32) (k0_t10 : Fin (k0_t10_loop v18 v24 v35_4 v35_0).trips) : BitVec 32 :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let c4064_i32 : BitVec 32 := 4064#32
  let v198 : BitVec 32 := Scalar.minsi v197 c4064_i32
  v198
def k0_cond14 (v18 : BitVec 32) (v24 : BitVec 32) (v35_4 : BitVec 32) (v35_0 : BitVec 32) (k0_t10 : Fin (k0_t10_loop v18 v24 v35_4 v35_0).trips) : BitVec 1 :=
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let v188 : BitVec 1 := Scalar.cmpi .slt v187 v79
  let v189 : BitVec 32 := Scalar.extui v188
  let c0_i32_118 : BitVec 32 := 0#32
  let v190 : BitVec 1 := Scalar.cmpi .ne v189 c0_i32_118
  v190

def k0_off214 (k0_t1 : Fin k0_t1_loop.trips) (v18 : BitVec 32) (v24 : BitVec 32) (v35_4 : BitVec 32) (v35_0 : BitVec 32) (k0_t10 : Fin (k0_t10_loop v18 v24 v35_4 v35_0).trips) : Fin 3 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let c4064_i32 : BitVec 32 := 4064#32
  let v198 : BitVec 32 := Scalar.minsi v197 c4064_i32
  let v199 : BitVec 32 := v198
  let c0_i32_122 : BitVec 32 := 0#32
  ![v13.toNat, v199.toNat, 0]
def k0_mult8 (v18 : BitVec 32) (v24 : BitVec 32) (v35_4 : BitVec 32) (v35_0 : BitVec 32) (k0_t10 : Fin (k0_t10_loop v18 v24 v35_4 v35_0).trips) : BitVec 32 :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c1_i32_132 : BitVec 32 := 1#32
  let v212 : BitVec 32 := Scalar.addi v187 c1_i32_132
  let c32_i32_133 : BitVec 32 := 32#32
  let v213 : BitVec 32 := Scalar.muli v212 c32_i32_133
  let v214 : BitVec 32 := Scalar.addi v74 v213
  let c4064_i32_134 : BitVec 32 := 4064#32
  let v215 : BitVec 32 := Scalar.minsi v214 c4064_i32_134
  v215
def k0_cond15 (v18 : BitVec 32) (v24 : BitVec 32) (v35_4 : BitVec 32) (v35_0 : BitVec 32) (k0_t10 : Fin (k0_t10_loop v18 v24 v35_4 v35_0).trips) : BitVec 1 :=
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c1_i32_124 : BitVec 32 := 1#32
  let v204 : BitVec 32 := Scalar.addi v187 c1_i32_124
  let v205 : BitVec 1 := Scalar.cmpi .slt v204 v79
  let v206 : BitVec 32 := Scalar.extui v205
  let c0_i32_125 : BitVec 32 := 0#32
  let v207 : BitVec 1 := Scalar.cmpi .ne v206 c0_i32_125
  v207

def k0_off215 (k0_t1 : Fin k0_t1_loop.trips) (v18 : BitVec 32) (v24 : BitVec 32) (v35_4 : BitVec 32) (v35_0 : BitVec 32) (k0_t10 : Fin (k0_t10_loop v18 v24 v35_4 v35_0).trips) : Fin 3 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c1_i32_132 : BitVec 32 := 1#32
  let v212 : BitVec 32 := Scalar.addi v187 c1_i32_132
  let c32_i32_133 : BitVec 32 := 32#32
  let v213 : BitVec 32 := Scalar.muli v212 c32_i32_133
  let v214 : BitVec 32 := Scalar.addi v74 v213
  let c4064_i32_134 : BitVec 32 := 4064#32
  let v215 : BitVec 32 := Scalar.minsi v214 c4064_i32_134
  let v216 : BitVec 32 := v215
  let c0_i32_135 : BitVec 32 := 0#32
  ![v13.toNat, v216.toNat, 0]
@[reducible] def k0_t11_loop : Scf.Loop 32 :=
  let c0_i32_128 : BitVec 32 := 0#32
  let c4_i32_129 : BitVec 32 := 4#32
  let v211 : BitVec 32 := Scalar.addi c0_i32_128 c4_i32_129
  let c1_i32_130 : BitVec 32 := 1#32
  ⟨c0_i32_128, v211, c1_i32_130⟩
def k0_off216 (k0_t11 : Fin k0_t11_loop.trips) : Fin 1 → Nat :=
  let c0_i32_128 : BitVec 32 := 0#32
  let c1_i32_130 : BitVec 32 := 1#32
  let arg22 : BitVec 32 := Scf.iv c0_i32_128 c1_i32_130 k0_t11
  let v212 : Index := Scalar.indexCast arg22
  ![v212.toNat]
def k0_off217 (k0_t11 : Fin k0_t11_loop.trips) : Fin 1 → Nat :=
  let c0_i32_128 : BitVec 32 := 0#32
  let c1_i32_130 : BitVec 32 := 1#32
  let arg22 : BitVec 32 := Scf.iv c0_i32_128 c1_i32_130 k0_t11
  let c1_i32_132 : BitVec 32 := 1#32
  let v217 : BitVec 32 := Scalar.addi arg22 c1_i32_132
  let v218 : Index := Scalar.indexCast v217
  ![v218.toNat]
@[reducible] def k0_t12_loop (v18 : BitVec 32) (v24 : BitVec 32) (v35_4 : BitVec 32) (v35_0 : BitVec 32) (k0_t10 : Fin (k0_t10_loop v18 v24 v35_4 v35_0).trips) (v216 : BitVec 32) (v222 : BitVec 32) : Scf.Loop 32 :=
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_184 : BitVec 32 := 1#32
  ⟨c0_i32_182, v283, c1_i32_184⟩
def k0_cond16 (v18 : BitVec 32) (v24 : BitVec 32) (v35_4 : BitVec 32) (v35_0 : BitVec 32) (k0_t10 : Fin (k0_t10_loop v18 v24 v35_4 v35_0).trips) (v216 : BitVec 32) (v222 : BitVec 32) : BitVec 1 :=
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v227 : BitVec 1 := Scalar.cmpi .sgt v226 v224
  let v228 : BitVec 32 := Scalar.extui v227
  let c0_i32_133 : BitVec 32 := 0#32
  let v229 : BitVec 1 := Scalar.cmpi .ne v228 c0_i32_133
  v229

def k0_off218 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v293 : BitVec 32 := Scalar.addi v224 arg23
  let v294 : Index := Scalar.indexCast v293
  let c0_189 : Index := 0#32
  ![v294.toNat, 0]
def k0_off219 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v298 : BitVec 32 := Scalar.addi v224 arg23
  let v299 : Index := Scalar.indexCast v298
  let c16 : Index := 16#32
  ![v299.toNat, 16]
def k0_off220 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v303 : BitVec 32 := Scalar.addi v224 arg23
  let v304 : Index := Scalar.indexCast v303
  let c32 : Index := 32#32
  ![v304.toNat, 32]
def k0_off221 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v308 : BitVec 32 := Scalar.addi v224 arg23
  let v309 : Index := Scalar.indexCast v308
  let c48 : Index := 48#32
  ![v309.toNat, 48]
def k0_off222 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v313 : BitVec 32 := Scalar.addi v224 arg23
  let v314 : Index := Scalar.indexCast v313
  let c64 : Index := 64#32
  ![v314.toNat, 64]
def k0_off223 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v318 : BitVec 32 := Scalar.addi v224 arg23
  let v319 : Index := Scalar.indexCast v318
  let c80 : Index := 80#32
  ![v319.toNat, 80]
def k0_off224 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v323 : BitVec 32 := Scalar.addi v224 arg23
  let v324 : Index := Scalar.indexCast v323
  let c96 : Index := 96#32
  ![v324.toNat, 96]
def k0_off225 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v328 : BitVec 32 := Scalar.addi v224 arg23
  let v329 : Index := Scalar.indexCast v328
  let c112 : Index := 112#32
  ![v329.toNat, 112]
def k0_off226 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v333 : BitVec 32 := Scalar.addi v224 arg23
  let v334 : Index := Scalar.indexCast v333
  let c128 : Index := 128#32
  ![v334.toNat, 128]
def k0_off227 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v338 : BitVec 32 := Scalar.addi v224 arg23
  let v339 : Index := Scalar.indexCast v338
  let c144 : Index := 144#32
  ![v339.toNat, 144]
def k0_off228 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v343 : BitVec 32 := Scalar.addi v224 arg23
  let v344 : Index := Scalar.indexCast v343
  let c160 : Index := 160#32
  ![v344.toNat, 160]
def k0_off229 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v348 : BitVec 32 := Scalar.addi v224 arg23
  let v349 : Index := Scalar.indexCast v348
  let c176 : Index := 176#32
  ![v349.toNat, 176]
def k0_off230 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v353 : BitVec 32 := Scalar.addi v224 arg23
  let v354 : Index := Scalar.indexCast v353
  let c192 : Index := 192#32
  ![v354.toNat, 192]
def k0_off231 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v358 : BitVec 32 := Scalar.addi v224 arg23
  let v359 : Index := Scalar.indexCast v358
  let c208 : Index := 208#32
  ![v359.toNat, 208]
def k0_off232 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v363 : BitVec 32 := Scalar.addi v224 arg23
  let v364 : Index := Scalar.indexCast v363
  let c224 : Index := 224#32
  ![v364.toNat, 224]
def k0_off233 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v368 : BitVec 32 := Scalar.addi v224 arg23
  let v369 : Index := Scalar.indexCast v368
  let c240 : Index := 240#32
  ![v369.toNat, 240]
def k0_off234 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v373 : BitVec 32 := Scalar.addi v224 arg23
  let v374 : Index := Scalar.indexCast v373
  let c256 : Index := 256#32
  ![v374.toNat, 256]
def k0_off235 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v378 : BitVec 32 := Scalar.addi v224 arg23
  let v379 : Index := Scalar.indexCast v378
  let c272 : Index := 272#32
  ![v379.toNat, 272]
def k0_off236 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v383 : BitVec 32 := Scalar.addi v224 arg23
  let v384 : Index := Scalar.indexCast v383
  let c288 : Index := 288#32
  ![v384.toNat, 288]
def k0_off237 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v388 : BitVec 32 := Scalar.addi v224 arg23
  let v389 : Index := Scalar.indexCast v388
  let c304 : Index := 304#32
  ![v389.toNat, 304]
def k0_off238 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v393 : BitVec 32 := Scalar.addi v224 arg23
  let v394 : Index := Scalar.indexCast v393
  let c320 : Index := 320#32
  ![v394.toNat, 320]
def k0_off239 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v398 : BitVec 32 := Scalar.addi v224 arg23
  let v399 : Index := Scalar.indexCast v398
  let c336 : Index := 336#32
  ![v399.toNat, 336]
def k0_off240 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v403 : BitVec 32 := Scalar.addi v224 arg23
  let v404 : Index := Scalar.indexCast v403
  let c352 : Index := 352#32
  ![v404.toNat, 352]
def k0_off241 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v408 : BitVec 32 := Scalar.addi v224 arg23
  let v409 : Index := Scalar.indexCast v408
  let c368 : Index := 368#32
  ![v409.toNat, 368]
def k0_off242 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v413 : BitVec 32 := Scalar.addi v224 arg23
  let v414 : Index := Scalar.indexCast v413
  let c384 : Index := 384#32
  ![v414.toNat, 384]
def k0_off243 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v418 : BitVec 32 := Scalar.addi v224 arg23
  let v419 : Index := Scalar.indexCast v418
  let c400 : Index := 400#32
  ![v419.toNat, 400]
def k0_off244 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v423 : BitVec 32 := Scalar.addi v224 arg23
  let v424 : Index := Scalar.indexCast v423
  let c416 : Index := 416#32
  ![v424.toNat, 416]
def k0_off245 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v428 : BitVec 32 := Scalar.addi v224 arg23
  let v429 : Index := Scalar.indexCast v428
  let c432 : Index := 432#32
  ![v429.toNat, 432]
def k0_off246 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v433 : BitVec 32 := Scalar.addi v224 arg23
  let v434 : Index := Scalar.indexCast v433
  let c448 : Index := 448#32
  ![v434.toNat, 448]
def k0_off247 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v438 : BitVec 32 := Scalar.addi v224 arg23
  let v439 : Index := Scalar.indexCast v438
  let c464 : Index := 464#32
  ![v439.toNat, 464]
def k0_off248 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v443 : BitVec 32 := Scalar.addi v224 arg23
  let v444 : Index := Scalar.indexCast v443
  let c480 : Index := 480#32
  ![v444.toNat, 480]
def k0_off249 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v448 : BitVec 32 := Scalar.addi v224 arg23
  let v449 : Index := Scalar.indexCast v448
  let c496 : Index := 496#32
  ![v449.toNat, 496]
def k0_off250 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v453 : BitVec 32 := Scalar.addi v224 arg23
  let v454 : Index := Scalar.indexCast v453
  let c512 : Index := 512#32
  ![v454.toNat, 512]
def k0_off251 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v458 : BitVec 32 := Scalar.addi v224 arg23
  let v459 : Index := Scalar.indexCast v458
  let c528 : Index := 528#32
  ![v459.toNat, 528]
def k0_off252 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v463 : BitVec 32 := Scalar.addi v224 arg23
  let v464 : Index := Scalar.indexCast v463
  let c544 : Index := 544#32
  ![v464.toNat, 544]
def k0_off253 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v468 : BitVec 32 := Scalar.addi v224 arg23
  let v469 : Index := Scalar.indexCast v468
  let c560 : Index := 560#32
  ![v469.toNat, 560]
def k0_off254 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v473 : BitVec 32 := Scalar.addi v224 arg23
  let v474 : Index := Scalar.indexCast v473
  let c576 : Index := 576#32
  ![v474.toNat, 576]
def k0_off255 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v478 : BitVec 32 := Scalar.addi v224 arg23
  let v479 : Index := Scalar.indexCast v478
  let c592 : Index := 592#32
  ![v479.toNat, 592]
def k0_off256 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v483 : BitVec 32 := Scalar.addi v224 arg23
  let v484 : Index := Scalar.indexCast v483
  let c608 : Index := 608#32
  ![v484.toNat, 608]
def k0_off257 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v488 : BitVec 32 := Scalar.addi v224 arg23
  let v489 : Index := Scalar.indexCast v488
  let c624 : Index := 624#32
  ![v489.toNat, 624]
def k0_off258 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v493 : BitVec 32 := Scalar.addi v224 arg23
  let v494 : Index := Scalar.indexCast v493
  let c640 : Index := 640#32
  ![v494.toNat, 640]
def k0_off259 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v498 : BitVec 32 := Scalar.addi v224 arg23
  let v499 : Index := Scalar.indexCast v498
  let c656 : Index := 656#32
  ![v499.toNat, 656]
def k0_off260 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v503 : BitVec 32 := Scalar.addi v224 arg23
  let v504 : Index := Scalar.indexCast v503
  let c672 : Index := 672#32
  ![v504.toNat, 672]
def k0_off261 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v508 : BitVec 32 := Scalar.addi v224 arg23
  let v509 : Index := Scalar.indexCast v508
  let c688 : Index := 688#32
  ![v509.toNat, 688]
def k0_off262 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v513 : BitVec 32 := Scalar.addi v224 arg23
  let v514 : Index := Scalar.indexCast v513
  let c704 : Index := 704#32
  ![v514.toNat, 704]
def k0_off263 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v518 : BitVec 32 := Scalar.addi v224 arg23
  let v519 : Index := Scalar.indexCast v518
  let c720 : Index := 720#32
  ![v519.toNat, 720]
def k0_off264 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v523 : BitVec 32 := Scalar.addi v224 arg23
  let v524 : Index := Scalar.indexCast v523
  let c736 : Index := 736#32
  ![v524.toNat, 736]
def k0_off265 (v18 : BitVec 32) (v24 : BitVec 32) (v35_4 : BitVec 32) (v35_0 : BitVec 32) (k0_t10 : Fin (k0_t10_loop v18 v24 v35_4 v35_0).trips) (v216 : BitVec 32) (v222 : BitVec 32) (k0_t12 : Fin (k0_t12_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t12
  let v528 : BitVec 32 := Scalar.addi v224 arg23
  let v529 : Index := Scalar.indexCast v528
  let c752 : Index := 752#32
  ![v529.toNat, 752]
@[reducible] def k0_t13_loop (v18 : BitVec 32) (v24 : BitVec 32) (v35_4 : BitVec 32) (v35_0 : BitVec 32) (k0_t10 : Fin (k0_t10_loop v18 v24 v35_4 v35_0).trips) (v216 : BitVec 32) (v222 : BitVec 32) : Scf.Loop 32 :=
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let v280 : BitVec 32 := Scalar.addi c0_i32_182 v279
  let c1_i32_185 : BitVec 32 := 1#32
  ⟨v283, v280, c1_i32_185⟩
def k0_off266 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v293 : BitVec 32 := Scalar.addi v224 arg23
  let v294 : Index := Scalar.indexCast v293
  let c0_189 : Index := 0#32
  ![v294.toNat, 0]
def k0_off267 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v298 : BitVec 32 := Scalar.addi v224 arg23
  let v299 : Index := Scalar.indexCast v298
  let c16 : Index := 16#32
  ![v299.toNat, 16]
def k0_off268 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v303 : BitVec 32 := Scalar.addi v224 arg23
  let v304 : Index := Scalar.indexCast v303
  let c32 : Index := 32#32
  ![v304.toNat, 32]
def k0_off269 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v308 : BitVec 32 := Scalar.addi v224 arg23
  let v309 : Index := Scalar.indexCast v308
  let c48 : Index := 48#32
  ![v309.toNat, 48]
def k0_off270 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v313 : BitVec 32 := Scalar.addi v224 arg23
  let v314 : Index := Scalar.indexCast v313
  let c64 : Index := 64#32
  ![v314.toNat, 64]
def k0_off271 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v318 : BitVec 32 := Scalar.addi v224 arg23
  let v319 : Index := Scalar.indexCast v318
  let c80 : Index := 80#32
  ![v319.toNat, 80]
def k0_off272 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v323 : BitVec 32 := Scalar.addi v224 arg23
  let v324 : Index := Scalar.indexCast v323
  let c96 : Index := 96#32
  ![v324.toNat, 96]
def k0_off273 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v328 : BitVec 32 := Scalar.addi v224 arg23
  let v329 : Index := Scalar.indexCast v328
  let c112 : Index := 112#32
  ![v329.toNat, 112]
def k0_off274 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v333 : BitVec 32 := Scalar.addi v224 arg23
  let v334 : Index := Scalar.indexCast v333
  let c128 : Index := 128#32
  ![v334.toNat, 128]
def k0_off275 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v338 : BitVec 32 := Scalar.addi v224 arg23
  let v339 : Index := Scalar.indexCast v338
  let c144 : Index := 144#32
  ![v339.toNat, 144]
def k0_off276 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v343 : BitVec 32 := Scalar.addi v224 arg23
  let v344 : Index := Scalar.indexCast v343
  let c160 : Index := 160#32
  ![v344.toNat, 160]
def k0_off277 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v348 : BitVec 32 := Scalar.addi v224 arg23
  let v349 : Index := Scalar.indexCast v348
  let c176 : Index := 176#32
  ![v349.toNat, 176]
def k0_off278 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v353 : BitVec 32 := Scalar.addi v224 arg23
  let v354 : Index := Scalar.indexCast v353
  let c192 : Index := 192#32
  ![v354.toNat, 192]
def k0_off279 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v358 : BitVec 32 := Scalar.addi v224 arg23
  let v359 : Index := Scalar.indexCast v358
  let c208 : Index := 208#32
  ![v359.toNat, 208]
def k0_off280 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v363 : BitVec 32 := Scalar.addi v224 arg23
  let v364 : Index := Scalar.indexCast v363
  let c224 : Index := 224#32
  ![v364.toNat, 224]
def k0_off281 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v368 : BitVec 32 := Scalar.addi v224 arg23
  let v369 : Index := Scalar.indexCast v368
  let c240 : Index := 240#32
  ![v369.toNat, 240]
def k0_off282 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v373 : BitVec 32 := Scalar.addi v224 arg23
  let v374 : Index := Scalar.indexCast v373
  let c256 : Index := 256#32
  ![v374.toNat, 256]
def k0_off283 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v378 : BitVec 32 := Scalar.addi v224 arg23
  let v379 : Index := Scalar.indexCast v378
  let c272 : Index := 272#32
  ![v379.toNat, 272]
def k0_off284 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v383 : BitVec 32 := Scalar.addi v224 arg23
  let v384 : Index := Scalar.indexCast v383
  let c288 : Index := 288#32
  ![v384.toNat, 288]
def k0_off285 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v388 : BitVec 32 := Scalar.addi v224 arg23
  let v389 : Index := Scalar.indexCast v388
  let c304 : Index := 304#32
  ![v389.toNat, 304]
def k0_off286 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v393 : BitVec 32 := Scalar.addi v224 arg23
  let v394 : Index := Scalar.indexCast v393
  let c320 : Index := 320#32
  ![v394.toNat, 320]
def k0_off287 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v398 : BitVec 32 := Scalar.addi v224 arg23
  let v399 : Index := Scalar.indexCast v398
  let c336 : Index := 336#32
  ![v399.toNat, 336]
def k0_off288 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v403 : BitVec 32 := Scalar.addi v224 arg23
  let v404 : Index := Scalar.indexCast v403
  let c352 : Index := 352#32
  ![v404.toNat, 352]
def k0_off289 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v408 : BitVec 32 := Scalar.addi v224 arg23
  let v409 : Index := Scalar.indexCast v408
  let c368 : Index := 368#32
  ![v409.toNat, 368]
def k0_off290 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v413 : BitVec 32 := Scalar.addi v224 arg23
  let v414 : Index := Scalar.indexCast v413
  let c384 : Index := 384#32
  ![v414.toNat, 384]
def k0_off291 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v418 : BitVec 32 := Scalar.addi v224 arg23
  let v419 : Index := Scalar.indexCast v418
  let c400 : Index := 400#32
  ![v419.toNat, 400]
def k0_off292 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v423 : BitVec 32 := Scalar.addi v224 arg23
  let v424 : Index := Scalar.indexCast v423
  let c416 : Index := 416#32
  ![v424.toNat, 416]
def k0_off293 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v428 : BitVec 32 := Scalar.addi v224 arg23
  let v429 : Index := Scalar.indexCast v428
  let c432 : Index := 432#32
  ![v429.toNat, 432]
def k0_off294 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v433 : BitVec 32 := Scalar.addi v224 arg23
  let v434 : Index := Scalar.indexCast v433
  let c448 : Index := 448#32
  ![v434.toNat, 448]
def k0_off295 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v438 : BitVec 32 := Scalar.addi v224 arg23
  let v439 : Index := Scalar.indexCast v438
  let c464 : Index := 464#32
  ![v439.toNat, 464]
def k0_off296 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v443 : BitVec 32 := Scalar.addi v224 arg23
  let v444 : Index := Scalar.indexCast v443
  let c480 : Index := 480#32
  ![v444.toNat, 480]
def k0_off297 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v448 : BitVec 32 := Scalar.addi v224 arg23
  let v449 : Index := Scalar.indexCast v448
  let c496 : Index := 496#32
  ![v449.toNat, 496]
def k0_off298 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v453 : BitVec 32 := Scalar.addi v224 arg23
  let v454 : Index := Scalar.indexCast v453
  let c512 : Index := 512#32
  ![v454.toNat, 512]
def k0_off299 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v458 : BitVec 32 := Scalar.addi v224 arg23
  let v459 : Index := Scalar.indexCast v458
  let c528 : Index := 528#32
  ![v459.toNat, 528]
def k0_off300 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v463 : BitVec 32 := Scalar.addi v224 arg23
  let v464 : Index := Scalar.indexCast v463
  let c544 : Index := 544#32
  ![v464.toNat, 544]
def k0_off301 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v468 : BitVec 32 := Scalar.addi v224 arg23
  let v469 : Index := Scalar.indexCast v468
  let c560 : Index := 560#32
  ![v469.toNat, 560]
def k0_off302 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v473 : BitVec 32 := Scalar.addi v224 arg23
  let v474 : Index := Scalar.indexCast v473
  let c576 : Index := 576#32
  ![v474.toNat, 576]
def k0_off303 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v478 : BitVec 32 := Scalar.addi v224 arg23
  let v479 : Index := Scalar.indexCast v478
  let c592 : Index := 592#32
  ![v479.toNat, 592]
def k0_off304 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v483 : BitVec 32 := Scalar.addi v224 arg23
  let v484 : Index := Scalar.indexCast v483
  let c608 : Index := 608#32
  ![v484.toNat, 608]
def k0_off305 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v488 : BitVec 32 := Scalar.addi v224 arg23
  let v489 : Index := Scalar.indexCast v488
  let c624 : Index := 624#32
  ![v489.toNat, 624]
def k0_off306 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v493 : BitVec 32 := Scalar.addi v224 arg23
  let v494 : Index := Scalar.indexCast v493
  let c640 : Index := 640#32
  ![v494.toNat, 640]
def k0_off307 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v498 : BitVec 32 := Scalar.addi v224 arg23
  let v499 : Index := Scalar.indexCast v498
  let c656 : Index := 656#32
  ![v499.toNat, 656]
def k0_off308 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v503 : BitVec 32 := Scalar.addi v224 arg23
  let v504 : Index := Scalar.indexCast v503
  let c672 : Index := 672#32
  ![v504.toNat, 672]
def k0_off309 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v508 : BitVec 32 := Scalar.addi v224 arg23
  let v509 : Index := Scalar.indexCast v508
  let c688 : Index := 688#32
  ![v509.toNat, 688]
def k0_off310 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v513 : BitVec 32 := Scalar.addi v224 arg23
  let v514 : Index := Scalar.indexCast v513
  let c704 : Index := 704#32
  ![v514.toNat, 704]
def k0_off311 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v518 : BitVec 32 := Scalar.addi v224 arg23
  let v519 : Index := Scalar.indexCast v518
  let c720 : Index := 720#32
  ![v519.toNat, 720]
def k0_off312 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v523 : BitVec 32 := Scalar.addi v224 arg23
  let v524 : Index := Scalar.indexCast v523
  let c736 : Index := 736#32
  ![v524.toNat, 736]
def k0_off313 (v18 : BitVec 32) (v24 : BitVec 32) (v35_4 : BitVec 32) (v35_0 : BitVec 32) (k0_t10 : Fin (k0_t10_loop v18 v24 v35_4 v35_0).trips) (v216 : BitVec 32) (v222 : BitVec 32) (k0_t13 : Fin (k0_t13_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t13
  let v528 : BitVec 32 := Scalar.addi v224 arg23
  let v529 : Index := Scalar.indexCast v528
  let c752 : Index := 752#32
  ![v529.toNat, 752]

def k0_chk9_0 (v18 : BitVec 32) (v24 : BitVec 32) (v35_4 : BitVec 32) (v35_0 : BitVec 32) (k0_t10 : Fin (k0_t10_loop v18 v24 v35_4 v35_0).trips) (v216 : BitVec 32) (v222 : BitVec 32) : Prop :=
  (∀ (k0_h14 : k0_cond14 v18 v24 v35_4 v35_0 k0_t10 = 1#1), ∀ (k0_h16 : k0_cond16 v18 v24 v35_4 v35_0 k0_t10 v216 v222 = 1#1), (k0_t12_loop v18 v24 v35_4 v35_0 k0_t10 v216 v222).OK) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off218 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off219 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off220 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off221 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off222 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off223 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off224 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off225 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off226 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off227 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off228 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off229 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off230 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off231 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off232 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off233 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off234 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off235 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off236 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off237 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off238 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off239 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off240 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off241 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off242 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off243 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off244 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off245 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off246 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off247 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off248 v18 v24 v35_4 v35_0 k0_t10 v216 v222 k0_t12) a + S1x16.size a ≤ S32x768.size a)
def k0_chk9_1 (v18 : BitVec 32) (v24 : BitVec 32) (v35_4 : BitVec 32) (v35_0 : BitVec 32) (k0_t10 : Fin (k0_t10_loop v18 v24 v35_4 v35_0).trips) (v216 : BitVec 32) (v222 : BitVec 32) : Prop :=
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off249 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off250 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off251 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off252 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off253 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off254 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off255 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off256 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off257 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off258 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off259 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off260 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off261 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off262 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off263 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off264 v18 v24 v35_4 v35_0 k0_t10 v216 v222 k0_t12) a + S1x16.size a ≤ S32x768.size a) ∧
  (∀ k0_t12 : Fin (k0_t12_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off265 v18 v24 v35_4 v35_0 k0_t10 v216 v222 k0_t12) a + S1x16.size a ≤ S32x768.size a) ∧
  (∀ (k0_h14 : k0_cond14 v18 v24 v35_4 v35_0 k0_t10 = 1#1), ∀ (k0_h16 : k0_cond16 v18 v24 v35_4 v35_0 k0_t10 v216 v222 = 1#1), (k0_t13_loop v18 v24 v35_4 v35_0 k0_t10 v216 v222).OK) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off266 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off267 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off268 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off269 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off270 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off271 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off272 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off273 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off274 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off275 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off276 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off277 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off278 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off279 v18 v24 v35_4 v35_0 k0_t10 v216 v222 k0_t13) a + S1x16.size a ≤ S32x768.size a)
def k0_chk9_2 (v18 : BitVec 32) (v24 : BitVec 32) (v35_4 : BitVec 32) (v35_0 : BitVec 32) (k0_t10 : Fin (k0_t10_loop v18 v24 v35_4 v35_0).trips) (v216 : BitVec 32) (v222 : BitVec 32) : Prop :=
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off280 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off281 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off282 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off283 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off284 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off285 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off286 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off287 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off288 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off289 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off290 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off291 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off292 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off293 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off294 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off295 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off296 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off297 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off298 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off299 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off300 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off301 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off302 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off303 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off304 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off305 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off306 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off307 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off308 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off309 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off310 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off311 v18 v24 v35_4 v35_0 k0_t10 v216 v222 k0_t13) a + S1x16.size a ≤ S32x768.size a)
def k0_chk9_3 (v18 : BitVec 32) (v24 : BitVec 32) (v35_4 : BitVec 32) (v35_0 : BitVec 32) (k0_t10 : Fin (k0_t10_loop v18 v24 v35_4 v35_0).trips) (v216 : BitVec 32) (v222 : BitVec 32) : Prop :=
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off312 v18 v24 v35_4 v35_0 k0_t10 v216 v222 k0_t13) a + S1x16.size a ≤ S32x768.size a) ∧
  (∀ k0_t13 : Fin (k0_t13_loop v18 v24 v35_4 v35_0 k0_t10 v216 v222).trips, ∀ (k0_h14 : k0_cond14 v18 v24 v35_4 v35_0 k0_t10 = 1#1), ∀ (k0_h16 : k0_cond16 v18 v24 v35_4 v35_0 k0_t10 v216 v222 = 1#1), ∀ a, (k0_off313 v18 v24 v35_4 v35_0 k0_t10 v216 v222 k0_t13) a + S1x16.size a ≤ S32x768.size a)
def k0_chk9 (v18 : BitVec 32) (v24 : BitVec 32) (v35_4 : BitVec 32) (v35_0 : BitVec 32) (k0_t10 : Fin (k0_t10_loop v18 v24 v35_4 v35_0).trips) (v216 : BitVec 32) (v222 : BitVec 32) : Prop :=
  k0_chk9_0 v18 v24 v35_4 v35_0 k0_t10 v216 v222 ∧
  k0_chk9_1 v18 v24 v35_4 v35_0 k0_t10 v216 v222 ∧
  k0_chk9_2 v18 v24 v35_4 v35_0 k0_t10 v216 v222 ∧
  k0_chk9_3 v18 v24 v35_4 v35_0 k0_t10 v216 v222
theorem k0_t12_ok : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222), ∀ (k0_h14 : k0_cond14 v18 v24 v35_4 v35_0 k0_t10 = 1#1), ∀ (k0_h16 : k0_cond16 v18 v24 v35_4 v35_0 k0_t10 v216 v222 = 1#1), (k0_t12_loop v18 v24 v35_4 v35_0 k0_t10 v216 v222).OK := fun v18 v24 v35_4 v35_0 k0_t10 v216 v222 k0_hw9 k0_h14 k0_h16 => k0_hw9.1.1 k0_h14 k0_h16
theorem k0_off218_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off218 v18 v24 v35_4 v35_0 k0_t10 v216 v222 k0_t12) a + S1x16.size a ≤ S32x768.size a := fun v18 v24 v35_4 v35_0 k0_t10 v216 v222 k0_hw9 k0_t12 k0_h14 k0_h16 => k0_hw9.1.2.1 k0_t12 k0_h14 k0_h16
theorem k0_off219_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off219 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.1 k0_t12 k0_h14 k0_h16
theorem k0_off220_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off220 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.1 k0_t12 k0_h14 k0_h16
theorem k0_off221_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off221 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.1 k0_t12 k0_h14 k0_h16
theorem k0_off222_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off222 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.1 k0_t12 k0_h14 k0_h16
theorem k0_off223_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off223 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.1 k0_t12 k0_h14 k0_h16
theorem k0_off224_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off224 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.1 k0_t12 k0_h14 k0_h16
theorem k0_off225_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off225 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.1 k0_t12 k0_h14 k0_h16
theorem k0_off226_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off226 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.1 k0_t12 k0_h14 k0_h16
theorem k0_off227_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off227 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.1 k0_t12 k0_h14 k0_h16
theorem k0_off228_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off228 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.1 k0_t12 k0_h14 k0_h16
theorem k0_off229_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off229 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.1 k0_t12 k0_h14 k0_h16
theorem k0_off230_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off230 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.1 k0_t12 k0_h14 k0_h16
theorem k0_off231_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off231 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.1 k0_t12 k0_h14 k0_h16
theorem k0_off232_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off232 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.1 k0_t12 k0_h14 k0_h16
theorem k0_off233_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off233 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.1 k0_t12 k0_h14 k0_h16
theorem k0_off234_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off234 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.1 k0_t12 k0_h14 k0_h16
theorem k0_off235_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off235 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.1 k0_t12 k0_h14 k0_h16
theorem k0_off236_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off236 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.1 k0_t12 k0_h14 k0_h16
theorem k0_off237_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off237 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.1 k0_t12 k0_h14 k0_h16
theorem k0_off238_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off238 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.1 k0_t12 k0_h14 k0_h16
theorem k0_off239_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off239 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.2.1 k0_t12 k0_h14 k0_h16
theorem k0_off240_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off240 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.2.2.1 k0_t12 k0_h14 k0_h16
theorem k0_off241_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off241 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.2.2.2.1 k0_t12 k0_h14 k0_h16
theorem k0_off242_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off242 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.2.2.2.2.1 k0_t12 k0_h14 k0_h16
theorem k0_off243_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off243 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.2.2.2.2.2.1 k0_t12 k0_h14 k0_h16
theorem k0_off244_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off244 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.2.2.2.2.2.2.1 k0_t12 k0_h14 k0_h16
theorem k0_off245_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off245 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.2.2.2.2.2.2.2.1 k0_t12 k0_h14 k0_h16
theorem k0_off246_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off246 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.2.2.2.2.2.2.2.2.1 k0_t12 k0_h14 k0_h16
theorem k0_off247_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off247 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.2.2.2.2.2.2.2.2.2.1 k0_t12 k0_h14 k0_h16
theorem k0_off248_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off248 v18 v24 v35_4 v35_0 k0_t10 v216 v222 k0_t12) a + S1x16.size a ≤ S32x768.size a := fun v18 v24 v35_4 v35_0 k0_t10 v216 v222 k0_hw9 k0_t12 k0_h14 k0_h16 => k0_hw9.1.2.2.2.2.2.2.2.2.2.2.2.2.2.2.2.2.2.2.2.2.2.2.2.2.2.2.2.2.2.2.2 k0_t12 k0_h14 k0_h16
theorem k0_off249_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off249 v18 v24 v35_4 v35_0 k0_t10 v216 v222 k0_t12) a + S1x16.size a ≤ S32x768.size a := fun v18 v24 v35_4 v35_0 k0_t10 v216 v222 k0_hw9 k0_t12 k0_h14 k0_h16 => k0_hw9.2.1.1 k0_t12 k0_h14 k0_h16
theorem k0_off250_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off250 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.1 k0_t12 k0_h14 k0_h16
theorem k0_off251_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off251 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.1 k0_t12 k0_h14 k0_h16
theorem k0_off252_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off252 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.1 k0_t12 k0_h14 k0_h16
theorem k0_off253_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off253 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.1 k0_t12 k0_h14 k0_h16
theorem k0_off254_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off254 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.1 k0_t12 k0_h14 k0_h16
theorem k0_off255_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off255 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.1 k0_t12 k0_h14 k0_h16
theorem k0_off256_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off256 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.2.1 k0_t12 k0_h14 k0_h16
theorem k0_off257_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off257 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.2.2.1 k0_t12 k0_h14 k0_h16
theorem k0_off258_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off258 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.2.2.2.1 k0_t12 k0_h14 k0_h16
theorem k0_off259_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off259 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.2.2.2.2.1 k0_t12 k0_h14 k0_h16
theorem k0_off260_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off260 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.2.2.2.2.2.1 k0_t12 k0_h14 k0_h16
theorem k0_off261_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off261 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.2.2.2.2.2.2.1 k0_t12 k0_h14 k0_h16
theorem k0_off262_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off262 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.2.2.2.2.2.2.2.1 k0_t12 k0_h14 k0_h16
theorem k0_off263_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off263 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.2.2.2.2.2.2.2.2.1 k0_t12 k0_h14 k0_h16
theorem k0_off264_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off264 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.2.2.2.2.2.2.2.2.2.1 k0_t12 k0_h14 k0_h16
theorem k0_off265_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t12 : Fin (k0_t12_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off265 v18 v24 v35_4 v35_0 k0_t10 v216 v222 k0_t12) a + S1x16.size a ≤ S32x768.size a := fun v18 v24 v35_4 v35_0 k0_t10 v216 v222 k0_hw9 k0_t12 k0_h14 k0_h16 => k0_hw9.2.1.2.2.2.2.2.2.2.2.2.2.2.2.2.2.2.2.1 k0_t12 k0_h14 k0_h16
theorem k0_t13_ok : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222), ∀ (k0_h14 : k0_cond14 v18 v24 v35_4 v35_0 k0_t10 = 1#1), ∀ (k0_h16 : k0_cond16 v18 v24 v35_4 v35_0 k0_t10 v216 v222 = 1#1), (k0_t13_loop v18 v24 v35_4 v35_0 k0_t10 v216 v222).OK := fun v18 v24 v35_4 v35_0 k0_t10 v216 v222 k0_hw9 k0_h14 k0_h16 => k0_hw9.2.1.2.2.2.2.2.2.2.2.2.2.2.2.2.2.2.2.2.1 k0_h14 k0_h16
theorem k0_off266_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off266 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.1 k0_t13 k0_h14 k0_h16
theorem k0_off267_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off267 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.1 k0_t13 k0_h14 k0_h16
theorem k0_off268_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off268 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.1 k0_t13 k0_h14 k0_h16
theorem k0_off269_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off269 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.1 k0_t13 k0_h14 k0_h16
theorem k0_off270_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off270 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.2.1 k0_t13 k0_h14 k0_h16
theorem k0_off271_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off271 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.2.2.1 k0_t13 k0_h14 k0_h16
theorem k0_off272_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off272 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.2.2.2.1 k0_t13 k0_h14 k0_h16
theorem k0_off273_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off273 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.2.2.2.2.1 k0_t13 k0_h14 k0_h16
theorem k0_off274_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off274 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.2.2.2.2.2.1 k0_t13 k0_h14 k0_h16
theorem k0_off275_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off275 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.2.2.2.2.2.2.1 k0_t13 k0_h14 k0_h16
theorem k0_off276_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off276 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.2.2.2.2.2.2.2.1 k0_t13 k0_h14 k0_h16
theorem k0_off277_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off277 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.2.2.2.2.2.2.2.2.1 k0_t13 k0_h14 k0_h16
theorem k0_off278_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off278 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.2.2.2.2.2.2.2.2.2.1 k0_t13 k0_h14 k0_h16
theorem k0_off279_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off279 v18 v24 v35_4 v35_0 k0_t10 v216 v222 k0_t13) a + S1x16.size a ≤ S32x768.size a := fun v18 v24 v35_4 v35_0 k0_t10 v216 v222 k0_hw9 k0_t13 k0_h14 k0_h16 => k0_hw9.2.1.2.2.2.2.2.2.2.2.2.2.2.2.2.2.2.2.2.2.2.2.2.2.2.2.2.2.2.2.2.2.2 k0_t13 k0_h14 k0_h16
theorem k0_off280_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off280 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.1 k0_t13 k0_h14 k0_h16
theorem k0_off281_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off281 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.1 k0_t13 k0_h14 k0_h16
theorem k0_off282_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off282 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.1 k0_t13 k0_h14 k0_h16
theorem k0_off283_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off283 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.1 k0_t13 k0_h14 k0_h16
theorem k0_off284_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off284 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.1 k0_t13 k0_h14 k0_h16
theorem k0_off285_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off285 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.1 k0_t13 k0_h14 k0_h16
theorem k0_off286_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off286 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.1 k0_t13 k0_h14 k0_h16
theorem k0_off287_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off287 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.1 k0_t13 k0_h14 k0_h16
theorem k0_off288_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off288 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.1 k0_t13 k0_h14 k0_h16
theorem k0_off289_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off289 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.1 k0_t13 k0_h14 k0_h16
theorem k0_off290_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off290 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.1 k0_t13 k0_h14 k0_h16
theorem k0_off291_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off291 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.1 k0_t13 k0_h14 k0_h16
theorem k0_off292_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off292 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.1 k0_t13 k0_h14 k0_h16
theorem k0_off293_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off293 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.1 k0_t13 k0_h14 k0_h16
theorem k0_off294_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off294 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.1 k0_t13 k0_h14 k0_h16
theorem k0_off295_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off295 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.1 k0_t13 k0_h14 k0_h16
theorem k0_off296_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off296 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.1 k0_t13 k0_h14 k0_h16
theorem k0_off297_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off297 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.1 k0_t13 k0_h14 k0_h16
theorem k0_off298_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off298 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.1 k0_t13 k0_h14 k0_h16
theorem k0_off299_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off299 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.1 k0_t13 k0_h14 k0_h16
theorem k0_off300_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off300 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.1 k0_t13 k0_h14 k0_h16
theorem k0_off301_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off301 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.1 k0_t13 k0_h14 k0_h16
theorem k0_off302_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off302 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.2.1 k0_t13 k0_h14 k0_h16
theorem k0_off303_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off303 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.2.2.1 k0_t13 k0_h14 k0_h16
theorem k0_off304_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off304 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.2.2.2.1 k0_t13 k0_h14 k0_h16
theorem k0_off305_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off305 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.2.2.2.2.1 k0_t13 k0_h14 k0_h16
theorem k0_off306_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off306 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.2.2.2.2.2.1 k0_t13 k0_h14 k0_h16
theorem k0_off307_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off307 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.2.2.2.2.2.2.1 k0_t13 k0_h14 k0_h16
theorem k0_off308_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off308 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.2.2.2.2.2.2.2.1 k0_t13 k0_h14 k0_h16
theorem k0_off309_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off309 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.2.2.2.2.2.2.2.2.1 k0_t13 k0_h14 k0_h16
theorem k0_off310_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off310 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.2.2.2.2.2.2.2.2.2.1 k0_t13 k0_h14 k0_h16
theorem k0_off311_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off311 v18 v24 v35_4 v35_0 k0_t10 v216 v222 k0_t13) a + S1x16.size a ≤ S32x768.size a := fun v18 v24 v35_4 v35_0 k0_t10 v216 v222 k0_hw9 k0_t13 k0_h14 k0_h16 => k0_hw9.2.2.1.2.2.2.2.2.2.2.2.2.2.2.2.2.2.2.2.2.2.2.2.2.2.2.2.2.2.2.2.2.2.2 k0_t13 k0_h14 k0_h16
theorem k0_off312_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off312 v18 v24 v35_4 v35_0 k0_t10 v216 v222 k0_t13) a + S1x16.size a ≤ S32x768.size a := fun v18 v24 v35_4 v35_0 k0_t10 v216 v222 k0_hw9 k0_t13 k0_h14 k0_h16 => k0_hw9.2.2.2.1 k0_t13 k0_h14 k0_h16
theorem k0_off313_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw9 : k0_chk9 v18 v24 v35_4 v35_0 k0_t10 v216 v222) (k0_t13 : Fin (k0_t13_loop v18 v24 v35_4 v35_0 k0_t10 v216 v222).trips), ∀ (k0_h14 : k0_cond14 v18 v24 v35_4 v35_0 k0_t10 = 1#1), ∀ (k0_h16 : k0_cond16 v18 v24 v35_4 v35_0 k0_t10 v216 v222 = 1#1), ∀ a, (k0_off313 v18 v24 v35_4 v35_0 k0_t10 v216 v222 k0_t13) a + S1x16.size a ≤ S32x768.size a := fun v18 v24 v35_4 v35_0 k0_t10 v216 v222 k0_hw9 k0_t13 k0_h14 k0_h16 => k0_hw9.2.2.2.2 k0_t13 k0_h14 k0_h16

def k0_off314 (k0_t11 : Fin k0_t11_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t11
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_off315 (k0_t11 : Fin k0_t11_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t11
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_mult9 (v18 : BitVec 32) (v24 : BitVec 32) (v35_4 : BitVec 32) (v35_0 : BitVec 32) (k0_t10 : Fin (k0_t10_loop v18 v24 v35_4 v35_0).trips) : BitVec 32 :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let c4064_i32 : BitVec 32 := 4064#32
  let v198 : BitVec 32 := Scalar.minsi v197 c4064_i32
  v198
def k0_cond19 (v18 : BitVec 32) (v24 : BitVec 32) (v35_4 : BitVec 32) (v35_0 : BitVec 32) (k0_t10 : Fin (k0_t10_loop v18 v24 v35_4 v35_0).trips) : BitVec 1 :=
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let v193 : BitVec 1 := Scalar.cmpi .slt v192 v79
  let v194 : BitVec 32 := Scalar.extui v193
  let c0_i32_121 : BitVec 32 := 0#32
  let v195 : BitVec 1 := Scalar.cmpi .ne v194 c0_i32_121
  v195

def k0_off316 (k0_t1 : Fin k0_t1_loop.trips) (v18 : BitVec 32) (v24 : BitVec 32) (v35_4 : BitVec 32) (v35_0 : BitVec 32) (k0_t10 : Fin (k0_t10_loop v18 v24 v35_4 v35_0).trips) : Fin 3 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let c4064_i32 : BitVec 32 := 4064#32
  let v198 : BitVec 32 := Scalar.minsi v197 c4064_i32
  let v199 : BitVec 32 := v198
  let c0_i32_122 : BitVec 32 := 0#32
  ![v13.toNat, v199.toNat, 0]
def k0_mult10 (v18 : BitVec 32) (v24 : BitVec 32) (v35_4 : BitVec 32) (v35_0 : BitVec 32) (k0_t10 : Fin (k0_t10_loop v18 v24 v35_4 v35_0).trips) : BitVec 32 :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c1_i32_132 : BitVec 32 := 1#32
  let v212 : BitVec 32 := Scalar.addi v192 c1_i32_132
  let c32_i32_133 : BitVec 32 := 32#32
  let v213 : BitVec 32 := Scalar.muli v212 c32_i32_133
  let v214 : BitVec 32 := Scalar.addi v74 v213
  let c4064_i32_134 : BitVec 32 := 4064#32
  let v215 : BitVec 32 := Scalar.minsi v214 c4064_i32_134
  v215
def k0_cond20 (v18 : BitVec 32) (v24 : BitVec 32) (v35_4 : BitVec 32) (v35_0 : BitVec 32) (k0_t10 : Fin (k0_t10_loop v18 v24 v35_4 v35_0).trips) : BitVec 1 :=
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let v75 : BitVec 1 := Scalar.cmpi .sgt v50 v38
  let c_m16_i32 : BitVec 32 := 4294967280#32
  let v74 : BitVec 32 := Scalar.andi v38 c_m16_i32
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c1_i32_124 : BitVec 32 := 1#32
  let v204 : BitVec 32 := Scalar.addi v192 c1_i32_124
  let v205 : BitVec 1 := Scalar.cmpi .slt v204 v79
  let v206 : BitVec 32 := Scalar.extui v205
  let c0_i32_125 : BitVec 32 := 0#32
  let v207 : BitVec 1 := Scalar.cmpi .ne v206 c0_i32_125
  v207

def k0_off317 (k0_t1 : Fin k0_t1_loop.trips) (v18 : BitVec 32) (v24 : BitVec 32) (v35_4 : BitVec 32) (v35_0 : BitVec 32) (k0_t10 : Fin (k0_t10_loop v18 v24 v35_4 v35_0).trips) : Fin 3 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c1_i32_132 : BitVec 32 := 1#32
  let v212 : BitVec 32 := Scalar.addi v192 c1_i32_132
  let c32_i32_133 : BitVec 32 := 32#32
  let v213 : BitVec 32 := Scalar.muli v212 c32_i32_133
  let v214 : BitVec 32 := Scalar.addi v74 v213
  let c4064_i32_134 : BitVec 32 := 4064#32
  let v215 : BitVec 32 := Scalar.minsi v214 c4064_i32_134
  let v216 : BitVec 32 := v215
  let c0_i32_135 : BitVec 32 := 0#32
  ![v13.toNat, v216.toNat, 0]

def k0_chk6 (k0_t1 : Fin k0_t1_loop.trips) (v18 : BitVec 32) (v24 : BitVec 32) (v35_4 : BitVec 32) (v35_0 : BitVec 32) : Prop :=
  (∀ (k0_h3 : k0_cond3 v18 v24 v35_4 v35_0 = 1#1), 16 ∣ (k0_mult2 v18 v24 v35_0).toNat) ∧
  (∀ (k0_h3 : k0_cond3 v18 v24 v35_4 v35_0 = 1#1), ∀ a, (k0_off9 k0_t1 v18 v24 v35_0) a + S1x32x768.size a ≤ S16x4096x768.size a) ∧
  ((k0_t3_loop v18 v24 v35_4 v35_0).OK) ∧
  (∀ k0_t3 : Fin (k0_t3_loop v18 v24 v35_4 v35_0).trips, ∀ (k0_h4 : k0_cond4 v18 v24 v35_4 v35_0 k0_t3 = 1#1), 16 ∣ (k0_mult3 v18 v24 v35_4 v35_0 k0_t3).toNat) ∧
  (∀ k0_t3 : Fin (k0_t3_loop v18 v24 v35_4 v35_0).trips, ∀ (k0_h4 : k0_cond4 v18 v24 v35_4 v35_0 k0_t3 = 1#1), ∀ a, (k0_off10 k0_t1 v18 v24 v35_4 v35_0 k0_t3) a + S1x32x768.size a ≤ S16x4096x768.size a) ∧
  (∀ k0_t3 : Fin (k0_t3_loop v18 v24 v35_4 v35_0).trips, ∀ (k0_h4 : k0_cond4 v18 v24 v35_4 v35_0 k0_t3 = 1#1), ∀ (k0_h5 : k0_cond5 v18 v24 v35_4 v35_0 k0_t3 = 1#1), 16 ∣ (k0_mult4 v18 v24 v35_4 v35_0 k0_t3).toNat) ∧
  (∀ k0_t3 : Fin (k0_t3_loop v18 v24 v35_4 v35_0).trips, ∀ (k0_h4 : k0_cond4 v18 v24 v35_4 v35_0 k0_t3 = 1#1), ∀ (k0_h5 : k0_cond5 v18 v24 v35_4 v35_0 k0_t3 = 1#1), ∀ a, (k0_off11 k0_t1 v18 v24 v35_4 v35_0 k0_t3) a + S1x32x768.size a ≤ S16x4096x768.size a) ∧
  (∀ k0_t3 : Fin (k0_t3_loop v18 v24 v35_4 v35_0).trips, ∀ (k0_h9 : k0_cond9 v18 v24 v35_4 v35_0 k0_t3 = 1#1), 16 ∣ (k0_mult5 v18 v24 v35_4 v35_0 k0_t3).toNat) ∧
  (∀ k0_t3 : Fin (k0_t3_loop v18 v24 v35_4 v35_0).trips, ∀ (k0_h9 : k0_cond9 v18 v24 v35_4 v35_0 k0_t3 = 1#1), ∀ a, (k0_off112 k0_t1 v18 v24 v35_4 v35_0 k0_t3) a + S1x32x768.size a ≤ S16x4096x768.size a) ∧
  (∀ k0_t3 : Fin (k0_t3_loop v18 v24 v35_4 v35_0).trips, ∀ (k0_h9 : k0_cond9 v18 v24 v35_4 v35_0 k0_t3 = 1#1), ∀ (k0_h10 : k0_cond10 v18 v24 v35_4 v35_0 k0_t3 = 1#1), 16 ∣ (k0_mult6 v18 v24 v35_4 v35_0 k0_t3).toNat) ∧
  (∀ k0_t3 : Fin (k0_t3_loop v18 v24 v35_4 v35_0).trips, ∀ (k0_h9 : k0_cond9 v18 v24 v35_4 v35_0 k0_t3 = 1#1), ∀ (k0_h10 : k0_cond10 v18 v24 v35_4 v35_0 k0_t3 = 1#1), ∀ a, (k0_off113 k0_t1 v18 v24 v35_4 v35_0 k0_t3) a + S1x32x768.size a ≤ S16x4096x768.size a) ∧
  ((k0_t10_loop v18 v24 v35_4 v35_0).OK) ∧
  (∀ k0_t10 : Fin (k0_t10_loop v18 v24 v35_4 v35_0).trips, ∀ (k0_h14 : k0_cond14 v18 v24 v35_4 v35_0 k0_t10 = 1#1), 16 ∣ (k0_mult7 v18 v24 v35_4 v35_0 k0_t10).toNat) ∧
  (∀ k0_t10 : Fin (k0_t10_loop v18 v24 v35_4 v35_0).trips, ∀ (k0_h14 : k0_cond14 v18 v24 v35_4 v35_0 k0_t10 = 1#1), ∀ a, (k0_off214 k0_t1 v18 v24 v35_4 v35_0 k0_t10) a + S1x32x768.size a ≤ S16x4096x768.size a) ∧
  (∀ k0_t10 : Fin (k0_t10_loop v18 v24 v35_4 v35_0).trips, ∀ (k0_h14 : k0_cond14 v18 v24 v35_4 v35_0 k0_t10 = 1#1), ∀ (k0_h15 : k0_cond15 v18 v24 v35_4 v35_0 k0_t10 = 1#1), 16 ∣ (k0_mult8 v18 v24 v35_4 v35_0 k0_t10).toNat) ∧
  (∀ k0_t10 : Fin (k0_t10_loop v18 v24 v35_4 v35_0).trips, ∀ (k0_h14 : k0_cond14 v18 v24 v35_4 v35_0 k0_t10 = 1#1), ∀ (k0_h15 : k0_cond15 v18 v24 v35_4 v35_0 k0_t10 = 1#1), ∀ a, (k0_off215 k0_t1 v18 v24 v35_4 v35_0 k0_t10) a + S1x32x768.size a ≤ S16x4096x768.size a) ∧
  (∀ k0_t10 : Fin (k0_t10_loop v18 v24 v35_4 v35_0).trips, ∀ (k0_h19 : k0_cond19 v18 v24 v35_4 v35_0 k0_t10 = 1#1), 16 ∣ (k0_mult9 v18 v24 v35_4 v35_0 k0_t10).toNat) ∧
  (∀ k0_t10 : Fin (k0_t10_loop v18 v24 v35_4 v35_0).trips, ∀ (k0_h19 : k0_cond19 v18 v24 v35_4 v35_0 k0_t10 = 1#1), ∀ a, (k0_off316 k0_t1 v18 v24 v35_4 v35_0 k0_t10) a + S1x32x768.size a ≤ S16x4096x768.size a) ∧
  (∀ k0_t10 : Fin (k0_t10_loop v18 v24 v35_4 v35_0).trips, ∀ (k0_h19 : k0_cond19 v18 v24 v35_4 v35_0 k0_t10 = 1#1), ∀ (k0_h20 : k0_cond20 v18 v24 v35_4 v35_0 k0_t10 = 1#1), 16 ∣ (k0_mult10 v18 v24 v35_4 v35_0 k0_t10).toNat) ∧
  (∀ k0_t10 : Fin (k0_t10_loop v18 v24 v35_4 v35_0).trips, ∀ (k0_h19 : k0_cond19 v18 v24 v35_4 v35_0 k0_t10 = 1#1), ∀ (k0_h20 : k0_cond20 v18 v24 v35_4 v35_0 k0_t10 = 1#1), ∀ a, (k0_off317 k0_t1 v18 v24 v35_4 v35_0 k0_t10) a + S1x32x768.size a ≤ S16x4096x768.size a)
theorem k0_mult2_dvd : ∀ (k0_t1 : Fin k0_t1_loop.trips) (v18 : BitVec 32) (v24 : BitVec 32) (v35_4 : BitVec 32) (v35_0 : BitVec 32) (k0_hw6 : k0_chk6 k0_t1 v18 v24 v35_4 v35_0), ∀ (k0_h3 : k0_cond3 v18 v24 v35_4 v35_0 = 1#1), 16 ∣ (k0_mult2 v18 v24 v35_0).toNat := fun k0_t1 v18 v24 v35_4 v35_0 k0_hw6 k0_h3 => k0_hw6.1 k0_h3
theorem k0_off9_inb : ∀ (k0_t1 : Fin k0_t1_loop.trips) (v18 : BitVec 32) (v24 : BitVec 32) (v35_4 : BitVec 32) (v35_0 : BitVec 32) (k0_hw6 : k0_chk6 k0_t1 v18 v24 v35_4 v35_0), ∀ (k0_h3 : k0_cond3 v18 v24 v35_4 v35_0 = 1#1), ∀ a, (k0_off9 k0_t1 v18 v24 v35_0) a + S1x32x768.size a ≤ S16x4096x768.size a := fun k0_t1 v18 v24 v35_4 v35_0 k0_hw6 k0_h3 => k0_hw6.2.1 k0_h3
theorem k0_t3_ok : ∀ (k0_t1 : Fin k0_t1_loop.trips) (v18 : BitVec 32) (v24 : BitVec 32) (v35_4 : BitVec 32) (v35_0 : BitVec 32) (k0_hw6 : k0_chk6 k0_t1 v18 v24 v35_4 v35_0), (k0_t3_loop v18 v24 v35_4 v35_0).OK := fun k0_t1 v18 v24 v35_4 v35_0 k0_hw6 => k0_hw6.2.2.1
theorem k0_mult3_dvd : ∀ (k0_t1 : Fin k0_t1_loop.trips) (v18 : BitVec 32) (v24 : BitVec 32) (v35_4 : BitVec 32) (v35_0 : BitVec 32) (k0_hw6 : k0_chk6 k0_t1 v18 v24 v35_4 v35_0) (k0_t3 : Fin (k0_t3_loop v18 v24 v35_4 v35_0).trips), ∀ (k0_h4 : k0_cond4 v18 v24 v35_4 v35_0 k0_t3 = 1#1), 16 ∣ (k0_mult3 v18 v24 v35_4 v35_0 k0_t3).toNat := fun k0_t1 v18 v24 v35_4 v35_0 k0_hw6 k0_t3 k0_h4 => k0_hw6.2.2.2.1 k0_t3 k0_h4
theorem k0_off10_inb : ∀ (k0_t1 : Fin k0_t1_loop.trips) (v18 : BitVec 32) (v24 : BitVec 32) (v35_4 : BitVec 32) (v35_0 : BitVec 32) (k0_hw6 : k0_chk6 k0_t1 v18 v24 v35_4 v35_0) (k0_t3 : Fin (k0_t3_loop v18 v24 v35_4 v35_0).trips), ∀ (k0_h4 : k0_cond4 v18 v24 v35_4 v35_0 k0_t3 = 1#1), ∀ a, (k0_off10 k0_t1 v18 v24 v35_4 v35_0 k0_t3) a + S1x32x768.size a ≤ S16x4096x768.size a := fun k0_t1 v18 v24 v35_4 v35_0 k0_hw6 k0_t3 k0_h4 => k0_hw6.2.2.2.2.1 k0_t3 k0_h4
theorem k0_mult4_dvd : ∀ (k0_t1 : Fin k0_t1_loop.trips) (v18 : BitVec 32) (v24 : BitVec 32) (v35_4 : BitVec 32) (v35_0 : BitVec 32) (k0_hw6 : k0_chk6 k0_t1 v18 v24 v35_4 v35_0) (k0_t3 : Fin (k0_t3_loop v18 v24 v35_4 v35_0).trips), ∀ (k0_h4 : k0_cond4 v18 v24 v35_4 v35_0 k0_t3 = 1#1), ∀ (k0_h5 : k0_cond5 v18 v24 v35_4 v35_0 k0_t3 = 1#1), 16 ∣ (k0_mult4 v18 v24 v35_4 v35_0 k0_t3).toNat := fun k0_t1 v18 v24 v35_4 v35_0 k0_hw6 k0_t3 k0_h4 k0_h5 => k0_hw6.2.2.2.2.2.1 k0_t3 k0_h4 k0_h5
theorem k0_off11_inb : ∀ (k0_t1 : Fin k0_t1_loop.trips) (v18 : BitVec 32) (v24 : BitVec 32) (v35_4 : BitVec 32) (v35_0 : BitVec 32) (k0_hw6 : k0_chk6 k0_t1 v18 v24 v35_4 v35_0) (k0_t3 : Fin (k0_t3_loop v18 v24 v35_4 v35_0).trips), ∀ (k0_h4 : k0_cond4 v18 v24 v35_4 v35_0 k0_t3 = 1#1), ∀ (k0_h5 : k0_cond5 v18 v24 v35_4 v35_0 k0_t3 = 1#1), ∀ a, (k0_off11 k0_t1 v18 v24 v35_4 v35_0 k0_t3) a + S1x32x768.size a ≤ S16x4096x768.size a := fun k0_t1 v18 v24 v35_4 v35_0 k0_hw6 k0_t3 k0_h4 k0_h5 => k0_hw6.2.2.2.2.2.2.1 k0_t3 k0_h4 k0_h5
theorem k0_mult5_dvd : ∀ (k0_t1 : Fin k0_t1_loop.trips) (v18 : BitVec 32) (v24 : BitVec 32) (v35_4 : BitVec 32) (v35_0 : BitVec 32) (k0_hw6 : k0_chk6 k0_t1 v18 v24 v35_4 v35_0) (k0_t3 : Fin (k0_t3_loop v18 v24 v35_4 v35_0).trips), ∀ (k0_h9 : k0_cond9 v18 v24 v35_4 v35_0 k0_t3 = 1#1), 16 ∣ (k0_mult5 v18 v24 v35_4 v35_0 k0_t3).toNat := fun k0_t1 v18 v24 v35_4 v35_0 k0_hw6 k0_t3 k0_h9 => k0_hw6.2.2.2.2.2.2.2.1 k0_t3 k0_h9
theorem k0_off112_inb : ∀ (k0_t1 : Fin k0_t1_loop.trips) (v18 : BitVec 32) (v24 : BitVec 32) (v35_4 : BitVec 32) (v35_0 : BitVec 32) (k0_hw6 : k0_chk6 k0_t1 v18 v24 v35_4 v35_0) (k0_t3 : Fin (k0_t3_loop v18 v24 v35_4 v35_0).trips), ∀ (k0_h9 : k0_cond9 v18 v24 v35_4 v35_0 k0_t3 = 1#1), ∀ a, (k0_off112 k0_t1 v18 v24 v35_4 v35_0 k0_t3) a + S1x32x768.size a ≤ S16x4096x768.size a := fun k0_t1 v18 v24 v35_4 v35_0 k0_hw6 k0_t3 k0_h9 => k0_hw6.2.2.2.2.2.2.2.2.1 k0_t3 k0_h9
theorem k0_mult6_dvd : ∀ (k0_t1 : Fin k0_t1_loop.trips) (v18 : BitVec 32) (v24 : BitVec 32) (v35_4 : BitVec 32) (v35_0 : BitVec 32) (k0_hw6 : k0_chk6 k0_t1 v18 v24 v35_4 v35_0) (k0_t3 : Fin (k0_t3_loop v18 v24 v35_4 v35_0).trips), ∀ (k0_h9 : k0_cond9 v18 v24 v35_4 v35_0 k0_t3 = 1#1), ∀ (k0_h10 : k0_cond10 v18 v24 v35_4 v35_0 k0_t3 = 1#1), 16 ∣ (k0_mult6 v18 v24 v35_4 v35_0 k0_t3).toNat := fun k0_t1 v18 v24 v35_4 v35_0 k0_hw6 k0_t3 k0_h9 k0_h10 => k0_hw6.2.2.2.2.2.2.2.2.2.1 k0_t3 k0_h9 k0_h10
theorem k0_off113_inb : ∀ (k0_t1 : Fin k0_t1_loop.trips) (v18 : BitVec 32) (v24 : BitVec 32) (v35_4 : BitVec 32) (v35_0 : BitVec 32) (k0_hw6 : k0_chk6 k0_t1 v18 v24 v35_4 v35_0) (k0_t3 : Fin (k0_t3_loop v18 v24 v35_4 v35_0).trips), ∀ (k0_h9 : k0_cond9 v18 v24 v35_4 v35_0 k0_t3 = 1#1), ∀ (k0_h10 : k0_cond10 v18 v24 v35_4 v35_0 k0_t3 = 1#1), ∀ a, (k0_off113 k0_t1 v18 v24 v35_4 v35_0 k0_t3) a + S1x32x768.size a ≤ S16x4096x768.size a := fun k0_t1 v18 v24 v35_4 v35_0 k0_hw6 k0_t3 k0_h9 k0_h10 => k0_hw6.2.2.2.2.2.2.2.2.2.2.1 k0_t3 k0_h9 k0_h10
theorem k0_t10_ok : ∀ (k0_t1 : Fin k0_t1_loop.trips) (v18 : BitVec 32) (v24 : BitVec 32) (v35_4 : BitVec 32) (v35_0 : BitVec 32) (k0_hw6 : k0_chk6 k0_t1 v18 v24 v35_4 v35_0), (k0_t10_loop v18 v24 v35_4 v35_0).OK := fun k0_t1 v18 v24 v35_4 v35_0 k0_hw6 => k0_hw6.2.2.2.2.2.2.2.2.2.2.2.1
theorem k0_mult7_dvd : ∀ (k0_t1 : Fin k0_t1_loop.trips) (v18 : BitVec 32) (v24 : BitVec 32) (v35_4 : BitVec 32) (v35_0 : BitVec 32) (k0_hw6 : k0_chk6 k0_t1 v18 v24 v35_4 v35_0) (k0_t10 : Fin (k0_t10_loop v18 v24 v35_4 v35_0).trips), ∀ (k0_h14 : k0_cond14 v18 v24 v35_4 v35_0 k0_t10 = 1#1), 16 ∣ (k0_mult7 v18 v24 v35_4 v35_0 k0_t10).toNat := fun k0_t1 v18 v24 v35_4 v35_0 k0_hw6 k0_t10 k0_h14 => k0_hw6.2.2.2.2.2.2.2.2.2.2.2.2.1 k0_t10 k0_h14
theorem k0_off214_inb : ∀ (k0_t1 : Fin k0_t1_loop.trips) (v18 : BitVec 32) (v24 : BitVec 32) (v35_4 : BitVec 32) (v35_0 : BitVec 32) (k0_hw6 : k0_chk6 k0_t1 v18 v24 v35_4 v35_0) (k0_t10 : Fin (k0_t10_loop v18 v24 v35_4 v35_0).trips), ∀ (k0_h14 : k0_cond14 v18 v24 v35_4 v35_0 k0_t10 = 1#1), ∀ a, (k0_off214 k0_t1 v18 v24 v35_4 v35_0 k0_t10) a + S1x32x768.size a ≤ S16x4096x768.size a := fun k0_t1 v18 v24 v35_4 v35_0 k0_hw6 k0_t10 k0_h14 => k0_hw6.2.2.2.2.2.2.2.2.2.2.2.2.2.1 k0_t10 k0_h14
theorem k0_mult8_dvd : ∀ (k0_t1 : Fin k0_t1_loop.trips) (v18 : BitVec 32) (v24 : BitVec 32) (v35_4 : BitVec 32) (v35_0 : BitVec 32) (k0_hw6 : k0_chk6 k0_t1 v18 v24 v35_4 v35_0) (k0_t10 : Fin (k0_t10_loop v18 v24 v35_4 v35_0).trips), ∀ (k0_h14 : k0_cond14 v18 v24 v35_4 v35_0 k0_t10 = 1#1), ∀ (k0_h15 : k0_cond15 v18 v24 v35_4 v35_0 k0_t10 = 1#1), 16 ∣ (k0_mult8 v18 v24 v35_4 v35_0 k0_t10).toNat := fun k0_t1 v18 v24 v35_4 v35_0 k0_hw6 k0_t10 k0_h14 k0_h15 => k0_hw6.2.2.2.2.2.2.2.2.2.2.2.2.2.2.1 k0_t10 k0_h14 k0_h15
theorem k0_off215_inb : ∀ (k0_t1 : Fin k0_t1_loop.trips) (v18 : BitVec 32) (v24 : BitVec 32) (v35_4 : BitVec 32) (v35_0 : BitVec 32) (k0_hw6 : k0_chk6 k0_t1 v18 v24 v35_4 v35_0) (k0_t10 : Fin (k0_t10_loop v18 v24 v35_4 v35_0).trips), ∀ (k0_h14 : k0_cond14 v18 v24 v35_4 v35_0 k0_t10 = 1#1), ∀ (k0_h15 : k0_cond15 v18 v24 v35_4 v35_0 k0_t10 = 1#1), ∀ a, (k0_off215 k0_t1 v18 v24 v35_4 v35_0 k0_t10) a + S1x32x768.size a ≤ S16x4096x768.size a := fun k0_t1 v18 v24 v35_4 v35_0 k0_hw6 k0_t10 k0_h14 k0_h15 => k0_hw6.2.2.2.2.2.2.2.2.2.2.2.2.2.2.2.1 k0_t10 k0_h14 k0_h15
theorem k0_mult9_dvd : ∀ (k0_t1 : Fin k0_t1_loop.trips) (v18 : BitVec 32) (v24 : BitVec 32) (v35_4 : BitVec 32) (v35_0 : BitVec 32) (k0_hw6 : k0_chk6 k0_t1 v18 v24 v35_4 v35_0) (k0_t10 : Fin (k0_t10_loop v18 v24 v35_4 v35_0).trips), ∀ (k0_h19 : k0_cond19 v18 v24 v35_4 v35_0 k0_t10 = 1#1), 16 ∣ (k0_mult9 v18 v24 v35_4 v35_0 k0_t10).toNat := fun k0_t1 v18 v24 v35_4 v35_0 k0_hw6 k0_t10 k0_h19 => k0_hw6.2.2.2.2.2.2.2.2.2.2.2.2.2.2.2.2.1 k0_t10 k0_h19
theorem k0_off316_inb : ∀ (k0_t1 : Fin k0_t1_loop.trips) (v18 : BitVec 32) (v24 : BitVec 32) (v35_4 : BitVec 32) (v35_0 : BitVec 32) (k0_hw6 : k0_chk6 k0_t1 v18 v24 v35_4 v35_0) (k0_t10 : Fin (k0_t10_loop v18 v24 v35_4 v35_0).trips), ∀ (k0_h19 : k0_cond19 v18 v24 v35_4 v35_0 k0_t10 = 1#1), ∀ a, (k0_off316 k0_t1 v18 v24 v35_4 v35_0 k0_t10) a + S1x32x768.size a ≤ S16x4096x768.size a := fun k0_t1 v18 v24 v35_4 v35_0 k0_hw6 k0_t10 k0_h19 => k0_hw6.2.2.2.2.2.2.2.2.2.2.2.2.2.2.2.2.2.1 k0_t10 k0_h19
theorem k0_mult10_dvd : ∀ (k0_t1 : Fin k0_t1_loop.trips) (v18 : BitVec 32) (v24 : BitVec 32) (v35_4 : BitVec 32) (v35_0 : BitVec 32) (k0_hw6 : k0_chk6 k0_t1 v18 v24 v35_4 v35_0) (k0_t10 : Fin (k0_t10_loop v18 v24 v35_4 v35_0).trips), ∀ (k0_h19 : k0_cond19 v18 v24 v35_4 v35_0 k0_t10 = 1#1), ∀ (k0_h20 : k0_cond20 v18 v24 v35_4 v35_0 k0_t10 = 1#1), 16 ∣ (k0_mult10 v18 v24 v35_4 v35_0 k0_t10).toNat := fun k0_t1 v18 v24 v35_4 v35_0 k0_hw6 k0_t10 k0_h19 k0_h20 => k0_hw6.2.2.2.2.2.2.2.2.2.2.2.2.2.2.2.2.2.2.1 k0_t10 k0_h19 k0_h20
theorem k0_off317_inb : ∀ (k0_t1 : Fin k0_t1_loop.trips) (v18 : BitVec 32) (v24 : BitVec 32) (v35_4 : BitVec 32) (v35_0 : BitVec 32) (k0_hw6 : k0_chk6 k0_t1 v18 v24 v35_4 v35_0) (k0_t10 : Fin (k0_t10_loop v18 v24 v35_4 v35_0).trips), ∀ (k0_h19 : k0_cond19 v18 v24 v35_4 v35_0 k0_t10 = 1#1), ∀ (k0_h20 : k0_cond20 v18 v24 v35_4 v35_0 k0_t10 = 1#1), ∀ a, (k0_off317 k0_t1 v18 v24 v35_4 v35_0 k0_t10) a + S1x32x768.size a ≤ S16x4096x768.size a := fun k0_t1 v18 v24 v35_4 v35_0 k0_hw6 k0_t10 k0_h19 k0_h20 => k0_hw6.2.2.2.2.2.2.2.2.2.2.2.2.2.2.2.2.2.2.2 k0_t10 k0_h19 k0_h20

@[reducible] def k0_t14_loop : Scf.Loop 32 :=
  let c0_i32_128 : BitVec 32 := 0#32
  let c4_i32_129 : BitVec 32 := 4#32
  let v211 : BitVec 32 := Scalar.addi c0_i32_128 c4_i32_129
  let c1_i32_130 : BitVec 32 := 1#32
  ⟨c0_i32_128, v211, c1_i32_130⟩
def k0_off318 (k0_t14 : Fin k0_t14_loop.trips) : Fin 1 → Nat :=
  let c0_i32_128 : BitVec 32 := 0#32
  let c1_i32_130 : BitVec 32 := 1#32
  let arg22 : BitVec 32 := Scf.iv c0_i32_128 c1_i32_130 k0_t14
  let v212 : Index := Scalar.indexCast arg22
  ![v212.toNat]
def k0_off319 (k0_t14 : Fin k0_t14_loop.trips) : Fin 1 → Nat :=
  let c0_i32_128 : BitVec 32 := 0#32
  let c1_i32_130 : BitVec 32 := 1#32
  let arg22 : BitVec 32 := Scf.iv c0_i32_128 c1_i32_130 k0_t14
  let c1_i32_132 : BitVec 32 := 1#32
  let v217 : BitVec 32 := Scalar.addi arg22 c1_i32_132
  let v218 : Index := Scalar.indexCast v217
  ![v218.toNat]
@[reducible] def k0_t15_loop (v18 : BitVec 32) (v24 : BitVec 32) (v35_4 : BitVec 32) (v35_0 : BitVec 32) (k0_t10 : Fin (k0_t10_loop v18 v24 v35_4 v35_0).trips) (v216 : BitVec 32) (v222 : BitVec 32) : Scf.Loop 32 :=
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_184 : BitVec 32 := 1#32
  ⟨c0_i32_182, v283, c1_i32_184⟩
def k0_cond21 (v18 : BitVec 32) (v24 : BitVec 32) (v35_4 : BitVec 32) (v35_0 : BitVec 32) (k0_t10 : Fin (k0_t10_loop v18 v24 v35_4 v35_0).trips) (v216 : BitVec 32) (v222 : BitVec 32) : BitVec 1 :=
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v227 : BitVec 1 := Scalar.cmpi .sgt v226 v224
  let v228 : BitVec 32 := Scalar.extui v227
  let c0_i32_133 : BitVec 32 := 0#32
  let v229 : BitVec 1 := Scalar.cmpi .ne v228 c0_i32_133
  v229

def k0_off320 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v293 : BitVec 32 := Scalar.addi v224 arg23
  let v294 : Index := Scalar.indexCast v293
  let c0_189 : Index := 0#32
  ![v294.toNat, 0]
def k0_off321 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v298 : BitVec 32 := Scalar.addi v224 arg23
  let v299 : Index := Scalar.indexCast v298
  let c16 : Index := 16#32
  ![v299.toNat, 16]
def k0_off322 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v303 : BitVec 32 := Scalar.addi v224 arg23
  let v304 : Index := Scalar.indexCast v303
  let c32 : Index := 32#32
  ![v304.toNat, 32]
def k0_off323 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v308 : BitVec 32 := Scalar.addi v224 arg23
  let v309 : Index := Scalar.indexCast v308
  let c48 : Index := 48#32
  ![v309.toNat, 48]
def k0_off324 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v313 : BitVec 32 := Scalar.addi v224 arg23
  let v314 : Index := Scalar.indexCast v313
  let c64 : Index := 64#32
  ![v314.toNat, 64]
def k0_off325 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v318 : BitVec 32 := Scalar.addi v224 arg23
  let v319 : Index := Scalar.indexCast v318
  let c80 : Index := 80#32
  ![v319.toNat, 80]
def k0_off326 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v323 : BitVec 32 := Scalar.addi v224 arg23
  let v324 : Index := Scalar.indexCast v323
  let c96 : Index := 96#32
  ![v324.toNat, 96]
def k0_off327 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v328 : BitVec 32 := Scalar.addi v224 arg23
  let v329 : Index := Scalar.indexCast v328
  let c112 : Index := 112#32
  ![v329.toNat, 112]
def k0_off328 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v333 : BitVec 32 := Scalar.addi v224 arg23
  let v334 : Index := Scalar.indexCast v333
  let c128 : Index := 128#32
  ![v334.toNat, 128]
def k0_off329 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v338 : BitVec 32 := Scalar.addi v224 arg23
  let v339 : Index := Scalar.indexCast v338
  let c144 : Index := 144#32
  ![v339.toNat, 144]
def k0_off330 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v343 : BitVec 32 := Scalar.addi v224 arg23
  let v344 : Index := Scalar.indexCast v343
  let c160 : Index := 160#32
  ![v344.toNat, 160]
def k0_off331 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v348 : BitVec 32 := Scalar.addi v224 arg23
  let v349 : Index := Scalar.indexCast v348
  let c176 : Index := 176#32
  ![v349.toNat, 176]
def k0_off332 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v353 : BitVec 32 := Scalar.addi v224 arg23
  let v354 : Index := Scalar.indexCast v353
  let c192 : Index := 192#32
  ![v354.toNat, 192]
def k0_off333 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v358 : BitVec 32 := Scalar.addi v224 arg23
  let v359 : Index := Scalar.indexCast v358
  let c208 : Index := 208#32
  ![v359.toNat, 208]
def k0_off334 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v363 : BitVec 32 := Scalar.addi v224 arg23
  let v364 : Index := Scalar.indexCast v363
  let c224 : Index := 224#32
  ![v364.toNat, 224]
def k0_off335 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v368 : BitVec 32 := Scalar.addi v224 arg23
  let v369 : Index := Scalar.indexCast v368
  let c240 : Index := 240#32
  ![v369.toNat, 240]
def k0_off336 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v373 : BitVec 32 := Scalar.addi v224 arg23
  let v374 : Index := Scalar.indexCast v373
  let c256 : Index := 256#32
  ![v374.toNat, 256]
def k0_off337 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v378 : BitVec 32 := Scalar.addi v224 arg23
  let v379 : Index := Scalar.indexCast v378
  let c272 : Index := 272#32
  ![v379.toNat, 272]
def k0_off338 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v383 : BitVec 32 := Scalar.addi v224 arg23
  let v384 : Index := Scalar.indexCast v383
  let c288 : Index := 288#32
  ![v384.toNat, 288]
def k0_off339 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v388 : BitVec 32 := Scalar.addi v224 arg23
  let v389 : Index := Scalar.indexCast v388
  let c304 : Index := 304#32
  ![v389.toNat, 304]
def k0_off340 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v393 : BitVec 32 := Scalar.addi v224 arg23
  let v394 : Index := Scalar.indexCast v393
  let c320 : Index := 320#32
  ![v394.toNat, 320]
def k0_off341 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v398 : BitVec 32 := Scalar.addi v224 arg23
  let v399 : Index := Scalar.indexCast v398
  let c336 : Index := 336#32
  ![v399.toNat, 336]
def k0_off342 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v403 : BitVec 32 := Scalar.addi v224 arg23
  let v404 : Index := Scalar.indexCast v403
  let c352 : Index := 352#32
  ![v404.toNat, 352]
def k0_off343 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v408 : BitVec 32 := Scalar.addi v224 arg23
  let v409 : Index := Scalar.indexCast v408
  let c368 : Index := 368#32
  ![v409.toNat, 368]
def k0_off344 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v413 : BitVec 32 := Scalar.addi v224 arg23
  let v414 : Index := Scalar.indexCast v413
  let c384 : Index := 384#32
  ![v414.toNat, 384]
def k0_off345 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v418 : BitVec 32 := Scalar.addi v224 arg23
  let v419 : Index := Scalar.indexCast v418
  let c400 : Index := 400#32
  ![v419.toNat, 400]
def k0_off346 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v423 : BitVec 32 := Scalar.addi v224 arg23
  let v424 : Index := Scalar.indexCast v423
  let c416 : Index := 416#32
  ![v424.toNat, 416]
def k0_off347 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v428 : BitVec 32 := Scalar.addi v224 arg23
  let v429 : Index := Scalar.indexCast v428
  let c432 : Index := 432#32
  ![v429.toNat, 432]
def k0_off348 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v433 : BitVec 32 := Scalar.addi v224 arg23
  let v434 : Index := Scalar.indexCast v433
  let c448 : Index := 448#32
  ![v434.toNat, 448]
def k0_off349 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v438 : BitVec 32 := Scalar.addi v224 arg23
  let v439 : Index := Scalar.indexCast v438
  let c464 : Index := 464#32
  ![v439.toNat, 464]
def k0_off350 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v443 : BitVec 32 := Scalar.addi v224 arg23
  let v444 : Index := Scalar.indexCast v443
  let c480 : Index := 480#32
  ![v444.toNat, 480]
def k0_off351 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v448 : BitVec 32 := Scalar.addi v224 arg23
  let v449 : Index := Scalar.indexCast v448
  let c496 : Index := 496#32
  ![v449.toNat, 496]
def k0_off352 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v453 : BitVec 32 := Scalar.addi v224 arg23
  let v454 : Index := Scalar.indexCast v453
  let c512 : Index := 512#32
  ![v454.toNat, 512]
def k0_off353 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v458 : BitVec 32 := Scalar.addi v224 arg23
  let v459 : Index := Scalar.indexCast v458
  let c528 : Index := 528#32
  ![v459.toNat, 528]
def k0_off354 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v463 : BitVec 32 := Scalar.addi v224 arg23
  let v464 : Index := Scalar.indexCast v463
  let c544 : Index := 544#32
  ![v464.toNat, 544]
def k0_off355 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v468 : BitVec 32 := Scalar.addi v224 arg23
  let v469 : Index := Scalar.indexCast v468
  let c560 : Index := 560#32
  ![v469.toNat, 560]
def k0_off356 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v473 : BitVec 32 := Scalar.addi v224 arg23
  let v474 : Index := Scalar.indexCast v473
  let c576 : Index := 576#32
  ![v474.toNat, 576]
def k0_off357 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v478 : BitVec 32 := Scalar.addi v224 arg23
  let v479 : Index := Scalar.indexCast v478
  let c592 : Index := 592#32
  ![v479.toNat, 592]
def k0_off358 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v483 : BitVec 32 := Scalar.addi v224 arg23
  let v484 : Index := Scalar.indexCast v483
  let c608 : Index := 608#32
  ![v484.toNat, 608]
def k0_off359 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v488 : BitVec 32 := Scalar.addi v224 arg23
  let v489 : Index := Scalar.indexCast v488
  let c624 : Index := 624#32
  ![v489.toNat, 624]
def k0_off360 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v493 : BitVec 32 := Scalar.addi v224 arg23
  let v494 : Index := Scalar.indexCast v493
  let c640 : Index := 640#32
  ![v494.toNat, 640]
def k0_off361 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v498 : BitVec 32 := Scalar.addi v224 arg23
  let v499 : Index := Scalar.indexCast v498
  let c656 : Index := 656#32
  ![v499.toNat, 656]
def k0_off362 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v503 : BitVec 32 := Scalar.addi v224 arg23
  let v504 : Index := Scalar.indexCast v503
  let c672 : Index := 672#32
  ![v504.toNat, 672]
def k0_off363 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v508 : BitVec 32 := Scalar.addi v224 arg23
  let v509 : Index := Scalar.indexCast v508
  let c688 : Index := 688#32
  ![v509.toNat, 688]
def k0_off364 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v513 : BitVec 32 := Scalar.addi v224 arg23
  let v514 : Index := Scalar.indexCast v513
  let c704 : Index := 704#32
  ![v514.toNat, 704]
def k0_off365 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v518 : BitVec 32 := Scalar.addi v224 arg23
  let v519 : Index := Scalar.indexCast v518
  let c720 : Index := 720#32
  ![v519.toNat, 720]
def k0_off366 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v523 : BitVec 32 := Scalar.addi v224 arg23
  let v524 : Index := Scalar.indexCast v523
  let c736 : Index := 736#32
  ![v524.toNat, 736]
def k0_off367 (v18 : BitVec 32) (v24 : BitVec 32) (v35_4 : BitVec 32) (v35_0 : BitVec 32) (k0_t10 : Fin (k0_t10_loop v18 v24 v35_4 v35_0).trips) (v216 : BitVec 32) (v222 : BitVec 32) (k0_t15 : Fin (k0_t15_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t15
  let v528 : BitVec 32 := Scalar.addi v224 arg23
  let v529 : Index := Scalar.indexCast v528
  let c752 : Index := 752#32
  ![v529.toNat, 752]
@[reducible] def k0_t16_loop (v18 : BitVec 32) (v24 : BitVec 32) (v35_4 : BitVec 32) (v35_0 : BitVec 32) (k0_t10 : Fin (k0_t10_loop v18 v24 v35_4 v35_0).trips) (v216 : BitVec 32) (v222 : BitVec 32) : Scf.Loop 32 :=
  let c0_i32_182 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let c32_i32_126 : BitVec 32 := 32#32
  let v209 : BitVec 32 := Scalar.addi v197 c32_i32_126
  let v210 : BitVec 32 := Scalar.minsi v50 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v38 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let v280 : BitVec 32 := Scalar.addi c0_i32_182 v279
  let c1_i32_185 : BitVec 32 := 1#32
  ⟨v283, v280, c1_i32_185⟩
def k0_off368 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v293 : BitVec 32 := Scalar.addi v224 arg23
  let v294 : Index := Scalar.indexCast v293
  let c0_189 : Index := 0#32
  ![v294.toNat, 0]
def k0_off369 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v298 : BitVec 32 := Scalar.addi v224 arg23
  let v299 : Index := Scalar.indexCast v298
  let c16 : Index := 16#32
  ![v299.toNat, 16]
def k0_off370 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v303 : BitVec 32 := Scalar.addi v224 arg23
  let v304 : Index := Scalar.indexCast v303
  let c32 : Index := 32#32
  ![v304.toNat, 32]
def k0_off371 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v308 : BitVec 32 := Scalar.addi v224 arg23
  let v309 : Index := Scalar.indexCast v308
  let c48 : Index := 48#32
  ![v309.toNat, 48]
def k0_off372 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v313 : BitVec 32 := Scalar.addi v224 arg23
  let v314 : Index := Scalar.indexCast v313
  let c64 : Index := 64#32
  ![v314.toNat, 64]
def k0_off373 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v318 : BitVec 32 := Scalar.addi v224 arg23
  let v319 : Index := Scalar.indexCast v318
  let c80 : Index := 80#32
  ![v319.toNat, 80]
def k0_off374 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v323 : BitVec 32 := Scalar.addi v224 arg23
  let v324 : Index := Scalar.indexCast v323
  let c96 : Index := 96#32
  ![v324.toNat, 96]
def k0_off375 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v328 : BitVec 32 := Scalar.addi v224 arg23
  let v329 : Index := Scalar.indexCast v328
  let c112 : Index := 112#32
  ![v329.toNat, 112]
def k0_off376 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v333 : BitVec 32 := Scalar.addi v224 arg23
  let v334 : Index := Scalar.indexCast v333
  let c128 : Index := 128#32
  ![v334.toNat, 128]
def k0_off377 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v338 : BitVec 32 := Scalar.addi v224 arg23
  let v339 : Index := Scalar.indexCast v338
  let c144 : Index := 144#32
  ![v339.toNat, 144]
def k0_off378 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v343 : BitVec 32 := Scalar.addi v224 arg23
  let v344 : Index := Scalar.indexCast v343
  let c160 : Index := 160#32
  ![v344.toNat, 160]
def k0_off379 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v348 : BitVec 32 := Scalar.addi v224 arg23
  let v349 : Index := Scalar.indexCast v348
  let c176 : Index := 176#32
  ![v349.toNat, 176]
def k0_off380 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v353 : BitVec 32 := Scalar.addi v224 arg23
  let v354 : Index := Scalar.indexCast v353
  let c192 : Index := 192#32
  ![v354.toNat, 192]
def k0_off381 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v358 : BitVec 32 := Scalar.addi v224 arg23
  let v359 : Index := Scalar.indexCast v358
  let c208 : Index := 208#32
  ![v359.toNat, 208]
def k0_off382 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v363 : BitVec 32 := Scalar.addi v224 arg23
  let v364 : Index := Scalar.indexCast v363
  let c224 : Index := 224#32
  ![v364.toNat, 224]
def k0_off383 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v368 : BitVec 32 := Scalar.addi v224 arg23
  let v369 : Index := Scalar.indexCast v368
  let c240 : Index := 240#32
  ![v369.toNat, 240]
def k0_off384 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v373 : BitVec 32 := Scalar.addi v224 arg23
  let v374 : Index := Scalar.indexCast v373
  let c256 : Index := 256#32
  ![v374.toNat, 256]
def k0_off385 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v378 : BitVec 32 := Scalar.addi v224 arg23
  let v379 : Index := Scalar.indexCast v378
  let c272 : Index := 272#32
  ![v379.toNat, 272]
def k0_off386 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v383 : BitVec 32 := Scalar.addi v224 arg23
  let v384 : Index := Scalar.indexCast v383
  let c288 : Index := 288#32
  ![v384.toNat, 288]
def k0_off387 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v388 : BitVec 32 := Scalar.addi v224 arg23
  let v389 : Index := Scalar.indexCast v388
  let c304 : Index := 304#32
  ![v389.toNat, 304]
def k0_off388 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v393 : BitVec 32 := Scalar.addi v224 arg23
  let v394 : Index := Scalar.indexCast v393
  let c320 : Index := 320#32
  ![v394.toNat, 320]
def k0_off389 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v398 : BitVec 32 := Scalar.addi v224 arg23
  let v399 : Index := Scalar.indexCast v398
  let c336 : Index := 336#32
  ![v399.toNat, 336]
def k0_off390 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v403 : BitVec 32 := Scalar.addi v224 arg23
  let v404 : Index := Scalar.indexCast v403
  let c352 : Index := 352#32
  ![v404.toNat, 352]
def k0_off391 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v408 : BitVec 32 := Scalar.addi v224 arg23
  let v409 : Index := Scalar.indexCast v408
  let c368 : Index := 368#32
  ![v409.toNat, 368]
def k0_off392 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v413 : BitVec 32 := Scalar.addi v224 arg23
  let v414 : Index := Scalar.indexCast v413
  let c384 : Index := 384#32
  ![v414.toNat, 384]
def k0_off393 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v418 : BitVec 32 := Scalar.addi v224 arg23
  let v419 : Index := Scalar.indexCast v418
  let c400 : Index := 400#32
  ![v419.toNat, 400]
def k0_off394 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v423 : BitVec 32 := Scalar.addi v224 arg23
  let v424 : Index := Scalar.indexCast v423
  let c416 : Index := 416#32
  ![v424.toNat, 416]
def k0_off395 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v428 : BitVec 32 := Scalar.addi v224 arg23
  let v429 : Index := Scalar.indexCast v428
  let c432 : Index := 432#32
  ![v429.toNat, 432]
def k0_off396 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v433 : BitVec 32 := Scalar.addi v224 arg23
  let v434 : Index := Scalar.indexCast v433
  let c448 : Index := 448#32
  ![v434.toNat, 448]
def k0_off397 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v438 : BitVec 32 := Scalar.addi v224 arg23
  let v439 : Index := Scalar.indexCast v438
  let c464 : Index := 464#32
  ![v439.toNat, 464]
def k0_off398 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v443 : BitVec 32 := Scalar.addi v224 arg23
  let v444 : Index := Scalar.indexCast v443
  let c480 : Index := 480#32
  ![v444.toNat, 480]
def k0_off399 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v448 : BitVec 32 := Scalar.addi v224 arg23
  let v449 : Index := Scalar.indexCast v448
  let c496 : Index := 496#32
  ![v449.toNat, 496]
def k0_off400 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v453 : BitVec 32 := Scalar.addi v224 arg23
  let v454 : Index := Scalar.indexCast v453
  let c512 : Index := 512#32
  ![v454.toNat, 512]
def k0_off401 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v458 : BitVec 32 := Scalar.addi v224 arg23
  let v459 : Index := Scalar.indexCast v458
  let c528 : Index := 528#32
  ![v459.toNat, 528]
def k0_off402 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v463 : BitVec 32 := Scalar.addi v224 arg23
  let v464 : Index := Scalar.indexCast v463
  let c544 : Index := 544#32
  ![v464.toNat, 544]
def k0_off403 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v468 : BitVec 32 := Scalar.addi v224 arg23
  let v469 : Index := Scalar.indexCast v468
  let c560 : Index := 560#32
  ![v469.toNat, 560]
def k0_off404 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v473 : BitVec 32 := Scalar.addi v224 arg23
  let v474 : Index := Scalar.indexCast v473
  let c576 : Index := 576#32
  ![v474.toNat, 576]
def k0_off405 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v478 : BitVec 32 := Scalar.addi v224 arg23
  let v479 : Index := Scalar.indexCast v478
  let c592 : Index := 592#32
  ![v479.toNat, 592]
def k0_off406 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v483 : BitVec 32 := Scalar.addi v224 arg23
  let v484 : Index := Scalar.indexCast v483
  let c608 : Index := 608#32
  ![v484.toNat, 608]
def k0_off407 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v488 : BitVec 32 := Scalar.addi v224 arg23
  let v489 : Index := Scalar.indexCast v488
  let c624 : Index := 624#32
  ![v489.toNat, 624]
def k0_off408 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v493 : BitVec 32 := Scalar.addi v224 arg23
  let v494 : Index := Scalar.indexCast v493
  let c640 : Index := 640#32
  ![v494.toNat, 640]
def k0_off409 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v498 : BitVec 32 := Scalar.addi v224 arg23
  let v499 : Index := Scalar.indexCast v498
  let c656 : Index := 656#32
  ![v499.toNat, 656]
def k0_off410 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v503 : BitVec 32 := Scalar.addi v224 arg23
  let v504 : Index := Scalar.indexCast v503
  let c672 : Index := 672#32
  ![v504.toNat, 672]
def k0_off411 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v508 : BitVec 32 := Scalar.addi v224 arg23
  let v509 : Index := Scalar.indexCast v508
  let c688 : Index := 688#32
  ![v509.toNat, 688]
def k0_off412 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v513 : BitVec 32 := Scalar.addi v224 arg23
  let v514 : Index := Scalar.indexCast v513
  let c704 : Index := 704#32
  ![v514.toNat, 704]
def k0_off413 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v518 : BitVec 32 := Scalar.addi v224 arg23
  let v519 : Index := Scalar.indexCast v518
  let c720 : Index := 720#32
  ![v519.toNat, 720]
def k0_off414 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v523 : BitVec 32 := Scalar.addi v224 arg23
  let v524 : Index := Scalar.indexCast v523
  let c736 : Index := 736#32
  ![v524.toNat, 736]
def k0_off415 (v18 : BitVec 32) (v24 : BitVec 32) (v35_4 : BitVec 32) (v35_0 : BitVec 32) (k0_t10 : Fin (k0_t10_loop v18 v24 v35_4 v35_0).trips) (v216 : BitVec 32) (v222 : BitVec 32) (k0_t16 : Fin (k0_t16_loop v18 v24 v35_4 v35_0 k0_t10 v216 v222).trips) : Fin 2 → Nat :=
  let v36 : BitVec 32 := Scalar.maxsi v35_0 v18
  let c1_i32_31 : BitVec 32 := 1#32
  let v37 : BitVec 32 := Scalar.addi v24 c1_i32_31
  let v38 : BitVec 32 := Scalar.minsi v36 v37
  let c_m16_i32 : BitVec 32 := 4294967280#32
  let v74 : BitVec 32 := Scalar.andi v38 c_m16_i32
  let c0_i32_47 : BitVec 32 := 0#32
  let v48 : BitVec 32 := Scalar.maxsi v35_4 v18
  let c1_i32_35 : BitVec 32 := 1#32
  let v49 : BitVec 32 := Scalar.addi v24 c1_i32_35
  let v50 : BitVec 32 := Scalar.minsi v48 v49
  let v75 : BitVec 1 := Scalar.cmpi .sgt v50 v38
  let v76 : BitVec 32 := Scalar.subi v50 v74
  let c31_i32 : BitVec 32 := 31#32
  let v77 : BitVec 32 := Scalar.addi v76 c31_i32
  let c5_i32 : BitVec 32 := 5#32
  let v78 : BitVec 32 := Scalar.shrsi v77 c5_i32
  let c0_i32_41 : BitVec 32 := 0#32
  let v79 : BitVec 32 := Scalar.select v75 v78 c0_i32_41
  let c1_i32_44 : BitVec 32 := 1#32
  let v83 : BitVec 32 := Scalar.addi v79 c1_i32_44
  let c1_i32_45 : BitVec 32 := 1#32
  let v84 : BitVec 32 := Scalar.shrsi v83 c1_i32_45
  let v85 : BitVec 32 := Scalar.subi v84 c0_i32_47
  let c1_i32_48 : BitVec 32 := 1#32
  let v87 : BitVec 32 := Scalar.divsi v85 c1_i32_48
  let v88 : BitVec 32 := Scalar.muli v87 c1_i32_48
  let v89 : BitVec 32 := Scalar.addi c0_i32_47 v88
  let c1_i32_50 : BitVec 32 := 1#32
  let arg21 : BitVec 32 := Scf.iv v89 c1_i32_50 k0_t10
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v74 v196
  let v208 : BitVec 32 := Scalar.maxsi v38 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v50 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t16
  let v528 : BitVec 32 := Scalar.addi v224 arg23
  let v529 : Index := Scalar.indexCast v528
  let c752 : Index := 752#32
  ![v529.toNat, 752]

def k0_chk10_0 (v18 : BitVec 32) (v24 : BitVec 32) (v35_4 : BitVec 32) (v35_0 : BitVec 32) (k0_t10 : Fin (k0_t10_loop v18 v24 v35_4 v35_0).trips) (v216 : BitVec 32) (v222 : BitVec 32) : Prop :=
  (∀ (k0_h19 : k0_cond19 v18 v24 v35_4 v35_0 k0_t10 = 1#1), ∀ (k0_h21 : k0_cond21 v18 v24 v35_4 v35_0 k0_t10 v216 v222 = 1#1), (k0_t15_loop v18 v24 v35_4 v35_0 k0_t10 v216 v222).OK) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off320 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off321 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off322 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off323 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off324 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off325 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off326 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off327 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off328 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off329 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off330 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off331 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off332 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off333 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off334 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off335 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off336 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off337 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off338 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off339 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off340 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off341 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off342 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off343 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off344 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off345 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off346 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off347 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off348 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off349 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off350 v18 v24 v35_4 v35_0 k0_t10 v216 v222 k0_t15) a + S1x16.size a ≤ S32x768.size a)
def k0_chk10_1 (v18 : BitVec 32) (v24 : BitVec 32) (v35_4 : BitVec 32) (v35_0 : BitVec 32) (k0_t10 : Fin (k0_t10_loop v18 v24 v35_4 v35_0).trips) (v216 : BitVec 32) (v222 : BitVec 32) : Prop :=
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off351 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off352 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off353 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off354 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off355 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off356 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off357 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off358 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off359 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off360 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off361 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off362 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off363 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off364 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off365 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off366 v18 v24 v35_4 v35_0 k0_t10 v216 v222 k0_t15) a + S1x16.size a ≤ S32x768.size a) ∧
  (∀ k0_t15 : Fin (k0_t15_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off367 v18 v24 v35_4 v35_0 k0_t10 v216 v222 k0_t15) a + S1x16.size a ≤ S32x768.size a) ∧
  (∀ (k0_h19 : k0_cond19 v18 v24 v35_4 v35_0 k0_t10 = 1#1), ∀ (k0_h21 : k0_cond21 v18 v24 v35_4 v35_0 k0_t10 v216 v222 = 1#1), (k0_t16_loop v18 v24 v35_4 v35_0 k0_t10 v216 v222).OK) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off368 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off369 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off370 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off371 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off372 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off373 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off374 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off375 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off376 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off377 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off378 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off379 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off380 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off381 v18 v24 v35_4 v35_0 k0_t10 v216 v222 k0_t16) a + S1x16.size a ≤ S32x768.size a)
def k0_chk10_2 (v18 : BitVec 32) (v24 : BitVec 32) (v35_4 : BitVec 32) (v35_0 : BitVec 32) (k0_t10 : Fin (k0_t10_loop v18 v24 v35_4 v35_0).trips) (v216 : BitVec 32) (v222 : BitVec 32) : Prop :=
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off382 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off383 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off384 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off385 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off386 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off387 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off388 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off389 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off390 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off391 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off392 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off393 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off394 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off395 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off396 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off397 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off398 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off399 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off400 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off401 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off402 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off403 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off404 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off405 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off406 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off407 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off408 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off409 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off410 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off411 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off412 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off413 v18 v24 v35_4 v35_0 k0_t10 v216 v222 k0_t16) a + S1x16.size a ≤ S32x768.size a)
def k0_chk10_3 (v18 : BitVec 32) (v24 : BitVec 32) (v35_4 : BitVec 32) (v35_0 : BitVec 32) (k0_t10 : Fin (k0_t10_loop v18 v24 v35_4 v35_0).trips) (v216 : BitVec 32) (v222 : BitVec 32) : Prop :=
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off414 v18 v24 v35_4 v35_0 k0_t10 v216 v222 k0_t16) a + S1x16.size a ≤ S32x768.size a) ∧
  (∀ k0_t16 : Fin (k0_t16_loop v18 v24 v35_4 v35_0 k0_t10 v216 v222).trips, ∀ (k0_h19 : k0_cond19 v18 v24 v35_4 v35_0 k0_t10 = 1#1), ∀ (k0_h21 : k0_cond21 v18 v24 v35_4 v35_0 k0_t10 v216 v222 = 1#1), ∀ a, (k0_off415 v18 v24 v35_4 v35_0 k0_t10 v216 v222 k0_t16) a + S1x16.size a ≤ S32x768.size a)
def k0_chk10 (v18 : BitVec 32) (v24 : BitVec 32) (v35_4 : BitVec 32) (v35_0 : BitVec 32) (k0_t10 : Fin (k0_t10_loop v18 v24 v35_4 v35_0).trips) (v216 : BitVec 32) (v222 : BitVec 32) : Prop :=
  k0_chk10_0 v18 v24 v35_4 v35_0 k0_t10 v216 v222 ∧
  k0_chk10_1 v18 v24 v35_4 v35_0 k0_t10 v216 v222 ∧
  k0_chk10_2 v18 v24 v35_4 v35_0 k0_t10 v216 v222 ∧
  k0_chk10_3 v18 v24 v35_4 v35_0 k0_t10 v216 v222
theorem k0_t15_ok : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222), ∀ (k0_h19 : k0_cond19 v18 v24 v35_4 v35_0 k0_t10 = 1#1), ∀ (k0_h21 : k0_cond21 v18 v24 v35_4 v35_0 k0_t10 v216 v222 = 1#1), (k0_t15_loop v18 v24 v35_4 v35_0 k0_t10 v216 v222).OK := fun v18 v24 v35_4 v35_0 k0_t10 v216 v222 k0_hw10 k0_h19 k0_h21 => k0_hw10.1.1 k0_h19 k0_h21
theorem k0_off320_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off320 v18 v24 v35_4 v35_0 k0_t10 v216 v222 k0_t15) a + S1x16.size a ≤ S32x768.size a := fun v18 v24 v35_4 v35_0 k0_t10 v216 v222 k0_hw10 k0_t15 k0_h19 k0_h21 => k0_hw10.1.2.1 k0_t15 k0_h19 k0_h21
theorem k0_off321_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off321 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.1 k0_t15 k0_h19 k0_h21
theorem k0_off322_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off322 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.1 k0_t15 k0_h19 k0_h21
theorem k0_off323_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off323 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.1 k0_t15 k0_h19 k0_h21
theorem k0_off324_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off324 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.1 k0_t15 k0_h19 k0_h21
theorem k0_off325_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off325 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.1 k0_t15 k0_h19 k0_h21
theorem k0_off326_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off326 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.1 k0_t15 k0_h19 k0_h21
theorem k0_off327_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off327 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.1 k0_t15 k0_h19 k0_h21
theorem k0_off328_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off328 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.1 k0_t15 k0_h19 k0_h21
theorem k0_off329_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off329 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.1 k0_t15 k0_h19 k0_h21
theorem k0_off330_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off330 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.1 k0_t15 k0_h19 k0_h21
theorem k0_off331_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off331 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.1 k0_t15 k0_h19 k0_h21
theorem k0_off332_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off332 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.1 k0_t15 k0_h19 k0_h21
theorem k0_off333_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off333 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.1 k0_t15 k0_h19 k0_h21
theorem k0_off334_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off334 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.1 k0_t15 k0_h19 k0_h21
theorem k0_off335_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off335 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.1 k0_t15 k0_h19 k0_h21
theorem k0_off336_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off336 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.1 k0_t15 k0_h19 k0_h21
theorem k0_off337_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off337 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.1 k0_t15 k0_h19 k0_h21
theorem k0_off338_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off338 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.1 k0_t15 k0_h19 k0_h21
theorem k0_off339_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off339 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.1 k0_t15 k0_h19 k0_h21
theorem k0_off340_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off340 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.1 k0_t15 k0_h19 k0_h21
theorem k0_off341_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off341 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.2.1 k0_t15 k0_h19 k0_h21
theorem k0_off342_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off342 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.2.2.1 k0_t15 k0_h19 k0_h21
theorem k0_off343_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off343 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.2.2.2.1 k0_t15 k0_h19 k0_h21
theorem k0_off344_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off344 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.2.2.2.2.1 k0_t15 k0_h19 k0_h21
theorem k0_off345_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off345 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.2.2.2.2.2.1 k0_t15 k0_h19 k0_h21
theorem k0_off346_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off346 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.2.2.2.2.2.2.1 k0_t15 k0_h19 k0_h21
theorem k0_off347_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off347 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.2.2.2.2.2.2.2.1 k0_t15 k0_h19 k0_h21
theorem k0_off348_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off348 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.2.2.2.2.2.2.2.2.1 k0_t15 k0_h19 k0_h21
theorem k0_off349_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off349 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.2.2.2.2.2.2.2.2.2.1 k0_t15 k0_h19 k0_h21
theorem k0_off350_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off350 v18 v24 v35_4 v35_0 k0_t10 v216 v222 k0_t15) a + S1x16.size a ≤ S32x768.size a := fun v18 v24 v35_4 v35_0 k0_t10 v216 v222 k0_hw10 k0_t15 k0_h19 k0_h21 => k0_hw10.1.2.2.2.2.2.2.2.2.2.2.2.2.2.2.2.2.2.2.2.2.2.2.2.2.2.2.2.2.2.2.2 k0_t15 k0_h19 k0_h21
theorem k0_off351_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off351 v18 v24 v35_4 v35_0 k0_t10 v216 v222 k0_t15) a + S1x16.size a ≤ S32x768.size a := fun v18 v24 v35_4 v35_0 k0_t10 v216 v222 k0_hw10 k0_t15 k0_h19 k0_h21 => k0_hw10.2.1.1 k0_t15 k0_h19 k0_h21
theorem k0_off352_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off352 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.1 k0_t15 k0_h19 k0_h21
theorem k0_off353_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off353 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.1 k0_t15 k0_h19 k0_h21
theorem k0_off354_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off354 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.1 k0_t15 k0_h19 k0_h21
theorem k0_off355_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off355 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.1 k0_t15 k0_h19 k0_h21
theorem k0_off356_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off356 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.1 k0_t15 k0_h19 k0_h21
theorem k0_off357_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off357 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.1 k0_t15 k0_h19 k0_h21
theorem k0_off358_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off358 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.2.1 k0_t15 k0_h19 k0_h21
theorem k0_off359_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off359 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.2.2.1 k0_t15 k0_h19 k0_h21
theorem k0_off360_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off360 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.2.2.2.1 k0_t15 k0_h19 k0_h21
theorem k0_off361_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off361 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.2.2.2.2.1 k0_t15 k0_h19 k0_h21
theorem k0_off362_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off362 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.2.2.2.2.2.1 k0_t15 k0_h19 k0_h21
theorem k0_off363_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off363 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.2.2.2.2.2.2.1 k0_t15 k0_h19 k0_h21
theorem k0_off364_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off364 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.2.2.2.2.2.2.2.1 k0_t15 k0_h19 k0_h21
theorem k0_off365_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off365 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.2.2.2.2.2.2.2.2.1 k0_t15 k0_h19 k0_h21
theorem k0_off366_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off366 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.2.2.2.2.2.2.2.2.2.1 k0_t15 k0_h19 k0_h21
theorem k0_off367_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t15 : Fin (k0_t15_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off367 v18 v24 v35_4 v35_0 k0_t10 v216 v222 k0_t15) a + S1x16.size a ≤ S32x768.size a := fun v18 v24 v35_4 v35_0 k0_t10 v216 v222 k0_hw10 k0_t15 k0_h19 k0_h21 => k0_hw10.2.1.2.2.2.2.2.2.2.2.2.2.2.2.2.2.2.2.1 k0_t15 k0_h19 k0_h21
theorem k0_t16_ok : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222), ∀ (k0_h19 : k0_cond19 v18 v24 v35_4 v35_0 k0_t10 = 1#1), ∀ (k0_h21 : k0_cond21 v18 v24 v35_4 v35_0 k0_t10 v216 v222 = 1#1), (k0_t16_loop v18 v24 v35_4 v35_0 k0_t10 v216 v222).OK := fun v18 v24 v35_4 v35_0 k0_t10 v216 v222 k0_hw10 k0_h19 k0_h21 => k0_hw10.2.1.2.2.2.2.2.2.2.2.2.2.2.2.2.2.2.2.2.1 k0_h19 k0_h21
theorem k0_off368_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off368 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.1 k0_t16 k0_h19 k0_h21
theorem k0_off369_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off369 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.1 k0_t16 k0_h19 k0_h21
theorem k0_off370_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off370 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.1 k0_t16 k0_h19 k0_h21
theorem k0_off371_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off371 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.1 k0_t16 k0_h19 k0_h21
theorem k0_off372_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off372 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.2.1 k0_t16 k0_h19 k0_h21
theorem k0_off373_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off373 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.2.2.1 k0_t16 k0_h19 k0_h21
theorem k0_off374_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off374 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.2.2.2.1 k0_t16 k0_h19 k0_h21
theorem k0_off375_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off375 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.2.2.2.2.1 k0_t16 k0_h19 k0_h21
theorem k0_off376_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off376 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.2.2.2.2.2.1 k0_t16 k0_h19 k0_h21
theorem k0_off377_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off377 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.2.2.2.2.2.2.1 k0_t16 k0_h19 k0_h21
theorem k0_off378_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off378 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.2.2.2.2.2.2.2.1 k0_t16 k0_h19 k0_h21
theorem k0_off379_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off379 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.2.2.2.2.2.2.2.2.1 k0_t16 k0_h19 k0_h21
theorem k0_off380_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off380 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.2.2.2.2.2.2.2.2.2.1 k0_t16 k0_h19 k0_h21
theorem k0_off381_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off381 v18 v24 v35_4 v35_0 k0_t10 v216 v222 k0_t16) a + S1x16.size a ≤ S32x768.size a := fun v18 v24 v35_4 v35_0 k0_t10 v216 v222 k0_hw10 k0_t16 k0_h19 k0_h21 => k0_hw10.2.1.2.2.2.2.2.2.2.2.2.2.2.2.2.2.2.2.2.2.2.2.2.2.2.2.2.2.2.2.2.2.2 k0_t16 k0_h19 k0_h21
theorem k0_off382_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off382 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.1 k0_t16 k0_h19 k0_h21
theorem k0_off383_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off383 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.1 k0_t16 k0_h19 k0_h21
theorem k0_off384_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off384 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.1 k0_t16 k0_h19 k0_h21
theorem k0_off385_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off385 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.1 k0_t16 k0_h19 k0_h21
theorem k0_off386_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off386 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.1 k0_t16 k0_h19 k0_h21
theorem k0_off387_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off387 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.1 k0_t16 k0_h19 k0_h21
theorem k0_off388_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off388 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.1 k0_t16 k0_h19 k0_h21
theorem k0_off389_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off389 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.1 k0_t16 k0_h19 k0_h21
theorem k0_off390_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off390 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.1 k0_t16 k0_h19 k0_h21
theorem k0_off391_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off391 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.1 k0_t16 k0_h19 k0_h21
theorem k0_off392_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off392 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.1 k0_t16 k0_h19 k0_h21
theorem k0_off393_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off393 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.1 k0_t16 k0_h19 k0_h21
theorem k0_off394_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off394 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.1 k0_t16 k0_h19 k0_h21
theorem k0_off395_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off395 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.1 k0_t16 k0_h19 k0_h21
theorem k0_off396_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off396 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.1 k0_t16 k0_h19 k0_h21
theorem k0_off397_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off397 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.1 k0_t16 k0_h19 k0_h21
theorem k0_off398_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off398 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.1 k0_t16 k0_h19 k0_h21
theorem k0_off399_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off399 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.1 k0_t16 k0_h19 k0_h21
theorem k0_off400_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off400 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.1 k0_t16 k0_h19 k0_h21
theorem k0_off401_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off401 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.1 k0_t16 k0_h19 k0_h21
theorem k0_off402_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off402 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.1 k0_t16 k0_h19 k0_h21
theorem k0_off403_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off403 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.1 k0_t16 k0_h19 k0_h21
theorem k0_off404_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off404 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.2.1 k0_t16 k0_h19 k0_h21
theorem k0_off405_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off405 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.2.2.1 k0_t16 k0_h19 k0_h21
theorem k0_off406_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off406 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.2.2.2.1 k0_t16 k0_h19 k0_h21
theorem k0_off407_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off407 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.2.2.2.2.1 k0_t16 k0_h19 k0_h21
theorem k0_off408_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off408 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.2.2.2.2.2.1 k0_t16 k0_h19 k0_h21
theorem k0_off409_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off409 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.2.2.2.2.2.2.1 k0_t16 k0_h19 k0_h21
theorem k0_off410_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off410 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.2.2.2.2.2.2.2.1 k0_t16 k0_h19 k0_h21
theorem k0_off411_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off411 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.2.2.2.2.2.2.2.2.1 k0_t16 k0_h19 k0_h21
theorem k0_off412_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off412 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.2.2.2.2.2.2.2.2.2.1 k0_t16 k0_h19 k0_h21
theorem k0_off413_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off413 v18 v24 v35_4 v35_0 k0_t10 v216 v222 k0_t16) a + S1x16.size a ≤ S32x768.size a := fun v18 v24 v35_4 v35_0 k0_t10 v216 v222 k0_hw10 k0_t16 k0_h19 k0_h21 => k0_hw10.2.2.1.2.2.2.2.2.2.2.2.2.2.2.2.2.2.2.2.2.2.2.2.2.2.2.2.2.2.2.2.2.2.2 k0_t16 k0_h19 k0_h21
theorem k0_off414_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off414 v18 v24 v35_4 v35_0 k0_t10 v216 v222 k0_t16) a + S1x16.size a ≤ S32x768.size a := fun v18 v24 v35_4 v35_0 k0_t10 v216 v222 k0_hw10 k0_t16 k0_h19 k0_h21 => k0_hw10.2.2.2.1 k0_t16 k0_h19 k0_h21
theorem k0_off415_inb : ∀ (v18 : BitVec 32) (v24 : BitVec 32) (v35_4 : BitVec 32) (v35_0 : BitVec 32) (k0_t10 : Fin (k0_t10_loop v18 v24 v35_4 v35_0).trips) (v216 : BitVec 32) (v222 : BitVec 32) (k0_hw10 : k0_chk10 v18 v24 v35_4 v35_0 k0_t10 v216 v222) (k0_t16 : Fin (k0_t16_loop v18 v24 v35_4 v35_0 k0_t10 v216 v222).trips), ∀ (k0_h19 : k0_cond19 v18 v24 v35_4 v35_0 k0_t10 = 1#1), ∀ (k0_h21 : k0_cond21 v18 v24 v35_4 v35_0 k0_t10 v216 v222 = 1#1), ∀ a, (k0_off415 v18 v24 v35_4 v35_0 k0_t10 v216 v222 k0_t16) a + S1x16.size a ≤ S32x768.size a := fun v18 v24 v35_4 v35_0 k0_t10 v216 v222 k0_hw10 k0_t16 k0_h19 k0_h21 => k0_hw10.2.2.2.2 k0_t16 k0_h19 k0_h21

def k0_off416 (k0_t14 : Fin k0_t14_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t14
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_off417 (k0_t14 : Fin k0_t14_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t14
  let c768_i32_186 : BitVec 32 := 768#32
  let v286 : BitVec 32 := Scalar.muli arg22 c768_i32_186
  let v293 : BitVec 32 := Scalar.addi v286 c0_i32_189
  let v294 : Index := Scalar.indexCast v293
  ![v294.toNat]
@[reducible] def k0_t17_loop : Scf.Loop 32 :=
  let c0_i32_52 : BitVec 32 := 0#32
  let c4_i32_53 : BitVec 32 := 4#32
  let v91 : BitVec 32 := Scalar.addi c0_i32_52 c4_i32_53
  let c1_i32_54 : BitVec 32 := 1#32
  ⟨c0_i32_52, v91, c1_i32_54⟩
def k0_off418 (k0_t17 : Fin k0_t17_loop.trips) : Fin 1 → Nat :=
  let c0_i32_52 : BitVec 32 := 0#32
  let c1_i32_54 : BitVec 32 := 1#32
  let arg21 : BitVec 32 := Scf.iv c0_i32_52 c1_i32_54 k0_t17
  let v186 : Index := Scalar.indexCast arg21
  ![v186.toNat]
def k0_off419 (k0_t17 : Fin k0_t17_loop.trips) : Fin 1 → Nat :=
  let c0_i32_52 : BitVec 32 := 0#32
  let c1_i32_54 : BitVec 32 := 1#32
  let arg21 : BitVec 32 := Scf.iv c0_i32_52 c1_i32_54 k0_t17
  let c1_i32_116 : BitVec 32 := 1#32
  let v191 : BitVec 32 := Scalar.addi arg21 c1_i32_116
  let v192 : Index := Scalar.indexCast v191
  ![v192.toNat]
def k0_off420 (k0_t17 : Fin k0_t17_loop.trips) (c0_i32_121 : BitVec 32) : Fin 1 → Nat :=
  let c0_i32_52 : BitVec 32 := 0#32
  let c1_i32_54 : BitVec 32 := 1#32
  let arg21 : BitVec 32 := Scf.iv c0_i32_52 c1_i32_54 k0_t17
  let c768_i32_120 : BitVec 32 := 768#32
  let v206 : BitVec 32 := Scalar.muli arg21 c768_i32_120
  let v207 : BitVec 32 := Scalar.addi v206 c0_i32_121
  let v208 : Index := Scalar.indexCast v207
  ![v208.toNat]
def k0_mult11 (i : grid0.Coords) (k0_t1 : Fin k0_t1_loop.trips) : BitVec 32 :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let c128_i32 : BitVec 32 := 128#32
  let v92 : BitVec 32 := Scalar.muli v13 c128_i32
  let c4_i32_56 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v93 : BitVec 32 := Scalar.muli c4_i32_56 v1
  let v94 : BitVec 32 := Scalar.addi v92 v93
  let c768_i32 : BitVec 32 := 768#32
  let v95 : BitVec 32 := Scalar.muli v94 c768_i32
  v95
def k0_off421 (i : grid0.Coords) (k0_t1 : Fin k0_t1_loop.trips) : Fin 1 → Nat :=
  let c0_i32_4 : BitVec 32 := 0#32
  let c1_i32 : BitVec 32 := 1#32
  let arg20 : BitVec 32 := Scf.iv c0_i32_4 c1_i32 k0_t1
  let c2_i32_10 : BitVec 32 := 2#32
  let v12 : BitVec 32 := Scalar.muli arg20 c2_i32_10
  let c0_i32_11 : BitVec 32 := 0#32
  let v13 : BitVec 32 := Scalar.addi v12 c0_i32_11
  let c128_i32 : BitVec 32 := 128#32
  let v92 : BitVec 32 := Scalar.muli v13 c128_i32
  let c4_i32_56 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v93 : BitVec 32 := Scalar.muli c4_i32_56 v1
  let v94 : BitVec 32 := Scalar.addi v92 v93
  let c768_i32 : BitVec 32 := 768#32
  let v95 : BitVec 32 := Scalar.muli v94 c768_i32
  let v96 : BitVec 32 := v95
  ![v96.toNat]
def k0_off422 (k0_t1 : Fin k0_t1_loop.trips) : Fin 1 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v101 : Index := Scalar.indexCast v100
  ![v101.toNat]
def k0_off423 (k0_t1 : Fin k0_t1_loop.trips) : Fin 1 → Nat :=
  let c16_i32_59 : BitVec 32 := 16#32
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v106 : BitVec 32 := Scalar.addi c16_i32_59 v100
  let v107 : Index := Scalar.indexCast v106
  ![v107.toNat]
def k0_cond24 (k0_t1 : Fin k0_t1_loop.trips) : BitVec 1 :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let c1_i32_64 : BitVec 32 := 1#32
  let v116 : BitVec 32 := Scalar.addi v100 c1_i32_64
  let c16_i32_65 : BitVec 32 := 16#32
  let v117 : BitVec 1 := Scalar.cmpi .slt v116 c16_i32_65
  let v118 : BitVec 32 := Scalar.extui v117
  let c0_i32_66 : BitVec 32 := 0#32
  let v119 : BitVec 1 := Scalar.cmpi .ne v118 c0_i32_66
  v119

def k0_mult12 (k0_t1 : Fin k0_t1_loop.trips) : BitVec 32 :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let c1_i32_116 : BitVec 32 := 1#32
  let v186 : BitVec 32 := Scalar.addi v100 c1_i32_116
  let c4096_i32_117 : BitVec 32 := 4096#32
  let v187 : BitVec 32 := Scalar.muli v186 c4096_i32_117
  v187
def k0_off424 (k0_t1 : Fin k0_t1_loop.trips) : Fin 1 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let c1_i32_116 : BitVec 32 := 1#32
  let v186 : BitVec 32 := Scalar.addi v100 c1_i32_116
  let c4096_i32_117 : BitVec 32 := 4096#32
  let v187 : BitVec 32 := Scalar.muli v186 c4096_i32_117
  let v188 : BitVec 32 := v187
  ![v188.toNat]
@[reducible] def k0_t18_loop : Scf.Loop 32 :=
  let c0_i32_78 : BitVec 32 := 0#32
  let c12_i32_79 : BitVec 32 := 12#32
  let v121 : BitVec 32 := Scalar.addi c0_i32_78 c12_i32_79
  let c1_i32_80 : BitVec 32 := 1#32
  ⟨c0_i32_78, v121, c1_i32_80⟩
def k0_off425 (arg22 : BitVec 32) (arg27 : BitVec 32) : Fin 1 → Nat :=
  let v186 : BitVec 32 := Scalar.addi arg22 arg27
  let c1_i32_116 : BitVec 32 := 1#32
  let v187 : BitVec 32 := Scalar.shrsi v186 c1_i32_116
  let v188 : Index := Scalar.indexCast v187
  ![v188.toNat]

def k0_chk11 (arg22 : BitVec 32) (arg27 : BitVec 32) : Prop :=
  (∀ a, (k0_off425 arg22 arg27) a + S16.size a ≤ S4112.size a)
theorem k0_off425_inb : ∀ (arg22 : BitVec 32) (arg27 : BitVec 32) (k0_hw11 : k0_chk11 arg22 arg27), ∀ a, (k0_off425 arg22 arg27) a + S16.size a ≤ S4112.size a := fun arg22 arg27 k0_hw11 => k0_hw11

def k0_off426 (arg23 : BitVec 32) (arg28 : BitVec 32) : Fin 1 → Nat :=
  let v198 : BitVec 32 := Scalar.addi arg23 arg28
  let c1_i32_119 : BitVec 32 := 1#32
  let v199 : BitVec 32 := Scalar.shrsi v198 c1_i32_119
  let v200 : Index := Scalar.indexCast v199
  ![v200.toNat]

def k0_chk12 (arg23 : BitVec 32) (arg28 : BitVec 32) : Prop :=
  (∀ a, (k0_off426 arg23 arg28) a + S16.size a ≤ S4112.size a)
theorem k0_off426_inb : ∀ (arg23 : BitVec 32) (arg28 : BitVec 32) (k0_hw12 : k0_chk12 arg23 arg28), ∀ a, (k0_off426 arg23 arg28) a + S16.size a ≤ S4112.size a := fun arg23 arg28 k0_hw12 => k0_hw12

def k0_off427 (arg24 : BitVec 32) (arg29 : BitVec 32) : Fin 1 → Nat :=
  let v210 : BitVec 32 := Scalar.addi arg24 arg29
  let c1_i32_122 : BitVec 32 := 1#32
  let v211 : BitVec 32 := Scalar.shrsi v210 c1_i32_122
  let v212 : Index := Scalar.indexCast v211
  ![v212.toNat]

def k0_chk13 (arg24 : BitVec 32) (arg29 : BitVec 32) : Prop :=
  (∀ a, (k0_off427 arg24 arg29) a + S16.size a ≤ S4112.size a)
theorem k0_off427_inb : ∀ (arg24 : BitVec 32) (arg29 : BitVec 32) (k0_hw13 : k0_chk13 arg24 arg29), ∀ a, (k0_off427 arg24 arg29) a + S16.size a ≤ S4112.size a := fun arg24 arg29 k0_hw13 => k0_hw13

def k0_off428 (arg25 : BitVec 32) (arg30 : BitVec 32) : Fin 1 → Nat :=
  let v222 : BitVec 32 := Scalar.addi arg25 arg30
  let c1_i32_125 : BitVec 32 := 1#32
  let v223 : BitVec 32 := Scalar.shrsi v222 c1_i32_125
  let v224 : Index := Scalar.indexCast v223
  ![v224.toNat]

def k0_chk14 (arg25 : BitVec 32) (arg30 : BitVec 32) : Prop :=
  (∀ a, (k0_off428 arg25 arg30) a + S16.size a ≤ S4112.size a)
theorem k0_off428_inb : ∀ (arg25 : BitVec 32) (arg30 : BitVec 32) (k0_hw14 : k0_chk14 arg25 arg30), ∀ a, (k0_off428 arg25 arg30) a + S16.size a ≤ S4112.size a := fun arg25 arg30 k0_hw14 => k0_hw14

def k0_off429 (arg26 : BitVec 32) (arg31 : BitVec 32) : Fin 1 → Nat :=
  let v234 : BitVec 32 := Scalar.addi arg26 arg31
  let c1_i32_128 : BitVec 32 := 1#32
  let v235 : BitVec 32 := Scalar.shrsi v234 c1_i32_128
  let v236 : Index := Scalar.indexCast v235
  ![v236.toNat]

def k0_chk15 (arg26 : BitVec 32) (arg31 : BitVec 32) : Prop :=
  (∀ a, (k0_off429 arg26 arg31) a + S16.size a ≤ S4112.size a)
theorem k0_off429_inb : ∀ (arg26 : BitVec 32) (arg31 : BitVec 32) (k0_hw15 : k0_chk15 arg26 arg31), ∀ a, (k0_off429 arg26 arg31) a + S16.size a ≤ S4112.size a := fun arg26 arg31 k0_hw15 => k0_hw15

def k0_mult13 (v105 : BitVec 32) (v111 : BitVec 32) (v122_0 : BitVec 32) : BitVec 32 :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  v161
def k0_cond26 (v105 : BitVec 32) (v111 : BitVec 32) (v122_4 : BitVec 32) (v122_0 : BitVec 32) : BitVec 1 :=
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c0_i32_98 : BitVec 32 := 0#32
  let v167 : BitVec 1 := Scalar.cmpi .sgt v166 c0_i32_98
  let v168 : BitVec 32 := Scalar.extui v167
  let c0_i32_99 : BitVec 32 := 0#32
  let v169 : BitVec 1 := Scalar.cmpi .ne v168 c0_i32_99
  v169

def k0_off430 (k0_t1 : Fin k0_t1_loop.trips) (v105 : BitVec 32) (v111 : BitVec 32) (v122_0 : BitVec 32) : Fin 3 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let v186 : BitVec 32 := v161
  let c0_i32_116 : BitVec 32 := 0#32
  ![v100.toNat, v186.toNat, 0]
@[reducible] def k0_t19_loop (v105 : BitVec 32) (v111 : BitVec 32) (v122_4 : BitVec 32) (v122_0 : BitVec 32) : Scf.Loop 32 :=
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_105 : BitVec 32 := 1#32
  ⟨c0_i32_103, v176, c1_i32_105⟩
def k0_mult14 (v105 : BitVec 32) (v111 : BitVec 32) (v122_4 : BitVec 32) (v122_0 : BitVec 32) (k0_t19 : Fin (k0_t19_loop v105 v111 v122_4 v122_0).trips) : BitVec 32 :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let c4064_i32 : BitVec 32 := 4064#32
  let v198 : BitVec 32 := Scalar.minsi v197 c4064_i32
  v198
def k0_cond27 (v105 : BitVec 32) (v111 : BitVec 32) (v122_4 : BitVec 32) (v122_0 : BitVec 32) (k0_t19 : Fin (k0_t19_loop v105 v111 v122_4 v122_0).trips) : BitVec 1 :=
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let v188 : BitVec 1 := Scalar.cmpi .slt v187 v166
  let v189 : BitVec 32 := Scalar.extui v188
  let c0_i32_118 : BitVec 32 := 0#32
  let v190 : BitVec 1 := Scalar.cmpi .ne v189 c0_i32_118
  v190

def k0_off431 (k0_t1 : Fin k0_t1_loop.trips) (v105 : BitVec 32) (v111 : BitVec 32) (v122_4 : BitVec 32) (v122_0 : BitVec 32) (k0_t19 : Fin (k0_t19_loop v105 v111 v122_4 v122_0).trips) : Fin 3 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let c4064_i32 : BitVec 32 := 4064#32
  let v198 : BitVec 32 := Scalar.minsi v197 c4064_i32
  let v199 : BitVec 32 := v198
  let c0_i32_122 : BitVec 32 := 0#32
  ![v100.toNat, v199.toNat, 0]
def k0_mult15 (v105 : BitVec 32) (v111 : BitVec 32) (v122_4 : BitVec 32) (v122_0 : BitVec 32) (k0_t19 : Fin (k0_t19_loop v105 v111 v122_4 v122_0).trips) : BitVec 32 :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c1_i32_132 : BitVec 32 := 1#32
  let v212 : BitVec 32 := Scalar.addi v187 c1_i32_132
  let c32_i32_133 : BitVec 32 := 32#32
  let v213 : BitVec 32 := Scalar.muli v212 c32_i32_133
  let v214 : BitVec 32 := Scalar.addi v161 v213
  let c4064_i32_134 : BitVec 32 := 4064#32
  let v215 : BitVec 32 := Scalar.minsi v214 c4064_i32_134
  v215
def k0_cond28 (v105 : BitVec 32) (v111 : BitVec 32) (v122_4 : BitVec 32) (v122_0 : BitVec 32) (k0_t19 : Fin (k0_t19_loop v105 v111 v122_4 v122_0).trips) : BitVec 1 :=
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c1_i32_124 : BitVec 32 := 1#32
  let v204 : BitVec 32 := Scalar.addi v187 c1_i32_124
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let v205 : BitVec 1 := Scalar.cmpi .slt v204 v166
  let v206 : BitVec 32 := Scalar.extui v205
  let c0_i32_125 : BitVec 32 := 0#32
  let v207 : BitVec 1 := Scalar.cmpi .ne v206 c0_i32_125
  v207

def k0_off432 (k0_t1 : Fin k0_t1_loop.trips) (v105 : BitVec 32) (v111 : BitVec 32) (v122_4 : BitVec 32) (v122_0 : BitVec 32) (k0_t19 : Fin (k0_t19_loop v105 v111 v122_4 v122_0).trips) : Fin 3 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c1_i32_132 : BitVec 32 := 1#32
  let v212 : BitVec 32 := Scalar.addi v187 c1_i32_132
  let c32_i32_133 : BitVec 32 := 32#32
  let v213 : BitVec 32 := Scalar.muli v212 c32_i32_133
  let v214 : BitVec 32 := Scalar.addi v161 v213
  let c4064_i32_134 : BitVec 32 := 4064#32
  let v215 : BitVec 32 := Scalar.minsi v214 c4064_i32_134
  let v216 : BitVec 32 := v215
  let c0_i32_135 : BitVec 32 := 0#32
  ![v100.toNat, v216.toNat, 0]
@[reducible] def k0_t20_loop : Scf.Loop 32 :=
  let c0_i32_128 : BitVec 32 := 0#32
  let c4_i32_129 : BitVec 32 := 4#32
  let v211 : BitVec 32 := Scalar.addi c0_i32_128 c4_i32_129
  let c1_i32_130 : BitVec 32 := 1#32
  ⟨c0_i32_128, v211, c1_i32_130⟩
def k0_off433 (k0_t20 : Fin k0_t20_loop.trips) : Fin 1 → Nat :=
  let c0_i32_128 : BitVec 32 := 0#32
  let c1_i32_130 : BitVec 32 := 1#32
  let arg22 : BitVec 32 := Scf.iv c0_i32_128 c1_i32_130 k0_t20
  let v212 : Index := Scalar.indexCast arg22
  ![v212.toNat]
def k0_off434 (k0_t20 : Fin k0_t20_loop.trips) : Fin 1 → Nat :=
  let c0_i32_128 : BitVec 32 := 0#32
  let c1_i32_130 : BitVec 32 := 1#32
  let arg22 : BitVec 32 := Scf.iv c0_i32_128 c1_i32_130 k0_t20
  let c1_i32_132 : BitVec 32 := 1#32
  let v217 : BitVec 32 := Scalar.addi arg22 c1_i32_132
  let v218 : Index := Scalar.indexCast v217
  ![v218.toNat]
@[reducible] def k0_t21_loop (v105 : BitVec 32) (v111 : BitVec 32) (v122_4 : BitVec 32) (v122_0 : BitVec 32) (k0_t19 : Fin (k0_t19_loop v105 v111 v122_4 v122_0).trips) (v216 : BitVec 32) (v222 : BitVec 32) : Scf.Loop 32 :=
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_184 : BitVec 32 := 1#32
  ⟨c0_i32_182, v283, c1_i32_184⟩
def k0_cond29 (v105 : BitVec 32) (v111 : BitVec 32) (v122_4 : BitVec 32) (v122_0 : BitVec 32) (k0_t19 : Fin (k0_t19_loop v105 v111 v122_4 v122_0).trips) (v216 : BitVec 32) (v222 : BitVec 32) : BitVec 1 :=
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v227 : BitVec 1 := Scalar.cmpi .sgt v226 v224
  let v228 : BitVec 32 := Scalar.extui v227
  let c0_i32_133 : BitVec 32 := 0#32
  let v229 : BitVec 1 := Scalar.cmpi .ne v228 c0_i32_133
  v229

def k0_off435 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v293 : BitVec 32 := Scalar.addi v224 arg23
  let v294 : Index := Scalar.indexCast v293
  let c0_189 : Index := 0#32
  ![v294.toNat, 0]
def k0_off436 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v298 : BitVec 32 := Scalar.addi v224 arg23
  let v299 : Index := Scalar.indexCast v298
  let c16 : Index := 16#32
  ![v299.toNat, 16]
def k0_off437 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v303 : BitVec 32 := Scalar.addi v224 arg23
  let v304 : Index := Scalar.indexCast v303
  let c32 : Index := 32#32
  ![v304.toNat, 32]
def k0_off438 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v308 : BitVec 32 := Scalar.addi v224 arg23
  let v309 : Index := Scalar.indexCast v308
  let c48 : Index := 48#32
  ![v309.toNat, 48]
def k0_off439 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v313 : BitVec 32 := Scalar.addi v224 arg23
  let v314 : Index := Scalar.indexCast v313
  let c64 : Index := 64#32
  ![v314.toNat, 64]
def k0_off440 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v318 : BitVec 32 := Scalar.addi v224 arg23
  let v319 : Index := Scalar.indexCast v318
  let c80 : Index := 80#32
  ![v319.toNat, 80]
def k0_off441 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v323 : BitVec 32 := Scalar.addi v224 arg23
  let v324 : Index := Scalar.indexCast v323
  let c96 : Index := 96#32
  ![v324.toNat, 96]
def k0_off442 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v328 : BitVec 32 := Scalar.addi v224 arg23
  let v329 : Index := Scalar.indexCast v328
  let c112 : Index := 112#32
  ![v329.toNat, 112]
def k0_off443 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v333 : BitVec 32 := Scalar.addi v224 arg23
  let v334 : Index := Scalar.indexCast v333
  let c128 : Index := 128#32
  ![v334.toNat, 128]
def k0_off444 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v338 : BitVec 32 := Scalar.addi v224 arg23
  let v339 : Index := Scalar.indexCast v338
  let c144 : Index := 144#32
  ![v339.toNat, 144]
def k0_off445 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v343 : BitVec 32 := Scalar.addi v224 arg23
  let v344 : Index := Scalar.indexCast v343
  let c160 : Index := 160#32
  ![v344.toNat, 160]
def k0_off446 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v348 : BitVec 32 := Scalar.addi v224 arg23
  let v349 : Index := Scalar.indexCast v348
  let c176 : Index := 176#32
  ![v349.toNat, 176]
def k0_off447 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v353 : BitVec 32 := Scalar.addi v224 arg23
  let v354 : Index := Scalar.indexCast v353
  let c192 : Index := 192#32
  ![v354.toNat, 192]
def k0_off448 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v358 : BitVec 32 := Scalar.addi v224 arg23
  let v359 : Index := Scalar.indexCast v358
  let c208 : Index := 208#32
  ![v359.toNat, 208]
def k0_off449 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v363 : BitVec 32 := Scalar.addi v224 arg23
  let v364 : Index := Scalar.indexCast v363
  let c224 : Index := 224#32
  ![v364.toNat, 224]
def k0_off450 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v368 : BitVec 32 := Scalar.addi v224 arg23
  let v369 : Index := Scalar.indexCast v368
  let c240 : Index := 240#32
  ![v369.toNat, 240]
def k0_off451 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v373 : BitVec 32 := Scalar.addi v224 arg23
  let v374 : Index := Scalar.indexCast v373
  let c256 : Index := 256#32
  ![v374.toNat, 256]
def k0_off452 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v378 : BitVec 32 := Scalar.addi v224 arg23
  let v379 : Index := Scalar.indexCast v378
  let c272 : Index := 272#32
  ![v379.toNat, 272]
def k0_off453 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v383 : BitVec 32 := Scalar.addi v224 arg23
  let v384 : Index := Scalar.indexCast v383
  let c288 : Index := 288#32
  ![v384.toNat, 288]
def k0_off454 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v388 : BitVec 32 := Scalar.addi v224 arg23
  let v389 : Index := Scalar.indexCast v388
  let c304 : Index := 304#32
  ![v389.toNat, 304]
def k0_off455 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v393 : BitVec 32 := Scalar.addi v224 arg23
  let v394 : Index := Scalar.indexCast v393
  let c320 : Index := 320#32
  ![v394.toNat, 320]
def k0_off456 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v398 : BitVec 32 := Scalar.addi v224 arg23
  let v399 : Index := Scalar.indexCast v398
  let c336 : Index := 336#32
  ![v399.toNat, 336]
def k0_off457 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v403 : BitVec 32 := Scalar.addi v224 arg23
  let v404 : Index := Scalar.indexCast v403
  let c352 : Index := 352#32
  ![v404.toNat, 352]
def k0_off458 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v408 : BitVec 32 := Scalar.addi v224 arg23
  let v409 : Index := Scalar.indexCast v408
  let c368 : Index := 368#32
  ![v409.toNat, 368]
def k0_off459 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v413 : BitVec 32 := Scalar.addi v224 arg23
  let v414 : Index := Scalar.indexCast v413
  let c384 : Index := 384#32
  ![v414.toNat, 384]
def k0_off460 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v418 : BitVec 32 := Scalar.addi v224 arg23
  let v419 : Index := Scalar.indexCast v418
  let c400 : Index := 400#32
  ![v419.toNat, 400]
def k0_off461 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v423 : BitVec 32 := Scalar.addi v224 arg23
  let v424 : Index := Scalar.indexCast v423
  let c416 : Index := 416#32
  ![v424.toNat, 416]
def k0_off462 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v428 : BitVec 32 := Scalar.addi v224 arg23
  let v429 : Index := Scalar.indexCast v428
  let c432 : Index := 432#32
  ![v429.toNat, 432]
def k0_off463 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v433 : BitVec 32 := Scalar.addi v224 arg23
  let v434 : Index := Scalar.indexCast v433
  let c448 : Index := 448#32
  ![v434.toNat, 448]
def k0_off464 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v438 : BitVec 32 := Scalar.addi v224 arg23
  let v439 : Index := Scalar.indexCast v438
  let c464 : Index := 464#32
  ![v439.toNat, 464]
def k0_off465 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v443 : BitVec 32 := Scalar.addi v224 arg23
  let v444 : Index := Scalar.indexCast v443
  let c480 : Index := 480#32
  ![v444.toNat, 480]
def k0_off466 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v448 : BitVec 32 := Scalar.addi v224 arg23
  let v449 : Index := Scalar.indexCast v448
  let c496 : Index := 496#32
  ![v449.toNat, 496]
def k0_off467 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v453 : BitVec 32 := Scalar.addi v224 arg23
  let v454 : Index := Scalar.indexCast v453
  let c512 : Index := 512#32
  ![v454.toNat, 512]
def k0_off468 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v458 : BitVec 32 := Scalar.addi v224 arg23
  let v459 : Index := Scalar.indexCast v458
  let c528 : Index := 528#32
  ![v459.toNat, 528]
def k0_off469 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v463 : BitVec 32 := Scalar.addi v224 arg23
  let v464 : Index := Scalar.indexCast v463
  let c544 : Index := 544#32
  ![v464.toNat, 544]
def k0_off470 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v468 : BitVec 32 := Scalar.addi v224 arg23
  let v469 : Index := Scalar.indexCast v468
  let c560 : Index := 560#32
  ![v469.toNat, 560]
def k0_off471 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v473 : BitVec 32 := Scalar.addi v224 arg23
  let v474 : Index := Scalar.indexCast v473
  let c576 : Index := 576#32
  ![v474.toNat, 576]
def k0_off472 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v478 : BitVec 32 := Scalar.addi v224 arg23
  let v479 : Index := Scalar.indexCast v478
  let c592 : Index := 592#32
  ![v479.toNat, 592]
def k0_off473 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v483 : BitVec 32 := Scalar.addi v224 arg23
  let v484 : Index := Scalar.indexCast v483
  let c608 : Index := 608#32
  ![v484.toNat, 608]
def k0_off474 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v488 : BitVec 32 := Scalar.addi v224 arg23
  let v489 : Index := Scalar.indexCast v488
  let c624 : Index := 624#32
  ![v489.toNat, 624]
def k0_off475 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v493 : BitVec 32 := Scalar.addi v224 arg23
  let v494 : Index := Scalar.indexCast v493
  let c640 : Index := 640#32
  ![v494.toNat, 640]
def k0_off476 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v498 : BitVec 32 := Scalar.addi v224 arg23
  let v499 : Index := Scalar.indexCast v498
  let c656 : Index := 656#32
  ![v499.toNat, 656]
def k0_off477 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v503 : BitVec 32 := Scalar.addi v224 arg23
  let v504 : Index := Scalar.indexCast v503
  let c672 : Index := 672#32
  ![v504.toNat, 672]
def k0_off478 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v508 : BitVec 32 := Scalar.addi v224 arg23
  let v509 : Index := Scalar.indexCast v508
  let c688 : Index := 688#32
  ![v509.toNat, 688]
def k0_off479 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v513 : BitVec 32 := Scalar.addi v224 arg23
  let v514 : Index := Scalar.indexCast v513
  let c704 : Index := 704#32
  ![v514.toNat, 704]
def k0_off480 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v518 : BitVec 32 := Scalar.addi v224 arg23
  let v519 : Index := Scalar.indexCast v518
  let c720 : Index := 720#32
  ![v519.toNat, 720]
def k0_off481 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v523 : BitVec 32 := Scalar.addi v224 arg23
  let v524 : Index := Scalar.indexCast v523
  let c736 : Index := 736#32
  ![v524.toNat, 736]
def k0_off482 (v105 : BitVec 32) (v111 : BitVec 32) (v122_4 : BitVec 32) (v122_0 : BitVec 32) (k0_t19 : Fin (k0_t19_loop v105 v111 v122_4 v122_0).trips) (v216 : BitVec 32) (v222 : BitVec 32) (k0_t21 : Fin (k0_t21_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t21
  let v528 : BitVec 32 := Scalar.addi v224 arg23
  let v529 : Index := Scalar.indexCast v528
  let c752 : Index := 752#32
  ![v529.toNat, 752]
@[reducible] def k0_t22_loop (v105 : BitVec 32) (v111 : BitVec 32) (v122_4 : BitVec 32) (v122_0 : BitVec 32) (k0_t19 : Fin (k0_t19_loop v105 v111 v122_4 v122_0).trips) (v216 : BitVec 32) (v222 : BitVec 32) : Scf.Loop 32 :=
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let v280 : BitVec 32 := Scalar.addi c0_i32_182 v279
  let c1_i32_185 : BitVec 32 := 1#32
  ⟨v283, v280, c1_i32_185⟩
def k0_off483 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v293 : BitVec 32 := Scalar.addi v224 arg23
  let v294 : Index := Scalar.indexCast v293
  let c0_189 : Index := 0#32
  ![v294.toNat, 0]
def k0_off484 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v298 : BitVec 32 := Scalar.addi v224 arg23
  let v299 : Index := Scalar.indexCast v298
  let c16 : Index := 16#32
  ![v299.toNat, 16]
def k0_off485 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v303 : BitVec 32 := Scalar.addi v224 arg23
  let v304 : Index := Scalar.indexCast v303
  let c32 : Index := 32#32
  ![v304.toNat, 32]
def k0_off486 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v308 : BitVec 32 := Scalar.addi v224 arg23
  let v309 : Index := Scalar.indexCast v308
  let c48 : Index := 48#32
  ![v309.toNat, 48]
def k0_off487 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v313 : BitVec 32 := Scalar.addi v224 arg23
  let v314 : Index := Scalar.indexCast v313
  let c64 : Index := 64#32
  ![v314.toNat, 64]
def k0_off488 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v318 : BitVec 32 := Scalar.addi v224 arg23
  let v319 : Index := Scalar.indexCast v318
  let c80 : Index := 80#32
  ![v319.toNat, 80]
def k0_off489 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v323 : BitVec 32 := Scalar.addi v224 arg23
  let v324 : Index := Scalar.indexCast v323
  let c96 : Index := 96#32
  ![v324.toNat, 96]
def k0_off490 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v328 : BitVec 32 := Scalar.addi v224 arg23
  let v329 : Index := Scalar.indexCast v328
  let c112 : Index := 112#32
  ![v329.toNat, 112]
def k0_off491 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v333 : BitVec 32 := Scalar.addi v224 arg23
  let v334 : Index := Scalar.indexCast v333
  let c128 : Index := 128#32
  ![v334.toNat, 128]
def k0_off492 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v338 : BitVec 32 := Scalar.addi v224 arg23
  let v339 : Index := Scalar.indexCast v338
  let c144 : Index := 144#32
  ![v339.toNat, 144]
def k0_off493 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v343 : BitVec 32 := Scalar.addi v224 arg23
  let v344 : Index := Scalar.indexCast v343
  let c160 : Index := 160#32
  ![v344.toNat, 160]
def k0_off494 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v348 : BitVec 32 := Scalar.addi v224 arg23
  let v349 : Index := Scalar.indexCast v348
  let c176 : Index := 176#32
  ![v349.toNat, 176]
def k0_off495 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v353 : BitVec 32 := Scalar.addi v224 arg23
  let v354 : Index := Scalar.indexCast v353
  let c192 : Index := 192#32
  ![v354.toNat, 192]
def k0_off496 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v358 : BitVec 32 := Scalar.addi v224 arg23
  let v359 : Index := Scalar.indexCast v358
  let c208 : Index := 208#32
  ![v359.toNat, 208]
def k0_off497 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v363 : BitVec 32 := Scalar.addi v224 arg23
  let v364 : Index := Scalar.indexCast v363
  let c224 : Index := 224#32
  ![v364.toNat, 224]
def k0_off498 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v368 : BitVec 32 := Scalar.addi v224 arg23
  let v369 : Index := Scalar.indexCast v368
  let c240 : Index := 240#32
  ![v369.toNat, 240]
def k0_off499 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v373 : BitVec 32 := Scalar.addi v224 arg23
  let v374 : Index := Scalar.indexCast v373
  let c256 : Index := 256#32
  ![v374.toNat, 256]
def k0_off500 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v378 : BitVec 32 := Scalar.addi v224 arg23
  let v379 : Index := Scalar.indexCast v378
  let c272 : Index := 272#32
  ![v379.toNat, 272]
def k0_off501 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v383 : BitVec 32 := Scalar.addi v224 arg23
  let v384 : Index := Scalar.indexCast v383
  let c288 : Index := 288#32
  ![v384.toNat, 288]
def k0_off502 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v388 : BitVec 32 := Scalar.addi v224 arg23
  let v389 : Index := Scalar.indexCast v388
  let c304 : Index := 304#32
  ![v389.toNat, 304]
def k0_off503 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v393 : BitVec 32 := Scalar.addi v224 arg23
  let v394 : Index := Scalar.indexCast v393
  let c320 : Index := 320#32
  ![v394.toNat, 320]
def k0_off504 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v398 : BitVec 32 := Scalar.addi v224 arg23
  let v399 : Index := Scalar.indexCast v398
  let c336 : Index := 336#32
  ![v399.toNat, 336]
def k0_off505 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v403 : BitVec 32 := Scalar.addi v224 arg23
  let v404 : Index := Scalar.indexCast v403
  let c352 : Index := 352#32
  ![v404.toNat, 352]
def k0_off506 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v408 : BitVec 32 := Scalar.addi v224 arg23
  let v409 : Index := Scalar.indexCast v408
  let c368 : Index := 368#32
  ![v409.toNat, 368]
def k0_off507 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v413 : BitVec 32 := Scalar.addi v224 arg23
  let v414 : Index := Scalar.indexCast v413
  let c384 : Index := 384#32
  ![v414.toNat, 384]
def k0_off508 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v418 : BitVec 32 := Scalar.addi v224 arg23
  let v419 : Index := Scalar.indexCast v418
  let c400 : Index := 400#32
  ![v419.toNat, 400]
def k0_off509 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v423 : BitVec 32 := Scalar.addi v224 arg23
  let v424 : Index := Scalar.indexCast v423
  let c416 : Index := 416#32
  ![v424.toNat, 416]
def k0_off510 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v428 : BitVec 32 := Scalar.addi v224 arg23
  let v429 : Index := Scalar.indexCast v428
  let c432 : Index := 432#32
  ![v429.toNat, 432]
def k0_off511 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v433 : BitVec 32 := Scalar.addi v224 arg23
  let v434 : Index := Scalar.indexCast v433
  let c448 : Index := 448#32
  ![v434.toNat, 448]
def k0_off512 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v438 : BitVec 32 := Scalar.addi v224 arg23
  let v439 : Index := Scalar.indexCast v438
  let c464 : Index := 464#32
  ![v439.toNat, 464]
def k0_off513 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v443 : BitVec 32 := Scalar.addi v224 arg23
  let v444 : Index := Scalar.indexCast v443
  let c480 : Index := 480#32
  ![v444.toNat, 480]
def k0_off514 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v448 : BitVec 32 := Scalar.addi v224 arg23
  let v449 : Index := Scalar.indexCast v448
  let c496 : Index := 496#32
  ![v449.toNat, 496]
def k0_off515 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v453 : BitVec 32 := Scalar.addi v224 arg23
  let v454 : Index := Scalar.indexCast v453
  let c512 : Index := 512#32
  ![v454.toNat, 512]
def k0_off516 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v458 : BitVec 32 := Scalar.addi v224 arg23
  let v459 : Index := Scalar.indexCast v458
  let c528 : Index := 528#32
  ![v459.toNat, 528]
def k0_off517 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v463 : BitVec 32 := Scalar.addi v224 arg23
  let v464 : Index := Scalar.indexCast v463
  let c544 : Index := 544#32
  ![v464.toNat, 544]
def k0_off518 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v468 : BitVec 32 := Scalar.addi v224 arg23
  let v469 : Index := Scalar.indexCast v468
  let c560 : Index := 560#32
  ![v469.toNat, 560]
def k0_off519 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v473 : BitVec 32 := Scalar.addi v224 arg23
  let v474 : Index := Scalar.indexCast v473
  let c576 : Index := 576#32
  ![v474.toNat, 576]
def k0_off520 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v478 : BitVec 32 := Scalar.addi v224 arg23
  let v479 : Index := Scalar.indexCast v478
  let c592 : Index := 592#32
  ![v479.toNat, 592]
def k0_off521 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v483 : BitVec 32 := Scalar.addi v224 arg23
  let v484 : Index := Scalar.indexCast v483
  let c608 : Index := 608#32
  ![v484.toNat, 608]
def k0_off522 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v488 : BitVec 32 := Scalar.addi v224 arg23
  let v489 : Index := Scalar.indexCast v488
  let c624 : Index := 624#32
  ![v489.toNat, 624]
def k0_off523 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v493 : BitVec 32 := Scalar.addi v224 arg23
  let v494 : Index := Scalar.indexCast v493
  let c640 : Index := 640#32
  ![v494.toNat, 640]
def k0_off524 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v498 : BitVec 32 := Scalar.addi v224 arg23
  let v499 : Index := Scalar.indexCast v498
  let c656 : Index := 656#32
  ![v499.toNat, 656]
def k0_off525 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v503 : BitVec 32 := Scalar.addi v224 arg23
  let v504 : Index := Scalar.indexCast v503
  let c672 : Index := 672#32
  ![v504.toNat, 672]
def k0_off526 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v508 : BitVec 32 := Scalar.addi v224 arg23
  let v509 : Index := Scalar.indexCast v508
  let c688 : Index := 688#32
  ![v509.toNat, 688]
def k0_off527 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v513 : BitVec 32 := Scalar.addi v224 arg23
  let v514 : Index := Scalar.indexCast v513
  let c704 : Index := 704#32
  ![v514.toNat, 704]
def k0_off528 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v518 : BitVec 32 := Scalar.addi v224 arg23
  let v519 : Index := Scalar.indexCast v518
  let c720 : Index := 720#32
  ![v519.toNat, 720]
def k0_off529 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v523 : BitVec 32 := Scalar.addi v224 arg23
  let v524 : Index := Scalar.indexCast v523
  let c736 : Index := 736#32
  ![v524.toNat, 736]
def k0_off530 (v105 : BitVec 32) (v111 : BitVec 32) (v122_4 : BitVec 32) (v122_0 : BitVec 32) (k0_t19 : Fin (k0_t19_loop v105 v111 v122_4 v122_0).trips) (v216 : BitVec 32) (v222 : BitVec 32) (k0_t22 : Fin (k0_t22_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t22
  let v528 : BitVec 32 := Scalar.addi v224 arg23
  let v529 : Index := Scalar.indexCast v528
  let c752 : Index := 752#32
  ![v529.toNat, 752]

def k0_chk17_0 (v105 : BitVec 32) (v111 : BitVec 32) (v122_4 : BitVec 32) (v122_0 : BitVec 32) (k0_t19 : Fin (k0_t19_loop v105 v111 v122_4 v122_0).trips) (v216 : BitVec 32) (v222 : BitVec 32) : Prop :=
  (∀ (k0_h27 : k0_cond27 v105 v111 v122_4 v122_0 k0_t19 = 1#1), ∀ (k0_h29 : k0_cond29 v105 v111 v122_4 v122_0 k0_t19 v216 v222 = 1#1), (k0_t21_loop v105 v111 v122_4 v122_0 k0_t19 v216 v222).OK) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off435 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off436 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off437 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off438 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off439 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off440 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off441 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off442 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off443 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off444 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off445 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off446 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off447 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off448 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off449 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off450 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off451 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off452 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off453 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off454 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off455 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off456 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off457 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off458 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off459 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off460 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off461 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off462 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off463 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off464 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off465 v105 v111 v122_4 v122_0 k0_t19 v216 v222 k0_t21) a + S1x16.size a ≤ S32x768.size a)
def k0_chk17_1 (v105 : BitVec 32) (v111 : BitVec 32) (v122_4 : BitVec 32) (v122_0 : BitVec 32) (k0_t19 : Fin (k0_t19_loop v105 v111 v122_4 v122_0).trips) (v216 : BitVec 32) (v222 : BitVec 32) : Prop :=
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off466 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off467 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off468 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off469 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off470 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off471 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off472 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off473 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off474 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off475 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off476 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off477 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off478 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off479 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off480 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off481 v105 v111 v122_4 v122_0 k0_t19 v216 v222 k0_t21) a + S1x16.size a ≤ S32x768.size a) ∧
  (∀ k0_t21 : Fin (k0_t21_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off482 v105 v111 v122_4 v122_0 k0_t19 v216 v222 k0_t21) a + S1x16.size a ≤ S32x768.size a) ∧
  (∀ (k0_h27 : k0_cond27 v105 v111 v122_4 v122_0 k0_t19 = 1#1), ∀ (k0_h29 : k0_cond29 v105 v111 v122_4 v122_0 k0_t19 v216 v222 = 1#1), (k0_t22_loop v105 v111 v122_4 v122_0 k0_t19 v216 v222).OK) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off483 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off484 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off485 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off486 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off487 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off488 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off489 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off490 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off491 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off492 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off493 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off494 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off495 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off496 v105 v111 v122_4 v122_0 k0_t19 v216 v222 k0_t22) a + S1x16.size a ≤ S32x768.size a)
def k0_chk17_2 (v105 : BitVec 32) (v111 : BitVec 32) (v122_4 : BitVec 32) (v122_0 : BitVec 32) (k0_t19 : Fin (k0_t19_loop v105 v111 v122_4 v122_0).trips) (v216 : BitVec 32) (v222 : BitVec 32) : Prop :=
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off497 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off498 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off499 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off500 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off501 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off502 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off503 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off504 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off505 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off506 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off507 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off508 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off509 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off510 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off511 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off512 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off513 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off514 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off515 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off516 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off517 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off518 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off519 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off520 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off521 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off522 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off523 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off524 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off525 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off526 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off527 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off528 v105 v111 v122_4 v122_0 k0_t19 v216 v222 k0_t22) a + S1x16.size a ≤ S32x768.size a)
def k0_chk17_3 (v105 : BitVec 32) (v111 : BitVec 32) (v122_4 : BitVec 32) (v122_0 : BitVec 32) (k0_t19 : Fin (k0_t19_loop v105 v111 v122_4 v122_0).trips) (v216 : BitVec 32) (v222 : BitVec 32) : Prop :=
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off529 v105 v111 v122_4 v122_0 k0_t19 v216 v222 k0_t22) a + S1x16.size a ≤ S32x768.size a) ∧
  (∀ k0_t22 : Fin (k0_t22_loop v105 v111 v122_4 v122_0 k0_t19 v216 v222).trips, ∀ (k0_h27 : k0_cond27 v105 v111 v122_4 v122_0 k0_t19 = 1#1), ∀ (k0_h29 : k0_cond29 v105 v111 v122_4 v122_0 k0_t19 v216 v222 = 1#1), ∀ a, (k0_off530 v105 v111 v122_4 v122_0 k0_t19 v216 v222 k0_t22) a + S1x16.size a ≤ S32x768.size a)
def k0_chk17 (v105 : BitVec 32) (v111 : BitVec 32) (v122_4 : BitVec 32) (v122_0 : BitVec 32) (k0_t19 : Fin (k0_t19_loop v105 v111 v122_4 v122_0).trips) (v216 : BitVec 32) (v222 : BitVec 32) : Prop :=
  k0_chk17_0 v105 v111 v122_4 v122_0 k0_t19 v216 v222 ∧
  k0_chk17_1 v105 v111 v122_4 v122_0 k0_t19 v216 v222 ∧
  k0_chk17_2 v105 v111 v122_4 v122_0 k0_t19 v216 v222 ∧
  k0_chk17_3 v105 v111 v122_4 v122_0 k0_t19 v216 v222
theorem k0_t21_ok : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222), ∀ (k0_h27 : k0_cond27 v105 v111 v122_4 v122_0 k0_t19 = 1#1), ∀ (k0_h29 : k0_cond29 v105 v111 v122_4 v122_0 k0_t19 v216 v222 = 1#1), (k0_t21_loop v105 v111 v122_4 v122_0 k0_t19 v216 v222).OK := fun v105 v111 v122_4 v122_0 k0_t19 v216 v222 k0_hw17 k0_h27 k0_h29 => k0_hw17.1.1 k0_h27 k0_h29
theorem k0_off435_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off435 v105 v111 v122_4 v122_0 k0_t19 v216 v222 k0_t21) a + S1x16.size a ≤ S32x768.size a := fun v105 v111 v122_4 v122_0 k0_t19 v216 v222 k0_hw17 k0_t21 k0_h27 k0_h29 => k0_hw17.1.2.1 k0_t21 k0_h27 k0_h29
theorem k0_off436_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off436 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.1 k0_t21 k0_h27 k0_h29
theorem k0_off437_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off437 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.1 k0_t21 k0_h27 k0_h29
theorem k0_off438_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off438 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.1 k0_t21 k0_h27 k0_h29
theorem k0_off439_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off439 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.1 k0_t21 k0_h27 k0_h29
theorem k0_off440_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off440 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.1 k0_t21 k0_h27 k0_h29
theorem k0_off441_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off441 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.1 k0_t21 k0_h27 k0_h29
theorem k0_off442_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off442 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.1 k0_t21 k0_h27 k0_h29
theorem k0_off443_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off443 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.1 k0_t21 k0_h27 k0_h29
theorem k0_off444_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off444 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.1 k0_t21 k0_h27 k0_h29
theorem k0_off445_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off445 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.1 k0_t21 k0_h27 k0_h29
theorem k0_off446_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off446 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.1 k0_t21 k0_h27 k0_h29
theorem k0_off447_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off447 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.1 k0_t21 k0_h27 k0_h29
theorem k0_off448_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off448 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.1 k0_t21 k0_h27 k0_h29
theorem k0_off449_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off449 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.1 k0_t21 k0_h27 k0_h29
theorem k0_off450_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off450 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.1 k0_t21 k0_h27 k0_h29
theorem k0_off451_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off451 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.1 k0_t21 k0_h27 k0_h29
theorem k0_off452_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off452 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.1 k0_t21 k0_h27 k0_h29
theorem k0_off453_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off453 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.1 k0_t21 k0_h27 k0_h29
theorem k0_off454_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off454 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.1 k0_t21 k0_h27 k0_h29
theorem k0_off455_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off455 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.1 k0_t21 k0_h27 k0_h29
theorem k0_off456_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off456 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.2.1 k0_t21 k0_h27 k0_h29
theorem k0_off457_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off457 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.2.2.1 k0_t21 k0_h27 k0_h29
theorem k0_off458_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off458 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.2.2.2.1 k0_t21 k0_h27 k0_h29
theorem k0_off459_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off459 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.2.2.2.2.1 k0_t21 k0_h27 k0_h29
theorem k0_off460_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off460 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.2.2.2.2.2.1 k0_t21 k0_h27 k0_h29
theorem k0_off461_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off461 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.2.2.2.2.2.2.1 k0_t21 k0_h27 k0_h29
theorem k0_off462_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off462 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.2.2.2.2.2.2.2.1 k0_t21 k0_h27 k0_h29
theorem k0_off463_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off463 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.2.2.2.2.2.2.2.2.1 k0_t21 k0_h27 k0_h29
theorem k0_off464_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off464 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.2.2.2.2.2.2.2.2.2.1 k0_t21 k0_h27 k0_h29
theorem k0_off465_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off465 v105 v111 v122_4 v122_0 k0_t19 v216 v222 k0_t21) a + S1x16.size a ≤ S32x768.size a := fun v105 v111 v122_4 v122_0 k0_t19 v216 v222 k0_hw17 k0_t21 k0_h27 k0_h29 => k0_hw17.1.2.2.2.2.2.2.2.2.2.2.2.2.2.2.2.2.2.2.2.2.2.2.2.2.2.2.2.2.2.2.2 k0_t21 k0_h27 k0_h29
theorem k0_off466_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off466 v105 v111 v122_4 v122_0 k0_t19 v216 v222 k0_t21) a + S1x16.size a ≤ S32x768.size a := fun v105 v111 v122_4 v122_0 k0_t19 v216 v222 k0_hw17 k0_t21 k0_h27 k0_h29 => k0_hw17.2.1.1 k0_t21 k0_h27 k0_h29
theorem k0_off467_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off467 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.1 k0_t21 k0_h27 k0_h29
theorem k0_off468_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off468 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.1 k0_t21 k0_h27 k0_h29
theorem k0_off469_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off469 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.1 k0_t21 k0_h27 k0_h29
theorem k0_off470_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off470 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.1 k0_t21 k0_h27 k0_h29
theorem k0_off471_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off471 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.1 k0_t21 k0_h27 k0_h29
theorem k0_off472_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off472 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.1 k0_t21 k0_h27 k0_h29
theorem k0_off473_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off473 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.2.1 k0_t21 k0_h27 k0_h29
theorem k0_off474_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off474 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.2.2.1 k0_t21 k0_h27 k0_h29
theorem k0_off475_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off475 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.2.2.2.1 k0_t21 k0_h27 k0_h29
theorem k0_off476_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off476 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.2.2.2.2.1 k0_t21 k0_h27 k0_h29
theorem k0_off477_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off477 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.2.2.2.2.2.1 k0_t21 k0_h27 k0_h29
theorem k0_off478_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off478 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.2.2.2.2.2.2.1 k0_t21 k0_h27 k0_h29
theorem k0_off479_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off479 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.2.2.2.2.2.2.2.1 k0_t21 k0_h27 k0_h29
theorem k0_off480_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off480 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.2.2.2.2.2.2.2.2.1 k0_t21 k0_h27 k0_h29
theorem k0_off481_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off481 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.2.2.2.2.2.2.2.2.2.1 k0_t21 k0_h27 k0_h29
theorem k0_off482_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t21 : Fin (k0_t21_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off482 v105 v111 v122_4 v122_0 k0_t19 v216 v222 k0_t21) a + S1x16.size a ≤ S32x768.size a := fun v105 v111 v122_4 v122_0 k0_t19 v216 v222 k0_hw17 k0_t21 k0_h27 k0_h29 => k0_hw17.2.1.2.2.2.2.2.2.2.2.2.2.2.2.2.2.2.2.1 k0_t21 k0_h27 k0_h29
theorem k0_t22_ok : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222), ∀ (k0_h27 : k0_cond27 v105 v111 v122_4 v122_0 k0_t19 = 1#1), ∀ (k0_h29 : k0_cond29 v105 v111 v122_4 v122_0 k0_t19 v216 v222 = 1#1), (k0_t22_loop v105 v111 v122_4 v122_0 k0_t19 v216 v222).OK := fun v105 v111 v122_4 v122_0 k0_t19 v216 v222 k0_hw17 k0_h27 k0_h29 => k0_hw17.2.1.2.2.2.2.2.2.2.2.2.2.2.2.2.2.2.2.2.1 k0_h27 k0_h29
theorem k0_off483_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off483 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.1 k0_t22 k0_h27 k0_h29
theorem k0_off484_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off484 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.1 k0_t22 k0_h27 k0_h29
theorem k0_off485_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off485 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.1 k0_t22 k0_h27 k0_h29
theorem k0_off486_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off486 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.1 k0_t22 k0_h27 k0_h29
theorem k0_off487_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off487 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.2.1 k0_t22 k0_h27 k0_h29
theorem k0_off488_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off488 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.2.2.1 k0_t22 k0_h27 k0_h29
theorem k0_off489_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off489 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.2.2.2.1 k0_t22 k0_h27 k0_h29
theorem k0_off490_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off490 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.2.2.2.2.1 k0_t22 k0_h27 k0_h29
theorem k0_off491_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off491 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.2.2.2.2.2.1 k0_t22 k0_h27 k0_h29
theorem k0_off492_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off492 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.2.2.2.2.2.2.1 k0_t22 k0_h27 k0_h29
theorem k0_off493_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off493 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.2.2.2.2.2.2.2.1 k0_t22 k0_h27 k0_h29
theorem k0_off494_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off494 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.2.2.2.2.2.2.2.2.1 k0_t22 k0_h27 k0_h29
theorem k0_off495_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off495 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.2.2.2.2.2.2.2.2.2.1 k0_t22 k0_h27 k0_h29
theorem k0_off496_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off496 v105 v111 v122_4 v122_0 k0_t19 v216 v222 k0_t22) a + S1x16.size a ≤ S32x768.size a := fun v105 v111 v122_4 v122_0 k0_t19 v216 v222 k0_hw17 k0_t22 k0_h27 k0_h29 => k0_hw17.2.1.2.2.2.2.2.2.2.2.2.2.2.2.2.2.2.2.2.2.2.2.2.2.2.2.2.2.2.2.2.2.2 k0_t22 k0_h27 k0_h29
theorem k0_off497_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off497 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.1 k0_t22 k0_h27 k0_h29
theorem k0_off498_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off498 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.1 k0_t22 k0_h27 k0_h29
theorem k0_off499_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off499 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.1 k0_t22 k0_h27 k0_h29
theorem k0_off500_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off500 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.1 k0_t22 k0_h27 k0_h29
theorem k0_off501_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off501 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.1 k0_t22 k0_h27 k0_h29
theorem k0_off502_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off502 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.1 k0_t22 k0_h27 k0_h29
theorem k0_off503_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off503 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.1 k0_t22 k0_h27 k0_h29
theorem k0_off504_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off504 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.1 k0_t22 k0_h27 k0_h29
theorem k0_off505_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off505 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.1 k0_t22 k0_h27 k0_h29
theorem k0_off506_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off506 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.1 k0_t22 k0_h27 k0_h29
theorem k0_off507_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off507 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.1 k0_t22 k0_h27 k0_h29
theorem k0_off508_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off508 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.1 k0_t22 k0_h27 k0_h29
theorem k0_off509_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off509 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.1 k0_t22 k0_h27 k0_h29
theorem k0_off510_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off510 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.1 k0_t22 k0_h27 k0_h29
theorem k0_off511_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off511 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.1 k0_t22 k0_h27 k0_h29
theorem k0_off512_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off512 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.1 k0_t22 k0_h27 k0_h29
theorem k0_off513_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off513 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.1 k0_t22 k0_h27 k0_h29
theorem k0_off514_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off514 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.1 k0_t22 k0_h27 k0_h29
theorem k0_off515_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off515 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.1 k0_t22 k0_h27 k0_h29
theorem k0_off516_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off516 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.1 k0_t22 k0_h27 k0_h29
theorem k0_off517_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off517 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.1 k0_t22 k0_h27 k0_h29
theorem k0_off518_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off518 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.1 k0_t22 k0_h27 k0_h29
theorem k0_off519_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off519 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.2.1 k0_t22 k0_h27 k0_h29
theorem k0_off520_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off520 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.2.2.1 k0_t22 k0_h27 k0_h29
theorem k0_off521_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off521 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.2.2.2.1 k0_t22 k0_h27 k0_h29
theorem k0_off522_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off522 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.2.2.2.2.1 k0_t22 k0_h27 k0_h29
theorem k0_off523_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off523 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.2.2.2.2.2.1 k0_t22 k0_h27 k0_h29
theorem k0_off524_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off524 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.2.2.2.2.2.2.1 k0_t22 k0_h27 k0_h29
theorem k0_off525_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off525 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.2.2.2.2.2.2.2.1 k0_t22 k0_h27 k0_h29
theorem k0_off526_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off526 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.2.2.2.2.2.2.2.2.1 k0_t22 k0_h27 k0_h29
theorem k0_off527_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off527 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.2.2.2.2.2.2.2.2.2.1 k0_t22 k0_h27 k0_h29
theorem k0_off528_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off528 v105 v111 v122_4 v122_0 k0_t19 v216 v222 k0_t22) a + S1x16.size a ≤ S32x768.size a := fun v105 v111 v122_4 v122_0 k0_t19 v216 v222 k0_hw17 k0_t22 k0_h27 k0_h29 => k0_hw17.2.2.1.2.2.2.2.2.2.2.2.2.2.2.2.2.2.2.2.2.2.2.2.2.2.2.2.2.2.2.2.2.2.2 k0_t22 k0_h27 k0_h29
theorem k0_off529_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off529 v105 v111 v122_4 v122_0 k0_t19 v216 v222 k0_t22) a + S1x16.size a ≤ S32x768.size a := fun v105 v111 v122_4 v122_0 k0_t19 v216 v222 k0_hw17 k0_t22 k0_h27 k0_h29 => k0_hw17.2.2.2.1 k0_t22 k0_h27 k0_h29
theorem k0_off530_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw17 : k0_chk17 v105 v111 v122_4 v122_0 k0_t19 v216 v222) (k0_t22 : Fin (k0_t22_loop v105 v111 v122_4 v122_0 k0_t19 v216 v222).trips), ∀ (k0_h27 : k0_cond27 v105 v111 v122_4 v122_0 k0_t19 = 1#1), ∀ (k0_h29 : k0_cond29 v105 v111 v122_4 v122_0 k0_t19 v216 v222 = 1#1), ∀ a, (k0_off530 v105 v111 v122_4 v122_0 k0_t19 v216 v222 k0_t22) a + S1x16.size a ≤ S32x768.size a := fun v105 v111 v122_4 v122_0 k0_t19 v216 v222 k0_hw17 k0_t22 k0_h27 k0_h29 => k0_hw17.2.2.2.2 k0_t22 k0_h27 k0_h29

def k0_off531 (k0_t20 : Fin k0_t20_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t20
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_off532 (k0_t20 : Fin k0_t20_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t20
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_mult16 (v105 : BitVec 32) (v111 : BitVec 32) (v122_4 : BitVec 32) (v122_0 : BitVec 32) (k0_t19 : Fin (k0_t19_loop v105 v111 v122_4 v122_0).trips) : BitVec 32 :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let c4064_i32 : BitVec 32 := 4064#32
  let v198 : BitVec 32 := Scalar.minsi v197 c4064_i32
  v198
def k0_cond32 (v105 : BitVec 32) (v111 : BitVec 32) (v122_4 : BitVec 32) (v122_0 : BitVec 32) (k0_t19 : Fin (k0_t19_loop v105 v111 v122_4 v122_0).trips) : BitVec 1 :=
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let v193 : BitVec 1 := Scalar.cmpi .slt v192 v166
  let v194 : BitVec 32 := Scalar.extui v193
  let c0_i32_121 : BitVec 32 := 0#32
  let v195 : BitVec 1 := Scalar.cmpi .ne v194 c0_i32_121
  v195

def k0_off533 (k0_t1 : Fin k0_t1_loop.trips) (v105 : BitVec 32) (v111 : BitVec 32) (v122_4 : BitVec 32) (v122_0 : BitVec 32) (k0_t19 : Fin (k0_t19_loop v105 v111 v122_4 v122_0).trips) : Fin 3 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let c4064_i32 : BitVec 32 := 4064#32
  let v198 : BitVec 32 := Scalar.minsi v197 c4064_i32
  let v199 : BitVec 32 := v198
  let c0_i32_122 : BitVec 32 := 0#32
  ![v100.toNat, v199.toNat, 0]
def k0_mult17 (v105 : BitVec 32) (v111 : BitVec 32) (v122_4 : BitVec 32) (v122_0 : BitVec 32) (k0_t19 : Fin (k0_t19_loop v105 v111 v122_4 v122_0).trips) : BitVec 32 :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c1_i32_132 : BitVec 32 := 1#32
  let v212 : BitVec 32 := Scalar.addi v192 c1_i32_132
  let c32_i32_133 : BitVec 32 := 32#32
  let v213 : BitVec 32 := Scalar.muli v212 c32_i32_133
  let v214 : BitVec 32 := Scalar.addi v161 v213
  let c4064_i32_134 : BitVec 32 := 4064#32
  let v215 : BitVec 32 := Scalar.minsi v214 c4064_i32_134
  v215
def k0_cond33 (v105 : BitVec 32) (v111 : BitVec 32) (v122_4 : BitVec 32) (v122_0 : BitVec 32) (k0_t19 : Fin (k0_t19_loop v105 v111 v122_4 v122_0).trips) : BitVec 1 :=
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c1_i32_124 : BitVec 32 := 1#32
  let v204 : BitVec 32 := Scalar.addi v192 c1_i32_124
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let v205 : BitVec 1 := Scalar.cmpi .slt v204 v166
  let v206 : BitVec 32 := Scalar.extui v205
  let c0_i32_125 : BitVec 32 := 0#32
  let v207 : BitVec 1 := Scalar.cmpi .ne v206 c0_i32_125
  v207

def k0_off534 (k0_t1 : Fin k0_t1_loop.trips) (v105 : BitVec 32) (v111 : BitVec 32) (v122_4 : BitVec 32) (v122_0 : BitVec 32) (k0_t19 : Fin (k0_t19_loop v105 v111 v122_4 v122_0).trips) : Fin 3 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c1_i32_132 : BitVec 32 := 1#32
  let v212 : BitVec 32 := Scalar.addi v192 c1_i32_132
  let c32_i32_133 : BitVec 32 := 32#32
  let v213 : BitVec 32 := Scalar.muli v212 c32_i32_133
  let v214 : BitVec 32 := Scalar.addi v161 v213
  let c4064_i32_134 : BitVec 32 := 4064#32
  let v215 : BitVec 32 := Scalar.minsi v214 c4064_i32_134
  let v216 : BitVec 32 := v215
  let c0_i32_135 : BitVec 32 := 0#32
  ![v100.toNat, v216.toNat, 0]
@[reducible] def k0_t23_loop : Scf.Loop 32 :=
  let c0_i32_128 : BitVec 32 := 0#32
  let c4_i32_129 : BitVec 32 := 4#32
  let v211 : BitVec 32 := Scalar.addi c0_i32_128 c4_i32_129
  let c1_i32_130 : BitVec 32 := 1#32
  ⟨c0_i32_128, v211, c1_i32_130⟩
def k0_off535 (k0_t23 : Fin k0_t23_loop.trips) : Fin 1 → Nat :=
  let c0_i32_128 : BitVec 32 := 0#32
  let c1_i32_130 : BitVec 32 := 1#32
  let arg22 : BitVec 32 := Scf.iv c0_i32_128 c1_i32_130 k0_t23
  let v212 : Index := Scalar.indexCast arg22
  ![v212.toNat]
def k0_off536 (k0_t23 : Fin k0_t23_loop.trips) : Fin 1 → Nat :=
  let c0_i32_128 : BitVec 32 := 0#32
  let c1_i32_130 : BitVec 32 := 1#32
  let arg22 : BitVec 32 := Scf.iv c0_i32_128 c1_i32_130 k0_t23
  let c1_i32_132 : BitVec 32 := 1#32
  let v217 : BitVec 32 := Scalar.addi arg22 c1_i32_132
  let v218 : Index := Scalar.indexCast v217
  ![v218.toNat]
@[reducible] def k0_t24_loop (v105 : BitVec 32) (v111 : BitVec 32) (v122_4 : BitVec 32) (v122_0 : BitVec 32) (k0_t19 : Fin (k0_t19_loop v105 v111 v122_4 v122_0).trips) (v216 : BitVec 32) (v222 : BitVec 32) : Scf.Loop 32 :=
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_184 : BitVec 32 := 1#32
  ⟨c0_i32_182, v283, c1_i32_184⟩
def k0_cond34 (v105 : BitVec 32) (v111 : BitVec 32) (v122_4 : BitVec 32) (v122_0 : BitVec 32) (k0_t19 : Fin (k0_t19_loop v105 v111 v122_4 v122_0).trips) (v216 : BitVec 32) (v222 : BitVec 32) : BitVec 1 :=
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v227 : BitVec 1 := Scalar.cmpi .sgt v226 v224
  let v228 : BitVec 32 := Scalar.extui v227
  let c0_i32_133 : BitVec 32 := 0#32
  let v229 : BitVec 1 := Scalar.cmpi .ne v228 c0_i32_133
  v229

def k0_off537 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v293 : BitVec 32 := Scalar.addi v224 arg23
  let v294 : Index := Scalar.indexCast v293
  let c0_189 : Index := 0#32
  ![v294.toNat, 0]
def k0_off538 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v298 : BitVec 32 := Scalar.addi v224 arg23
  let v299 : Index := Scalar.indexCast v298
  let c16 : Index := 16#32
  ![v299.toNat, 16]
def k0_off539 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v303 : BitVec 32 := Scalar.addi v224 arg23
  let v304 : Index := Scalar.indexCast v303
  let c32 : Index := 32#32
  ![v304.toNat, 32]
def k0_off540 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v308 : BitVec 32 := Scalar.addi v224 arg23
  let v309 : Index := Scalar.indexCast v308
  let c48 : Index := 48#32
  ![v309.toNat, 48]
def k0_off541 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v313 : BitVec 32 := Scalar.addi v224 arg23
  let v314 : Index := Scalar.indexCast v313
  let c64 : Index := 64#32
  ![v314.toNat, 64]
def k0_off542 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v318 : BitVec 32 := Scalar.addi v224 arg23
  let v319 : Index := Scalar.indexCast v318
  let c80 : Index := 80#32
  ![v319.toNat, 80]
def k0_off543 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v323 : BitVec 32 := Scalar.addi v224 arg23
  let v324 : Index := Scalar.indexCast v323
  let c96 : Index := 96#32
  ![v324.toNat, 96]
def k0_off544 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v328 : BitVec 32 := Scalar.addi v224 arg23
  let v329 : Index := Scalar.indexCast v328
  let c112 : Index := 112#32
  ![v329.toNat, 112]
def k0_off545 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v333 : BitVec 32 := Scalar.addi v224 arg23
  let v334 : Index := Scalar.indexCast v333
  let c128 : Index := 128#32
  ![v334.toNat, 128]
def k0_off546 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v338 : BitVec 32 := Scalar.addi v224 arg23
  let v339 : Index := Scalar.indexCast v338
  let c144 : Index := 144#32
  ![v339.toNat, 144]
def k0_off547 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v343 : BitVec 32 := Scalar.addi v224 arg23
  let v344 : Index := Scalar.indexCast v343
  let c160 : Index := 160#32
  ![v344.toNat, 160]
def k0_off548 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v348 : BitVec 32 := Scalar.addi v224 arg23
  let v349 : Index := Scalar.indexCast v348
  let c176 : Index := 176#32
  ![v349.toNat, 176]
def k0_off549 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v353 : BitVec 32 := Scalar.addi v224 arg23
  let v354 : Index := Scalar.indexCast v353
  let c192 : Index := 192#32
  ![v354.toNat, 192]
def k0_off550 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v358 : BitVec 32 := Scalar.addi v224 arg23
  let v359 : Index := Scalar.indexCast v358
  let c208 : Index := 208#32
  ![v359.toNat, 208]
def k0_off551 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v363 : BitVec 32 := Scalar.addi v224 arg23
  let v364 : Index := Scalar.indexCast v363
  let c224 : Index := 224#32
  ![v364.toNat, 224]
def k0_off552 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v368 : BitVec 32 := Scalar.addi v224 arg23
  let v369 : Index := Scalar.indexCast v368
  let c240 : Index := 240#32
  ![v369.toNat, 240]
def k0_off553 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v373 : BitVec 32 := Scalar.addi v224 arg23
  let v374 : Index := Scalar.indexCast v373
  let c256 : Index := 256#32
  ![v374.toNat, 256]
def k0_off554 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v378 : BitVec 32 := Scalar.addi v224 arg23
  let v379 : Index := Scalar.indexCast v378
  let c272 : Index := 272#32
  ![v379.toNat, 272]
def k0_off555 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v383 : BitVec 32 := Scalar.addi v224 arg23
  let v384 : Index := Scalar.indexCast v383
  let c288 : Index := 288#32
  ![v384.toNat, 288]
def k0_off556 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v388 : BitVec 32 := Scalar.addi v224 arg23
  let v389 : Index := Scalar.indexCast v388
  let c304 : Index := 304#32
  ![v389.toNat, 304]
def k0_off557 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v393 : BitVec 32 := Scalar.addi v224 arg23
  let v394 : Index := Scalar.indexCast v393
  let c320 : Index := 320#32
  ![v394.toNat, 320]
def k0_off558 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v398 : BitVec 32 := Scalar.addi v224 arg23
  let v399 : Index := Scalar.indexCast v398
  let c336 : Index := 336#32
  ![v399.toNat, 336]
def k0_off559 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v403 : BitVec 32 := Scalar.addi v224 arg23
  let v404 : Index := Scalar.indexCast v403
  let c352 : Index := 352#32
  ![v404.toNat, 352]
def k0_off560 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v408 : BitVec 32 := Scalar.addi v224 arg23
  let v409 : Index := Scalar.indexCast v408
  let c368 : Index := 368#32
  ![v409.toNat, 368]
def k0_off561 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v413 : BitVec 32 := Scalar.addi v224 arg23
  let v414 : Index := Scalar.indexCast v413
  let c384 : Index := 384#32
  ![v414.toNat, 384]
def k0_off562 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v418 : BitVec 32 := Scalar.addi v224 arg23
  let v419 : Index := Scalar.indexCast v418
  let c400 : Index := 400#32
  ![v419.toNat, 400]
def k0_off563 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v423 : BitVec 32 := Scalar.addi v224 arg23
  let v424 : Index := Scalar.indexCast v423
  let c416 : Index := 416#32
  ![v424.toNat, 416]
def k0_off564 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v428 : BitVec 32 := Scalar.addi v224 arg23
  let v429 : Index := Scalar.indexCast v428
  let c432 : Index := 432#32
  ![v429.toNat, 432]
def k0_off565 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v433 : BitVec 32 := Scalar.addi v224 arg23
  let v434 : Index := Scalar.indexCast v433
  let c448 : Index := 448#32
  ![v434.toNat, 448]
def k0_off566 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v438 : BitVec 32 := Scalar.addi v224 arg23
  let v439 : Index := Scalar.indexCast v438
  let c464 : Index := 464#32
  ![v439.toNat, 464]
def k0_off567 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v443 : BitVec 32 := Scalar.addi v224 arg23
  let v444 : Index := Scalar.indexCast v443
  let c480 : Index := 480#32
  ![v444.toNat, 480]
def k0_off568 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v448 : BitVec 32 := Scalar.addi v224 arg23
  let v449 : Index := Scalar.indexCast v448
  let c496 : Index := 496#32
  ![v449.toNat, 496]
def k0_off569 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v453 : BitVec 32 := Scalar.addi v224 arg23
  let v454 : Index := Scalar.indexCast v453
  let c512 : Index := 512#32
  ![v454.toNat, 512]
def k0_off570 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v458 : BitVec 32 := Scalar.addi v224 arg23
  let v459 : Index := Scalar.indexCast v458
  let c528 : Index := 528#32
  ![v459.toNat, 528]
def k0_off571 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v463 : BitVec 32 := Scalar.addi v224 arg23
  let v464 : Index := Scalar.indexCast v463
  let c544 : Index := 544#32
  ![v464.toNat, 544]
def k0_off572 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v468 : BitVec 32 := Scalar.addi v224 arg23
  let v469 : Index := Scalar.indexCast v468
  let c560 : Index := 560#32
  ![v469.toNat, 560]
def k0_off573 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v473 : BitVec 32 := Scalar.addi v224 arg23
  let v474 : Index := Scalar.indexCast v473
  let c576 : Index := 576#32
  ![v474.toNat, 576]
def k0_off574 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v478 : BitVec 32 := Scalar.addi v224 arg23
  let v479 : Index := Scalar.indexCast v478
  let c592 : Index := 592#32
  ![v479.toNat, 592]
def k0_off575 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v483 : BitVec 32 := Scalar.addi v224 arg23
  let v484 : Index := Scalar.indexCast v483
  let c608 : Index := 608#32
  ![v484.toNat, 608]
def k0_off576 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v488 : BitVec 32 := Scalar.addi v224 arg23
  let v489 : Index := Scalar.indexCast v488
  let c624 : Index := 624#32
  ![v489.toNat, 624]
def k0_off577 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v493 : BitVec 32 := Scalar.addi v224 arg23
  let v494 : Index := Scalar.indexCast v493
  let c640 : Index := 640#32
  ![v494.toNat, 640]
def k0_off578 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v498 : BitVec 32 := Scalar.addi v224 arg23
  let v499 : Index := Scalar.indexCast v498
  let c656 : Index := 656#32
  ![v499.toNat, 656]
def k0_off579 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v503 : BitVec 32 := Scalar.addi v224 arg23
  let v504 : Index := Scalar.indexCast v503
  let c672 : Index := 672#32
  ![v504.toNat, 672]
def k0_off580 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v508 : BitVec 32 := Scalar.addi v224 arg23
  let v509 : Index := Scalar.indexCast v508
  let c688 : Index := 688#32
  ![v509.toNat, 688]
def k0_off581 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v513 : BitVec 32 := Scalar.addi v224 arg23
  let v514 : Index := Scalar.indexCast v513
  let c704 : Index := 704#32
  ![v514.toNat, 704]
def k0_off582 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v518 : BitVec 32 := Scalar.addi v224 arg23
  let v519 : Index := Scalar.indexCast v518
  let c720 : Index := 720#32
  ![v519.toNat, 720]
def k0_off583 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v523 : BitVec 32 := Scalar.addi v224 arg23
  let v524 : Index := Scalar.indexCast v523
  let c736 : Index := 736#32
  ![v524.toNat, 736]
def k0_off584 (v105 : BitVec 32) (v111 : BitVec 32) (v122_4 : BitVec 32) (v122_0 : BitVec 32) (k0_t19 : Fin (k0_t19_loop v105 v111 v122_4 v122_0).trips) (v216 : BitVec 32) (v222 : BitVec 32) (k0_t24 : Fin (k0_t24_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t24
  let v528 : BitVec 32 := Scalar.addi v224 arg23
  let v529 : Index := Scalar.indexCast v528
  let c752 : Index := 752#32
  ![v529.toNat, 752]
@[reducible] def k0_t25_loop (v105 : BitVec 32) (v111 : BitVec 32) (v122_4 : BitVec 32) (v122_0 : BitVec 32) (k0_t19 : Fin (k0_t19_loop v105 v111 v122_4 v122_0).trips) (v216 : BitVec 32) (v222 : BitVec 32) : Scf.Loop 32 :=
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let v280 : BitVec 32 := Scalar.addi c0_i32_182 v279
  let c1_i32_185 : BitVec 32 := 1#32
  ⟨v283, v280, c1_i32_185⟩
def k0_off585 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v293 : BitVec 32 := Scalar.addi v224 arg23
  let v294 : Index := Scalar.indexCast v293
  let c0_189 : Index := 0#32
  ![v294.toNat, 0]
def k0_off586 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v298 : BitVec 32 := Scalar.addi v224 arg23
  let v299 : Index := Scalar.indexCast v298
  let c16 : Index := 16#32
  ![v299.toNat, 16]
def k0_off587 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v303 : BitVec 32 := Scalar.addi v224 arg23
  let v304 : Index := Scalar.indexCast v303
  let c32 : Index := 32#32
  ![v304.toNat, 32]
def k0_off588 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v308 : BitVec 32 := Scalar.addi v224 arg23
  let v309 : Index := Scalar.indexCast v308
  let c48 : Index := 48#32
  ![v309.toNat, 48]
def k0_off589 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v313 : BitVec 32 := Scalar.addi v224 arg23
  let v314 : Index := Scalar.indexCast v313
  let c64 : Index := 64#32
  ![v314.toNat, 64]
def k0_off590 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v318 : BitVec 32 := Scalar.addi v224 arg23
  let v319 : Index := Scalar.indexCast v318
  let c80 : Index := 80#32
  ![v319.toNat, 80]
def k0_off591 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v323 : BitVec 32 := Scalar.addi v224 arg23
  let v324 : Index := Scalar.indexCast v323
  let c96 : Index := 96#32
  ![v324.toNat, 96]
def k0_off592 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v328 : BitVec 32 := Scalar.addi v224 arg23
  let v329 : Index := Scalar.indexCast v328
  let c112 : Index := 112#32
  ![v329.toNat, 112]
def k0_off593 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v333 : BitVec 32 := Scalar.addi v224 arg23
  let v334 : Index := Scalar.indexCast v333
  let c128 : Index := 128#32
  ![v334.toNat, 128]
def k0_off594 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v338 : BitVec 32 := Scalar.addi v224 arg23
  let v339 : Index := Scalar.indexCast v338
  let c144 : Index := 144#32
  ![v339.toNat, 144]
def k0_off595 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v343 : BitVec 32 := Scalar.addi v224 arg23
  let v344 : Index := Scalar.indexCast v343
  let c160 : Index := 160#32
  ![v344.toNat, 160]
def k0_off596 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v348 : BitVec 32 := Scalar.addi v224 arg23
  let v349 : Index := Scalar.indexCast v348
  let c176 : Index := 176#32
  ![v349.toNat, 176]
def k0_off597 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v353 : BitVec 32 := Scalar.addi v224 arg23
  let v354 : Index := Scalar.indexCast v353
  let c192 : Index := 192#32
  ![v354.toNat, 192]
def k0_off598 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v358 : BitVec 32 := Scalar.addi v224 arg23
  let v359 : Index := Scalar.indexCast v358
  let c208 : Index := 208#32
  ![v359.toNat, 208]
def k0_off599 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v363 : BitVec 32 := Scalar.addi v224 arg23
  let v364 : Index := Scalar.indexCast v363
  let c224 : Index := 224#32
  ![v364.toNat, 224]
def k0_off600 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v368 : BitVec 32 := Scalar.addi v224 arg23
  let v369 : Index := Scalar.indexCast v368
  let c240 : Index := 240#32
  ![v369.toNat, 240]
def k0_off601 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v373 : BitVec 32 := Scalar.addi v224 arg23
  let v374 : Index := Scalar.indexCast v373
  let c256 : Index := 256#32
  ![v374.toNat, 256]
def k0_off602 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v378 : BitVec 32 := Scalar.addi v224 arg23
  let v379 : Index := Scalar.indexCast v378
  let c272 : Index := 272#32
  ![v379.toNat, 272]
def k0_off603 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v383 : BitVec 32 := Scalar.addi v224 arg23
  let v384 : Index := Scalar.indexCast v383
  let c288 : Index := 288#32
  ![v384.toNat, 288]
def k0_off604 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v388 : BitVec 32 := Scalar.addi v224 arg23
  let v389 : Index := Scalar.indexCast v388
  let c304 : Index := 304#32
  ![v389.toNat, 304]
def k0_off605 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v393 : BitVec 32 := Scalar.addi v224 arg23
  let v394 : Index := Scalar.indexCast v393
  let c320 : Index := 320#32
  ![v394.toNat, 320]
def k0_off606 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v398 : BitVec 32 := Scalar.addi v224 arg23
  let v399 : Index := Scalar.indexCast v398
  let c336 : Index := 336#32
  ![v399.toNat, 336]
def k0_off607 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v403 : BitVec 32 := Scalar.addi v224 arg23
  let v404 : Index := Scalar.indexCast v403
  let c352 : Index := 352#32
  ![v404.toNat, 352]
def k0_off608 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v408 : BitVec 32 := Scalar.addi v224 arg23
  let v409 : Index := Scalar.indexCast v408
  let c368 : Index := 368#32
  ![v409.toNat, 368]
def k0_off609 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v413 : BitVec 32 := Scalar.addi v224 arg23
  let v414 : Index := Scalar.indexCast v413
  let c384 : Index := 384#32
  ![v414.toNat, 384]
def k0_off610 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v418 : BitVec 32 := Scalar.addi v224 arg23
  let v419 : Index := Scalar.indexCast v418
  let c400 : Index := 400#32
  ![v419.toNat, 400]
def k0_off611 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v423 : BitVec 32 := Scalar.addi v224 arg23
  let v424 : Index := Scalar.indexCast v423
  let c416 : Index := 416#32
  ![v424.toNat, 416]

variable {F : FTy → Type} [FloatOps F]

def k0_off612 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v428 : BitVec 32 := Scalar.addi v224 arg23
  let v429 : Index := Scalar.indexCast v428
  let c432 : Index := 432#32
  ![v429.toNat, 432]
def k0_off613 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v433 : BitVec 32 := Scalar.addi v224 arg23
  let v434 : Index := Scalar.indexCast v433
  let c448 : Index := 448#32
  ![v434.toNat, 448]
def k0_off614 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v438 : BitVec 32 := Scalar.addi v224 arg23
  let v439 : Index := Scalar.indexCast v438
  let c464 : Index := 464#32
  ![v439.toNat, 464]
def k0_off615 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v443 : BitVec 32 := Scalar.addi v224 arg23
  let v444 : Index := Scalar.indexCast v443
  let c480 : Index := 480#32
  ![v444.toNat, 480]
def k0_off616 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v448 : BitVec 32 := Scalar.addi v224 arg23
  let v449 : Index := Scalar.indexCast v448
  let c496 : Index := 496#32
  ![v449.toNat, 496]
def k0_off617 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v453 : BitVec 32 := Scalar.addi v224 arg23
  let v454 : Index := Scalar.indexCast v453
  let c512 : Index := 512#32
  ![v454.toNat, 512]
def k0_off618 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v458 : BitVec 32 := Scalar.addi v224 arg23
  let v459 : Index := Scalar.indexCast v458
  let c528 : Index := 528#32
  ![v459.toNat, 528]
def k0_off619 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v463 : BitVec 32 := Scalar.addi v224 arg23
  let v464 : Index := Scalar.indexCast v463
  let c544 : Index := 544#32
  ![v464.toNat, 544]
def k0_off620 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v468 : BitVec 32 := Scalar.addi v224 arg23
  let v469 : Index := Scalar.indexCast v468
  let c560 : Index := 560#32
  ![v469.toNat, 560]
def k0_off621 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v473 : BitVec 32 := Scalar.addi v224 arg23
  let v474 : Index := Scalar.indexCast v473
  let c576 : Index := 576#32
  ![v474.toNat, 576]
def k0_off622 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v478 : BitVec 32 := Scalar.addi v224 arg23
  let v479 : Index := Scalar.indexCast v478
  let c592 : Index := 592#32
  ![v479.toNat, 592]
def k0_off623 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v483 : BitVec 32 := Scalar.addi v224 arg23
  let v484 : Index := Scalar.indexCast v483
  let c608 : Index := 608#32
  ![v484.toNat, 608]
def k0_off624 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v488 : BitVec 32 := Scalar.addi v224 arg23
  let v489 : Index := Scalar.indexCast v488
  let c624 : Index := 624#32
  ![v489.toNat, 624]
def k0_off625 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v493 : BitVec 32 := Scalar.addi v224 arg23
  let v494 : Index := Scalar.indexCast v493
  let c640 : Index := 640#32
  ![v494.toNat, 640]
def k0_off626 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v498 : BitVec 32 := Scalar.addi v224 arg23
  let v499 : Index := Scalar.indexCast v498
  let c656 : Index := 656#32
  ![v499.toNat, 656]
def k0_off627 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v503 : BitVec 32 := Scalar.addi v224 arg23
  let v504 : Index := Scalar.indexCast v503
  let c672 : Index := 672#32
  ![v504.toNat, 672]
def k0_off628 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v508 : BitVec 32 := Scalar.addi v224 arg23
  let v509 : Index := Scalar.indexCast v508
  let c688 : Index := 688#32
  ![v509.toNat, 688]
def k0_off629 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v513 : BitVec 32 := Scalar.addi v224 arg23
  let v514 : Index := Scalar.indexCast v513
  let c704 : Index := 704#32
  ![v514.toNat, 704]
def k0_off630 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v518 : BitVec 32 := Scalar.addi v224 arg23
  let v519 : Index := Scalar.indexCast v518
  let c720 : Index := 720#32
  ![v519.toNat, 720]
def k0_off631 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v523 : BitVec 32 := Scalar.addi v224 arg23
  let v524 : Index := Scalar.indexCast v523
  let c736 : Index := 736#32
  ![v524.toNat, 736]
def k0_off632 (v105 : BitVec 32) (v111 : BitVec 32) (v122_4 : BitVec 32) (v122_0 : BitVec 32) (k0_t19 : Fin (k0_t19_loop v105 v111 v122_4 v122_0).trips) (v216 : BitVec 32) (v222 : BitVec 32) (k0_t25 : Fin (k0_t25_loop v105 v111 v122_4 v122_0 k0_t19 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let c1_i32_105 : BitVec 32 := 1#32
  let arg21 : BitVec 32 := Scf.iv c0_i32_103 c1_i32_105 k0_t19
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t25
  let v528 : BitVec 32 := Scalar.addi v224 arg23
  let v529 : Index := Scalar.indexCast v528
  let c752 : Index := 752#32
  ![v529.toNat, 752]

def k0_chk18_0 (v105 : BitVec 32) (v111 : BitVec 32) (v122_4 : BitVec 32) (v122_0 : BitVec 32) (k0_t19 : Fin (k0_t19_loop v105 v111 v122_4 v122_0).trips) (v216 : BitVec 32) (v222 : BitVec 32) : Prop :=
  (∀ (k0_h32 : k0_cond32 v105 v111 v122_4 v122_0 k0_t19 = 1#1), ∀ (k0_h34 : k0_cond34 v105 v111 v122_4 v122_0 k0_t19 v216 v222 = 1#1), (k0_t24_loop v105 v111 v122_4 v122_0 k0_t19 v216 v222).OK) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off537 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off538 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off539 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off540 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off541 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off542 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off543 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off544 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off545 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off546 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off547 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off548 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off549 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off550 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off551 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off552 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off553 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off554 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off555 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off556 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off557 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off558 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off559 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off560 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off561 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off562 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off563 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off564 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off565 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off566 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off567 v105 v111 v122_4 v122_0 k0_t19 v216 v222 k0_t24) a + S1x16.size a ≤ S32x768.size a)
def k0_chk18_1 (v105 : BitVec 32) (v111 : BitVec 32) (v122_4 : BitVec 32) (v122_0 : BitVec 32) (k0_t19 : Fin (k0_t19_loop v105 v111 v122_4 v122_0).trips) (v216 : BitVec 32) (v222 : BitVec 32) : Prop :=
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off568 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off569 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off570 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off571 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off572 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off573 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off574 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off575 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off576 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off577 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off578 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off579 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off580 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off581 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off582 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off583 v105 v111 v122_4 v122_0 k0_t19 v216 v222 k0_t24) a + S1x16.size a ≤ S32x768.size a) ∧
  (∀ k0_t24 : Fin (k0_t24_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off584 v105 v111 v122_4 v122_0 k0_t19 v216 v222 k0_t24) a + S1x16.size a ≤ S32x768.size a) ∧
  (∀ (k0_h32 : k0_cond32 v105 v111 v122_4 v122_0 k0_t19 = 1#1), ∀ (k0_h34 : k0_cond34 v105 v111 v122_4 v122_0 k0_t19 v216 v222 = 1#1), (k0_t25_loop v105 v111 v122_4 v122_0 k0_t19 v216 v222).OK) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off585 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off586 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off587 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off588 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off589 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off590 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off591 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off592 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off593 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off594 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off595 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off596 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off597 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off598 v105 v111 v122_4 v122_0 k0_t19 v216 v222 k0_t25) a + S1x16.size a ≤ S32x768.size a)
def k0_chk18_2 (v105 : BitVec 32) (v111 : BitVec 32) (v122_4 : BitVec 32) (v122_0 : BitVec 32) (k0_t19 : Fin (k0_t19_loop v105 v111 v122_4 v122_0).trips) (v216 : BitVec 32) (v222 : BitVec 32) : Prop :=
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off599 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off600 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off601 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off602 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off603 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off604 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off605 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off606 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off607 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off608 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off609 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off610 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off611 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off612 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off613 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off614 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off615 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off616 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off617 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off618 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off619 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off620 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off621 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off622 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off623 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off624 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off625 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off626 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off627 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off628 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off629 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off630 v105 v111 v122_4 v122_0 k0_t19 v216 v222 k0_t25) a + S1x16.size a ≤ S32x768.size a)
def k0_chk18_3 (v105 : BitVec 32) (v111 : BitVec 32) (v122_4 : BitVec 32) (v122_0 : BitVec 32) (k0_t19 : Fin (k0_t19_loop v105 v111 v122_4 v122_0).trips) (v216 : BitVec 32) (v222 : BitVec 32) : Prop :=
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off631 v105 v111 v122_4 v122_0 k0_t19 v216 v222 k0_t25) a + S1x16.size a ≤ S32x768.size a) ∧
  (∀ k0_t25 : Fin (k0_t25_loop v105 v111 v122_4 v122_0 k0_t19 v216 v222).trips, ∀ (k0_h32 : k0_cond32 v105 v111 v122_4 v122_0 k0_t19 = 1#1), ∀ (k0_h34 : k0_cond34 v105 v111 v122_4 v122_0 k0_t19 v216 v222 = 1#1), ∀ a, (k0_off632 v105 v111 v122_4 v122_0 k0_t19 v216 v222 k0_t25) a + S1x16.size a ≤ S32x768.size a)
def k0_chk18 (v105 : BitVec 32) (v111 : BitVec 32) (v122_4 : BitVec 32) (v122_0 : BitVec 32) (k0_t19 : Fin (k0_t19_loop v105 v111 v122_4 v122_0).trips) (v216 : BitVec 32) (v222 : BitVec 32) : Prop :=
  k0_chk18_0 v105 v111 v122_4 v122_0 k0_t19 v216 v222 ∧
  k0_chk18_1 v105 v111 v122_4 v122_0 k0_t19 v216 v222 ∧
  k0_chk18_2 v105 v111 v122_4 v122_0 k0_t19 v216 v222 ∧
  k0_chk18_3 v105 v111 v122_4 v122_0 k0_t19 v216 v222
theorem k0_t24_ok : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222), ∀ (k0_h32 : k0_cond32 v105 v111 v122_4 v122_0 k0_t19 = 1#1), ∀ (k0_h34 : k0_cond34 v105 v111 v122_4 v122_0 k0_t19 v216 v222 = 1#1), (k0_t24_loop v105 v111 v122_4 v122_0 k0_t19 v216 v222).OK := fun v105 v111 v122_4 v122_0 k0_t19 v216 v222 k0_hw18 k0_h32 k0_h34 => k0_hw18.1.1 k0_h32 k0_h34
theorem k0_off537_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off537 v105 v111 v122_4 v122_0 k0_t19 v216 v222 k0_t24) a + S1x16.size a ≤ S32x768.size a := fun v105 v111 v122_4 v122_0 k0_t19 v216 v222 k0_hw18 k0_t24 k0_h32 k0_h34 => k0_hw18.1.2.1 k0_t24 k0_h32 k0_h34
theorem k0_off538_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off538 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.1 k0_t24 k0_h32 k0_h34
theorem k0_off539_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off539 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.1 k0_t24 k0_h32 k0_h34
theorem k0_off540_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off540 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.1 k0_t24 k0_h32 k0_h34
theorem k0_off541_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off541 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.1 k0_t24 k0_h32 k0_h34
theorem k0_off542_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off542 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.1 k0_t24 k0_h32 k0_h34
theorem k0_off543_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off543 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.1 k0_t24 k0_h32 k0_h34
theorem k0_off544_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off544 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.1 k0_t24 k0_h32 k0_h34
theorem k0_off545_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off545 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.1 k0_t24 k0_h32 k0_h34
theorem k0_off546_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off546 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.1 k0_t24 k0_h32 k0_h34
theorem k0_off547_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off547 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.1 k0_t24 k0_h32 k0_h34
theorem k0_off548_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off548 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.1 k0_t24 k0_h32 k0_h34
theorem k0_off549_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off549 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.1 k0_t24 k0_h32 k0_h34
theorem k0_off550_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off550 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.1 k0_t24 k0_h32 k0_h34
theorem k0_off551_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off551 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.1 k0_t24 k0_h32 k0_h34
theorem k0_off552_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off552 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.1 k0_t24 k0_h32 k0_h34
theorem k0_off553_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off553 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.1 k0_t24 k0_h32 k0_h34
theorem k0_off554_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off554 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.1 k0_t24 k0_h32 k0_h34
theorem k0_off555_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off555 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.1 k0_t24 k0_h32 k0_h34
theorem k0_off556_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off556 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.1 k0_t24 k0_h32 k0_h34
theorem k0_off557_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off557 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.1 k0_t24 k0_h32 k0_h34
theorem k0_off558_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off558 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.2.1 k0_t24 k0_h32 k0_h34
theorem k0_off559_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off559 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.2.2.1 k0_t24 k0_h32 k0_h34
theorem k0_off560_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off560 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.2.2.2.1 k0_t24 k0_h32 k0_h34
theorem k0_off561_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off561 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.2.2.2.2.1 k0_t24 k0_h32 k0_h34
theorem k0_off562_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off562 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.2.2.2.2.2.1 k0_t24 k0_h32 k0_h34
theorem k0_off563_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off563 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.2.2.2.2.2.2.1 k0_t24 k0_h32 k0_h34
theorem k0_off564_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off564 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.2.2.2.2.2.2.2.1 k0_t24 k0_h32 k0_h34
theorem k0_off565_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off565 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.2.2.2.2.2.2.2.2.1 k0_t24 k0_h32 k0_h34
theorem k0_off566_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off566 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.2.2.2.2.2.2.2.2.2.1 k0_t24 k0_h32 k0_h34
theorem k0_off567_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off567 v105 v111 v122_4 v122_0 k0_t19 v216 v222 k0_t24) a + S1x16.size a ≤ S32x768.size a := fun v105 v111 v122_4 v122_0 k0_t19 v216 v222 k0_hw18 k0_t24 k0_h32 k0_h34 => k0_hw18.1.2.2.2.2.2.2.2.2.2.2.2.2.2.2.2.2.2.2.2.2.2.2.2.2.2.2.2.2.2.2.2 k0_t24 k0_h32 k0_h34
theorem k0_off568_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off568 v105 v111 v122_4 v122_0 k0_t19 v216 v222 k0_t24) a + S1x16.size a ≤ S32x768.size a := fun v105 v111 v122_4 v122_0 k0_t19 v216 v222 k0_hw18 k0_t24 k0_h32 k0_h34 => k0_hw18.2.1.1 k0_t24 k0_h32 k0_h34
theorem k0_off569_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off569 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.1 k0_t24 k0_h32 k0_h34
theorem k0_off570_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off570 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.1 k0_t24 k0_h32 k0_h34
theorem k0_off571_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off571 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.1 k0_t24 k0_h32 k0_h34
theorem k0_off572_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off572 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.1 k0_t24 k0_h32 k0_h34
theorem k0_off573_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off573 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.1 k0_t24 k0_h32 k0_h34
theorem k0_off574_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off574 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.1 k0_t24 k0_h32 k0_h34
theorem k0_off575_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off575 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.2.1 k0_t24 k0_h32 k0_h34
theorem k0_off576_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off576 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.2.2.1 k0_t24 k0_h32 k0_h34
theorem k0_off577_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off577 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.2.2.2.1 k0_t24 k0_h32 k0_h34
theorem k0_off578_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off578 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.2.2.2.2.1 k0_t24 k0_h32 k0_h34
theorem k0_off579_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off579 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.2.2.2.2.2.1 k0_t24 k0_h32 k0_h34
theorem k0_off580_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off580 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.2.2.2.2.2.2.1 k0_t24 k0_h32 k0_h34
theorem k0_off581_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off581 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.2.2.2.2.2.2.2.1 k0_t24 k0_h32 k0_h34
theorem k0_off582_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off582 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.2.2.2.2.2.2.2.2.1 k0_t24 k0_h32 k0_h34
theorem k0_off583_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off583 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.2.2.2.2.2.2.2.2.2.1 k0_t24 k0_h32 k0_h34
theorem k0_off584_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t24 : Fin (k0_t24_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off584 v105 v111 v122_4 v122_0 k0_t19 v216 v222 k0_t24) a + S1x16.size a ≤ S32x768.size a := fun v105 v111 v122_4 v122_0 k0_t19 v216 v222 k0_hw18 k0_t24 k0_h32 k0_h34 => k0_hw18.2.1.2.2.2.2.2.2.2.2.2.2.2.2.2.2.2.2.1 k0_t24 k0_h32 k0_h34
theorem k0_t25_ok : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222), ∀ (k0_h32 : k0_cond32 v105 v111 v122_4 v122_0 k0_t19 = 1#1), ∀ (k0_h34 : k0_cond34 v105 v111 v122_4 v122_0 k0_t19 v216 v222 = 1#1), (k0_t25_loop v105 v111 v122_4 v122_0 k0_t19 v216 v222).OK := fun v105 v111 v122_4 v122_0 k0_t19 v216 v222 k0_hw18 k0_h32 k0_h34 => k0_hw18.2.1.2.2.2.2.2.2.2.2.2.2.2.2.2.2.2.2.2.1 k0_h32 k0_h34
theorem k0_off585_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off585 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.1 k0_t25 k0_h32 k0_h34
theorem k0_off586_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off586 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.1 k0_t25 k0_h32 k0_h34
theorem k0_off587_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off587 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.1 k0_t25 k0_h32 k0_h34
theorem k0_off588_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off588 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.1 k0_t25 k0_h32 k0_h34
theorem k0_off589_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off589 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.2.1 k0_t25 k0_h32 k0_h34
theorem k0_off590_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off590 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.2.2.1 k0_t25 k0_h32 k0_h34
theorem k0_off591_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off591 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.2.2.2.1 k0_t25 k0_h32 k0_h34
theorem k0_off592_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off592 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.2.2.2.2.1 k0_t25 k0_h32 k0_h34
theorem k0_off593_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off593 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.2.2.2.2.2.1 k0_t25 k0_h32 k0_h34
theorem k0_off594_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off594 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.2.2.2.2.2.2.1 k0_t25 k0_h32 k0_h34
theorem k0_off595_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off595 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.2.2.2.2.2.2.2.1 k0_t25 k0_h32 k0_h34
theorem k0_off596_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off596 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.2.2.2.2.2.2.2.2.1 k0_t25 k0_h32 k0_h34
theorem k0_off597_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off597 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.2.2.2.2.2.2.2.2.2.1 k0_t25 k0_h32 k0_h34
theorem k0_off598_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off598 v105 v111 v122_4 v122_0 k0_t19 v216 v222 k0_t25) a + S1x16.size a ≤ S32x768.size a := fun v105 v111 v122_4 v122_0 k0_t19 v216 v222 k0_hw18 k0_t25 k0_h32 k0_h34 => k0_hw18.2.1.2.2.2.2.2.2.2.2.2.2.2.2.2.2.2.2.2.2.2.2.2.2.2.2.2.2.2.2.2.2.2 k0_t25 k0_h32 k0_h34
theorem k0_off599_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off599 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.1 k0_t25 k0_h32 k0_h34
theorem k0_off600_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off600 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.1 k0_t25 k0_h32 k0_h34
theorem k0_off601_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off601 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.1 k0_t25 k0_h32 k0_h34
theorem k0_off602_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off602 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.1 k0_t25 k0_h32 k0_h34
theorem k0_off603_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off603 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.1 k0_t25 k0_h32 k0_h34
theorem k0_off604_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off604 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.1 k0_t25 k0_h32 k0_h34
theorem k0_off605_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off605 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.1 k0_t25 k0_h32 k0_h34
theorem k0_off606_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off606 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.1 k0_t25 k0_h32 k0_h34
theorem k0_off607_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off607 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.1 k0_t25 k0_h32 k0_h34
theorem k0_off608_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off608 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.1 k0_t25 k0_h32 k0_h34
theorem k0_off609_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off609 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.1 k0_t25 k0_h32 k0_h34
theorem k0_off610_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off610 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.1 k0_t25 k0_h32 k0_h34
theorem k0_off611_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off611 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.1 k0_t25 k0_h32 k0_h34
theorem k0_off612_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off612 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.1 k0_t25 k0_h32 k0_h34
theorem k0_off613_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off613 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.1 k0_t25 k0_h32 k0_h34
theorem k0_off614_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off614 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.1 k0_t25 k0_h32 k0_h34
theorem k0_off615_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off615 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.1 k0_t25 k0_h32 k0_h34
theorem k0_off616_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off616 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.1 k0_t25 k0_h32 k0_h34
theorem k0_off617_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off617 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.1 k0_t25 k0_h32 k0_h34
theorem k0_off618_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off618 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.1 k0_t25 k0_h32 k0_h34
theorem k0_off619_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off619 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.1 k0_t25 k0_h32 k0_h34
theorem k0_off620_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off620 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.1 k0_t25 k0_h32 k0_h34
theorem k0_off621_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off621 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.2.1 k0_t25 k0_h32 k0_h34
theorem k0_off622_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off622 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.2.2.1 k0_t25 k0_h32 k0_h34
theorem k0_off623_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off623 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.2.2.2.1 k0_t25 k0_h32 k0_h34
theorem k0_off624_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off624 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.2.2.2.2.1 k0_t25 k0_h32 k0_h34
theorem k0_off625_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off625 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.2.2.2.2.2.1 k0_t25 k0_h32 k0_h34
theorem k0_off626_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off626 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.2.2.2.2.2.2.1 k0_t25 k0_h32 k0_h34
theorem k0_off627_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off627 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.2.2.2.2.2.2.2.1 k0_t25 k0_h32 k0_h34
theorem k0_off628_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off628 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.2.2.2.2.2.2.2.2.1 k0_t25 k0_h32 k0_h34
theorem k0_off629_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off629 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.2.2.2.2.2.2.2.2.2.1 k0_t25 k0_h32 k0_h34
theorem k0_off630_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off630 v105 v111 v122_4 v122_0 k0_t19 v216 v222 k0_t25) a + S1x16.size a ≤ S32x768.size a := fun v105 v111 v122_4 v122_0 k0_t19 v216 v222 k0_hw18 k0_t25 k0_h32 k0_h34 => k0_hw18.2.2.1.2.2.2.2.2.2.2.2.2.2.2.2.2.2.2.2.2.2.2.2.2.2.2.2.2.2.2.2.2.2.2 k0_t25 k0_h32 k0_h34
theorem k0_off631_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off631 v105 v111 v122_4 v122_0 k0_t19 v216 v222 k0_t25) a + S1x16.size a ≤ S32x768.size a := fun v105 v111 v122_4 v122_0 k0_t19 v216 v222 k0_hw18 k0_t25 k0_h32 k0_h34 => k0_hw18.2.2.2.1 k0_t25 k0_h32 k0_h34
theorem k0_off632_inb : ∀ (v105 : BitVec 32) (v111 : BitVec 32) (v122_4 : BitVec 32) (v122_0 : BitVec 32) (k0_t19 : Fin (k0_t19_loop v105 v111 v122_4 v122_0).trips) (v216 : BitVec 32) (v222 : BitVec 32) (k0_hw18 : k0_chk18 v105 v111 v122_4 v122_0 k0_t19 v216 v222) (k0_t25 : Fin (k0_t25_loop v105 v111 v122_4 v122_0 k0_t19 v216 v222).trips), ∀ (k0_h32 : k0_cond32 v105 v111 v122_4 v122_0 k0_t19 = 1#1), ∀ (k0_h34 : k0_cond34 v105 v111 v122_4 v122_0 k0_t19 v216 v222 = 1#1), ∀ a, (k0_off632 v105 v111 v122_4 v122_0 k0_t19 v216 v222 k0_t25) a + S1x16.size a ≤ S32x768.size a := fun v105 v111 v122_4 v122_0 k0_t19 v216 v222 k0_hw18 k0_t25 k0_h32 k0_h34 => k0_hw18.2.2.2.2 k0_t25 k0_h32 k0_h34

def k0_off633 (k0_t23 : Fin k0_t23_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t23
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_off634 (k0_t23 : Fin k0_t23_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t23
  let c768_i32_186 : BitVec 32 := 768#32
  let v286 : BitVec 32 := Scalar.muli arg22 c768_i32_186
  let v293 : BitVec 32 := Scalar.addi v286 c0_i32_189
  let v294 : Index := Scalar.indexCast v293
  ![v294.toNat]
@[reducible] def k0_t26_loop (v105 : BitVec 32) (v111 : BitVec 32) (v122_4 : BitVec 32) (v122_0 : BitVec 32) : Scf.Loop 32 :=
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let v173 : BitVec 32 := Scalar.addi c0_i32_103 v172
  let c1_i32_106 : BitVec 32 := 1#32
  ⟨v176, v173, c1_i32_106⟩
def k0_mult18 (v105 : BitVec 32) (v111 : BitVec 32) (v122_4 : BitVec 32) (v122_0 : BitVec 32) (k0_t26 : Fin (k0_t26_loop v105 v111 v122_4 v122_0).trips) : BitVec 32 :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let c4064_i32 : BitVec 32 := 4064#32
  let v198 : BitVec 32 := Scalar.minsi v197 c4064_i32
  v198
def k0_cond37 (v105 : BitVec 32) (v111 : BitVec 32) (v122_4 : BitVec 32) (v122_0 : BitVec 32) (k0_t26 : Fin (k0_t26_loop v105 v111 v122_4 v122_0).trips) : BitVec 1 :=
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let v188 : BitVec 1 := Scalar.cmpi .slt v187 v166
  let v189 : BitVec 32 := Scalar.extui v188
  let c0_i32_118 : BitVec 32 := 0#32
  let v190 : BitVec 1 := Scalar.cmpi .ne v189 c0_i32_118
  v190

def k0_off635 (k0_t1 : Fin k0_t1_loop.trips) (v105 : BitVec 32) (v111 : BitVec 32) (v122_4 : BitVec 32) (v122_0 : BitVec 32) (k0_t26 : Fin (k0_t26_loop v105 v111 v122_4 v122_0).trips) : Fin 3 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let c4064_i32 : BitVec 32 := 4064#32
  let v198 : BitVec 32 := Scalar.minsi v197 c4064_i32
  let v199 : BitVec 32 := v198
  let c0_i32_122 : BitVec 32 := 0#32
  ![v100.toNat, v199.toNat, 0]
def k0_mult19 (v105 : BitVec 32) (v111 : BitVec 32) (v122_4 : BitVec 32) (v122_0 : BitVec 32) (k0_t26 : Fin (k0_t26_loop v105 v111 v122_4 v122_0).trips) : BitVec 32 :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c1_i32_132 : BitVec 32 := 1#32
  let v212 : BitVec 32 := Scalar.addi v187 c1_i32_132
  let c32_i32_133 : BitVec 32 := 32#32
  let v213 : BitVec 32 := Scalar.muli v212 c32_i32_133
  let v214 : BitVec 32 := Scalar.addi v161 v213
  let c4064_i32_134 : BitVec 32 := 4064#32
  let v215 : BitVec 32 := Scalar.minsi v214 c4064_i32_134
  v215
def k0_cond38 (v105 : BitVec 32) (v111 : BitVec 32) (v122_4 : BitVec 32) (v122_0 : BitVec 32) (k0_t26 : Fin (k0_t26_loop v105 v111 v122_4 v122_0).trips) : BitVec 1 :=
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c1_i32_124 : BitVec 32 := 1#32
  let v204 : BitVec 32 := Scalar.addi v187 c1_i32_124
  let v205 : BitVec 1 := Scalar.cmpi .slt v204 v166
  let v206 : BitVec 32 := Scalar.extui v205
  let c0_i32_125 : BitVec 32 := 0#32
  let v207 : BitVec 1 := Scalar.cmpi .ne v206 c0_i32_125
  v207

def k0_off636 (k0_t1 : Fin k0_t1_loop.trips) (v105 : BitVec 32) (v111 : BitVec 32) (v122_4 : BitVec 32) (v122_0 : BitVec 32) (k0_t26 : Fin (k0_t26_loop v105 v111 v122_4 v122_0).trips) : Fin 3 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c1_i32_132 : BitVec 32 := 1#32
  let v212 : BitVec 32 := Scalar.addi v187 c1_i32_132
  let c32_i32_133 : BitVec 32 := 32#32
  let v213 : BitVec 32 := Scalar.muli v212 c32_i32_133
  let v214 : BitVec 32 := Scalar.addi v161 v213
  let c4064_i32_134 : BitVec 32 := 4064#32
  let v215 : BitVec 32 := Scalar.minsi v214 c4064_i32_134
  let v216 : BitVec 32 := v215
  let c0_i32_135 : BitVec 32 := 0#32
  ![v100.toNat, v216.toNat, 0]
@[reducible] def k0_t27_loop : Scf.Loop 32 :=
  let c0_i32_128 : BitVec 32 := 0#32
  let c4_i32_129 : BitVec 32 := 4#32
  let v211 : BitVec 32 := Scalar.addi c0_i32_128 c4_i32_129
  let c1_i32_130 : BitVec 32 := 1#32
  ⟨c0_i32_128, v211, c1_i32_130⟩
def k0_off637 (k0_t27 : Fin k0_t27_loop.trips) : Fin 1 → Nat :=
  let c0_i32_128 : BitVec 32 := 0#32
  let c1_i32_130 : BitVec 32 := 1#32
  let arg22 : BitVec 32 := Scf.iv c0_i32_128 c1_i32_130 k0_t27
  let v212 : Index := Scalar.indexCast arg22
  ![v212.toNat]
def k0_off638 (k0_t27 : Fin k0_t27_loop.trips) : Fin 1 → Nat :=
  let c0_i32_128 : BitVec 32 := 0#32
  let c1_i32_130 : BitVec 32 := 1#32
  let arg22 : BitVec 32 := Scf.iv c0_i32_128 c1_i32_130 k0_t27
  let c1_i32_132 : BitVec 32 := 1#32
  let v217 : BitVec 32 := Scalar.addi arg22 c1_i32_132
  let v218 : Index := Scalar.indexCast v217
  ![v218.toNat]
@[reducible] def k0_t28_loop (v105 : BitVec 32) (v111 : BitVec 32) (v122_4 : BitVec 32) (v122_0 : BitVec 32) (k0_t26 : Fin (k0_t26_loop v105 v111 v122_4 v122_0).trips) (v216 : BitVec 32) (v222 : BitVec 32) : Scf.Loop 32 :=
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_184 : BitVec 32 := 1#32
  ⟨c0_i32_182, v283, c1_i32_184⟩
def k0_cond39 (v105 : BitVec 32) (v111 : BitVec 32) (v122_4 : BitVec 32) (v122_0 : BitVec 32) (k0_t26 : Fin (k0_t26_loop v105 v111 v122_4 v122_0).trips) (v216 : BitVec 32) (v222 : BitVec 32) : BitVec 1 :=
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v227 : BitVec 1 := Scalar.cmpi .sgt v226 v224
  let v228 : BitVec 32 := Scalar.extui v227
  let c0_i32_133 : BitVec 32 := 0#32
  let v229 : BitVec 1 := Scalar.cmpi .ne v228 c0_i32_133
  v229

def k0_off639 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v293 : BitVec 32 := Scalar.addi v224 arg23
  let v294 : Index := Scalar.indexCast v293
  let c0_189 : Index := 0#32
  ![v294.toNat, 0]
def k0_off640 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v298 : BitVec 32 := Scalar.addi v224 arg23
  let v299 : Index := Scalar.indexCast v298
  let c16 : Index := 16#32
  ![v299.toNat, 16]
def k0_off641 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v303 : BitVec 32 := Scalar.addi v224 arg23
  let v304 : Index := Scalar.indexCast v303
  let c32 : Index := 32#32
  ![v304.toNat, 32]
def k0_off642 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v308 : BitVec 32 := Scalar.addi v224 arg23
  let v309 : Index := Scalar.indexCast v308
  let c48 : Index := 48#32
  ![v309.toNat, 48]
def k0_off643 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v313 : BitVec 32 := Scalar.addi v224 arg23
  let v314 : Index := Scalar.indexCast v313
  let c64 : Index := 64#32
  ![v314.toNat, 64]
def k0_off644 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v318 : BitVec 32 := Scalar.addi v224 arg23
  let v319 : Index := Scalar.indexCast v318
  let c80 : Index := 80#32
  ![v319.toNat, 80]
def k0_off645 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v323 : BitVec 32 := Scalar.addi v224 arg23
  let v324 : Index := Scalar.indexCast v323
  let c96 : Index := 96#32
  ![v324.toNat, 96]
def k0_off646 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v328 : BitVec 32 := Scalar.addi v224 arg23
  let v329 : Index := Scalar.indexCast v328
  let c112 : Index := 112#32
  ![v329.toNat, 112]
def k0_off647 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v333 : BitVec 32 := Scalar.addi v224 arg23
  let v334 : Index := Scalar.indexCast v333
  let c128 : Index := 128#32
  ![v334.toNat, 128]
def k0_off648 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v338 : BitVec 32 := Scalar.addi v224 arg23
  let v339 : Index := Scalar.indexCast v338
  let c144 : Index := 144#32
  ![v339.toNat, 144]
def k0_off649 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v343 : BitVec 32 := Scalar.addi v224 arg23
  let v344 : Index := Scalar.indexCast v343
  let c160 : Index := 160#32
  ![v344.toNat, 160]
def k0_off650 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v348 : BitVec 32 := Scalar.addi v224 arg23
  let v349 : Index := Scalar.indexCast v348
  let c176 : Index := 176#32
  ![v349.toNat, 176]
def k0_off651 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v353 : BitVec 32 := Scalar.addi v224 arg23
  let v354 : Index := Scalar.indexCast v353
  let c192 : Index := 192#32
  ![v354.toNat, 192]
def k0_off652 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v358 : BitVec 32 := Scalar.addi v224 arg23
  let v359 : Index := Scalar.indexCast v358
  let c208 : Index := 208#32
  ![v359.toNat, 208]
def k0_off653 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v363 : BitVec 32 := Scalar.addi v224 arg23
  let v364 : Index := Scalar.indexCast v363
  let c224 : Index := 224#32
  ![v364.toNat, 224]
def k0_off654 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v368 : BitVec 32 := Scalar.addi v224 arg23
  let v369 : Index := Scalar.indexCast v368
  let c240 : Index := 240#32
  ![v369.toNat, 240]
def k0_off655 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v373 : BitVec 32 := Scalar.addi v224 arg23
  let v374 : Index := Scalar.indexCast v373
  let c256 : Index := 256#32
  ![v374.toNat, 256]
def k0_off656 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v378 : BitVec 32 := Scalar.addi v224 arg23
  let v379 : Index := Scalar.indexCast v378
  let c272 : Index := 272#32
  ![v379.toNat, 272]
def k0_off657 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v383 : BitVec 32 := Scalar.addi v224 arg23
  let v384 : Index := Scalar.indexCast v383
  let c288 : Index := 288#32
  ![v384.toNat, 288]
def k0_off658 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v388 : BitVec 32 := Scalar.addi v224 arg23
  let v389 : Index := Scalar.indexCast v388
  let c304 : Index := 304#32
  ![v389.toNat, 304]
def k0_off659 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v393 : BitVec 32 := Scalar.addi v224 arg23
  let v394 : Index := Scalar.indexCast v393
  let c320 : Index := 320#32
  ![v394.toNat, 320]
def k0_off660 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v398 : BitVec 32 := Scalar.addi v224 arg23
  let v399 : Index := Scalar.indexCast v398
  let c336 : Index := 336#32
  ![v399.toNat, 336]
def k0_off661 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v403 : BitVec 32 := Scalar.addi v224 arg23
  let v404 : Index := Scalar.indexCast v403
  let c352 : Index := 352#32
  ![v404.toNat, 352]
def k0_off662 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v408 : BitVec 32 := Scalar.addi v224 arg23
  let v409 : Index := Scalar.indexCast v408
  let c368 : Index := 368#32
  ![v409.toNat, 368]
def k0_off663 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v413 : BitVec 32 := Scalar.addi v224 arg23
  let v414 : Index := Scalar.indexCast v413
  let c384 : Index := 384#32
  ![v414.toNat, 384]
def k0_off664 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v418 : BitVec 32 := Scalar.addi v224 arg23
  let v419 : Index := Scalar.indexCast v418
  let c400 : Index := 400#32
  ![v419.toNat, 400]
def k0_off665 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v423 : BitVec 32 := Scalar.addi v224 arg23
  let v424 : Index := Scalar.indexCast v423
  let c416 : Index := 416#32
  ![v424.toNat, 416]
def k0_off666 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v428 : BitVec 32 := Scalar.addi v224 arg23
  let v429 : Index := Scalar.indexCast v428
  let c432 : Index := 432#32
  ![v429.toNat, 432]
def k0_off667 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v433 : BitVec 32 := Scalar.addi v224 arg23
  let v434 : Index := Scalar.indexCast v433
  let c448 : Index := 448#32
  ![v434.toNat, 448]
def k0_off668 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v438 : BitVec 32 := Scalar.addi v224 arg23
  let v439 : Index := Scalar.indexCast v438
  let c464 : Index := 464#32
  ![v439.toNat, 464]
def k0_off669 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v443 : BitVec 32 := Scalar.addi v224 arg23
  let v444 : Index := Scalar.indexCast v443
  let c480 : Index := 480#32
  ![v444.toNat, 480]
def k0_off670 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v448 : BitVec 32 := Scalar.addi v224 arg23
  let v449 : Index := Scalar.indexCast v448
  let c496 : Index := 496#32
  ![v449.toNat, 496]
def k0_off671 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v453 : BitVec 32 := Scalar.addi v224 arg23
  let v454 : Index := Scalar.indexCast v453
  let c512 : Index := 512#32
  ![v454.toNat, 512]
def k0_off672 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v458 : BitVec 32 := Scalar.addi v224 arg23
  let v459 : Index := Scalar.indexCast v458
  let c528 : Index := 528#32
  ![v459.toNat, 528]
def k0_off673 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v463 : BitVec 32 := Scalar.addi v224 arg23
  let v464 : Index := Scalar.indexCast v463
  let c544 : Index := 544#32
  ![v464.toNat, 544]
def k0_off674 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v468 : BitVec 32 := Scalar.addi v224 arg23
  let v469 : Index := Scalar.indexCast v468
  let c560 : Index := 560#32
  ![v469.toNat, 560]
def k0_off675 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v473 : BitVec 32 := Scalar.addi v224 arg23
  let v474 : Index := Scalar.indexCast v473
  let c576 : Index := 576#32
  ![v474.toNat, 576]
def k0_off676 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v478 : BitVec 32 := Scalar.addi v224 arg23
  let v479 : Index := Scalar.indexCast v478
  let c592 : Index := 592#32
  ![v479.toNat, 592]
def k0_off677 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v483 : BitVec 32 := Scalar.addi v224 arg23
  let v484 : Index := Scalar.indexCast v483
  let c608 : Index := 608#32
  ![v484.toNat, 608]
def k0_off678 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v488 : BitVec 32 := Scalar.addi v224 arg23
  let v489 : Index := Scalar.indexCast v488
  let c624 : Index := 624#32
  ![v489.toNat, 624]
def k0_off679 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v493 : BitVec 32 := Scalar.addi v224 arg23
  let v494 : Index := Scalar.indexCast v493
  let c640 : Index := 640#32
  ![v494.toNat, 640]
def k0_off680 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v498 : BitVec 32 := Scalar.addi v224 arg23
  let v499 : Index := Scalar.indexCast v498
  let c656 : Index := 656#32
  ![v499.toNat, 656]
def k0_off681 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v503 : BitVec 32 := Scalar.addi v224 arg23
  let v504 : Index := Scalar.indexCast v503
  let c672 : Index := 672#32
  ![v504.toNat, 672]
def k0_off682 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v508 : BitVec 32 := Scalar.addi v224 arg23
  let v509 : Index := Scalar.indexCast v508
  let c688 : Index := 688#32
  ![v509.toNat, 688]
def k0_off683 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v513 : BitVec 32 := Scalar.addi v224 arg23
  let v514 : Index := Scalar.indexCast v513
  let c704 : Index := 704#32
  ![v514.toNat, 704]
def k0_off684 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v518 : BitVec 32 := Scalar.addi v224 arg23
  let v519 : Index := Scalar.indexCast v518
  let c720 : Index := 720#32
  ![v519.toNat, 720]
def k0_off685 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v523 : BitVec 32 := Scalar.addi v224 arg23
  let v524 : Index := Scalar.indexCast v523
  let c736 : Index := 736#32
  ![v524.toNat, 736]
def k0_off686 (v105 : BitVec 32) (v111 : BitVec 32) (v122_4 : BitVec 32) (v122_0 : BitVec 32) (k0_t26 : Fin (k0_t26_loop v105 v111 v122_4 v122_0).trips) (v216 : BitVec 32) (v222 : BitVec 32) (k0_t28 : Fin (k0_t28_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t28
  let v528 : BitVec 32 := Scalar.addi v224 arg23
  let v529 : Index := Scalar.indexCast v528
  let c752 : Index := 752#32
  ![v529.toNat, 752]
@[reducible] def k0_t29_loop (v105 : BitVec 32) (v111 : BitVec 32) (v122_4 : BitVec 32) (v122_0 : BitVec 32) (k0_t26 : Fin (k0_t26_loop v105 v111 v122_4 v122_0).trips) (v216 : BitVec 32) (v222 : BitVec 32) : Scf.Loop 32 :=
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let v280 : BitVec 32 := Scalar.addi c0_i32_182 v279
  let c1_i32_185 : BitVec 32 := 1#32
  ⟨v283, v280, c1_i32_185⟩
def k0_off687 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v293 : BitVec 32 := Scalar.addi v224 arg23
  let v294 : Index := Scalar.indexCast v293
  let c0_189 : Index := 0#32
  ![v294.toNat, 0]
def k0_off688 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v298 : BitVec 32 := Scalar.addi v224 arg23
  let v299 : Index := Scalar.indexCast v298
  let c16 : Index := 16#32
  ![v299.toNat, 16]
def k0_off689 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v303 : BitVec 32 := Scalar.addi v224 arg23
  let v304 : Index := Scalar.indexCast v303
  let c32 : Index := 32#32
  ![v304.toNat, 32]
def k0_off690 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v308 : BitVec 32 := Scalar.addi v224 arg23
  let v309 : Index := Scalar.indexCast v308
  let c48 : Index := 48#32
  ![v309.toNat, 48]
def k0_off691 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v313 : BitVec 32 := Scalar.addi v224 arg23
  let v314 : Index := Scalar.indexCast v313
  let c64 : Index := 64#32
  ![v314.toNat, 64]
def k0_off692 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v318 : BitVec 32 := Scalar.addi v224 arg23
  let v319 : Index := Scalar.indexCast v318
  let c80 : Index := 80#32
  ![v319.toNat, 80]
def k0_off693 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v323 : BitVec 32 := Scalar.addi v224 arg23
  let v324 : Index := Scalar.indexCast v323
  let c96 : Index := 96#32
  ![v324.toNat, 96]
def k0_off694 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v328 : BitVec 32 := Scalar.addi v224 arg23
  let v329 : Index := Scalar.indexCast v328
  let c112 : Index := 112#32
  ![v329.toNat, 112]
def k0_off695 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v333 : BitVec 32 := Scalar.addi v224 arg23
  let v334 : Index := Scalar.indexCast v333
  let c128 : Index := 128#32
  ![v334.toNat, 128]
def k0_off696 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v338 : BitVec 32 := Scalar.addi v224 arg23
  let v339 : Index := Scalar.indexCast v338
  let c144 : Index := 144#32
  ![v339.toNat, 144]
def k0_off697 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v343 : BitVec 32 := Scalar.addi v224 arg23
  let v344 : Index := Scalar.indexCast v343
  let c160 : Index := 160#32
  ![v344.toNat, 160]
def k0_off698 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v348 : BitVec 32 := Scalar.addi v224 arg23
  let v349 : Index := Scalar.indexCast v348
  let c176 : Index := 176#32
  ![v349.toNat, 176]
def k0_off699 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v353 : BitVec 32 := Scalar.addi v224 arg23
  let v354 : Index := Scalar.indexCast v353
  let c192 : Index := 192#32
  ![v354.toNat, 192]
def k0_off700 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v358 : BitVec 32 := Scalar.addi v224 arg23
  let v359 : Index := Scalar.indexCast v358
  let c208 : Index := 208#32
  ![v359.toNat, 208]
def k0_off701 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v363 : BitVec 32 := Scalar.addi v224 arg23
  let v364 : Index := Scalar.indexCast v363
  let c224 : Index := 224#32
  ![v364.toNat, 224]
def k0_off702 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v368 : BitVec 32 := Scalar.addi v224 arg23
  let v369 : Index := Scalar.indexCast v368
  let c240 : Index := 240#32
  ![v369.toNat, 240]
def k0_off703 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v373 : BitVec 32 := Scalar.addi v224 arg23
  let v374 : Index := Scalar.indexCast v373
  let c256 : Index := 256#32
  ![v374.toNat, 256]
def k0_off704 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v378 : BitVec 32 := Scalar.addi v224 arg23
  let v379 : Index := Scalar.indexCast v378
  let c272 : Index := 272#32
  ![v379.toNat, 272]
def k0_off705 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v383 : BitVec 32 := Scalar.addi v224 arg23
  let v384 : Index := Scalar.indexCast v383
  let c288 : Index := 288#32
  ![v384.toNat, 288]
def k0_off706 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v388 : BitVec 32 := Scalar.addi v224 arg23
  let v389 : Index := Scalar.indexCast v388
  let c304 : Index := 304#32
  ![v389.toNat, 304]
def k0_off707 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v393 : BitVec 32 := Scalar.addi v224 arg23
  let v394 : Index := Scalar.indexCast v393
  let c320 : Index := 320#32
  ![v394.toNat, 320]
def k0_off708 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v398 : BitVec 32 := Scalar.addi v224 arg23
  let v399 : Index := Scalar.indexCast v398
  let c336 : Index := 336#32
  ![v399.toNat, 336]
def k0_off709 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v403 : BitVec 32 := Scalar.addi v224 arg23
  let v404 : Index := Scalar.indexCast v403
  let c352 : Index := 352#32
  ![v404.toNat, 352]
def k0_off710 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v408 : BitVec 32 := Scalar.addi v224 arg23
  let v409 : Index := Scalar.indexCast v408
  let c368 : Index := 368#32
  ![v409.toNat, 368]
def k0_off711 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v413 : BitVec 32 := Scalar.addi v224 arg23
  let v414 : Index := Scalar.indexCast v413
  let c384 : Index := 384#32
  ![v414.toNat, 384]
def k0_off712 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v418 : BitVec 32 := Scalar.addi v224 arg23
  let v419 : Index := Scalar.indexCast v418
  let c400 : Index := 400#32
  ![v419.toNat, 400]
def k0_off713 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v423 : BitVec 32 := Scalar.addi v224 arg23
  let v424 : Index := Scalar.indexCast v423
  let c416 : Index := 416#32
  ![v424.toNat, 416]
def k0_off714 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v428 : BitVec 32 := Scalar.addi v224 arg23
  let v429 : Index := Scalar.indexCast v428
  let c432 : Index := 432#32
  ![v429.toNat, 432]
def k0_off715 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v433 : BitVec 32 := Scalar.addi v224 arg23
  let v434 : Index := Scalar.indexCast v433
  let c448 : Index := 448#32
  ![v434.toNat, 448]
def k0_off716 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v438 : BitVec 32 := Scalar.addi v224 arg23
  let v439 : Index := Scalar.indexCast v438
  let c464 : Index := 464#32
  ![v439.toNat, 464]
def k0_off717 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v443 : BitVec 32 := Scalar.addi v224 arg23
  let v444 : Index := Scalar.indexCast v443
  let c480 : Index := 480#32
  ![v444.toNat, 480]
def k0_off718 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v448 : BitVec 32 := Scalar.addi v224 arg23
  let v449 : Index := Scalar.indexCast v448
  let c496 : Index := 496#32
  ![v449.toNat, 496]
def k0_off719 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v453 : BitVec 32 := Scalar.addi v224 arg23
  let v454 : Index := Scalar.indexCast v453
  let c512 : Index := 512#32
  ![v454.toNat, 512]
def k0_off720 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v458 : BitVec 32 := Scalar.addi v224 arg23
  let v459 : Index := Scalar.indexCast v458
  let c528 : Index := 528#32
  ![v459.toNat, 528]
def k0_off721 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v463 : BitVec 32 := Scalar.addi v224 arg23
  let v464 : Index := Scalar.indexCast v463
  let c544 : Index := 544#32
  ![v464.toNat, 544]
def k0_off722 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v468 : BitVec 32 := Scalar.addi v224 arg23
  let v469 : Index := Scalar.indexCast v468
  let c560 : Index := 560#32
  ![v469.toNat, 560]
def k0_off723 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v473 : BitVec 32 := Scalar.addi v224 arg23
  let v474 : Index := Scalar.indexCast v473
  let c576 : Index := 576#32
  ![v474.toNat, 576]
def k0_off724 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v478 : BitVec 32 := Scalar.addi v224 arg23
  let v479 : Index := Scalar.indexCast v478
  let c592 : Index := 592#32
  ![v479.toNat, 592]
def k0_off725 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v483 : BitVec 32 := Scalar.addi v224 arg23
  let v484 : Index := Scalar.indexCast v483
  let c608 : Index := 608#32
  ![v484.toNat, 608]
def k0_off726 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v488 : BitVec 32 := Scalar.addi v224 arg23
  let v489 : Index := Scalar.indexCast v488
  let c624 : Index := 624#32
  ![v489.toNat, 624]
def k0_off727 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v493 : BitVec 32 := Scalar.addi v224 arg23
  let v494 : Index := Scalar.indexCast v493
  let c640 : Index := 640#32
  ![v494.toNat, 640]
def k0_off728 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v498 : BitVec 32 := Scalar.addi v224 arg23
  let v499 : Index := Scalar.indexCast v498
  let c656 : Index := 656#32
  ![v499.toNat, 656]
def k0_off729 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v503 : BitVec 32 := Scalar.addi v224 arg23
  let v504 : Index := Scalar.indexCast v503
  let c672 : Index := 672#32
  ![v504.toNat, 672]
def k0_off730 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v508 : BitVec 32 := Scalar.addi v224 arg23
  let v509 : Index := Scalar.indexCast v508
  let c688 : Index := 688#32
  ![v509.toNat, 688]
def k0_off731 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v513 : BitVec 32 := Scalar.addi v224 arg23
  let v514 : Index := Scalar.indexCast v513
  let c704 : Index := 704#32
  ![v514.toNat, 704]
def k0_off732 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v518 : BitVec 32 := Scalar.addi v224 arg23
  let v519 : Index := Scalar.indexCast v518
  let c720 : Index := 720#32
  ![v519.toNat, 720]
def k0_off733 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v523 : BitVec 32 := Scalar.addi v224 arg23
  let v524 : Index := Scalar.indexCast v523
  let c736 : Index := 736#32
  ![v524.toNat, 736]
def k0_off734 (v105 : BitVec 32) (v111 : BitVec 32) (v122_4 : BitVec 32) (v122_0 : BitVec 32) (k0_t26 : Fin (k0_t26_loop v105 v111 v122_4 v122_0).trips) (v216 : BitVec 32) (v222 : BitVec 32) (k0_t29 : Fin (k0_t29_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_116 : BitVec 32 := 2#32
  let v186 : BitVec 32 := Scalar.muli arg21 c2_i32_116
  let c0_i32_117 : BitVec 32 := 0#32
  let v187 : BitVec 32 := Scalar.addi v186 c0_i32_117
  let c32_i32 : BitVec 32 := 32#32
  let v196 : BitVec 32 := Scalar.muli v187 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t29
  let v528 : BitVec 32 := Scalar.addi v224 arg23
  let v529 : Index := Scalar.indexCast v528
  let c752 : Index := 752#32
  ![v529.toNat, 752]

def k0_chk19_0 (v105 : BitVec 32) (v111 : BitVec 32) (v122_4 : BitVec 32) (v122_0 : BitVec 32) (k0_t26 : Fin (k0_t26_loop v105 v111 v122_4 v122_0).trips) (v216 : BitVec 32) (v222 : BitVec 32) : Prop :=
  (∀ (k0_h37 : k0_cond37 v105 v111 v122_4 v122_0 k0_t26 = 1#1), ∀ (k0_h39 : k0_cond39 v105 v111 v122_4 v122_0 k0_t26 v216 v222 = 1#1), (k0_t28_loop v105 v111 v122_4 v122_0 k0_t26 v216 v222).OK) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off639 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off640 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off641 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off642 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off643 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off644 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off645 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off646 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off647 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off648 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off649 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off650 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off651 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off652 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off653 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off654 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off655 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off656 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off657 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off658 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off659 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off660 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off661 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off662 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off663 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off664 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off665 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off666 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off667 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off668 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off669 v105 v111 v122_4 v122_0 k0_t26 v216 v222 k0_t28) a + S1x16.size a ≤ S32x768.size a)
def k0_chk19_1 (v105 : BitVec 32) (v111 : BitVec 32) (v122_4 : BitVec 32) (v122_0 : BitVec 32) (k0_t26 : Fin (k0_t26_loop v105 v111 v122_4 v122_0).trips) (v216 : BitVec 32) (v222 : BitVec 32) : Prop :=
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off670 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off671 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off672 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off673 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off674 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off675 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off676 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off677 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off678 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off679 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off680 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off681 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off682 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off683 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off684 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off685 v105 v111 v122_4 v122_0 k0_t26 v216 v222 k0_t28) a + S1x16.size a ≤ S32x768.size a) ∧
  (∀ k0_t28 : Fin (k0_t28_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off686 v105 v111 v122_4 v122_0 k0_t26 v216 v222 k0_t28) a + S1x16.size a ≤ S32x768.size a) ∧
  (∀ (k0_h37 : k0_cond37 v105 v111 v122_4 v122_0 k0_t26 = 1#1), ∀ (k0_h39 : k0_cond39 v105 v111 v122_4 v122_0 k0_t26 v216 v222 = 1#1), (k0_t29_loop v105 v111 v122_4 v122_0 k0_t26 v216 v222).OK) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off687 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off688 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off689 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off690 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off691 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off692 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off693 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off694 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off695 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off696 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off697 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off698 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off699 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off700 v105 v111 v122_4 v122_0 k0_t26 v216 v222 k0_t29) a + S1x16.size a ≤ S32x768.size a)
def k0_chk19_2 (v105 : BitVec 32) (v111 : BitVec 32) (v122_4 : BitVec 32) (v122_0 : BitVec 32) (k0_t26 : Fin (k0_t26_loop v105 v111 v122_4 v122_0).trips) (v216 : BitVec 32) (v222 : BitVec 32) : Prop :=
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off701 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off702 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off703 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off704 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off705 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off706 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off707 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off708 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off709 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off710 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off711 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off712 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off713 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off714 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off715 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off716 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off717 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off718 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off719 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off720 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off721 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off722 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off723 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off724 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off725 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off726 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off727 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off728 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off729 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off730 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off731 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off732 v105 v111 v122_4 v122_0 k0_t26 v216 v222 k0_t29) a + S1x16.size a ≤ S32x768.size a)
def k0_chk19_3 (v105 : BitVec 32) (v111 : BitVec 32) (v122_4 : BitVec 32) (v122_0 : BitVec 32) (k0_t26 : Fin (k0_t26_loop v105 v111 v122_4 v122_0).trips) (v216 : BitVec 32) (v222 : BitVec 32) : Prop :=
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off733 v105 v111 v122_4 v122_0 k0_t26 v216 v222 k0_t29) a + S1x16.size a ≤ S32x768.size a) ∧
  (∀ k0_t29 : Fin (k0_t29_loop v105 v111 v122_4 v122_0 k0_t26 v216 v222).trips, ∀ (k0_h37 : k0_cond37 v105 v111 v122_4 v122_0 k0_t26 = 1#1), ∀ (k0_h39 : k0_cond39 v105 v111 v122_4 v122_0 k0_t26 v216 v222 = 1#1), ∀ a, (k0_off734 v105 v111 v122_4 v122_0 k0_t26 v216 v222 k0_t29) a + S1x16.size a ≤ S32x768.size a)
def k0_chk19 (v105 : BitVec 32) (v111 : BitVec 32) (v122_4 : BitVec 32) (v122_0 : BitVec 32) (k0_t26 : Fin (k0_t26_loop v105 v111 v122_4 v122_0).trips) (v216 : BitVec 32) (v222 : BitVec 32) : Prop :=
  k0_chk19_0 v105 v111 v122_4 v122_0 k0_t26 v216 v222 ∧
  k0_chk19_1 v105 v111 v122_4 v122_0 k0_t26 v216 v222 ∧
  k0_chk19_2 v105 v111 v122_4 v122_0 k0_t26 v216 v222 ∧
  k0_chk19_3 v105 v111 v122_4 v122_0 k0_t26 v216 v222
theorem k0_t28_ok : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222), ∀ (k0_h37 : k0_cond37 v105 v111 v122_4 v122_0 k0_t26 = 1#1), ∀ (k0_h39 : k0_cond39 v105 v111 v122_4 v122_0 k0_t26 v216 v222 = 1#1), (k0_t28_loop v105 v111 v122_4 v122_0 k0_t26 v216 v222).OK := fun v105 v111 v122_4 v122_0 k0_t26 v216 v222 k0_hw19 k0_h37 k0_h39 => k0_hw19.1.1 k0_h37 k0_h39
theorem k0_off639_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off639 v105 v111 v122_4 v122_0 k0_t26 v216 v222 k0_t28) a + S1x16.size a ≤ S32x768.size a := fun v105 v111 v122_4 v122_0 k0_t26 v216 v222 k0_hw19 k0_t28 k0_h37 k0_h39 => k0_hw19.1.2.1 k0_t28 k0_h37 k0_h39
theorem k0_off640_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off640 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.1 k0_t28 k0_h37 k0_h39
theorem k0_off641_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off641 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.1 k0_t28 k0_h37 k0_h39
theorem k0_off642_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off642 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.1 k0_t28 k0_h37 k0_h39
theorem k0_off643_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off643 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.1 k0_t28 k0_h37 k0_h39
theorem k0_off644_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off644 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.1 k0_t28 k0_h37 k0_h39
theorem k0_off645_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off645 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.1 k0_t28 k0_h37 k0_h39
theorem k0_off646_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off646 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.1 k0_t28 k0_h37 k0_h39
theorem k0_off647_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off647 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.1 k0_t28 k0_h37 k0_h39
theorem k0_off648_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off648 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.1 k0_t28 k0_h37 k0_h39
theorem k0_off649_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off649 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.1 k0_t28 k0_h37 k0_h39
theorem k0_off650_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off650 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.1 k0_t28 k0_h37 k0_h39
theorem k0_off651_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off651 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.1 k0_t28 k0_h37 k0_h39
theorem k0_off652_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off652 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.1 k0_t28 k0_h37 k0_h39
theorem k0_off653_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off653 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.1 k0_t28 k0_h37 k0_h39
theorem k0_off654_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off654 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.1 k0_t28 k0_h37 k0_h39
theorem k0_off655_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off655 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.1 k0_t28 k0_h37 k0_h39
theorem k0_off656_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off656 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.1 k0_t28 k0_h37 k0_h39
theorem k0_off657_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off657 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.1 k0_t28 k0_h37 k0_h39
theorem k0_off658_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off658 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.1 k0_t28 k0_h37 k0_h39
theorem k0_off659_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off659 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.1 k0_t28 k0_h37 k0_h39
theorem k0_off660_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off660 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.2.1 k0_t28 k0_h37 k0_h39
theorem k0_off661_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off661 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.2.2.1 k0_t28 k0_h37 k0_h39
theorem k0_off662_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off662 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.2.2.2.1 k0_t28 k0_h37 k0_h39
theorem k0_off663_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off663 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.2.2.2.2.1 k0_t28 k0_h37 k0_h39
theorem k0_off664_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off664 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.2.2.2.2.2.1 k0_t28 k0_h37 k0_h39
theorem k0_off665_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off665 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.2.2.2.2.2.2.1 k0_t28 k0_h37 k0_h39
theorem k0_off666_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off666 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.2.2.2.2.2.2.2.1 k0_t28 k0_h37 k0_h39
theorem k0_off667_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off667 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.2.2.2.2.2.2.2.2.1 k0_t28 k0_h37 k0_h39
theorem k0_off668_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off668 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.2.2.2.2.2.2.2.2.2.1 k0_t28 k0_h37 k0_h39
theorem k0_off669_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off669 v105 v111 v122_4 v122_0 k0_t26 v216 v222 k0_t28) a + S1x16.size a ≤ S32x768.size a := fun v105 v111 v122_4 v122_0 k0_t26 v216 v222 k0_hw19 k0_t28 k0_h37 k0_h39 => k0_hw19.1.2.2.2.2.2.2.2.2.2.2.2.2.2.2.2.2.2.2.2.2.2.2.2.2.2.2.2.2.2.2.2 k0_t28 k0_h37 k0_h39
theorem k0_off670_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off670 v105 v111 v122_4 v122_0 k0_t26 v216 v222 k0_t28) a + S1x16.size a ≤ S32x768.size a := fun v105 v111 v122_4 v122_0 k0_t26 v216 v222 k0_hw19 k0_t28 k0_h37 k0_h39 => k0_hw19.2.1.1 k0_t28 k0_h37 k0_h39
theorem k0_off671_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off671 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.1 k0_t28 k0_h37 k0_h39
theorem k0_off672_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off672 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.1 k0_t28 k0_h37 k0_h39
theorem k0_off673_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off673 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.1 k0_t28 k0_h37 k0_h39
theorem k0_off674_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off674 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.1 k0_t28 k0_h37 k0_h39
theorem k0_off675_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off675 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.1 k0_t28 k0_h37 k0_h39
theorem k0_off676_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off676 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.1 k0_t28 k0_h37 k0_h39
theorem k0_off677_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off677 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.2.1 k0_t28 k0_h37 k0_h39
theorem k0_off678_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off678 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.2.2.1 k0_t28 k0_h37 k0_h39
theorem k0_off679_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off679 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.2.2.2.1 k0_t28 k0_h37 k0_h39
theorem k0_off680_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off680 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.2.2.2.2.1 k0_t28 k0_h37 k0_h39
theorem k0_off681_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off681 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.2.2.2.2.2.1 k0_t28 k0_h37 k0_h39
theorem k0_off682_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off682 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.2.2.2.2.2.2.1 k0_t28 k0_h37 k0_h39
theorem k0_off683_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off683 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.2.2.2.2.2.2.2.1 k0_t28 k0_h37 k0_h39
theorem k0_off684_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off684 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.2.2.2.2.2.2.2.2.1 k0_t28 k0_h37 k0_h39
theorem k0_off685_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off685 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.2.2.2.2.2.2.2.2.2.1 k0_t28 k0_h37 k0_h39
theorem k0_off686_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t28 : Fin (k0_t28_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off686 v105 v111 v122_4 v122_0 k0_t26 v216 v222 k0_t28) a + S1x16.size a ≤ S32x768.size a := fun v105 v111 v122_4 v122_0 k0_t26 v216 v222 k0_hw19 k0_t28 k0_h37 k0_h39 => k0_hw19.2.1.2.2.2.2.2.2.2.2.2.2.2.2.2.2.2.2.1 k0_t28 k0_h37 k0_h39
theorem k0_t29_ok : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222), ∀ (k0_h37 : k0_cond37 v105 v111 v122_4 v122_0 k0_t26 = 1#1), ∀ (k0_h39 : k0_cond39 v105 v111 v122_4 v122_0 k0_t26 v216 v222 = 1#1), (k0_t29_loop v105 v111 v122_4 v122_0 k0_t26 v216 v222).OK := fun v105 v111 v122_4 v122_0 k0_t26 v216 v222 k0_hw19 k0_h37 k0_h39 => k0_hw19.2.1.2.2.2.2.2.2.2.2.2.2.2.2.2.2.2.2.2.1 k0_h37 k0_h39
theorem k0_off687_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off687 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.1 k0_t29 k0_h37 k0_h39
theorem k0_off688_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off688 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.1 k0_t29 k0_h37 k0_h39
theorem k0_off689_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off689 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.1 k0_t29 k0_h37 k0_h39
theorem k0_off690_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off690 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.1 k0_t29 k0_h37 k0_h39
theorem k0_off691_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off691 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.2.1 k0_t29 k0_h37 k0_h39
theorem k0_off692_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off692 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.2.2.1 k0_t29 k0_h37 k0_h39
theorem k0_off693_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off693 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.2.2.2.1 k0_t29 k0_h37 k0_h39
theorem k0_off694_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off694 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.2.2.2.2.1 k0_t29 k0_h37 k0_h39
theorem k0_off695_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off695 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.2.2.2.2.2.1 k0_t29 k0_h37 k0_h39
theorem k0_off696_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off696 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.2.2.2.2.2.2.1 k0_t29 k0_h37 k0_h39
theorem k0_off697_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off697 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.2.2.2.2.2.2.2.1 k0_t29 k0_h37 k0_h39
theorem k0_off698_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off698 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.2.2.2.2.2.2.2.2.1 k0_t29 k0_h37 k0_h39
theorem k0_off699_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off699 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.2.2.2.2.2.2.2.2.2.1 k0_t29 k0_h37 k0_h39
theorem k0_off700_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off700 v105 v111 v122_4 v122_0 k0_t26 v216 v222 k0_t29) a + S1x16.size a ≤ S32x768.size a := fun v105 v111 v122_4 v122_0 k0_t26 v216 v222 k0_hw19 k0_t29 k0_h37 k0_h39 => k0_hw19.2.1.2.2.2.2.2.2.2.2.2.2.2.2.2.2.2.2.2.2.2.2.2.2.2.2.2.2.2.2.2.2.2 k0_t29 k0_h37 k0_h39
theorem k0_off701_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off701 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.1 k0_t29 k0_h37 k0_h39
theorem k0_off702_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off702 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.1 k0_t29 k0_h37 k0_h39
theorem k0_off703_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off703 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.1 k0_t29 k0_h37 k0_h39
theorem k0_off704_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off704 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.1 k0_t29 k0_h37 k0_h39
theorem k0_off705_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off705 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.1 k0_t29 k0_h37 k0_h39
theorem k0_off706_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off706 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.1 k0_t29 k0_h37 k0_h39
theorem k0_off707_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off707 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.1 k0_t29 k0_h37 k0_h39
theorem k0_off708_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off708 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.1 k0_t29 k0_h37 k0_h39
theorem k0_off709_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off709 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.1 k0_t29 k0_h37 k0_h39
theorem k0_off710_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off710 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.1 k0_t29 k0_h37 k0_h39
theorem k0_off711_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off711 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.1 k0_t29 k0_h37 k0_h39
theorem k0_off712_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off712 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.1 k0_t29 k0_h37 k0_h39
theorem k0_off713_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off713 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.1 k0_t29 k0_h37 k0_h39
theorem k0_off714_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off714 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.1 k0_t29 k0_h37 k0_h39
theorem k0_off715_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off715 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.1 k0_t29 k0_h37 k0_h39
theorem k0_off716_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off716 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.1 k0_t29 k0_h37 k0_h39
theorem k0_off717_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off717 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.1 k0_t29 k0_h37 k0_h39
theorem k0_off718_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off718 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.1 k0_t29 k0_h37 k0_h39
theorem k0_off719_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off719 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.1 k0_t29 k0_h37 k0_h39
theorem k0_off720_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off720 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.1 k0_t29 k0_h37 k0_h39
theorem k0_off721_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off721 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.1 k0_t29 k0_h37 k0_h39
theorem k0_off722_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off722 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.1 k0_t29 k0_h37 k0_h39
theorem k0_off723_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off723 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.2.1 k0_t29 k0_h37 k0_h39
theorem k0_off724_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off724 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.2.2.1 k0_t29 k0_h37 k0_h39
theorem k0_off725_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off725 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.2.2.2.1 k0_t29 k0_h37 k0_h39
theorem k0_off726_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off726 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.2.2.2.2.1 k0_t29 k0_h37 k0_h39
theorem k0_off727_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off727 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.2.2.2.2.2.1 k0_t29 k0_h37 k0_h39
theorem k0_off728_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off728 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.2.2.2.2.2.2.1 k0_t29 k0_h37 k0_h39
theorem k0_off729_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off729 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.2.2.2.2.2.2.2.1 k0_t29 k0_h37 k0_h39
theorem k0_off730_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off730 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.2.2.2.2.2.2.2.2.1 k0_t29 k0_h37 k0_h39
theorem k0_off731_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off731 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.2.2.2.2.2.2.2.2.2.1 k0_t29 k0_h37 k0_h39
theorem k0_off732_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off732 v105 v111 v122_4 v122_0 k0_t26 v216 v222 k0_t29) a + S1x16.size a ≤ S32x768.size a := fun v105 v111 v122_4 v122_0 k0_t26 v216 v222 k0_hw19 k0_t29 k0_h37 k0_h39 => k0_hw19.2.2.1.2.2.2.2.2.2.2.2.2.2.2.2.2.2.2.2.2.2.2.2.2.2.2.2.2.2.2.2.2.2.2 k0_t29 k0_h37 k0_h39
theorem k0_off733_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off733 v105 v111 v122_4 v122_0 k0_t26 v216 v222 k0_t29) a + S1x16.size a ≤ S32x768.size a := fun v105 v111 v122_4 v122_0 k0_t26 v216 v222 k0_hw19 k0_t29 k0_h37 k0_h39 => k0_hw19.2.2.2.1 k0_t29 k0_h37 k0_h39
theorem k0_off734_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw19 : k0_chk19 v105 v111 v122_4 v122_0 k0_t26 v216 v222) (k0_t29 : Fin (k0_t29_loop v105 v111 v122_4 v122_0 k0_t26 v216 v222).trips), ∀ (k0_h37 : k0_cond37 v105 v111 v122_4 v122_0 k0_t26 = 1#1), ∀ (k0_h39 : k0_cond39 v105 v111 v122_4 v122_0 k0_t26 v216 v222 = 1#1), ∀ a, (k0_off734 v105 v111 v122_4 v122_0 k0_t26 v216 v222 k0_t29) a + S1x16.size a ≤ S32x768.size a := fun v105 v111 v122_4 v122_0 k0_t26 v216 v222 k0_hw19 k0_t29 k0_h37 k0_h39 => k0_hw19.2.2.2.2 k0_t29 k0_h37 k0_h39

def k0_off735 (k0_t27 : Fin k0_t27_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t27
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_off736 (k0_t27 : Fin k0_t27_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t27
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_mult20 (v105 : BitVec 32) (v111 : BitVec 32) (v122_4 : BitVec 32) (v122_0 : BitVec 32) (k0_t26 : Fin (k0_t26_loop v105 v111 v122_4 v122_0).trips) : BitVec 32 :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let c4064_i32 : BitVec 32 := 4064#32
  let v198 : BitVec 32 := Scalar.minsi v197 c4064_i32
  v198
def k0_cond42 (v105 : BitVec 32) (v111 : BitVec 32) (v122_4 : BitVec 32) (v122_0 : BitVec 32) (k0_t26 : Fin (k0_t26_loop v105 v111 v122_4 v122_0).trips) : BitVec 1 :=
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let v193 : BitVec 1 := Scalar.cmpi .slt v192 v166
  let v194 : BitVec 32 := Scalar.extui v193
  let c0_i32_121 : BitVec 32 := 0#32
  let v195 : BitVec 1 := Scalar.cmpi .ne v194 c0_i32_121
  v195

def k0_off737 (k0_t1 : Fin k0_t1_loop.trips) (v105 : BitVec 32) (v111 : BitVec 32) (v122_4 : BitVec 32) (v122_0 : BitVec 32) (k0_t26 : Fin (k0_t26_loop v105 v111 v122_4 v122_0).trips) : Fin 3 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let c4064_i32 : BitVec 32 := 4064#32
  let v198 : BitVec 32 := Scalar.minsi v197 c4064_i32
  let v199 : BitVec 32 := v198
  let c0_i32_122 : BitVec 32 := 0#32
  ![v100.toNat, v199.toNat, 0]
def k0_mult21 (v105 : BitVec 32) (v111 : BitVec 32) (v122_4 : BitVec 32) (v122_0 : BitVec 32) (k0_t26 : Fin (k0_t26_loop v105 v111 v122_4 v122_0).trips) : BitVec 32 :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c1_i32_132 : BitVec 32 := 1#32
  let v212 : BitVec 32 := Scalar.addi v192 c1_i32_132
  let c32_i32_133 : BitVec 32 := 32#32
  let v213 : BitVec 32 := Scalar.muli v212 c32_i32_133
  let v214 : BitVec 32 := Scalar.addi v161 v213
  let c4064_i32_134 : BitVec 32 := 4064#32
  let v215 : BitVec 32 := Scalar.minsi v214 c4064_i32_134
  v215
def k0_cond43 (v105 : BitVec 32) (v111 : BitVec 32) (v122_4 : BitVec 32) (v122_0 : BitVec 32) (k0_t26 : Fin (k0_t26_loop v105 v111 v122_4 v122_0).trips) : BitVec 1 :=
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let v162 : BitVec 1 := Scalar.cmpi .sgt v137 v125
  let c_m16_i32_94 : BitVec 32 := 4294967280#32
  let v161 : BitVec 32 := Scalar.andi v125 c_m16_i32_94
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c1_i32_124 : BitVec 32 := 1#32
  let v204 : BitVec 32 := Scalar.addi v192 c1_i32_124
  let v205 : BitVec 1 := Scalar.cmpi .slt v204 v166
  let v206 : BitVec 32 := Scalar.extui v205
  let c0_i32_125 : BitVec 32 := 0#32
  let v207 : BitVec 1 := Scalar.cmpi .ne v206 c0_i32_125
  v207

def k0_off738 (k0_t1 : Fin k0_t1_loop.trips) (v105 : BitVec 32) (v111 : BitVec 32) (v122_4 : BitVec 32) (v122_0 : BitVec 32) (k0_t26 : Fin (k0_t26_loop v105 v111 v122_4 v122_0).trips) : Fin 3 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c1_i32_132 : BitVec 32 := 1#32
  let v212 : BitVec 32 := Scalar.addi v192 c1_i32_132
  let c32_i32_133 : BitVec 32 := 32#32
  let v213 : BitVec 32 := Scalar.muli v212 c32_i32_133
  let v214 : BitVec 32 := Scalar.addi v161 v213
  let c4064_i32_134 : BitVec 32 := 4064#32
  let v215 : BitVec 32 := Scalar.minsi v214 c4064_i32_134
  let v216 : BitVec 32 := v215
  let c0_i32_135 : BitVec 32 := 0#32
  ![v100.toNat, v216.toNat, 0]

def k0_chk16 (k0_t1 : Fin k0_t1_loop.trips) (v105 : BitVec 32) (v111 : BitVec 32) (v122_4 : BitVec 32) (v122_0 : BitVec 32) : Prop :=
  (∀ (k0_h26 : k0_cond26 v105 v111 v122_4 v122_0 = 1#1), 16 ∣ (k0_mult13 v105 v111 v122_0).toNat) ∧
  (∀ (k0_h26 : k0_cond26 v105 v111 v122_4 v122_0 = 1#1), ∀ a, (k0_off430 k0_t1 v105 v111 v122_0) a + S1x32x768.size a ≤ S16x4096x768.size a) ∧
  ((k0_t19_loop v105 v111 v122_4 v122_0).OK) ∧
  (∀ k0_t19 : Fin (k0_t19_loop v105 v111 v122_4 v122_0).trips, ∀ (k0_h27 : k0_cond27 v105 v111 v122_4 v122_0 k0_t19 = 1#1), 16 ∣ (k0_mult14 v105 v111 v122_4 v122_0 k0_t19).toNat) ∧
  (∀ k0_t19 : Fin (k0_t19_loop v105 v111 v122_4 v122_0).trips, ∀ (k0_h27 : k0_cond27 v105 v111 v122_4 v122_0 k0_t19 = 1#1), ∀ a, (k0_off431 k0_t1 v105 v111 v122_4 v122_0 k0_t19) a + S1x32x768.size a ≤ S16x4096x768.size a) ∧
  (∀ k0_t19 : Fin (k0_t19_loop v105 v111 v122_4 v122_0).trips, ∀ (k0_h27 : k0_cond27 v105 v111 v122_4 v122_0 k0_t19 = 1#1), ∀ (k0_h28 : k0_cond28 v105 v111 v122_4 v122_0 k0_t19 = 1#1), 16 ∣ (k0_mult15 v105 v111 v122_4 v122_0 k0_t19).toNat) ∧
  (∀ k0_t19 : Fin (k0_t19_loop v105 v111 v122_4 v122_0).trips, ∀ (k0_h27 : k0_cond27 v105 v111 v122_4 v122_0 k0_t19 = 1#1), ∀ (k0_h28 : k0_cond28 v105 v111 v122_4 v122_0 k0_t19 = 1#1), ∀ a, (k0_off432 k0_t1 v105 v111 v122_4 v122_0 k0_t19) a + S1x32x768.size a ≤ S16x4096x768.size a) ∧
  (∀ k0_t19 : Fin (k0_t19_loop v105 v111 v122_4 v122_0).trips, ∀ (k0_h32 : k0_cond32 v105 v111 v122_4 v122_0 k0_t19 = 1#1), 16 ∣ (k0_mult16 v105 v111 v122_4 v122_0 k0_t19).toNat) ∧
  (∀ k0_t19 : Fin (k0_t19_loop v105 v111 v122_4 v122_0).trips, ∀ (k0_h32 : k0_cond32 v105 v111 v122_4 v122_0 k0_t19 = 1#1), ∀ a, (k0_off533 k0_t1 v105 v111 v122_4 v122_0 k0_t19) a + S1x32x768.size a ≤ S16x4096x768.size a) ∧
  (∀ k0_t19 : Fin (k0_t19_loop v105 v111 v122_4 v122_0).trips, ∀ (k0_h32 : k0_cond32 v105 v111 v122_4 v122_0 k0_t19 = 1#1), ∀ (k0_h33 : k0_cond33 v105 v111 v122_4 v122_0 k0_t19 = 1#1), 16 ∣ (k0_mult17 v105 v111 v122_4 v122_0 k0_t19).toNat) ∧
  (∀ k0_t19 : Fin (k0_t19_loop v105 v111 v122_4 v122_0).trips, ∀ (k0_h32 : k0_cond32 v105 v111 v122_4 v122_0 k0_t19 = 1#1), ∀ (k0_h33 : k0_cond33 v105 v111 v122_4 v122_0 k0_t19 = 1#1), ∀ a, (k0_off534 k0_t1 v105 v111 v122_4 v122_0 k0_t19) a + S1x32x768.size a ≤ S16x4096x768.size a) ∧
  ((k0_t26_loop v105 v111 v122_4 v122_0).OK) ∧
  (∀ k0_t26 : Fin (k0_t26_loop v105 v111 v122_4 v122_0).trips, ∀ (k0_h37 : k0_cond37 v105 v111 v122_4 v122_0 k0_t26 = 1#1), 16 ∣ (k0_mult18 v105 v111 v122_4 v122_0 k0_t26).toNat) ∧
  (∀ k0_t26 : Fin (k0_t26_loop v105 v111 v122_4 v122_0).trips, ∀ (k0_h37 : k0_cond37 v105 v111 v122_4 v122_0 k0_t26 = 1#1), ∀ a, (k0_off635 k0_t1 v105 v111 v122_4 v122_0 k0_t26) a + S1x32x768.size a ≤ S16x4096x768.size a) ∧
  (∀ k0_t26 : Fin (k0_t26_loop v105 v111 v122_4 v122_0).trips, ∀ (k0_h37 : k0_cond37 v105 v111 v122_4 v122_0 k0_t26 = 1#1), ∀ (k0_h38 : k0_cond38 v105 v111 v122_4 v122_0 k0_t26 = 1#1), 16 ∣ (k0_mult19 v105 v111 v122_4 v122_0 k0_t26).toNat) ∧
  (∀ k0_t26 : Fin (k0_t26_loop v105 v111 v122_4 v122_0).trips, ∀ (k0_h37 : k0_cond37 v105 v111 v122_4 v122_0 k0_t26 = 1#1), ∀ (k0_h38 : k0_cond38 v105 v111 v122_4 v122_0 k0_t26 = 1#1), ∀ a, (k0_off636 k0_t1 v105 v111 v122_4 v122_0 k0_t26) a + S1x32x768.size a ≤ S16x4096x768.size a) ∧
  (∀ k0_t26 : Fin (k0_t26_loop v105 v111 v122_4 v122_0).trips, ∀ (k0_h42 : k0_cond42 v105 v111 v122_4 v122_0 k0_t26 = 1#1), 16 ∣ (k0_mult20 v105 v111 v122_4 v122_0 k0_t26).toNat) ∧
  (∀ k0_t26 : Fin (k0_t26_loop v105 v111 v122_4 v122_0).trips, ∀ (k0_h42 : k0_cond42 v105 v111 v122_4 v122_0 k0_t26 = 1#1), ∀ a, (k0_off737 k0_t1 v105 v111 v122_4 v122_0 k0_t26) a + S1x32x768.size a ≤ S16x4096x768.size a) ∧
  (∀ k0_t26 : Fin (k0_t26_loop v105 v111 v122_4 v122_0).trips, ∀ (k0_h42 : k0_cond42 v105 v111 v122_4 v122_0 k0_t26 = 1#1), ∀ (k0_h43 : k0_cond43 v105 v111 v122_4 v122_0 k0_t26 = 1#1), 16 ∣ (k0_mult21 v105 v111 v122_4 v122_0 k0_t26).toNat) ∧
  (∀ k0_t26 : Fin (k0_t26_loop v105 v111 v122_4 v122_0).trips, ∀ (k0_h42 : k0_cond42 v105 v111 v122_4 v122_0 k0_t26 = 1#1), ∀ (k0_h43 : k0_cond43 v105 v111 v122_4 v122_0 k0_t26 = 1#1), ∀ a, (k0_off738 k0_t1 v105 v111 v122_4 v122_0 k0_t26) a + S1x32x768.size a ≤ S16x4096x768.size a)
theorem k0_mult13_dvd : ∀ (k0_t1 : Fin k0_t1_loop.trips) (v105 : BitVec 32) (v111 : BitVec 32) (v122_4 : BitVec 32) (v122_0 : BitVec 32) (k0_hw16 : k0_chk16 k0_t1 v105 v111 v122_4 v122_0), ∀ (k0_h26 : k0_cond26 v105 v111 v122_4 v122_0 = 1#1), 16 ∣ (k0_mult13 v105 v111 v122_0).toNat := fun k0_t1 v105 v111 v122_4 v122_0 k0_hw16 k0_h26 => k0_hw16.1 k0_h26
theorem k0_off430_inb : ∀ (k0_t1 : Fin k0_t1_loop.trips) (v105 : BitVec 32) (v111 : BitVec 32) (v122_4 : BitVec 32) (v122_0 : BitVec 32) (k0_hw16 : k0_chk16 k0_t1 v105 v111 v122_4 v122_0), ∀ (k0_h26 : k0_cond26 v105 v111 v122_4 v122_0 = 1#1), ∀ a, (k0_off430 k0_t1 v105 v111 v122_0) a + S1x32x768.size a ≤ S16x4096x768.size a := fun k0_t1 v105 v111 v122_4 v122_0 k0_hw16 k0_h26 => k0_hw16.2.1 k0_h26
theorem k0_t19_ok : ∀ (k0_t1 : Fin k0_t1_loop.trips) (v105 : BitVec 32) (v111 : BitVec 32) (v122_4 : BitVec 32) (v122_0 : BitVec 32) (k0_hw16 : k0_chk16 k0_t1 v105 v111 v122_4 v122_0), (k0_t19_loop v105 v111 v122_4 v122_0).OK := fun k0_t1 v105 v111 v122_4 v122_0 k0_hw16 => k0_hw16.2.2.1
theorem k0_mult14_dvd : ∀ (k0_t1 : Fin k0_t1_loop.trips) (v105 : BitVec 32) (v111 : BitVec 32) (v122_4 : BitVec 32) (v122_0 : BitVec 32) (k0_hw16 : k0_chk16 k0_t1 v105 v111 v122_4 v122_0) (k0_t19 : Fin (k0_t19_loop v105 v111 v122_4 v122_0).trips), ∀ (k0_h27 : k0_cond27 v105 v111 v122_4 v122_0 k0_t19 = 1#1), 16 ∣ (k0_mult14 v105 v111 v122_4 v122_0 k0_t19).toNat := fun k0_t1 v105 v111 v122_4 v122_0 k0_hw16 k0_t19 k0_h27 => k0_hw16.2.2.2.1 k0_t19 k0_h27
theorem k0_off431_inb : ∀ (k0_t1 : Fin k0_t1_loop.trips) (v105 : BitVec 32) (v111 : BitVec 32) (v122_4 : BitVec 32) (v122_0 : BitVec 32) (k0_hw16 : k0_chk16 k0_t1 v105 v111 v122_4 v122_0) (k0_t19 : Fin (k0_t19_loop v105 v111 v122_4 v122_0).trips), ∀ (k0_h27 : k0_cond27 v105 v111 v122_4 v122_0 k0_t19 = 1#1), ∀ a, (k0_off431 k0_t1 v105 v111 v122_4 v122_0 k0_t19) a + S1x32x768.size a ≤ S16x4096x768.size a := fun k0_t1 v105 v111 v122_4 v122_0 k0_hw16 k0_t19 k0_h27 => k0_hw16.2.2.2.2.1 k0_t19 k0_h27
theorem k0_mult15_dvd : ∀ (k0_t1 : Fin k0_t1_loop.trips) (v105 : BitVec 32) (v111 : BitVec 32) (v122_4 : BitVec 32) (v122_0 : BitVec 32) (k0_hw16 : k0_chk16 k0_t1 v105 v111 v122_4 v122_0) (k0_t19 : Fin (k0_t19_loop v105 v111 v122_4 v122_0).trips), ∀ (k0_h27 : k0_cond27 v105 v111 v122_4 v122_0 k0_t19 = 1#1), ∀ (k0_h28 : k0_cond28 v105 v111 v122_4 v122_0 k0_t19 = 1#1), 16 ∣ (k0_mult15 v105 v111 v122_4 v122_0 k0_t19).toNat := fun k0_t1 v105 v111 v122_4 v122_0 k0_hw16 k0_t19 k0_h27 k0_h28 => k0_hw16.2.2.2.2.2.1 k0_t19 k0_h27 k0_h28
theorem k0_off432_inb : ∀ (k0_t1 : Fin k0_t1_loop.trips) (v105 : BitVec 32) (v111 : BitVec 32) (v122_4 : BitVec 32) (v122_0 : BitVec 32) (k0_hw16 : k0_chk16 k0_t1 v105 v111 v122_4 v122_0) (k0_t19 : Fin (k0_t19_loop v105 v111 v122_4 v122_0).trips), ∀ (k0_h27 : k0_cond27 v105 v111 v122_4 v122_0 k0_t19 = 1#1), ∀ (k0_h28 : k0_cond28 v105 v111 v122_4 v122_0 k0_t19 = 1#1), ∀ a, (k0_off432 k0_t1 v105 v111 v122_4 v122_0 k0_t19) a + S1x32x768.size a ≤ S16x4096x768.size a := fun k0_t1 v105 v111 v122_4 v122_0 k0_hw16 k0_t19 k0_h27 k0_h28 => k0_hw16.2.2.2.2.2.2.1 k0_t19 k0_h27 k0_h28
theorem k0_mult16_dvd : ∀ (k0_t1 : Fin k0_t1_loop.trips) (v105 : BitVec 32) (v111 : BitVec 32) (v122_4 : BitVec 32) (v122_0 : BitVec 32) (k0_hw16 : k0_chk16 k0_t1 v105 v111 v122_4 v122_0) (k0_t19 : Fin (k0_t19_loop v105 v111 v122_4 v122_0).trips), ∀ (k0_h32 : k0_cond32 v105 v111 v122_4 v122_0 k0_t19 = 1#1), 16 ∣ (k0_mult16 v105 v111 v122_4 v122_0 k0_t19).toNat := fun k0_t1 v105 v111 v122_4 v122_0 k0_hw16 k0_t19 k0_h32 => k0_hw16.2.2.2.2.2.2.2.1 k0_t19 k0_h32
theorem k0_off533_inb : ∀ (k0_t1 : Fin k0_t1_loop.trips) (v105 : BitVec 32) (v111 : BitVec 32) (v122_4 : BitVec 32) (v122_0 : BitVec 32) (k0_hw16 : k0_chk16 k0_t1 v105 v111 v122_4 v122_0) (k0_t19 : Fin (k0_t19_loop v105 v111 v122_4 v122_0).trips), ∀ (k0_h32 : k0_cond32 v105 v111 v122_4 v122_0 k0_t19 = 1#1), ∀ a, (k0_off533 k0_t1 v105 v111 v122_4 v122_0 k0_t19) a + S1x32x768.size a ≤ S16x4096x768.size a := fun k0_t1 v105 v111 v122_4 v122_0 k0_hw16 k0_t19 k0_h32 => k0_hw16.2.2.2.2.2.2.2.2.1 k0_t19 k0_h32
theorem k0_mult17_dvd : ∀ (k0_t1 : Fin k0_t1_loop.trips) (v105 : BitVec 32) (v111 : BitVec 32) (v122_4 : BitVec 32) (v122_0 : BitVec 32) (k0_hw16 : k0_chk16 k0_t1 v105 v111 v122_4 v122_0) (k0_t19 : Fin (k0_t19_loop v105 v111 v122_4 v122_0).trips), ∀ (k0_h32 : k0_cond32 v105 v111 v122_4 v122_0 k0_t19 = 1#1), ∀ (k0_h33 : k0_cond33 v105 v111 v122_4 v122_0 k0_t19 = 1#1), 16 ∣ (k0_mult17 v105 v111 v122_4 v122_0 k0_t19).toNat := fun k0_t1 v105 v111 v122_4 v122_0 k0_hw16 k0_t19 k0_h32 k0_h33 => k0_hw16.2.2.2.2.2.2.2.2.2.1 k0_t19 k0_h32 k0_h33
theorem k0_off534_inb : ∀ (k0_t1 : Fin k0_t1_loop.trips) (v105 : BitVec 32) (v111 : BitVec 32) (v122_4 : BitVec 32) (v122_0 : BitVec 32) (k0_hw16 : k0_chk16 k0_t1 v105 v111 v122_4 v122_0) (k0_t19 : Fin (k0_t19_loop v105 v111 v122_4 v122_0).trips), ∀ (k0_h32 : k0_cond32 v105 v111 v122_4 v122_0 k0_t19 = 1#1), ∀ (k0_h33 : k0_cond33 v105 v111 v122_4 v122_0 k0_t19 = 1#1), ∀ a, (k0_off534 k0_t1 v105 v111 v122_4 v122_0 k0_t19) a + S1x32x768.size a ≤ S16x4096x768.size a := fun k0_t1 v105 v111 v122_4 v122_0 k0_hw16 k0_t19 k0_h32 k0_h33 => k0_hw16.2.2.2.2.2.2.2.2.2.2.1 k0_t19 k0_h32 k0_h33
theorem k0_t26_ok : ∀ (k0_t1 : Fin k0_t1_loop.trips) (v105 : BitVec 32) (v111 : BitVec 32) (v122_4 : BitVec 32) (v122_0 : BitVec 32) (k0_hw16 : k0_chk16 k0_t1 v105 v111 v122_4 v122_0), (k0_t26_loop v105 v111 v122_4 v122_0).OK := fun k0_t1 v105 v111 v122_4 v122_0 k0_hw16 => k0_hw16.2.2.2.2.2.2.2.2.2.2.2.1
theorem k0_mult18_dvd : ∀ (k0_t1 : Fin k0_t1_loop.trips) (v105 : BitVec 32) (v111 : BitVec 32) (v122_4 : BitVec 32) (v122_0 : BitVec 32) (k0_hw16 : k0_chk16 k0_t1 v105 v111 v122_4 v122_0) (k0_t26 : Fin (k0_t26_loop v105 v111 v122_4 v122_0).trips), ∀ (k0_h37 : k0_cond37 v105 v111 v122_4 v122_0 k0_t26 = 1#1), 16 ∣ (k0_mult18 v105 v111 v122_4 v122_0 k0_t26).toNat := fun k0_t1 v105 v111 v122_4 v122_0 k0_hw16 k0_t26 k0_h37 => k0_hw16.2.2.2.2.2.2.2.2.2.2.2.2.1 k0_t26 k0_h37
theorem k0_off635_inb : ∀ (k0_t1 : Fin k0_t1_loop.trips) (v105 : BitVec 32) (v111 : BitVec 32) (v122_4 : BitVec 32) (v122_0 : BitVec 32) (k0_hw16 : k0_chk16 k0_t1 v105 v111 v122_4 v122_0) (k0_t26 : Fin (k0_t26_loop v105 v111 v122_4 v122_0).trips), ∀ (k0_h37 : k0_cond37 v105 v111 v122_4 v122_0 k0_t26 = 1#1), ∀ a, (k0_off635 k0_t1 v105 v111 v122_4 v122_0 k0_t26) a + S1x32x768.size a ≤ S16x4096x768.size a := fun k0_t1 v105 v111 v122_4 v122_0 k0_hw16 k0_t26 k0_h37 => k0_hw16.2.2.2.2.2.2.2.2.2.2.2.2.2.1 k0_t26 k0_h37
theorem k0_mult19_dvd : ∀ (k0_t1 : Fin k0_t1_loop.trips) (v105 : BitVec 32) (v111 : BitVec 32) (v122_4 : BitVec 32) (v122_0 : BitVec 32) (k0_hw16 : k0_chk16 k0_t1 v105 v111 v122_4 v122_0) (k0_t26 : Fin (k0_t26_loop v105 v111 v122_4 v122_0).trips), ∀ (k0_h37 : k0_cond37 v105 v111 v122_4 v122_0 k0_t26 = 1#1), ∀ (k0_h38 : k0_cond38 v105 v111 v122_4 v122_0 k0_t26 = 1#1), 16 ∣ (k0_mult19 v105 v111 v122_4 v122_0 k0_t26).toNat := fun k0_t1 v105 v111 v122_4 v122_0 k0_hw16 k0_t26 k0_h37 k0_h38 => k0_hw16.2.2.2.2.2.2.2.2.2.2.2.2.2.2.1 k0_t26 k0_h37 k0_h38
theorem k0_off636_inb : ∀ (k0_t1 : Fin k0_t1_loop.trips) (v105 : BitVec 32) (v111 : BitVec 32) (v122_4 : BitVec 32) (v122_0 : BitVec 32) (k0_hw16 : k0_chk16 k0_t1 v105 v111 v122_4 v122_0) (k0_t26 : Fin (k0_t26_loop v105 v111 v122_4 v122_0).trips), ∀ (k0_h37 : k0_cond37 v105 v111 v122_4 v122_0 k0_t26 = 1#1), ∀ (k0_h38 : k0_cond38 v105 v111 v122_4 v122_0 k0_t26 = 1#1), ∀ a, (k0_off636 k0_t1 v105 v111 v122_4 v122_0 k0_t26) a + S1x32x768.size a ≤ S16x4096x768.size a := fun k0_t1 v105 v111 v122_4 v122_0 k0_hw16 k0_t26 k0_h37 k0_h38 => k0_hw16.2.2.2.2.2.2.2.2.2.2.2.2.2.2.2.1 k0_t26 k0_h37 k0_h38
theorem k0_mult20_dvd : ∀ (k0_t1 : Fin k0_t1_loop.trips) (v105 : BitVec 32) (v111 : BitVec 32) (v122_4 : BitVec 32) (v122_0 : BitVec 32) (k0_hw16 : k0_chk16 k0_t1 v105 v111 v122_4 v122_0) (k0_t26 : Fin (k0_t26_loop v105 v111 v122_4 v122_0).trips), ∀ (k0_h42 : k0_cond42 v105 v111 v122_4 v122_0 k0_t26 = 1#1), 16 ∣ (k0_mult20 v105 v111 v122_4 v122_0 k0_t26).toNat := fun k0_t1 v105 v111 v122_4 v122_0 k0_hw16 k0_t26 k0_h42 => k0_hw16.2.2.2.2.2.2.2.2.2.2.2.2.2.2.2.2.1 k0_t26 k0_h42
theorem k0_off737_inb : ∀ (k0_t1 : Fin k0_t1_loop.trips) (v105 : BitVec 32) (v111 : BitVec 32) (v122_4 : BitVec 32) (v122_0 : BitVec 32) (k0_hw16 : k0_chk16 k0_t1 v105 v111 v122_4 v122_0) (k0_t26 : Fin (k0_t26_loop v105 v111 v122_4 v122_0).trips), ∀ (k0_h42 : k0_cond42 v105 v111 v122_4 v122_0 k0_t26 = 1#1), ∀ a, (k0_off737 k0_t1 v105 v111 v122_4 v122_0 k0_t26) a + S1x32x768.size a ≤ S16x4096x768.size a := fun k0_t1 v105 v111 v122_4 v122_0 k0_hw16 k0_t26 k0_h42 => k0_hw16.2.2.2.2.2.2.2.2.2.2.2.2.2.2.2.2.2.1 k0_t26 k0_h42
theorem k0_mult21_dvd : ∀ (k0_t1 : Fin k0_t1_loop.trips) (v105 : BitVec 32) (v111 : BitVec 32) (v122_4 : BitVec 32) (v122_0 : BitVec 32) (k0_hw16 : k0_chk16 k0_t1 v105 v111 v122_4 v122_0) (k0_t26 : Fin (k0_t26_loop v105 v111 v122_4 v122_0).trips), ∀ (k0_h42 : k0_cond42 v105 v111 v122_4 v122_0 k0_t26 = 1#1), ∀ (k0_h43 : k0_cond43 v105 v111 v122_4 v122_0 k0_t26 = 1#1), 16 ∣ (k0_mult21 v105 v111 v122_4 v122_0 k0_t26).toNat := fun k0_t1 v105 v111 v122_4 v122_0 k0_hw16 k0_t26 k0_h42 k0_h43 => k0_hw16.2.2.2.2.2.2.2.2.2.2.2.2.2.2.2.2.2.2.1 k0_t26 k0_h42 k0_h43
theorem k0_off738_inb : ∀ (k0_t1 : Fin k0_t1_loop.trips) (v105 : BitVec 32) (v111 : BitVec 32) (v122_4 : BitVec 32) (v122_0 : BitVec 32) (k0_hw16 : k0_chk16 k0_t1 v105 v111 v122_4 v122_0) (k0_t26 : Fin (k0_t26_loop v105 v111 v122_4 v122_0).trips), ∀ (k0_h42 : k0_cond42 v105 v111 v122_4 v122_0 k0_t26 = 1#1), ∀ (k0_h43 : k0_cond43 v105 v111 v122_4 v122_0 k0_t26 = 1#1), ∀ a, (k0_off738 k0_t1 v105 v111 v122_4 v122_0 k0_t26) a + S1x32x768.size a ≤ S16x4096x768.size a := fun k0_t1 v105 v111 v122_4 v122_0 k0_hw16 k0_t26 k0_h42 k0_h43 => k0_hw16.2.2.2.2.2.2.2.2.2.2.2.2.2.2.2.2.2.2.2 k0_t26 k0_h42 k0_h43

@[reducible] def k0_t30_loop : Scf.Loop 32 :=
  let c0_i32_128 : BitVec 32 := 0#32
  let c4_i32_129 : BitVec 32 := 4#32
  let v211 : BitVec 32 := Scalar.addi c0_i32_128 c4_i32_129
  let c1_i32_130 : BitVec 32 := 1#32
  ⟨c0_i32_128, v211, c1_i32_130⟩
def k0_off739 (k0_t30 : Fin k0_t30_loop.trips) : Fin 1 → Nat :=
  let c0_i32_128 : BitVec 32 := 0#32
  let c1_i32_130 : BitVec 32 := 1#32
  let arg22 : BitVec 32 := Scf.iv c0_i32_128 c1_i32_130 k0_t30
  let v212 : Index := Scalar.indexCast arg22
  ![v212.toNat]
def k0_off740 (k0_t30 : Fin k0_t30_loop.trips) : Fin 1 → Nat :=
  let c0_i32_128 : BitVec 32 := 0#32
  let c1_i32_130 : BitVec 32 := 1#32
  let arg22 : BitVec 32 := Scf.iv c0_i32_128 c1_i32_130 k0_t30
  let c1_i32_132 : BitVec 32 := 1#32
  let v217 : BitVec 32 := Scalar.addi arg22 c1_i32_132
  let v218 : Index := Scalar.indexCast v217
  ![v218.toNat]
@[reducible] def k0_t31_loop (v105 : BitVec 32) (v111 : BitVec 32) (v122_4 : BitVec 32) (v122_0 : BitVec 32) (k0_t26 : Fin (k0_t26_loop v105 v111 v122_4 v122_0).trips) (v216 : BitVec 32) (v222 : BitVec 32) : Scf.Loop 32 :=
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_184 : BitVec 32 := 1#32
  ⟨c0_i32_182, v283, c1_i32_184⟩
def k0_cond44 (v105 : BitVec 32) (v111 : BitVec 32) (v122_4 : BitVec 32) (v122_0 : BitVec 32) (k0_t26 : Fin (k0_t26_loop v105 v111 v122_4 v122_0).trips) (v216 : BitVec 32) (v222 : BitVec 32) : BitVec 1 :=
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v227 : BitVec 1 := Scalar.cmpi .sgt v226 v224
  let v228 : BitVec 32 := Scalar.extui v227
  let c0_i32_133 : BitVec 32 := 0#32
  let v229 : BitVec 1 := Scalar.cmpi .ne v228 c0_i32_133
  v229

def k0_off741 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v293 : BitVec 32 := Scalar.addi v224 arg23
  let v294 : Index := Scalar.indexCast v293
  let c0_189 : Index := 0#32
  ![v294.toNat, 0]
def k0_off742 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v298 : BitVec 32 := Scalar.addi v224 arg23
  let v299 : Index := Scalar.indexCast v298
  let c16 : Index := 16#32
  ![v299.toNat, 16]
def k0_off743 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v303 : BitVec 32 := Scalar.addi v224 arg23
  let v304 : Index := Scalar.indexCast v303
  let c32 : Index := 32#32
  ![v304.toNat, 32]
def k0_off744 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v308 : BitVec 32 := Scalar.addi v224 arg23
  let v309 : Index := Scalar.indexCast v308
  let c48 : Index := 48#32
  ![v309.toNat, 48]
def k0_off745 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v313 : BitVec 32 := Scalar.addi v224 arg23
  let v314 : Index := Scalar.indexCast v313
  let c64 : Index := 64#32
  ![v314.toNat, 64]
def k0_off746 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v318 : BitVec 32 := Scalar.addi v224 arg23
  let v319 : Index := Scalar.indexCast v318
  let c80 : Index := 80#32
  ![v319.toNat, 80]
def k0_off747 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v323 : BitVec 32 := Scalar.addi v224 arg23
  let v324 : Index := Scalar.indexCast v323
  let c96 : Index := 96#32
  ![v324.toNat, 96]
def k0_off748 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v328 : BitVec 32 := Scalar.addi v224 arg23
  let v329 : Index := Scalar.indexCast v328
  let c112 : Index := 112#32
  ![v329.toNat, 112]
def k0_off749 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v333 : BitVec 32 := Scalar.addi v224 arg23
  let v334 : Index := Scalar.indexCast v333
  let c128 : Index := 128#32
  ![v334.toNat, 128]
def k0_off750 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v338 : BitVec 32 := Scalar.addi v224 arg23
  let v339 : Index := Scalar.indexCast v338
  let c144 : Index := 144#32
  ![v339.toNat, 144]
def k0_off751 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v343 : BitVec 32 := Scalar.addi v224 arg23
  let v344 : Index := Scalar.indexCast v343
  let c160 : Index := 160#32
  ![v344.toNat, 160]
def k0_off752 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v348 : BitVec 32 := Scalar.addi v224 arg23
  let v349 : Index := Scalar.indexCast v348
  let c176 : Index := 176#32
  ![v349.toNat, 176]
def k0_off753 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v353 : BitVec 32 := Scalar.addi v224 arg23
  let v354 : Index := Scalar.indexCast v353
  let c192 : Index := 192#32
  ![v354.toNat, 192]
def k0_off754 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v358 : BitVec 32 := Scalar.addi v224 arg23
  let v359 : Index := Scalar.indexCast v358
  let c208 : Index := 208#32
  ![v359.toNat, 208]
def k0_off755 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v363 : BitVec 32 := Scalar.addi v224 arg23
  let v364 : Index := Scalar.indexCast v363
  let c224 : Index := 224#32
  ![v364.toNat, 224]
def k0_off756 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v368 : BitVec 32 := Scalar.addi v224 arg23
  let v369 : Index := Scalar.indexCast v368
  let c240 : Index := 240#32
  ![v369.toNat, 240]
def k0_off757 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v373 : BitVec 32 := Scalar.addi v224 arg23
  let v374 : Index := Scalar.indexCast v373
  let c256 : Index := 256#32
  ![v374.toNat, 256]
def k0_off758 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v378 : BitVec 32 := Scalar.addi v224 arg23
  let v379 : Index := Scalar.indexCast v378
  let c272 : Index := 272#32
  ![v379.toNat, 272]
def k0_off759 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v383 : BitVec 32 := Scalar.addi v224 arg23
  let v384 : Index := Scalar.indexCast v383
  let c288 : Index := 288#32
  ![v384.toNat, 288]
def k0_off760 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v388 : BitVec 32 := Scalar.addi v224 arg23
  let v389 : Index := Scalar.indexCast v388
  let c304 : Index := 304#32
  ![v389.toNat, 304]
def k0_off761 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v393 : BitVec 32 := Scalar.addi v224 arg23
  let v394 : Index := Scalar.indexCast v393
  let c320 : Index := 320#32
  ![v394.toNat, 320]
def k0_off762 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v398 : BitVec 32 := Scalar.addi v224 arg23
  let v399 : Index := Scalar.indexCast v398
  let c336 : Index := 336#32
  ![v399.toNat, 336]
def k0_off763 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v403 : BitVec 32 := Scalar.addi v224 arg23
  let v404 : Index := Scalar.indexCast v403
  let c352 : Index := 352#32
  ![v404.toNat, 352]
def k0_off764 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v408 : BitVec 32 := Scalar.addi v224 arg23
  let v409 : Index := Scalar.indexCast v408
  let c368 : Index := 368#32
  ![v409.toNat, 368]
def k0_off765 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v413 : BitVec 32 := Scalar.addi v224 arg23
  let v414 : Index := Scalar.indexCast v413
  let c384 : Index := 384#32
  ![v414.toNat, 384]
def k0_off766 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v418 : BitVec 32 := Scalar.addi v224 arg23
  let v419 : Index := Scalar.indexCast v418
  let c400 : Index := 400#32
  ![v419.toNat, 400]
def k0_off767 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v423 : BitVec 32 := Scalar.addi v224 arg23
  let v424 : Index := Scalar.indexCast v423
  let c416 : Index := 416#32
  ![v424.toNat, 416]
def k0_off768 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v428 : BitVec 32 := Scalar.addi v224 arg23
  let v429 : Index := Scalar.indexCast v428
  let c432 : Index := 432#32
  ![v429.toNat, 432]
def k0_off769 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v433 : BitVec 32 := Scalar.addi v224 arg23
  let v434 : Index := Scalar.indexCast v433
  let c448 : Index := 448#32
  ![v434.toNat, 448]
def k0_off770 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v438 : BitVec 32 := Scalar.addi v224 arg23
  let v439 : Index := Scalar.indexCast v438
  let c464 : Index := 464#32
  ![v439.toNat, 464]
def k0_off771 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v443 : BitVec 32 := Scalar.addi v224 arg23
  let v444 : Index := Scalar.indexCast v443
  let c480 : Index := 480#32
  ![v444.toNat, 480]
def k0_off772 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v448 : BitVec 32 := Scalar.addi v224 arg23
  let v449 : Index := Scalar.indexCast v448
  let c496 : Index := 496#32
  ![v449.toNat, 496]
def k0_off773 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v453 : BitVec 32 := Scalar.addi v224 arg23
  let v454 : Index := Scalar.indexCast v453
  let c512 : Index := 512#32
  ![v454.toNat, 512]
def k0_off774 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v458 : BitVec 32 := Scalar.addi v224 arg23
  let v459 : Index := Scalar.indexCast v458
  let c528 : Index := 528#32
  ![v459.toNat, 528]
def k0_off775 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v463 : BitVec 32 := Scalar.addi v224 arg23
  let v464 : Index := Scalar.indexCast v463
  let c544 : Index := 544#32
  ![v464.toNat, 544]
def k0_off776 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v468 : BitVec 32 := Scalar.addi v224 arg23
  let v469 : Index := Scalar.indexCast v468
  let c560 : Index := 560#32
  ![v469.toNat, 560]
def k0_off777 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v473 : BitVec 32 := Scalar.addi v224 arg23
  let v474 : Index := Scalar.indexCast v473
  let c576 : Index := 576#32
  ![v474.toNat, 576]
def k0_off778 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v478 : BitVec 32 := Scalar.addi v224 arg23
  let v479 : Index := Scalar.indexCast v478
  let c592 : Index := 592#32
  ![v479.toNat, 592]
def k0_off779 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v483 : BitVec 32 := Scalar.addi v224 arg23
  let v484 : Index := Scalar.indexCast v483
  let c608 : Index := 608#32
  ![v484.toNat, 608]
def k0_off780 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v488 : BitVec 32 := Scalar.addi v224 arg23
  let v489 : Index := Scalar.indexCast v488
  let c624 : Index := 624#32
  ![v489.toNat, 624]
def k0_off781 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v493 : BitVec 32 := Scalar.addi v224 arg23
  let v494 : Index := Scalar.indexCast v493
  let c640 : Index := 640#32
  ![v494.toNat, 640]
def k0_off782 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v498 : BitVec 32 := Scalar.addi v224 arg23
  let v499 : Index := Scalar.indexCast v498
  let c656 : Index := 656#32
  ![v499.toNat, 656]
def k0_off783 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v503 : BitVec 32 := Scalar.addi v224 arg23
  let v504 : Index := Scalar.indexCast v503
  let c672 : Index := 672#32
  ![v504.toNat, 672]
def k0_off784 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v508 : BitVec 32 := Scalar.addi v224 arg23
  let v509 : Index := Scalar.indexCast v508
  let c688 : Index := 688#32
  ![v509.toNat, 688]
def k0_off785 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v513 : BitVec 32 := Scalar.addi v224 arg23
  let v514 : Index := Scalar.indexCast v513
  let c704 : Index := 704#32
  ![v514.toNat, 704]
def k0_off786 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v518 : BitVec 32 := Scalar.addi v224 arg23
  let v519 : Index := Scalar.indexCast v518
  let c720 : Index := 720#32
  ![v519.toNat, 720]
def k0_off787 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v523 : BitVec 32 := Scalar.addi v224 arg23
  let v524 : Index := Scalar.indexCast v523
  let c736 : Index := 736#32
  ![v524.toNat, 736]
def k0_off788 (v105 : BitVec 32) (v111 : BitVec 32) (v122_4 : BitVec 32) (v122_0 : BitVec 32) (k0_t26 : Fin (k0_t26_loop v105 v111 v122_4 v122_0).trips) (v216 : BitVec 32) (v222 : BitVec 32) (k0_t31 : Fin (k0_t31_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c1_i32_184 : BitVec 32 := 1#32
  let arg23 : BitVec 32 := Scf.iv c0_i32_182 c1_i32_184 k0_t31
  let v528 : BitVec 32 := Scalar.addi v224 arg23
  let v529 : Index := Scalar.indexCast v528
  let c752 : Index := 752#32
  ![v529.toNat, 752]
@[reducible] def k0_t32_loop (v105 : BitVec 32) (v111 : BitVec 32) (v122_4 : BitVec 32) (v122_0 : BitVec 32) (k0_t26 : Fin (k0_t26_loop v105 v111 v122_4 v122_0).trips) (v216 : BitVec 32) (v222 : BitVec 32) : Scf.Loop 32 :=
  let c0_i32_182 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let c32_i32_126 : BitVec 32 := 32#32
  let v209 : BitVec 32 := Scalar.addi v197 c32_i32_126
  let v210 : BitVec 32 := Scalar.minsi v137 v209
  let v225 : BitVec 32 := Scalar.minsi v222 v210
  let c4064_i32 : BitVec 32 := 4064#32
  let v198 : BitVec 32 := Scalar.minsi v197 c4064_i32
  let v199 : BitVec 32 := v198
  let v226 : BitVec 32 := Scalar.subi v225 v199
  let v208 : BitVec 32 := Scalar.maxsi v125 v197
  let v223 : BitVec 32 := Scalar.maxsi v216 v208
  let v224 : BitVec 32 := Scalar.subi v223 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let v280 : BitVec 32 := Scalar.addi c0_i32_182 v279
  let c1_i32_185 : BitVec 32 := 1#32
  ⟨v283, v280, c1_i32_185⟩
def k0_off789 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v293 : BitVec 32 := Scalar.addi v224 arg23
  let v294 : Index := Scalar.indexCast v293
  let c0_189 : Index := 0#32
  ![v294.toNat, 0]
def k0_off790 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v298 : BitVec 32 := Scalar.addi v224 arg23
  let v299 : Index := Scalar.indexCast v298
  let c16 : Index := 16#32
  ![v299.toNat, 16]
def k0_off791 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v303 : BitVec 32 := Scalar.addi v224 arg23
  let v304 : Index := Scalar.indexCast v303
  let c32 : Index := 32#32
  ![v304.toNat, 32]
def k0_off792 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v308 : BitVec 32 := Scalar.addi v224 arg23
  let v309 : Index := Scalar.indexCast v308
  let c48 : Index := 48#32
  ![v309.toNat, 48]
def k0_off793 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v313 : BitVec 32 := Scalar.addi v224 arg23
  let v314 : Index := Scalar.indexCast v313
  let c64 : Index := 64#32
  ![v314.toNat, 64]
def k0_off794 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v318 : BitVec 32 := Scalar.addi v224 arg23
  let v319 : Index := Scalar.indexCast v318
  let c80 : Index := 80#32
  ![v319.toNat, 80]
def k0_off795 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v323 : BitVec 32 := Scalar.addi v224 arg23
  let v324 : Index := Scalar.indexCast v323
  let c96 : Index := 96#32
  ![v324.toNat, 96]
def k0_off796 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v328 : BitVec 32 := Scalar.addi v224 arg23
  let v329 : Index := Scalar.indexCast v328
  let c112 : Index := 112#32
  ![v329.toNat, 112]
def k0_off797 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v333 : BitVec 32 := Scalar.addi v224 arg23
  let v334 : Index := Scalar.indexCast v333
  let c128 : Index := 128#32
  ![v334.toNat, 128]
def k0_off798 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v338 : BitVec 32 := Scalar.addi v224 arg23
  let v339 : Index := Scalar.indexCast v338
  let c144 : Index := 144#32
  ![v339.toNat, 144]
def k0_off799 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v343 : BitVec 32 := Scalar.addi v224 arg23
  let v344 : Index := Scalar.indexCast v343
  let c160 : Index := 160#32
  ![v344.toNat, 160]
def k0_off800 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v348 : BitVec 32 := Scalar.addi v224 arg23
  let v349 : Index := Scalar.indexCast v348
  let c176 : Index := 176#32
  ![v349.toNat, 176]
def k0_off801 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v353 : BitVec 32 := Scalar.addi v224 arg23
  let v354 : Index := Scalar.indexCast v353
  let c192 : Index := 192#32
  ![v354.toNat, 192]
def k0_off802 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v358 : BitVec 32 := Scalar.addi v224 arg23
  let v359 : Index := Scalar.indexCast v358
  let c208 : Index := 208#32
  ![v359.toNat, 208]
def k0_off803 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v363 : BitVec 32 := Scalar.addi v224 arg23
  let v364 : Index := Scalar.indexCast v363
  let c224 : Index := 224#32
  ![v364.toNat, 224]
def k0_off804 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v368 : BitVec 32 := Scalar.addi v224 arg23
  let v369 : Index := Scalar.indexCast v368
  let c240 : Index := 240#32
  ![v369.toNat, 240]
def k0_off805 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v373 : BitVec 32 := Scalar.addi v224 arg23
  let v374 : Index := Scalar.indexCast v373
  let c256 : Index := 256#32
  ![v374.toNat, 256]
def k0_off806 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v378 : BitVec 32 := Scalar.addi v224 arg23
  let v379 : Index := Scalar.indexCast v378
  let c272 : Index := 272#32
  ![v379.toNat, 272]
def k0_off807 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v383 : BitVec 32 := Scalar.addi v224 arg23
  let v384 : Index := Scalar.indexCast v383
  let c288 : Index := 288#32
  ![v384.toNat, 288]
def k0_off808 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v388 : BitVec 32 := Scalar.addi v224 arg23
  let v389 : Index := Scalar.indexCast v388
  let c304 : Index := 304#32
  ![v389.toNat, 304]
def k0_off809 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v393 : BitVec 32 := Scalar.addi v224 arg23
  let v394 : Index := Scalar.indexCast v393
  let c320 : Index := 320#32
  ![v394.toNat, 320]
def k0_off810 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v398 : BitVec 32 := Scalar.addi v224 arg23
  let v399 : Index := Scalar.indexCast v398
  let c336 : Index := 336#32
  ![v399.toNat, 336]
def k0_off811 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v403 : BitVec 32 := Scalar.addi v224 arg23
  let v404 : Index := Scalar.indexCast v403
  let c352 : Index := 352#32
  ![v404.toNat, 352]
def k0_off812 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v408 : BitVec 32 := Scalar.addi v224 arg23
  let v409 : Index := Scalar.indexCast v408
  let c368 : Index := 368#32
  ![v409.toNat, 368]
def k0_off813 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v413 : BitVec 32 := Scalar.addi v224 arg23
  let v414 : Index := Scalar.indexCast v413
  let c384 : Index := 384#32
  ![v414.toNat, 384]
def k0_off814 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v418 : BitVec 32 := Scalar.addi v224 arg23
  let v419 : Index := Scalar.indexCast v418
  let c400 : Index := 400#32
  ![v419.toNat, 400]
def k0_off815 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v423 : BitVec 32 := Scalar.addi v224 arg23
  let v424 : Index := Scalar.indexCast v423
  let c416 : Index := 416#32
  ![v424.toNat, 416]
def k0_off816 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v428 : BitVec 32 := Scalar.addi v224 arg23
  let v429 : Index := Scalar.indexCast v428
  let c432 : Index := 432#32
  ![v429.toNat, 432]
def k0_off817 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v433 : BitVec 32 := Scalar.addi v224 arg23
  let v434 : Index := Scalar.indexCast v433
  let c448 : Index := 448#32
  ![v434.toNat, 448]
def k0_off818 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v438 : BitVec 32 := Scalar.addi v224 arg23
  let v439 : Index := Scalar.indexCast v438
  let c464 : Index := 464#32
  ![v439.toNat, 464]
def k0_off819 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v443 : BitVec 32 := Scalar.addi v224 arg23
  let v444 : Index := Scalar.indexCast v443
  let c480 : Index := 480#32
  ![v444.toNat, 480]
def k0_off820 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v448 : BitVec 32 := Scalar.addi v224 arg23
  let v449 : Index := Scalar.indexCast v448
  let c496 : Index := 496#32
  ![v449.toNat, 496]
def k0_off821 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v453 : BitVec 32 := Scalar.addi v224 arg23
  let v454 : Index := Scalar.indexCast v453
  let c512 : Index := 512#32
  ![v454.toNat, 512]
def k0_off822 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v458 : BitVec 32 := Scalar.addi v224 arg23
  let v459 : Index := Scalar.indexCast v458
  let c528 : Index := 528#32
  ![v459.toNat, 528]
def k0_off823 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v463 : BitVec 32 := Scalar.addi v224 arg23
  let v464 : Index := Scalar.indexCast v463
  let c544 : Index := 544#32
  ![v464.toNat, 544]
def k0_off824 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v468 : BitVec 32 := Scalar.addi v224 arg23
  let v469 : Index := Scalar.indexCast v468
  let c560 : Index := 560#32
  ![v469.toNat, 560]
def k0_off825 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v473 : BitVec 32 := Scalar.addi v224 arg23
  let v474 : Index := Scalar.indexCast v473
  let c576 : Index := 576#32
  ![v474.toNat, 576]
def k0_off826 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v478 : BitVec 32 := Scalar.addi v224 arg23
  let v479 : Index := Scalar.indexCast v478
  let c592 : Index := 592#32
  ![v479.toNat, 592]
def k0_off827 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v483 : BitVec 32 := Scalar.addi v224 arg23
  let v484 : Index := Scalar.indexCast v483
  let c608 : Index := 608#32
  ![v484.toNat, 608]
def k0_off828 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v488 : BitVec 32 := Scalar.addi v224 arg23
  let v489 : Index := Scalar.indexCast v488
  let c624 : Index := 624#32
  ![v489.toNat, 624]
def k0_off829 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v493 : BitVec 32 := Scalar.addi v224 arg23
  let v494 : Index := Scalar.indexCast v493
  let c640 : Index := 640#32
  ![v494.toNat, 640]
def k0_off830 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v498 : BitVec 32 := Scalar.addi v224 arg23
  let v499 : Index := Scalar.indexCast v498
  let c656 : Index := 656#32
  ![v499.toNat, 656]
def k0_off831 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v503 : BitVec 32 := Scalar.addi v224 arg23
  let v504 : Index := Scalar.indexCast v503
  let c672 : Index := 672#32
  ![v504.toNat, 672]
def k0_off832 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v508 : BitVec 32 := Scalar.addi v224 arg23
  let v509 : Index := Scalar.indexCast v508
  let c688 : Index := 688#32
  ![v509.toNat, 688]
def k0_off833 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v513 : BitVec 32 := Scalar.addi v224 arg23
  let v514 : Index := Scalar.indexCast v513
  let c704 : Index := 704#32
  ![v514.toNat, 704]
def k0_off834 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v518 : BitVec 32 := Scalar.addi v224 arg23
  let v519 : Index := Scalar.indexCast v518
  let c720 : Index := 720#32
  ![v519.toNat, 720]
def k0_off835 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v523 : BitVec 32 := Scalar.addi v224 arg23
  let v524 : Index := Scalar.indexCast v523
  let c736 : Index := 736#32
  ![v524.toNat, 736]
def k0_off836 (v105 : BitVec 32) (v111 : BitVec 32) (v122_4 : BitVec 32) (v122_0 : BitVec 32) (k0_t26 : Fin (k0_t26_loop v105 v111 v122_4 v122_0).trips) (v216 : BitVec 32) (v222 : BitVec 32) (k0_t32 : Fin (k0_t32_loop v105 v111 v122_4 v122_0 k0_t26 v216 v222).trips) : Fin 2 → Nat :=
  let v123 : BitVec 32 := Scalar.maxsi v122_0 v105
  let c1_i32_82 : BitVec 32 := 1#32
  let v124 : BitVec 32 := Scalar.addi v111 c1_i32_82
  let v125 : BitVec 32 := Scalar.minsi v123 v124
  let c_m16_i32_94 : BitVec 32 := 4294967280#32
  let v161 : BitVec 32 := Scalar.andi v125 c_m16_i32_94
  let c0_i32_103 : BitVec 32 := 0#32
  let v135 : BitVec 32 := Scalar.maxsi v122_4 v105
  let c1_i32_86 : BitVec 32 := 1#32
  let v136 : BitVec 32 := Scalar.addi v111 c1_i32_86
  let v137 : BitVec 32 := Scalar.minsi v135 v136
  let v162 : BitVec 1 := Scalar.cmpi .sgt v137 v125
  let v163 : BitVec 32 := Scalar.subi v137 v161
  let c31_i32_95 : BitVec 32 := 31#32
  let v164 : BitVec 32 := Scalar.addi v163 c31_i32_95
  let c5_i32_96 : BitVec 32 := 5#32
  let v165 : BitVec 32 := Scalar.shrsi v164 c5_i32_96
  let c0_i32_97 : BitVec 32 := 0#32
  let v166 : BitVec 32 := Scalar.select v162 v165 c0_i32_97
  let c1_i32_100 : BitVec 32 := 1#32
  let v170 : BitVec 32 := Scalar.addi v166 c1_i32_100
  let c1_i32_101 : BitVec 32 := 1#32
  let v171 : BitVec 32 := Scalar.shrsi v170 c1_i32_101
  let v172 : BitVec 32 := Scalar.subi v171 c0_i32_103
  let c1_i32_104 : BitVec 32 := 1#32
  let v174 : BitVec 32 := Scalar.divsi v172 c1_i32_104
  let v175 : BitVec 32 := Scalar.muli v174 c1_i32_104
  let v176 : BitVec 32 := Scalar.addi c0_i32_103 v175
  let c1_i32_106 : BitVec 32 := 1#32
  let arg21 : BitVec 32 := Scf.iv v176 c1_i32_106 k0_t26
  let c2_i32_119 : BitVec 32 := 2#32
  let v191 : BitVec 32 := Scalar.muli arg21 c2_i32_119
  let c1_i32_120 : BitVec 32 := 1#32
  let v192 : BitVec 32 := Scalar.addi v191 c1_i32_120
  let c32_i32 : BitVec 32 := 32#32
  let v196 : BitVec 32 := Scalar.muli v192 c32_i32
  let v197 : BitVec 32 := Scalar.addi v161 v196
  let v208 : BitVec 32 := Scalar.maxsi v125 v197
  let v223 : BitVec 32 := Scalar.maxsi v216 v208
  let c4064_i32 : BitVec 32 := 4064#32
  let v198 : BitVec 32 := Scalar.minsi v197 c4064_i32
  let v199 : BitVec 32 := v198
  let v224 : BitVec 32 := Scalar.subi v223 v199
  let c0_i32_182 : BitVec 32 := 0#32
  let c32_i32_126 : BitVec 32 := 32#32
  let v209 : BitVec 32 := Scalar.addi v197 c32_i32_126
  let v210 : BitVec 32 := Scalar.minsi v137 v209
  let v225 : BitVec 32 := Scalar.minsi v222 v210
  let v226 : BitVec 32 := Scalar.subi v225 v199
  let v230 : BitVec 32 := Scalar.subi v226 v224
  let v279 : BitVec 32 := Scalar.subi v230 c0_i32_182
  let c1_i32_183 : BitVec 32 := 1#32
  let v281 : BitVec 32 := Scalar.divsi v279 c1_i32_183
  let v282 : BitVec 32 := Scalar.muli v281 c1_i32_183
  let v283 : BitVec 32 := Scalar.addi c0_i32_182 v282
  let c1_i32_185 : BitVec 32 := 1#32
  let arg23 : BitVec 32 := Scf.iv v283 c1_i32_185 k0_t32
  let v528 : BitVec 32 := Scalar.addi v224 arg23
  let v529 : Index := Scalar.indexCast v528
  let c752 : Index := 752#32
  ![v529.toNat, 752]

def k0_chk20_0 (v105 : BitVec 32) (v111 : BitVec 32) (v122_4 : BitVec 32) (v122_0 : BitVec 32) (k0_t26 : Fin (k0_t26_loop v105 v111 v122_4 v122_0).trips) (v216 : BitVec 32) (v222 : BitVec 32) : Prop :=
  (∀ (k0_h42 : k0_cond42 v105 v111 v122_4 v122_0 k0_t26 = 1#1), ∀ (k0_h44 : k0_cond44 v105 v111 v122_4 v122_0 k0_t26 v216 v222 = 1#1), (k0_t31_loop v105 v111 v122_4 v122_0 k0_t26 v216 v222).OK) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off741 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off742 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off743 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off744 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off745 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off746 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off747 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off748 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off749 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off750 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off751 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off752 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off753 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off754 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off755 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off756 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off757 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off758 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off759 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off760 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off761 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off762 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off763 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off764 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off765 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off766 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off767 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off768 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off769 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off770 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off771 v105 v111 v122_4 v122_0 k0_t26 v216 v222 k0_t31) a + S1x16.size a ≤ S32x768.size a)
def k0_chk20_1 (v105 : BitVec 32) (v111 : BitVec 32) (v122_4 : BitVec 32) (v122_0 : BitVec 32) (k0_t26 : Fin (k0_t26_loop v105 v111 v122_4 v122_0).trips) (v216 : BitVec 32) (v222 : BitVec 32) : Prop :=
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off772 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off773 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off774 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off775 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off776 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off777 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off778 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off779 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off780 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off781 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off782 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off783 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off784 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off785 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off786 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off787 v105 v111 v122_4 v122_0 k0_t26 v216 v222 k0_t31) a + S1x16.size a ≤ S32x768.size a) ∧
  (∀ k0_t31 : Fin (k0_t31_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off788 v105 v111 v122_4 v122_0 k0_t26 v216 v222 k0_t31) a + S1x16.size a ≤ S32x768.size a) ∧
  (∀ (k0_h42 : k0_cond42 v105 v111 v122_4 v122_0 k0_t26 = 1#1), ∀ (k0_h44 : k0_cond44 v105 v111 v122_4 v122_0 k0_t26 v216 v222 = 1#1), (k0_t32_loop v105 v111 v122_4 v122_0 k0_t26 v216 v222).OK) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off789 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off790 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off791 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off792 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off793 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off794 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off795 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off796 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off797 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off798 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off799 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off800 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off801 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off802 v105 v111 v122_4 v122_0 k0_t26 v216 v222 k0_t32) a + S1x16.size a ≤ S32x768.size a)
def k0_chk20_2 (v105 : BitVec 32) (v111 : BitVec 32) (v122_4 : BitVec 32) (v122_0 : BitVec 32) (k0_t26 : Fin (k0_t26_loop v105 v111 v122_4 v122_0).trips) (v216 : BitVec 32) (v222 : BitVec 32) : Prop :=
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off803 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off804 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off805 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off806 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off807 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off808 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off809 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off810 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off811 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off812 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off813 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off814 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off815 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off816 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off817 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off818 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off819 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off820 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off821 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off822 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off823 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off824 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off825 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off826 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off827 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off828 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off829 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off830 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off831 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off832 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off833 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off834 v105 v111 v122_4 v122_0 k0_t26 v216 v222 k0_t32) a + S1x16.size a ≤ S32x768.size a)
def k0_chk20_3 (v105 : BitVec 32) (v111 : BitVec 32) (v122_4 : BitVec 32) (v122_0 : BitVec 32) (k0_t26 : Fin (k0_t26_loop v105 v111 v122_4 v122_0).trips) (v216 : BitVec 32) (v222 : BitVec 32) : Prop :=
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off835 v105 v111 v122_4 v122_0 k0_t26 v216 v222 k0_t32) a + S1x16.size a ≤ S32x768.size a) ∧
  (∀ k0_t32 : Fin (k0_t32_loop v105 v111 v122_4 v122_0 k0_t26 v216 v222).trips, ∀ (k0_h42 : k0_cond42 v105 v111 v122_4 v122_0 k0_t26 = 1#1), ∀ (k0_h44 : k0_cond44 v105 v111 v122_4 v122_0 k0_t26 v216 v222 = 1#1), ∀ a, (k0_off836 v105 v111 v122_4 v122_0 k0_t26 v216 v222 k0_t32) a + S1x16.size a ≤ S32x768.size a)
def k0_chk20 (v105 : BitVec 32) (v111 : BitVec 32) (v122_4 : BitVec 32) (v122_0 : BitVec 32) (k0_t26 : Fin (k0_t26_loop v105 v111 v122_4 v122_0).trips) (v216 : BitVec 32) (v222 : BitVec 32) : Prop :=
  k0_chk20_0 v105 v111 v122_4 v122_0 k0_t26 v216 v222 ∧
  k0_chk20_1 v105 v111 v122_4 v122_0 k0_t26 v216 v222 ∧
  k0_chk20_2 v105 v111 v122_4 v122_0 k0_t26 v216 v222 ∧
  k0_chk20_3 v105 v111 v122_4 v122_0 k0_t26 v216 v222
theorem k0_t31_ok : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222), ∀ (k0_h42 : k0_cond42 v105 v111 v122_4 v122_0 k0_t26 = 1#1), ∀ (k0_h44 : k0_cond44 v105 v111 v122_4 v122_0 k0_t26 v216 v222 = 1#1), (k0_t31_loop v105 v111 v122_4 v122_0 k0_t26 v216 v222).OK := fun v105 v111 v122_4 v122_0 k0_t26 v216 v222 k0_hw20 k0_h42 k0_h44 => k0_hw20.1.1 k0_h42 k0_h44
theorem k0_off741_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off741 v105 v111 v122_4 v122_0 k0_t26 v216 v222 k0_t31) a + S1x16.size a ≤ S32x768.size a := fun v105 v111 v122_4 v122_0 k0_t26 v216 v222 k0_hw20 k0_t31 k0_h42 k0_h44 => k0_hw20.1.2.1 k0_t31 k0_h42 k0_h44
theorem k0_off742_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off742 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.1 k0_t31 k0_h42 k0_h44
theorem k0_off743_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off743 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.1 k0_t31 k0_h42 k0_h44
theorem k0_off744_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off744 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.1 k0_t31 k0_h42 k0_h44
theorem k0_off745_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off745 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.1 k0_t31 k0_h42 k0_h44
theorem k0_off746_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off746 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.1 k0_t31 k0_h42 k0_h44
theorem k0_off747_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off747 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.1 k0_t31 k0_h42 k0_h44
theorem k0_off748_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off748 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.1 k0_t31 k0_h42 k0_h44
theorem k0_off749_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off749 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.1 k0_t31 k0_h42 k0_h44
theorem k0_off750_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off750 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.1 k0_t31 k0_h42 k0_h44
theorem k0_off751_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off751 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.1 k0_t31 k0_h42 k0_h44
theorem k0_off752_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off752 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.1 k0_t31 k0_h42 k0_h44
theorem k0_off753_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off753 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.1 k0_t31 k0_h42 k0_h44
theorem k0_off754_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off754 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.1 k0_t31 k0_h42 k0_h44
theorem k0_off755_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off755 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.1 k0_t31 k0_h42 k0_h44
theorem k0_off756_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off756 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.1 k0_t31 k0_h42 k0_h44
theorem k0_off757_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off757 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.1 k0_t31 k0_h42 k0_h44
theorem k0_off758_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off758 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.1 k0_t31 k0_h42 k0_h44
theorem k0_off759_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off759 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.1 k0_t31 k0_h42 k0_h44
theorem k0_off760_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off760 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.1 k0_t31 k0_h42 k0_h44
theorem k0_off761_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off761 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.1 k0_t31 k0_h42 k0_h44
theorem k0_off762_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off762 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.2.1 k0_t31 k0_h42 k0_h44
theorem k0_off763_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off763 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.2.2.1 k0_t31 k0_h42 k0_h44
theorem k0_off764_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off764 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.2.2.2.1 k0_t31 k0_h42 k0_h44
theorem k0_off765_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off765 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.2.2.2.2.1 k0_t31 k0_h42 k0_h44
theorem k0_off766_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off766 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.2.2.2.2.2.1 k0_t31 k0_h42 k0_h44
theorem k0_off767_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off767 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.2.2.2.2.2.2.1 k0_t31 k0_h42 k0_h44
theorem k0_off768_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off768 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.2.2.2.2.2.2.2.1 k0_t31 k0_h42 k0_h44
theorem k0_off769_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off769 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.2.2.2.2.2.2.2.2.1 k0_t31 k0_h42 k0_h44
theorem k0_off770_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off770 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.2.2.2.2.2.2.2.2.2.1 k0_t31 k0_h42 k0_h44
theorem k0_off771_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off771 v105 v111 v122_4 v122_0 k0_t26 v216 v222 k0_t31) a + S1x16.size a ≤ S32x768.size a := fun v105 v111 v122_4 v122_0 k0_t26 v216 v222 k0_hw20 k0_t31 k0_h42 k0_h44 => k0_hw20.1.2.2.2.2.2.2.2.2.2.2.2.2.2.2.2.2.2.2.2.2.2.2.2.2.2.2.2.2.2.2.2 k0_t31 k0_h42 k0_h44
theorem k0_off772_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off772 v105 v111 v122_4 v122_0 k0_t26 v216 v222 k0_t31) a + S1x16.size a ≤ S32x768.size a := fun v105 v111 v122_4 v122_0 k0_t26 v216 v222 k0_hw20 k0_t31 k0_h42 k0_h44 => k0_hw20.2.1.1 k0_t31 k0_h42 k0_h44
theorem k0_off773_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off773 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.1 k0_t31 k0_h42 k0_h44
theorem k0_off774_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off774 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.1 k0_t31 k0_h42 k0_h44
theorem k0_off775_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off775 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.1 k0_t31 k0_h42 k0_h44
theorem k0_off776_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off776 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.1 k0_t31 k0_h42 k0_h44
theorem k0_off777_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off777 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.1 k0_t31 k0_h42 k0_h44
theorem k0_off778_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off778 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.1 k0_t31 k0_h42 k0_h44
theorem k0_off779_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off779 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.2.1 k0_t31 k0_h42 k0_h44
theorem k0_off780_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off780 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.2.2.1 k0_t31 k0_h42 k0_h44
theorem k0_off781_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off781 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.2.2.2.1 k0_t31 k0_h42 k0_h44
theorem k0_off782_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off782 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.2.2.2.2.1 k0_t31 k0_h42 k0_h44
theorem k0_off783_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off783 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.2.2.2.2.2.1 k0_t31 k0_h42 k0_h44
theorem k0_off784_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off784 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.2.2.2.2.2.2.1 k0_t31 k0_h42 k0_h44
theorem k0_off785_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off785 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.2.2.2.2.2.2.2.1 k0_t31 k0_h42 k0_h44
theorem k0_off786_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off786 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.2.2.2.2.2.2.2.2.1 k0_t31 k0_h42 k0_h44
theorem k0_off787_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off787 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.2.2.2.2.2.2.2.2.2.1 k0_t31 k0_h42 k0_h44
theorem k0_off788_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t31 : Fin (k0_t31_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off788 v105 v111 v122_4 v122_0 k0_t26 v216 v222 k0_t31) a + S1x16.size a ≤ S32x768.size a := fun v105 v111 v122_4 v122_0 k0_t26 v216 v222 k0_hw20 k0_t31 k0_h42 k0_h44 => k0_hw20.2.1.2.2.2.2.2.2.2.2.2.2.2.2.2.2.2.2.1 k0_t31 k0_h42 k0_h44
theorem k0_t32_ok : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222), ∀ (k0_h42 : k0_cond42 v105 v111 v122_4 v122_0 k0_t26 = 1#1), ∀ (k0_h44 : k0_cond44 v105 v111 v122_4 v122_0 k0_t26 v216 v222 = 1#1), (k0_t32_loop v105 v111 v122_4 v122_0 k0_t26 v216 v222).OK := fun v105 v111 v122_4 v122_0 k0_t26 v216 v222 k0_hw20 k0_h42 k0_h44 => k0_hw20.2.1.2.2.2.2.2.2.2.2.2.2.2.2.2.2.2.2.2.1 k0_h42 k0_h44
theorem k0_off789_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off789 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.1 k0_t32 k0_h42 k0_h44
theorem k0_off790_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off790 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.1 k0_t32 k0_h42 k0_h44
theorem k0_off791_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off791 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.1 k0_t32 k0_h42 k0_h44
theorem k0_off792_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off792 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.1 k0_t32 k0_h42 k0_h44
theorem k0_off793_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off793 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.2.1 k0_t32 k0_h42 k0_h44
theorem k0_off794_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off794 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.2.2.1 k0_t32 k0_h42 k0_h44
theorem k0_off795_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off795 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.2.2.2.1 k0_t32 k0_h42 k0_h44
theorem k0_off796_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off796 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.2.2.2.2.1 k0_t32 k0_h42 k0_h44
theorem k0_off797_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off797 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.2.2.2.2.2.1 k0_t32 k0_h42 k0_h44
theorem k0_off798_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off798 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.2.2.2.2.2.2.1 k0_t32 k0_h42 k0_h44
theorem k0_off799_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off799 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.2.2.2.2.2.2.2.1 k0_t32 k0_h42 k0_h44
theorem k0_off800_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off800 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.2.2.2.2.2.2.2.2.1 k0_t32 k0_h42 k0_h44
theorem k0_off801_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off801 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.2.2.2.2.2.2.2.2.2.1 k0_t32 k0_h42 k0_h44
theorem k0_off802_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off802 v105 v111 v122_4 v122_0 k0_t26 v216 v222 k0_t32) a + S1x16.size a ≤ S32x768.size a := fun v105 v111 v122_4 v122_0 k0_t26 v216 v222 k0_hw20 k0_t32 k0_h42 k0_h44 => k0_hw20.2.1.2.2.2.2.2.2.2.2.2.2.2.2.2.2.2.2.2.2.2.2.2.2.2.2.2.2.2.2.2.2.2 k0_t32 k0_h42 k0_h44
theorem k0_off803_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off803 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.1 k0_t32 k0_h42 k0_h44
theorem k0_off804_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off804 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.1 k0_t32 k0_h42 k0_h44
theorem k0_off805_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off805 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.1 k0_t32 k0_h42 k0_h44
theorem k0_off806_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off806 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.1 k0_t32 k0_h42 k0_h44
theorem k0_off807_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off807 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.1 k0_t32 k0_h42 k0_h44
theorem k0_off808_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off808 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.1 k0_t32 k0_h42 k0_h44
theorem k0_off809_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off809 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.1 k0_t32 k0_h42 k0_h44
theorem k0_off810_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off810 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.1 k0_t32 k0_h42 k0_h44
theorem k0_off811_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off811 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.1 k0_t32 k0_h42 k0_h44
theorem k0_off812_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off812 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.1 k0_t32 k0_h42 k0_h44
theorem k0_off813_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off813 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.1 k0_t32 k0_h42 k0_h44
theorem k0_off814_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off814 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.1 k0_t32 k0_h42 k0_h44
theorem k0_off815_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off815 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.1 k0_t32 k0_h42 k0_h44
theorem k0_off816_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off816 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.1 k0_t32 k0_h42 k0_h44
theorem k0_off817_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off817 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.1 k0_t32 k0_h42 k0_h44
theorem k0_off818_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off818 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.1 k0_t32 k0_h42 k0_h44
theorem k0_off819_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off819 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.1 k0_t32 k0_h42 k0_h44
theorem k0_off820_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off820 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.1 k0_t32 k0_h42 k0_h44
theorem k0_off821_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off821 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.1 k0_t32 k0_h42 k0_h44
theorem k0_off822_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off822 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.1 k0_t32 k0_h42 k0_h44
theorem k0_off823_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off823 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.1 k0_t32 k0_h42 k0_h44
theorem k0_off824_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off824 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.1 k0_t32 k0_h42 k0_h44
theorem k0_off825_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off825 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.2.1 k0_t32 k0_h42 k0_h44
theorem k0_off826_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off826 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.2.2.1 k0_t32 k0_h42 k0_h44
theorem k0_off827_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off827 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.2.2.2.1 k0_t32 k0_h42 k0_h44
theorem k0_off828_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off828 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.2.2.2.2.1 k0_t32 k0_h42 k0_h44
theorem k0_off829_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off829 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.2.2.2.2.2.1 k0_t32 k0_h42 k0_h44
theorem k0_off830_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off830 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.2.2.2.2.2.2.1 k0_t32 k0_h42 k0_h44
theorem k0_off831_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off831 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.2.2.2.2.2.2.2.1 k0_t32 k0_h42 k0_h44
theorem k0_off832_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off832 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.2.2.2.2.2.2.2.2.1 k0_t32 k0_h42 k0_h44
theorem k0_off833_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off833 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.2.2.2.2.2.2.2.2.2.1 k0_t32 k0_h42 k0_h44
theorem k0_off834_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off834 v105 v111 v122_4 v122_0 k0_t26 v216 v222 k0_t32) a + S1x16.size a ≤ S32x768.size a := fun v105 v111 v122_4 v122_0 k0_t26 v216 v222 k0_hw20 k0_t32 k0_h42 k0_h44 => k0_hw20.2.2.1.2.2.2.2.2.2.2.2.2.2.2.2.2.2.2.2.2.2.2.2.2.2.2.2.2.2.2.2.2.2.2 k0_t32 k0_h42 k0_h44
theorem k0_off835_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off835 v105 v111 v122_4 v122_0 k0_t26 v216 v222 k0_t32) a + S1x16.size a ≤ S32x768.size a := fun v105 v111 v122_4 v122_0 k0_t26 v216 v222 k0_hw20 k0_t32 k0_h42 k0_h44 => k0_hw20.2.2.2.1 k0_t32 k0_h42 k0_h44
theorem k0_off836_inb : ∀ (v105 : BitVec 32) (v111 : BitVec 32) (v122_4 : BitVec 32) (v122_0 : BitVec 32) (k0_t26 : Fin (k0_t26_loop v105 v111 v122_4 v122_0).trips) (v216 : BitVec 32) (v222 : BitVec 32) (k0_hw20 : k0_chk20 v105 v111 v122_4 v122_0 k0_t26 v216 v222) (k0_t32 : Fin (k0_t32_loop v105 v111 v122_4 v122_0 k0_t26 v216 v222).trips), ∀ (k0_h42 : k0_cond42 v105 v111 v122_4 v122_0 k0_t26 = 1#1), ∀ (k0_h44 : k0_cond44 v105 v111 v122_4 v122_0 k0_t26 v216 v222 = 1#1), ∀ a, (k0_off836 v105 v111 v122_4 v122_0 k0_t26 v216 v222 k0_t32) a + S1x16.size a ≤ S32x768.size a := fun v105 v111 v122_4 v122_0 k0_t26 v216 v222 k0_hw20 k0_t32 k0_h42 k0_h44 => k0_hw20.2.2.2.2 k0_t32 k0_h42 k0_h44

def k0_off837 (k0_t30 : Fin k0_t30_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t30
  let c768_i32_186 : BitVec 32 := 768#32
  let v286 : BitVec 32 := Scalar.muli arg22 c768_i32_186
  let v293 : BitVec 32 := Scalar.addi v286 c0_i32_189
  let v294 : Index := Scalar.indexCast v293
  ![v294.toNat]
def k0_off838 (k0_t30 : Fin k0_t30_loop.trips) (c0_i32_189 : BitVec 32) : Fin 1 → Nat :=
  let c0_i32_128 : BitVec 32 := 0#32
  let c1_i32_130 : BitVec 32 := 1#32
  let arg22 : BitVec 32 := Scf.iv c0_i32_128 c1_i32_130 k0_t30
  let c768_i32_186 : BitVec 32 := 768#32
  let v286 : BitVec 32 := Scalar.muli arg22 c768_i32_186
  let v293 : BitVec 32 := Scalar.addi v286 c0_i32_189
  let v294 : Index := Scalar.indexCast v293
  ![v294.toNat]
@[reducible] def k0_t33_loop : Scf.Loop 32 :=
  let c0_i32_109 : BitVec 32 := 0#32
  let c4_i32_110 : BitVec 32 := 4#32
  let v178 : BitVec 32 := Scalar.addi c0_i32_109 c4_i32_110
  let c1_i32_111 : BitVec 32 := 1#32
  ⟨c0_i32_109, v178, c1_i32_111⟩
def k0_off839 (k0_t33 : Fin k0_t33_loop.trips) : Fin 1 → Nat :=
  let c0_i32_109 : BitVec 32 := 0#32
  let c1_i32_111 : BitVec 32 := 1#32
  let arg21 : BitVec 32 := Scf.iv c0_i32_109 c1_i32_111 k0_t33
  let v186 : Index := Scalar.indexCast arg21
  ![v186.toNat]
def k0_off840 (k0_t33 : Fin k0_t33_loop.trips) : Fin 1 → Nat :=
  let c0_i32_109 : BitVec 32 := 0#32
  let c1_i32_111 : BitVec 32 := 1#32
  let arg21 : BitVec 32 := Scf.iv c0_i32_109 c1_i32_111 k0_t33
  let c1_i32_116 : BitVec 32 := 1#32
  let v191 : BitVec 32 := Scalar.addi arg21 c1_i32_116
  let v192 : Index := Scalar.indexCast v191
  ![v192.toNat]
def k0_off841 (k0_t33 : Fin k0_t33_loop.trips) (c0_i32_121 : BitVec 32) : Fin 1 → Nat :=
  let c0_i32_109 : BitVec 32 := 0#32
  let c1_i32_111 : BitVec 32 := 1#32
  let arg21 : BitVec 32 := Scf.iv c0_i32_109 c1_i32_111 k0_t33
  let c768_i32_120 : BitVec 32 := 768#32
  let v206 : BitVec 32 := Scalar.muli arg21 c768_i32_120
  let v207 : BitVec 32 := Scalar.addi v206 c0_i32_121
  let v208 : Index := Scalar.indexCast v207
  ![v208.toNat]
def k0_mult22 (i : grid0.Coords) (k0_t1 : Fin k0_t1_loop.trips) : BitVec 32 :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let c128_i32_113 : BitVec 32 := 128#32
  let v179 : BitVec 32 := Scalar.muli v100 c128_i32_113
  let c4_i32_114 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v180 : BitVec 32 := Scalar.muli c4_i32_114 v1
  let v181 : BitVec 32 := Scalar.addi v179 v180
  let c768_i32_115 : BitVec 32 := 768#32
  let v182 : BitVec 32 := Scalar.muli v181 c768_i32_115
  v182
def k0_off842 (i : grid0.Coords) (k0_t1 : Fin k0_t1_loop.trips) : Fin 1 → Nat :=
  let c0_i32_4 : BitVec 32 := 0#32
  let c1_i32 : BitVec 32 := 1#32
  let arg20 : BitVec 32 := Scf.iv c0_i32_4 c1_i32 k0_t1
  let c2_i32_57 : BitVec 32 := 2#32
  let v99 : BitVec 32 := Scalar.muli arg20 c2_i32_57
  let c1_i32_58 : BitVec 32 := 1#32
  let v100 : BitVec 32 := Scalar.addi v99 c1_i32_58
  let c128_i32_113 : BitVec 32 := 128#32
  let v179 : BitVec 32 := Scalar.muli v100 c128_i32_113
  let c4_i32_114 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v180 : BitVec 32 := Scalar.muli c4_i32_114 v1
  let v181 : BitVec 32 := Scalar.addi v179 v180
  let c768_i32_115 : BitVec 32 := 768#32
  let v182 : BitVec 32 := Scalar.muli v181 c768_i32_115
  let v183 : BitVec 32 := v182
  ![v183.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x768 : Shape := ⟨3, ![16, 4096, 768]⟩
abbrev S16x2 : Shape := ⟨2, ![16, 2]⟩
abbrev S16x4096 : Shape := ⟨2, ![16, 4096]⟩
abbrev S4096 : Shape := ⟨1, ![4096]⟩
abbrev S1x4096 : Shape := ⟨2, ![1, 4096]⟩
abbrev S16x1 : Shape := ⟨2, ![16, 1]⟩
abbrev S16 : Shape := ⟨1, ![16]⟩
abbrev S_ : Shape := ⟨0, ![]⟩
abbrev S16x128x768 : Shape := ⟨3, ![16, 128, 768]⟩
abbrev S16x4096x1 : Shape := ⟨3, ![16, 4096, 1]⟩
abbrev S16x4096x2 : Shape := ⟨3, ![16, 4096, 2]⟩
abbrev S16x128 : Shape := ⟨2, ![16, 128]⟩
abbrev S16x128x1 : Shape := ⟨3, ![16, 128, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S16x2, .i32⟩
  | .hbm, ⟨2, _⟩ => ⟨S16x4096, .i32⟩
  | .hbm, ⟨3, _⟩ => ⟨S4096, .i32⟩
  | .hbm, ⟨4, _⟩ => ⟨S1x4096, .i32⟩
  | .hbm, ⟨5, _⟩ => ⟨S16x1, .i32⟩
  | .hbm, ⟨6, _⟩ => ⟨S16x1, .i32⟩
  | .hbm, ⟨7, _⟩ => ⟨S16x4096, .i32⟩
  | .hbm, ⟨8, _⟩ => ⟨S16x4096, .i32⟩
  | .hbm, ⟨9, _⟩ => ⟨S16x4096, .i1⟩
  | .hbm, ⟨10, _⟩ => ⟨S16x4096, .i32⟩
  | .hbm, ⟨11, _⟩ => ⟨S16x4096, .i32⟩
  | .hbm, ⟨12, _⟩ => ⟨S16x4096, .i1⟩
  | .hbm, ⟨13, _⟩ => ⟨S16x4096, .i1⟩
  | .hbm, ⟨14, _⟩ => ⟨S16x4096, .f32⟩
  | .hbm, ⟨15, _⟩ => ⟨S16, .i32⟩
  | .hbm, ⟨16, _⟩ => ⟨S16x1, .i32⟩
  | .hbm, ⟨17, _⟩ => ⟨S16x4096, .i32⟩
  | .hbm, ⟨18, _⟩ => ⟨S_, .f32⟩
  | .hbm, ⟨19, _⟩ => ⟨S16x128x768, .f32⟩
  | .hbm, ⟨20, _⟩ => ⟨S16x4096x1, .f32⟩
  | .hbm, ⟨21, _⟩ => ⟨S16x4096x768, .f32⟩
  | .hbm, ⟨22, _⟩ => ⟨S16x4096x768, .f32⟩
  | .hbm, ⟨23, _⟩ => ⟨S16x4096x1, .i32⟩
  | .hbm, ⟨24, _⟩ => ⟨S16x4096x1, .i32⟩
  | .hbm, ⟨25, _⟩ => ⟨S16x4096x2, .i32⟩
  | .hbm, ⟨26, _⟩ => ⟨S16x128x768, .f32⟩
  | .hbm, ⟨27, _⟩ => ⟨S_, .f32⟩
  | .hbm, ⟨28, _⟩ => ⟨S16x128, .f32⟩
  | .hbm, ⟨29, _⟩ => ⟨S16x4096x1, .i32⟩
  | .hbm, ⟨30, _⟩ => ⟨S16x4096x1, .i32⟩
  | .hbm, ⟨31, _⟩ => ⟨S16x4096x2, .i32⟩
  | .hbm, ⟨32, _⟩ => ⟨S16x128, .f32⟩
  | .hbm, ⟨33, _⟩ => ⟨S_, .f32⟩
  | .hbm, ⟨34, _⟩ => ⟨S_, .f32⟩
  | .hbm, ⟨35, _⟩ => ⟨S16x128, .f32⟩
  | .hbm, ⟨36, _⟩ => ⟨S16x128, .f32⟩
  | .hbm, ⟨37, _⟩ => ⟨S16x128x1, .f32⟩
  | .hbm, ⟨38, _⟩ => ⟨S16x128x768, .f32⟩
  | .hbm, ⟨39, _⟩ => ⟨S16x128x768, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Proof.Own.lean ====
module

public import proofs.«01_k».proof.Proof.Generic
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none

abbrev UH : Type := URounds (GSem nD τ sig) ℕ
abbrev UU : Type := UH × Counters
/-- Propositions over the machine's state. -/
abbrev SP (F : FTy → Type) : Type _ := sProp (MT nD τ sig (HIx 1) (Elt F) ℕ UU ℕ)

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

variable [FloatOps F]

/-- The run of a tile's program. -/
abbrev wpI {α : Type} (d : Dev nD) (i : grid0.Coords) (p : PG F i α) (Q : α → SP F) : SP F :=
  wp frame (wpE (defs₀ (F := F)) 𝒱₀ (VT d i) none) Set.univ p Q

variable (d : Dev nD) (i : grid0.Coords)

/-- A memref's elements held at share `q`, reading `x`. -/
def own {s : Shape} {e : EltTy} {sp : Space} (m : Memref sig .scVector sp s e) (q : PosShare TreeShare) (x : s.Idx → Elt F e) : SP F :=
  m.view.loc (VT d i) ↦[m.view.set]{q} m.view.rep x

/-- A memref's elements beside those of a rectangle of it. -/
def ownRest {s : Shape} {e : EltTy} {sp : Space} (m : Memref sig .scVector sp s e) (r : Rect s) (q : PosShare TreeShare) (x : s.Idx → Elt F e) : SP F :=
  m.view.loc (VT d i) ↦[m.view.set \ (m.view.slice r).set]{q} m.view.rep x

theorem own_of {s : Shape} {e : EltTy} {sp : Space} (m : Memref sig .scVector sp s e) (q : PosShare TreeShare) (f : Buf (Elt F) (m.view.loc (VT d i))) :
    (m.view.loc (VT d i) ↦[m.view.set]{q} f : SP F) = own d i m q (m.view.read (Elt F) f) :=
  pointsTo_rep (VT d i) m f q

theorem own_congr {s : Shape} {e : EltTy} {sp : Space} {m : Memref sig .scVector sp s e} {q : PosShare TreeShare} {x y : s.Idx → Elt F e} (h : x = y) :
    (own d i m q x : SP F) ⊢ own d i m q y := by subst h; exact .rfl

theorem wpI_load {s : Shape} {e : EltTy} {cs : CoreSpace} {m : Memref sig .scVector cs s e} {r : Rect s} {hl : m.view.LoadsAt r.toLoadRect} {α : Type}
    {k : (r.shape.Idx → Elt F e) → PG F i α} {q : PosShare TreeShare} {x : s.Idx → Elt F e} {Q : α → SP F} :
    own d i m q x ⊢ iprop((own d i m q x -∗ wpI d i (k (fun y => x (r.emb y))) Q) -∗ wpI d i (Prog.lift (.load m r.toLoadRect hl) >>= k) Q) := by
  have h := wp_load_rect (Q := Q) (defs := defs₀ (F := F)) 𝒱₀ (VT d i) none (Γ := []) Set.univ (m := m) (r := r) (hl := hl) (k := k) (q := q) (f := m.view.rep x)
    (S := m.view.set) (View.set_slice_subset _ _)
  have e : (m.access r).read (Elt F) (m.view.rep x) = fun y => x (r.emb y) := by
    funext y
    show m.view.read (Elt F) (m.view.rep x) (r.emb y) = _
    rw [View.read_rep]
  rw [e] at h
  exact h

theorem wpI_store {s : Shape} {e : EltTy} {cs : CoreSpace} {m : Memref sig .scVector cs s e} {r : Rect s} {w : r.shape.Idx → Elt F e}
    {hx : (m.access r).Stores Finset.univ} {hm : (Finset.univ : Finset r.shape.Idx) = Finset.univ ∨ ∀ a, r.stride a = 1} {α : Type}
    {k : PUnit → PG F i α} {x : s.Idx → Elt F e} {Q : α → SP F} (y : s.Idx → Elt F e) (hin : ∀ j, y (r.emb j) = w j) (hout : ∀ j, (∀ j', j ≠ r.emb j') → y j = x j) :
    own d i m fullShare x ⊢ iprop((own d i m fullShare y -∗ wpI d i (k ⟨⟩) Q) -∗ wpI d i (Prog.lift (.store m r w Finset.univ hx hm) >>= k) Q) := by
  have h := wp_store (Q := Q) (defs := defs₀ (F := F)) 𝒱₀ (VT d i) none (Γ := []) Set.univ (m := m) (r := r) (w := w) (Mk := Finset.univ) (hx := hx) (hm := hm) (k := k) (f := m.view.rep x)
    (S := m.view.set) (View.set_slice_subset _ _)
  have e : ((m.access r).loc (VT d i) ↦[m.view.set]{fullShare} (m.access r).write (Elt F) (m.view.rep x) w Finset.univ : SP F) = own d i m fullShare y := by
    refine (own_of d i m fullShare _).trans ?_
    congr 1
    funext j
    rcases Classical.em (∃ j', j = r.emb j') with ⟨j', rfl⟩ | hj
    · rw [hin]; exact View.read_slice_write_emb _ _ _ (Finset.mem_univ _)
    · rw [hout j (fun j' e => hj ⟨j', e⟩)]
      refine (View.read_slice_write_of_not_mem _ _ _ _ ?_).trans (congrFun (View.read_rep _ _) _)
      intro hm; obtain ⟨j', -, e⟩ := Finset.mem_map.mp hm
      exact hj ⟨j', e.symm⟩
  rw [e] at h
  exact h

theorem wpI_assume {α : Type} {P : Prop} {dP : Decidable P} {k : PLift P → PG F i α} {Q : α → SP F} (h : P) :
    wpI d i (k ⟨h⟩) Q ⊢ wpI d i (Prog.lift (TpuEff.assume P dP) >>= k) Q :=
  wp_assume (defs := defs₀ (F := F)) 𝒱₀ (VT d i) none Set.univ h

/-- A slice's elements split off, the rest beside them; then put back, the slice rewritten. -/
theorem own_split {s : Shape} {e : EltTy} {sp : Space} (m : Memref sig .scVector sp s e) (r : Rect s) (hr : ∀ a, r.stride a = 1) (q : PosShare TreeShare) (x : s.Idx → Elt F e) :
    (own d i m q x : SP F) ⊢ iprop(own d i (m.slice r hr) q (fun y => x (r.emb y)) ∗ ownRest d i m r q x) := by
  have e : ((m.slice r hr).view.loc (VT d i) ↦[(m.slice r hr).view.set]{q} m.view.rep x : SP F) = own d i (m.slice r hr) q (fun y => x (r.emb y)) := by
    refine (own_of d i (m.slice r hr) q _).trans ?_
    congr 1
    funext y
    show m.view.read (Elt F) (m.view.rep x) (r.emb y) = _
    rw [View.read_rep]
  rw [← e]
  exact (pointsTo_split_subset (View.set_slice_subset m.view r)).1

theorem own_join {s : Shape} {e : EltTy} {sp : Space} (m : Memref sig .scVector sp s e) (r : Rect s) (hr : ∀ a, r.stride a = 1) (q : PosShare TreeShare) (x z : s.Idx → Elt F e)
    (y : r.shape.Idx → Elt F e) (hin : ∀ j, z (r.emb j) = y j) (hout : ∀ j, (∀ j', j ≠ r.emb j') → z j = x j) :
    iprop(own d i (m.slice r hr) q y ∗ ownRest d i m r q x) ⊢ (own d i m q z : SP F) := by
  have e1 : (own d i (m.slice r hr) q y : SP F) = ((m.slice r hr).view.loc (VT d i) ↦[(m.slice r hr).view.set]{q} m.view.rep z : SP F) := by
    refine Eq.trans ?_ (own_of d i (m.slice r hr) q _).symm
    congr 1
    funext j
    show _ = m.view.read (Elt F) (m.view.rep z) (r.emb j)
    rw [View.read_rep, hin]
  have e2 : (ownRest d i m r q x : SP F) = (m.view.loc (VT d i) ↦[m.view.set \ (m.view.slice r).set]{q} m.view.rep z : SP F) := by
    refine pointsTo_congr fun k hk => ?_
    obtain ⟨h1, h2⟩ := Finset.mem_sdiff.mp hk
    obtain ⟨j, -, rfl⟩ := Finset.mem_map.mp h1
    rw [View.rep_emb, View.rep_emb, hout j]
    rintro j' rfl
    exact h2 (Finset.mem_map.mpr ⟨j', Finset.mem_univ _, rfl⟩)
  rw [e1, e2]
  exact (pointsTo_split_subset (View.set_slice_subset m.view r)).2

theorem own_squeeze {s s' : Shape} {e : EltTy} {sp : Space} (m : Memref sig .scVector sp s e) (h : s.Squeezes s') (q : PosShare TreeShare) (x : s.Idx → Elt F e) :
    (own d i m q x : SP F) = own d i (m.squeeze s' h) q (fun y => x (Shape.reshapeEquiv h.numel_eq y)) := by
  refine Eq.trans ?_ ((own_of d i (m.squeeze s' h) q (m.view.rep x)).trans ?_)
  · exact congrArg (fun I => (m.view.loc (VT d i) ↦[I]{q} m.view.rep x : SP F)) (View.set_reshape m.view h.numel_eq).symm
  · congr 1
    funext y
    show m.view.read (Elt F) (m.view.rep x) (Shape.reshapeEquiv h.numel_eq y) = _
    rw [View.read_rep]

/-- The whole of a memref, whatever it reads. -/
def ownAny {s : Shape} {e : EltTy} {sp : Space} (m : Memref sig .scVector sp s e) : SP F := iprop(∃ x, own d i m fullShare x)

/-- The transfers' counters. -/
abbrev EC : UEmb Counters (MT nD τ sig (HIx 1) (Elt F) ℕ UU ℕ) := countersEmb

/-- A copy under way, its cell and what its wait gives. -/
abbrev fly (sm : DmaSem sig) (N : ℕ) (D : SP F) : SP F := Transfers.Flight EC (VT d i) (.dma sm) (default : HIx 1) N D

theorem wpI_dma {s : Shape} {e : EltTy} {sp sp' : Space} {src : Memref sig .scVector sp s e} {dst : Memref sig .scVector sp' s e} {sm : DmaSem sig}
    {hsrc : src.view.WordExact} {hdst : dst.view.WordExact} {hsem : DmaTarget.Typed (nD := nD) sp (.dma sm) (.here (p := (VT d i).2) dst)} {α : Type}
    {k : PUnit → PG F i α} {q : PosShare TreeShare} {x y : s.Idx → Elt F e} {Q : α → SP F} (N : ℕ) (hN : dst.view.amount (.dma sm) = N) (hN0 : 0 < N) :
    iprop(own d i src q x ∗ own d i dst fullShare y ∗ semVal (VT d i, .dma sm) 0)
      ⊢ iprop((fly d i sm N iprop(own d i dst fullShare x ∗ own d i src q x) -∗ wpI d i (k ⟨⟩) Q)
        -∗ wpI d i (Prog.lift (.enqueueDma src (.here dst) (.dma sm) hsrc hdst hsem) >>= k) Q) := by
  have h := Transfers.wp_dmaLocal (defs := defs₀ (F := F)) (Q := Q) EC 𝒱₀ (VT d i) none (src := src) (via := .same) (dst := dst) (sm := .dma sm) (hsrc := hsrc) (hdst := hdst) (hsem := hsem)
    (k := k) (q := q) (fs := src.view.rep x) (Sd := dst.view.set) (fd := dst.view.rep y) (default : HIx 1) N hN hN0 (Finset.Subset.refl _)
  rw [own_of d i dst (fullShare) (View.write (Elt F) _ _ _ _), View.read_write_univ] at h
  have e : (ReadAs.same (Val := Elt F) (s := s) (e := e)).apply (src.view.read (Elt F) (src.view.rep x)) = x := by rw [View.read_rep]
  rw [e] at h
  exact h

theorem wpI_wait {s s' : Shape} {e e' : EltTy} {sp sp' : Space} {srcw : Memref sig .scVector sp' s' e'} {dstw : Memref sig .scVector sp s e} {sm : DmaSem sig}
    {hsrc : srcw.view.WordExact} {hdst : dstw.view.WordExact} {α : Type} {k : PUnit → PG F i α} {Q : α → SP F} {N : ℕ} (hN : dstw.view.dmaCredit = N) {D : SP F}
    {O : CellTallies nD τ sig (HIx 1)} :
    iprop(fly d i sm N D ∗ (∃ W, owes (VT d i) O W) ∗ Transfers.MayWaits (VT d i) (default : HIx 1) O)
      ⊢ iprop((iprop(D ∗ semVal (VT d i, .dma sm) 0 ∗ (∃ W, owes (VT d i) O W)) -∗ wpI d i (k ⟨⟩) Q)
        -∗ wpI d i (Prog.lift (.waitDma2 sm srcw dstw hsrc hdst) >>= k) Q) := by
  iintro ⟨Hf, ⟨%W, HO⟩, Hm⟩ Hk
  ihave Hm := (Transfers.MayWaits.elim (.dma sm)) $$ Hm
  iapply (Transfers.wp_waitLocalO (defs := defs₀ (F := F)) EC 𝒱₀ (VT d i) none (default : HIx 1) hN (D := D) (O := O) (W := W) (hsrc := hsrc) (hdst := hdst)) $$ [Hf HO Hm]
  · isplitl [Hf]; · iexact Hf
    isplitl [HO]; · iexact HO
    iexact Hm
  iintro ⟨HD, Hv, HO⟩
  iapply Hk
  isplitl [HD]; · iexact HD
  isplitl [Hv]; · iexact Hv
  iexists _; iexact HO

end Cert.Proof.Pool
-- ==== Proof.Rows.lean ====
module

public import proofs.«01_k».proof.Proof.Own
public import Idealize.ShloMosaic.Lib.Pipeline.Value

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords)

/-- Contents of a one-axis memref by position, of a two-axis one by row and column. -/
def c1 {α : Type} {n : Nat} (A : Nat → α) : (⟨1, ![n]⟩ : Shape).Idx → α := fun j => A (j 0).val
def c2 {α : Type} {n m : Nat} (A : Nat → Nat → α) : (⟨2, ![n, m]⟩ : Shape).Idx → α := fun j => A (j 0).val (j 1).val

theorem exists_c1 {α : Type} {n : Nat} [Nonempty α] (x : (⟨1, ![n]⟩ : Shape).Idx → α) : ∃ A, x = c1 A := by
  refine ⟨fun k => if h : k < n then x (fun a => match a with | ⟨0, _⟩ => ⟨k, h⟩) else Classical.arbitrary α, ?_⟩
  funext j
  have h : (j 0).val < n := (j 0).isLt
  simp only [c1, h, dif_pos]
  congr 1
  funext a; match a with | ⟨0, _⟩ => rfl

theorem exists_c2 {α : Type} {n m : Nat} [Nonempty α] (x : (⟨2, ![n, m]⟩ : Shape).Idx → α) : ∃ A, x = c2 A := by
  refine ⟨fun k l => if h : k < n ∧ l < m then x (fun a => match a with | ⟨0, _⟩ => ⟨k, h.1⟩ | ⟨1, _⟩ => ⟨l, h.2⟩) else Classical.arbitrary α, ?_⟩
  funext j
  have h : (j 0).val < n := (j 0).isLt
  have h' : (j 1).val < m := (j 1).isLt
  simp only [c2, h, h', true_and, dif_pos]
  congr 1
  funext a; match a with | ⟨0, _⟩ => rfl | ⟨1, _⟩ => rfl

/-- Components `g k, …, g (k + n)`. -/
def Tup.mk {α : Type} (g : Nat → α) : (n k : Nat) → Tup α n
  | 0, k => g k
  | n + 1, k => (g k, Tup.mk g n (k + 1))

theorem Tup.const_eq {α : Type} (a : α) : ∀ n k, (Tup.const a n : Tup α n) = Tup.mk (fun _ => a) n k
  | 0, _ => rfl
  | n + 1, k => congrArg (Prod.mk a) (Tup.const_eq a n (k + 1))

/-- Sixteen lanes of a row. -/
def rowVec (D : Nat → Nat → F .f32) (ro k : Nat) : FVec F S16 .f32 := fun y => D ro (16 * k + (y 0).val)

theorem unit_emb_val {s : Shape} (off size : Fin s.rank → Nat) (h : ∀ a, off a + size a ≤ s.size a) (y : (Rect.unit off size h).shape.Idx) (a : Fin s.rank) :
    ((Rect.unit off size h).emb y a).val = off a + (y a).val := by
  show off a + 1 * (y a).val = _
  rw [Nat.one_mul]

theorem row_read (D : Nat → Nat → F .f32) (row : BitVec 32) (ro k : Nat) (hro : (Scalar.indexCast row).toNat = ro) (hin : ∀ a, rowOff row k a + S1x16.size a ≤ S32x768.size a) :
    (shapeCast S16 (fun y => c2 D ((Rect.unit (s := S32x768) (rowOff row k) S1x16.size hin).emb y)) shapeCasts_S1x16_S16 : FVec F S16 .f32) = rowVec D ro k := by
  funext y
  refine (shapeCast_dropUnit_apply (n := 1) ![16] _ _ y).trans ?_
  show D _ _ = D _ _
  rw [unit_emb_val, unit_emb_val]
  subst hro
  rfl

variable (dbuf : Memref sig .scVector .vmem S32x768 .f32) (racc : Memref sig .scVector .vmem S3072 .f32)

theorem addRow_spec {β : Type} {D : Nat → Nat → F .f32} (row : BitVec 32) (ro : Nat) (hro : (Scalar.indexCast row).toNat = ro)
    (hin : ∀ k < 48, ∀ a, rowOff row k a + S1x16.size a ≤ S32x768.size a) (g : Nat → FVec F S16 .f32) {Q : β → SP F} :
    ∀ (n k : Nat) (h : k + n < 48) (K : Tup (FVec F S16 .f32) n → PG F i β),
    own d i dbuf fullShare (c2 D) ⊢ iprop((own d i dbuf fullShare (c2 D) -∗ wpI d i (K (Tup.mk (fun k => addf (g k) (rowVec D ro k)) n k)) Q)
      -∗ wpI d i (addRow i dbuf row hin n k h (Tup.mk g n k) K) Q)
  | 0, k, h, K => by
    have h := wpI_load d i (m := dbuf) (r := Rect.unit (s := S32x768) (rowOff row k) S1x16.size (hin k (by omega))) (hl := View.loadsAt_vmem h_S1x16)
      (q := fullShare) (x := c2 D) (Q := Q) (k := fun x => K (addf (g k) (shapeCast S16 x shapeCasts_S1x16_S16)))
    rw [row_read D row ro k hro] at h
    exact h
  | n + 1, k, h, K => by
    have h1 := wpI_load d i (m := dbuf) (r := Rect.unit (s := S32x768) (rowOff row k) S1x16.size (hin k (by omega))) (hl := View.loadsAt_vmem h_S1x16)
      (q := fullShare) (x := c2 D) (Q := Q) (k := fun x => addRow i dbuf row hin n (k + 1) (by omega) (Tup.mk g n (k + 1)) fun r => K (addf (g k) (shapeCast S16 x shapeCasts_S1x16_S16), r))
    rw [row_read D row ro k hro] at h1
    have h2 := addRow_spec (D := D) row ro hro hin g (Q := Q) n (k + 1) (by omega) (fun r => K (addf (g k) (rowVec D ro k), r))
    iintro H HK
    iapply h1 $$ H
    iintro H
    iapply h2 $$ H
    iexact HK

/-- A lane. -/
def lane (k : Nat) (h : k < 16) : S16.Idx := fun a => match a with | ⟨0, _⟩ => ⟨k, h⟩

/-- Columns `b + 16 lo … b + 16 hi` replaced by vectors `g lo, …`. -/
def rowPut (A : Nat → F .f32) (b lo hi : Nat) (g : Nat → FVec F S16 .f32) : Nat → F .f32 :=
  fun y => if b + 16 * lo ≤ y ∧ y < b + 16 * hi then g ((y - b) / 16) (lane ((y - b) % 16) (Nat.mod_lt _ (by decide))) else A y

theorem acc_at {base : BitVec 32} {b k : Nat} (hb : accOff base k 0 = b + 16 * k) (hin : ∀ a, accOff base k a + S16.size a ≤ S3072.size a)
    (j : (Rect.unit (s := S3072) (accOff base k) S16.size hin).shape.Idx) :
    ((Rect.unit (s := S3072) (accOff base k) S16.size hin).emb j 0).val = b + 16 * k + (j 0).val := by
  rw [unit_emb_val, hb]

theorem s16_lt (j : S16.Idx) : (j 0).val < 16 := (j 0).isLt

theorem s16_ext {j j' : S16.Idx} (h : (j 0).val = (j' 0).val) : j = j' := by
  funext a; match a with | ⟨0, _⟩ => exact Fin.ext h

theorem rowPut_at (A : Nat → F .f32) (b k l : Nat) (w : Nat → FVec F S16 .f32) (h : l < 16) :
    rowPut A b k (k + 1) w (b + 16 * k + l) = w k (lane l h) := by
  rw [rowPut, if_pos (by omega)]
  have e1 : (b + 16 * k + l - b) / 16 = k := by omega
  have e2 : (b + 16 * k + l - b) % 16 = l := by omega
  rw [e1]; exact congrArg (w k) (s16_ext e2)

/-- One store of 16 lanes of a bucket's row. -/
theorem store_at {β : Type} {A : Nat → F .f32} (base : BitVec 32) (b k : Nat) (hb : accOff base k 0 = b + 16 * k)
    (hin : ∀ a, accOff base k a + S16.size a ≤ S3072.size a) (w : Nat → FVec F S16 .f32) {Q : β → SP F} {K : PUnit → PG F i β} {hx hm} :
    own d i racc fullShare (c1 A) ⊢ iprop((own d i racc fullShare (c1 (rowPut A b k (k + 1) w)) -∗ wpI d i (K ⟨⟩) Q)
      -∗ wpI d i (Prog.lift (.store racc (Rect.unit (s := S3072) (accOff base k) S16.size hin) (w k) Finset.univ hx hm) >>= K) Q) := by
  refine wpI_store d i (m := racc) (r := Rect.unit (s := S3072) (accOff base k) S16.size hin) (w := w k) (hx := hx) (hm := hm) (k := K) (x := c1 A) (Q := Q) (c1 (rowPut A b k (k + 1) w)) (fun j => ?_) (fun j hj => ?_)
  · have hl : (j 0).val < 16 := (j 0).isLt
    have e3 : lane (j 0).val hl = j := by funext a; match a with | ⟨0, _⟩ => rfl
    have e4 := congrArg (rowPut A b k (k + 1) w) (acc_at hb hin j)
    have e5 := rowPut_at A b k (j 0).val w hl
    exact e4.trans (e5.trans (congrArg (w k) e3))
  · show rowPut A b k (k + 1) w _ = A _
    rw [rowPut, if_neg]
    rintro ⟨h1, h2⟩
    have h3 : (j 0).val - (b + 16 * k) < 16 := by omega
    have h4 : b + 16 * k + ((j 0).val - (b + 16 * k)) = (j 0).val := by omega
    refine hj (lane _ h3) ?_
    funext a; match a with
    | ⟨0, _⟩ => exact Fin.ext (h4.symm.trans (acc_at hb hin (lane _ h3)).symm)

theorem rowPut_step {A : Nat → F .f32} {b k hi : Nat} {g : Nat → FVec F S16 .f32} (h : k + 1 ≤ hi) :
    rowPut (rowPut A b k (k + 1) g) b (k + 1) hi g = rowPut A b k hi g := by
  funext y
  simp only [rowPut]
  rcases Classical.em (b + 16 * (k + 1) ≤ y ∧ y < b + 16 * hi) with h1 | h1
  · rw [if_pos h1, if_pos (by omega)]
  · rw [if_neg h1]
    rcases Classical.em (b + 16 * k ≤ y ∧ y < b + 16 * (k + 1)) with h2 | h2
    · rw [if_pos h2, if_pos (by omega)]
    · rw [if_neg h2, if_neg (by omega)]

theorem putRow_spec {β : Type} (base : BitVec 32) (b : Nat) (hb : ∀ k < 48, accOff base k 0 = b + 16 * k)
    (hin : ∀ k < 48, ∀ a, accOff base k a + S16.size a ≤ S3072.size a) (g : Nat → FVec F S16 .f32) {Q : β → SP F} (K : PG F i β) :
    ∀ (n k : Nat) (h : k + n < 48) (A : Nat → F .f32),
    own d i racc fullShare (c1 A) ⊢ iprop((own d i racc fullShare (c1 (rowPut A b k (k + n + 1) g)) -∗ wpI d i K Q)
      -∗ wpI d i (putRow i racc base hin n k h (Tup.mk g n k) K) Q)
  | 0, k, h, A => by
    iintro H HK
    unfold putRow
    iapply (wpI_load d i) $$ H
    iintro H
    iapply (store_at d i racc base b k (hb k (by omega)) (hin k (by omega)) (fun k => shapeCast S16 (g k) shapeCasts_S16_S16)) $$ H
    simp only [shapeCast_self]
    iexact HK
  | n + 1, k, h, A => by
    have h2 := putRow_spec base b hb hin g (Q := Q) K n (k + 1) (by omega) (rowPut A b k (k + 1) g)
    rw [rowPut_step (by omega), show k + 1 + n + 1 = k + (n + 1) + 1 by omega] at h2
    iintro H HK
    unfold putRow
    iapply (wpI_load d i) $$ H
    iintro H
    iapply (store_at d i racc base b k (hb k (by omega)) (hin k (by omega)) (fun k => shapeCast S16 (g k) shapeCasts_S16_S16)) $$ H
    simp only [shapeCast_self]
    iintro H
    iapply h2 $$ H
    iexact HK

/-- The columns of a bucket's row, 16 at a time. -/
def accVec (A : Nat → F .f32) (b k : Nat) : FVec F S16 .f32 := fun y => A (b + 16 * k + (y 0).val)

theorem acc_read (A : Nat → F .f32) {base : BitVec 32} {b k : Nat} (hb : accOff base k 0 = b + 16 * k) (hin : ∀ a, accOff base k a + S16.size a ≤ S3072.size a) :
    (shapeCast S16 (fun y => c1 A ((Rect.unit (s := S3072) (accOff base k) S16.size hin).emb y)) shapeCasts_S16_S16 : FVec F S16 .f32) = accVec A b k := by
  refine (shapeCast_self (s := S16) _ _).trans ?_
  funext y
  exact congrArg A (acc_at hb hin y)

theorem opRow_spec {β : Type} (op : FVec F S16 .f32 → FVec F S16 .f32 → FVec F S16 .f32) (base : BitVec 32) (b : Nat) (hb : ∀ k < 48, accOff base k 0 = b + 16 * k)
    (hin : ∀ k < 48, ∀ a, accOff base k a + S16.size a ≤ S3072.size a) (g : Nat → FVec F S16 .f32) {Q : β → SP F} (K : PG F i β) :
    ∀ (n k : Nat) (h : k + n < 48) (A A₀ : Nat → F .f32) (hA : ∀ y, b + 16 * k ≤ y → A y = A₀ y),
    own d i racc fullShare (c1 A) ⊢ iprop((own d i racc fullShare (c1 (rowPut A b k (k + n + 1) fun k => op (accVec A₀ b k) (g k))) -∗ wpI d i K Q)
      -∗ wpI d i (opRow i racc op base hin n k h (Tup.mk g n k) K) Q)
  | 0, k, h, A, A₀, hA => by
    have e : accVec A b k = accVec A₀ b k := by funext y; exact hA _ (by omega)
    iintro H HK
    unfold opRow
    iapply (wpI_load d i) $$ H
    iintro H
    iapply (wpI_load d i) $$ H
    iintro H
    have e2 := acc_read A (hb k (by omega)) (hin k (by omega))
    simp only [acc_read A (hb k (by omega)) (hin k (by omega)), e]
    iapply (store_at d i racc base b k (hb k (by omega)) (hin k (by omega)) (fun k => shapeCast S16 (op (accVec A₀ b k) (g k)) shapeCasts_S16_S16)) $$ H
    simp only [shapeCast_self]
    iexact HK
  | n + 1, k, h, A, A₀, hA => by
    have e : accVec A b k = accVec A₀ b k := by funext y; exact hA _ (by omega)
    have h2 := opRow_spec op base b hb hin g (Q := Q) K n (k + 1) (by omega) (rowPut A b k (k + 1) fun k => op (accVec A₀ b k) (g k)) A₀
      (fun y hy => by rw [rowPut, if_neg (by omega), hA y (by omega)])
    rw [rowPut_step (by omega), show k + 1 + n + 1 = k + (n + 1) + 1 by omega] at h2
    iintro H HK
    unfold opRow
    iapply (wpI_load d i) $$ H
    iintro H
    iapply (wpI_load d i) $$ H
    iintro H
    simp only [acc_read A (hb k (by omega)) (hin k (by omega)), e]
    iapply (store_at d i racc base b k (hb k (by omega)) (hin k (by omega)) (fun k => shapeCast S16 (op (accVec A₀ b k) (g k)) shapeCasts_S16_S16)) $$ H
    simp only [shapeCast_self]
    iintro H
    iapply h2 $$ H
    iexact HK

end Cert.Proof.Pool
-- ==== Proof.Match.lean ====
module

public import proofs.«01_k».proof.Proof.Generic

@[expose] public section

set_option maxHeartbeats 1000000

noncomputable section

namespace Cert.Proof.Pool

open Cert.KernelIdeal Cert.KernelIdeal.Gen
open Idealize.ShloMosaic Idealize.SL.Sem

variable {F : FTy → Type} [FloatOps F]

theorem rowAll (row : BitVec 32) (h : ∀ a, rowOff row 0 a + S1x16.size a ≤ S32x768.size a) :
    ∀ k < 48, ∀ a, rowOff row k a + S1x16.size a ≤ S32x768.size a := by
  intro k hk a
  have h0 := h 0
  match a with
  | ⟨0, _⟩ => exact h0
  | ⟨1, _⟩ => show 16 * k + 16 ≤ 768; omega

def halfP0 (t1 : Fin k0_t1_loop.trips) (s e hi lo : BitVec 32) (hw : k0_chk6 t1 s e hi lo) :
    MainHalves (b0Of t1) (tLo s e lo) (tLo s e hi) w0Of :=
  fun j =>
  { chk := k0_chk7 s e hi lo j
    dec := k0_chk7.dec s e hi lo j
    cur := k0_off10_inb t1 s e hi lo hw j
    nxt := k0_off11_inb t1 s e hi lo hw j
    ev := fun h4 t0 t1 hc h6 =>
      ⟨⟨k0_t5_ok s e hi lo j t0 t1 hc h4 h6, fun r => rowAll _ (k0_off14_inb s e hi lo j t0 t1 hc r h4 h6)⟩,
       ⟨k0_t6_ok s e hi lo j t0 t1 hc h4 h6, fun r => rowAll _ (k0_off62_inb s e hi lo j t0 t1 hc r h4 h6)⟩⟩ }

def halfP1 (t1 : Fin k0_t1_loop.trips) (s e hi lo : BitVec 32) (hw : k0_chk6 t1 s e hi lo) :
    MainHalves (b0Of t1) (tLo s e lo) (tLo s e hi) w1Of :=
  fun j =>
  { chk := k0_chk8 s e hi lo j
    dec := k0_chk8.dec s e hi lo j
    cur := k0_off112_inb t1 s e hi lo hw j
    nxt := k0_off113_inb t1 s e hi lo hw j
    ev := fun h4 t0 t1 hc h6 =>
      ⟨⟨k0_t8_ok s e hi lo j t0 t1 hc h4 h6, fun r => rowAll _ (k0_off116_inb s e hi lo j t0 t1 hc r h4 h6)⟩,
       ⟨k0_t9_ok s e hi lo j t0 t1 hc h4 h6, fun r => rowAll _ (k0_off164_inb s e hi lo j t0 t1 hc r h4 h6)⟩⟩ }

def halfP2 (t1 : Fin k0_t1_loop.trips) (s e hi lo : BitVec 32) (hw : k0_chk6 t1 s e hi lo) :
    RemHalves (b0Of t1) (tLo s e lo) (tLo s e hi) w0Of :=
  fun j =>
  { chk := k0_chk9 s e hi lo j
    dec := k0_chk9.dec s e hi lo j
    cur := k0_off214_inb t1 s e hi lo hw j
    nxt := k0_off215_inb t1 s e hi lo hw j
    ev := fun h4 t0 t1 hc h6 =>
      ⟨⟨k0_t12_ok s e hi lo j t0 t1 hc h4 h6, fun r => rowAll _ (k0_off218_inb s e hi lo j t0 t1 hc r h4 h6)⟩,
       ⟨k0_t13_ok s e hi lo j t0 t1 hc h4 h6, fun r => rowAll _ (k0_off266_inb s e hi lo j t0 t1 hc r h4 h6)⟩⟩ }

def halfP3 (t1 : Fin k0_t1_loop.trips) (s e hi lo : BitVec 32) (hw : k0_chk6 t1 s e hi lo) :
    RemHalves (b0Of t1) (tLo s e lo) (tLo s e hi) w1Of :=
  fun j =>
  { chk := k0_chk10 s e hi lo j
    dec := k0_chk10.dec s e hi lo j
    cur := k0_off316_inb t1 s e hi lo hw j
    nxt := k0_off317_inb t1 s e hi lo hw j
    ev := fun h4 t0 t1 hc h6 =>
      ⟨⟨k0_t15_ok s e hi lo j t0 t1 hc h4 h6, fun r => rowAll _ (k0_off320_inb s e hi lo j t0 t1 hc r h4 h6)⟩,
       ⟨k0_t16_ok s e hi lo j t0 t1 hc h4 h6, fun r => rowAll _ (k0_off368_inb s e hi lo j t0 t1 hc r h4 h6)⟩⟩ }

def halfQ0 (t1 : Fin k0_t1_loop.trips) (s e hi lo : BitVec 32) (hw : k0_chk16 t1 s e hi lo) :
    MainHalves (b1Of t1) (tLo s e lo) (tLo s e hi) w0Of :=
  fun j =>
  { chk := k0_chk17 s e hi lo j
    dec := k0_chk17.dec s e hi lo j
    cur := k0_off431_inb t1 s e hi lo hw j
    nxt := k0_off432_inb t1 s e hi lo hw j
    ev := fun h4 t0 t1 hc h6 =>
      ⟨⟨k0_t21_ok s e hi lo j t0 t1 hc h4 h6, fun r => rowAll _ (k0_off435_inb s e hi lo j t0 t1 hc r h4 h6)⟩,
       ⟨k0_t22_ok s e hi lo j t0 t1 hc h4 h6, fun r => rowAll _ (k0_off483_inb s e hi lo j t0 t1 hc r h4 h6)⟩⟩ }

def halfQ1 (t1 : Fin k0_t1_loop.trips) (s e hi lo : BitVec 32) (hw : k0_chk16 t1 s e hi lo) :
    MainHalves (b1Of t1) (tLo s e lo) (tLo s e hi) w1Of :=
  fun j =>
  { chk := k0_chk18 s e hi lo j
    dec := k0_chk18.dec s e hi lo j
    cur := k0_off533_inb t1 s e hi lo hw j
    nxt := k0_off534_inb t1 s e hi lo hw j
    ev := fun h4 t0 t1 hc h6 =>
      ⟨⟨k0_t24_ok s e hi lo j t0 t1 hc h4 h6, fun r => rowAll _ (k0_off537_inb s e hi lo j t0 t1 hc r h4 h6)⟩,
       ⟨k0_t25_ok s e hi lo j t0 t1 hc h4 h6, fun r => rowAll _ (k0_off585_inb s e hi lo j t0 t1 hc r h4 h6)⟩⟩ }

def halfQ2 (t1 : Fin k0_t1_loop.trips) (s e hi lo : BitVec 32) (hw : k0_chk16 t1 s e hi lo) :
    RemHalves (b1Of t1) (tLo s e lo) (tLo s e hi) w0Of :=
  fun j =>
  { chk := k0_chk19 s e hi lo j
    dec := k0_chk19.dec s e hi lo j
    cur := k0_off635_inb t1 s e hi lo hw j
    nxt := k0_off636_inb t1 s e hi lo hw j
    ev := fun h4 t0 t1 hc h6 =>
      ⟨⟨k0_t28_ok s e hi lo j t0 t1 hc h4 h6, fun r => rowAll _ (k0_off639_inb s e hi lo j t0 t1 hc r h4 h6)⟩,
       ⟨k0_t29_ok s e hi lo j t0 t1 hc h4 h6, fun r => rowAll _ (k0_off687_inb s e hi lo j t0 t1 hc r h4 h6)⟩⟩ }

def halfQ3 (t1 : Fin k0_t1_loop.trips) (s e hi lo : BitVec 32) (hw : k0_chk16 t1 s e hi lo) :
    RemHalves (b1Of t1) (tLo s e lo) (tLo s e hi) w1Of :=
  fun j =>
  { chk := k0_chk20 s e hi lo j
    dec := k0_chk20.dec s e hi lo j
    cur := k0_off737_inb t1 s e hi lo hw j
    nxt := k0_off738_inb t1 s e hi lo hw j
    ev := fun h4 t0 t1 hc h6 =>
      ⟨⟨k0_t31_ok s e hi lo j t0 t1 hc h4 h6, fun r => rowAll _ (k0_off741_inb s e hi lo j t0 t1 hc r h4 h6)⟩,
       ⟨k0_t32_ok s e hi lo j t0 t1 hc h4 h6, fun r => rowAll _ (k0_off789_inb s e hi lo j t0 t1 hc r h4 h6)⟩⟩ }

def phaseP (i : grid0.Coords) (t1 : Fin k0_t1_loop.trips) : Phase (b0Of t1) (v1Of i) where
  st := k0_off1_inb t1
  en := k0_off2_inb t1
  sg := k0_off3_inb t1
  ou := k0_off421_inb i t1
  chk := k0_chk6 t1
  dec := k0_chk6.dec t1
  ev := fun s e hi lo hw => (((halfP0 t1 s e hi lo hw, halfP1 t1 s e hi lo hw), (halfP2 t1 s e hi lo hw, halfP3 t1 s e hi lo hw)),
    ⟨k0_off9_inb t1 s e hi lo hw, k0_t3_ok t1 s e hi lo hw, k0_t10_ok t1 s e hi lo hw⟩)

def phaseQ (i : grid0.Coords) (t1 : Fin k0_t1_loop.trips) : Phase (b1Of t1) (v1Of i) where
  st := k0_off422_inb t1
  en := k0_off423_inb t1
  sg := k0_off424_inb t1
  ou := k0_off842_inb i t1
  chk := k0_chk16 t1
  dec := k0_chk16.dec t1
  ev := fun s e hi lo hw => (((halfQ0 t1 s e hi lo hw, halfQ1 t1 s e hi lo hw), (halfQ2 t1 s e hi lo hw, halfQ3 t1 s e hi lo hw)),
    ⟨k0_off430_inb t1 s e hi lo hw, k0_t19_ok t1 s e hi lo hw, k0_t26_ok t1 s e hi lo hw⟩)

section Eqs
variable (i : grid0.Coords) (arg2 : Memref sig .scVector .hbm S16x4096x768 .f32) (harg2 : arg2.IsWhole) (arg3 : Memref sig .scVector .hbm S48 .i32) (harg3 : arg3.IsWhole) (arg4 : Memref sig .scVector .hbm S65536 .i32) (harg4 : arg4.IsWhole) (arg5 : Memref sig .scVector .hbm S1572864 .f32) (harg5 : arg5.IsWhole) (arg6 : Memref sig .scVector .vmem S32x768 .f32) (harg6 : arg6.IsWhole) (arg7 : Memref sig .scVector .vmem S32x768 .f32) (harg7 : arg7.IsWhole) (arg8 : Memref sig .scVector .vmem S3072 .f32) (harg8 : arg8.IsWhole) (arg9 : Memref sig .scVector .vmem S3072 .f32) (harg9 : arg9.IsWhole) (arg10 : Memref sig .scVector .vmem S4112 .i32) (harg10 : arg10.IsWhole) (arg11 : Memref sig .scVector .vmem S4112 .i32) (harg11 : arg11.IsWhole) (arg12 : Memref sig .scVector .vmem S32 .i32) (harg12 : arg12.IsWhole) (arg13 : Memref sig .scVector .vmem S48 .i32) (harg13 : arg13.IsWhole) (arg14 : DmaSems sig S_) (arg15 : DmaSems sig S_) (arg16 : DmaSems sig S_) (arg17 : DmaSems sig S_) (arg18 : DmaSems sig S_) (arg19 : DmaSems sig S_) (v12_r0 : DmaSems sig S_)

theorem part231_eq (t1 : Fin k0_t1_loop.trips) :
    k0_part231 (F := F) i arg2 harg2 arg3 harg3 arg4 harg4 arg5 harg5 arg6 harg6 arg7 harg7 arg8 harg8 arg9 harg9 arg10 harg10 arg11 harg11 arg12 harg12 arg13 harg13 arg14 arg15 arg16 arg17 arg18 arg19 v12_r0 (v1Of i) 0#32 1#32 t1 =
      loads i arg13 (b0Of t1) (k0_off1_inb t1) (k0_off2_inb t1) fun s e =>
      findBounds i arg10 arg4 arg11 arg16 arg17 (b0Of t1) (v1Of i) (phaseP i t1) s e fun l hw =>
        pure ⟨Scf.iv 0#32 1#32 t1, b0Of t1, s, e, l.1, l.2.2.1, l.2.2.2.1, l.2.2.2.2.1, hw, tLo s e l.1, Scalar.maxsi l.2.1 s, Scalar.addi e 1#32⟩ := by
  unfold k0_part231 findBounds
  dsimp -zeta only [phaseP]
  rfl

theorem part232_eq (bw s e r2 r3 r4 v38 r1s e1 : BitVec 32) :
    k0_part232 (F := F) i arg2 harg2 arg3 harg3 arg4 harg4 arg5 harg5 arg6 harg6 arg7 harg7 arg8 harg8 arg9 harg9 arg10 harg10 arg11 harg11 arg12 harg12 arg13 harg13 arg14 arg15 arg16 arg17 arg18 arg19 v12_r0 (iota .scVector S16 32 [0] iota_S16_d0_w32_scVector) bw s e r2 r3 r4 v38 r1s e1 =
      putBounds i arg8 arg12 arg5 harg8 arg18 bw v38 (Scalar.minsi r1s e1) (tLo s e r2) (tLo s e r3) (tLo s e r4)
        (pure ⟨tLo s e r4, aOf v38, nOf v38 (tLo s e r4)⟩) := by
  rfl

theorem part233_eq (t1 : Fin k0_t1_loop.trips) (s e r0 r4 : BitVec 32) (hw : k0_chk6 t1 s e r4 r0) :
    k0_part233 (F := F) i arg2 harg2 arg3 harg3 arg4 harg4 arg5 harg5 arg6 harg6 arg7 harg7 arg8 harg8 arg9 harg9 arg10 harg10 arg11 harg11 arg12 harg12 arg13 harg13 arg14 arg15 arg16 arg17 arg18 arg19 v12_r0 (v1Of i) t1 (Scf.iv 0#32 1#32 t1) (b0Of t1) s e r0 r4 hw (tLo s e r0) (tLo s e r4) (aOf (tLo s e r0)) (nOf (tLo s e r0) (tLo s e r4)) =
      chunkLoop i arg8 arg12 arg2 arg6 arg7 harg6 harg7 arg14 arg15 (b0Of t1) (tLo s e r0) (tLo s e r4) ((phaseP i t1).ev s e r4 r0 hw)
        (sendOut i arg8 arg12 arg5 harg8 arg18 (b0Of t1) (v1Of i) (k0_off421_inb i t1)
          (loads i arg13 (b1Of t1) (k0_off422_inb t1) (k0_off423_inb t1) fun s' e' => pure ⟨b1Of t1, s', e'⟩)) := by
  unfold k0_part233 chunkLoop half bucketLoop
  dsimp -zeta only [phaseP, halfP0, halfP1, halfP2, halfP3]
  rfl

theorem part234_eq (t1 : Fin k0_t1_loop.trips) (s e : BitVec 32) :
    k0_part234 (F := F) i arg2 harg2 arg3 harg3 arg4 harg4 arg5 harg5 arg6 harg6 arg7 harg7 arg8 harg8 arg9 harg9 arg10 harg10 arg11 harg11 arg12 harg12 arg13 harg13 arg14 arg15 arg16 arg17 arg18 arg19 v12_r0 (v1Of i) (iota .scVector S16 32 [0] iota_S16_d0_w32_scVector) t1 (b1Of t1) s e =
      findBounds i arg11 arg4 arg10 arg17 arg16 (b1Of t1) (v1Of i) (phaseQ i t1) s e fun l hw =>
        pure ⟨l.1, l.2.2.2.2.1, hw, tLo s e l.1, tLo s e l.2.2.1, tLo s e l.2.2.2.1, tLo s e l.2.2.2.2.1,
          select (cmpi .eq (iota .scVector S16 32 [0] iota_S16_d0_w32_scVector) (broadcast S16 1#32)) (broadcast S16 (tLo s e l.2.1))
            (select (cmpi .eq (iota .scVector S16 32 [0] iota_S16_d0_w32_scVector) (broadcast S16 0#32)) (broadcast S16 (tLo s e l.1)) (broadcast S16 (tLo s e l.2.2.2.2.1)))⟩ := by
  unfold k0_part234 findBounds
  dsimp -zeta only [phaseQ]
  rfl

theorem part235_eq (t1 : Fin k0_t1_loop.trips) (s e r0 r4 b1 b2 b3 : BitVec 32) (hw : k0_chk16 t1 s e r4 r0) :
    k0_part235 (F := F) i arg2 harg2 arg3 harg3 arg4 harg4 arg5 harg5 arg6 harg6 arg7 harg7 arg8 harg8 arg9 harg9 arg10 harg10 arg11 harg11 arg12 harg12 arg13 harg13 arg14 arg15 arg16 arg17 arg18 arg19 v12_r0 (iota .scVector S16 32 [0] iota_S16_d0_w32_scVector) t1 (b1Of t1) s e r0 r4 hw (tLo s e r0) b2 b3 (tLo s e r4)
        (select (cmpi .eq (iota .scVector S16 32 [0] iota_S16_d0_w32_scVector) (broadcast S16 1#32)) (broadcast S16 b1)
            (select (cmpi .eq (iota .scVector S16 32 [0] iota_S16_d0_w32_scVector) (broadcast S16 0#32)) (broadcast S16 (tLo s e r0)) (broadcast S16 (tLo s e r4)))) =
      putBounds i arg9 arg12 arg5 harg9 arg19 (b1Of t1) (tLo s e r0) b1 b2 b3 (tLo s e r4)
        (chunkLoop i arg9 arg12 arg2 arg6 arg7 harg6 harg7 arg14 arg15 (b1Of t1) (tLo s e r0) (tLo s e r4) ((phaseQ i t1).ev s e r4 r0 hw)
          (pure ⟨fconst 0x3F800000#32, 0#32, 1#32⟩)) := by
  unfold k0_part235 putBounds chunkLoop half bucketLoop
  dsimp -zeta only [phaseQ, halfQ0, halfQ1, halfQ2, halfQ3]
  rfl

end Eqs

end Cert.Proof.Pool
-- ==== Proof.Words.lean ====
module

public import proofs.«01_k».proof.Proof.Generic
public import Idealize.ShloMosaic.Lib.WordArith

@[expose] public section

noncomputable section

namespace Cert.Proof.Pool

open Cert.KernelIdeal Cert.KernelIdeal.Gen
open Idealize.ShloMosaic Idealize.SL.Sem

/-! ## Words as integers -/

theorem addi_i {x y : BitVec 32} (h : -2 ^ 31 ≤ x.toInt + y.toInt ∧ x.toInt + y.toInt < 2 ^ 31) : (Scalar.addi x y).toInt = x.toInt + y.toInt :=
  WordArith.toInt_add_of_bounds x y h.1 h.2
theorem subi_i {x y : BitVec 32} (h : -2 ^ 31 ≤ x.toInt - y.toInt ∧ x.toInt - y.toInt < 2 ^ 31) : (Scalar.subi x y).toInt = x.toInt - y.toInt :=
  WordArith.toInt_sub_of_bounds x y h.1 h.2
theorem muli_i {x y : BitVec 32} (h : -2 ^ 31 ≤ x.toInt * y.toInt ∧ x.toInt * y.toInt < 2 ^ 31) : (Scalar.muli x y).toInt = x.toInt * y.toInt :=
  WordArith.toInt_mul_of_bounds x y h.1 h.2

theorem minsi_i (x y : BitVec 32) : (Scalar.minsi x y).toInt = min x.toInt y.toInt := by
  unfold Scalar.minsi IntOp.minsi
  have := BitVec.slt_iff_toInt_lt (x := x) (y := y)
  split <;> simp_all <;> omega
theorem maxsi_i (x y : BitVec 32) : (Scalar.maxsi x y).toInt = max x.toInt y.toInt := by
  unfold Scalar.maxsi IntOp.maxsi
  have := BitVec.slt_iff_toInt_lt (x := y) (y := x)
  split <;> simp_all <;> omega

theorem tst_iff (p : BitVec 1) : tst p = 1#1 ↔ p = 1#1 := by revert p; decide
theorem ofBool_iff (b : Bool) : BitVec.ofBool b = 1#1 ↔ b = true := by cases b <;> decide

theorem sgt_iff (x y : BitVec 32) : Scalar.cmpi .sgt x y = 1#1 ↔ y.toInt < x.toInt :=
  (ofBool_iff _).trans BitVec.slt_iff_toInt_lt
theorem slt_iff (x y : BitVec 32) : Scalar.cmpi .slt x y = 1#1 ↔ x.toInt < y.toInt :=
  (ofBool_iff _).trans BitVec.slt_iff_toInt_lt
theorem sge_iff (x y : BitVec 32) : Scalar.cmpi .sge x y = 1#1 ↔ y.toInt ≤ x.toInt :=
  (ofBool_iff _).trans BitVec.sle_iff_toInt_le

theorem select_eq {α : Type} {c : BitVec 1} {P : Prop} [Decidable P] (h : c = 1#1 ↔ P) (a b : α) : Scalar.select c a b = if P then a else b := by
  unfold Scalar.select
  rcases Classical.em P with hp | hp
  · exact (if_pos (h.mpr hp)).trans (if_pos hp).symm
  · exact (if_neg (fun e => hp (h.mp e))).trans (if_neg hp).symm

theorem toNat_i {x : BitVec 32} (h : 0 ≤ x.toInt) : (x.toNat : Int) = x.toInt := by
  rw [BitVec.toInt_eq_toNat_cond] at h ⊢
  have := x.isLt
  split <;> omega

theorem shr_i (x : BitVec 32) (k : BitVec 32) (n : Nat) (hk : k.toNat = n) (hn : n < 32) : (Scalar.shrsi x k).toInt = x.toInt / 2 ^ n := by
  unfold Scalar.shrsi IntOp.shrsi
  rw [if_pos (by omega)]
  unfold BitVec.sshiftRight'
  rw [hk, BitVec.toInt_sshiftRight, Int.shiftRight_eq_div_pow]
  norm_cast

theorem ofNat_i (n : Nat) (h : n < 2 ^ 31) : (BitVec.ofNat 32 n).toInt = n := WordArith.toInt_ofNat_small n h

theorem mask_i {x : BitVec 32} (h : 0 ≤ x.toInt) : (Scalar.andi x 4294967280#32).toInt = x.toInt / 16 * 16 := by
  have e : Scalar.andi x 4294967280#32 = (x >>> 4) <<< 4 := by
    show x &&& 4294967280#32 = _
    refine BitVec.eq_of_getLsbD_eq fun i hi => ?_
    rw [show (4294967280#32 : BitVec 32) = (BitVec.allOnes 32) <<< 4 by decide]
    simp only [BitVec.getLsbD_and, BitVec.getLsbD_shiftLeft, BitVec.getLsbD_ushiftRight, BitVec.getLsbD_allOnes]
    rcases Classical.em (i < 4) with h4 | h4
    · simp [h4]
    · simp [h4, hi]
      rw [show decide (i - 4 < 32) = true by simp; omega, Bool.and_true, show 4 + (i - 4) = i by omega, BitVec.getLsbD_eq_getElem hi]
  have hx := toNat_i h
  have hlt := x.isLt
  have h2 : x.toNat < 2 ^ 31 := by rw [BitVec.toInt_eq_toNat_cond] at h; split at h <;> omega
  have e2 : (Scalar.andi x 4294967280#32).toNat = x.toNat / 16 * 16 := by
    rw [e, BitVec.toNat_shiftLeft, BitVec.toNat_ushiftRight, Nat.shiftLeft_eq, Nat.shiftRight_eq_div_pow]
    omega
  rw [BitVec.toInt_eq_toNat_cond, if_pos (by omega), e2]
  omega

/-- The loop of a count. -/
theorem mainLoop_eq (c : BitVec 32) : mainLoop c = ⟨0#32, c, 1#32⟩ := by
  unfold mainLoop
  rw [Scalar.muli_divsi_one]
  simp [Scalar.addi, Scalar.subi, IntOp.addi, IntOp.subi]

theorem main_trips (c : BitVec 32) : (mainLoop c).trips = c.toInt.toNat := by
  rw [mainLoop_eq]
  unfold Scf.Loop.trips Scf.trips
  simp

theorem main_ok (c : BitVec 32) : (mainLoop c).OK := by
  have := main_trips c
  unfold Scf.Loop.trips at this
  refine ⟨by rw [mainLoop_eq]; show (0:Int) < (1#32).toInt; decide, ?_⟩
  rw [this, mainLoop_eq]
  have := c.toInt_lt
  simp
  omega

theorem rem_trips0 (c : BitVec 32) : (remLoop c).trips = 0 := Scf.rem_trips 0#32 (Scalar.subi c 0#32)
theorem rem_ok (c : BitVec 32) : (remLoop c).OK := Scf.rem_ok 0#32 (Scalar.subi c 0#32)

theorem iv01 (k : Nat) : Scf.iv 0#32 1#32 k = BitVec.ofNat 32 k := by simp [Scf.iv]

/-! ## One sentence's numbers -/

/-- A word of a known value. -/
def Is (x : BitVec 32) (n : Nat) : Prop := x.toInt = n

theorem Is.ofNat (n : Nat) (h : n < 2 ^ 31) : Is (BitVec.ofNat 32 n) n := ofNat_i n h
theorem Is.toNat {x : BitVec 32} {n : Nat} (h : Is x n) : x.toNat = n := by
  have h' : x.toInt = n := h
  have := toNat_i (x := x) (by omega); omega
theorem Is.add {x y : BitVec 32} {a b : Nat} (hx : Is x a) (hy : Is y b) (h : a + b < 2 ^ 31) : Is (Scalar.addi x y) (a + b) := by
  unfold Is at *; rw [addi_i (by omega)]; omega
theorem Is.mul {x y : BitVec 32} {a b : Nat} (hx : Is x a) (hy : Is y b) (h : a * b < 2 ^ 31) : Is (Scalar.muli x y) (a * b) := by
  have e : x.toInt * y.toInt = ((a * b : Nat) : Int) := by unfold Is at *; rw [hx, hy]; push_cast; rfl
  unfold Is; rw [muli_i (by omega), e]
theorem Is.sub {x y : BitVec 32} {a b : Nat} (hx : Is x a) (hy : Is y b) (h : b ≤ a) (h' : a < 2 ^ 31) : Is (Scalar.subi x y) (a - b) := by
  unfold Is at *; rw [subi_i (by omega)]; omega
theorem Is.min {x y : BitVec 32} {a b : Nat} (hx : Is x a) (hy : Is y b) : Is (Scalar.minsi x y) (min a b) := by
  unfold Is at *; rw [minsi_i]; omega
theorem Is.max {x y : BitVec 32} {a b : Nat} (hx : Is x a) (hy : Is y b) : Is (Scalar.maxsi x y) (max a b) := by
  unfold Is at *; rw [maxsi_i]; omega
theorem Is.shr {x : BitVec 32} {a : Nat} (hx : Is x a) (k : BitVec 32) (n : Nat) (hk : k.toNat = n) (hn : n < 32) : Is (Scalar.shrsi x k) (a / 2 ^ n) := by
  unfold Is at *; rw [shr_i x k n hk hn, hx]; norm_cast
theorem Is.mask {x : BitVec 32} {a : Nat} (hx : Is x a) : Is (Scalar.andi x 4294967280#32) (a / 16 * 16) := by
  unfold Is at *; rw [mask_i (by omega)]; omega
theorem Is.sgt {x y : BitVec 32} {a b : Nat} (hx : Is x a) (hy : Is y b) : tst (Scalar.cmpi .sgt x y) = 1#1 ↔ b < a := by
  unfold Is at *; rw [tst_iff, sgt_iff]; omega
theorem Is.slt {x y : BitVec 32} {a b : Nat} (hx : Is x a) (hy : Is y b) : tst (Scalar.cmpi .slt x y) = 1#1 ↔ a < b := by
  unfold Is at *; rw [tst_iff, slt_iff]; omega
theorem Is.sge {x y : BitVec 32} {a b : Nat} (hx : Is x a) (hy : Is y b) : tst (Scalar.cmpi .sge x y) = 1#1 ↔ b ≤ a := by
  unfold Is at *; rw [tst_iff, sge_iff]; omega

/-- A search's result brought into the sentence's span. -/
def clamp (s e r : Nat) : Nat := min (max r s) (e + 1)
/-- The first staged token, the number of chunks, a chunk's first token and the first one staged of it. -/
def aN (T0 : Nat) : Nat := T0 / 16 * 16
def nN (T0 T1 : Nat) : Nat := if T0 < T1 then (T1 - aN T0 + 31) / 32 else 0
def puN (T0 i : Nat) : Nat := aN T0 + i * 32
def plN (T0 i : Nat) : Nat := min (puN T0 i) 4064

section
variable {s e r : BitVec 32} {sN eN rN : Nat}
theorem is_tLo (hs : Is s sN) (he : Is e eN) (hr : Is r rN) (h : eN < 4096) : Is (tLo s e r) (clamp sN eN rN) :=
  (hr.max hs).min (he.add (Is.ofNat 1 (by decide)) (by omega))
end

section
variable {tlo thi w t0 t1 : BitVec 32} {T0 T1 i a b : Nat}
theorem is_aOf (h : Is tlo T0) : Is (aOf tlo) (aN T0) := h.mask
theorem aN_le (T0 : Nat) : aN T0 ≤ T0 := by unfold aN; omega
theorem is_nOf (h0 : Is tlo T0) (h1 : Is thi T1) (hT1 : T1 ≤ 4096) : Is (nOf tlo thi) (nN T0 T1) := by
  have ha := aN_le T0
  have hs : Scalar.cmpi .sgt thi tlo = 1#1 ↔ T0 < T1 := by unfold Is at *; rw [sgt_iff]; omega
  unfold nOf nN
  rw [select_eq hs]
  split
  · exact (((h1.sub (is_aOf h0) (by omega) (by omega)).add (Is.ofNat 31 (by decide)) (by omega)).shr _ 5 rfl (by decide))
  · exact Is.ofNat 0 (by decide)
theorem nN_le (hT1 : T1 ≤ 4096) : nN T0 T1 ≤ 128 := by unfold nN; split <;> omega
theorem is_puOf (h0 : Is tlo T0) (hw : Is w i) (hT0 : T0 ≤ 4096) (hi : i ≤ 200) : Is (puOf tlo w) (puN T0 i) := by
  have ha := aN_le T0
  exact (is_aOf h0).add (hw.mul (Is.ofNat 32 (by decide)) (by omega)) (by omega)
theorem is_plOf (h0 : Is tlo T0) (hw : Is w i) (hT0 : T0 ≤ 4096) (hi : i ≤ 200) : Is (plOf tlo w) (plN T0 i) :=
  (is_puOf h0 hw hT0 hi).min (Is.ofNat 4064 (by decide))
theorem plN_le (T0 i : Nat) : plN T0 i ≤ puN T0 i := by unfold plN; omega
theorem is_loOf (h0 : Is tlo T0) (hw : Is w i) (hT0 : T0 ≤ 4096) (hi : i ≤ 200) (ht : Is t0 a) (ha : a ≤ 4096) :
    Is (loOf tlo w t0) (max a (max T0 (puN T0 i)) - plN T0 i) := by
  have := plN_le T0 i
  have := aN_le T0
  have : puN T0 i ≤ 4096 + 200 * 32 := by unfold puN; omega
  exact (ht.max (h0.max (is_puOf h0 hw hT0 hi))).sub (is_plOf h0 hw hT0 hi) (by omega) (by omega)
theorem hiOf_i (h0 : Is tlo T0) (h1 : Is thi T1) (hw : Is w i) (hT0 : T0 ≤ 4096) (hT1 : T1 ≤ 4096) (hi : i ≤ 200) (ht : Is t1 b) (hb : b ≤ 4096) :
    (hiOf tlo thi w t1).toInt = (min b (min T1 (puN T0 i + 32)) : Nat) - (plN T0 i : Int) := by
  have := plN_le T0 i
  have := aN_le T0
  have : puN T0 i ≤ 4096 + 200 * 32 := by unfold puN; omega
  have e1 : Is (Scalar.minsi t1 (Scalar.minsi thi (Scalar.addi (puOf tlo w) 32#32))) _ :=
    ht.min (h1.min ((is_puOf h0 hw hT0 hi).add (Is.ofNat 32 (by decide)) (by omega)))
  have e2 := is_plOf h0 hw hT0 hi
  unfold Is at e1 e2
  unfold hiOf
  rw [subi_i (by omega), e1, e2]

theorem bucket_iff (h0 : Is tlo T0) (h1 : Is thi T1) (hw : Is w i) (hT0 : T0 ≤ 4096) (hT1 : T1 ≤ 4096) (hi : i ≤ 200) (ht0 : Is t0 a) (ha : a ≤ 4096) (ht1 : Is t1 b) (hb : b ≤ 4096) :
    bucketCond tlo thi w t0 t1 = 1#1 ↔ max a (max T0 (puN T0 i)) < min b (min T1 (puN T0 i + 32)) := by
  have := plN_le T0 i
  have e1 := is_loOf h0 hw hT0 hi ht0 ha
  unfold bucketCond
  rw [tst_iff, sgt_iff, hiOf_i h0 h1 hw hT0 hT1 hi ht1 hb]
  unfold Is at e1
  omega

theorem is_cnt (h0 : Is tlo T0) (h1 : Is thi T1) (hw : Is w i) (hT0 : T0 ≤ 4096) (hT1 : T1 ≤ 4096) (hi : i ≤ 200) (ht0 : Is t0 a) (ha : a ≤ 4096) (ht1 : Is t1 b) (hb : b ≤ 4096)
    (hc : bucketCond tlo thi w t0 t1 = 1#1) : Is (cntOf tlo thi w t0 t1) (min b (min T1 (puN T0 i + 32)) - max a (max T0 (puN T0 i))) := by
  have hc' := (bucket_iff h0 h1 hw hT0 hT1 hi ht0 ha ht1 hb).mp hc
  have := plN_le T0 i
  have e1 := is_loOf h0 hw hT0 hi ht0 ha
  have e2 := hiOf_i h0 h1 hw hT0 hT1 hi ht1 hb
  have : puN T0 i ≤ 4096 + 200 * 32 := by have := aN_le T0; unfold puN; omega
  unfold Is at e1 ⊢
  unfold cntOf
  rw [subi_i (by omega), e1, e2]
  omega

theorem row_in (h : i ≤ 31) (k : Nat) (hk : k + 16 ≤ 768) : ∀ a, (![i, k] : Fin 2 → Nat) a + S1x16.size a ≤ S32x768.size a := by
  intro a; fin_cases a
  · show i + 1 ≤ 32; omega
  · show k + 16 ≤ 768; omega

/-- The rows a bucket takes of a chunk are the staging buffer's. -/
theorem rowsOK (h0 : Is tlo T0) (h1 : Is thi T1) (hw : Is w i) (hT0 : T0 ≤ 4096) (hT1 : T1 ≤ 4096) (hi : i ≤ 200) (ht0 : Is t0 a) (ha : a ≤ 4096) (ht1 : Is t1 b) (hb : b ≤ 4096)
    (hc : bucketCond tlo thi w t0 t1 = 1#1) :
    (mainLoop (cntOf tlo thi w t0 t1)).trips = min b (min T1 (puN T0 i + 32)) - max a (max T0 (puN T0 i)) ∧
    ∀ j, j < (mainLoop (cntOf tlo thi w t0 t1)).trips →
      (Scalar.indexCast (Scalar.addi (loOf tlo w t0) (Scf.iv 0#32 1#32 j))).toNat = max a (max T0 (puN T0 i)) + j - plN T0 i ∧ max a (max T0 (puN T0 i)) + j - plN T0 i ≤ 31 := by
  have hc' := (bucket_iff h0 h1 hw hT0 hT1 hi ht0 ha ht1 hb).mp hc
  have hle := plN_le T0 i
  have e1 := is_loOf h0 hw hT0 hi ht0 ha
  have e3 := is_cnt h0 h1 hw hT0 hT1 hi ht0 ha ht1 hb hc
  have : puN T0 i ≤ 4096 + 200 * 32 := by have := aN_le T0; unfold puN; omega
  have ht : (mainLoop (cntOf tlo thi w t0 t1)).trips = min b (min T1 (puN T0 i + 32)) - max a (max T0 (puN T0 i)) := by
    rw [main_trips]; unfold Is at e3; omega
  refine ⟨ht, fun j hj => ?_⟩
  rw [ht] at hj
  have e4 := e1.add (Is.ofNat j (by omega)) (by omega)
  rw [iv01]
  refine ⟨e4.toNat.trans (by omega), ?_⟩
  unfold plN at *
  omega

theorem rowsOK' (h0 : Is tlo T0) (h1 : Is thi T1) (hw : Is w i) (hT0 : T0 ≤ 4096) (hT1 : T1 ≤ 4096) (hi : i ≤ 200) (ht0 : Is t0 a) (ha : a ≤ 4096) (ht1 : Is t1 b) (hb : b ≤ 4096)
    (hc : bucketCond tlo thi w t0 t1 = 1#1) (j : Fin (mainLoop (cntOf tlo thi w t0 t1)).trips) (k : Nat) (hk : k + 16 ≤ 768) :
    ∀ a, (![(Scalar.indexCast (Scalar.addi (loOf tlo w t0) (Scf.iv 0#32 1#32 j))).toNat, k] : Fin 2 → Nat) a + S1x16.size a ≤ S32x768.size a := by
  obtain ⟨h, h'⟩ := (rowsOK h0 h1 hw hT0 hT1 hi ht0 ha ht1 hb hc).2 j j.isLt
  rw [h]
  exact row_in h' k hk
end

end Cert.Proof.Pool
-- ==== Proof.Checks.lean ====
module

public import proofs.«01_k».proof.Proof.Match
public import proofs.«01_k».proof.Proof.Words

@[expose] public section

set_option maxHeartbeats 1000000

noncomputable section

namespace Cert.Proof.Pool

open Cert.KernelIdeal Cert.KernelIdeal.Gen
open Idealize.ShloMosaic Idealize.SL.Sem

/-! ## What the body checks of the words it loads -/

theorem dvd_of {x : BitVec 32} {n : Nat} (h : Is x n) (hd : n % 16 = 0) : 16 ∣ x.toNat := by
  rw [h.toNat]; omega

theorem wordsOK {bw p : BitVec 32} {b q : Nat} (hb : Is bw b) (hb' : b < 16) (hp : Is p q) (hq : q ≤ 4064) : WordsOK bw p := by
  intro a
  fin_cases a
  · show bw.toNat + 1 ≤ 16; rw [hb.toNat]; omega
  · show p.toNat + 32 ≤ 4096; rw [hp.toNat]; omega
  · show 0 + 768 ≤ 768; omega

/-- The two ends of a sentence's staged span, as numbers. -/
structure Ends (tlo thi : BitVec 32) (T0 T1 : Nat) : Prop where
  i0 : Is tlo T0
  i1 : Is thi T1
  l0 : T0 ≤ 4096
  l1 : T1 ≤ 4096
  ov : T0 < T1 → T0 < 4080

section
variable {tlo thi : BitVec 32} {T0 T1 : Nat} (E : Ends tlo thi T0 T1)
include E

theorem Ends.n : Is (nOf tlo thi) (nN T0 T1) := is_nOf E.i0 E.i1 E.l1
theorem Ends.trips : Is (tripsOf (nOf tlo thi)) ((nN T0 T1 + 1) / 2) := by
  have := nN_le (T0 := T0) E.l1
  exact ((E.n.add (Is.ofNat 1 (by decide)) (by omega)).shr _ 1 rfl (by decide))
theorem Ends.mainTrips : (mainLoop (tripsOf (nOf tlo thi))).trips = (nN T0 T1 + 1) / 2 := by
  have := E.trips
  unfold Is at this
  rw [main_trips, this]; rfl
theorem Ends.w0 (j : Fin (mainLoop (tripsOf (nOf tlo thi))).trips) : Is (w0Of (Scf.iv 0#32 1#32 j)) (2 * j) ∧ 2 * j.val ≤ 128 := by
  have hj : j.val < (nN T0 T1 + 1) / 2 := lt_of_lt_of_eq j.isLt E.mainTrips
  have := nN_le (T0 := T0) E.l1
  have h := (((Is.ofNat j (by omega)).mul (Is.ofNat 2 (by decide)) (by omega)).add (Is.ofNat 0 (by decide)) (by omega))
  rw [show j.val * 2 + 0 = 2 * j.val by omega] at h
  rw [iv01]
  exact ⟨h, by omega⟩
theorem Ends.w1 (j : Fin (mainLoop (tripsOf (nOf tlo thi))).trips) : Is (w1Of (Scf.iv 0#32 1#32 j)) (2 * j + 1) := by
  have hj := (E.w0 j).2
  have h := (((Is.ofNat j (by omega)).mul (Is.ofNat 2 (by decide)) (by omega)).add (Is.ofNat 1 (by decide)) (by omega))
  rw [show j.val * 2 + 1 = 2 * j.val + 1 by omega] at h
  rw [iv01]
  exact h
theorem Ends.first (h : tst (Scalar.cmpi .sgt (nOf tlo thi) 0#32) = 1#1) : 0 < nN T0 T1 ∧ T0 < T1 := by
  have := (Is.sgt E.n (Is.ofNat 0 (by decide))).mp h
  refine ⟨this, ?_⟩
  unfold nN at this; split at this <;> omega
theorem Ends.pl {w : BitVec 32} {i : Nat} (h : Is w i) (hi : i ≤ 200) : Is (plOf tlo w) (plN T0 i) := is_plOf E.i0 h E.l0 hi
theorem Ends.chunk {w : BitVec 32} {i : Nat} (h : Is w i) : chunkCond (nOf tlo thi) w = 1#1 ↔ i < nN T0 T1 := Is.slt h E.n
end

theorem pl_dvd (T0 i : Nat) : plN T0 i % 16 = 0 := by unfold plN puN aN; omega
theorem pl_le (T0 i : Nat) : plN T0 i ≤ 4064 := by unfold plN; omega

theorem is_b0 (t1 : Fin k0_t1_loop.trips) : Is (b0Of t1) (2 * t1) ∧ 2 * t1.val + 1 < 16 := by
  have ht : t1.val < 8 := t1.isLt
  have h := (((Is.ofNat t1 (by omega)).mul (Is.ofNat 2 (by decide)) (by omega)).add (Is.ofNat 0 (by decide)) (by omega))
  rw [show t1.val * 2 + 0 = 2 * t1.val by omega] at h
  unfold b0Of
  rw [iv01]
  exact ⟨h, by omega⟩
theorem is_b1 (t1 : Fin k0_t1_loop.trips) : Is (b1Of t1) (2 * t1 + 1) := by
  have ht : t1.val < 8 := t1.isLt
  have h := (((Is.ofNat t1 (by omega)).mul (Is.ofNat 2 (by decide)) (by omega)).add (Is.ofNat 1 (by decide)) (by omega))
  rw [show t1.val * 2 + 1 = 2 * t1.val + 1 by omega] at h
  unfold b1Of
  rw [iv01]
  exact h

theorem no_rem {c : BitVec 32} {α : Prop} (j : Fin (remLoop c).trips) : α := (Nat.not_lt_zero _ (lt_of_lt_of_eq j.isLt (rem_trips0 c))).elim

/-- The checks of one sentence's chunks. -/
def ChunkChk (bw tlo thi : BitVec 32) : Prop :=
  (tst (Scalar.cmpi .sgt (nOf tlo thi) 0#32) = 1#1 → 16 ∣ (aOf tlo).toNat) ∧
  (tst (Scalar.cmpi .sgt (nOf tlo thi) 0#32) = 1#1 → WordsOK bw (aOf tlo)) ∧
  (∀ w i, Is w i → i ≤ 200 → 16 ∣ (plOf tlo w).toNat) ∧
  (∀ w i, Is w i → i ≤ 200 → WordsOK bw (plOf tlo w))

theorem chunkChk {bw tlo thi : BitVec 32} {b T0 T1 : Nat} (hb : Is bw b) (hb' : b < 16) (E : Ends tlo thi T0 T1) : ChunkChk bw tlo thi := by
  refine ⟨fun h => dvd_of (is_aOf E.i0) (by unfold aN; omega), fun h => ?_, fun w i hw hi => dvd_of (E.pl hw hi) (pl_dvd _ _), fun w i hw hi => wordsOK hb hb' (E.pl hw hi) (pl_le _ _)⟩
  have := E.ov (E.first h).2
  exact wordsOK hb hb' (is_aOf E.i0) (by unfold aN; omega)

theorem is_nx {w : BitVec 32} {i : Nat} (h : Is w i) (hi : i ≤ 200) : Is (Scalar.addi w 1#32) (i + 1) := h.add (Is.ofNat 1 (by decide)) (by omega)

theorem chk6_of (t1 : Fin k0_t1_loop.trips) {s e hi lo : BitVec 32} {T0 T1 : Nat} (E : Ends (tLo s e lo) (tLo s e hi) T0 T1) : k0_chk6 t1 s e hi lo := by
  obtain ⟨h1, h2, h3, h4⟩ := chunkChk (is_b0 t1).1 (by have := (is_b0 t1).2; omega) E
  exact ⟨h1, h2, main_ok _,
    fun j _ => h3 _ _ (E.w0 j).1 (by have := (E.w0 j).2; omega), fun j _ => h4 _ _ (E.w0 j).1 (by have := (E.w0 j).2; omega),
    fun j _ _ => h3 _ _ (is_nx (E.w0 j).1 (by have := (E.w0 j).2; omega)) (by have := (E.w0 j).2; omega), fun j _ _ => h4 _ _ (is_nx (E.w0 j).1 (by have := (E.w0 j).2; omega)) (by have := (E.w0 j).2; omega),
    fun j _ => h3 _ _ (E.w1 j) (by have := (E.w0 j).2; omega), fun j _ => h4 _ _ (E.w1 j) (by have := (E.w0 j).2; omega),
    fun j _ _ => h3 _ _ (is_nx (E.w1 j) (by have := (E.w0 j).2; omega)) (by have := (E.w0 j).2; omega), fun j _ _ => h4 _ _ (is_nx (E.w1 j) (by have := (E.w0 j).2; omega)) (by have := (E.w0 j).2; omega),
    rem_ok _, fun j => no_rem j, fun j => no_rem j, fun j => no_rem j, fun j => no_rem j, fun j => no_rem j, fun j => no_rem j, fun j => no_rem j, fun j => no_rem j⟩

theorem chk16_of (t1 : Fin k0_t1_loop.trips) {s e hi lo : BitVec 32} {T0 T1 : Nat} (E : Ends (tLo s e lo) (tLo s e hi) T0 T1) : k0_chk16 t1 s e hi lo := by
  obtain ⟨h1, h2, h3, h4⟩ := chunkChk (is_b1 t1) (by have := (is_b0 t1).2; omega) E
  exact ⟨h1, h2, main_ok _,
    fun j _ => h3 _ _ (E.w0 j).1 (by have := (E.w0 j).2; omega), fun j _ => h4 _ _ (E.w0 j).1 (by have := (E.w0 j).2; omega),
    fun j _ _ => h3 _ _ (is_nx (E.w0 j).1 (by have := (E.w0 j).2; omega)) (by have := (E.w0 j).2; omega), fun j _ _ => h4 _ _ (is_nx (E.w0 j).1 (by have := (E.w0 j).2; omega)) (by have := (E.w0 j).2; omega),
    fun j _ => h3 _ _ (E.w1 j) (by have := (E.w0 j).2; omega), fun j _ => h4 _ _ (E.w1 j) (by have := (E.w0 j).2; omega),
    fun j _ _ => h3 _ _ (is_nx (E.w1 j) (by have := (E.w0 j).2; omega)) (by have := (E.w0 j).2; omega), fun j _ _ => h4 _ _ (is_nx (E.w1 j) (by have := (E.w0 j).2; omega)) (by have := (E.w0 j).2; omega),
    rem_ok _, fun j => no_rem j, fun j => no_rem j, fun j => no_rem j, fun j => no_rem j, fun j => no_rem j, fun j => no_rem j, fun j => no_rem j, fun j => no_rem j⟩

/-- A bucket's rows of one chunk, whatever the column. -/
def RowsIn (tlo thi w t0 t1 : BitVec 32) : Prop :=
  bucketCond tlo thi w t0 t1 = 1#1 → ∀ (j : Fin (mainLoop (cntOf tlo thi w t0 t1)).trips) (k : Nat), k + 16 ≤ 768 →
    ∀ a, (![(Scalar.indexCast (Scalar.addi (loOf tlo w t0) (Scf.iv 0#32 1#32 j))).toNat, k] : Fin 2 → Nat) a + S1x16.size a ≤ S32x768.size a

theorem rowsIn {tlo thi w t0 t1 : BitVec 32} {T0 T1 i a b : Nat} (E : Ends tlo thi T0 T1) (hw : Is w i) (hi : i ≤ 200) (ht0 : Is t0 a) (ha : a ≤ 4096) (ht1 : Is t1 b) (hb : b ≤ 4096) : RowsIn tlo thi w t0 t1 :=
  fun hc j k hk => rowsOK' E.i0 E.i1 hw E.l0 E.l1 hi ht0 ha ht1 hb hc j k hk

theorem chk7_of {s e hi lo t0 t1 : BitVec 32} (j : Fin (k0_t3_loop s e hi lo).trips) (R : RowsIn (tLo s e lo) (tLo s e hi) (w0Of (Scf.iv 0#32 1#32 j)) t0 t1) : k0_chk7 s e hi lo j t0 t1 := by
  refine ⟨⟨fun _ _ => main_ok _, ?_⟩, ?_, ?_, ?_⟩
  · iterate 30 refine ⟨fun t _ h6 => R h6 t _ (by decide), ?_⟩
    exact fun t _ h6 => R h6 t _ (by decide)
  · iterate 17 refine ⟨fun t _ h6 => R h6 t _ (by decide), ?_⟩
    refine ⟨fun _ _ => rem_ok _, ?_⟩
    iterate 13 refine ⟨fun t => no_rem t, ?_⟩
    exact fun t => no_rem t
  · iterate 31 refine ⟨fun t => no_rem t, ?_⟩
    exact fun t => no_rem t
  · exact ⟨fun t => no_rem t, fun t => no_rem t⟩

theorem chk8_of {s e hi lo t0 t1 : BitVec 32} (j : Fin (k0_t3_loop s e hi lo).trips) (R : RowsIn (tLo s e lo) (tLo s e hi) (w1Of (Scf.iv 0#32 1#32 j)) t0 t1) : k0_chk8 s e hi lo j t0 t1 := by
  refine ⟨⟨fun _ _ => main_ok _, ?_⟩, ?_, ?_, ?_⟩
  · iterate 30 refine ⟨fun t _ h6 => R h6 t _ (by decide), ?_⟩
    exact fun t _ h6 => R h6 t _ (by decide)
  · iterate 17 refine ⟨fun t _ h6 => R h6 t _ (by decide), ?_⟩
    refine ⟨fun _ _ => rem_ok _, ?_⟩
    iterate 13 refine ⟨fun t => no_rem t, ?_⟩
    exact fun t => no_rem t
  · iterate 31 refine ⟨fun t => no_rem t, ?_⟩
    exact fun t => no_rem t
  · exact ⟨fun t => no_rem t, fun t => no_rem t⟩

theorem chk17_of {s e hi lo t0 t1 : BitVec 32} (j : Fin (k0_t19_loop s e hi lo).trips) (R : RowsIn (tLo s e lo) (tLo s e hi) (w0Of (Scf.iv 0#32 1#32 j)) t0 t1) : k0_chk17 s e hi lo j t0 t1 := by
  refine ⟨⟨fun _ _ => main_ok _, ?_⟩, ?_, ?_, ?_⟩
  · iterate 30 refine ⟨fun t _ h6 => R h6 t _ (by decide), ?_⟩
    exact fun t _ h6 => R h6 t _ (by decide)
  · iterate 17 refine ⟨fun t _ h6 => R h6 t _ (by decide), ?_⟩
    refine ⟨fun _ _ => rem_ok _, ?_⟩
    iterate 13 refine ⟨fun t => no_rem t, ?_⟩
    exact fun t => no_rem t
  · iterate 31 refine ⟨fun t => no_rem t, ?_⟩
    exact fun t => no_rem t
  · exact ⟨fun t => no_rem t, fun t => no_rem t⟩

theorem chk18_of {s e hi lo t0 t1 : BitVec 32} (j : Fin (k0_t19_loop s e hi lo).trips) (R : RowsIn (tLo s e lo) (tLo s e hi) (w1Of (Scf.iv 0#32 1#32 j)) t0 t1) : k0_chk18 s e hi lo j t0 t1 := by
  refine ⟨⟨fun _ _ => main_ok _, ?_⟩, ?_, ?_, ?_⟩
  · iterate 30 refine ⟨fun t _ h6 => R h6 t _ (by decide), ?_⟩
    exact fun t _ h6 => R h6 t _ (by decide)
  · iterate 17 refine ⟨fun t _ h6 => R h6 t _ (by decide), ?_⟩
    refine ⟨fun _ _ => rem_ok _, ?_⟩
    iterate 13 refine ⟨fun t => no_rem t, ?_⟩
    exact fun t => no_rem t
  · iterate 31 refine ⟨fun t => no_rem t, ?_⟩
    exact fun t => no_rem t
  · exact ⟨fun t => no_rem t, fun t => no_rem t⟩

end Cert.Proof.Pool
-- ==== Proof.Sum.lean ====
module

public import proofs.«01_k».proof.Proof.Rows
public import proofs.«01_k».proof.Proof.Checks

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords)

theorem wpI_seq {α β : Type} {p : PG F i α} {k : α → PG F i β} {H : SP F} {R : α → SP F} {Q : β → SP F} (h : H ⊢ wpI d i p R) :
    H ⊢ iprop((∀ a, R a -∗ wpI d i (k a) Q) -∗ wpI d i (p >>= k) Q) := by
  simp only [wpI]
  rw [wp_bind]
  iintro H Hk
  iapply (wp_wand_r _ _ _)
  isplitl [H]
  · iapply h $$ H
  · iexact Hk

theorem wpI_pure {α : Type} {a : α} {Q : α → SP F} : (Q a : SP F) ⊢ wpI d i (pure a) Q := by
  rw [wpI, wp_pure]
  iintro H
  imodintro
  iexact H

theorem wpI_loop {σ β : Type} (L : Scf.Loop 32) (hok : L.OK) (init : σ) (body : Fin L.trips → σ → PG F i σ) (I : Nat → σ → SP F)
    (hbody : ∀ (k : Fin L.trips) acc, I k acc ⊢ wpI d i (body k acc) (I (k.val + 1))) {kk : σ → PG F i β} {Q : β → SP F} :
    I 0 init ⊢ iprop((∀ acc, I L.trips acc -∗ wpI d i (kk acc) Q) -∗ wpI d i (Scf.Loop.for L hok init body >>= kk) Q) :=
  Scf.wp_for_bind frame (wpE (defs₀ (F := F)) 𝒱₀ (VT d i) none) Set.univ L.lb L.ub L.st hok init body I hbody

theorem wpI_loop0 {σ β : Type} (L : Scf.Loop 32) (hok : L.OK) (init : σ) (body : Fin L.trips → σ → PG F i σ) (h0 : L.trips = 0) {kk : σ → PG F i β} {Q : β → SP F} :
    wpI d i (kk init) Q ⊢ wpI d i (Scf.Loop.for L hok init body >>= kk) Q := by
  have e : Scf.Loop.for L hok init body = (pure init : PG F i σ) := Scf.for_eq_ret _ _ _ hok init body h0
  rw [e]
  exact .rfl

variable (dbuf : Memref sig .scVector .vmem S32x768 .f32) (racc : Memref sig .scVector .vmem S3072 .f32) (bnds : Memref sig .scVector .vmem S32 .i32)

theorem h47 : 0 + 47 < 48 := by decide

/-- The sums of `n` rows from row `r`, vector by vector, in the order the loop takes them. -/
def rowSum (D : Nat → Nat → F .f32) (r : Nat) : Nat → Nat → FVec F S16 .f32
  | 0, _ => fconst 0x00000000#32
  | n + 1, k => addf (rowSum D r n k) (rowVec D (r + n) k)

/-- A bucket's row, once `n` rows from row `r` have been summed into it. -/
def bucketPut (A : Nat → F .f32) (D : Nat → Nat → F .f32) (b r n : Nat) (first : Prop) [Decidable first] : Nat → F .f32 :=
  rowPut A b 0 48 fun k => if first then rowSum D r n k else addf (accVec A b k) (rowSum D r n k)

theorem rowPut_congr {A : Nat → F .f32} {b lo hi : Nat} {g g' : Nat → FVec F S16 .f32} (h : ∀ k, g k = g' k) : rowPut A b lo hi g = rowPut A b lo hi g' := by
  rw [show g = g' from funext h]

theorem sumBucket_spec {A : Nat → F .f32} {D : Nat → Nat → F .f32} (lo cnt base t0 pu : BitVec 32) (ok : RowsOK lo cnt)
    (hacc : ∀ k < 48, ∀ a, accOff base k a + S16.size a ≤ S3072.size a) (n r b : Nat) (hn : (mainLoop cnt).trips = n)
    (hr : ∀ j < n, (Scalar.indexCast (Scalar.addi lo (Scf.iv 0#32 1#32 j))).toNat = r + j) (hb : ∀ k < 48, accOff base k 0 = b + 16 * k)
    (first : Prop) [Decidable first] (hge : tst (Scalar.cmpi .sge t0 pu) = 1#1 ↔ first) (hlt : tst (Scalar.cmpi .slt t0 pu) = 1#1 ↔ ¬first) :
    iprop(own d i dbuf fullShare (c2 D) ∗ own d i racc fullShare (c1 A)) ⊢
      wpI d i (sumBucket i dbuf racc lo cnt base t0 pu ok hacc) (fun _ => iprop(own d i dbuf fullShare (c2 D) ∗ own d i racc fullShare (c1 (bucketPut A D b r n first)))) := by
  have hloop := fun (kk : Tup (FVec F S16 .f32) 47 → PG F i PUnit) (Q : PUnit → SP F) => wpI_loop d i (kk := kk) (Q := Q) (mainLoop cnt) ok.1.1 (Tup.const (fconst 0x00000000#32) 47)
    (fun j st => addRow i dbuf (Scalar.addi lo (Scf.iv 0#32 1#32 j)) (ok.1.2 j) 47 0 h47 st pure)
    (fun j st => iprop(own d i dbuf fullShare (c2 D) ∗ ⌜st = Tup.mk (rowSum D r j) 47 0⌝)) (fun j st => by
      iintro ⟨H, %hst⟩
      subst hst
      iapply (addRow_spec d i dbuf (Scalar.addi lo (Scf.iv 0#32 1#32 j)) (r + j) (hr j (hn ▸ j.isLt)) (ok.1.2 j) (rowSum D r j) 47 0 h47 pure) $$ H
      iintro H
      iapply (wpI_pure d i)
      isplitl [H]; · iexact H
      ipureintro; rfl)
  unfold sumBucket
  iintro ⟨HD, HA⟩
  iapply (hloop _ _) $$ [HD]
  · isplitl [HD]; · iexact HD
    ipureintro; exact Tup.const_eq _ 47 0
  iintro %st ⟨HD, %hst⟩
  subst hst
  rw [hn]
  iapply (wpI_loop0 d i _ _ _ _ (rem_trips0 cnt))
  dsimp only
  rcases Classical.em first with hf | hf
  · rw [if_pos (hge.mpr hf), if_neg (fun h => hlt.mp h hf)]
    iapply (putRow_spec d i racc base b hb hacc (rowSum D r n) (pure PUnit.unit) 47 0 h47 A) $$ HA
    iintro HA
    iapply (wpI_pure d i)
    isplitl [HD]; · iexact HD
    rw [bucketPut, rowPut_congr (g' := rowSum D r n) (fun k => if_pos hf)]
    iexact HA
  · rw [if_neg (fun h => hf (hge.mp h)), if_pos (hlt.mpr hf)]
    iapply (opRow_spec d i racc addf base b hb hacc (rowSum D r n) (pure PUnit.unit) 47 0 h47 A A (fun _ _ => rfl)) $$ HA
    iintro HA
    iapply (wpI_pure d i)
    isplitl [HD]; · iexact HD
    rw [bucketPut, rowPut_congr (g' := fun k => addf (accVec A b k) (rowSum D r n k)) (fun k => if_neg hf)]
    iexact HA

end Cert.Proof.Pool
-- ==== Proof.Chunk.lean ====
module

public import proofs.«01_k».proof.Proof.Sum

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords)

/-! ## The buckets of one chunk -/

theorem word0_read {n : Nat} (W : Nat → BitVec 32) (off : Fin 1 → Nat) (h : ∀ a, off a + S16.size a ≤ (⟨1, ![n]⟩ : Shape).size a) :
    word0 (F := F) (fun y => c1 W ((Rect.unit (s := ⟨1, ![n]⟩) off S16.size h).emb y)) = W (off 0) := by
  unfold word0
  refine (congrArg (fun z : S16.Idx → BitVec 32 => extractAt ![0] (extractStridedSlice S1 ![0] z slices_S16_o0_S1) inpos_S1_p0) (shapeCast_self (s := S16) (α := BitVec 32) _ _)).trans ?_
  show W _ = W _
  rw [unit_emb_val]
  rfl

/-- The first and the last (past the end) token of bucket `l` in chunk `i`. -/
def xN (B : Nat → Nat) (T0 i l : Nat) : Nat := max (B l) (max T0 (puN T0 i))
def hN (B : Nat → Nat) (T0 T1 i l : Nat) : Nat := min (B (l + 1)) (min T1 (puN T0 i + 32))

/-- A bucket's row after one chunk, the chunk's rows read from `D`. -/
def bstep (B : Nat → Nat) (T0 T1 i : Nat) (D : Nat → Nat → F .f32) (l : Nat) (A : Nat → F .f32) : Nat → F .f32 :=
  if xN B T0 i l < hN B T0 T1 i l then bucketPut A D (768 * l) (xN B T0 i l - plN T0 i) (hN B T0 T1 i l - xN B T0 i l) (puN T0 i ≤ B l) else A

def bsteps (B : Nat → Nat) (T0 T1 i : Nat) (D : Nat → Nat → F .f32) (A : Nat → F .f32) : Nat → Nat → F .f32
  | 0 => A
  | l + 1 => bstep B T0 T1 i D l (bsteps B T0 T1 i D A l)

variable (dbuf : Memref sig .scVector .vmem S32x768 .f32) (racc : Memref sig .scVector .vmem S3072 .f32) (bnds : Memref sig .scVector .vmem S32 .i32)

/-- The bounds that the buckets' loop reads. -/
structure Bounds (W : Nat → BitVec 32) (B : Nat → Nat) : Prop where
  is : ∀ l < 5, Is (W l) (B l)
  le : ∀ l < 5, B l ≤ 4096

theorem k4_lt (t4 : Fin k4Loop.trips) : t4.val < 4 := t4.isLt

theorem off12_val (t4 : Fin k4Loop.trips) : k0_off12 t4 0 = t4 := by
  have := k4_lt t4
  show (Scf.iv 0#32 1#32 t4).toNat = t4
  rw [iv01]; exact (Is.ofNat t4 (by omega)).toNat
theorem off13_val (t4 : Fin k4Loop.trips) : k0_off13 t4 0 = t4 + 1 := by
  have := k4_lt t4
  show (Scalar.addi (Scf.iv 0#32 1#32 t4) 1#32).toNat = t4 + 1
  rw [iv01]; exact ((Is.ofNat t4 (by omega)).add (Is.ofNat 1 (by decide)) (by omega)).toNat
theorem accBase (t4 : Fin k4Loop.trips) : ∀ k < 48, accOff (Scalar.muli (Scf.iv 0#32 1#32 t4) 768#32) k 0 = 768 * t4 + 16 * k := by
  intro k hk
  have := k4_lt t4
  show (Scalar.addi (Scalar.muli (Scf.iv 0#32 1#32 t4) 768#32) (BitVec.ofNat 32 (16 * k))).toNat = _
  rw [iv01]
  refine (((Is.ofNat t4 (by omega)).mul (Is.ofNat 768 (by decide)) (by omega)).add (Is.ofNat (16 * k) (by omega)) (by omega)).toNat.trans (by omega)

theorem bucketLoop_spec {A : Nat → F .f32} {D : Nat → Nat → F .f32} {W : Nat → BitVec 32} {B : Nat → Nat} (hW : Bounds W B) {tlo thi w : BitVec 32} {T0 T1 n : Nat} (E : Ends tlo thi T0 T1) (hw : Is w n) (hn : n ≤ 200)
    (chk : BitVec 32 → BitVec 32 → Prop) (dec : ∀ a b, Decidable (chk a b))
    (ev : ∀ t0 t1, chk t0 t1 → bucketCond tlo thi w t0 t1 = 1#1 → RowsOK (loOf tlo w t0) (cntOf tlo thi w t0 t1))
    (hchk : ∀ t0 t1, RowsIn tlo thi w t0 t1 → chk t0 t1) :
    iprop(own d i dbuf fullShare (c2 D) ∗ own d i racc fullShare (c1 A) ∗ own d i bnds fullShare (c1 W)) ⊢
      wpI d i (bucketLoop i dbuf racc bnds tlo thi w chk dec ev)
        (fun _ => iprop(own d i dbuf fullShare (c2 D) ∗ own d i racc fullShare (c1 (bsteps B T0 T1 n D A 4)) ∗ own d i bnds fullShare (c1 W))) := by
  have hbody : ∀ (t4 : Fin k4Loop.trips) (acc : PUnit),
      (iprop(own d i dbuf fullShare (c2 D) ∗ own d i racc fullShare (c1 (bsteps B T0 T1 n D A t4)) ∗ own d i bnds fullShare (c1 W)) : SP F) ⊢
      wpI d i (
        Prog.lift (.load bnds (Rect.unit (s := S32) (k0_off12 t4) S16.size (k0_off12_inb t4)).toLoadRect (View.loadsAt_vmem h_S16)) >>= fun x0 =>
        Prog.lift (.load bnds (Rect.unit (s := S32) (k0_off13 t4) S16.size (k0_off13_inb t4)).toLoadRect (View.loadsAt_vmem h_S16)) >>= fun x1 =>
        Prog.lift (TpuEff.assume (chk (word0 x0) (word0 x1)) (dec (word0 x0) (word0 x1))) >>= fun e =>
        if h : bucketCond tlo thi w (word0 x0) (word0 x1) = 1#1 then
          sumBucket i dbuf racc (loOf tlo w (word0 x0)) (cntOf tlo thi w (word0 x0) (word0 x1)) (Scalar.muli (Scf.iv 0#32 1#32 t4) 768#32)
            (word0 x0) (puOf tlo w) (ev _ _ e.down h) (acc_inb t4) >>= fun _ => pure PUnit.unit
        else pure PUnit.unit)
      (fun _ => iprop(own d i dbuf fullShare (c2 D) ∗ own d i racc fullShare (c1 (bsteps B T0 T1 n D A (t4 + 1))) ∗ own d i bnds fullShare (c1 W))) := by
    intro t4 acc
    have h4 := k4_lt t4
    have i0 := hW.is t4 (by omega)
    have i1 := hW.is (t4 + 1) (by omega)
    have l0 := hW.le t4 (by omega)
    have l1 := hW.le (t4 + 1) (by omega)
    have ipu := is_puOf E.i0 hw E.l0 hn
    iintro ⟨HD, HA, HW⟩
    iapply (wpI_load d i) $$ HW
    iintro HW
    iapply (wpI_load d i) $$ HW
    iintro HW
    generalize hx0 : word0 (F := F) (fun y : (Rect.unit (s := S32) (k0_off12 t4) S16.size (k0_off12_inb t4)).shape.Idx => c1 W ((Rect.unit (s := S32) (k0_off12 t4) S16.size (k0_off12_inb t4)).emb y)) = x0
    generalize hx1 : word0 (F := F) (fun y : (Rect.unit (s := S32) (k0_off13 t4) S16.size (k0_off13_inb t4)).shape.Idx => c1 W ((Rect.unit (s := S32) (k0_off13 t4) S16.size (k0_off13_inb t4)).emb y)) = x1
    have e0 : W t4 = x0 := ((word0_read (F := F) (n := 32) W _ (k0_off12_inb t4)).trans (congrArg W (off12_val t4))).symm.trans hx0
    have e1 : W (t4 + 1) = x1 := ((word0_read (F := F) (n := 32) W _ (k0_off13_inb t4)).trans (congrArg W (off13_val t4))).symm.trans hx1
    rw [e0] at i0
    rw [e1] at i1
    iapply (wpI_assume d i (hchk _ _ (rowsIn E hw hn i0 l0 i1 l1)))
    rcases Classical.em (bucketCond tlo thi w x0 x1 = 1#1) with hc | hc
    · have hc' : xN B T0 n t4 < hN B T0 T1 n t4 := (bucket_iff E.i0 E.i1 hw E.l0 E.l1 hn i0 l0 i1 l1).mp hc
      obtain ⟨ht, hr⟩ := rowsOK E.i0 E.i1 hw E.l0 E.l1 hn i0 l0 i1 l1 hc
      rw [dif_pos hc]
      iapply (wpI_seq d i (sumBucket_spec d i dbuf racc (A := bsteps B T0 T1 n D A t4) (D := D) _ _ _ _ _ _ _ (hN B T0 T1 n t4 - xN B T0 n t4) (xN B T0 n t4 - plN T0 n) (768 * t4) ht
        (fun j hj => by
          have hp := plN_le T0 n
          refine ((hr j (by rw [ht]; exact hj)).1).trans ?_
          unfold xN; omega)
        (accBase t4) (puN T0 n ≤ B t4) (Is.sge i0 ipu) ((Is.slt i0 ipu).trans (by omega)))) $$ [HD HA]
      · isplitl [HD]; · iexact HD
        iexact HA
      iintro %_ ⟨HD, HA⟩
      iapply (wpI_pure d i)
      isplitl [HD]; · iexact HD
      isplitl [HA]
      · rw [bsteps, bstep, if_pos hc']
        iexact HA
      · iexact HW
    · have hc' : ¬ xN B T0 n t4 < hN B T0 T1 n t4 := fun h => hc ((bucket_iff E.i0 E.i1 hw E.l0 E.l1 hn i0 l0 i1 l1).mpr h)
      rw [dif_neg hc]
      iapply (wpI_pure d i)
      isplitl [HD]; · iexact HD
      isplitl [HA]
      · rw [bsteps, bstep, if_neg hc']
        iexact HA
      · iexact HW
  have hl := wpI_loop d i k4Loop k0_t4_ok PUnit.unit _ (fun l _ => iprop(own d i dbuf fullShare (c2 D) ∗ own d i racc fullShare (c1 (bsteps B T0 T1 n D A l)) ∗ own d i bnds fullShare (c1 W))) hbody
    (kk := pure) (Q := fun _ => iprop(own d i dbuf fullShare (c2 D) ∗ own d i racc fullShare (c1 (bsteps B T0 T1 n D A 4)) ∗ own d i bnds fullShare (c1 W)))
  rw [bind_pure] at hl
  unfold bucketLoop
  iintro H
  iapply hl $$ [H]
  · iexact H
  iintro %_ H
  iapply (wpI_pure d i)
  iexact H

/-! ## A copy under way -/

/-- A copy under way, whose wait gives `R`. -/
def flyTo (sm : DmaSem sig) (N : ℕ) (R : SP F) : SP F := iprop(∃ D, fly d i sm N D ∗ (D -∗ R))

/-- What the thread owes, and that it may wait all the same. -/
def owing (O : CellTallies nD τ sig (HIx 1)) : SP F := iprop((∃ W, owes (VT d i) O W) ∗ Transfers.MayWaits (VT d i) (default : HIx 1) O)

theorem wpI_waitTo {s s' : Shape} {e e' : EltTy} {sp sp' : Space} {srcw : Memref sig .scVector sp' s' e'} {dstw : Memref sig .scVector sp s e} {sm : DmaSem sig}
    {hsrc : srcw.view.WordExact} {hdst : dstw.view.WordExact} {α : Type} {k : PUnit → PG F i α} {Q : α → SP F} {N : ℕ} (hN : dstw.view.dmaCredit = N) {R : SP F}
    {O : CellTallies nD τ sig (HIx 1)} :
    iprop(flyTo d i sm N R ∗ owing d i O)
      ⊢ iprop((iprop(R ∗ semVal (VT d i, .dma sm) 0 ∗ owing d i O) -∗ wpI d i (k ⟨⟩) Q)
        -∗ wpI d i (Prog.lift (.waitDma2 sm srcw dstw hsrc hdst) >>= k) Q) := by
  unfold flyTo owing
  iintro ⟨⟨%D, Hf, HR⟩, HO, #Hm⟩ Hk
  iapply (wpI_wait d i hN) $$ [Hf HO]
  · isplitl [Hf]; · iexact Hf
    isplitl [HO]; · iexact HO
    iexact Hm
  iintro ⟨HD, Hv, HO⟩
  iapply Hk
  isplitl [HD HR]
  · iapply HR $$ HD
  isplitl [Hv]; · iexact Hv
  isplitl [HO]; · iexact HO
  iexact Hm

theorem wpI_dmaTo {s : Shape} {e : EltTy} {sp sp' : Space} {src : Memref sig .scVector sp s e} {dst : Memref sig .scVector sp' s e} {sm : DmaSem sig}
    {hsrc : src.view.WordExact} {hdst : dst.view.WordExact} {hsem : DmaTarget.Typed (nD := nD) sp (.dma sm) (.here (p := (VT d i).2) dst)} {α : Type}
    {k : PUnit → PG F i α} {q : PosShare TreeShare} {x y : s.Idx → Elt F e} {Q : α → SP F} (N : ℕ) (hN : dst.view.dmaCredit = N) (hN0 : 0 < N) (R : SP F) :
    iprop((own d i src q x ∗ own d i dst fullShare y ∗ semVal (VT d i, .dma sm) 0) ∗ (iprop(own d i dst fullShare x ∗ own d i src q x) -∗ R))
      ⊢ iprop((flyTo d i sm N R -∗ wpI d i (k ⟨⟩) Q)
        -∗ wpI d i (Prog.lift (.enqueueDma src (.here dst) (.dma sm) hsrc hdst hsem) >>= k) Q) := by
  have hN' : dst.view.amount (.dma sm) = N := by rw [View.amount_dma]; exact hN
  iintro ⟨H, HR⟩ Hk
  iapply (wpI_dma d i N hN' hN0) $$ H
  iintro Hf
  iapply Hk
  unfold flyTo
  iexists _
  isplitl [Hf]; · iexact Hf
  iexact HR

/-- A slice's elements lent. -/
theorem own_lend {s : Shape} {e : EltTy} {sp : Space} (m : Memref sig .scVector sp s e) (r : Rect s) (hr : ∀ a, r.stride a = 1) (q : PosShare TreeShare) (x : s.Idx → Elt F e) :
    (own d i m q x : SP F) ⊢ iprop(own d i (m.slice r hr) q (fun y => x (r.emb y)) ∗ (own d i (m.slice r hr) q (fun y => x (r.emb y)) -∗ own d i m q x)) := by
  iintro H
  ihave H := (own_split d i m r hr q x) $$ H
  icases H with ⟨Hs, Hr⟩
  isplitl [Hs]; · iexact Hs
  iintro Hs
  iapply (own_join d i m r hr q x x _ (fun _ => rfl) (fun _ _ => rfl)) $$ [Hs Hr]
  isplitl [Hs]; · iexact Hs
  iexact Hr

def c3 {α : Type} {n m l : Nat} (A : Nat → Nat → Nat → α) : (⟨3, ![n, m, l]⟩ : Shape).Idx → α := fun j => A (j 0).val (j 1).val (j 2).val

variable (words : Memref sig .scVector .hbm S16x4096x768 .f32)

theorem words_lend (V : Nat → Nat → Nat → F .f32) {bw p : BitVec 32} {b pN : Nat} (hb : Is bw b) (hp : Is p pN) (h : WordsOK bw p) (q : PosShare TreeShare) :
    (own d i words q (c3 V) : SP F) ⊢ iprop(own d i (wSlice words bw p h) q (c2 fun r c => V b (pN + r) c) ∗ (own d i (wSlice words bw p h) q (c2 fun r c => V b (pN + r) c) -∗ own d i words q (c3 V))) := by
  have e := own_squeeze d i (words.slice (Rect.unit (s := S16x4096x768) (wOff bw p) S1x32x768.size h) (fun _ => rfl)) squeezes_S1x32x768_S32x768 q (fun y => c3 V ((Rect.unit (s := S16x4096x768) (wOff bw p) S1x32x768.size h).emb y))
  have e2 : (fun y => c3 V ((Rect.unit (s := S16x4096x768) (wOff bw p) S1x32x768.size h).emb (Shape.reshapeEquiv squeezes_S1x32x768_S32x768.numel_eq y))) = (c2 fun r c => V b (pN + r) c : S32x768.Idx → F .f32) := by
    funext y
    have e3 := Shape.reshapeEquiv_cons_one (n := 2) (d := ![32, 768]) squeezes_S1x32x768_S32x768.numel_eq y
    rw [e3]
    show V _ _ _ = V _ _ _
    rw [unit_emb_val, unit_emb_val, unit_emb_val]
    have hb' := hb.toNat
    have hp' := hp.toNat
    show V (bw.toNat + 0) (p.toNat + _) (0 + _) = _
    rw [hb', hp', Nat.add_zero, Nat.zero_add]
    rfl
  rw [e2] at e
  rw [← e]
  exact own_lend d i words _ _ q (c3 V)

end Cert.Proof.Pool
-- ==== Proof.Half.lean ====
module

public import proofs.«01_k».proof.Proof.Chunk

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords)
variable (racc : Memref sig .scVector .vmem S3072 .f32) (bnds : Memref sig .scVector .vmem S32 .i32) (words : Memref sig .scVector .hbm S16x4096x768 .f32)

/-- The rows of chunk `n` of sentence `b`. -/
def chunkRows (V : Nat → Nat → Nat → F .f32) (b T0 n : Nat) : Nat → Nat → F .f32 := fun r c => V b (plN T0 n + r) c

/-- The buckets after `n` chunks. -/
def chunks (B : Nat → Nat) (T0 T1 : Nat) (V : Nat → Nat → Nat → F .f32) (b : Nat) (A : Nat → F .f32) : Nat → Nat → F .f32
  | 0 => A
  | n + 1 => if n < nN T0 T1 then bsteps B T0 T1 n (chunkRows V b T0 n) (chunks B T0 T1 V b A n) 4 else chunks B T0 T1 V b A n

/-- A staging buffer at rest. -/
def rest (dA : Memref sig .scVector .vmem S32x768 .f32) (sA : DmaSems sig S_) : SP F :=
  iprop(ownAny d i dA ∗ semVal (VT d i, .dma sA.sem) 0)

/-- A staging buffer that chunk `n` is on its way to, if there is one; the words beside it if not. -/
def stage (dA : Memref sig .scVector .vmem S32x768 .f32) (sA : DmaSems sig S_) (q : PosShare TreeShare) (V : Nat → Nat → Nat → F .f32) (b T0 T1 n : Nat) : SP F :=
  if n < nN T0 T1 then flyTo d i sA.sem 786432 iprop(own d i dA fullShare (c2 (chunkRows V b T0 n)) ∗ own d i words q (c3 V))
  else iprop(rest d i dA sA ∗ own d i words q (c3 V))

theorem ask_spec {dA : Memref sig .scVector .vmem S32x768 .f32} {hA : dA.IsWhole} {sA : DmaSems sig S_} (hN : dA.view.dmaCredit = 786432) {q : PosShare TreeShare} {V : Nat → Nat → Nat → F .f32} {bw p : BitVec 32} {b T0 n : Nat}
    (hb : Is bw b) (hp : Is p (plN T0 n)) (h : WordsOK bw p) {β : Type} {k : PUnit → PG F i β} {Q : β → SP F} {hsrc hsem} :
    iprop(rest d i dA sA ∗ own d i words q (c3 V)) ⊢
      iprop((flyTo d i sA.sem 786432 iprop(own d i dA fullShare (c2 (chunkRows V b T0 n)) ∗ own d i words q (c3 V)) -∗ wpI d i (k ⟨⟩) Q)
        -∗ wpI d i (Prog.lift (.enqueueDma (wSlice words bw p h) (.here dA) (.dma sA.sem) hsrc hA.wordExact hsem) >>= k) Q) := by
  unfold rest ownAny
  iintro ⟨⟨⟨%x, HA⟩, Hs⟩, HW⟩ Hk
  ihave HW := (words_lend d i words V hb hp h q) $$ HW
  icases HW with ⟨HW, Hback⟩
  iapply (wpI_dmaTo d i 786432 hN (by decide) iprop(own d i dA fullShare (c2 (chunkRows V b T0 n)) ∗ own d i words q (c3 V))) $$ [HA Hs HW Hback]
  · isplitl [HA Hs HW]
    · isplitl [HW]; · iexact HW
      isplitl [HA]; · iexact HA
      iexact Hs
    iintro ⟨HA, HW⟩
    isplitl [HA]; · iexact HA
    iapply Hback $$ HW
  iexact Hk

theorem half_spec {dA : Memref sig .scVector .vmem S32x768 .f32} {hA : dA.IsWhole} {sA : DmaSems sig S_} {dB : Memref sig .scVector .vmem S32x768 .f32} {hB : dB.IsWhole} {sB : DmaSems sig S_}
    (hNA : dA.view.dmaCredit = 786432) (hNB : dB.view.dmaCredit = 786432) {q : PosShare TreeShare} {V : Nat → Nat → Nat → F .f32} {A : Nat → F .f32} {W : Nat → BitVec 32} {B : Nat → Nat} (hW : Bounds W B)
    {bw tlo thi w : BitVec 32} {b T0 T1 n : Nat} (hb : Is bw b) (E : Ends tlo thi T0 T1) (hw : Is w n) (hn : n ≤ 150) (H : Half bw tlo thi w)
    (hchk : ∀ t0 t1, RowsIn tlo thi w t0 t1 → H.chk t0 t1) {O : CellTallies nD τ sig (HIx 1)} {K : PG F i PUnit} {Q : PUnit → SP F} :
    iprop(stage d i words dA sA q V b T0 T1 n ∗ rest d i dB sB ∗ own d i racc fullShare (c1 (chunks B T0 T1 V b A n)) ∗ own d i bnds fullShare (c1 W) ∗ owing d i O) ⊢
      iprop((iprop(stage d i words dB sB q V b T0 T1 (n + 1) ∗ rest d i dA sA ∗ own d i racc fullShare (c1 (chunks B T0 T1 V b A (n + 1))) ∗ own d i bnds fullShare (c1 W) ∗ owing d i O) -∗ wpI d i K Q)
        -∗ wpI d i (half i racc bnds words dA hA sA dB hB sB bw tlo thi w H K) Q) := by
  have hn1 := is_nx hw (by omega)
  unfold half
  rcases Classical.em (chunkCond (nOf tlo thi) w = 1#1) with h4 | h4
  · have h4' := (E.chunk hw).mp h4
    have htail : ∀ (R : SP F),
        iprop(R ∗ own d i dA fullShare (c2 (chunkRows V b T0 n)) ∗ semVal (VT d i, .dma sA.sem) 0 ∗ own d i racc fullShare (c1 (chunks B T0 T1 V b A n)) ∗ own d i bnds fullShare (c1 W) ∗ owing d i O) ⊢
          iprop((iprop(R ∗ rest d i dA sA ∗ own d i racc fullShare (c1 (chunks B T0 T1 V b A (n + 1))) ∗ own d i bnds fullShare (c1 W) ∗ owing d i O) -∗ wpI d i K Q)
            -∗ wpI d i (bucketLoop i dA racc bnds tlo thi w H.chk H.dec (H.ev h4) >>= fun _ => K) Q) := by
      intro R
      iintro ⟨HR, HA, Hs, Hacc, HW, HO⟩ Hk
      iapply (wpI_seq d i (bucketLoop_spec d i dA racc bnds hW E hw (by omega) H.chk H.dec (H.ev h4) hchk)) $$ [HA Hacc HW]
      · isplitl [HA]; · iexact HA
        isplitl [Hacc]; · iexact Hacc
        iexact HW
      iintro %_ ⟨HA, Hacc, HW⟩
      iapply Hk
      isplitl [HR]; · iexact HR
      isplitl [HA Hs]
      · unfold rest ownAny
        isplitl [HA]
        · iexists _; iexact HA
        · iexact Hs
      isplitl [Hacc]
      · rw [chunks, if_pos h4']
        iexact Hacc
      isplitl [HW]; · iexact HW
      iexact HO
    rw [dif_pos h4, stage, if_pos h4']
    iintro ⟨Hf, HB, Hacc, HW, HO⟩ Hk
    iapply (wpI_waitTo d i hNA) $$ [Hf HO]
    · isplitl [Hf]; · iexact Hf
      iexact HO
    iintro ⟨⟨HA, Hw⟩, Hs, HO⟩
    dsimp only
    rcases Classical.em (chunkCond (nOf tlo thi) (Scalar.addi w 1#32) = 1#1) with h5 | h5
    · have h5' := (E.chunk hn1).mp h5
      rw [dif_pos h5]
      iapply (ask_spec d i words (hA := hB) hNB (V := V) (T0 := T0) (n := n + 1) hb (E.pl hn1 (by omega)) _) $$ [HB Hw]
      · isplitl [HB]; · iexact HB
        iexact Hw
      iintro Hf
      iapply (htail _) $$ [Hf HA Hs Hacc HW HO]
      · isplitl [Hf]; · iexact Hf
        isplitl [HA]; · iexact HA
        isplitl [Hs]; · iexact Hs
        isplitl [Hacc]; · iexact Hacc
        isplitl [HW]; · iexact HW
        iexact HO
      rw [stage, if_pos h5']
      iexact Hk
    · have h5' := fun h => h5 ((E.chunk hn1).mpr h)
      rw [dif_neg h5]
      iapply (htail iprop(rest d i dB sB ∗ own d i words q (c3 V))) $$ [HB Hw HA Hs Hacc HW HO]
      · isplitl [HB Hw]
        · isplitl [HB]; · iexact HB
          iexact Hw
        isplitl [HA]; · iexact HA
        isplitl [Hs]; · iexact Hs
        isplitl [Hacc]; · iexact Hacc
        isplitl [HW]; · iexact HW
        iexact HO
      rw [stage, if_neg h5']
      iexact Hk
  · have h4' : ¬ n < nN T0 T1 := fun h => h4 ((E.chunk hw).mpr h)
    rw [dif_neg h4, stage, if_neg h4', stage, if_neg (show ¬ n + 1 < nN T0 T1 by omega), chunks, if_neg h4']
    iintro ⟨⟨HA, Hw⟩, HB, Hacc, HW, HO⟩ Hk
    iapply Hk
    isplitl [HB Hw]
    · isplitl [HB]; · iexact HB
      iexact Hw
    isplitl [HA]; · iexact HA
    isplitl [Hacc]; · iexact Hacc
    isplitl [HW]; · iexact HW
    iexact HO

theorem chunks_stop {B : Nat → Nat} {T0 T1 : Nat} {V : Nat → Nat → Nat → F .f32} {b : Nat} {A : Nat → F .f32} : ∀ n, nN T0 T1 ≤ n → chunks B T0 T1 V b A n = chunks B T0 T1 V b A (nN T0 T1)
  | 0, h => by rw [Nat.le_zero.mp h]
  | n + 1, h => by
    rcases Nat.lt_or_ge n (nN T0 T1) with h' | h'
    · rw [show nN T0 T1 = n + 1 by omega]
    · rw [chunks, if_neg (by omega), chunks_stop n h']

theorem chunkLoop_spec {d0 d1 : Memref sig .scVector .vmem S32x768 .f32} {hd0 : d0.IsWhole} {hd1 : d1.IsWhole} {s0 s1 : DmaSems sig S_}
    (hN0 : d0.view.dmaCredit = 786432) (hN1 : d1.view.dmaCredit = 786432) {q : PosShare TreeShare} {V : Nat → Nat → Nat → F .f32} {A : Nat → F .f32} {W : Nat → BitVec 32} {B : Nat → Nat} (hW : Bounds W B)
    {bw tlo thi : BitVec 32} {b T0 T1 : Nat} (hb : Is bw b) (E : Ends tlo thi T0 T1) (H : Chunks bw tlo thi)
    (hchk0 : ∀ j t0 t1, RowsIn tlo thi (w0Of (Scf.iv 0#32 1#32 j.val)) t0 t1 → (H.1.1.1 j).chk t0 t1) (hchk1 : ∀ j t0 t1, RowsIn tlo thi (w1Of (Scf.iv 0#32 1#32 j.val)) t0 t1 → (H.1.1.2 j).chk t0 t1)
    {O : CellTallies nD τ sig (HIx 1)} {β : Type} {K : PG F i β} {Q : β → SP F} :
    iprop(rest d i d0 s0 ∗ rest d i d1 s1 ∗ own d i words q (c3 V) ∗ own d i racc fullShare (c1 A) ∗ own d i bnds fullShare (c1 W) ∗ owing d i O) ⊢
      iprop((iprop(rest d i d0 s0 ∗ rest d i d1 s1 ∗ own d i words q (c3 V) ∗ own d i racc fullShare (c1 (chunks B T0 T1 V b A (nN T0 T1))) ∗ own d i bnds fullShare (c1 W) ∗ owing d i O) -∗ wpI d i K Q)
        -∗ wpI d i (chunkLoop i racc bnds words d0 d1 hd0 hd1 s0 s1 bw tlo thi H K) Q) := by
  have htail :
      iprop(stage d i words d0 s0 q V b T0 T1 0 ∗ rest d i d1 s1 ∗ own d i racc fullShare (c1 A) ∗ own d i bnds fullShare (c1 W) ∗ owing d i O) ⊢
        iprop((iprop(rest d i d0 s0 ∗ rest d i d1 s1 ∗ own d i words q (c3 V) ∗ own d i racc fullShare (c1 (chunks B T0 T1 V b A (nN T0 T1))) ∗ own d i bnds fullShare (c1 W) ∗ owing d i O) -∗ wpI d i K Q)
          -∗ wpI d i (Scf.Loop.for (mainLoop (tripsOf (nOf tlo thi))) H.2.down.2.1 PUnit.unit (fun j _ =>
              half i racc bnds words d0 hd0 s0 d1 hd1 s1 bw tlo thi _ (H.1.1.1 j) (half i racc bnds words d1 hd1 s1 d0 hd0 s0 bw tlo thi _ (H.1.1.2 j) (pure PUnit.unit)))
            >>= fun _ => Scf.Loop.for (remLoop (tripsOf (nOf tlo thi))) H.2.down.2.2 PUnit.unit (fun j _ =>
              half i racc bnds words d0 hd0 s0 d1 hd1 s1 bw tlo thi _ (H.1.2.1 j) (half i racc bnds words d1 hd1 s1 d0 hd0 s0 bw tlo thi _ (H.1.2.2 j) (pure PUnit.unit)))
            >>= fun _ => K) Q) := by
    have hl := fun (kk : PUnit → PG F i β) => wpI_loop d i (mainLoop (tripsOf (nOf tlo thi))) H.2.down.2.1 PUnit.unit (fun j _ =>
        half i racc bnds words d0 hd0 s0 d1 hd1 s1 bw tlo thi _ (H.1.1.1 j) (half i racc bnds words d1 hd1 s1 d0 hd0 s0 bw tlo thi _ (H.1.1.2 j) (pure PUnit.unit)))
      (fun j _ => iprop(stage d i words d0 s0 q V b T0 T1 (2 * j) ∗ rest d i d1 s1 ∗ own d i racc fullShare (c1 (chunks B T0 T1 V b A (2 * j))) ∗ own d i bnds fullShare (c1 W) ∗ owing d i O))
      (fun j _ => by
        obtain ⟨h0, hj⟩ := E.w0 j
        have h1 := E.w1 j
        iintro HI
        iapply (half_spec d i racc bnds words hN0 hN1 hW hb E h0 (by omega) (H.1.1.1 j) (hchk0 j)) $$ HI
        iintro HI
        iapply (half_spec d i racc bnds words hN1 hN0 hW hb E h1 (by omega) (H.1.1.2 j) (hchk1 j)) $$ HI
        iintro HI
        iapply (wpI_pure d i)
        iexact HI) (kk := kk) (Q := Q)
    iintro HI Hk
    iapply (hl _) $$ [HI]
    · iexact HI
    iintro %_ HI
    iapply (wpI_loop0 d i _ _ _ _ (rem_trips0 _))
    rw [E.mainTrips, chunks_stop _ (show nN T0 T1 ≤ 2 * ((nN T0 T1 + 1) / 2) by omega), stage, if_neg (by omega)]
    icases HI with ⟨⟨H0, Hw⟩, H1, Hacc, HW, HO⟩
    iapply Hk
    isplitl [H0]; · iexact H0
    isplitl [H1]; · iexact H1
    isplitl [Hw]; · iexact Hw
    isplitl [Hacc]; · iexact Hacc
    isplitl [HW]; · iexact HW
    iexact HO
  unfold chunkLoop
  iintro ⟨H0, H1, Hw, Hacc, HW, HO⟩ Hk
  dsimp only
  rcases Classical.em (tst (Scalar.cmpi .sgt (nOf tlo thi) 0#32) = 1#1) with h3 | h3
  · have h3' := E.first h3
    rw [dif_pos h3]
    have h64 : aN T0 = plN T0 0 := by have := E.ov h3'.2; unfold plN puN aN; omega
    iapply (ask_spec d i words (hA := hd0) hN0 (V := V) (T0 := T0) (n := 0) hb (h64 ▸ is_aOf E.i0) _) $$ [H0 Hw]
    · isplitl [H0]; · iexact H0
      iexact Hw
    iintro Hf
    iapply htail $$ [Hf H1 Hacc HW HO]
    · isplitl [Hf]
      · rw [stage, if_pos h3'.1]; iexact Hf
      isplitl [H1]; · iexact H1
      isplitl [Hacc]; · iexact Hacc
      isplitl [HW]; · iexact HW
      iexact HO
    iexact Hk
  · have h3' : ¬ 0 < nN T0 T1 := fun h => h3 ((Is.sgt E.n (Is.ofNat 0 (by decide))).mpr h)
    rw [dif_neg h3]
    iapply htail $$ [H0 Hw H1 Hacc HW HO]
    · isplitl [H0 Hw]
      · rw [stage, if_neg h3']
        isplitl [H0]; · iexact H0
        iexact Hw
      isplitl [H1]; · iexact H1
      isplitl [Hacc]; · iexact Hacc
      isplitl [HW]; · iexact HW
      iexact HO
    iexact Hk

end Cert.Proof.Pool
-- ==== Proof.Search.lean ====
module

public import proofs.«01_k».proof.Proof.Half

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords)

/-! ## The searches -/

/-- A table in ascending order. -/
def Sorted (Sg : Nat → Int) : Prop := ∀ p q, p ≤ q → q < 4096 → Sg p ≤ Sg q

/-- One search after `k` steps. -/
def Srch (Sg : Nat → Int) (v : Nat) (k : Nat) (lo hi : BitVec 32) : Prop :=
  ∃ a b, Is lo a ∧ Is hi b ∧ b ≤ 4096 ∧ ((a = 0 ∧ b = 2 ^ (12 - k)) ∨ (1 ≤ a ∧ b + 1 = a + 2 ^ (12 - k))) ∧
    (1 ≤ a → Sg (a - 1) < v) ∧ (b < 4096 → (v : Int) ≤ Sg b)

/-- What a search finds. -/
structure Found (Sg : Nat → Int) (v r : Nat) : Prop where
  le : r ≤ 4096
  below : 1 ≤ r → Sg (r - 1) < v
  above : ∀ p, p = max r 1 → p < 4096 → (v : Int) ≤ Sg p

theorem Srch.start {Sg : Nat → Int} {v : Nat} : Srch Sg v 0 0#32 4096#32 :=
  ⟨0, 4096, Is.ofNat 0 (by decide), Is.ofNat 4096 (by decide), le_rfl, .inl ⟨rfl, rfl⟩, fun h => absurd h (by decide), fun h => absurd h (by decide)⟩

theorem Srch.found {Sg : Nat → Int} {v : Nat} {lo hi : BitVec 32} (h : Srch Sg v 12 lo hi) : ∃ r, Is lo r ∧ Found Sg v r := by
  obtain ⟨a, b, ha, hb, hle, hw, h1, h2⟩ := h
  rw [show (2 : Nat) ^ (12 - 12) = 1 from rfl] at hw
  refine ⟨a, ha, by omega, h1, fun p hp hp2 => ?_⟩
  obtain rfl : b = p := by omega
  exact h2 hp2

theorem pow_half {k : Nat} (h : k < 12) : 2 ^ (12 - k) = 2 * 2 ^ (12 - (k + 1)) := by
  rw [← Nat.pow_succ']; congr 1; omega

theorem Srch.mid {Sg : Nat → Int} {v k : Nat} {lo hi : BitVec 32} (h : Srch Sg v k lo hi) (hk : k < 12) : ∃ m, Is (midOf lo hi) m ∧ m < 4096 := by
  obtain ⟨a, b, ha, hb, hle, hw, -, -⟩ := h
  have hp := pow_half hk
  have hp0 : 0 < 2 ^ (12 - (k + 1)) := Nat.pow_pos (by decide)
  have hb' : a ≤ 4096 := by omega
  refine ⟨(a + b) / 2, (ha.add hb (by omega)).shr 1#32 1 rfl (by decide), ?_⟩
  omega

theorem Srch.chk {Sg : Nat → Int} {v k : Nat} {lo hi : BitVec 32} (h : Srch Sg v k lo hi) (hk : k < 12) : k0_chk1 lo hi := by
  obtain ⟨m, hm, hlt⟩ := h.mid hk
  intro a
  fin_cases a
  show (midOf lo hi).toNat + 16 ≤ 4112
  rw [hm.toNat]; omega

theorem Srch.step {Sg : Nat → Int} {v k : Nat} {lo hi x t : BitVec 32} (h : Srch Sg v k lo hi) (hk : k < 12)
    (hx : x.toInt = Sg (midOf lo hi).toNat) (ht : Is t v) : Srch Sg v (k + 1) (loStep lo hi x t) (hiStep lo hi x t) := by
  obtain ⟨a, b, ha, hb, hle, hw, h1, h2⟩ := h
  have hp := pow_half hk
  have hp0 : 0 < 2 ^ (12 - (k + 1)) := Nat.pow_pos (by decide)
  have hb' : a ≤ 4096 := by omega
  have hm : Is (midOf lo hi) ((a + b) / 2) := (ha.add hb (by omega)).shr 1#32 1 rfl (by decide)
  have hc : Scalar.cmpi .sge x t = 1#1 ↔ (v : Int) ≤ x.toInt := by rw [sge_iff, show t.toInt = (v : Int) from ht]
  rw [hm.toNat] at hx
  unfold loStep hiStep
  rw [select_eq hc, select_eq hc]
  rcases Classical.em ((v : Int) ≤ x.toInt) with hv | hv
  · rw [if_pos hv, if_pos hv]
    refine ⟨a, (a + b) / 2, ha, hm, by omega, by omega, h1, fun _ => ?_⟩
    rw [← hx]; exact hv
  · rw [if_neg hv, if_neg hv]
    refine ⟨(a + b) / 2 + 1, b, hm.add (Is.ofNat 1 (by decide)) (by omega), hb, hle, by omega, fun _ => ?_, h2⟩
    rw [Nat.add_sub_cancel, ← hx]; omega

/-- The five searches after `k` steps. -/
def Srch5 (Sg : Nat → Int) (w k : Nat) (l : T10) : Prop :=
  Srch Sg (4 * w + 0) k l.1 l.2.2.2.2.2.1 ∧ Srch Sg (4 * w + 1) k l.2.1 l.2.2.2.2.2.2.1 ∧ Srch Sg (4 * w + 2) k l.2.2.1 l.2.2.2.2.2.2.2.1 ∧
    Srch Sg (4 * w + 3) k l.2.2.2.1 l.2.2.2.2.2.2.2.2.1 ∧ Srch Sg (4 * w + 4) k l.2.2.2.2.1 l.2.2.2.2.2.2.2.2.2

variable (tb : Memref sig .scVector .vmem S4112 .i32)

theorem probe_spec (Tw : Nat → BitVec 32) (lo hi : BitVec 32) (h : k0_chk1 lo hi) {β : Type} {K : BitVec 32 → PG F i β} {Q : β → SP F} :
    (own d i tb fullShare (c1 Tw) : SP F) ⊢ iprop((own d i tb fullShare (c1 Tw) -∗ wpI d i (K (Tw (midOf lo hi).toNat)) Q) -∗ wpI d i (probe i tb lo hi h K) Q) := by
  unfold probe
  iintro H HK
  iapply (wpI_load d i) $$ H
  iintro H
  generalize hx0 : word0 (F := F) (fun y : (Rect.unit (s := S4112) (k0_off4 lo hi) S16.size (k0_off4_inb lo hi h)).shape.Idx => c1 Tw ((Rect.unit (s := S4112) (k0_off4 lo hi) S16.size (k0_off4_inb lo hi h)).emb y)) = x0
  have e0 : Tw (midOf lo hi).toNat = x0 := (word0_read (F := F) (n := 4112) Tw _ (k0_off4_inb lo hi h)).symm.trans hx0
  rw [e0]
  iapply HK $$ H

theorem probeOK_spec {lo hi : BitVec 32} (h : k0_chk1 lo hi) {β : Type} {K : k0_chk1 lo hi → PG F i β} {Q : β → SP F} :
    (wpI d i (K h) Q : SP F) ⊢ wpI d i (probeOK i lo hi K) Q :=
  wpI_assume d i (k := fun e : PLift (k0_chk1 lo hi) => K e.down) h

theorem searchStep_spec {Tw : Nat → BitVec 32} {Sg : Nat → Int} (hTw : ∀ p < 4096, (Tw p).toInt = Sg p) {w k : Nat} (hk : k < 12) {v33 : BitVec 32} (hv : Is v33 (4 * w)) (hw : w < 32) (l : T10)
    (hl : Srch5 Sg w k l) :
    (own d i tb fullShare (c1 Tw) : SP F) ⊢ wpI d i (searchStep i tb v33 l) (fun l' => iprop(own d i tb fullShare (c1 Tw) ∗ ⌜Srch5 Sg w (k + 1) l'⌝)) := by
  obtain ⟨l0, l1, l2, l3, l4, h0, h1, h2, h3, h4⟩ := l
  obtain ⟨a0, a1, a2, a3, a4⟩ := hl
  dsimp only at a0 a1 a2 a3 a4
  have hx : ∀ {v : Nat} {lo hi : BitVec 32}, Srch Sg v k lo hi → (Tw (midOf lo hi).toNat).toInt = Sg (midOf lo hi).toNat := fun h => by
    obtain ⟨m, hm, hlt⟩ := h.mid hk
    exact hTw _ (by rw [hm.toNat]; exact hlt)
  have ht : ∀ j, j < 5 → Is (Scalar.addi v33 (BitVec.ofNat 32 j)) (4 * w + j) := fun j hj => hv.add (Is.ofNat j (by omega)) (by omega)
  unfold searchStep
  iintro H
  iapply (probeOK_spec d i (a4.chk hk))
  iapply (probeOK_spec d i (a3.chk hk))
  iapply (probeOK_spec d i (a2.chk hk))
  iapply (probeOK_spec d i (a1.chk hk))
  iapply (probeOK_spec d i (a0.chk hk))
  iapply (probe_spec d i tb Tw l0 h0) $$ H
  iintro H
  iapply (probe_spec d i tb Tw l1 h1) $$ H
  iintro H
  iapply (probe_spec d i tb Tw l2 h2) $$ H
  iintro H
  iapply (probe_spec d i tb Tw l3 h3) $$ H
  iintro H
  iapply (probe_spec d i tb Tw l4 h4) $$ H
  iintro H
  iapply (wpI_pure d i)
  isplitl [H]; · iexact H
  ipureintro
  exact ⟨a0.step hk (hx a0) (ht 0 (by decide)), a1.step hk (hx a1) (ht 1 (by decide)), a2.step hk (hx a2) (ht 2 (by decide)),
    a3.step hk (hx a3) (ht 3 (by decide)), a4.step hk (hx a4) (ht 4 (by decide))⟩

/-- The five results. -/
structure Found5 (Sg : Nat → Int) (w : Nat) (r : Nat → Nat) (l : T10) : Prop where
  f : ∀ j < 5, Found Sg (4 * w + j) (r j)
  i0 : Is l.1 (r 0)
  i1 : Is l.2.1 (r 1)
  i2 : Is l.2.2.1 (r 2)
  i3 : Is l.2.2.2.1 (r 3)
  i4 : Is l.2.2.2.2.1 (r 4)

theorem Srch5.found {Sg : Nat → Int} {w : Nat} {l : T10} (h : Srch5 Sg w 12 l) : ∃ r, Found5 Sg w r l := by
  obtain ⟨a0, a1, a2, a3, a4⟩ := h
  obtain ⟨r0, i0, f0⟩ := a0.found
  obtain ⟨r1, i1, f1⟩ := a1.found
  obtain ⟨r2, i2, f2⟩ := a2.found
  obtain ⟨r3, i3, f3⟩ := a3.found
  obtain ⟨r4, i4, f4⟩ := a4.found
  refine ⟨fun | 0 => r0 | 1 => r1 | 2 => r2 | 3 => r3 | _ => r4, ?_, i0, i1, i2, i3, i4⟩
  intro j hj
  match j, hj with
  | 0, _ => exact f0
  | 1, _ => exact f1
  | 2, _ => exact f2
  | 3, _ => exact f3
  | 4, _ => exact f4

theorem searches_spec {Tw : Nat → BitVec 32} {Sg : Nat → Int} (hTw : ∀ p < 4096, (Tw p).toInt = Sg p) {w : Nat} {v33 : BitVec 32} (hv : Is v33 (4 * w)) (hw : w < 32)
    {β : Type} {K : T10 → PG F i β} {Q : β → SP F} :
    (own d i tb fullShare (c1 Tw) : SP F) ⊢ iprop((∀ l r, iprop(own d i tb fullShare (c1 Tw) ∗ ⌜Found5 Sg w r l⌝) -∗ wpI d i (K l) Q) -∗
      wpI d i (Scf.Loop.for k0_t2_loop k0_t2_ok ((0#32, 0#32, 0#32, 0#32, 0#32, 4096#32, 4096#32, 4096#32, 4096#32, 4096#32) : T10) (fun _ l => searchStep i tb v33 l) >>= K) Q) := by
  have hl := wpI_loop d i k0_t2_loop k0_t2_ok ((0#32, 0#32, 0#32, 0#32, 0#32, 4096#32, 4096#32, 4096#32, 4096#32, 4096#32) : T10) (fun _ l => searchStep i tb v33 l)
    (fun k l => iprop(own d i tb fullShare (c1 Tw) ∗ ⌜Srch5 Sg w k l⌝)) (fun k l => by
      iintro ⟨H, %h⟩
      iapply (searchStep_spec d i tb hTw (show k.val < 12 from k.isLt) hv hw l h) $$ H) (kk := K) (Q := Q)
  iintro H HK
  iapply hl $$ [H]
  · isplitl [H]; · iexact H
    ipureintro
    exact ⟨.start, .start, .start, .start, .start⟩
  iintro %l ⟨H, %h⟩
  obtain ⟨r, hr⟩ := Srch5.found (show Srch5 Sg w 12 l from h)
  ispecialize HK $$ %l
  ispecialize HK $$ %r
  iapply HK
  isplitl [H]; · iexact H
  ipureintro; exact hr

end Cert.Proof.Pool
-- ==== Proof.Phase.lean ====
module

public import proofs.«01_k».proof.Proof.Search

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords)

theorem prefix_mem {n k : Nat} (h : ∀ a, (![0] : Fin 1 → Nat) a + (![k] : Fin 1 → Nat) a ≤ (⟨1, ![n]⟩ : Shape).size a) (j : (⟨1, ![n]⟩ : Shape).Idx) (hlt : (j 0).val < k) :
    ∃ j', j = (Rect.unit (s := ⟨1, ![n]⟩) ![0] ![k] h).emb j' := by
  refine ⟨fun a => match a with | ⟨0, _⟩ => (⟨(j 0).val, hlt⟩ : Fin k), ?_⟩
  funext a
  match a with
  | ⟨0, _⟩ =>
    refine Fin.ext (Eq.trans ?_ (unit_emb_val (s := ⟨1, ![n]⟩) ![0] ![k] h _ 0).symm)
    exact (Nat.zero_add _).symm

/-! ## The tables -/

variable (seg : Memref sig .scVector .hbm S65536 .i32)

/-- Sentence `b`'s buckets. -/
def sgOf (G : Nat → BitVec 32) (b : Nat) : Nat → Int := fun p => (G (4096 * b + p)).toInt

/-- A table filled with sentence `b`'s buckets, and the array they came from. -/
def tabR (tb : Memref sig .scVector .vmem S4112 .i32) (q : PosShare TreeShare) (G : Nat → BitVec 32) (b : Nat) : SP F :=
  iprop((∃ Tw : Nat → BitVec 32, own d i tb fullShare (c1 Tw) ∗ ⌜∀ p < 4096, (Tw p).toInt = sgOf G b p⌝) ∗ own d i seg q (c1 G))

/-- A table that sentence `b`'s buckets are on their way to, if there is such a sentence; the array beside it if not. -/
def tabSt (tb : Memref sig .scVector .vmem S4112 .i32) (sm : DmaSems sig S_) (q : PosShare TreeShare) (G : Nat → BitVec 32) (b : Nat) : SP F :=
  if b < 16 then flyTo d i sm.sem 131072 (tabR d i seg tb q G b)
  else iprop((ownAny d i tb ∗ semVal (VT d i, .dma sm.sem) 0) ∗ own d i seg q (c1 G))

theorem askTable_spec {tb : Memref sig .scVector .vmem S4112 .i32} {sm : DmaSems sig S_} (hN : (tbSlice tb).view.dmaCredit = 131072) {q : PosShare TreeShare} {G : Nat → BitVec 32} {b : Nat}
    (p : Fin 1 → Nat) (hp : p 0 = 4096 * b) (h : ∀ a, p a + S4096.size a ≤ S65536.size a) {β : Type} {k : PUnit → PG F i β} {Q : β → SP F} {hsrc hdst hsem} :
    iprop((ownAny d i tb ∗ semVal (VT d i, .dma sm.sem) 0) ∗ own d i seg q (c1 G)) ⊢
      iprop((flyTo d i sm.sem 131072 (tabR d i seg tb q G b) -∗ wpI d i (k ⟨⟩) Q)
        -∗ wpI d i (Prog.lift (.enqueueDma (sgSlice seg p h) (.here (tbSlice tb)) (.dma sm.sem) hsrc hdst hsem) >>= k) Q) := by
  unfold ownAny
  iintro ⟨⟨⟨%x, HT⟩, Hs⟩, HG⟩ Hk
  obtain ⟨X, rfl⟩ := exists_c1 x
  have hjoin := own_join d i tb (Rect.unit (s := S4112) ![0] S4096.size inb_S4112_S4096_0) (fun _ => rfl) fullShare (c1 X) (c1 fun n => if n < 4096 then G (4096 * b + n) else X n)
    (fun y => c1 G ((Rect.unit (s := S65536) p S4096.size h).emb y)) (by
      intro j
      have hj : (j 0).val < 4096 := (j 0).isLt
      unfold c1
      rw [unit_emb_val, unit_emb_val]
      show (if 0 + (j 0).val < 4096 then G (4096 * b + (0 + (j 0).val)) else _) = G (p 0 + (j 0).val)
      rw [if_pos (by omega), hp, Nat.zero_add]) (by
      intro j hj
      exact if_neg fun hlt => (prefix_mem inb_S4112_S4096_0 j hlt).elim hj)
  ihave HT := (own_split d i tb (Rect.unit (s := S4112) ![0] S4096.size inb_S4112_S4096_0) (fun _ => rfl) fullShare (c1 X)) $$ HT
  icases HT with ⟨HT, Hr⟩
  ihave HG := (own_lend d i seg (Rect.unit (s := S65536) p S4096.size h) (fun _ => rfl) q (c1 G)) $$ HG
  icases HG with ⟨HG, Hback⟩
  iapply (wpI_dmaTo d i (src := sgSlice seg p h) (dst := tbSlice tb) 131072 hN (by decide) (tabR d i seg tb q G b)) $$ [HT HG Hs Hr Hback]
  · isplitl [HT HG Hs]
    · isplitl [HG]; · iexact HG
      isplitl [HT]; · iexact HT
      iexact Hs
    iintro ⟨HT, HG⟩
    unfold tabR
    isplitl [HT Hr]
    · iexists (fun n => if n < 4096 then G (4096 * b + n) else X n)
      isplitl [HT Hr]
      · iapply hjoin $$ [HT Hr]
        isplitl [HT]; · iexact HT
        iexact Hr
      · ipureintro
        intro n hn
        unfold sgOf
        dsimp only
        rw [if_pos hn]
    · iapply Hback $$ HG
  iexact Hk

theorem findBounds_spec {tb tbB : Memref sig .scVector .vmem S4112 .i32} {sA sB : DmaSems sig S_} (hNA : (tbSlice tb).view.dmaCredit = 131072) (hNB : (tbSlice tbB).view.dmaCredit = 131072)
    {q : PosShare TreeShare} {G : Nat → BitVec 32} {bw v1 : BitVec 32} {b w : Nat} (hb : Is bw b) (hb' : b < 16) (hv : Is v1 w) (hw : w < 32) (P : Phase bw v1) (s e : BitVec 32)
    (hchk : ∀ r l, Found5 (sgOf G b) w r l → P.chk s e l.2.2.2.2.1 l.1) {O : CellTallies nD τ sig (HIx 1)}
    {β : Type} {K : (l : T10) → P.chk s e l.2.2.2.2.1 l.1 → PG F i β} {Q : β → SP F} :
    iprop(tabSt d i seg tb sA q G b ∗ (ownAny d i tbB ∗ semVal (VT d i, .dma sB.sem) 0) ∗ owing d i O) ⊢
      iprop((∀ l hc r, iprop(⌜Found5 (sgOf G b) w r l⌝ ∗ tabSt d i seg tbB sB q G (b + 1) ∗ (ownAny d i tb ∗ semVal (VT d i, .dma sA.sem) 0) ∗ owing d i O) -∗ wpI d i (K l hc) Q)
        -∗ wpI d i (findBounds i tb seg tbB sA sB bw v1 P s e K) Q) := by
  have h1 : tst (Scalar.cmpi .slt (Scalar.addi bw 1#32) 16#32) = 1#1 ↔ b + 1 < 16 := (hb.add (Is.ofNat 1 (by decide)) (by omega)).slt (Is.ofNat 16 (by decide))
  have hv33 : Is (Scalar.muli 4#32 v1) (4 * w) := (Is.ofNat 4 (by decide)).mul hv (by omega)
  unfold findBounds
  rw [tabSt, if_pos hb']
  iintro ⟨HA, HB, HO⟩ HK
  iapply (wpI_waitTo d i hNA) $$ [HA HO]
  · isplitl [HA]; · iexact HA
    iexact HO
  iintro ⟨HA, Hs, HO⟩
  unfold tabR
  icases HA with ⟨⟨%Tw, HT, %hTw⟩, HG⟩
  dsimp only
  rcases Classical.em (b + 1 < 16) with hn | hn
  · rw [dif_pos (h1.mpr hn)]
    iapply (askTable_spec d i seg hNB (b := b + 1) (sgOff bw) (by
      show (Scalar.muli (Scalar.addi bw 1#32) 4096#32).toNat = _
      rw [((hb.add (Is.ofNat 1 (by decide)) (by omega)).mul (Is.ofNat 4096 (by decide)) (by omega)).toNat]; omega) (P.sg (h1.mpr hn))) $$ [HB HG]
    · isplitl [HB]; · iexact HB
      iexact HG
    iintro HB
    iapply (searches_spec d i tb hTw hv33 hw) $$ HT
    iintro %l %r ⟨HT, %hf⟩
    iapply (wpI_assume d i (hchk r l hf))
    ispecialize HK $$ %l
    ispecialize HK $$ %(hchk r l hf)
    ispecialize HK $$ %r
    iapply HK
    isplitr
    · ipureintro; exact hf
    isplitl [HB]
    · rw [tabSt, if_pos hn]; iexact HB
    isplitl [HT Hs]
    · isplitl [HT]
      · unfold ownAny; iexists _; iexact HT
      · iexact Hs
    iexact HO
  · rw [dif_neg (fun h => hn (h1.mp h))]
    iapply (searches_spec d i tb hTw hv33 hw) $$ HT
    iintro %l %r ⟨HT, %hf⟩
    iapply (wpI_assume d i (hchk r l hf))
    ispecialize HK $$ %l
    ispecialize HK $$ %(hchk r l hf)
    ispecialize HK $$ %r
    iapply HK
    isplitr
    · ipureintro; exact hf
    isplitl [HB HG]
    · rw [tabSt, if_neg hn]
      isplitl [HB]; · iexact HB
      iexact HG
    isplitl [HT Hs]
    · isplitl [HT]
      · unfold ownAny; iexists _; iexact HT
      · iexact Hs
    iexact HO

/-! ## A sentence's bounds -/

variable (bbuf : Memref sig .scVector .vmem S48 .i32)

theorem loads_spec {Z : Nat → BitVec 32} {bw : BitVec 32} {b : Nat} (hb : Is bw b) (hb' : b < 16) (hst : ∀ a, bbOff bw a + S16.size a ≤ S48.size a) (hen : ∀ a, bbOff (Scalar.addi 16#32 bw) a + S16.size a ≤ S48.size a)
    {β : Type} {K : BitVec 32 → BitVec 32 → PG F i β} {Q : β → SP F} :
    (own d i bbuf fullShare (c1 Z) : SP F) ⊢ iprop((own d i bbuf fullShare (c1 Z) -∗ wpI d i (K (Z b) (Z (16 + b))) Q) -∗ wpI d i (loads i bbuf bw hst hen K) Q) := by
  unfold loads
  iintro H HK
  iapply (wpI_load d i) $$ H
  iintro H
  iapply (wpI_load d i) $$ H
  iintro H
  generalize hx0 : word0 (F := F) (fun y : (Rect.unit (s := S48) (bbOff bw) S16.size hst).shape.Idx => c1 Z ((Rect.unit (s := S48) (bbOff bw) S16.size hst).emb y)) = x0
  generalize hx1 : word0 (F := F) (fun y : (Rect.unit (s := S48) (bbOff (Scalar.addi 16#32 bw)) S16.size hen).shape.Idx => c1 Z ((Rect.unit (s := S48) (bbOff (Scalar.addi 16#32 bw)) S16.size hen).emb y)) = x1
  have e0 : Z b = x0 := ((word0_read (F := F) (n := 48) Z _ hst).trans (congrArg Z hb.toNat)).symm.trans hx0
  have e1 : Z (16 + b) = x1 := ((word0_read (F := F) (n := 48) Z _ hen).trans (congrArg Z ((Is.ofNat 16 (by decide)).add hb (by omega)).toNat)).symm.trans hx1
  rw [e0, e1]
  iapply HK $$ H

/-! ## The bounds stored -/

variable (racc : Memref sig .scVector .vmem S3072 .f32) (bnds : Memref sig .scVector .vmem S32 .i32) (out : Memref sig .scVector .hbm S1572864 .f32)

theorem boundVec_at (b0 b1 b2 b3 b4 : BitVec 32) :
    boundVec b0 b1 b2 b3 b4 (lane 0 (by decide)) = b0 ∧ boundVec b0 b1 b2 b3 b4 (lane 1 (by decide)) = b1 ∧ boundVec b0 b1 b2 b3 b4 (lane 2 (by decide)) = b2 ∧
      boundVec b0 b1 b2 b3 b4 (lane 3 (by decide)) = b3 ∧ boundVec b0 b1 b2 b3 b4 (lane 4 (by decide)) = b4 := ⟨rfl, rfl, rfl, rfl, rfl⟩

/-- The bounds' buffer once `b0 … b4` are stored. -/
def bndW (W : Nat → BitVec 32) (b0 b1 b2 b3 b4 : BitVec 32) : Nat → BitVec 32 := fun n => if h : n < 16 then boundVec b0 b1 b2 b3 b4 (lane n h) else W n

theorem bounds_of {W : Nat → BitVec 32} {b0 b1 b2 b3 b4 : BitVec 32} {B : Nat → Nat} (h0 : Is b0 (B 0)) (h1 : Is b1 (B 1)) (h2 : Is b2 (B 2)) (h3 : Is b3 (B 3)) (h4 : Is b4 (B 4))
    (hle : ∀ l < 5, B l ≤ 4096) : Bounds (bndW W b0 b1 b2 b3 b4) B := by
  obtain ⟨e0, e1, e2, e3, e4⟩ := boundVec_at b0 b1 b2 b3 b4
  refine ⟨fun l hl => ?_, hle⟩
  unfold bndW
  rw [dif_pos (by omega)]
  match l, hl with
  | 0, _ => rw [e0]; exact h0
  | 1, _ => rw [e1]; exact h1
  | 2, _ => rw [e2]; exact h2
  | 3, _ => rw [e3]; exact h3
  | 4, _ => rw [e4]; exact h4

/-- A running row's buffer that the copy of sentence `b - 2` is leaving, if there is such a sentence. -/
def outSt (sO : DmaSems sig S_) (R : Nat → SP F) (b : Nat) : SP F :=
  if b < 2 then iprop(ownAny d i racc ∗ semVal (VT d i, .dma sO.sem) 0) else flyTo d i sO.sem 98304 iprop(R (b - 2) ∗ ownAny d i racc)

theorem putBounds_spec {hacc : racc.IsWhole} {sO : DmaSems sig S_} (hN : (ouSlice out ![0] inb_S1572864_S3072_0).view.dmaCredit = 98304) {bw b0 b1 b2 b3 b4 : BitVec 32} {b : Nat} (hb : Is bw b) {R : Nat → SP F}
    {O : CellTallies nD τ sig (HIx 1)} {β : Type} {K : PG F i β} {Q : β → SP F} :
    iprop(ownAny d i bnds ∗ outSt d i racc sO R b ∗ owing d i O) ⊢
      iprop((∀ W, iprop(own d i bnds fullShare (c1 (bndW W b0 b1 b2 b3 b4)) ∗ (if 2 ≤ b then R (b - 2) else iprop(⌜True⌝)) ∗ (ownAny d i racc ∗ semVal (VT d i, .dma sO.sem) 0) ∗ owing d i O) -∗ wpI d i K Q)
        -∗ wpI d i (putBounds i racc bnds out hacc sO bw b0 b1 b2 b3 b4 K) Q) := by
  have h2 : tst (Scalar.cmpi .sge bw 2#32) = 1#1 ↔ 2 ≤ b := hb.sge (Is.ofNat 2 (by decide))
  have hin : ∀ W : Nat → BitVec 32, ∀ j : (Rect.unit (s := S32) ![0] S16.size inb_S32_S16_0).shape.Idx, c1 (bndW W b0 b1 b2 b3 b4) ((Rect.unit (s := S32) ![0] S16.size inb_S32_S16_0).emb j) = shapeCast S16 (boundVec b0 b1 b2 b3 b4) shapeCasts_S16_S16 j := by
    intro W j
    have hj : (j 0).val < 16 := (j 0).isLt
    refine Eq.trans ?_ (congrFun (shapeCast_self (s := S16) _ _) j).symm
    unfold c1 bndW
    rw [unit_emb_val]
    show (if h : 0 + (j 0).val < 16 then _ else _) = _
    rw [dif_pos (by omega)]
    exact congrArg _ (s16_ext (Nat.zero_add _))
  have hout : ∀ W : Nat → BitVec 32, ∀ j : S32.Idx, (∀ j', j ≠ (Rect.unit (s := S32) ![0] S16.size inb_S32_S16_0).emb j') → c1 (bndW W b0 b1 b2 b3 b4) j = c1 W j := by
    intro W j hj
    exact dif_neg fun hlt => (prefix_mem inb_S32_S16_0 j hlt).elim hj
  unfold putBounds
  rcases Classical.em (2 ≤ b) with hn | hn
  · rw [if_pos (h2.mpr hn), if_pos hn, outSt, if_neg (by omega)]
    iintro ⟨HW, HR, HO⟩ HK
    icases (show (ownAny d i bnds : SP F) ⊢ iprop(∃ x, own d i bnds fullShare x) from .rfl) $$ HW with ⟨%x, HW⟩
    obtain ⟨W, rfl⟩ := exists_c1 x
    iapply (wpI_load d i) $$ HW
    iintro HW
    iapply (wpI_store d i (m := bnds) (r := Rect.unit (s := S32) ![0] S16.size inb_S32_S16_0) (w := shapeCast S16 (boundVec b0 b1 b2 b3 b4) shapeCasts_S16_S16) (x := c1 W) (c1 (bndW W b0 b1 b2 b3 b4)) (hin W) (hout W)) $$ HW
    iintro HW
    ispecialize HK $$ %W
    iapply (wpI_waitTo d i hN) $$ [HR HO]
    · isplitl [HR]; · iexact HR
      iexact HO
    iintro ⟨⟨HR, HA⟩, Hs, HO⟩
    iapply HK
    isplitl [HW]; · iexact HW
    isplitl [HR]; · iexact HR
    isplitl [HA Hs]
    · isplitl [HA]; · iexact HA
      iexact Hs
    iexact HO
  · rw [if_neg (fun h => hn (h2.mp h)), if_neg hn, outSt, if_pos (by omega)]
    iintro ⟨HW, HR, HO⟩ HK
    icases (show (ownAny d i bnds : SP F) ⊢ iprop(∃ x, own d i bnds fullShare x) from .rfl) $$ HW with ⟨%x, HW⟩
    obtain ⟨W, rfl⟩ := exists_c1 x
    iapply (wpI_load d i) $$ HW
    iintro HW
    iapply (wpI_store d i (m := bnds) (r := Rect.unit (s := S32) ![0] S16.size inb_S32_S16_0) (w := shapeCast S16 (boundVec b0 b1 b2 b3 b4) shapeCasts_S16_S16) (x := c1 W) (c1 (bndW W b0 b1 b2 b3 b4)) (hin W) (hout W)) $$ HW
    iintro HW
    ispecialize HK $$ %W
    iapply HK
    isplitl [HW]; · iexact HW
    isplitr; · ipureintro; trivial
    isplitl [HR]; · iexact HR
    iexact HO

/-! ## The division -/

/-- The buckets' rows divided, by the differences of the bounds' words. -/
def divs (A : Nat → F .f32) (B : Nat → Nat) : Nat → Nat → F .f32
  | 0 => A
  | l + 1 => rowPut (divs A B l) (768 * l) 0 48 fun k => mulf (accVec (divs A B l) (768 * l) k) (invOf (Scalar.subi (BitVec.ofNat 32 (B (l + 1))) (BitVec.ofNat 32 (B l))))

theorem Is.eq {x : BitVec 32} {n : Nat} (h : Is x n) : x = BitVec.ofNat 32 n := by
  have := h.toNat
  rw [← this]; simp

theorem divLoop_spec {A : Nat → F .f32} {W : Nat → BitVec 32} {B : Nat → Nat} (hW : Bounds W B) {β : Type} {K : PUnit → PG F i β} {Q : β → SP F} :
    iprop(own d i racc fullShare (c1 A) ∗ own d i bnds fullShare (c1 W)) ⊢
      iprop((iprop(own d i racc fullShare (c1 (divs A B 4)) ∗ own d i bnds fullShare (c1 W)) -∗ wpI d i (K ⟨⟩) Q) -∗ wpI d i (divLoop i racc bnds >>= K) Q) := by
  have hbody : ∀ (t4 : Fin k4Loop.trips) (acc : PUnit),
      (iprop(own d i racc fullShare (c1 (divs A B t4)) ∗ own d i bnds fullShare (c1 W)) : SP F) ⊢
      wpI d i (
        Prog.lift (.load bnds (Rect.unit (s := S32) (k0_off12 t4) S16.size (k0_off12_inb t4)).toLoadRect (View.loadsAt_vmem h_S16)) >>= fun x0 =>
        Prog.lift (.load bnds (Rect.unit (s := S32) (k0_off13 t4) S16.size (k0_off13_inb t4)).toLoadRect (View.loadsAt_vmem h_S16)) >>= fun x1 =>
        opRow i racc mulf (Scalar.muli (Scf.iv 0#32 1#32 t4) 768#32) (acc_inb t4) 47 0 h47
          (Tup.const (invOf (Scalar.subi (word0 x1) (word0 x0))) 47) (pure PUnit.unit))
      (fun _ => iprop(own d i racc fullShare (c1 (divs A B (t4 + 1))) ∗ own d i bnds fullShare (c1 W))) := by
    intro t4 acc
    have h4 := k4_lt t4
    have i0 := hW.is t4 (by omega)
    have i1 := hW.is (t4 + 1) (by omega)
    iintro ⟨HA, HW⟩
    iapply (wpI_load d i) $$ HW
    iintro HW
    iapply (wpI_load d i) $$ HW
    iintro HW
    generalize hx0 : word0 (F := F) (fun y : (Rect.unit (s := S32) (k0_off12 t4) S16.size (k0_off12_inb t4)).shape.Idx => c1 W ((Rect.unit (s := S32) (k0_off12 t4) S16.size (k0_off12_inb t4)).emb y)) = x0
    generalize hx1 : word0 (F := F) (fun y : (Rect.unit (s := S32) (k0_off13 t4) S16.size (k0_off13_inb t4)).shape.Idx => c1 W ((Rect.unit (s := S32) (k0_off13 t4) S16.size (k0_off13_inb t4)).emb y)) = x1
    have e0 : W t4 = x0 := ((word0_read (F := F) (n := 32) W _ (k0_off12_inb t4)).trans (congrArg W (off12_val t4))).symm.trans hx0
    have e1 : W (t4 + 1) = x1 := ((word0_read (F := F) (n := 32) W _ (k0_off13_inb t4)).trans (congrArg W (off13_val t4))).symm.trans hx1
    rw [← e0, ← e1, i0.eq, i1.eq, Tup.const_eq _ 47 0]
    iapply (opRow_spec d i racc mulf _ (768 * t4) (accBase t4) (acc_inb t4) (fun _ => invOf (Scalar.subi (BitVec.ofNat 32 (B (t4 + 1))) (BitVec.ofNat 32 (B t4)))) (pure PUnit.unit) 47 0 h47 (divs A B t4) (divs A B t4) (fun _ _ => rfl)) $$ HA
    iintro HA
    iapply (wpI_pure d i)
    isplitl [HA]; · iexact HA
    iexact HW
  have hl := wpI_loop d i k4Loop k0_t4_ok PUnit.unit _ (fun l _ => iprop(own d i racc fullShare (c1 (divs A B l)) ∗ own d i bnds fullShare (c1 W))) hbody (kk := K) (Q := Q)
  unfold divLoop
  iintro H HK
  iapply hl $$ [H]
  · iexact H
  iintro %u H
  iapply HK
  iexact H

/-- The place of a worker's block of sentence `b`. -/
def blkOff (b w : Nat) : Fin 1 → Nat := ![(b * 128 + 4 * w) * 768]

theorem blk_inb {b w : Nat} (hb : b < 16) (hw : w < 32) : ∀ a, blkOff b w a + S3072.size a ≤ S1572864.size a := by
  intro a; fin_cases a
  show (b * 128 + 4 * w) * 768 + 3072 ≤ 1572864
  omega

theorem outOff_eq {bw v1 : BitVec 32} {b w : Nat} (hb : Is bw b) (hb' : b < 16) (hv : Is v1 w) (hw : w < 32) : outOff bw v1 = blkOff b w := by
  have h := (((hb.mul (Is.ofNat 128 (by decide)) (by omega)).add ((Is.ofNat 4 (by decide)).mul hv (by omega)) (by omega)).mul (Is.ofNat 768 (by decide)) (by omega)).toNat
  funext a; fin_cases a; exact h

theorem ou_congr {o o' : Fin 1 → Nat} (h : o = o') (ho : ∀ a, o a + S3072.size a ≤ S1572864.size a) (ho' : ∀ a, o' a + S3072.size a ≤ S1572864.size a) :
    ouSlice out o ho = ouSlice out o' ho' := by subst h; rfl

theorem sendOut_spec {hacc : racc.IsWhole} {sO : DmaSems sig S_} {bw v1 : BitVec 32} {b w : Nat} (hb : Is bw b) (hb' : b < 16) (hv : Is v1 w) (hw : w < 32) (hN : (ouSlice out (blkOff b w) (blk_inb hb' hw)).view.dmaCredit = 98304)
    (hou : ∀ a, outOff bw v1 a + S3072.size a ≤ S1572864.size a) {A : Nat → F .f32} {W : Nat → BitVec 32} {B : Nat → Nat} (hW : Bounds W B) {β : Type} {K : PG F i β} {Q : β → SP F} :
    iprop(own d i racc fullShare (c1 A) ∗ semVal (VT d i, .dma sO.sem) 0 ∗ own d i bnds fullShare (c1 W) ∗ ownAny d i (ouSlice out (blkOff b w) (blk_inb hb' hw))) ⊢
      iprop((iprop(flyTo d i sO.sem 98304 iprop(own d i (ouSlice out (blkOff b w) (blk_inb hb' hw)) fullShare (c1 (divs A B 4)) ∗ ownAny d i racc) ∗ own d i bnds fullShare (c1 W)) -∗ wpI d i K Q)
        -∗ wpI d i (sendOut i racc bnds out hacc sO bw v1 hou K) Q) := by
  rw [← ou_congr out (outOff_eq hb hb' hv hw) hou (blk_inb hb' hw)] at hN ⊢
  unfold sendOut
  iintro ⟨HA, Hs, HW, Ho⟩ HK
  iapply (divLoop_spec d i racc bnds hW) $$ [HA HW]
  · isplitl [HA]; · iexact HA
    iexact HW
  iintro ⟨HA, HW⟩
  unfold ownAny
  icases Ho with ⟨%x, Ho⟩
  iapply (wpI_dmaTo d i (src := racc) (dst := ouSlice out (outOff bw v1) hou) 98304 hN (by decide) iprop(own d i (ouSlice out (outOff bw v1) hou) fullShare (c1 (divs A B 4)) ∗ ∃ x, own d i racc fullShare x)) $$ [HA Hs Ho]
  · isplitl [HA Hs Ho]
    · isplitl [HA]; · iexact HA
      isplitl [Ho]; · iexact Ho
      iexact Hs
    iintro ⟨Ho, HA⟩
    isplitl [Ho]; · iexact Ho
    iexists _; iexact HA
  iintro Hf
  iapply HK
  isplitl [Hf]; · iexact Hf
  iexact HW

end Cert.Proof.Pool
-- ==== Proof.Sentence.lean ====
module

public import proofs.«01_k».proof.Proof.Phase

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## What the inputs are asked for -/

/-- A sentence's first and last token. -/
abbrev zN (Z : Nat → BitVec 32) (n : Nat) : Nat := (Z n).toInt.toNat

/-- The inputs that the tile's checks hold of. -/
structure Fit (Z G : Nat → BitVec 32) : Prop where
  z : ∀ n < 32, 0 ≤ (Z n).toInt ∧ (Z n).toInt < 4096
  over : ∀ b < 16, ∀ p, 4080 ≤ p → p < 4096 → zN Z b ≤ p → p ≤ zN Z (16 + b) → zN Z b < p ∧ sgOf G b p / 4 = sgOf G b (p - 1) / 4

theorem Fit.is {Z G : Nat → BitVec 32} (h : Fit Z G) {n : Nat} (hn : n < 32) : Is (Z n) (zN Z n) ∧ zN Z n < 4096 := by
  have := h.z n hn
  unfold Is zN
  omega

/-- A sentence's span cut at the five results. -/
def cuts (Z : Nat → BitVec 32) (b : Nat) (r : Nat → Nat) : Nat → Nat := fun l => clamp (zN Z b) (zN Z (16 + b)) (r l)

theorem cuts_le {Z G : Nat → BitVec 32} (h : Fit Z G) {b : Nat} (hb : b < 16) (r : Nat → Nat) (l : Nat) : cuts Z b r l ≤ 4096 := by
  have := (h.is (n := 16 + b) (by omega)).2
  unfold cuts clamp
  omega

theorem Fit.ends {Z G : Nat → BitVec 32} (h : Fit Z G) {b w : Nat} (hb : b < 16) {r : Nat → Nat} (hr : ∀ j < 5, Found (sgOf G b) (4 * w + j) (r j)) {l : T10} (i0 : Is l.1 (r 0)) (i4 : Is l.2.2.2.2.1 (r 4)) :
    Ends (tLo (Z b) (Z (16 + b)) l.1) (tLo (Z b) (Z (16 + b)) l.2.2.2.2.1) (cuts Z b r 0) (cuts Z b r 4) := by
  obtain ⟨hs, hs'⟩ := h.is (n := b) (by omega)
  obtain ⟨he, he'⟩ := h.is (n := 16 + b) (by omega)
  refine ⟨is_tLo hs he i0 he', is_tLo hs he i4 he', cuts_le h hb r 0, cuts_le h hb r 4, fun hlt => ?_⟩
  unfold cuts clamp at hlt ⊢
  by_contra hge
  obtain ⟨h1, h2⟩ := h.over b hb (min (max (r 0) (zN Z b)) (zN Z (16 + b) + 1)) (by omega) (by omega) (by omega) (by omega)
  have e0 : min (max (r 0) (zN Z b)) (zN Z (16 + b) + 1) = r 0 := by omega
  rw [e0] at h1 h2
  have f0 := (hr 0 (by decide)).below (by omega)
  have f1 := (hr 0 (by decide)).above (r 0) (by omega) (by omega)
  push_cast at f0 f1
  omega

/-! ## A tile's buffers -/

set_option genInjectivity false in
set_option genSizeOfSpec false in
/-- The buffers of a sentence's parity. -/
structure Side where
  tb : Memref sig .scVector .vmem S4112 .i32
  st : DmaSems sig S_
  acc : Memref sig .scVector .vmem S3072 .f32
  so : DmaSems sig S_

set_option genInjectivity false in
set_option genSizeOfSpec false in
/-- The buffers of both parities, and what they read. -/
structure Env (F : FTy → Type) where
  words : Memref sig .scVector .hbm S16x4096x768 .f32
  seg : Memref sig .scVector .hbm S65536 .i32
  out : Memref sig .scVector .hbm S1572864 .f32
  bnds : Memref sig .scVector .vmem S32 .i32
  bbuf : Memref sig .scVector .vmem S48 .i32
  d0 : Memref sig .scVector .vmem S32x768 .f32
  d1 : Memref sig .scVector .vmem S32x768 .f32
  s0 : DmaSems sig S_
  s1 : DmaSems sig S_
  qw : PosShare TreeShare
  qs : PosShare TreeShare
  V : Nat → Nat → Nat → F .f32
  Z : Nat → BitVec 32
  G : Nat → BitVec 32
  O : CellTallies nD τ sig (HIx 1)
  w : Nat
  hw : w < 32

/-- A worker's block of a sentence, as it is left. -/
def Good (V : Nat → Nat → Nat → F .f32) (Z G : Nat → BitVec 32) (w b : Nat) (X : Nat → F .f32) : Prop :=
  ∃ (r : Nat → Nat) (A : Nat → F .f32), (∀ j < 5, Found (sgOf G b) (4 * w + j) (r j)) ∧
    X = divs (chunks (cuts Z b r) (cuts Z b r 0) (cuts Z b r 4) V b A (nN (cuts Z b r 0) (cuts Z b r 4))) (cuts Z b r) 4

variable (d : Dev nD) (i : grid0.Coords) (E : Env F)

theorem mod16 (b : Nat) : b % 16 < 16 := Nat.mod_lt _ (by decide)

abbrev blkM (out : Memref sig .scVector .hbm S1572864 .f32) {w : Nat} (hw : w < 32) (b : Nat) : Memref sig .scVector .hbm S3072 .f32 := ouSlice out (blkOff (b % 16) w) (blk_inb (mod16 b) hw)

/-- A block done; a block to do. -/
def goodBlk (b : Nat) : SP F := iprop(∃ X : Nat → F .f32, own d i (blkM E.out E.hw b) fullShare (c1 X) ∗ ⌜Good E.V E.Z E.G E.w b X⌝)
def rawBlk (b : Nat) : SP F := ownAny d i (blkM E.out E.hw b)

/-- What the tile's facts are. -/
structure Env.OK (E : Env F) : Prop where
  n0 : E.d0.view.dmaCredit = 786432
  n1 : E.d1.view.dmaCredit = 786432
  no : ∀ o h, (ouSlice E.out o h).view.dmaCredit = 98304
  fit : Fit E.Z E.G

variable (A B : Side)

/-- What no step touches but the last. -/
def frm (b : Nat) : SP F := iprop(outSt d i B.acc B.so (goodBlk d i E) (b + 1) ∗ (bigSep (Finset.Ico b 16) (rawBlk d i E)) ∗ own d i E.bbuf fullShare (c1 E.Z))

/-- The words and the buffers that the chunks are staged in. -/
def stg : SP F := iprop(rest d i E.d0 E.s0 ∗ rest d i E.d1 E.s1 ∗ own d i E.words E.qw (c3 E.V))

/-- Before sentence `b`. -/
def St0 (b : Nat) : SP F := iprop(tabSt d i E.seg A.tb A.st E.qs E.G b ∗ (ownAny d i B.tb ∗ semVal (VT d i, .dma B.st.sem) 0) ∗ outSt d i A.acc A.so (goodBlk d i E) b
  ∗ (bigSep (Finset.range (b - 2)) (goodBlk d i E)) ∗ ownAny d i E.bnds ∗ stg d i E ∗ owing d i E.O ∗ frm d i E B b)

/-- Its searches done. -/
def St1 (b : Nat) : SP F := iprop((tabSt d i E.seg B.tb B.st E.qs E.G (b + 1) ∗ (ownAny d i A.tb ∗ semVal (VT d i, .dma A.st.sem) 0)) ∗ outSt d i A.acc A.so (goodBlk d i E) b
  ∗ (bigSep (Finset.range (b - 2)) (goodBlk d i E)) ∗ ownAny d i E.bnds ∗ stg d i E ∗ owing d i E.O ∗ frm d i E B b)

/-- Its bounds stored. -/
def St2 (b : Nat) (r : Nat → Nat) : SP F := iprop((tabSt d i E.seg B.tb B.st E.qs E.G (b + 1) ∗ (ownAny d i A.tb ∗ semVal (VT d i, .dma A.st.sem) 0)) ∗ (ownAny d i A.acc ∗ semVal (VT d i, .dma A.so.sem) 0)
  ∗ (bigSep (Finset.range (b - 1)) (goodBlk d i E)) ∗ (∃ W, own d i E.bnds fullShare (c1 W) ∗ ⌜Bounds W (cuts E.Z b r)⌝) ∗ stg d i E ∗ owing d i E.O ∗ frm d i E B b)

/-- Its chunks added. -/
def St3 (b : Nat) (r : Nat → Nat) : SP F := iprop((tabSt d i E.seg B.tb B.st E.qs E.G (b + 1) ∗ (ownAny d i A.tb ∗ semVal (VT d i, .dma A.st.sem) 0))
  ∗ ((∃ X, own d i A.acc fullShare (c1 (chunks (cuts E.Z b r) (cuts E.Z b r 0) (cuts E.Z b r 4) E.V b X (nN (cuts E.Z b r 0) (cuts E.Z b r 4))))) ∗ semVal (VT d i, .dma A.so.sem) 0)
  ∗ (bigSep (Finset.range (b - 1)) (goodBlk d i E)) ∗ (∃ W, own d i E.bnds fullShare (c1 W) ∗ ⌜Bounds W (cuts E.Z b r)⌝) ∗ stg d i E ∗ owing d i E.O ∗ frm d i E B b)

variable {E A B} (hE : E.OK) (hA : (tbSlice A.tb).view.dmaCredit = 131072) (hB : (tbSlice B.tb).view.dmaCredit = 131072)
  {bw v1 : BitVec 32} {b : Nat} (hb : Is bw b) (hb' : b < 16) (hv : Is v1 E.w)
include hE hb hb'

theorem step0 (hst : ∀ a, bbOff bw a + S16.size a ≤ S48.size a) (hen : ∀ a, bbOff (Scalar.addi 16#32 bw) a + S16.size a ≤ S48.size a)
    {β : Type} {K : BitVec 32 → BitVec 32 → PG F i β} {Q : β → SP F} :
    St0 d i E A B b ⊢ iprop((St0 d i E A B b -∗ wpI d i (K (E.Z b) (E.Z (16 + b))) Q) -∗ wpI d i (loads i E.bbuf bw hst hen K) Q) := by
  unfold St0 frm
  iintro ⟨H1, H2, H3, H4, H5, H6, H7, H8, H9, HZ⟩ HK
  iapply (loads_spec d i E.bbuf hb hb' hst hen) $$ HZ
  iintro HZ
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HZ

include hA hB hv in
theorem step1 (P : Phase bw v1)
    (hchk : ∀ r l, Found5 (sgOf E.G b) E.w r l → P.chk (E.Z b) (E.Z (16 + b)) l.2.2.2.2.1 l.1)
    {β : Type} {K : (l : T10) → P.chk (E.Z b) (E.Z (16 + b)) l.2.2.2.2.1 l.1 → PG F i β} {Q : β → SP F} :
    St0 d i E A B b ⊢ iprop((∀ l hc r, iprop(⌜Found5 (sgOf E.G b) E.w r l⌝ ∗ St1 d i E A B b) -∗ wpI d i (K l hc) Q)
      -∗ wpI d i (findBounds i A.tb E.seg B.tb A.st B.st bw v1 P (E.Z b) (E.Z (16 + b)) K) Q) := by
  unfold St0 St1
  iintro ⟨H1, H2, H3, H4, H5, H6, H7, H8⟩ HK
  iapply (findBounds_spec d i E.seg hA hB hb hb' hv E.hw P (E.Z b) (E.Z (16 + b)) hchk) $$ [H1 H2 H7]
  · isplitl [H1]; · iexact H1
    isplitl [H2]; · iexact H2
    iexact H7
  iintro %l %hc %r ⟨Hf, H1, H2, H7⟩
  ispecialize HK $$ %l
  ispecialize HK $$ %hc
  ispecialize HK $$ %r
  iapply HK
  isplitl [Hf]; · iexact Hf
  isplitl [H1 H2]
  · isplitl [H1]; · iexact H1
    iexact H2
  isplitl [H3]; · iexact H3
  isplitl [H4]; · iexact H4
  isplitl [H5]; · iexact H5
  isplitl [H6]; · iexact H6
  isplitl [H7]; · iexact H7
  iexact H8

omit hE hb hb' in
theorem goods_step : iprop((bigSep (Finset.range (b - 2)) (goodBlk d i E)) ∗ (if 2 ≤ b then goodBlk d i E (b - 2) else iprop(⌜True⌝))) ⊢ (bigSep (Finset.range (b - 1)) (goodBlk d i E) : SP F) := by
  rcases Classical.em (2 ≤ b) with h | h
  · rw [if_pos h, show b - 1 = (b - 2) + 1 by omega, Finset.range_add_one, SparseCore.bigSep_insert' Finset.notMem_range_self]
    iintro ⟨H1, H2⟩
    isplitl [H2]; · iexact H2
    iexact H1
  · rw [if_neg h, show b - 1 = b - 2 by omega]
    iintro ⟨H, -⟩
    iexact H

theorem step2 {hacc : A.acc.IsWhole} {r : Nat → Nat} {l : T10} (hr : Found5 (sgOf E.G b) E.w r l) {β : Type} {K : PG F i β} {Q : β → SP F} :
    St1 d i E A B b ⊢ iprop((St2 d i E A B b r -∗ wpI d i K Q)
      -∗ wpI d i (putBounds i A.acc E.bnds E.out hacc A.so bw (tLo (E.Z b) (E.Z (16 + b)) l.1) (tLo (E.Z b) (E.Z (16 + b)) l.2.1) (tLo (E.Z b) (E.Z (16 + b)) l.2.2.1)
        (tLo (E.Z b) (E.Z (16 + b)) l.2.2.2.1) (tLo (E.Z b) (E.Z (16 + b)) l.2.2.2.2.1) K) Q) := by
  obtain ⟨hs, hs'⟩ := hE.fit.is (n := b) (by omega)
  obtain ⟨he, he'⟩ := hE.fit.is (n := 16 + b) (by omega)
  have hW := fun W => bounds_of (W := W) (B := cuts E.Z b r) (is_tLo hs he hr.i0 he') (is_tLo hs he hr.i1 he') (is_tLo hs he hr.i2 he') (is_tLo hs he hr.i3 he') (is_tLo hs he hr.i4 he') (fun l _ => cuts_le hE.fit hb' r l)
  unfold St1 St2
  iintro ⟨H1, H3, H4, H5, H6, H7, H8⟩ HK
  iapply (putBounds_spec d i A.acc E.bnds E.out (hE.no _ _) hb (R := goodBlk d i E)) $$ [H3 H5 H7]
  · isplitl [H5]; · iexact H5
    isplitl [H3]; · iexact H3
    iexact H7
  iintro %W ⟨HW, HR, HA, H7⟩
  iapply HK
  isplitl [H1]; · iexact H1
  isplitl [HA]; · iexact HA
  isplitl [H4 HR]
  · iapply (goods_step d i) $$ [H4 HR]
    isplitl [H4]; · iexact H4
    iexact HR
  isplitl [HW]
  · iexists _
    isplitl [HW]; · iexact HW
    ipureintro; exact hW W
  isplitl [H6]; · iexact H6
  isplitl [H7]; · iexact H7
  iexact H8

set_option maxHeartbeats 4000000 in
theorem step3 {hd0 : E.d0.IsWhole} {hd1 : E.d1.IsWhole} {r : Nat → Nat} {l : T10} (hr : Found5 (sgOf E.G b) E.w r l)
    (H : Chunks bw (tLo (E.Z b) (E.Z (16 + b)) l.1) (tLo (E.Z b) (E.Z (16 + b)) l.2.2.2.2.1))
    (hchk0 : ∀ j t0 t1, RowsIn (tLo (E.Z b) (E.Z (16 + b)) l.1) (tLo (E.Z b) (E.Z (16 + b)) l.2.2.2.2.1) (w0Of (Scf.iv 0#32 1#32 j.val)) t0 t1 → (H.1.1.1 j).chk t0 t1)
    (hchk1 : ∀ j t0 t1, RowsIn (tLo (E.Z b) (E.Z (16 + b)) l.1) (tLo (E.Z b) (E.Z (16 + b)) l.2.2.2.2.1) (w1Of (Scf.iv 0#32 1#32 j.val)) t0 t1 → (H.1.1.2 j).chk t0 t1)
    {β : Type} {K : PG F i β} {Q : β → SP F} :
    St2 d i E A B b r ⊢ iprop((St3 d i E A B b r -∗ wpI d i K Q)
      -∗ wpI d i (chunkLoop i A.acc E.bnds E.words E.d0 E.d1 hd0 hd1 E.s0 E.s1 bw (tLo (E.Z b) (E.Z (16 + b)) l.1) (tLo (E.Z b) (E.Z (16 + b)) l.2.2.2.2.1) H K) Q) := by
  have hends := hE.fit.ends hb' hr.f hr.i0 hr.i4
  have hspec := fun X W (hW : Bounds W (cuts E.Z b r)) => @chunkLoop_spec F _ d i A.acc E.bnds E.words E.d0 E.d1 hd0 hd1 E.s0 E.s1 hE.n0 hE.n1 E.qw E.V X W (cuts E.Z b r) hW _ _ _ _ _ _ hb hends H hchk0 hchk1 E.O β K Q
  unfold St2 St3 stg
  iintro ⟨H1, ⟨HA, Hs⟩, H4, ⟨%W, HW, %hW⟩, ⟨Hd0, Hd1, Hw⟩, H7, H8⟩ HK
  icases (show (ownAny d i A.acc : SP F) ⊢ iprop(∃ x, own d i A.acc fullShare x) from .rfl) $$ HA with ⟨%x, HA⟩
  haveI : Nonempty (Elt F .f32) := ⟨(Scalar.ofBits .f32 0#32 : F .f32)⟩
  obtain ⟨X, rfl⟩ := exists_c1 x
  iapply (hspec X W hW) $$ [HA HW Hd0 Hd1 Hw H7]
  · isplitl [Hd0]; · iexact Hd0
    isplitl [Hd1]; · iexact Hd1
    isplitl [Hw]; · iexact Hw
    isplitl [HA]; · iexact HA
    isplitl [HW]; · iexact HW
    iexact H7
  iintro ⟨Hd0, Hd1, Hw, HA, HW, H7⟩
  iapply HK
  isplitl [H1]; · iexact H1
  isplitl [HA Hs]
  · isplitl [HA]
    · iexists X; iexact HA
    · iexact Hs
  isplitl [H4]; · iexact H4
  isplitl [HW]
  · iexists _
    isplitl [HW]; · iexact HW
    ipureintro; exact hW
  isplitl [Hd0 Hd1 Hw]
  · isplitl [Hd0]; · iexact Hd0
    isplitl [Hd1]; · iexact Hd1
    iexact Hw
  isplitl [H7]; · iexact H7
  iexact H8

include hv in
theorem step4 {hacc : A.acc.IsWhole} {r : Nat → Nat} {l : T10} (hr : Found5 (sgOf E.G b) E.w r l) (hou : ∀ a, outOff bw v1 a + S3072.size a ≤ S1572864.size a) {β : Type} {K : PG F i β} {Q : β → SP F} :
    St3 d i E A B b r ⊢ iprop((St0 d i E B A (b + 1) -∗ wpI d i K Q) -∗ wpI d i (sendOut i A.acc E.bnds E.out hacc A.so bw v1 hou K) Q) := by
  have hm : b % 16 = b := Nat.mod_eq_of_lt hb'
  unfold St3 St0 frm
  have hI : Finset.Ico b 16 = insert b (Finset.Ico (b + 1) 16) := by ext x; simp only [Finset.mem_Ico, Finset.mem_insert]; omega
  rw [hI, SparseCore.bigSep_insert' (by simp)]
  iintro ⟨⟨H1, H2⟩, ⟨⟨%X, HA⟩, Hs⟩, H4, ⟨%W, HW, %hW⟩, H6, H7, H8, ⟨Hr, Hrs⟩, HZ⟩ HK
  iapply (sendOut_spec d i A.acc E.bnds E.out (b := b % 16) (hm.symm ▸ hb) (mod16 b) hv E.hw (hE.no _ _) hou hW) $$ [HA Hs HW Hr]
  · isplitl [HA]; · iexact HA
    isplitl [Hs]; · iexact Hs
    isplitl [HW]; · iexact HW
    unfold rawBlk
    iexact Hr
  iintro ⟨Hf, HW⟩
  iapply HK
  isplitl [H1]; · iexact H1
  isplitl [H2]; · iexact H2
  isplitl [H8]; · iexact H8
  isplitl [H4]
  · rw [show b + 1 - 2 = b - 1 by omega]; iexact H4
  isplitl [HW]
  · unfold ownAny
    iexists _; iexact HW
  isplitl [H6]; · iexact H6
  isplitl [H7]; · iexact H7
  isplitl [Hf]
  · rw [outSt, if_neg (by omega), show b + 1 + 1 - 2 = b by omega]
    unfold flyTo
    icases Hf with ⟨%D, Hf, HD⟩
    iexists D
    isplitl [Hf]; · iexact Hf
    iintro H
    ihave H := HD $$ H
    icases H with ⟨Ho, HA⟩
    isplitl [Ho]
    · unfold goodBlk
      iexists _
      isplitl [Ho]; · iexact Ho
      ipureintro
      exact ⟨r, X, hr.f, rfl⟩
    · iexact HA
  isplitl [Hrs]; · iexact Hrs
  iexact HZ

end Cert.Proof.Pool
-- ==== Proof.Pair.lean ====
module

public import proofs.«01_k».proof.Proof.Sentence
public import proofs.«01_k».proof.Proof.Match

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords) (E : Env F) (A B : Side) (arg3 : Memref sig .scVector .hbm S48 .i32) (v12_r0 : DmaSems sig S_)
  (h2 : E.words.IsWhole) (h3 : arg3.IsWhole) (h4 : E.seg.IsWhole) (h5 : E.out.IsWhole) (h6 : E.d0.IsWhole) (h7 : E.d1.IsWhole)
  (h8 : A.acc.IsWhole) (h9 : B.acc.IsWhole) (h10 : A.tb.IsWhole) (h11 : B.tb.IsWhole) (h12 : E.bnds.IsWhole) (h13 : E.bbuf.IsWhole)

/-- Two sentences: the first on one parity's buffers, the next on the other's. -/
def pairC (tail : Fin k0_t1_loop.trips → (Σ' (_ : FVec F S16 .f32) (_ : BitVec 32), BitVec 32) → PG F i PUnit) (t1 : Fin k0_t1_loop.trips) : PG F i PUnit :=
  k0_part231 (F := F) i E.words h2 arg3 h3 E.seg h4 E.out h5 E.d0 h6 E.d1 h7 A.acc h8 B.acc h9 A.tb h10 B.tb h11 E.bnds h12 E.bbuf h13 E.s0 E.s1 A.st B.st A.so B.so v12_r0 (v1Of i) 0#32 1#32 t1 >>= fun x =>
  k0_part232 (F := F) i E.words h2 arg3 h3 E.seg h4 E.out h5 E.d0 h6 E.d1 h7 A.acc h8 B.acc h9 A.tb h10 B.tb h11 E.bnds h12 E.bbuf h13 E.s0 E.s1 A.st B.st A.so B.so v12_r0 (iota .scVector S16 32 [0] iota_S16_d0_w32_scVector) x.2.1 x.2.2.1 x.2.2.2.1 x.2.2.2.2.2.1 x.2.2.2.2.2.2.1 x.2.2.2.2.2.2.2.1 x.2.2.2.2.2.2.2.2.2.1 x.2.2.2.2.2.2.2.2.2.2.1 x.2.2.2.2.2.2.2.2.2.2.2 >>= fun y =>
  k0_part233 (F := F) i E.words h2 arg3 h3 E.seg h4 E.out h5 E.d0 h6 E.d1 h7 A.acc h8 B.acc h9 A.tb h10 B.tb h11 E.bnds h12 E.bbuf h13 E.s0 E.s1 A.st B.st A.so B.so v12_r0 (v1Of i) t1 x.1 x.2.1 x.2.2.1 x.2.2.2.1 x.2.2.2.2.1 x.2.2.2.2.2.2.2.1 x.2.2.2.2.2.2.2.2.1 x.2.2.2.2.2.2.2.2.2.1 y.1 y.2.1 y.2.2 >>= fun z =>
  k0_part234 (F := F) i E.words h2 arg3 h3 E.seg h4 E.out h5 E.d0 h6 E.d1 h7 A.acc h8 B.acc h9 A.tb h10 B.tb h11 E.bnds h12 E.bbuf h13 E.s0 E.s1 A.st B.st A.so B.so v12_r0 (v1Of i) (iota .scVector S16 32 [0] iota_S16_d0_w32_scVector) t1 z.1 z.2.1 z.2.2 >>= fun u =>
  k0_part235 (F := F) i E.words h2 arg3 h3 E.seg h4 E.out h5 E.d0 h6 E.d1 h7 A.acc h8 B.acc h9 A.tb h10 B.tb h11 E.bnds h12 E.bbuf h13 E.s0 E.s1 A.st B.st A.so B.so v12_r0 (iota .scVector S16 32 [0] iota_S16_d0_w32_scVector) t1 z.1 z.2.1 z.2.2 u.1 u.2.1 u.2.2.1 u.2.2.2.1 u.2.2.2.2.1 u.2.2.2.2.2.1 u.2.2.2.2.2.2.1 u.2.2.2.2.2.2.2 >>= fun v => tail t1 v

theorem cc0_eq : ∃ tail : Fin k0_t1_loop.trips → (Σ' (_ : FVec F S16 .f32) (_ : BitVec 32), BitVec 32) → PG F i PUnit,
    (∀ t1, tail t1 ⟨fconst 0x3F800000#32, 0#32, 1#32⟩ = sendOut i B.acc E.bnds E.out h9 B.so (b1Of t1) (v1Of i) (k0_off842_inb i t1) (pure PUnit.unit)) ∧
    cc0__sc_pool (F := F) i E.words h2 arg3 h3 E.seg h4 E.out h5 E.d0 h6 E.d1 h7 A.acc h8 B.acc h9 A.tb h10 B.tb h11 E.bnds h12 E.bbuf h13 E.s0 E.s1 A.st B.st A.so B.so v12_r0 =
    (Prog.lift (.enqueueDma arg3 (.here E.bbuf) (.dma v12_r0.sem) h3.wordExact h13.wordExact ⟨Or.inl rfl, trivial⟩) >>= fun _ =>
    Prog.lift (.waitDma2 v12_r0.sem arg3 E.bbuf h3.wordExact h13.wordExact) >>= fun _ =>
    Prog.lift (.enqueueDma (sgSlice E.seg ![0] inb_S65536_S4096_0) (.here (tbSlice A.tb)) (.dma A.st.sem) (View.wordExact_bits rfl) (View.wordExact_bits rfl) ⟨Or.inl rfl, trivial⟩) >>= fun _ =>
    Scf.Loop.for k0_t1_loop k0_t1_ok PUnit.unit (fun t1 _ => pairC i E A B arg3 v12_r0 h2 h3 h4 h5 h6 h7 h8 h9 h10 h11 h12 h13 tail t1) >>= fun _ =>
    askOut i A.acc E.out h8 A.so >>= fun _ => askOut i B.acc E.out h9 B.so >>= fun _ => pure PUnit.unit) := by
  refine ⟨?_, ?_, ?_⟩
  rotate_left 2
  unfold cc0__sc_pool
  dsimp only
  refine bind_congr fun _ => ?_
  refine bind_congr fun _ => ?_
  refine bind_congr fun _ => ?_
  have hl : ∀ (g g' : Fin k0_t1_loop.trips → PUnit → PG F i PUnit) (k : PUnit → PG F i PUnit), (∀ t1 a, g t1 a = g' t1 a) →
      (Scf.Loop.for k0_t1_loop k0_t1_ok PUnit.unit g >>= k) = (Scf.Loop.for k0_t1_loop k0_t1_ok PUnit.unit g' >>= k) :=
    fun g g' k h => by rw [funext fun t1 => funext fun a => h t1 a]
  refine hl _ _ _ fun t1 _ => ?_
  unfold pairC
  refine bind_congr fun x => ?_
  rcases x with ⟨x0, x1, x2, x3, x4, x5, x6, x7, x8, x9, x10, x11⟩
  dsimp only
  refine bind_congr fun y => ?_
  rcases y with ⟨y0, y1, y2⟩
  dsimp only
  refine bind_congr fun z => ?_
  rcases z with ⟨z0, z1, z2⟩
  dsimp only
  refine bind_congr fun u => ?_
  rcases u with ⟨u0, u1, u2, u3, u4, u5, u6, u7⟩
  dsimp only
  refine bind_congr fun v => ?_
  exact rfl
  intro t1
  dsimp only
  rfl

theorem wpI_bind {α β : Type} {p : PG F i α} {k : α → PG F i β} {Q : β → SP F} :
    (wpI d i p (fun a => wpI d i (k a) Q) : SP F) ⊢ wpI d i (p >>= k) Q := by
  simp only [wpI]
  rw [wp_bind]

theorem wpI_eq {α : Type} {p p' : PG F i α} (h : p = p') {Q : α → SP F} : (wpI d i p' Q : SP F) ⊢ wpI d i p Q := by
  subst h; exact .rfl

variable {E A B}

set_option maxHeartbeats 4000000 in
theorem pair_spec (hE : E.OK) (hA : (tbSlice A.tb).view.dmaCredit = 131072) (hB : (tbSlice B.tb).view.dmaCredit = 131072) (hv : Is (v1Of i) E.w)
    {tail : Fin k0_t1_loop.trips → (Σ' (_ : FVec F S16 .f32) (_ : BitVec 32), BitVec 32) → PG F i PUnit}
    (t1 : Fin k0_t1_loop.trips) (ht : tail t1 ⟨fconst 0x3F800000#32, 0#32, 1#32⟩ = sendOut i B.acc E.bnds E.out h9 B.so (b1Of t1) (v1Of i) (k0_off842_inb i t1) (pure PUnit.unit)) :
    St0 d i E A B (2 * t1) ⊢ wpI d i (pairC i E A B arg3 v12_r0 h2 h3 h4 h5 h6 h7 h8 h9 h10 h11 h12 h13 tail t1) (fun _ => St0 d i E A B (2 * (t1 + 1))) := by
  have b0 := (is_b0 t1).1
  have b1 := is_b1 t1
  have l0 : 2 * t1.val < 16 := by have := (is_b0 t1).2; omega
  have l1 : 2 * t1.val + 1 < 16 := (is_b0 t1).2
  unfold pairC
  iintro H
  iapply (wpI_bind d i)
  iapply (wpI_eq d i (part231_eq i E.words h2 arg3 h3 E.seg h4 E.out h5 E.d0 h6 E.d1 h7 A.acc h8 B.acc h9 A.tb h10 B.tb h11 E.bnds h12 E.bbuf h13 E.s0 E.s1 A.st B.st A.so B.so v12_r0 t1))
  iapply (step0 d i hE b0 l0 (k0_off1_inb t1) (k0_off2_inb t1)) $$ H
  iintro H
  iapply (step1 d i hE hA hB b0 l0 hv (phaseP i t1) (fun r l hr => chk6_of t1 (hE.fit.ends l0 hr.f hr.i0 hr.i4))) $$ H
  iintro %l %hc %r ⟨%hr, H⟩
  iapply (wpI_pure d i)
  iapply (wpI_bind d i)
  iapply (wpI_eq d i (part232_eq i E.words h2 arg3 h3 E.seg h4 E.out h5 E.d0 h6 E.d1 h7 A.acc h8 B.acc h9 A.tb h10 B.tb h11 E.bnds h12 E.bbuf h13 E.s0 E.s1 A.st B.st A.so B.so v12_r0 (b0Of t1) (E.Z (2 * t1)) (E.Z (16 + 2 * t1)) l.2.2.1 l.2.2.2.1 l.2.2.2.2.1 (tLo (E.Z (2 * t1)) (E.Z (16 + 2 * t1)) l.1) (Scalar.maxsi l.2.1 (E.Z (2 * t1))) (Scalar.addi (E.Z (16 + 2 * t1)) 1#32)))
  iapply (step2 d i hE b0 l0 (hacc := h8) hr) $$ H
  iintro H
  iapply (wpI_pure d i)
  iapply (wpI_bind d i)
  iapply (wpI_eq d i (part233_eq i E.words h2 arg3 h3 E.seg h4 E.out h5 E.d0 h6 E.d1 h7 A.acc h8 B.acc h9 A.tb h10 B.tb h11 E.bnds h12 E.bbuf h13 E.s0 E.s1 A.st B.st A.so B.so v12_r0 t1 (E.Z (2 * t1)) (E.Z (16 + 2 * t1)) l.1 l.2.2.2.2.1 hc))
  iapply (step3 d i hE b0 l0 (hd0 := h6) (hd1 := h7) hr ((phaseP i t1).ev (E.Z (2 * t1)) (E.Z (16 + 2 * t1)) l.2.2.2.2.1 l.1 hc) (fun j _ _ R => chk7_of j R) (fun j _ _ R => chk8_of j R)) $$ H
  iintro H
  iapply (step4 d i hE b0 l0 hv (hacc := h8) hr (k0_off421_inb i t1)) $$ H
  iintro H
  iapply (step0 d i hE b1 l1 (k0_off422_inb t1) (k0_off423_inb t1)) $$ H
  iintro H
  iapply (wpI_pure d i)
  iapply (wpI_bind d i)
  iapply (wpI_eq d i (part234_eq i E.words h2 arg3 h3 E.seg h4 E.out h5 E.d0 h6 E.d1 h7 A.acc h8 B.acc h9 A.tb h10 B.tb h11 E.bnds h12 E.bbuf h13 E.s0 E.s1 A.st B.st A.so B.so v12_r0 t1 (E.Z (2 * t1 + 1)) (E.Z (16 + (2 * t1 + 1)))))
  iapply (step1 d i hE hB hA b1 l1 hv (phaseQ i t1) (fun r l hr => chk16_of t1 (hE.fit.ends l1 hr.f hr.i0 hr.i4))) $$ H
  iintro %l' %hc' %r' ⟨%hr', H⟩
  iapply (wpI_pure d i)
  iapply (wpI_bind d i)
  iapply (wpI_eq d i (part235_eq i E.words h2 arg3 h3 E.seg h4 E.out h5 E.d0 h6 E.d1 h7 A.acc h8 B.acc h9 A.tb h10 B.tb h11 E.bnds h12 E.bbuf h13 E.s0 E.s1 A.st B.st A.so B.so v12_r0 t1 (E.Z (2 * t1 + 1)) (E.Z (16 + (2 * t1 + 1))) l'.1 l'.2.2.2.2.1 (tLo (E.Z (2 * t1 + 1)) (E.Z (16 + (2 * t1 + 1))) l'.2.1) (tLo (E.Z (2 * t1 + 1)) (E.Z (16 + (2 * t1 + 1))) l'.2.2.1) (tLo (E.Z (2 * t1 + 1)) (E.Z (16 + (2 * t1 + 1))) l'.2.2.2.1) hc'))
  iapply (step2 d i hE b1 l1 (hacc := h9) hr') $$ H
  iintro H
  iapply (step3 d i hE b1 l1 (hd0 := h6) (hd1 := h7) hr' ((phaseQ i t1).ev (E.Z (2 * t1 + 1)) (E.Z (16 + (2 * t1 + 1))) l'.2.2.2.2.1 l'.1 hc') (fun j _ _ R => chk17_of j R) (fun j _ _ R => chk18_of j R)) $$ H
  iintro H
  iapply (wpI_pure d i)
  iapply (wpI_eq d i ht)
  iapply (step4 d i hE b1 l1 hv (hacc := h9) hr' (k0_off842_inb i t1)) $$ H
  iintro H
  iapply (wpI_pure d i)
  iexact H

end Cert.Proof.Pool
-- ==== Proof.Tile.lean ====
module

public import proofs.«01_k».proof.Proof.Pair

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (d : Dev nD) (i : grid0.Coords) (E : Env F) (A B : Side) (arg3 : Memref sig .scVector .hbm S48 .i32) (v12_r0 : DmaSems sig S_)

/-- A tile's scratch, at whatever it holds; its counters at zero. -/
def scratch : SP F := iprop(ownAny d i E.d0 ∗ ownAny d i E.d1 ∗ ownAny d i A.acc ∗ ownAny d i B.acc ∗ ownAny d i A.tb ∗ ownAny d i B.tb ∗ ownAny d i E.bnds ∗ ownAny d i E.bbuf)
def zeros : SP F := iprop(semVal (VT d i, .dma E.s0.sem) 0 ∗ semVal (VT d i, .dma E.s1.sem) 0 ∗ semVal (VT d i, .dma A.st.sem) 0 ∗ semVal (VT d i, .dma B.st.sem) 0
  ∗ semVal (VT d i, .dma A.so.sem) 0 ∗ semVal (VT d i, .dma B.so.sem) 0 ∗ semVal (VT d i, .dma v12_r0.sem) 0)

theorem st_start :
    iprop(flyTo d i A.st.sem 131072 (tabR d i E.seg A.tb E.qs E.G 0) ∗ (ownAny d i B.tb ∗ semVal (VT d i, .dma B.st.sem) 0)
      ∗ (ownAny d i A.acc ∗ semVal (VT d i, .dma A.so.sem) 0) ∗ ownAny d i E.bnds ∗ stg d i E ∗ owing d i E.O
      ∗ (ownAny d i B.acc ∗ semVal (VT d i, .dma B.so.sem) 0) ∗ (bigSep (Finset.Ico 0 16) (rawBlk d i E)) ∗ own d i E.bbuf fullShare (c1 E.Z)) ⊢ (St0 d i E A B 0 : SP F) := by
  unfold St0 frm
  rw [tabSt, if_pos (by decide), outSt, if_pos (by decide), outSt, if_pos (by decide), show Finset.range (0 - 2) = ∅ from rfl, bigSep_empty]
  iintro ⟨H1, H2, H3, H5, H6, H7, H8, H9, H10⟩
  isplitl [H1]; · iexact H1
  isplitl [H2]; · iexact H2
  isplitl [H3]; · iexact H3
  isplitr; · iempintro
  isplitl [H5]; · iexact H5
  isplitl [H6]; · iexact H6
  isplitl [H7]; · iexact H7
  isplitl [H8]; · iexact H8
  isplitl [H9]; · iexact H9
  iexact H10

theorem st_end : St0 d i E A B 16 ⊢
    iprop(((ownAny d i A.tb ∗ semVal (VT d i, .dma A.st.sem) 0) ∗ own d i E.seg E.qs (c1 E.G)) ∗ (ownAny d i B.tb ∗ semVal (VT d i, .dma B.st.sem) 0)
      ∗ flyTo d i A.so.sem 98304 iprop(goodBlk d i E 14 ∗ ownAny d i A.acc) ∗ (bigSep (Finset.range 14) (goodBlk d i E)) ∗ ownAny d i E.bnds ∗ stg d i E ∗ owing d i E.O
      ∗ flyTo d i B.so.sem 98304 iprop(goodBlk d i E 15 ∗ ownAny d i B.acc) ∗ own d i E.bbuf fullShare (c1 E.Z)) := by
  unfold St0 frm
  rw [tabSt, if_neg (by decide), outSt, if_neg (by decide), outSt, if_neg (by decide)]
  iintro ⟨H1, H2, H3, H4, H5, H6, H7, H8, -, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H10

theorem goods_all : iprop((bigSep (Finset.range 14) (goodBlk d i E)) ∗ goodBlk d i E 14 ∗ goodBlk d i E 15) ⊢ (bigSep (Finset.range 16) (goodBlk d i E) : SP F) := by
  rw [show Finset.range 16 = insert 15 (insert 14 (Finset.range 14)) from by decide, SparseCore.bigSep_insert' (by decide), SparseCore.bigSep_insert' (by decide)]
  iintro ⟨H1, H2, H3⟩
  isplitl [H3]; · iexact H3
  isplitl [H2]; · iexact H2
  iexact H1

variable {E A B}

/-- A tile's run. -/
theorem tile_run (h2 : E.words.IsWhole) (h3 : arg3.IsWhole) (h4 : E.seg.IsWhole) (h5 : E.out.IsWhole) (h6 : E.d0.IsWhole) (h7 : E.d1.IsWhole)
    (h8 : A.acc.IsWhole) (h9 : B.acc.IsWhole) (h10 : A.tb.IsWhole) (h11 : B.tb.IsWhole) (h12 : E.bnds.IsWhole) (h13 : E.bbuf.IsWhole)
    (hE : E.OK) (hA : (tbSlice A.tb).view.dmaCredit = 131072) (hB : (tbSlice B.tb).view.dmaCredit = 131072) (h3N : E.bbuf.view.dmaCredit = 1536) (hv : Is (v1Of i) E.w) (q3 : PosShare TreeShare) :
    iprop((own d i arg3 q3 (c1 E.Z) ∗ own d i E.words E.qw (c3 E.V) ∗ own d i E.seg E.qs (c1 E.G)) ∗ (bigSep (Finset.Ico 0 16) (rawBlk d i E)) ∗ scratch d i E A B ∗ zeros d i E A B v12_r0 ∗ owing d i E.O) ⊢
      wpI d i (cc0__sc_pool (F := F) i E.words h2 arg3 h3 E.seg h4 E.out h5 E.d0 h6 E.d1 h7 A.acc h8 B.acc h9 A.tb h10 B.tb h11 E.bnds h12 E.bbuf h13 E.s0 E.s1 A.st B.st A.so B.so v12_r0)
        (fun _ => iprop((own d i arg3 q3 (c1 E.Z) ∗ own d i E.words E.qw (c3 E.V) ∗ own d i E.seg E.qs (c1 E.G)) ∗ (bigSep (Finset.range 16) (goodBlk d i E)) ∗ scratch d i E A B ∗ zeros d i E A B v12_r0 ∗ owing d i E.O)) := by
  obtain ⟨tail, ht, e⟩ := cc0_eq i E A B arg3 v12_r0 h2 h3 h4 h5 h6 h7 h8 h9 h10 h11 h12 h13
  have hl := fun (k : PUnit → PG F i PUnit) (Q : PUnit → SP F) => wpI_loop d i k0_t1_loop k0_t1_ok PUnit.unit
    (fun t1 _ => pairC i E A B arg3 v12_r0 h2 h3 h4 h5 h6 h7 h8 h9 h10 h11 h12 h13 tail t1) (fun l _ => St0 d i E A B (2 * l))
    (fun t1 _ => pair_spec d i arg3 v12_r0 h2 h3 h4 h5 h6 h7 h8 h9 h10 h11 h12 h13 hE hA hB hv t1 (ht t1)) (kk := k) (Q := Q)
  have hend : (St0 d i E A B (2 * k0_t1_loop.trips) : SP F) ⊢ _ := st_end d i E A B
  have hoN := hE.no ![0] inb_S1572864_S3072_0
  unfold scratch zeros
  iintro ⟨⟨H3, Hw, Hg⟩, Hraw, ⟨Hd0, Hd1, Haa, Hba, Hat, Hbt, Hbn, Hbb⟩, ⟨Hs0, Hs1, Hs2, Hs3, Hs4, Hs5, Hs6⟩, HO⟩
  iapply (wpI_eq d i e)
  icases (show (ownAny d i E.bbuf : SP F) ⊢ iprop(∃ x, own d i E.bbuf fullShare x) from .rfl) $$ Hbb with ⟨%xb, Hbb⟩
  iapply (wpI_dmaTo d i (src := arg3) (dst := E.bbuf) 1536 h3N (by decide) iprop(own d i E.bbuf fullShare (c1 E.Z) ∗ own d i arg3 q3 (c1 E.Z))) $$ [H3 Hbb Hs6]
  · isplitl [H3 Hbb Hs6]
    · isplitl [H3]; · iexact H3
      isplitl [Hbb]; · iexact Hbb
      iexact Hs6
    iintro H; iexact H
  iintro Hf
  iapply (wpI_waitTo d i h3N) $$ [Hf HO]
  · isplitl [Hf]; · iexact Hf
    iexact HO
  iintro ⟨⟨Hbb, H3⟩, Hs6, HO⟩
  iapply (askTable_spec d i E.seg hA (b := 0) ![0] rfl inb_S65536_S4096_0) $$ [Hat Hs2 Hg]
  · isplitl [Hat Hs2]
    · isplitl [Hat]; · iexact Hat
      iexact Hs2
    iexact Hg
  iintro Hf
  iapply (hl _ _) $$ [Hf Hbt Hs3 Haa Hs4 Hbn Hd0 Hs0 Hd1 Hs1 Hw HO Hba Hs5 Hraw Hbb]
  · iapply (st_start d i E A B) $$ [Hf Hbt Hs3 Haa Hs4 Hbn Hd0 Hs0 Hd1 Hs1 Hw HO Hba Hs5 Hraw Hbb]
    isplitl [Hf]; · iexact Hf
    isplitl [Hbt Hs3]
    · isplitl [Hbt]; · iexact Hbt
      iexact Hs3
    isplitl [Haa Hs4]
    · isplitl [Haa]; · iexact Haa
      iexact Hs4
    isplitl [Hbn]; · iexact Hbn
    isplitl [Hd0 Hs0 Hd1 Hs1 Hw]
    · unfold stg rest
      isplitl [Hd0 Hs0]
      · isplitl [Hd0]; · iexact Hd0
        iexact Hs0
      isplitl [Hd1 Hs1]
      · isplitl [Hd1]; · iexact Hd1
        iexact Hs1
      iexact Hw
    isplitl [HO]; · iexact HO
    isplitl [Hba Hs5]
    · isplitl [Hba]; · iexact Hba
      iexact Hs5
    isplitl [Hraw]; · iexact Hraw
    iexact Hbb
  iintro %u H
  ihave H := hend $$ H
  unfold stg rest
  icases H with ⟨⟨⟨Hat, Hs2⟩, Hg⟩, ⟨Hbt, Hs3⟩, HfA, Hgood, Hbn, ⟨⟨Hd0, Hs0⟩, ⟨Hd1, Hs1⟩, Hw⟩, HO, HfB, Hbb⟩
  iapply (wpI_waitTo d i hoN) $$ [HfA HO]
  · isplitl [HfA]; · iexact HfA
    iexact HO
  iintro ⟨⟨HgA, Haa⟩, Hs4, HO⟩
  iapply (wpI_waitTo d i hoN) $$ [HfB HO]
  · isplitl [HfB]; · iexact HfB
    iexact HO
  iintro ⟨⟨HgB, Hba⟩, Hs5, HO⟩
  iapply (wpI_pure d i)
  isplitl [H3 Hw Hg]
  · isplitl [H3]; · iexact H3
    isplitl [Hw]; · iexact Hw
    iexact Hg
  isplitl [Hgood HgA HgB]
  · iapply (goods_all d i E) $$ [Hgood HgA HgB]
    isplitl [Hgood]; · iexact Hgood
    isplitl [HgA]; · iexact HgA
    iexact HgB
  isplitl [Hd0 Hd1 Haa Hba Hat Hbt Hbn Hbb]
  · isplitl [Hd0]; · iexact Hd0
    isplitl [Hd1]; · iexact Hd1
    isplitl [Haa]; · iexact Haa
    isplitl [Hba]; · iexact Hba
    isplitl [Hat]; · iexact Hat
    isplitl [Hbt]; · iexact Hbt
    isplitl [Hbn]; · iexact Hbn
    unfold ownAny
    iexists _; iexact Hbb
  isplitl [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  iexact HO

end Cert.Proof.Pool
-- ==== Proof.Launch.lean ====
module

public import proofs.«01_k».proof.Proof.Tile

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held)

variable {F : FTy → Type}

/-! ## The program as the launch sees it -/

theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays, as the host holds them -/

abbrev aLoc (d : Dev nD) : Loc nD τ sig := (SparseCore.T d).loc main_arg0
abbrev zLoc (d : Dev nD) : Loc nD τ sig := (SparseCore.T d).loc main_v3
abbrev gLoc (d : Dev nD) : Loc nD τ sig := (SparseCore.T d).loc main_v4
abbrev oLoc (d : Dev nD) : Loc nD τ sig := (SparseCore.T d).loc main_v5

local notation "aW" => (Memref.whole Cert.KernelIdeal.main_arg0_scv : Memref Cert.KernelIdeal.sig Kind.scVector Space.hbm Cert.KernelIdeal.S16x4096x768 EltTy.f32)
local notation "zW" => (Memref.whole Cert.KernelIdeal.main_v3_scv : Memref Cert.KernelIdeal.sig Kind.scVector Space.hbm Cert.KernelIdeal.S48 EltTy.i32)
local notation "gW" => (Memref.whole Cert.KernelIdeal.main_v4_scv : Memref Cert.KernelIdeal.sig Kind.scVector Space.hbm Cert.KernelIdeal.S65536 EltTy.i32)
local notation "oW" => (Memref.whole Cert.KernelIdeal.main_v5_scv : Memref Cert.KernelIdeal.sig Kind.scVector Space.hbm Cert.KernelIdeal.S1572864 EltTy.f32)

/-- Worker `w`'s share of an array that all of them read. -/
abbrev wq (w : Fin 32) : PosShare TreeShare := Transfers.dealOf fullShare Finset.univ w

/-- The worker on tile `s` of core `c`. -/
def wk (c : Fin 2) (s : Fin 16) : Fin 32 := ⟨2 * s.val + c.val, by omega⟩

/-- Worker `w`'s block of sentence `b`, in the flat result. -/
abbrev blkSet (w : Fin 32) (b : Nat) : Finset S1572864.Idx := (blkM oW w.isLt b).view.set

variable [FloatOps F] (V : Dev nD → Nat → Nat → Nat → F .f32) (Z G : Dev nD → Nat → BitVec 32)

/-- What a block of the result is to hold. -/
def GoodAt (d : Dev nD) (w : Fin 32) (b : Nat) (f : Buf (Elt F) (oLoc d)) : Prop :=
  ∃ X : Nat → F .f32, Good (V d) (Z d) (G d) w.val b X ∧ ∀ y : S3072.Idx, f ((blkM oW w.isLt b).view.emb y) = X (y 0).val

abbrev rdP (d : Dev nD) (q : PosShare TreeShare) : SP F :=
  iprop((zLoc d ↦{q} (c1 (Z d) : Buf (Elt F) (zLoc d))) ∗ (aLoc d ↦{q} (c3 (V d) : Buf (Elt F) (aLoc d))) ∗ (gLoc d ↦{q} (c1 (G d) : Buf (Elt F) (gLoc d))))
/-- What a worker is handed; what it hands back. -/
def goP (d : Dev nD) (w : Fin 32) : SP F :=
  iprop(rdP V Z G d (wq w) ∗ bigSep (Finset.range 16) fun b => iprop(∃ f : Buf (Elt F) (oLoc d), oLoc d ↦[blkSet w b]{fullShare} f))
def tdP (d : Dev nD) (w : Fin 32) : SP F :=
  iprop(rdP V Z G d (wq w) ∗ bigSep (Finset.range 16) fun b => iprop(∃ f : Buf (Elt F) (oLoc d), ⌜GoodAt V Z G d w b f⌝ ∗ oLoc d ↦[blkSet w b]{fullShare} f))

instance goP_storable (d : Dev nD) (w : Fin 32) : BI.Storable (upEmb : UEmb _ (MT nD τ sig (HIx 1) (Elt F) ℕ UU ℕ)) (goP V Z G d w) := by unfold goP; infer_instance
instance tdP_storable (d : Dev nD) (w : Fin 32) : BI.Storable (upEmb : UEmb _ (MT nD τ sig (HIx 1) (Elt F) ℕ UU ℕ)) (tdP V Z G d w) := by unfold tdP; infer_instance

def P : (K (F := F)).Pay (nD := nD) (Val := Elt F) (Name := ℕ) (U := UU) where
  st := fun q d c => match q with | 0 => bigSep Finset.univ fun s : Fin 16 => goP V Z G d (wk (Fin.cast nCore_zero c) s)
  dn := fun q d c => match q with | 0 => bigSep Finset.univ fun s : Fin 16 => tdP V Z G d (wk (Fin.cast nCore_zero c) s)
  go := fun q d c s => match q with | 0 => goP V Z G d (wk (Fin.cast nCore_zero c) (Fin.cast nSub_zero s))
  td := fun q d c s => match q with | 0 => tdP V Z G d (wk (Fin.cast nCore_zero c) (Fin.cast nSub_zero s))
  x := fun _ _ => iprop(emp)

instance P_storable : (P V Z G).IsStorable where
  st q d c := match q with
    | 0 => (inferInstance : BI.Storable (upEmb : UEmb _ (MT nD τ sig (HIx 1) (Elt F) ℕ UU ℕ)) (bigSep Finset.univ fun s : Fin 16 => goP V Z G d (wk (Fin.cast nCore_zero c) s)))
  dn q d c := match q with
    | 0 => (inferInstance : BI.Storable (upEmb : UEmb _ (MT nD τ sig (HIx 1) (Elt F) ℕ UU ℕ)) (bigSep Finset.univ fun s : Fin 16 => tdP V Z G d (wk (Fin.cast nCore_zero c) s)))
  go q d c s := match q with
    | 0 => goP_storable V Z G d (wk (Fin.cast nCore_zero c) (Fin.cast nSub_zero s))
  td q d c s := match q with
    | 0 => tdP_storable V Z G d (wk (Fin.cast nCore_zero c) (Fin.cast nSub_zero s))

/-! ## A tile -/

section Tile

variable (d : Dev nD) (L : grid0.Coords) (O : CellTallies nD τ sig (HIx 1))

abbrev cL (L : grid0.Coords) : Fin 2 := Fin.cast rfl (L 0)
abbrev sL (L : grid0.Coords) : Fin 16 := Fin.cast rfl (L 1)
abbrev wL (L : grid0.Coords) : Fin 32 := wk (cL L) (sL L)

def envL : Env F where
  words := aW
  seg := gW
  out := oW
  bnds := Memref.whole cc0_scratch6
  bbuf := Memref.whole cc0_scratch7
  d0 := Memref.whole cc0_scratch0
  d1 := Memref.whole cc0_scratch1
  s0 := cc0_scratch8
  s1 := cc0_scratch9
  qw := wq (wL L)
  qs := wq (wL L)
  V := V d
  Z := Z d
  G := G d
  O := O
  w := (wL L).val
  hw := (wL L).isLt

def sideA : Side where
  tb := Memref.whole cc0_scratch4
  st := cc0_scratch10
  acc := Memref.whole cc0_scratch2
  so := cc0_scratch12
def sideB : Side where
  tb := Memref.whole cc0_scratch5
  st := cc0_scratch11
  acc := Memref.whole cc0_scratch3
  so := cc0_scratch13

theorem out_credit (o : Fin 1 → Nat) (h : ∀ a, o a + S3072.size a ≤ S1572864.size a) : (ouSlice oW o h).view.dmaCredit = 98304 :=
  View.dmaCredit_closed _ S3072 rfl (Memref.whole main_v5_scv).view.buf rfl 98304 rfl

theorem envL_ok (hfit : Fit (Z d) (G d)) : (envL V Z G d L O).OK := ⟨rfl, rfl, out_credit, hfit⟩

theorem v1Of_is : Is (v1Of L) (wL L).val := by
  have h0 : (L 0).val < 2 := (cL L).isLt
  have h1 : (L 1).val < 16 := (sL L).isLt
  have h := ((Is.ofNat (L 1).val (by omega)).mul (Is.ofNat 2 (by decide)) (by omega)).add (Is.ofNat (L 0).val (by omega)) (by omega)
  rw [show (wL L).val = (L 1).val * 2 + (L 0).val from by show 2 * (L 1).val + (L 0).val = _; omega]
  exact h

theorem own_whole (r : Ref sig .scVector) (q : PosShare TreeShare) (f : Buf (Elt F) ((VT d L).loc r)) :
    ((VT d L).loc r ↦{q} f : SP F) = own d L (Memref.whole r) q f := by
  refine Eq.trans ?_ (own_of d L (Memref.whole r) q f)
  show _ = ((VT d L).loc r ↦[(View.whole r).set]{q} f : SP F)
  rw [View.set_whole]

/-! ### The tile's own counters and buffers -/

def csem : Fin 7 → DmaSem sig := ![cc0_scratch8.sem, cc0_scratch9.sem, cc0_scratch10.sem, cc0_scratch11.sem, cc0_scratch12.sem, cc0_scratch13.sem, cc0_scoped0.sem]
def scr : Fin 8 → Ref sig .scVector := ![cc0_scratch0, cc0_scratch1, cc0_scratch2, cc0_scratch3, cc0_scratch4, cc0_scratch5, cc0_scratch6, cc0_scratch7]
abbrev dcell (k : Fin 7) : GSem nD τ sig := (VT d L, .dma (csem k))
abbrev dref (k : Fin 8) : DevRef τ sig := (Proc.scVector (cV L) (jV L)).devRef (scr k)

theorem csem_inj : Function.Injective csem := by decide
theorem scr_inj : Function.Injective scr := by decide
theorem dcell_inj : Function.Injective (dcell d L) := fun a b h => by
  have := congrArg (fun g : GSem nD τ sig => g.2) h
  simp only [SemLoc.dma.injEq] at this
  exact csem_inj this
theorem dref_inj : Function.Injective (dref L) := fun a b h => scr_inj (Proc.devRef_injective _ h)

theorem dcell_mem (k : Fin 7) : dcell d L k ∈ ownCells (VT d L) :=
  mem_ownCells.mpr ⟨rfl, (show ∀ s : DmaSem sig, (SemLoc.dma s : SemLoc sig).isScoped .scVector = true by decide) _⟩
theorem scr_owner : ∀ k : Fin 8, (dref L k).owner = .proc (Proc.scVector (cV L) (jV L)) := by
  intro k; fin_cases k <;> rfl

theorem ownSems0_V :
    (ownSems0 (VT d L) : SP F) = iprop((bigSep Finset.univ fun k : Fin 7 => semVal (dcell d L k) 0)
      ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => dcell_inj d L h)]

theorem ownBufs_V :
    (ownBufs (VT d L) : SP F) = iprop((bigSep Finset.univ fun k : Fin 8 => iprop(∃ f, ((d, dref L k) : Loc nD τ sig) ↦{fullShare} f))
      ∗ bigSep ((ownRefs (τ := τ) (.scVector (cV L) (jV L))) \ Finset.univ.image (dref L)) fun b => iprop(∃ f, ((d, b) : Loc nD τ sig) ↦{fullShare} f)) := by
  unfold SparseCore.Cfg.ownBufs
  show bigSep (ownRefs (τ := τ) (.scVector (cV L) (jV L))) (fun b => iprop(∃ f, ((d, b) : Loc nD τ sig) ↦{fullShare} f)) = _
  rw [SparseCore.bigSep_sdiff_split' (t := Finset.univ.image (dref L)) (Finset.image_subset_iff.mpr fun k _ => SparseCore.Cfg.mem_ownRefs_of_owner (scr_owner L k)),
    SparseCore.bigSep_image_of_injOn (fun a _ b _ h => dref_inj L h)]

theorem any_whole (r : Ref sig .scVector) : iprop(∃ f, (VT d L).loc r ↦{fullShare} f) = (ownAny d L (Memref.whole r) : SP F) := by
  unfold ownAny
  exact congrArg BI.BIBase.exists (funext fun f => own_whole d L r fullShare f)

theorem cells_eq : (bigSep Finset.univ fun k : Fin 7 => (semVal (dcell d L k) 0 : SP F)) = zeros d L (envL V Z G d L O) sideA sideB cc0_scoped0 := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem bufs_eq : (bigSep Finset.univ fun k : Fin 8 => (iprop(∃ f, ((d, dref L k) : Loc nD τ sig) ↦{fullShare} f) : SP F)) = scratch d L (envL V Z G d L O) sideA sideB := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  have h := fun k : Fin 8 => any_whole (F := F) d L (scr k)
  unfold scratch
  exact congr (congrArg _ (h 0)) (congr (congrArg _ (h 1)) (congr (congrArg _ (h 2)) (congr (congrArg _ (h 3)) (congr (congrArg _ (h 4)) (congr (congrArg _ (h 5))
    (congr (congrArg _ (h 6)) (h 7)))))))

/-! ### What it is handed, and hands back -/

theorem reads_eq : (rdP V Z G d (wq (wL L)) : SP F)
    = iprop(own d L zW (wq (wL L)) (c1 (Z d)) ∗ own d L aW (wq (wL L)) (c3 (V d)) ∗ own d L gW (wq (wL L)) (c1 (G d))) :=
  congr (congrArg _ (own_whole d L main_v3_scv (wq (wL L)) (c1 (Z d)))) (congr (congrArg _ (own_whole d L main_arg0_scv (wq (wL L)) (c3 (V d)))) (own_whole d L main_v4_scv (wq (wL L)) (c1 (G d))))

theorem raw_of (b : Nat) : iprop(∃ f : Buf (Elt F) (oLoc d), oLoc d ↦[blkSet (wL L) b]{fullShare} f) ⊢ (rawBlk d L (envL V Z G d L O) b : SP F) := by
  unfold rawBlk ownAny
  iintro ⟨%f, H⟩
  iexists _
  iapply (Entails.of_eq (own_of d L (blkM oW (wL L).isLt b) fullShare f)) $$ H

theorem good_to (b : Nat) : goodBlk d L (envL V Z G d L O) b ⊢ (iprop(∃ f : Buf (Elt F) (oLoc d), ⌜GoodAt V Z G d (wL L) b f⌝ ∗ oLoc d ↦[blkSet (wL L) b]{fullShare} f) : SP F) := by
  unfold goodBlk
  iintro ⟨%X, H, %hX⟩
  have hg : GoodAt V Z G d (wL L) b ((blkM oW (wL L).isLt b).view.rep (c1 X)) := ⟨X, hX, fun y => View.rep_emb _ _ _⟩
  iexists _
  isplitr; · ipureintro; exact hg
  iapply (show own d L (blkM (envL V Z G d L O).out (envL V Z G d L O).hw b) fullShare (c1 X) ⊢ (oLoc d ↦[blkSet (wL L) b]{fullShare} (blkM oW (wL L).isLt b).view.rep (c1 X) : SP F) from .rfl) $$ H

/-- A tile's body: from what the launch hands its thread, to what the launch takes back. -/
theorem tile_body (hF : (K (F := F)).Facts) (hfit : Fit (Z d) (G d)) (W : Waits sig (HIx 1)) (hO : ∀ g, O g none = 0) :
    iprop(levAts (K (F := F)).L (K (F := F)).lev ∗ emp ∗ goP V Z G d (wL L) ∗ scopedBufs (VT d L) ∗ scopedSems0 (VT d L) ∗ owes (VT d L) O W)
      ⊢ wpI d L (cc0__sc_pool L aW (Memref.isWhole_whole _) zW (Memref.isWhole_whole _) gW (Memref.isWhole_whole _) oW (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scoped0)
          (fun _ => iprop(tdP V Z G d (wL L) ∗ scopedBufs (VT d L) ∗ scopedSems0 (VT d L)
            ∗ ∃ W', ⌜∀ p ∈ W', p ∈ W ∨ p.2 = none ∨ p.2 = some (0 : Fin 1)⌝ ∗ owes (VT d L) O W')) := by
  have hrun := tile_run (E := envL V Z G d L O) (A := sideA) (B := sideB) d L zW cc0_scoped0 (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _) (Memref.isWhole_whole _) (Memref.isWhole_whole _) (Memref.isWhole_whole _)
    (envL_ok V Z G d L O hfit) rfl rfl rfl (v1Of_is L) (wq (wL L))
  unfold owing at hrun
  rw [(K (F := F)).scopedBufs_V hF d (cV L) (jV L), SparseCore.Cfg.scopedSems0_V (Val := Elt F) d (cV L) (jV L), ownSems0_V, ownBufs_V, cells_eq V Z G d L O, bufs_eq V Z G d L O]
  unfold goP tdP
  rw [reads_eq]
  have hraw : (bigSep (Finset.range 16) fun b => iprop(∃ f : Buf (Elt F) (oLoc d), oLoc d ↦[blkSet (wL L) b]{fullShare} f)) ⊢ (bigSep (Finset.Ico 0 16) (rawBlk d L (envL V Z G d L O)) : SP F) := by
    rw [← Finset.range_eq_Ico]; exact bigSep_mono fun b _ => raw_of V Z G d L O b
  have hgood : bigSep (Finset.range 16) (goodBlk d L (envL V Z G d L O))
      ⊢ (bigSep (Finset.range 16) fun b => iprop(∃ f : Buf (Elt F) (oLoc d), ⌜GoodAt V Z G d (wL L) b f⌝ ∗ oLoc d ↦[blkSet (wL L) b]{fullShare} f) : SP F) :=
    bigSep_mono fun b _ => good_to V Z G d L O b
  iintro ⟨#Hlv, -, ⟨Hr, Ho⟩, ⟨Hs, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Hr Ho Hs HC HO Hmw]
  · iapply hrun
    isplitl [Hr]; · iexact Hr
    isplitl [Ho]; · iapply hraw $$ Ho
    isplitl [Hs]; · iexact Hs
    isplitl [HC]; · iexact HC
    isplitl [HO]
    · iexists _; iexact HO
    iexact Hmw
  iintro %_ ⟨Hr, Ho, Hs, HC, ⟨⟨%W', HO⟩, -⟩⟩
  isplitl [Hr Ho]
  · isplitl [Hr]; · iexact Hr
    iapply hgood $$ Ho
  isplitl [Hs Hbufs]
  · isplitl [Hs]; · iexact Hs
    iexact Hbufs
  isplitl [HC Hsems]
  · isplitl [HC]; · iexact HC
    iexact Hsems
  iexists W'
  isplitr
  · ipureintro; intro p _
    rcases p with ⟨p1, p2⟩
    rcases p2 with _ | q
    · exact .inr (.inl rfl)
    · exact .inr (.inr (congrArg some (Subsingleton.elim q 0)))
  iexact HO

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_pool (coordsV c s) aW (Memref.isWhole_whole _) zW (Memref.isWhole_whole _) gW (Memref.isWhole_whole _) oW (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13 cc0_scoped0) ⟨⟩ c s := rfl

theorem tileObl (hF : (K (F := F)).Facts) (hfit : ∀ d, Fit (Z d) (G d)) : (K (F := F)).TileObl (D (F := F)) 𝒱 (P V Z G) v₀ 0 := by
  intro d c i O W hO _ _
  simp only [show (P V Z G).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body V Z G d (coordsV ⟨_, hci.1⟩ ⟨_, hci.2⟩) O hF (hfit d) W hO

theorem vecSplit : (K (F := F)).VecSplit' (P V Z G) 0 := by
  intro d c
  show (bigSep Finset.univ fun s : Fin 16 => goP V Z G d (wk (Fin.cast nCore_zero c) s)) ⊢ |={Set.univ}=> iprop(
      (bigSep Finset.univ fun s : Fin 16 => goP V Z G d (wk (Fin.cast nCore_zero c) s))
      ∗ ((bigSep Finset.univ fun s : Fin 16 => tdP V Z G d (wk (Fin.cast nCore_zero c) s)) -∗ bigSep Finset.univ fun s : Fin 16 => tdP V Z G d (wk (Fin.cast nCore_zero c) s)))
  iintro H; imodintro
  isplitl [H]; · iexact H
  iintro H; iexact H

end Cert.Proof.Pool
-- ==== Proof.Main.lean ====
module

public import proofs.«01_k».proof.Proof.Launch

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_sub_split held_congr wp_hlo_within after)

variable {F : FTy → Type}

local notation "oW" => (Memref.whole Cert.KernelIdeal.main_v5_scv : Memref Cert.KernelIdeal.sig Kind.scVector Space.hbm Cert.KernelIdeal.S1572864 EltTy.f32)

/-! ## The workers' blocks are the flat result -/

theorem mem_blkSet (w : Fin 32) (b : Nat) (x : S1572864.Idx) : x ∈ blkSet w b ↔ ((b % 16 * 128 + 4 * w.val) * 768 ≤ (x 0).val ∧ (x 0).val < (b % 16 * 128 + 4 * w.val) * 768 + 3072) := by
  have e : blkSet w b = (Rect.unit (s := S1572864) (blkOff (b % 16) w.val) S3072.size (blk_inb (mod16 b) w.isLt)).set := by
    show ((View.whole (main_v5_scv : Ref sig .scVector)).slice _).set = _
    rw [View.set_slice]; exact Finset.map_refl
  rw [e, Rect.mem_set_unit]
  constructor
  · intro h; exact h 0
  · intro h a; fin_cases a; exact h

theorem blk_disj (w : Fin 32) : ∀ b ∈ Finset.range 16, ∀ b' ∈ Finset.range 16, b ≠ b' → Disjoint (blkSet w b) (blkSet w b') := by
  intro b hb b' hb' hne
  rw [Finset.disjoint_left]
  intro x h h'
  rw [mem_blkSet] at h h'
  have := Finset.mem_range.mp hb; have := Finset.mem_range.mp hb'
  have := w.isLt
  rw [Nat.mod_eq_of_lt (by omega)] at h h'
  omega

abbrev wkSet (w : Fin 32) : Finset S1572864.Idx := (Finset.range 16).biUnion (blkSet w)

theorem wk_disj : ∀ w ∈ (Finset.univ : Finset (Fin 32)), ∀ w' ∈ (Finset.univ : Finset (Fin 32)), w ≠ w' → Disjoint (wkSet w) (wkSet w') := by
  intro w _ w' _ hne
  rw [Finset.disjoint_left]
  intro x h h'
  obtain ⟨b, hb, h⟩ := Finset.mem_biUnion.mp h
  obtain ⟨b', hb', h'⟩ := Finset.mem_biUnion.mp h'
  rw [mem_blkSet] at h h'
  have := Finset.mem_range.mp hb; have := Finset.mem_range.mp hb'
  have := w.isLt; have := w'.isLt
  have : w.val ≠ w'.val := fun e => hne (Fin.ext e)
  rw [Nat.mod_eq_of_lt (by omega)] at h h'
  omega

theorem wk_cover : (Finset.univ : Finset (Fin 32)).biUnion wkSet = Finset.univ := by
  refine Finset.eq_univ_of_forall fun x => ?_
  have hx : (x 0).val < 1572864 := (x 0).isLt
  refine Finset.mem_biUnion.mpr ⟨⟨(x 0).val / 3072 % 32, by omega⟩, Finset.mem_univ _, Finset.mem_biUnion.mpr ⟨(x 0).val / 98304, Finset.mem_range.mpr (by omega), ?_⟩⟩
  rw [mem_blkSet]
  dsimp only
  omega

/-- Pieces of an array, each of which does, are an array of which every piece does. -/
theorem pieces_join {T : Type} [DecidableEq T] {ℓ : Loc nD τ sig} (S : Finset T) (K : T → Finset (Idx ℓ)) (Φ : T → Buf (Elt F) ℓ → Prop) (f₀ : Buf (Elt F) ℓ)
    (hΦ : ∀ t f g, (∀ i ∈ K t, g i = f i) → Φ t f → Φ t g) (h : ∀ t ∈ S, ∀ t' ∈ S, t ≠ t' → Disjoint (K t) (K t')) :
    (bigSep S fun t => iprop(∃ f : Buf (Elt F) ℓ, ⌜Φ t f⌝ ∗ ℓ ↦[K t]{fullShare} f)) ⊢ (iprop(∃ g, ⌜∀ t ∈ S, Φ t g⌝ ∗ ℓ ↦[S.biUnion K]{fullShare} g) : SP F) := by
  haveI : Nonempty (Buf (Elt F) ℓ) := ⟨f₀⟩
  refine (bigSep_exists_pi S (fun t (f : Buf (Elt F) ℓ) => iprop(⌜Φ t f⌝ ∗ ℓ ↦[K t]{fullShare} f))).trans ?_
  iintro ⟨%fs, H⟩
  ihave H := (bigSep_pure_sep S (fun t => Φ t (fs t)) (fun t => (ℓ ↦[K t]{fullShare} fs t : SP F))) $$ H
  icases H with ⟨%hs, H⟩
  ihave H := (pointsTo_biUnion_join (ℓ := ℓ) (q := fullShare) (Val := Elt F) S K fs f₀ h) $$ H
  icases H with ⟨%g, %hg, H⟩
  iexists g
  isplitr
  · ipureintro; exact fun t ht => hΦ t (fs t) g (hg t ht) (hs t ht)
  iexact H

variable [FloatOps F] (V : Dev nD → Nat → Nat → Nat → F .f32) (Z G : Dev nD → Nat → BitVec 32)

theorem good_congr (d : Dev nD) (w : Fin 32) (b : Nat) (f g : Buf (Elt F) (oLoc d)) (h : ∀ i ∈ blkSet w b, g i = f i) (hf : GoodAt V Z G d w b f) : GoodAt V Z G d w b g := by
  obtain ⟨X, hX, e⟩ := hf
  exact ⟨X, hX, fun y => (h _ (Finset.mem_map.mpr ⟨y, Finset.mem_univ _, rfl⟩)).trans (e y)⟩

def AllGood (d : Dev nD) (f : Buf (Elt F) (oLoc d)) : Prop := ∀ w, ∀ b ∈ Finset.range 16, GoodAt V Z G d w b f

theorem reads_deal (d : Dev nD) : (rdP V Z G d fullShare : SP F) = bigSep Finset.univ fun w : Fin 32 => rdP V Z G d (wq w) := by
  unfold rdP
  rw [bigSep_sep', bigSep_sep']
  have h := fun (ℓ : Loc nD τ sig) (f : Buf (Elt F) ℓ) => Transfers.pointsTo_deal (Ix := HIx 1) (Val := Elt F) (Name := ℕ) (U := UU) (Lvl := ℕ) (ℓ := ℓ) (S := Finset.univ) (f := f) (Finset.univ : Finset (Fin 32)) ⟨0, Finset.mem_univ _⟩ fullShare
  exact congr (congrArg _ (h _ _)) (congr (congrArg _ (h _ _)) (h _ _))

theorem go_all (d : Dev nD) (f : Buf (Elt F) (oLoc d)) : iprop(rdP V Z G d fullShare ∗ oLoc d ↦{fullShare} f) ⊢ (bigSep Finset.univ (goP V Z G d) : SP F) := by
  rw [show (goP V Z G d : Fin 32 → SP F) = fun w => iprop(rdP V Z G d (wq w) ∗ bigSep (Finset.range 16) fun b => iprop(∃ f : Buf (Elt F) (oLoc d), oLoc d ↦[blkSet w b]{fullShare} f)) from rfl,
    bigSep_sep', ← reads_deal]
  have h : (oLoc d ↦{fullShare} f : SP F) ⊢ bigSep Finset.univ fun w : Fin 32 => bigSep (Finset.range 16) fun b => iprop(∃ f : Buf (Elt F) (oLoc d), oLoc d ↦[blkSet w b]{fullShare} f) := by
    refine (Entails.of_eq (show (oLoc d ↦{fullShare} f : SP F) = oLoc d ↦[(Finset.univ : Finset (Fin 32)).biUnion wkSet]{fullShare} f by rw [wk_cover]; try rfl)).trans ?_
    rw [pointsTo_biUnion (ℓ := oLoc d) Finset.univ wkSet wk_disj]
    refine bigSep_mono fun w _ => ?_
    refine (Entails.of_eq (pointsTo_biUnion (ℓ := oLoc d) (Finset.range 16) (blkSet w) (blk_disj w))).trans (bigSep_mono fun b _ => ?_)
    exact (show (oLoc d ↦[blkSet w b]{fullShare} f : SP F) ⊢ iprop(∃ f : Buf (Elt F) (oLoc d), oLoc d ↦[blkSet w b]{fullShare} f) from by
      iintro H
      iexists f
      iexact H)
  iintro ⟨H, Ho⟩
  isplitl [H]; · iexact H
  iapply h $$ Ho

theorem td_all (d : Dev nD) (f₀ : Buf (Elt F) (oLoc d)) :
    bigSep Finset.univ (tdP V Z G d) ⊢ (iprop(rdP V Z G d fullShare ∗ ∃ f : Buf (Elt F) (oLoc d), ⌜AllGood V Z G d f⌝ ∗ oLoc d ↦{fullShare} f) : SP F) := by
  rw [show (tdP V Z G d : Fin 32 → SP F) = fun w => iprop(rdP V Z G d (wq w) ∗ bigSep (Finset.range 16) fun b => iprop(∃ f : Buf (Elt F) (oLoc d), ⌜GoodAt V Z G d w b f⌝ ∗ oLoc d ↦[blkSet w b]{fullShare} f)) from rfl,
    bigSep_sep', ← reads_deal]
  have h1 : (bigSep Finset.univ fun w : Fin 32 => bigSep (Finset.range 16) fun b => iprop(∃ f : Buf (Elt F) (oLoc d), ⌜GoodAt V Z G d w b f⌝ ∗ oLoc d ↦[blkSet w b]{fullShare} f))
      ⊢ (bigSep Finset.univ fun w : Fin 32 => iprop(∃ f : Buf (Elt F) (oLoc d), ⌜∀ b ∈ Finset.range 16, GoodAt V Z G d w b f⌝ ∗ oLoc d ↦[wkSet w]{fullShare} f) : SP F) :=
    bigSep_mono fun w _ => pieces_join (ℓ := oLoc d) (Finset.range 16) (blkSet w) (GoodAt V Z G d w) f₀ (good_congr V Z G d w) (blk_disj w)
  have h2 := pieces_join (ℓ := oLoc d) (F := F) Finset.univ wkSet (fun w f => ∀ b ∈ Finset.range 16, GoodAt V Z G d w b f) f₀
    (fun w f g hfg hf b hb => good_congr V Z G d w b f g (fun i hi => hfg i (Finset.mem_biUnion.mpr ⟨b, hb, hi⟩)) (hf b hb)) wk_disj
  rw [wk_cover] at h2
  iintro ⟨H, Ho⟩
  isplitl [H]; · iexact H
  ihave Ho := h1 $$ Ho
  ihave Ho := h2 $$ Ho
  icases Ho with ⟨%g, %hg, Ho⟩
  iexists g
  isplitr
  · ipureintro; exact fun w b hb => hg w (Finset.mem_univ _) b hb
  iexact Ho

/-- The cores' tiles are the workers. -/
def wkEquiv : Fin 2 × Fin 16 ≃ Fin 32 where
  toFun p := wk p.1 p.2
  invFun w := (⟨w.val % 2, by omega⟩, ⟨w.val / 2, by omega⟩)
  left_inv p := by
    have := p.1.isLt
    exact Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

omit [FloatOps F] in
theorem cores_all (Φ : Fin 32 → SP F) : (bigSep Finset.univ fun c : Fin ((K (F := F)).nCore 0) => bigSep Finset.univ fun s : Fin 16 => Φ (wk (Fin.cast nCore_zero c) s)) = bigSep Finset.univ Φ := by
  rw [bigSep_univ_equiv wkEquiv Φ, bigSep_univ_prod]
  rfl

/-! ## The launch's ghost state -/

def u₀ : UU := (initOf (K (F := F)).hsCells (K (F := F)).hsToks, 1)

theorem emps {I : Type} (s : Finset I) : (bigSep s fun _ => iprop(emp)) = (iprop(emp) : SP F) := bigSep_emp_const s

theorem hu₀ : (ownU (u₀ (F := F)) : SP F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P V Z G).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P V Z G).x q thr) = bigSep Finset.univ fun _ => (iprop(emp) : SP F) from
    bigSep_congr fun _ _ => bigSep_univ_of_subsingleton (0 : Fin 1), emps]
  iempintro

/-! ## The host's operations -/

abbrev dv (b : Ref sig .tc) : DevRef τ sig := Proc.devRef .tc b

omit V Z G in
/-- The operations before the call, in order; the one after it. -/
def hostOps : List (HloOp τ sig (Elt F)) :=
  [StableHlo.unary main_arg1 main_v0 ((transpose S2x16 [1, 0] · transposes_S16x2_S2x16_1_0) : (⟨S16x2, .i32⟩ : BufTy).Contents (Elt F) → (⟨S2x16, .i32⟩ : BufTy).Contents (Elt F)),
   StableHlo.reshape main_v0 main_v1 (rfl : (.i32 : EltTy) = .i32) shapeCasts_S2x16_S32,
   StableHlo.nullary main_c (constantI S_ 32 0#32),
   StableHlo.unary main_c main_v2 (broadcastInDim S16 ![] bcast_S_S16 : (⟨S_, .i32⟩ : BufTy).Contents (Elt F) → (⟨S16, .i32⟩ : BufTy).Contents (Elt F)),
   StableHlo.binary main_v1 main_v2 main_v3 ((fun a b => concatenate S48 0 [⟨S32, a⟩, ⟨S16, b⟩] concatenates_S32_S16_S48_d0) : (⟨S32, .i32⟩ : BufTy).Contents (Elt F) → (⟨S16, .i32⟩ : BufTy).Contents (Elt F) → (⟨S48, .i32⟩ : BufTy).Contents (Elt F)),
   StableHlo.reshape main_arg2 main_v4 (rfl : (.i32 : EltTy) = .i32) shapeCasts_S16x4096_S65536]
def opOut : HloOp τ sig (Elt F) := StableHlo.reshape main_v5 main_v6 (rfl : (.f32 : EltTy) = .f32) shapeCasts_S1572864_S16x128x768

/-- The arrays of the host program. -/
abbrev S11 : Finset (DevRef τ sig) := {dv main_arg0, dv main_arg1, dv main_arg2, dv main_v0, dv main_v1, dv main_c, dv main_v2, dv main_v3, dv main_v4, dv main_v5, dv main_v6}
abbrev S4 : Finset (DevRef τ sig) := {dv main_v3, dv main_arg0, dv main_v4, dv main_v5}

variable (m : (ℓ : Loc nD τ sig) → Buf (Elt F) ℓ) (ρ : Dev nD → PrngReg)

def V0 (d : Dev nD) : Valuation τ sig (Elt F) := fun b => m (d, b)
/-- The arrays before the call; after it, the flat result at `f`; at the end. -/
def hostV (d : Dev nD) : Valuation τ sig (Elt F) := after hostOps (V0 m d)
def callV (d : Dev nD) (f : Buf (Elt F) (oLoc d)) : Valuation τ sig (Elt F) := Function.update (hostV m d) (dv main_v5) f
def endV (d : Dev nD) (f : Buf (Elt F) (oLoc d)) : Valuation τ sig (Elt F) := opOut.result (callV m d f)

theorem unscoped_held (d : Dev nD) : (unscopedBufs d (fun b => m ((SparseCore.T d).loc b)) : SP F) = held (T d) S11 (V0 m d) := by
  unfold unscopedBufs held
  rw [show (Finset.univ.filter fun b : Ref sig .tc => ¬ b.isScoped) = {main_arg0, main_arg1, main_arg2, main_v0, main_v1, main_c, main_v2, main_v3, main_v4, main_v5, main_v6} by decide]
  rw [show S11 = Finset.image dv {main_arg0, main_arg1, main_arg2, main_v0, main_v1, main_c, main_v2, main_v3, main_v4, main_v5, main_v6} by decide,
    SparseCore.bigSep_image_of_injOn (fun a _ b _ (h : dv a = dv b) => Proc.devRef_injective _ h)]
  rfl

theorem held_four (d : Dev nD) (W : Valuation τ sig (Elt F)) :
    (held (T d) S11 W : SP F) = iprop(((zLoc d ↦{fullShare} W (dv main_v3)) ∗ (aLoc d ↦{fullShare} W (dv main_arg0)) ∗ (gLoc d ↦{fullShare} W (dv main_v4)) ∗ oLoc d ↦{fullShare} W (dv main_v5)) ∗ held (T d) (S11 \ S4) W) := by
  rw [held_sub_split (T d) (show S4 ⊆ S11 by decide) W]
  congr 1
  unfold held S4
  rw [SparseCore.bigSep_insert' (by decide), SparseCore.bigSep_insert' (by decide), SparseCore.bigSep_insert' (by decide), bigSep_singleton]

/-- What the host hands the call. -/
structure Given (d : Dev nD) : Prop where
  z : hostV m d (dv main_v3) = (c1 (Z d) : S48.Idx → BitVec 32)
  a : hostV m d (dv main_arg0) = (c3 (V d) : S16x4096x768.Idx → F .f32)
  g : hostV m d (dv main_v4) = (c1 (G d) : S65536.Idx → BitVec 32)

theorem held_before (d : Dev nD) (h : Given V Z G m d) :
    held (T d) S11 (hostV m d) ⊢ (iprop((rdP V Z G d fullShare ∗ oLoc d ↦{fullShare} hostV m d (dv main_v5)) ∗ held (T d) (S11 \ S4) (hostV m d)) : SP F) := by
  rw [held_four, h.z, h.a, h.g]
  unfold rdP
  iintro ⟨⟨H1, H2, H3, H4⟩, H5⟩
  isplitr [H5]
  · isplitr [H4]
    · isplitl [H1]; · iexact H1
      isplitl [H2]; · iexact H2
      iexact H3
    iexact H4
  iexact H5

theorem callV_ne (d : Dev nD) (f : Buf (Elt F) (oLoc d)) {b : DevRef τ sig} (h : b ≠ dv main_v5) : callV m d f b = hostV m d b := Function.update_of_ne h _ _
theorem callV_out (d : Dev nD) (f : Buf (Elt F) (oLoc d)) : callV m d f (dv main_v5) = f := Function.update_self _ _ _

theorem held_after (d : Dev nD) (f : Buf (Elt F) (oLoc d)) (h : Given V Z G m d) :
    iprop((rdP V Z G d fullShare ∗ oLoc d ↦{fullShare} f) ∗ held (T d) (S11 \ S4) (hostV m d)) ⊢ (held (T d) S11 (callV m d f) : SP F) := by
  rw [held_four, callV_out, callV_ne m d f (by decide), callV_ne m d f (by decide), callV_ne m d f (by decide), h.z, h.a, h.g,
    held_congr (T d) (S := S11 \ S4) (V := callV m d f) (V' := hostV m d) (fun b hb => callV_ne m d f (fun e => by subst e; exact absurd hb (by decide)))]
  unfold rdP
  iintro ⟨⟨⟨H1, H2, H3⟩, H4⟩, H5⟩
  isplitr [H5]
  · isplitl [H1]; · iexact H1
    isplitl [H2]; · iexact H2
    isplitl [H3]; · iexact H3
    iexact H4
  iexact H5

/-- What the host program leaves. -/
abbrev FIN (d : Dev nD) : SP F := iprop(∃ f : Buf (Elt F) (oLoc d), ⌜AllGood V Z G d f⌝ ∗ held (T d) S11 (endV m d f))

theorem st0_eq (d : Dev nD) : (bigSep Finset.univ fun c : Fin ((K (F := F)).nCore 0) => (P V Z G).st 0 d c) = bigSep Finset.univ (goP V Z G d) := cores_all (goP V Z G d)
theorem dn0_eq (d : Dev nD) : (bigSep Finset.univ fun c : Fin ((K (F := F)).nCore 0) => (P V Z G).dn 0 d c) = bigSep Finset.univ (tdP V Z G d) := cores_all (tdP V Z G d)

theorem hmain (hG : ∀ d, Given V Z G m d) (κ : GSem nD τ sig → ℕ) (d : Dev nD) :
    iprop((K (F := F)).ctx EH (P V Z G) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN V Z G m d ∗ (K (F := F)).tcEnd d) := by
  have hb : ∀ W, W = hostV m d → held (T d) S11 W ⊢ (iprop((rdP V Z G d fullShare ∗ oLoc d ↦{fullShare} hostV m d (dv main_v5)) ∗ held (T d) (S11 \ S4) (hostV m d)) : SP F) := by
    rintro _ rfl; exact held_before V Z G m d (hG d)
  have hb := hb (after hostOps (V0 m d)) rfl
  simp only [hostOps, StableHlo.after_cons, StableHlo.after_nil] at hb
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (S := S11) (show ({dv main_arg1, dv main_v0} : Finset (DevRef τ sig)) ⊆ S11 by decide) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (S := S11) (show ({dv main_v0, dv main_v1} : Finset (DevRef τ sig)) ⊆ S11 by decide)) $$ [Hb Hheld]
  · isplitl [Hb]; · iexact Hb
    iexact Hheld
  iintro ⟨Hb, Hheld⟩
  rw [wp_ret]; imodintro
  iapply (wp_hlo_within 𝒱 (SparseCore.T d) none Set.univ (S := S11) (show ({dv main_c} : Finset (DevRef τ sig)) ⊆ S11 by decide)) $$ [Hb Hheld]
  · isplitl [Hb]; · iexact Hb
    iexact Hheld
  iintro ⟨Hb, Hheld⟩
  rw [wp_ret]; imodintro
  iapply (wp_hlo_within 𝒱 (SparseCore.T d) none Set.univ (S := S11) (show ({dv main_c, dv main_v2} : Finset (DevRef τ sig)) ⊆ S11 by decide)) $$ [Hb Hheld]
  · isplitl [Hb]; · iexact Hb
    iexact Hheld
  iintro ⟨Hb, Hheld⟩
  rw [wp_ret]; imodintro
  iapply (wp_hlo_within 𝒱 (SparseCore.T d) none Set.univ (S := S11) (show ({dv main_v1, dv main_v2, dv main_v3} : Finset (DevRef τ sig)) ⊆ S11 by decide)) $$ [Hb Hheld]
  · isplitl [Hb]; · iexact Hb
    iexact Hheld
  iintro ⟨Hb, Hheld⟩
  rw [wp_ret]; imodintro
  iapply (wp_hlo_within 𝒱 (SparseCore.T d) none Set.univ (S := S11) (show ({dv main_arg2, dv main_v4} : Finset (DevRef τ sig)) ⊆ S11 by decide)) $$ [Hb Hheld]
  · isplitl [Hb]; · iexact Hb
    iexact Hheld
  iintro ⟨Hb, Hheld⟩
  rw [wp_ret]; imodintro
  ihave Hh := hb $$ Hheld
  icases Hh with ⟨Hio, Hrest⟩
  iapply ((K (F := F)).wp_run (D (F := F)) 𝒱 (EH := EH) (P := P V Z G) κ d 0) $$ [Hst Hio Hrest Hb Hts]
  isplitr; · iexact Hctx
  isplitl [Hst]; · iexact Hst
  isplitl [Hio]
  · rw [st0_eq]
    iapply (go_all V Z G d _) $$ Hio
  iintro ⟨Hst, Hdn⟩
  ihave Hdn := (Entails.of_eq (dn0_eq V Z G d)) $$ Hdn
  ihave Hdn := (td_all V Z G d (hostV m d (dv main_v5))) $$ Hdn
  icases Hdn with ⟨Hr, %f, %hf, Ho⟩
  iapply (wp_hlo_within 𝒱 (SparseCore.T d) none Set.univ (op := opOut) (S := S11) (show ({dv main_v5, dv main_v6} : Finset (DevRef τ sig)) ⊆ S11 by decide) (V := callV m d f)) $$ [Hb Hr Ho Hrest]
  · isplitl [Hb]; · iexact Hb
    iapply (held_after V Z G m d f (hG d)) $$ [Hr Ho Hrest]
    isplitl [Hr Ho]
    · isplitl [Hr]; · iexact Hr
      iexact Ho
    iexact Hrest
  iintro ⟨Hb, Hheld⟩
  rw [wp_ret]; imodintro; imodintro
  isplitl [Hst]; · iexact Hst
  isplitr [Hb Hts]
  · iexists f
    isplitr; · ipureintro; exact hf
    iexact Hheld
  isplitl [Hb] <;> iassumption

def fq (d : Dev nD) (s' : Phys nD τ sig (Elt F)) : Prop := ∃ f : Buf (Elt F) (oLoc d), AllGood V Z G d f ∧ ∀ b ∈ S11, s'.mem.mem (d, b) = endV m d f b

theorem hfin (d : Dev nD) (s' : Phys nD τ sig (Elt F)) : iprop(FIN V Z G m d ∗ SI s') ⊢ (⌜fq V Z G m d s'⌝ : SP F) := by
  iintro ⟨⟨%f, %hf, H⟩, HSI⟩
  ihave H := (SI_pointsTo_bufs_agree (st := s') (c := d) (qs := fun _ => fullShare) (F := endV m d f) S11) $$ [HSI H]
  · isplitl [HSI]; · iexact HSI
    iapply (show (held (T d) S11 (endV m d f) : SP F) ⊢ bigSep S11 (fun b => ((d, b) ↦{fullShare} endV m d f b)) from .rfl) $$ H
  icases H with %h
  ipureintro
  exact ⟨f, hf, h⟩

/-! ## The program's run -/

/-- Every array of the host as the host program leaves it, the flat result good; every counter at zero. -/
def QC : PUnit × MemSt nD τ sig (Elt F) → Prop := fun r =>
  (∀ d : Dev nD, ∃ f : Buf (Elt F) (oLoc d), AllGood V Z G d f ∧ ∀ b ∈ S11, r.2.mem (d, b) = endV m d f b) ∧ r.2.sem = fun _ => 0

theorem run_main [∀ e, Nonempty (Elt F e)] (hfit : ∀ d, Fit (Z d) (G d)) (hG : ∀ d, Given V Z G m d) :
    θ_run (Cert.KernelIdeal.defs (F := F)) (Cert.KernelIdeal.threads (F := F)) ⟨m, fun _ => 0, ρ⟩ (QC V Z G m) :=
  SparseCore.Cfg.θ_run_sc_quiescent (K := K (F := F)) (D := D (F := F)) (𝒱 := 𝒱) (EH := EH) (P := P V Z G) (A := ∅) facts v₀
    (fun q hq => match q with | 0 => nomatch hq)
    (fun q _ => match q with | 0 => tileObl V Z G facts hfit)
    (fun q _ => match q with | 0 => SparseCore.Cfg.VecSplit.of_plain (vecSplit V Z G))
    m ρ main (fun _ => iprop(emp)) (FIN V Z G m) (u₀ (F := F)) (sep_elim_left.trans (hu₀ V Z G)) (hmain V Z G m ρ hG) (fq V Z G m) (hfin V Z G m) (QC V Z G m) (fun _ h hz => ⟨h, hz⟩)

end Cert.Proof.Pool
-- ==== Proof.Given.lean ====
module

public import proofs.«01_k».proof.Proof.Main
public import Idealize.ShloMosaic.Lib.ValueIdx
public import Idealize.ShloMosaic.Lib.Pipeline.Value
public import Idealize.ShloMosaic.Lib.StableHlo.Run

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open ValueIdx (ix1 ix2 ix3)

/-! ## The inputs by position -/

def zOf (a : S16x2.Idx → BitVec 32) : Nat → BitVec 32 := fun n =>
  if n < 32 then a (ix2 ⟨n % 16, Nat.mod_lt _ (by decide)⟩ ⟨n / 16 % 2, Nat.mod_lt _ (by decide)⟩) else 0#32
def gOf (a : S16x4096.Idx → BitVec 32) : Nat → BitVec 32 := fun n =>
  a (ix2 ⟨n / 4096 % 16, Nat.mod_lt _ (by decide)⟩ ⟨n % 4096, Nat.mod_lt _ (by decide)⟩)
def vOf {α : Type} (a : S16x4096x768.Idx → α) : Nat → Nat → Nat → α := fun b p c =>
  a (ix3 ⟨b % 16, Nat.mod_lt _ (by decide)⟩ ⟨p % 4096, Nat.mod_lt _ (by decide)⟩ ⟨c % 768, Nat.mod_lt _ (by decide)⟩)

theorem zOf_start (a : S16x2.Idx → BitVec 32) (b : Fin 16) : zOf a b.val = a (ix2 b 0) := by
  have hb := b.isLt
  unfold zOf
  rw [if_pos (by omega)]
  congr 2
  · exact Fin.ext (Nat.mod_eq_of_lt hb)
  · exact Fin.ext (by show b.val / 16 % 2 = 0; omega)
theorem zOf_end (a : S16x2.Idx → BitVec 32) (b : Fin 16) : zOf a (16 + b.val) = a (ix2 b 1) := by
  have hb := b.isLt
  unfold zOf
  rw [if_pos (by omega)]
  congr 2
  · exact Fin.ext (by show (16 + b.val) % 16 = b.val; omega)
  · exact Fin.ext (by show (16 + b.val) / 16 % 2 = 1; omega)
theorem gOf_at (a : S16x4096.Idx → BitVec 32) (b : Fin 16) (p : Fin 4096) : gOf a (4096 * b.val + p.val) = a (ix2 b p) := by
  have hb := b.isLt
  have hp := p.isLt
  unfold gOf
  congr 2
  · exact Fin.ext (by show (4096 * b.val + p.val) / 4096 % 16 = b.val; omega)
  · exact Fin.ext (by show (4096 * b.val + p.val) % 4096 = p.val; omega)
theorem vOf_at {α : Type} (a : S16x4096x768.Idx → α) (b : Fin 16) (p : Fin 4096) (c : Fin 768) : vOf a b.val p.val c.val = a (ix3 b p c) := by
  unfold vOf
  congr 2
  · exact Fin.ext (Nat.mod_eq_of_lt b.isLt)
  · exact Fin.ext (Nat.mod_eq_of_lt p.isLt)
  · exact Fin.ext (Nat.mod_eq_of_lt c.isLt)

/-! ## What the host program hands the call -/

variable (m : (ℓ : Loc nD τ sig) → Buf (Elt F) ℓ)

theorem host_arg0 (d : Dev nD) : hostV m d (dv main_arg0) = m (d, dv main_arg0) := by
  unfold hostV hostOps
  after_results
  rfl
theorem host_arg1 (d : Dev nD) : hostV m d (dv main_arg1) = m (d, dv main_arg1) := by
  unfold hostV hostOps
  after_results
  rfl
theorem host_arg2 (d : Dev nD) : hostV m d (dv main_arg2) = m (d, dv main_arg2) := by
  unfold hostV hostOps
  after_results
  rfl

theorem host_v4 (d : Dev nD) : hostV m d (dv main_v4) = shapeCast S65536 (m (d, dv main_arg2) : S16x4096.Idx → BitVec 32) shapeCasts_S16x4096_S65536 := by
  unfold hostV hostOps
  after_results
  rfl

theorem host_v3 (d : Dev nD) : hostV m d (dv main_v3) =
    concatenate S48 0 [⟨S32, shapeCast S32 (transpose S2x16 [1, 0] (m (d, dv main_arg1) : S16x2.Idx → BitVec 32) transposes_S16x2_S2x16_1_0) shapeCasts_S2x16_S32⟩,
      ⟨S16, broadcastInDim S16 ![] bcast_S_S16 (constantI S_ 32 0#32)⟩] concatenates_S32_S16_S48_d0 := by
  unfold hostV hostOps
  after_results
  rfl

theorem given (d : Dev nD) : Given (fun d => vOf (m (d, dv main_arg0) : S16x4096x768.Idx → F .f32)) (fun d => zOf (m (d, dv main_arg1) : S16x2.Idx → BitVec 32)) (fun d => gOf (m (d, dv main_arg2) : S16x4096.Idx → BitVec 32)) m d := by
  refine ⟨?_, ?_, ?_⟩
  · rw [host_v3]
    funext j
    have hj : (j 0).val < 48 := (j 0).isLt
    by_cases h : (j 0).val < 32
    · rw [concatenate_pair_apply_left (t := S48) (s₁ := S32) (s₂ := S16) 0 _ _ _ j rfl (ix1 ⟨(j 0).val, h⟩) (fun b => by match b with | ⟨0, _⟩ => rfl)]
      rw [shapeCast_apply (s := S2x16) (t := S32) _ _ _ (ix2 ⟨(j 0).val / 16, by omega⟩ ⟨(j 0).val % 16, Nat.mod_lt _ (by decide)⟩)
        (by rw [Shape.rowMajor_val_one, Shape.rowMajor_val_two]; show (j 0).val / 16 * 16 + (j 0).val % 16 = (j 0).val; omega)]
      rw [transpose_apply (s := S16x2) (t := S2x16) _ _ _ _ (ix2 ⟨(j 0).val % 16, Nat.mod_lt _ (by decide)⟩ ⟨(j 0).val / 16, by omega⟩)
        (fun b => by match b with | ⟨0, _⟩ => rfl | ⟨1, _⟩ => rfl)]
      show _ = zOf _ (j 0).val
      unfold zOf
      rw [if_pos h]
      congr 2
      exact Fin.ext (by show (j 0).val / 16 = (j 0).val / 16 % 2; omega)
    · rw [concatenate_pair_apply_right (t := S48) (s₁ := S32) (s₂ := S16) 0 _ _ _ j rfl rfl (ix1 ⟨(j 0).val - 32, by omega⟩)
        (fun b hb => absurd (by match b with | ⟨0, _⟩ => rfl) hb) (by show (j 0).val - 32 + 32 = (j 0).val; omega)]
      show _ = zOf _ (j 0).val
      unfold zOf
      rw [if_neg h]
      rfl
  · rw [host_arg0]
    funext j
    exact (congrArg (m (d, dv main_arg0) : S16x4096x768.Idx → F .f32) (ValueIdx.eq_ix3 (n0 := 16) (n1 := 4096) (n2 := 768) j)).trans
      (vOf_at (m (d, dv main_arg0) : S16x4096x768.Idx → F .f32) (j 0) (j 1) (j 2)).symm
  · rw [host_v4]
    funext j
    have hj : (j 0).val < 65536 := (j 0).isLt
    rw [shapeCast_apply (s := S16x4096) (t := S65536) _ _ _ (ix2 ⟨(j 0).val / 4096 % 16, Nat.mod_lt _ (by decide)⟩ ⟨(j 0).val % 4096, Nat.mod_lt _ (by decide)⟩)
        (by rw [Shape.rowMajor_val_one, Shape.rowMajor_val_two]; show (j 0).val / 4096 % 16 * 4096 + (j 0).val % 4096 = (j 0).val; omega)]
    rfl

/-! ## What it leaves -/

theorem end_ne (d : Dev nD) (f : Buf (Elt F) (oLoc d)) {r : Ref sig .tc} (h : dv r ≠ dv main_v5) (h' : r ≠ main_v6) : endV m d f (dv r) = hostV m d (dv r) := by
  unfold endV opOut
  rw [StableHlo.reshape_result_ne (h := h')]
  exact callV_ne m d f h

theorem end_v6 (d : Dev nD) (f : Buf (Elt F) (oLoc d)) : endV m d f (dv main_v6) = shapeCast S16x128x768 (f : S1572864.Idx → F .f32) shapeCasts_S1572864_S16x128x768 := by
  unfold endV opOut
  rw [StableHlo.reshape_result']
  rw [callV_out]
  rfl

end Cert.Proof.Pool
-- ==== Proof.Pre.lean ====
module

public import proofs.«01_k».proof.Proof.Given
public import proofs.«01_k».proof.Pre_in_range
public import proofs.«01_k».proof.Pre_in_order
public import Idealize.ShloMosaic.Lib.WordCmp

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open ValueIdx (ix1 ix2 ix3)
open Cert.Pre_in_range (S16x1)
open Idealize.ShloMosaic.WordCmp (ofBool_eq_one_iff)

/-! ## The preconditions' shapes -/

theorem rangeFacts : Cert.Pre_in_range.Facts where
  slices_S16x2_S16x1_0_0 := by decide
  bcast_S16x1_S16x4096_0_1 := by decide
  slices_S16x2_S16x1_0_1 := by decide
  slices_S16x4096_S16x1_0_0 := by decide
  slices_S16x4096_S16x4095_0_0 := by decide
  concatenates_S16x1_S16x4095_S16x4096_d1 := by decide
  bcast_S_S16x4096 := by decide

theorem orderFacts : Cert.Pre_in_order.Facts where
  slices_S16x2_S16x1_0_0 := by decide
  bcast_S16x1_S16x4096_0_1 := by decide
  slices_S16x4096_S16x1_0_0 := by decide
  slices_S16x4096_S16x4095_0_0 := by decide
  concatenates_S16x1_S16x4095_S16x4096_d1 := by decide
  slices_S16x4096_S16x1_0_1 := by decide
  slices_S16x2_S16x1_0_1 := by decide
  bcast_S_S16x4096 := by decide

attribute [local instance] rangeFacts orderFacts

section
variable {F : FTy → Type} [FloatOps F]
variable (a0 : FVec F S16x4096x768 .f32) (a1 : IVec S16x2 32) (a2 : IVec S16x4096 32)

/-- Sign and order of words, read off the comparisons' bits. -/
theorem bit_and (x y : BitVec 1) : IntOp.andi x y = 1#1 ↔ x = 1#1 ∧ y = 1#1 := by
  revert x y; decide
theorem bit_or (x y : BitVec 1) : IntOp.ori x y = 1#1 ↔ x = 1#1 ∨ y = 1#1 := by
  revert x y; decide
theorem bit_sge (x y : BitVec 32) : IntOp.cmpi .sge x y = 1#1 ↔ y.toInt ≤ x.toInt := by
  simp only [IntOp.cmpi, ofBool_eq_one_iff, BitVec.sle_iff_toInt_le]
theorem bit_sle (x y : BitVec 32) : IntOp.cmpi .sle x y = 1#1 ↔ x.toInt ≤ y.toInt := by
  simp only [IntOp.cmpi, ofBool_eq_one_iff, BitVec.sle_iff_toInt_le]
theorem bit_slt (x y : BitVec 32) : IntOp.cmpi .slt x y = 1#1 ↔ x.toInt < y.toInt := by
  simp only [IntOp.cmpi, ofBool_eq_one_iff, BitVec.slt_iff_toInt_lt]
theorem bit_sgt (x y : BitVec 32) : IntOp.cmpi .sgt x y = 1#1 ↔ y.toInt < x.toInt := by
  simp only [IntOp.cmpi, ofBool_eq_one_iff, BitVec.slt_iff_toInt_lt]
theorem bit_eq (x y : BitVec 32) : IntOp.cmpi .eq x y = 1#1 ↔ x = y := by
  simp only [IntOp.cmpi, ofBool_eq_one_iff, beq_iff_eq]

theorem quarter (x : BitVec 32) : (IntOp.shrsi .host x 2#32).toInt = x.toInt / 4 := by
  have := shr_i x 2#32 2 rfl (by decide)
  unfold Scalar.shrsi IntOp.shrsi at this
  unfold IntOp.shrsi
  rw [if_pos (by decide)] at this ⊢
  exact this

/-- The row shifted by one token, its first token kept. -/
theorem prev_at (b : Fin 16) (p : Fin 4096) :
    concatenate S16x4096 1 [⟨S16x1, extractStridedSlice S16x1 ![0, 0] a2 Cert.Pre_in_range.Facts.slices_S16x4096_S16x1_0_0⟩,
      ⟨Cert.Pre_in_range.S16x4095, extractStridedSlice Cert.Pre_in_range.S16x4095 ![0, 0] a2 Cert.Pre_in_range.Facts.slices_S16x4096_S16x4095_0_0⟩]
      Cert.Pre_in_range.Facts.concatenates_S16x1_S16x4095_S16x4096_d1 (ix2 b p) = gOf a2 (4096 * b.val + (p.val - 1)) := by
  have hb := b.isLt
  have hp := p.isLt
  have e := gOf_at a2 b ⟨p.val - 1, by omega⟩
  rw [show 4096 * b.val + (p.val - 1) = 4096 * b.val + (⟨p.val - 1, by omega⟩ : Fin 4096).val from rfl, e]
  by_cases h : p.val = 0
  · rw [concatenate_pair_apply_left (t := S16x4096) (s₁ := S16x1) (s₂ := Cert.Pre_in_range.S16x4095) 1 _ _ _ _ rfl (ix2 b 0)
      (fun a => by match a with | ⟨0, _⟩ => rfl | ⟨1, _⟩ => exact h.symm)]
    exact extractStridedSlice_apply _ _ _ _ _ (fun a => by
      match a with
      | ⟨0, _⟩ => exact (Nat.zero_add _).symm
      | ⟨1, _⟩ => show p.val - 1 = 0 + 0; omega)
  · rw [concatenate_pair_apply_right (t := S16x4096) (s₁ := S16x1) (s₂ := Cert.Pre_in_range.S16x4095) 1 _ _ _ _ rfl rfl (ix2 b ⟨p.val - 1, by omega⟩)
      (fun a ha => by match a with | ⟨0, _⟩ => rfl | ⟨1, _⟩ => exact absurd rfl ha) (by show p.val - 1 + 1 = p.val; omega)]
    exact extractStridedSlice_apply _ _ _ _ _ (fun a => by
      match a with
      | ⟨0, _⟩ => exact (Nat.zero_add _).symm
      | ⟨1, _⟩ => show p.val - 1 = 0 + (p.val - 1); omega)

/-- The span's ends, the same at every token of the row. -/
theorem start_at (b : Fin 16) (p : Fin 4096) :
    broadcastInDim S16x4096 ![0, 1] Cert.Pre_in_range.Facts.bcast_S16x1_S16x4096_0_1 (extractStridedSlice S16x1 ![0, 0] a1 Cert.Pre_in_range.Facts.slices_S16x2_S16x1_0_0) (ix2 b p) = zOf a1 b.val := by
  rw [zOf_start]
  rw [broadcastInDim_apply (s := S16x1) (t := S16x4096) _ _ _ _ (ix2 b 0) (fun a => by match a with | ⟨0, _⟩ => rfl | ⟨1, _⟩ => rfl)]
  exact extractStridedSlice_apply _ _ _ _ _ (fun a => by
    match a with
    | ⟨0, _⟩ => exact (Nat.zero_add _).symm
    | ⟨1, _⟩ => rfl)
theorem end_at (b : Fin 16) (p : Fin 4096) :
    broadcastInDim S16x4096 ![0, 1] Cert.Pre_in_range.Facts.bcast_S16x1_S16x4096_0_1 (extractStridedSlice S16x1 ![0, 1] a1 Cert.Pre_in_range.Facts.slices_S16x2_S16x1_0_1) (ix2 b p) = zOf a1 (16 + b.val) := by
  rw [zOf_end]
  rw [broadcastInDim_apply (s := S16x1) (t := S16x4096) _ _ _ _ (ix2 b 0) (fun a => by match a with | ⟨0, _⟩ => rfl | ⟨1, _⟩ => rfl)]
  exact extractStridedSlice_apply _ _ _ _ _ (fun a => by
    match a with
    | ⟨0, _⟩ => exact (Nat.zero_add _).symm
    | ⟨1, _⟩ => rfl)

theorem pos_toInt (p : Fin 4096) : (BitVec.ofNat 32 p.val).toInt = (p.val : Int) := by
  have := p.isLt
  rw [BitVec.toInt_eq_toNat_cond, BitVec.toNat_ofNat]
  omega

theorem range_at (e : Cert.Pre_in_range.fn (F := F) a0 a1 a2 = fun _ => 1#1) (b : Fin 16) (p : Fin 4096) :
    ((0 ≤ (zOf a1 b.val).toInt ∧ (zOf a1 b.val).toInt < 4096) ∧ 0 ≤ (zOf a1 (16 + b.val)).toInt ∧ (zOf a1 (16 + b.val)).toInt < 4096)
      ∧ ((((p.val : Int) < 4080 ∨ (p.val : Int) < (zOf a1 b.val).toInt) ∨ (zOf a1 (16 + b.val)).toInt < p.val)
        ∨ (zOf a1 b.val).toInt < p.val ∧ sgOf (gOf a2) b.val p.val / 4 = sgOf (gOf a2) b.val (p.val - 1) / 4) := by
  have e := congrFun e (ix2 b p)
  simp only [Cert.Pre_in_range.fn, Cert.Pre_in_range.fn_part1] at e
  change IntOp.andi (IntOp.andi (IntOp.andi (IntOp.andi (IntOp.cmpi .sge _ 0#32) (IntOp.cmpi .slt _ 4096#32)) (IntOp.cmpi .sge _ 0#32)) (IntOp.cmpi .slt _ 4096#32))
    (IntOp.ori (IntOp.ori (IntOp.ori (IntOp.cmpi .slt (BitVec.ofNat 32 p.val) 4080#32) (IntOp.cmpi .slt (BitVec.ofNat 32 p.val) _)) (IntOp.cmpi .sgt (BitVec.ofNat 32 p.val) _))
      (IntOp.andi (IntOp.cmpi .sgt (BitVec.ofNat 32 p.val) _) (IntOp.cmpi .eq (IntOp.shrsi .host (a2 (ix2 b p)) 2#32) (IntOp.shrsi .host _ 2#32)))) = 1#1 at e
  rw [prev_at, start_at, end_at, ← gOf_at a2 b p] at e
  simp only [bit_and, bit_or, bit_sge, bit_slt, bit_sgt, bit_eq, pos_toInt] at e
  obtain ⟨⟨⟨⟨h1, h2⟩, h3⟩, h4⟩, h5⟩ := e
  refine ⟨⟨⟨h1, h2⟩, h3, h4⟩, h5.imp id (fun h => ⟨h.1, ?_⟩)⟩
  unfold sgOf
  rw [← quarter, ← quarter, h.2]

theorem fit_of_range (e : Cert.Pre_in_range.fn (F := F) a0 a1 a2 = fun _ => 1#1) : Fit (zOf a1) (gOf a2) := by
  refine ⟨fun n hn => ?_, fun b hb p h1 h2 h3 h4 => ?_⟩
  · by_cases h : n < 16
    · exact (range_at a0 a1 a2 e ⟨n, h⟩ 0).1.1
    · have := (range_at a0 a1 a2 e ⟨n - 16, by omega⟩ 0).1.2
      rwa [show 16 + (⟨n - 16, by omega⟩ : Fin 16).val = n from by show 16 + (n - 16) = n; omega] at this
  · have h := range_at a0 a1 a2 e ⟨b, hb⟩ ⟨p, h2⟩
    simp only at h
    unfold zN at h3 h4 ⊢
    omega

/-- The rows ascend, and a span that takes in the first token finds the second in the same bucket. -/
structure Ordered (Z G : Nat → BitVec 32) : Prop where
  up : ∀ b < 16, Sorted (sgOf G b)
  head : ∀ b < 16, zN Z b = 0 → sgOf G b 0 = sgOf G b 1

theorem order_eq : Cert.Pre_in_order.fn (F := F) a0 a1 a2 =
    andi (andi (Cert.Pre_in_range.fn (F := F) a0 a1 a2)
      (cmpi .sle (concatenate S16x4096 1 [⟨S16x1, extractStridedSlice S16x1 ![0, 0] a2 Cert.Pre_in_range.Facts.slices_S16x4096_S16x1_0_0⟩,
      ⟨Cert.Pre_in_range.S16x4095, extractStridedSlice Cert.Pre_in_range.S16x4095 ![0, 0] a2 Cert.Pre_in_range.Facts.slices_S16x4096_S16x4095_0_0⟩]
      Cert.Pre_in_range.Facts.concatenates_S16x1_S16x4095_S16x4096_d1) a2))
    (ori (cmpi .sgt (broadcastInDim S16x4096 ![0, 1] Cert.Pre_in_range.Facts.bcast_S16x1_S16x4096_0_1 (extractStridedSlice S16x1 ![0, 0] a1 Cert.Pre_in_range.Facts.slices_S16x2_S16x1_0_0))
        (broadcastInDim S16x4096 ![] Cert.Pre_in_range.Facts.bcast_S_S16x4096 (constantI S_ 32 0#32)))
      (broadcastInDim S16x4096 ![0, 1] Cert.Pre_in_range.Facts.bcast_S16x1_S16x4096_0_1
        (cmpi .eq (extractStridedSlice S16x1 ![0, 0] a2 Cert.Pre_in_range.Facts.slices_S16x4096_S16x1_0_0) (extractStridedSlice S16x1 ![0, 1] a2 Cert.Pre_in_order.Facts.slices_S16x4096_S16x1_0_1)))) := rfl

theorem range_of_order (e : Cert.Pre_in_order.fn (F := F) a0 a1 a2 = fun _ => 1#1) : Cert.Pre_in_range.fn (F := F) a0 a1 a2 = fun _ => 1#1 := by
  rw [order_eq] at e
  funext j
  exact ((bit_and _ _).1 ((bit_and _ _).1 (congrFun e j)).1).1

theorem order_at (e : Cert.Pre_in_order.fn (F := F) a0 a1 a2 = fun _ => 1#1) (b : Fin 16) (p : Fin 4096) :
    sgOf (gOf a2) b.val (p.val - 1) ≤ sgOf (gOf a2) b.val p.val ∧ (0 < (zOf a1 b.val).toInt ∨ sgOf (gOf a2) b.val 0 = sgOf (gOf a2) b.val 1) := by
  rw [order_eq] at e
  have e := congrFun e (ix2 b p)
  obtain ⟨e1, e2⟩ := (bit_and _ _).1 e
  have e1 := ((bit_and _ _).1 e1).2
  constructor
  · have e1 := (bit_sle _ _).1 e1
    rw [prev_at, ← gOf_at a2 b p] at e1
    exact e1
  · rcases (bit_or _ _).1 e2 with h | h
    · left
      have h := (bit_sgt _ _).1 h
      rw [start_at] at h
      exact h
    · right
      rw [broadcastInDim_apply (s := S16x1) (t := S16x4096) _ _ _ _ (ix2 b 0) (fun a => by match a with | ⟨0, _⟩ => rfl | ⟨1, _⟩ => rfl)] at h
      have h := (bit_eq _ _).1 h
      rw [extractStridedSlice_apply (s := S16x4096) (t := S16x1) _ _ _ _ (ix2 b 0) (fun a => by match a with | ⟨0, _⟩ => exact (Nat.zero_add _).symm | ⟨1, _⟩ => rfl),
        extractStridedSlice_apply (s := S16x4096) (t := S16x1) _ _ _ _ (ix2 b 1) (fun a => by match a with | ⟨0, _⟩ => exact (Nat.zero_add _).symm | ⟨1, _⟩ => rfl),
        ← gOf_at a2 b 0, ← gOf_at a2 b 1] at h
      exact congrArg BitVec.toInt h

theorem ordered (e : Cert.Pre_in_order.fn (F := F) a0 a1 a2 = fun _ => 1#1) : Ordered (zOf a1) (gOf a2) := by
  refine ⟨fun b hb => ?_, fun b hb h => ?_⟩
  · intro p q hpq hq
    induction q with
    | zero => rw [show p = 0 by omega]
    | succ q ih =>
      by_cases h : p = q + 1
      · rw [h]
      · exact (ih (by omega) (by omega)).trans (order_at a0 a1 a2 e ⟨b, hb⟩ ⟨q + 1, hq⟩).1
  · rcases (order_at a0 a1 a2 e ⟨b, hb⟩ 0).2 with h' | h'
    · unfold zN at h
      simp only at h'
      omega
    · exact h'

end

end Cert.Proof.Pool
-- ==== Proof.Frame.lean ====
module

public import proofs.«01_k».proof.Proof.Pre

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

attribute [local instance] rangeFacts orderFacts

variable (m : (ℓ : Loc nD τ sig) → Buf (Elt F) ℓ) (ρ : Dev nD → PrngReg)

/-- The inputs by position, on each device. -/
abbrev Vm : Dev nD → Nat → Nat → Nat → F .f32 := fun d => vOf (m (d, dv main_arg0) : S16x4096x768.Idx → F .f32)
abbrev Zm : Dev nD → Nat → BitVec 32 := fun d => zOf (m (d, dv main_arg1) : S16x2.Idx → BitVec 32)
abbrev Gm : Dev nD → Nat → BitVec 32 := fun d => gOf (m (d, dv main_arg2) : S16x4096.Idx → BitVec 32)

/-- The range condition, on every device. -/
def InRange : Prop := ∀ c : Dev nD, Cert.Pre_in_range.fn (F := F) (m (c.tc.loc main_arg0)) (m (c.tc.loc main_arg1)) (m (c.tc.loc main_arg2)) = fun _ => 1#1

/-- The arguments as they were. -/
def Kept (r : PUnit × MemSt nD τ sig (Elt F)) (c : Dev nD) : Prop :=
  r.2.mem (c.tc.loc main_arg0) = m (c.tc.loc main_arg0) ∧ r.2.mem (c.tc.loc main_arg1) = m (c.tc.loc main_arg1) ∧ r.2.mem (c.tc.loc main_arg2) = m (c.tc.loc main_arg2)

theorem kept_of_end (r : PUnit × MemSt nD τ sig (Elt F)) (d : Dev nD) (f : Buf (Elt F) (oLoc d)) (h : ∀ b ∈ S11, r.2.mem (d, b) = endV m d f b) : Kept m r d :=
  ⟨(h (dv main_arg0) (by decide)).trans ((end_ne m d f (by decide) (by decide)).trans (host_arg0 m d)),
    (h (dv main_arg1) (by decide)).trans ((end_ne m d f (by decide) (by decide)).trans (host_arg1 m d)),
    (h (dv main_arg2) (by decide)).trans ((end_ne m d f (by decide) (by decide)).trans (host_arg2 m d))⟩

theorem run_range [∀ e, Nonempty (Elt F e)] (hpre : InRange m) :
    θ_run (Cert.KernelIdeal.defs (F := F)) (Cert.KernelIdeal.threads (F := F)) ⟨m, fun _ => 0, ρ⟩ (QC (Vm m) (Zm m) (Gm m) m) :=
  run_main (Vm m) (Zm m) (Gm m) m ρ (fun d => fit_of_range _ _ _ (hpre d)) (fun d => given m d)

theorem frame_of [∀ e, Nonempty (Elt F e)] (hpre : InRange m) :
    θ_run (Cert.KernelIdeal.defs (F := F)) (Cert.KernelIdeal.threads (F := F)) ⟨m, fun _ => 0, ρ⟩ (fun r => (∀ c, Kept m r c) ∧ r.2.sem = fun _ => 0) :=
  (θ_run _ _ _).mono (fun r h => ⟨fun d => by obtain ⟨f, -, h⟩ := h.1 d; exact kept_of_end m r d f h, h.2⟩) (run_range m ρ hpre)

end Cert.Proof.Pool
-- ==== Proof.Frames.lean ====
module

public import proofs.«01_k».proof.Proof.Frame
public import proofs.«01_k».proof.Proof.Gen.Kernel
public import proofs.«01_k».proof.Defs

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] rangeFacts orderFacts

theorem frame_ideal : @Cert.quiescent_KernelIdeal Cert.KernelIdeal.Gen.facts rangeFacts := fun m g hpre => frame_of m g hpre
theorem frame_ideal_order : @Cert.quiescent_KernelIdeal_pre_in_order Cert.KernelIdeal.Gen.facts orderFacts :=
  fun m g hpre => frame_of m g (fun d => range_of_order _ _ _ (hpre d))
set_option maxHeartbeats 0 in
/-- The kernel as printed is the same program. -/
theorem frame_bits : @Cert.quiescent_Kernel Cert.Kernel.Gen.facts rangeFacts := fun m g hpre => frame_of (F := Bits) m g hpre

end Cert.Proof.Pool
-- ==== Proof.Value.lean ====
module

public import proofs.«01_k».proof.Proof.Pre
public import Idealize.ShloMosaic.Lib.IdealHost

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## A bucket's tokens -/

/-- The tokens of sentence `b`'s span that fall to bucket `k`. -/
def toks (Z G : Nat → BitVec 32) (b k : Nat) : Finset ℕ :=
  (Finset.range 4096).filter fun t => zN Z b ≤ t ∧ t ≤ zN Z (16 + b) ∧ sgOf G b t = (k : Int)

/-- The mean of a bucket's tokens; zero for none. -/
def mean (V : Nat → Nat → Nat → EReal) (Z G : Nat → BitVec 32) (b k c : Nat) : EReal :=
  Ideal.div (∑ t ∈ toks Z G b k, V b t c) (max 1 ((((toks Z G b k).card : ℕ) : ℝ) : EReal))

section
variable {Z G : Nat → BitVec 32} (hO : Ordered Z G) {b w l : Nat} {r : Nat → Nat}
include hO

/-- A token of the span lies past a cut just if its bucket is that far. -/
theorem cut_iff (hb : b < 16) (hF : Fit Z G) (hr : Found (sgOf G b) (4 * w + l) (r l)) {t : Nat} (hs : zN Z b ≤ t) (he : t ≤ zN Z (16 + b)) :
    cuts Z b r l ≤ t ↔ ((4 * w + l : Nat) : Int) ≤ sgOf G b t := by
  have h4 := (hF.is (n := 16 + b) (by omega)).2
  have hup := hO.up b hb
  have e : cuts Z b r l ≤ t ↔ r l ≤ t := by unfold cuts clamp; omega
  rw [e]
  constructor
  · intro h
    rcases Nat.eq_zero_or_pos t with h0 | h0
    · have h1 := hO.head b hb (by omega)
      have h2 := hr.above 1 (by omega) (by decide)
      rw [h0, h1]; exact h2
    · have h2 := hr.above (max (r l) 1) rfl (by omega)
      have h3 := hup (max (r l) 1) t (by omega) (by omega)
      omega
  · intro h
    by_contra hlt
    have h2 := hr.below (by omega)
    have h3 := hup t (r l - 1) (by omega) (by have := hr.le; omega)
    omega

omit hO in
theorem cuts_span (r : Nat → Nat) (l : Nat) : cuts Z b r l ≤ zN Z (16 + b) + 1 ∧ min (zN Z b) (zN Z (16 + b) + 1) ≤ cuts Z b r l := by
  unfold cuts clamp; omega

theorem cuts_mono (hb : b < 16) (hF : Fit Z G) (hr : ∀ j < 5, Found (sgOf G b) (4 * w + j) (r j)) (hl : l < 4) : cuts Z b r l ≤ cuts Z b r (l + 1) := by
  by_contra hlt
  have h1 := cuts_span (Z := Z) (b := b) r l
  have h2 := cuts_span (Z := Z) (b := b) r (l + 1)
  have e1 := (cut_iff hO (l := l + 1) hb hF (hr (l + 1) (by omega)) (t := cuts Z b r (l + 1)) (by omega) (by omega)).1 le_rfl
  have e2 := (cut_iff hO (l := l) hb hF (hr l (by omega)) (t := cuts Z b r (l + 1)) (by omega) (by omega)).2 (by push_cast at e1 ⊢; omega)
  omega

theorem toks_eq (hb : b < 16) (hF : Fit Z G) (hr : ∀ j < 5, Found (sgOf G b) (4 * w + j) (r j)) (hl : l < 4) :
    toks Z G b (4 * w + l) = Finset.Ico (cuts Z b r l) (cuts Z b r (l + 1)) := by
  have h4 := (hF.is (n := 16 + b) (by omega)).2
  have h1 := cuts_span (Z := Z) (b := b) r l
  have h2 := cuts_span (Z := Z) (b := b) r (l + 1)
  have q (t : Nat) (hs : zN Z b ≤ t) (he : t ≤ zN Z (16 + b)) := And.intro (cut_iff hO (l := l) hb hF (hr l (by omega)) hs he) (cut_iff hO (l := l + 1) hb hF (hr (l + 1) (by omega)) hs he)
  ext t
  simp only [toks, Finset.mem_filter, Finset.mem_range, Finset.mem_Ico]
  constructor
  · rintro ⟨-, hs, he, hk⟩
    have := q t hs he
    push_cast at this hk
    omega
  · rintro ⟨hlo, hhi⟩
    have hs : zN Z b ≤ t := by omega
    have he : t ≤ zN Z (16 + b) := by omega
    have := q t hs he
    push_cast at this ⊢
    omega

end

/-! ## What the chunks add up to -/

theorem rowSum_at (D : Nat → Nat → EReal) (r n k : Nat) (y : S16.Idx) :
    rowSum (F := Ideal) D r n k y = ∑ j ∈ Finset.range n, D (r + j) (16 * k + (y 0).val) := by
  induction n with
  | zero => exact Ideal.ofBits_zero_f32
  | succ n ih =>
    rw [Finset.sum_range_succ, ← ih]
    rfl

theorem rowPut_in (A : Nat → EReal) (b : Nat) (g : Nat → FVec Ideal S16 .f32) {c : Nat} (hc : c < 768) :
    rowPut (F := Ideal) A b 0 48 g (b + c) = g (c / 16) (lane (c % 16) (Nat.mod_lt _ (by decide))) := by
  have e : b + c - b = c := by omega
  unfold rowPut
  rw [if_pos (by omega)]
  refine congrArg₂ (fun (k : Nat) (y : S16.Idx) => g k y) (congrArg (· / 16) e) (s16_ext (congrArg (· % 16) e))

theorem rowPut_out (A : Nat → EReal) (b : Nat) (g : Nat → FVec Ideal S16 .f32) {y : Nat} (h : y < b ∨ b + 768 ≤ y) :
    rowPut (F := Ideal) A b 0 48 g y = A y := by
  unfold rowPut
  rw [if_neg (by omega)]

/-- One chunk's work on a number of bucket `l`. -/
def cell (B : Nat → Nat) (T0 T1 i : Nat) (D : Nat → Nat → EReal) (l c : Nat) (a : EReal) : EReal :=
  if xN B T0 i l < hN B T0 T1 i l then
    if puN T0 i ≤ B l then ∑ j ∈ Finset.range (hN B T0 T1 i l - xN B T0 i l), D (xN B T0 i l - plN T0 i + j) c
    else a + ∑ j ∈ Finset.range (hN B T0 T1 i l - xN B T0 i l), D (xN B T0 i l - plN T0 i + j) c
  else a

section
variable (B : Nat → Nat) (T0 T1 i : Nat) (D : Nat → Nat → EReal) (A : Nat → EReal) {l l' c : Nat}

theorem bstep_at (hc : c < 768) : bstep (F := Ideal) B T0 T1 i D l A (768 * l + c) = cell B T0 T1 i D l c (A (768 * l + c)) := by
  have ec : 16 * (c / 16) + c % 16 = c := by omega
  have ea : 768 * l + 16 * (c / 16) + c % 16 = 768 * l + c := by omega
  have hsum : rowSum (F := Ideal) D (xN B T0 i l - plN T0 i) (hN B T0 T1 i l - xN B T0 i l) (c / 16) (lane (c % 16) (Nat.mod_lt _ (by decide)))
      = ∑ j ∈ Finset.range (hN B T0 T1 i l - xN B T0 i l), D (xN B T0 i l - plN T0 i + j) c :=
    (rowSum_at D _ _ _ _).trans (Finset.sum_congr rfl fun j _ => congrArg (D _) ec)
  unfold bstep cell
  by_cases h : xN B T0 i l < hN B T0 T1 i l
  · rw [if_pos h, if_pos h]
    unfold bucketPut
    rw [rowPut_in A _ _ hc]
    by_cases h1 : puN T0 i ≤ B l
    · simp only [if_pos h1]
      exact hsum
    · simp only [if_neg h1]
      exact congrArg₂ (fun x y : EReal => x + y) (congrArg A ea) hsum
  · rw [if_neg h, if_neg h]

theorem bstep_off (hc : c < 768) (h : l' ≠ l) : bstep (F := Ideal) B T0 T1 i D l' A (768 * l + c) = A (768 * l + c) := by
  unfold bstep bucketPut
  split
  · exact rowPut_out A _ _ (by omega)
  · rfl

theorem bsteps_at (hc : c < 768) (n : Nat) : bsteps (F := Ideal) B T0 T1 i D A n (768 * l + c) = if l < n then cell B T0 T1 i D l c (A (768 * l + c)) else A (768 * l + c) := by
  induction n with
  | zero => rw [if_neg (by omega)]; rfl
  | succ n ih =>
    show bstep (F := Ideal) B T0 T1 i D n (bsteps (F := Ideal) B T0 T1 i D A n) (768 * l + c) = _
    by_cases h : n = l
    · subst h
      rw [bstep_at B T0 T1 i D _ hc, ih, if_neg (by omega), if_pos (by omega)]
    · rw [bstep_off B T0 T1 i D _ hc h, ih]
      by_cases h2 : l < n
      · rw [if_pos h2, if_pos (by omega)]
      · rw [if_neg h2, if_neg (by omega)]

end

section
variable {B : Nat → Nat} {V : Nat → Nat → Nat → EReal} {b l c : Nat} {A : Nat → EReal}

/-- A bucket that has tokens holds, after some chunks, the sum of those tokens of it that the chunks have. -/
theorem chunks_at (hl : l < 4) (hc : c < 768) (h0 : B 0 ≤ B l) (h1 : B l < B (l + 1)) (h4 : B (l + 1) ≤ B 4) (n : Nat) (hn : n ≤ nN (B 0) (B 4)) (hp : B l < puN (B 0) n) :
    chunks (F := Ideal) B (B 0) (B 4) V b A n (768 * l + c) = ∑ t ∈ Finset.Ico (B l) (min (B (l + 1)) (puN (B 0) n)), V b t c := by
  induction n with
  | zero => unfold puN at hp; have := aN_le (B 0); omega
  | succ n ih =>
    have ep : puN (B 0) (n + 1) = puN (B 0) n + 32 := by unfold puN; omega
    have hpl : plN (B 0) n ≤ puN (B 0) n := by unfold plN; omega
    have hx : xN B (B 0) n l = max (B l) (puN (B 0) n) := by unfold xN; omega
    have hh : hN B (B 0) (B 4) n l = min (B (l + 1)) (puN (B 0) (n + 1)) := by unfold hN; omega
    have hS : ∑ j ∈ Finset.range (hN B (B 0) (B 4) n l - xN B (B 0) n l), chunkRows (F := Ideal) V b (B 0) n (xN B (B 0) n l - plN (B 0) n + j) c
        = ∑ t ∈ Finset.Ico (xN B (B 0) n l) (hN B (B 0) (B 4) n l), V b t c := by
      rw [Finset.sum_Ico_eq_sum_range]
      refine Finset.sum_congr rfl fun j _ => ?_
      show V b (plN (B 0) n + (xN B (B 0) n l - plN (B 0) n + j)) c = _
      rw [show plN (B 0) n + (xN B (B 0) n l - plN (B 0) n + j) = xN B (B 0) n l + j by omega]
    show (if n < nN (B 0) (B 4) then bsteps (F := Ideal) B (B 0) (B 4) n (chunkRows (F := Ideal) V b (B 0) n) (chunks (F := Ideal) B (B 0) (B 4) V b A n) 4 else _) (768 * l + c) = _
    rw [if_pos (by omega), bsteps_at _ _ _ _ _ _ hc, if_pos hl]
    unfold cell
    rw [hS, hx, hh]
    by_cases hf : puN (B 0) n ≤ B l
    · rw [if_pos (by omega), if_pos hf, Nat.max_eq_left hf]
    · rw [ih (by omega) (by omega), if_neg hf, Nat.max_eq_right (by omega)]
      by_cases hlt : puN (B 0) n < min (B (l + 1)) (puN (B 0) (n + 1))
      · rw [if_pos hlt, Nat.min_eq_right (a := B (l + 1)) (b := puN (B 0) n) (by omega)]
        exact Finset.sum_Ico_consecutive _ (by omega) (by omega)
      · rw [if_neg hlt, Nat.min_eq_left (a := B (l + 1)) (b := puN (B 0) n) (by omega), Nat.min_eq_left (by omega)]

theorem chunks_all (hl : l < 4) (hc : c < 768) (h0 : B 0 ≤ B l) (h1 : B l < B (l + 1)) (h4 : B (l + 1) ≤ B 4) :
    chunks (F := Ideal) B (B 0) (B 4) V b A (nN (B 0) (B 4)) (768 * l + c) = ∑ t ∈ Finset.Ico (B l) (B (l + 1)), V b t c := by
  have e : B 4 ≤ puN (B 0) (nN (B 0) (B 4)) := by unfold puN nN; rw [if_pos (by omega)]; omega
  rw [chunks_at hl hc h0 h1 h4 _ le_rfl (by omega), Nat.min_eq_left (by omega)]

end

/-! ## The division -/

theorem one_ne {n : Nat} : max (1 : EReal) (((n : ℕ) : ℝ) : EReal) ≠ 0 := by
  intro e
  have h : (1 : EReal) ≤ 0 := e ▸ le_max_left _ _
  exact absurd h (by simp)

theorem invOf_some {n : Nat} (h0 : 0 < n) {x : BitVec 32} (h : Is x n) (y : S16.Idx) :
    invOf (F := Ideal) x y = Ideal.div 1 (max (1 : EReal) (((n : ℕ) : ℝ) : EReal)) := by
  unfold invOf
  rw [select_eq (P := 0 < n) ((sgt_iff _ _).trans (by unfold Is at h; rw [h]; simp)), if_pos h0]
  show Ideal.div (Ideal.ofBits .f32 0x3F800000#32) (Ideal.ofBits .f32 0x3F800000#32 * max ((x.toInt : ℝ) : EReal) (Ideal.ofBits .f32 0x3F800000#32)) = _
  unfold Is at h
  rw [Ideal.ofBits_one_f32, one_mul, max_comm, h, Int.cast_natCast]

theorem invOf_none {x : BitVec 32} (h : Is x 0) (y : S16.Idx) : invOf (F := Ideal) x y = (0 : EReal) := by
  unfold invOf
  rw [select_eq (P := False) ((sgt_iff _ _).trans (by unfold Is at h; rw [h]; simp)), if_neg not_false]
  exact Ideal.ofBits_zero_f32

theorem divs_at (A : Nat → EReal) (B : Nat → Nat) {l c : Nat} (hc : c < 768) (n : Nat) :
    divs (F := Ideal) A B n (768 * l + c) = if l < n then
      A (768 * l + c) * invOf (F := Ideal) (Scalar.subi (BitVec.ofNat 32 (B (l + 1))) (BitVec.ofNat 32 (B l))) (lane (c % 16) (Nat.mod_lt _ (by decide))) else A (768 * l + c) := by
  induction n with
  | zero => rw [if_neg (by omega)]; rfl
  | succ n ih =>
    unfold divs
    by_cases h : n = l
    · subst h
      rw [rowPut_in _ _ _ hc, if_pos (by omega)]
      rw [if_neg (by omega)] at ih
      have ea : 768 * n + 16 * (c / 16) + c % 16 = 768 * n + c := by omega
      exact congrArg (fun x : EReal => x * _) ((congrArg (divs (F := Ideal) A B n) ea).trans ih)
    · rw [rowPut_out _ _ _ (by omega), ih]
      by_cases h2 : l < n
      · rw [if_pos h2, if_pos (by omega)]
      · rw [if_neg h2, if_neg (by omega)]

/-- A worker's block of a sentence holds its four buckets' means. -/
theorem good_at {V : Nat → Nat → Nat → EReal} {Z G : Nat → BitVec 32} (hF : Fit Z G) (hO : Ordered Z G) {w b l c : Nat} {X : Nat → EReal} (h : Good (F := Ideal) V Z G w b X)
    (hb : b < 16) (hl : l < 4) (hc : c < 768) : X (768 * l + c) = mean V Z G b (4 * w + l) c := by
  obtain ⟨r, A, hr, rfl⟩ := h
  have hm (j : Nat) (hj : j < 4) := cuts_mono hO (l := j) hb hF hr hj
  have m0 : cuts Z b r 0 ≤ cuts Z b r 1 := hm 0 (by decide)
  have m1 : cuts Z b r 1 ≤ cuts Z b r 2 := hm 1 (by decide)
  have m2 : cuts Z b r 2 ≤ cuts Z b r 3 := hm 2 (by decide)
  have m3 : cuts Z b r 3 ≤ cuts Z b r 4 := hm 3 (by decide)
  have hlo : cuts Z b r 0 ≤ cuts Z b r l := by interval_cases l <;> omega
  have hhi : cuts Z b r (l + 1) ≤ cuts Z b r 4 := by interval_cases l <;> simp only [Nat.reduceAdd, Nat.zero_add] <;> omega
  have hle := cuts_le hF hb r (l + 1)
  have hml := hm l hl
  have hI : Is (Scalar.subi (BitVec.ofNat 32 (cuts Z b r (l + 1))) (BitVec.ofNat 32 (cuts Z b r l))) (cuts Z b r (l + 1) - cuts Z b r l) :=
    (Is.ofNat _ (by omega)).sub (Is.ofNat _ (by omega)) hml (by omega)
  unfold mean
  rw [divs_at _ _ hc, if_pos hl, toks_eq hO hb hF hr hl, Nat.card_Ico]
  by_cases hlt : cuts Z b r l < cuts Z b r (l + 1)
  · rw [invOf_some (by omega) hI, chunks_all hl hc hlo hlt hhi]
    exact Ideal.mul_one_div one_ne
  · rw [show cuts Z b r (l + 1) - cuts Z b r l = 0 by omega] at hI ⊢
    rw [invOf_none hI, Finset.Ico_eq_empty hlt, Finset.sum_empty]
    exact (mul_zero _).trans (Ideal.zero_div one_ne).symm

end Cert.Proof.Pool
-- ==== Proof.Ref.lean ====
module

public import proofs.«01_k».proof.Proof.Gen.ReferenceIdeal
public import Idealize.ShloMosaic.Lib.StableHlo.Run
public import Idealize.ShloMosaic.Lib.Quiescent
public import proofs.«01_k».proof.Defs

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order; the clipping of the counts is inlined. -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_arg1 main_v2 ((extractStridedSlice S16x1 ![0, 0] · slices_S16x2_S16x1_0_0) : (⟨S16x2, .i32⟩ : BufTy).Contents (Elt F) → (⟨S16x1, .i32⟩ : BufTy).Contents (Elt F)),
    unary main_arg1 main_v3 ((extractStridedSlice S16x1 ![0, 1] · slices_S16x2_S16x1_0_1) : (⟨S16x2, .i32⟩ : BufTy).Contents (Elt F) → (⟨S16x1, .i32⟩ : BufTy).Contents (Elt F)),
    unary main_v1 main_v4 (broadcastInDim S16x4096 ![0, 1] bcast_S1x4096_S16x4096_0_1 : (⟨S1x4096, .i32⟩ : BufTy).Contents (Elt F) → (⟨S16x4096, .i32⟩ : BufTy).Contents (Elt F)),
    unary main_v2 main_v5 (broadcastInDim S16x4096 ![0, 1] bcast_S16x1_S16x4096_0_1 : (⟨S16x1, .i32⟩ : BufTy).Contents (Elt F) → (⟨S16x4096, .i32⟩ : BufTy).Contents (Elt F)),
    binary main_v4 main_v5 main_v6 (cmpi .sge : (⟨S16x4096, .i32⟩ : BufTy).Contents (Elt F) → (⟨S16x4096, .i32⟩ : BufTy).Contents (Elt F) → (⟨S16x4096, .i1⟩ : BufTy).Contents (Elt F)),
    unary main_v1 main_v7 (broadcastInDim S16x4096 ![0, 1] bcast_S1x4096_S16x4096_0_1 : (⟨S1x4096, .i32⟩ : BufTy).Contents (Elt F) → (⟨S16x4096, .i32⟩ : BufTy).Contents (Elt F)),
    unary main_v3 main_v8 (broadcastInDim S16x4096 ![0, 1] bcast_S16x1_S16x4096_0_1 : (⟨S16x1, .i32⟩ : BufTy).Contents (Elt F) → (⟨S16x4096, .i32⟩ : BufTy).Contents (Elt F)),
    binary main_v7 main_v8 main_v9 (cmpi .sle : (⟨S16x4096, .i32⟩ : BufTy).Contents (Elt F) → (⟨S16x4096, .i32⟩ : BufTy).Contents (Elt F) → (⟨S16x4096, .i1⟩ : BufTy).Contents (Elt F)),
    binary main_v6 main_v9 main_v10 (andi : (⟨S16x4096, .i1⟩ : BufTy).Contents (Elt F) → (⟨S16x4096, .i1⟩ : BufTy).Contents (Elt F) → (⟨S16x4096, .i1⟩ : BufTy).Contents (Elt F)),
    unary main_v10 main_v11 (uitofp .f32 : (⟨S16x4096, .i1⟩ : BufTy).Contents (Elt F) → (⟨S16x4096, .f32⟩ : BufTy).Contents (Elt F)),
    nullary main_v12 (iotaInDim S16 32 0),
    unary main_v12 main_v13 (broadcastInDim S16x1 ![0] bcast_S16_S16x1_0 : (⟨S16, .i32⟩ : BufTy).Contents (Elt F) → (⟨S16x1, .i32⟩ : BufTy).Contents (Elt F)),
    unary main_v13 main_v14 (broadcastInDim S16x4096 ![0, 1] bcast_S16x1_S16x4096_0_1 : (⟨S16x1, .i32⟩ : BufTy).Contents (Elt F) → (⟨S16x4096, .i32⟩ : BufTy).Contents (Elt F)),
    nullary main_cst (constant S_ .f32 0x00000000#32),
    unary main_cst main_v15 (broadcastInDim S16x128x768 ![] bcast_S_S16x128x768 : (⟨S_, .f32⟩ : BufTy).Contents (Elt F) → (⟨S16x128x768, .f32⟩ : BufTy).Contents (Elt F)),
    unary main_v11 main_v16 (broadcastInDim S16x4096x1 ![0, 1] bcast_S16x4096_S16x4096x1_0_1 : (⟨S16x4096, .f32⟩ : BufTy).Contents (Elt F) → (⟨S16x4096x1, .f32⟩ : BufTy).Contents (Elt F)),
    unary main_v16 main_v17 (broadcastInDim S16x4096x768 ![0, 1, 2] bcast_S16x4096x1_S16x4096x768_0_1_2 : (⟨S16x4096x1, .f32⟩ : BufTy).Contents (Elt F) → (⟨S16x4096x768, .f32⟩ : BufTy).Contents (Elt F)),
    binary main_arg0 main_v17 main_v18 (mulf : (⟨S16x4096x768, .f32⟩ : BufTy).Contents (Elt F) → (⟨S16x4096x768, .f32⟩ : BufTy).Contents (Elt F) → (⟨S16x4096x768, .f32⟩ : BufTy).Contents (Elt F)),
    unary main_v14 main_v19 (broadcastInDim S16x4096x1 ![0, 1] bcast_S16x4096_S16x4096x1_0_1 : (⟨S16x4096, .i32⟩ : BufTy).Contents (Elt F) → (⟨S16x4096x1, .i32⟩ : BufTy).Contents (Elt F)),
    unary main_arg2 main_v20 (broadcastInDim S16x4096x1 ![0, 1] bcast_S16x4096_S16x4096x1_0_1 : (⟨S16x4096, .i32⟩ : BufTy).Contents (Elt F) → (⟨S16x4096x1, .i32⟩ : BufTy).Contents (Elt F)),
    binary main_v19 main_v20 main_v21 ((fun a b => concatenate S16x4096x2 2 [⟨S16x4096x1, a⟩, ⟨S16x4096x1, b⟩] concatenates_S16x4096x1_S16x4096x1_S16x4096x2_d2) : (⟨S16x4096x1, .i32⟩ : BufTy).Contents (Elt F) → (⟨S16x4096x1, .i32⟩ : BufTy).Contents (Elt F) → (⟨S16x4096x2, .i32⟩ : BufTy).Contents (Elt F)),
    ternary main_v15 main_v21 main_v18 main_v22 ((fun x i u => Host.scatterAdd scatter_S16x128x768_S16x4096x2_S16x4096x768_2_01_01_2 x i u) : (⟨S16x128x768, .f32⟩ : BufTy).Contents (Elt F) → (⟨S16x4096x2, .i32⟩ : BufTy).Contents (Elt F) → (⟨S16x4096x768, .f32⟩ : BufTy).Contents (Elt F) → (⟨S16x128x768, .f32⟩ : BufTy).Contents (Elt F)),
    nullary main_cst_0 (constant S_ .f32 0x00000000#32),
    unary main_cst_0 main_v23 (broadcastInDim S16x128 ![] bcast_S_S16x128 : (⟨S_, .f32⟩ : BufTy).Contents (Elt F) → (⟨S16x128, .f32⟩ : BufTy).Contents (Elt F)),
    unary main_v14 main_v24 (broadcastInDim S16x4096x1 ![0, 1] bcast_S16x4096_S16x4096x1_0_1 : (⟨S16x4096, .i32⟩ : BufTy).Contents (Elt F) → (⟨S16x4096x1, .i32⟩ : BufTy).Contents (Elt F)),
    unary main_arg2 main_v25 (broadcastInDim S16x4096x1 ![0, 1] bcast_S16x4096_S16x4096x1_0_1 : (⟨S16x4096, .i32⟩ : BufTy).Contents (Elt F) → (⟨S16x4096x1, .i32⟩ : BufTy).Contents (Elt F)),
    binary main_v24 main_v25 main_v26 ((fun a b => concatenate S16x4096x2 2 [⟨S16x4096x1, a⟩, ⟨S16x4096x1, b⟩] concatenates_S16x4096x1_S16x4096x1_S16x4096x2_d2) : (⟨S16x4096x1, .i32⟩ : BufTy).Contents (Elt F) → (⟨S16x4096x1, .i32⟩ : BufTy).Contents (Elt F) → (⟨S16x4096x2, .i32⟩ : BufTy).Contents (Elt F)),
    ternary main_v23 main_v26 main_v11 main_v27 ((fun x i u => Host.scatterAdd scatter_S16x128_S16x4096x2_S16x4096_n_01_01_2 x i u) : (⟨S16x128, .f32⟩ : BufTy).Contents (Elt F) → (⟨S16x4096x2, .i32⟩ : BufTy).Contents (Elt F) → (⟨S16x4096, .f32⟩ : BufTy).Contents (Elt F) → (⟨S16x128, .f32⟩ : BufTy).Contents (Elt F)),
    nullary main_cst_1 (constant S_ .f32 0x3F800000#32),
    unary main_cst_1 main_call0_v0 id,
    unary main_call0_v0 main_call0_v1 (broadcastInDim S16x128 ![] bcast_S_S16x128 : (⟨S_, .f32⟩ : BufTy).Contents (Elt F) → (⟨S16x128, .f32⟩ : BufTy).Contents (Elt F)),
    binary main_call0_v1 main_v27 main_v28 (maximumf : (⟨S16x128, .f32⟩ : BufTy).Contents (Elt F) → (⟨S16x128, .f32⟩ : BufTy).Contents (Elt F) → (⟨S16x128, .f32⟩ : BufTy).Contents (Elt F)),
    unary main_v28 main_v29 (broadcastInDim S16x128x1 ![0, 1] bcast_S16x128_S16x128x1_0_1 : (⟨S16x128, .f32⟩ : BufTy).Contents (Elt F) → (⟨S16x128x1, .f32⟩ : BufTy).Contents (Elt F)),
    unary main_v29 main_v30 (broadcastInDim S16x128x768 ![0, 1, 2] bcast_S16x128x1_S16x128x768_0_1_2 : (⟨S16x128x1, .f32⟩ : BufTy).Contents (Elt F) → (⟨S16x128x768, .f32⟩ : BufTy).Contents (Elt F)),
    binary main_v22 main_v30 main_v31 (Host.divf : (⟨S16x128x768, .f32⟩ : BufTy).Contents (Elt F) → (⟨S16x128x768, .f32⟩ : BufTy).Contents (Elt F) → (⟨S16x128x768, .f32⟩ : BufTy).Contents (Elt F)) ]

theorem main_eq (c : Dev nD) : main (F := F) c = seq ops := rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.Forall, nullary_bufs_sub, unary_bufs_sub, binary_bufs_sub, ternary_bufs_sub, and_self]

/-- What a run of the reference leaves. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, ∀ b : Ref sig .tc, r.2.mem ((c.tc : Thread nD τ).loc b) = after ops (fun b => m (c, b)) (b : DevRef τ sig) :=
  run_seq scopedRefs_eq scopedSems_eq defs main (fun _ => ops) main_eq (fun _ => ops_sub) m ρ

attribute [local instance] Cert.ReferenceIdeal.Gen.facts

/-- The reference keeps its arguments and has no semaphores. -/
theorem frame_any (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h =>
    ⟨fun c => ⟨(h c main_arg0).trans (arg0_eq _), (h c main_arg1).trans (arg1_eq _), (h c main_arg2).trans (arg2_eq _)⟩,
      sem_eq_zero_of_no_sems (by decide) r.2⟩) (run_main (F := Ideal) m ρ)

theorem frame_ref : Cert.quiescent_ReferenceIdeal := fun m ρ _ => frame_any m ρ

end Cert.Proof.Ref
-- ==== Proof.RefVal.lean ====
module

public import proofs.«01_k».proof.Proof.Value
public import proofs.«01_k».proof.Proof.Ref
public import Idealize.ShloMosaic.Lib.Routing.OpsPair

@[expose] public section

noncomputable section

namespace Cert.Proof.Ref

open Cert.ReferenceIdeal Cert.ReferenceIdeal.Gen
open Idealize.ShloMosaic Idealize.ShloMosaic.TcCoe Idealize.ShloMosaic.StableHlo Idealize.SL.Sem
open Idealize.ShloMosaic.ValueIdx
open Cert.Proof.Pool (zOf gOf vOf sgOf zN toks mean Fit gOf_at vOf_at zOf_start zOf_end)

/-! ## The result's term -/

section
variable {F : FTy → Type} [FloatOps F]

/-- Every token's sentence and bucket. -/
def places (a2 : IVec S16x4096 32) : IVec S16x4096x2 32 :=
  concatenate S16x4096x2 2
    [⟨S16x4096x1, broadcastInDim S16x4096x1 ![0, 1] bcast_S16x4096_S16x4096x1_0_1 (broadcastInDim S16x4096 ![0, 1] bcast_S16x1_S16x4096_0_1 (broadcastInDim S16x1 ![0] bcast_S16_S16x1_0 (iotaInDim S16 32 0)))⟩,
     ⟨S16x4096x1, broadcastInDim S16x4096x1 ![0, 1] bcast_S16x4096_S16x4096x1_0_1 a2⟩] concatenates_S16x4096x1_S16x4096x1_S16x4096x2_d2

/-- Every token's position in its row. -/
def positions : IVec S16x4096 32 :=
  broadcastInDim S16x4096 ![0, 1] bcast_S1x4096_S16x4096_0_1 (broadcastInDim S1x4096 ![1] bcast_S4096_S1x4096_1 (iotaInDim S4096 32 0))

/-- One on the spans, zero off them. -/
def mask (a1 : IVec S16x2 32) : FVec F S16x4096 .f32 :=
  uitofp .f32 (andi
    (cmpi .sge positions (broadcastInDim S16x4096 ![0, 1] bcast_S16x1_S16x4096_0_1 (extractStridedSlice S16x1 ![0, 0] a1 slices_S16x2_S16x1_0_0)))
    (cmpi .sle positions (broadcastInDim S16x4096 ![0, 1] bcast_S16x1_S16x4096_0_1 (extractStridedSlice S16x1 ![0, 1] a1 slices_S16x2_S16x1_0_1))))

/-- The words on the spans, zero off them. -/
def masked (a0 : FVec F S16x4096x768 .f32) (a1 : IVec S16x2 32) : FVec F S16x4096x768 .f32 :=
  mulf a0 (broadcastInDim S16x4096x768 ![0, 1, 2] bcast_S16x4096x1_S16x4096x768_0_1_2 (broadcastInDim S16x4096x1 ![0, 1] bcast_S16x4096_S16x4096x1_0_1 (mask a1)))

def sums (a0 : FVec F S16x4096x768 .f32) (a1 : IVec S16x2 32) (a2 : IVec S16x4096 32) : FVec F S16x128x768 .f32 :=
  Host.scatterAdd scatter_S16x128x768_S16x4096x2_S16x4096x768_2_01_01_2 (broadcastInDim S16x128x768 ![] bcast_S_S16x128x768 (constant S_ .f32 0x00000000#32)) (places a2) (masked a0 a1)

def counts (a1 : IVec S16x2 32) (a2 : IVec S16x4096 32) : FVec F S16x128 .f32 :=
  Host.scatterAdd scatter_S16x128_S16x4096x2_S16x4096_n_01_01_2 (broadcastInDim S16x128 ![] bcast_S_S16x128 (constant S_ .f32 0x00000000#32)) (places a2) (mask a1)

def result (a0 : FVec F S16x4096x768 .f32) (a1 : IVec S16x2 32) (a2 : IVec S16x4096 32) : FVec F S16x128x768 .f32 :=
  Host.divf (sums a0 a1 a2) (broadcastInDim S16x128x768 ![0, 1, 2] bcast_S16x128x1_S16x128x768_0_1_2 (broadcastInDim S16x128x1 ![0, 1] bcast_S16x128_S16x128x1_0_1
    (maximumf (broadcastInDim S16x128 ![] bcast_S_S16x128 (constant S_ .f32 0x3F800000#32)) (counts a1 a2))))

theorem result_eq (V : Valuation τ sig (Elt F)) :
    after ops V (main_v31 : DevRef τ sig) = result (V (main_arg0 : DevRef τ sig)) (V (main_arg1 : DevRef τ sig)) (V (main_arg2 : DevRef τ sig)) := by
  after_results
  rfl

end

/-! ## Its elements -/

section
variable (a0 : FVec Ideal S16x4096x768 .f32) (a1 : IVec S16x2 32) (a2 : IVec S16x4096 32)

theorem positions_at (b : Fin 16) (p : Fin 4096) : positions (ix2 b p) = BitVec.ofNat 32 p.val := by
  unfold positions
  rw [broadcastInDim_apply (s := S1x4096) (t := S16x4096) _ _ _ _ (ix2 0 p) (fun a => by match a with | ⟨0, _⟩ => rfl | ⟨1, _⟩ => rfl),
    broadcastInDim_apply (s := S4096) (t := S1x4096) _ _ _ _ (ix1 p) (fun a => by match a with | ⟨0, _⟩ => rfl)]
  rfl

theorem places_zero (b : Fin 16) (p : Fin 4096) : places a2 (ix3 b p 0) = BitVec.ofNat 32 b.val := by
  unfold places
  rw [concatenate_pair_apply_left (t := S16x4096x2) (s₁ := S16x4096x1) (s₂ := S16x4096x1) 2 _ _ _ _ rfl (ix3 b p 0)
      (fun a => by match a with | ⟨0, _⟩ => rfl | ⟨1, _⟩ => rfl | ⟨2, _⟩ => rfl),
    broadcastInDim_apply (s := S16x4096) (t := S16x4096x1) _ _ _ _ (ix2 b p) (fun a => by match a with | ⟨0, _⟩ => rfl | ⟨1, _⟩ => rfl),
    broadcastInDim_apply (s := S16x1) (t := S16x4096) _ _ _ _ (ix2 b 0) (fun a => by match a with | ⟨0, _⟩ => rfl | ⟨1, _⟩ => rfl),
    broadcastInDim_apply (s := S16) (t := S16x1) _ _ _ _ (ix1 b) (fun a => by match a with | ⟨0, _⟩ => rfl)]
  rfl

theorem places_one (b : Fin 16) (p : Fin 4096) : places a2 (ix3 b p 1) = a2 (ix2 b p) := by
  unfold places
  rw [concatenate_pair_apply_right (t := S16x4096x2) (s₁ := S16x4096x1) (s₂ := S16x4096x1) 2 _ _ _ _ rfl rfl (ix3 b p 0)
      (fun a ha => by match a with | ⟨0, _⟩ => rfl | ⟨1, _⟩ => rfl | ⟨2, _⟩ => exact absurd rfl ha) rfl,
    broadcastInDim_apply (s := S16x4096) (t := S16x4096x1) _ _ _ _ (ix2 b p) (fun a => by match a with | ⟨0, _⟩ => rfl | ⟨1, _⟩ => rfl)]

/-- A token is on its sentence's span. -/
def On (Z : Nat → BitVec 32) (b t : Nat) : Prop := zN Z b ≤ t ∧ t ≤ zN Z (16 + b)

instance (Z : Nat → BitVec 32) (b t : Nat) : Decidable (On Z b t) := inferInstanceAs (Decidable (_ ∧ _))

theorem mask_at {G : Nat → BitVec 32} (hF : Fit (zOf a1) G) (b : Fin 16) (p : Fin 4096) :
    mask (F := Ideal) a1 (ix2 b p) = if On (zOf a1) b.val p.val then (1 : EReal) else 0 := by
  have hs := (hF.z b.val (by omega)).1
  have he := (hF.z (16 + b.val) (by omega)).1
  have h1 : broadcastInDim S16x4096 ![0, 1] bcast_S16x1_S16x4096_0_1 (extractStridedSlice S16x1 ![0, 0] a1 slices_S16x2_S16x1_0_0) (ix2 b p) = zOf a1 b.val := Pool.start_at a1 b p
  have h2 : broadcastInDim S16x4096 ![0, 1] bcast_S16x1_S16x4096_0_1 (extractStridedSlice S16x1 ![0, 1] a1 slices_S16x2_S16x1_0_1) (ix2 b p) = zOf a1 (16 + b.val) := Pool.end_at a1 b p
  have hi : IntOp.andi (IntOp.cmpi .sge (BitVec.ofNat 32 p.val) (zOf a1 b.val)) (IntOp.cmpi .sle (BitVec.ofNat 32 p.val) (zOf a1 (16 + b.val))) = 1#1 ↔ On (zOf a1) b.val p.val := by
    rw [Pool.bit_and, Pool.bit_sge, Pool.bit_sle, Pool.pos_toInt]
    unfold On zN
    omega
  have key : ∀ (x : BitVec 1) (P : Prop) [Decidable P], (x = 1#1 ↔ P) → (((x.toNat : ℝ)) : EReal) = if P then (1 : EReal) else 0 := by
    intro x P _ h
    by_cases hp : P
    · rw [if_pos hp, h.2 hp]; simp
    · rw [if_neg hp]
      have hx : x = 0#1 := by
        exact BitVec.eq_of_toNat_eq (by
          have h1 : x.toNat ≠ 1 := fun e => hp (h.1 (BitVec.eq_of_toNat_eq e))
          have h2 : x.toNat < 2 := x.isLt
          show x.toNat = 0
          omega)
      rw [hx]; simp
  unfold mask
  show (((IntOp.andi (IntOp.cmpi .sge (positions (ix2 b p)) _) (IntOp.cmpi .sle (positions (ix2 b p)) _)).toNat : ℝ) : EReal) = _
  rw [positions_at, h1, h2]
  exact key _ _ hi

theorem masked_at {G : Nat → BitVec 32} (hF : Fit (zOf a1) G) (b : Fin 16) (p : Fin 4096) (c : Fin 768) :
    masked a0 a1 (ix3 b p c) = if On (zOf a1) b.val p.val then (a0 (ix3 b p c) : EReal) else 0 := by
  have e : broadcastInDim S16x4096x768 ![0, 1, 2] bcast_S16x4096x1_S16x4096x768_0_1_2 (broadcastInDim S16x4096x1 ![0, 1] bcast_S16x4096_S16x4096x1_0_1 (mask (F := Ideal) a1)) (ix3 b p c)
      = mask (F := Ideal) a1 (ix2 b p) := by
    rw [broadcastInDim_apply (s := S16x4096x1) (t := S16x4096x768) _ _ _ _ (ix3 b p 0) (fun a => by match a with | ⟨0, _⟩ => rfl | ⟨1, _⟩ => rfl | ⟨2, _⟩ => rfl),
      broadcastInDim_apply (s := S16x4096) (t := S16x4096x1) _ _ _ _ (ix2 b p) (fun a => by match a with | ⟨0, _⟩ => rfl | ⟨1, _⟩ => rfl)]
  unfold masked
  show (a0 (ix3 b p c) : EReal) * _ = _
  rw [e, mask_at a1 hF]
  split
  · exact mul_one _
  · exact mul_zero _

/-- Where a token's row goes. -/
theorem lands_row (idx : IVec S16x4096x2 32) (b' : Fin 16) (p : Fin 4096) (c' : Fin 768) (b : Fin 16) (k : Fin 128) (c : Fin 768) :
    scatter_S16x128x768_S16x4096x2_S16x4096x768_2_01_01_2.resultIdx? (ix3 b' p c') idx = some (ix3 b k c)
      ↔ (idx (ix3 b' p 0)).toInt = b.val ∧ (idx (ix3 b' p 1)).toInt = k.val ∧ c' = c := by
  have hw : ∀ q : Fin 3, (scatter_S16x128x768_S16x4096x2_S16x4096x768_2_01_01_2.window (ix3 b' p c') q) = if q = 2 then c'.val else 0 := fun q => by
    fin_cases q <;> rfl
  have hs : ∀ q : Fin 3, scatter_S16x128x768_S16x4096x2_S16x4096x768_2_01_01_2.start (ix3 b' p c') idx q
      = if q = 0 then (idx (ix3 b' p 0)).toInt else if q = 1 then (idx (ix3 b' p 1)).toInt else 0 := fun q => by
    have hsi : ∀ (n : Nat) (h : n < 2), scatter_S16x128x768_S16x4096x2_S16x4096x768_2_01_01_2.siIdx (ix3 b' p c') ⟨n, h⟩ = ix3 b' p ⟨n, h⟩ := fun n h => by
      funext a
      match a with
      | ⟨0, _⟩ => rfl
      | ⟨1, _⟩ => rfl
      | ⟨2, _⟩ => rfl
    unfold ScatterDims.start
    fin_cases q
    · exact congrArg (fun y => (idx y).toInt) (hsi 0 (by decide))
    · exact congrArg (fun y => (idx y).toInt) (hsi 1 (by decide))
    · rfl
  rw [Routing.resultIdx?_eq_some, Fin.ext_iff]
  constructor
  · intro h
    have h0 := h 0
    have h1 := h 1
    have h2 := h 2
    rw [hs, hw] at h0 h1 h2
    refine ⟨?_, ?_, ?_⟩
    · have : (idx (ix3 b' p 0)).toInt + ((0 : Nat) : Int) = b.val := h0
      omega
    · have : (idx (ix3 b' p 1)).toInt + ((0 : Nat) : Int) = k.val := h1
      omega
    · have : (0 : Int) + ((c'.val : Nat) : Int) = c.val := h2
      omega
  · rintro ⟨h0, h1, h2⟩ a
    rw [hs, hw]
    match a with
    | ⟨0, _⟩ => show (idx (ix3 b' p 0)).toInt + ((0 : Nat) : Int) = b.val; omega
    | ⟨1, _⟩ => show (idx (ix3 b' p 1)).toInt + ((0 : Nat) : Int) = k.val; omega
    | ⟨2, _⟩ => show (0 : Int) + ((c'.val : Nat) : Int) = c.val; omega

theorem toks_sum (Z : Nat → BitVec 32) (b : Fin 16) (k : Nat) (f : Nat → EReal) :
    ∑ t ∈ toks Z (gOf a2) b.val k, f t = ∑ p ∈ Finset.univ.filter (fun p : Fin 4096 => (a2 (ix2 b p)).toInt = (k : Int)), if On Z b.val p.val then f p.val else 0 := by
  unfold toks
  rw [Finset.sum_filter, Finset.sum_filter]
  refine (Finset.sum_range (n := 4096) _).trans (Finset.sum_congr rfl fun p _ => ?_)
  have e : sgOf (gOf a2) b.val p.val = (a2 (ix2 b p)).toInt := congrArg BitVec.toInt (gOf_at a2 b p)
  by_cases h1 : (a2 (ix2 b p)).toInt = (k : Int)
  · rw [if_pos h1]
    by_cases h2 : On Z b.val p.val
    · rw [if_pos h2, if_pos ⟨h2.1, h2.2, e.trans h1⟩]
    · rw [if_neg h2, if_neg fun h => h2 ⟨h.1, h.2.1⟩]
  · rw [if_neg h1, if_neg fun h => h1 (e.symm.trans h.2.2)]

theorem lane_iff (b' b : Fin 16) : (BitVec.ofNat 32 b'.val).toInt = (b.val : Int) ↔ b' = b := by
  rw [Fin.ext_iff, Pool.ofNat_i _ (by omega)]
  omega

theorem sums_at {G : Nat → BitVec 32} (hF : Fit (zOf a1) G) (b : Fin 16) (k : Fin 128) (c : Fin 768) :
    sums a0 a1 a2 (ix3 b k c) = ∑ t ∈ toks (zOf a1) (gOf a2) b.val k.val, vOf (α := EReal) a0 b.val t c.val := by
  have h0 : (broadcastInDim S16x128x768 ![] bcast_S_S16x128x768 (constant (F := Ideal) S_ .f32 0x00000000#32)) (ix3 b k c) = (0 : EReal) :=
    (broadcastInDim_scalar_apply _ _ _).trans Ideal.ofBits_zero_f32
  show (_ : EReal) + ∑ j ∈ Finset.univ.filter (fun j => scatter_S16x128x768_S16x4096x2_S16x4096x768_2_01_01_2.resultIdx? j (places a2) = some (ix3 b k c)), masked a0 a1 j = _
  rw [h0, zero_add, toks_sum a2]
  have hl (b' : Fin 16) (p : Fin 4096) (c' : Fin 768) := lands_row (places a2) b' p c' b k c
  simp only [places_zero, places_one, lane_iff] at hl
  refine Finset.sum_nbij' (fun j => j 1) (fun p => ix3 b p c) ?_ ?_ ?_ ?_ ?_
  · intro j hj
    obtain ⟨b', p, c', rfl⟩ : ∃ (b' : Fin 16) (p : Fin 4096) (c' : Fin 768), j = ix3 b' p c' := ⟨j 0, j 1, j 2, eq_ix3 j⟩
    have hj := (Finset.mem_filter.1 hj).2
    obtain ⟨e1, e2, e3⟩ := (hl b' p c').1 hj
    subst e1 e3
    exact Finset.mem_filter.2 ⟨Finset.mem_univ _, e2⟩
  · intro p hp
    exact Finset.mem_filter.2 ⟨Finset.mem_univ _, (hl b p c).2 ⟨rfl, (Finset.mem_filter.1 hp).2, rfl⟩⟩
  · intro j hj
    obtain ⟨b', p, c', rfl⟩ : ∃ (b' : Fin 16) (p : Fin 4096) (c' : Fin 768), j = ix3 b' p c' := ⟨j 0, j 1, j 2, eq_ix3 j⟩
    have hj := (Finset.mem_filter.1 hj).2
    obtain ⟨e1, e2, e3⟩ := (hl b' p c').1 hj
    subst e1 e3
    rfl
  · intro p hp
    rfl
  · intro j hj
    obtain ⟨b', p, c', rfl⟩ : ∃ (b' : Fin 16) (p : Fin 4096) (c' : Fin 768), j = ix3 b' p c' := ⟨j 0, j 1, j 2, eq_ix3 j⟩
    have hj := (Finset.mem_filter.1 hj).2
    obtain ⟨e1, e2, e3⟩ := (hl b' p c').1 hj
    subst e1 e3
    show masked a0 a1 (ix3 b' p c') = if On (zOf a1) b'.val p.val then vOf (α := EReal) a0 b'.val p.val c'.val else 0
    rw [masked_at a0 a1 hF]
    exact congrArg (fun x : EReal => if On (zOf a1) b'.val p.val then x else 0) (vOf_at (α := EReal) a0 b' p c').symm

theorem counts_at {G : Nat → BitVec 32} (hF : Fit (zOf a1) G) (b : Fin 16) (k : Fin 128) :
    counts (F := Ideal) a1 a2 (ix2 b k) = ((((toks (zOf a1) (gOf a2) b.val k.val).card : ℕ) : ℝ) : EReal) := by
  have h0 : (broadcastInDim S16x128 ![] bcast_S_S16x128 (constant (F := Ideal) S_ .f32 0x00000000#32)) (ix2 b k) = (0 : EReal) :=
    (broadcastInDim_scalar_apply _ _ _).trans Ideal.ofBits_zero_f32
  have hc : ((((toks (zOf a1) (gOf a2) b.val k.val).card : ℕ) : ℝ) : EReal) = ∑ t ∈ toks (zOf a1) (gOf a2) b.val k.val, (1 : EReal) := by
    rw [Finset.sum_const, nsmul_one]
    exact EReal.coe_coe_eq_natCast _
  show (_ : EReal) + ∑ j ∈ Finset.univ.filter (fun j => scatter_S16x128_S16x4096x2_S16x4096_n_01_01_2.resultIdx? j (places a2) = some (ix2 b k)), mask (F := Ideal) a1 j = _
  rw [h0, zero_add, hc, toks_sum a2]
  have hl (b' : Fin 16) (p : Fin 4096) := Routing.scatter_lands2 (R := 16) (C := 128) (A := 16) (B := 4096) scatter_S16x128_S16x4096x2_S16x4096_n_01_01_2 rfl rfl rfl (places a2) b' p b k
  simp only [places_zero, places_one, lane_iff] at hl
  refine Finset.sum_nbij' (fun j => j 1) (fun p => ix2 b p) ?_ ?_ ?_ ?_ ?_
  · intro j hj
    obtain ⟨b', p, rfl⟩ : ∃ (b' : Fin 16) (p : Fin 4096), j = ix2 b' p := ⟨j 0, j 1, eq_ix2 j⟩
    have hj := (Finset.mem_filter.1 hj).2
    obtain ⟨e1, e2⟩ := (hl b' p).1 hj
    subst e1
    exact Finset.mem_filter.2 ⟨Finset.mem_univ _, e2⟩
  · intro p hp
    exact Finset.mem_filter.2 ⟨Finset.mem_univ _, (hl b p).2 ⟨rfl, (Finset.mem_filter.1 hp).2⟩⟩
  · intro j hj
    obtain ⟨b', p, rfl⟩ : ∃ (b' : Fin 16) (p : Fin 4096), j = ix2 b' p := ⟨j 0, j 1, eq_ix2 j⟩
    have hj := (Finset.mem_filter.1 hj).2
    obtain ⟨e1, e2⟩ := (hl b' p).1 hj
    subst e1
    rfl
  · intro p hp
    rfl
  · intro j hj
    obtain ⟨b', p, rfl⟩ : ∃ (b' : Fin 16) (p : Fin 4096), j = ix2 b' p := ⟨j 0, j 1, eq_ix2 j⟩
    have hj := (Finset.mem_filter.1 hj).2
    obtain ⟨e1, e2⟩ := (hl b' p).1 hj
    subst e1
    exact mask_at a1 hF b' p

/-- The reference's result is the buckets' means. -/
theorem result_at {G : Nat → BitVec 32} (hF : Fit (zOf a1) G) (b : Fin 16) (k : Fin 128) (c : Fin 768) :
    result a0 a1 a2 (ix3 b k c) = mean (vOf (α := EReal) a0) (zOf a1) (gOf a2) b.val k.val c.val := by
  have e : broadcastInDim S16x128x768 ![0, 1, 2] bcast_S16x128x1_S16x128x768_0_1_2 (broadcastInDim S16x128x1 ![0, 1] bcast_S16x128_S16x128x1_0_1
      (maximumf (broadcastInDim S16x128 ![] bcast_S_S16x128 (constant (F := Ideal) S_ .f32 0x3F800000#32)) (counts (F := Ideal) a1 a2))) (ix3 b k c)
      = max (1 : EReal) ((((toks (zOf a1) (gOf a2) b.val k.val).card : ℕ) : ℝ) : EReal) := by
    rw [broadcastInDim_apply (s := S16x128x1) (t := S16x128x768) _ _ _ _ (ix3 b k 0) (fun a => by match a with | ⟨0, _⟩ => rfl | ⟨1, _⟩ => rfl | ⟨2, _⟩ => rfl),
      broadcastInDim_apply (s := S16x128) (t := S16x128x1) _ _ _ _ (ix2 b k) (fun a => by match a with | ⟨0, _⟩ => rfl | ⟨1, _⟩ => rfl)]
    show max (_ : EReal) (counts (F := Ideal) a1 a2 (ix2 b k)) = _
    rw [counts_at a1 a2 hF]
    exact congrArg (fun x : EReal => max x _) ((broadcastInDim_scalar_apply _ _ _).trans Ideal.ofBits_one_f32)
  unfold result mean
  rw [hostDivf_apply, e, sums_at a0 a1 a2 hF]

end

end Cert.Proof.Ref
-- ==== Proof.Algebraic.lean ====
module

public import proofs.«01_k».proof.Proof.RefVal
public import proofs.«01_k».proof.Proof.Frame
public import proofs.«01_k».proof.Defs

@[expose] public section

noncomputable section

namespace Cert.Proof.Pool

open Cert.KernelIdeal Cert.KernelIdeal.Gen
open Idealize.ShloMosaic Idealize.ShloMosaic.TcCoe Idealize.ShloMosaic.ValueIdx Idealize.SL.Sem
open Idealize.ShloMosaic.StableHlo (after)

attribute [local instance] rangeFacts orderFacts

local notation "oW" => (Memref.whole Cert.KernelIdeal.main_v5_scv : Memref Cert.KernelIdeal.sig Kind.scVector Space.hbm Cert.KernelIdeal.S1572864 EltTy.f32)

/-- Where a block's word lies in the flat result. -/
theorem blk_word (w : Fin 32) (b : Fin 16) (y : S3072.Idx) (i : S1572864.Idx) (h : (i 0).val = (b.val * 128 + 4 * w.val) * 768 + (y 0).val) :
    (blkM oW w.isLt b.val).view.emb y = i := by
  funext a
  fin_cases a
  refine Fin.ext ?_
  refine (unit_emb_val (s := S1572864) (blkOff (b.val % 16) w.val) S3072.size (blk_inb (mod16 b.val) w.isLt) y 0).trans ?_
  have e : blkOff (b.val % 16) w.val 0 = (b.val % 16 * 128 + 4 * w.val) * 768 := rfl
  have hb : b.val % 16 = b.val := Nat.mod_eq_of_lt b.isLt
  show _ = (i 0).val
  omega

/-- The means of every bucket of every sentence. -/
def means (V : Nat → Nat → Nat → EReal) (Z G : Nat → BitVec 32) : S16x128x768.Idx → EReal := fun j => mean V Z G (j 0).val (j 1).val (j 2).val

/-- A flat result whose blocks are good holds the means. -/
theorem flat_means (V : Dev nD → Nat → Nat → Nat → EReal) (Z G : Dev nD → Nat → BitVec 32) (d : Dev nD) (f : S1572864.Idx → EReal)
    (hF : Fit (Z d) (G d)) (hO : Ordered (Z d) (G d)) (h : AllGood (F := Ideal) V Z G d f) :
    shapeCast S16x128x768 f shapeCasts_S1572864_S16x128x768 = means (V d) (Z d) (G d) := by
  funext j
  obtain ⟨b, k, c, rfl⟩ : ∃ (b : Fin 16) (k : Fin 128) (c : Fin 768), j = ix3 b k c := ⟨j 0, j 1, j 2, eq_ix3 j⟩
  have hb := b.isLt
  have hk := k.isLt
  have hc := c.isLt
  rw [shapeCast_apply (s := S1572864) (t := S16x128x768) _ _ _ (ix1 ⟨(b.val * 128 + k.val) * 768 + c.val, by omega⟩)
    (by rw [Shape.rowMajor_val_one, Shape.rowMajor_val_three]; rfl)]
  obtain ⟨X, hX, hy⟩ := h ⟨k.val / 4, by omega⟩ b.val (Finset.mem_range.2 hb)
  have e := hy (ix1 ⟨768 * (k.val % 4) + c.val, by omega⟩)
  have e' := congrArg f (blk_word ⟨k.val / 4, by omega⟩ b (ix1 ⟨768 * (k.val % 4) + c.val, by omega⟩) (ix1 ⟨(b.val * 128 + k.val) * 768 + c.val, by omega⟩)
    (by show (b.val * 128 + k.val) * 768 + c.val = (b.val * 128 + 4 * (k.val / 4)) * 768 + (768 * (k.val % 4) + c.val); omega))
  refine e'.symm.trans (e.trans ((good_at hF hO hX hb (Nat.mod_lt _ (by decide)) hc).trans ?_))
  show mean (V d) (Z d) (G d) b.val (4 * (k.val / 4) + k.val % 4) c.val = mean (V d) (Z d) (G d) b.val k.val c.val
  rw [Nat.div_add_mod]

/-- The reference's result, whole. -/
theorem ref_means (a0 : FVec Ideal S16x4096x768 .f32) (a1 : IVec S16x2 32) (a2 : IVec S16x4096 32) (hF : Fit (zOf a1) (gOf a2)) :
    Ref.result a0 a1 a2 = means (vOf a0) (zOf a1) (gOf a2) := by
  funext j
  obtain ⟨b, k, c, rfl⟩ : ∃ (b : Fin 16) (k : Fin 128) (c : Fin 768), j = ix3 b k c := ⟨j 0, j 1, j 2, eq_ix3 j⟩
  exact Ref.result_at a0 a1 a2 hF b k c

theorem frame_ref_order : @Cert.quiescent_ReferenceIdeal_pre_in_order Cert.ReferenceIdeal.Gen.facts orderFacts := fun m ρ _ => Ref.frame_any m ρ

theorem algebraic : @Cert.algebraic_KernelIdeal_ReferenceIdeal_pre_in_order Cert.KernelIdeal.Gen.facts Cert.ReferenceIdeal.Gen.facts orderFacts := by
  intro m g m' g' hpre harg
  have hr : InRange m := fun d => range_of_order _ _ _ (hpre d)
  refine ⟨fun c => means (Vm m c) (Zm m c) (Gm m c), ?_, ?_⟩
  · refine (θ_run _ _ _).mono (fun r h d => ?_) (run_range m g hr)
    obtain ⟨f, hf, he⟩ := h.1 d
    exact ⟨(he (dv main_v6) (by decide)).trans ((end_v6 m d f).trans
      (flat_means (Vm m) (Zm m) (Gm m) d f (fit_of_range _ _ _ (hr d)) (ordered _ _ _ (hpre d)) hf)), kept_of_end m r d f he⟩
  · refine (θ_run _ _ _).mono (fun r h d => ?_) (Ref.run_main (F := Ideal) m' g')
    refine ⟨(h d Cert.ReferenceIdeal.main_v31).trans ((Ref.result_eq _).trans ?_),
      (h d Cert.ReferenceIdeal.main_arg0).trans (Ref.arg0_eq _), (h d Cert.ReferenceIdeal.main_arg1).trans (Ref.arg1_eq _), (h d Cert.ReferenceIdeal.main_arg2).trans (Ref.arg2_eq _)⟩
    obtain ⟨h0, h1, h2⟩ := harg d
    refine Eq.trans ?_ (ref_means (m (d.tc.loc main_arg0)) (m (d.tc.loc main_arg1)) (m (d.tc.loc main_arg2)) (fit_of_range _ _ _ (hr d)))
    exact (congrArg (fun x => Ref.result x _ _) h0).trans ((congrArg (fun x => Ref.result _ x _) h1).trans (congrArg (fun x => Ref.result _ _ x) h2))

end Cert.Proof.Pool
-- ==== Proof.lean ====
/- The claims about the segment mean-pool kernel: the frames of the kernel as printed and as idealized, and of the
   reference; that the idealized kernel is the kernel's own text; that it and the reference have the same result.
   The kernel's run is Proof/Tile.lean (one tile's task), Proof/Main.lean (the launch and @main) and Proof/Frame.lean,
   its result's value Proof/Value.lean; the reference's are Proof/Ref.lean and Proof/RefVal.lean; the equation is
   Proof/Algebraic.lean. -/
module

public import proofs.«01_k».proof.Defs
public import proofs.«01_k».proof.Proof.Frames
public import proofs.«01_k».proof.Proof.Algebraic
public import proofs.«01_k».proof.Proof.Ref

@[expose] public section

noncomputable section

namespace Cert.Proof

open Pool Ref

theorem claim : Cert.Claim :=
  ⟨Cert.Kernel.Gen.facts, Cert.KernelIdeal.Gen.facts, Cert.ReferenceIdeal.Gen.facts, rangeFacts, orderFacts,
    frame_bits, frame_ideal, frame_ideal_order, frame_ref, frame_ref_order, trivial, algebraic⟩

end Cert.Proof

end
